-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_inputs [hPre_finite_inputs : Cert.Pre_finite_inputs.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_inputs.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_inputs [hPre_finite_inputs : Cert.Pre_finite_inputs.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_inputs.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite_inputs [hKernel4Ideal : Cert.Kernel4Ideal.Facts] [hPre_finite_inputs : Cert.Pre_finite_inputs.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_inputs m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite_inputs [hReference4Ideal : Cert.Reference4Ideal.Facts] [hPre_finite_inputs : Cert.Pre_finite_inputs.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_inputs m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  IdealRules.named_const.Statement Cert.Kernel2Ideal.κ "mask" .f32 0xF149F2CA#32 ⊥

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)) (v2 : (c : Dev Cert.Kernel2Ideal.nD) → Buf (Elt Ideal) ((c.tc : Thread Cert.Kernel2Ideal.nD Cert.Kernel2Ideal.τ).loc Cert.Kernel2Ideal.main_v6_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_v6_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v259) = v0 c
          ∧ r.2.mem ((c.tc : Thread Cert.Reference2Ideal.nD Cert.Reference2Ideal.τ).loc Cert.Reference2Ideal.main_v261) = v1 c
          ∧ r.2.mem ((c.tc : Thread Cert.Reference2Ideal.nD Cert.Reference2Ideal.τ).loc Cert.Reference2Ideal.main_v263) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_v25) = v1 c
          ∧ r.2.mem ((c.tc : Thread Cert.Reference3Ideal.nD Cert.Reference3Ideal.τ).loc Cert.Reference3Ideal.main_v26) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  IdealRules.named_const.Statement Cert.Kernel4Ideal.κ "mask" .f32 0xF149F2CA#32 ⊥

def algebraic_Kernel4Ideal_Reference4Ideal_pre_finite_inputs [hKernel4Ideal : Cert.Kernel4Ideal.Facts] [hReference4Ideal : Cert.Reference4Ideal.Facts] [hPre_finite_inputs : Cert.Pre_finite_inputs.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_inputs m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v154) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)) (v2 : (c : Dev Cert.Kernel5Ideal.nD) → Buf (Elt Ideal) ((c.tc : Thread Cert.Kernel5Ideal.nD Cert.Kernel5Ideal.τ).loc Cert.Kernel5Ideal.main_v10_2)) (v3 : (c : Dev Cert.Kernel5Ideal.nD) → Buf (Elt Ideal) ((c.tc : Thread Cert.Kernel5Ideal.nD Cert.Kernel5Ideal.τ).loc Cert.Kernel5Ideal.main_v10_3)) (v4 : (c : Dev Cert.Kernel5Ideal.nD) → Buf (Elt Ideal) ((c.tc : Thread Cert.Kernel5Ideal.nD Cert.Kernel5Ideal.τ).loc Cert.Kernel5Ideal.main_v10_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_v10_2) = v2 c
          ∧ r.2.mem ((c.tc : Thread Cert.Kernel5Ideal.nD Cert.Kernel5Ideal.τ).loc Cert.Kernel5Ideal.main_v10_3) = v3 c
          ∧ r.2.mem ((c.tc : Thread Cert.Kernel5Ideal.nD Cert.Kernel5Ideal.τ).loc Cert.Kernel5Ideal.main_v10_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v60) = v0 c
          ∧ r.2.mem ((c.tc : Thread Cert.Reference5Ideal.nD Cert.Reference5Ideal.τ).loc Cert.Reference5Ideal.main_v61) = v1 c
          ∧ r.2.mem ((c.tc : Thread Cert.Reference5Ideal.nD Cert.Reference5Ideal.τ).loc Cert.Reference5Ideal.main_v38) = v2 c
          ∧ r.2.mem ((c.tc : Thread Cert.Reference5Ideal.nD Cert.Reference5Ideal.τ).loc Cert.Reference5Ideal.main_v63) = v3 c
          ∧ r.2.mem ((c.tc : Thread Cert.Reference5Ideal.nD Cert.Reference5Ideal.τ).loc Cert.Reference5Ideal.main_v59) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v30_0)) (v1 : (c : Dev Cert.Kernel6Ideal.nD) → Buf (Elt Ideal) ((c.tc : Thread Cert.Kernel6Ideal.nD Cert.Kernel6Ideal.τ).loc Cert.Kernel6Ideal.main_v30_1)) (v2 : (c : Dev Cert.Kernel6Ideal.nD) → Buf (Elt Ideal) ((c.tc : Thread Cert.Kernel6Ideal.nD Cert.Kernel6Ideal.τ).loc Cert.Kernel6Ideal.main_v30_2)) (v3 : (c : Dev Cert.Kernel6Ideal.nD) → Buf (Elt Ideal) ((c.tc : Thread Cert.Kernel6Ideal.nD Cert.Kernel6Ideal.τ).loc Cert.Kernel6Ideal.main_v30_3)) (v4 : (c : Dev Cert.Kernel6Ideal.nD) → Buf (Elt Ideal) ((c.tc : Thread Cert.Kernel6Ideal.nD Cert.Kernel6Ideal.τ).loc Cert.Kernel6Ideal.main_v30_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v30_0) = v0 c
          ∧ r.2.mem ((c.tc : Thread Cert.Kernel6Ideal.nD Cert.Kernel6Ideal.τ).loc Cert.Kernel6Ideal.main_v30_1) = v1 c
          ∧ r.2.mem ((c.tc : Thread Cert.Kernel6Ideal.nD Cert.Kernel6Ideal.τ).loc Cert.Kernel6Ideal.main_v30_2) = v2 c
          ∧ r.2.mem ((c.tc : Thread Cert.Kernel6Ideal.nD Cert.Kernel6Ideal.τ).loc Cert.Kernel6Ideal.main_v30_3) = v3 c
          ∧ r.2.mem ((c.tc : Thread Cert.Kernel6Ideal.nD Cert.Kernel6Ideal.τ).loc Cert.Kernel6Ideal.main_v30_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v92) = v0 c
          ∧ r.2.mem ((c.tc : Thread Cert.Reference6Ideal.nD Cert.Reference6Ideal.τ).loc Cert.Reference6Ideal.main_v85) = v1 c
          ∧ r.2.mem ((c.tc : Thread Cert.Reference6Ideal.nD Cert.Reference6Ideal.τ).loc Cert.Reference6Ideal.main_v154) = v2 c
          ∧ r.2.mem ((c.tc : Thread Cert.Reference6Ideal.nD Cert.Reference6Ideal.τ).loc Cert.Reference6Ideal.main_v155) = v3 c
          ∧ r.2.mem ((c.tc : Thread Cert.Reference6Ideal.nD Cert.Reference6Ideal.τ).loc Cert.Reference6Ideal.main_v156) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v30_0)) (v1 : (c : Dev Cert.Kernel7Ideal.nD) → Buf (Elt Ideal) ((c.tc : Thread Cert.Kernel7Ideal.nD Cert.Kernel7Ideal.τ).loc Cert.Kernel7Ideal.main_v30_1)) (v2 : (c : Dev Cert.Kernel7Ideal.nD) → Buf (Elt Ideal) ((c.tc : Thread Cert.Kernel7Ideal.nD Cert.Kernel7Ideal.τ).loc Cert.Kernel7Ideal.main_v30_2)) (v3 : (c : Dev Cert.Kernel7Ideal.nD) → Buf (Elt Ideal) ((c.tc : Thread Cert.Kernel7Ideal.nD Cert.Kernel7Ideal.τ).loc Cert.Kernel7Ideal.main_v30_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v30_0) = v0 c
          ∧ r.2.mem ((c.tc : Thread Cert.Kernel7Ideal.nD Cert.Kernel7Ideal.τ).loc Cert.Kernel7Ideal.main_v30_1) = v1 c
          ∧ r.2.mem ((c.tc : Thread Cert.Kernel7Ideal.nD Cert.Kernel7Ideal.τ).loc Cert.Kernel7Ideal.main_v30_2) = v2 c
          ∧ r.2.mem ((c.tc : Thread Cert.Kernel7Ideal.nD Cert.Kernel7Ideal.τ).loc Cert.Kernel7Ideal.main_v30_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v49) = v0 c
          ∧ r.2.mem ((c.tc : Thread Cert.Reference7Ideal.nD Cert.Reference7Ideal.τ).loc Cert.Reference7Ideal.main_v50) = v1 c
          ∧ r.2.mem ((c.tc : Thread Cert.Reference7Ideal.nD Cert.Reference7Ideal.τ).loc Cert.Reference7Ideal.main_v61) = v2 c
          ∧ r.2.mem ((c.tc : Thread Cert.Reference7Ideal.nD Cert.Reference7Ideal.τ).loc Cert.Reference7Ideal.main_v62) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite_inputs : Cert.Pre_finite_inputs.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_inputs (hKernel4Ideal := hKernel4Ideal) (hPre_finite_inputs := hPre_finite_inputs)
    ∧ quiescent_Reference4Ideal (hReference4Ideal := hReference4Ideal)
    ∧ quiescent_Reference4Ideal_pre_finite_inputs (hReference4Ideal := hReference4Ideal) (hPre_finite_inputs := hPre_finite_inputs)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_inputs (hKernel4Ideal := hKernel4Ideal) (hReference4Ideal := hReference4Ideal) (hPre_finite_inputs := hPre_finite_inputs)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S4096x512 : Shape := ⟨2, ![4096, 512]⟩
abbrev S4096x128 : Shape := ⟨2, ![4096, 128]⟩
abbrev S1x32x8 : Shape := ⟨3, ![1, 32, 8]⟩
abbrev S1x8 : Shape := ⟨2, ![1, 8]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S1x32x8 : S_.BroadcastsInDim S1x32x8 (![] : Fin 0 → Fin S1x32x8.rank)
  reducesTo_S1x32x8_S_d0_1_2 : S1x32x8.ReducesTo [0, 1, 2] S_
  bcast_S_S1x8 : S_.BroadcastsInDim S1x8 (![] : Fin 0 → Fin S1x8.rank)
  reducesTo_S1x8_S_d0_1 : S1x8.ReducesTo [0, 1] S_

variable [Facts]

def fn_part1 {F : FTy → Type} [FloatOps F] (main_arg4 : FVec F S1x32x8 .f32) (main_arg5 : FVec F S1x8 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S1x32x8 .f32 := Host.absf main_arg4
  let main_cst_6 : FVec F S_ .f32 := constant S_ .f32 0x7F800000#32
  let main_v20 : FVec F S1x32x8 .f32 := broadcastInDim S1x32x8 ![] bcast_S_S1x32x8 main_cst_6
  let main_v21 : IVec S1x32x8 1 := cmpf .olt main_v19 main_v20
  let main_c_7 : IVec S_ 1 := constantI S_ 1 1#1
  let main_v22 : IVec S_ 1 := (fun x v => Host.reduce IntOp.andi x v reducesTo_S1x32x8_S_d0_1_2 h_S_) main_v21 main_c_7
  let main_v23 : IVec S_ 1 := andi main_v18 main_v22
  let main_v24 : FVec F S1x8 .f32 := Host.absf main_arg5
  let main_cst_8 : FVec F S_ .f32 := constant S_ .f32 0x7F800000#32
  let main_v25 : FVec F S1x8 .f32 := broadcastInDim S1x8 ![] bcast_S_S1x8 main_cst_8
  let main_v26 : IVec S1x8 1 := cmpf .olt main_v24 main_v25
  let main_c_9 : IVec S_ 1 := constantI S_ 1 1#1
  let main_v27 : IVec S_ 1 := (fun x v => Host.reduce IntOp.andi x v reducesTo_S1x8_S_d0_1 h_S_) main_v26 main_c_9
  let main_v28 : IVec S_ 1 := andi main_v23 main_v27
  main_v28

def fn {F : FTy → Type} [FloatOps F] (main_arg0 : FVec F S4096x512 .f32) (main_arg1 : FVec F S4096x128 .f32) (main_arg2 : FVec F S4096x128 .f32) (main_arg3 : FVec F S4096x512 .f32) (main_arg4 : FVec F S1x32x8 .f32) (main_arg5 : FVec F S1x8 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_arg5 main_v13 main_v16
-- ==== Pre_finite_inputs.lean ====
abbrev S4096x512 : Shape := ⟨2, ![4096, 512]⟩
abbrev S4096x128 : Shape := ⟨2, ![4096, 128]⟩
abbrev S1x32x8 : Shape := ⟨3, ![1, 32, 8]⟩
abbrev S1x8 : Shape := ⟨2, ![1, 8]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S1x32x8 : S_.BroadcastsInDim S1x32x8 (![] : Fin 0 → Fin S1x32x8.rank)
  reducesTo_S1x32x8_S_d0_1_2 : S1x32x8.ReducesTo [0, 1, 2] S_
  bcast_S_S1x8 : S_.BroadcastsInDim S1x8 (![] : Fin 0 → Fin S1x8.rank)
  reducesTo_S1x8_S_d0_1 : S1x8.ReducesTo [0, 1] S_

variable [Facts]

def fn_part1 {F : FTy → Type} [FloatOps F] (main_v13 : IVec S_ 1) (main_v16 : IVec S1x8 1) : IVec S_ 1 :=
  let main_c_5 : IVec S_ 1 := constantI S_ 1 1#1
  let main_v17 : IVec S_ 1 := (fun x v => Host.reduce IntOp.andi x v reducesTo_S1x8_S_d0_1 h_S_) main_v16 main_c_5
  let main_v18 : IVec S_ 1 := andi main_v13 main_v17
  main_v18

def fn {F : FTy → Type} [FloatOps F] (main_arg0 : FVec F S4096x512 .f32) (main_arg1 : FVec F S4096x128 .f32) (main_arg2 : FVec F S4096x128 .f32) (main_arg3 : FVec F S1x32x8 .f32) (main_arg4 : FVec F S1x8 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S1x32x8 .f32 := Host.absf main_arg3
  let main_cst_2 : FVec F S_ .f32 := constant S_ .f32 0x7F800000#32
  let main_v10 : FVec F S1x32x8 .f32 := broadcastInDim S1x32x8 ![] bcast_S_S1x32x8 main_cst_2
  let main_v11 : IVec S1x32x8 1 := cmpf .olt main_v9 main_v10
  let main_c_3 : IVec S_ 1 := constantI S_ 1 1#1
  let main_v12 : IVec S_ 1 := (fun x v => Host.reduce IntOp.andi x v reducesTo_S1x32x8_S_d0_1_2 h_S_) main_v11 main_c_3
  let main_v13 : IVec S_ 1 := andi main_v8 main_v12
  let main_v14 : FVec F S1x8 .f32 := Host.absf main_arg4
  let main_cst_4 : FVec F S_ .f32 := constant S_ .f32 0x7F800000#32
  let main_v15 : FVec F S1x8 .f32 := broadcastInDim S1x8 ![] bcast_S_S1x8 main_cst_4
  let main_v16 : IVec S1x8 1 := cmpf .olt main_v14 main_v15
  fn_part1 (F := F) main_v13 main_v16
-- ==== Kernel.lean ====
abbrev S4096x1024 : Shape := ⟨2, ![4096, 1024]⟩
abbrev S1x1024 : Shape := ⟨2, ![1, 1024]⟩
abbrev S1x1024x3328 : Shape := ⟨3, ![1, 1024, 3328]⟩
abbrev S4096x512 : Shape := ⟨2, ![4096, 512]⟩
abbrev S4096x128 : Shape := ⟨2, ![4096, 128]⟩
abbrev S1024x3328 : Shape := ⟨2, ![1024, 3328]⟩
abbrev S3328x1024 : Shape := ⟨2, ![3328, 1024]⟩
abbrev S4096x256 : Shape := ⟨2, ![4096, 256]⟩
abbrev S4096x2048 : Shape := ⟨2, ![4096, 2048]⟩
abbrev S512x1024 : Shape := ⟨2, ![512, 1024]⟩
abbrev S512x512 : Shape := ⟨2, ![512, 512]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩
abbrev S256x1024 : Shape := ⟨2, ![256, 1024]⟩
abbrev S2048x1024 : Shape := ⟨2, ![2048, 1024]⟩
abbrev S1024 : Shape := ⟨1, ![1024]⟩

abbrev nBuf : Space → Nat
  | .hbm => 21
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x3328, .f32⟩
  | .hbm, ⟨3, _⟩ => ⟨S4096x1024, .f32⟩
  | .hbm, ⟨4, _⟩ => ⟨S4096x512, .f32⟩
  | .hbm, ⟨5, _⟩ => ⟨S4096x128, .f32⟩
  | .hbm, ⟨6, _⟩ => ⟨S4096x128, .f32⟩
  | .hbm, ⟨7, _⟩ => ⟨S4096x512, .f32⟩
  | .hbm, ⟨8, _⟩ => ⟨S4096x1024, .f32⟩
  | .hbm, ⟨9, _⟩ => ⟨S4096x1024, .f32⟩
  | .hbm, ⟨10, _⟩ => ⟨S1024x3328, .f32⟩
  | .hbm, ⟨11, _⟩ => ⟨S3328x1024, .f32⟩
  | .hbm, ⟨12, _⟩ => ⟨S3328x1024, .bf16⟩
  | .hbm, ⟨13, _⟩ => ⟨S4096x256, .f32⟩
  | .hbm, ⟨14, _⟩ => ⟨S4096x2048, .f32⟩
  | .hbm, ⟨15, _⟩ => ⟨S4096x512, .bf16⟩
  | .hbm, ⟨16, _⟩ => ⟨S4096x256, .bf16⟩
  | .hbm, ⟨17, _⟩ => ⟨S4096x512, .bf16⟩
  | .hbm, ⟨18, _⟩ => ⟨S4096x2048, .bf16⟩
  | .hbm, ⟨19, _⟩ => ⟨S4096x1024, .f32⟩
  | .hbm, ⟨20, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3328x1024, .bf16⟩
  | .local _ .vmem, ⟨4, _⟩ => ⟨S512x1024, .f32⟩
  | .local _ .vmem, ⟨5, _⟩ => ⟨S512x1024, .f32⟩
  | .local _ .vmem, ⟨6, _⟩ => ⟨S512x512, .bf16⟩
  | .local _ .vmem, ⟨7, _⟩ => ⟨S512x512, .bf16⟩
  | .local _ .vmem, ⟨8, _⟩ => ⟨S512x256, .bf16⟩
  | .local _ .vmem, ⟨9, _⟩ => ⟨S512x256, .bf16⟩
  | .local _ .vmem, ⟨10, _⟩ => ⟨S512x512, .bf16⟩
  | .local _ .vmem, ⟨11, _⟩ => ⟨S512x512, .bf16⟩
  | .local _ .vmem, ⟨12, _⟩ => ⟨S512x2048, .bf16⟩
  | .local _ .vmem, ⟨13, _⟩ => ⟨S512x2048, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v61 : BitVec 1 := Scalar.cmpi .eq arg0 c0_i32
  let v62 : BitVec 32 := Scalar.extui v61
  let c0_i32_30 : BitVec 32 := 0#32
  let v63 : BitVec 1 := Scalar.cmpi .ne v62 c0_i32_30
  v63

def k0_cond2 (i : grid0.Coords) : BitVec 1 :=
  let arg0 : BitVec 32 := BitVec.ofNat 32 (i 0).val
  let c0_i32_31 : BitVec 32 := 0#32
  let v64 : BitVec 1 := Scalar.cmpi .sgt arg0 c0_i32_31
  let v65 : BitVec 32 := Scalar.extui v64
  let c0_i32_32 : BitVec 32 := 0#32
  let v66 : BitVec 1 := Scalar.cmpi .ne v65 c0_i32_32
  v66

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3328x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S4096x1024 : Shape := ⟨2, ![4096, 1024]⟩
abbrev S1x1024 : Shape := ⟨2, ![1, 1024]⟩
abbrev S1x1024x3328 : Shape := ⟨3, ![1, 1024, 3328]⟩
abbrev S4096x512 : Shape := ⟨2, ![4096, 512]⟩
abbrev S4096x128 : Shape := ⟨2, ![4096, 128]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x3328 : Shape := ⟨2, ![1024, 3328]⟩
abbrev S4096x3328 : Shape := ⟨2, ![4096, 3328]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x3328, .f32⟩
  | .hbm, ⟨3, _⟩ => ⟨S4096x1024, .f32⟩
  | .hbm, ⟨4, _⟩ => ⟨S4096x512, .f32⟩
  | .hbm, ⟨5, _⟩ => ⟨S4096x128, .f32⟩
  | .hbm, ⟨6, _⟩ => ⟨S4096x128, .f32⟩
  | .hbm, ⟨7, _⟩ => ⟨S4096x512, .f32⟩
  | .hbm, ⟨8, _⟩ => ⟨S4096x1024, .f32⟩
  | .hbm, ⟨9, _⟩ => ⟨S4096x1024, .f32⟩
  | .hbm, ⟨10, _⟩ => ⟨S1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S1024x3328, .f32⟩
  | .hbm, ⟨32, _⟩ => ⟨S4096x3328, .f32⟩
  | .hbm, ⟨33, _⟩ => ⟨S4096x512, .f32⟩
  | .hbm, ⟨34, _⟩ => ⟨S4096x128, .f32⟩
  | .hbm, ⟨35, _⟩ => ⟨S4096x128, .f32⟩
  | .hbm, ⟨36, _⟩ => ⟨S4096x512, .f32⟩
  | .hbm, ⟨37, _⟩ => ⟨S4096x1024, .f32⟩
  | .hbm, ⟨38, _⟩ => ⟨S4096x1024, .f32⟩
  | .hbm, ⟨39, _⟩ => ⟨S4096x3328, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== Kernel2.lean ====
abbrev S4096x512 : Shape := ⟨2, ![4096, 512]⟩
abbrev S4096x128 : Shape := ⟨2, ![4096, 128]⟩
abbrev S1x32x8 : Shape := ⟨3, ![1, 32, 8]⟩
abbrev S1x8 : Shape := ⟨2, ![1, 8]⟩
abbrev S128x256 : Shape := ⟨2, ![128, 256]⟩
abbrev S32x8 : Shape := ⟨2, ![32, 8]⟩
abbrev S8x32 : Shape := ⟨2, ![8, 32]⟩
abbrev S4096x256 : Shape := ⟨2, ![4096, 256]⟩
abbrev S8x40x128 : Shape := ⟨3, ![8, 40, 128]⟩
abbrev S128x512 : Shape := ⟨2, ![128, 512]⟩
abbrev S128x128 : Shape := ⟨2, ![128, 128]⟩
abbrev S8x128x256 : Shape := ⟨3, ![8, 128, 256]⟩
abbrev S8x1x1 : Shape := ⟨3, ![8, 1, 1]⟩
abbrev S1x1 : Shape := ⟨2, ![1, 1]⟩
abbrev S1x128x256 : Shape := ⟨3, ![1, 128, 256]⟩
abbrev S256x128 : Shape := ⟨2, ![256, 128]⟩
abbrev S8x128 : Shape := ⟨2, ![8, 128]⟩
abbrev S8x128x1 : Shape := ⟨3, ![8, 128, 1]⟩
abbrev S8x1 : Shape := ⟨2, ![8, 1]⟩
abbrev S8x256 : Shape := ⟨2, ![8, 256]⟩
abbrev S8x1x256 : Shape := ⟨3, ![8, 1, 256]⟩

abbrev nBuf : Space → Nat
  | .hbm => 16
  | .vmem => 27
  | .smem => 2
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S4096x512, .f32⟩
  | .hbm, ⟨4, _⟩ => ⟨S1x32x8, .f32⟩
  | .hbm, ⟨5, _⟩ => ⟨S1x8, .f32⟩
  | .hbm, ⟨6, _⟩ => ⟨S128x256, .i32⟩
  | .hbm, ⟨7, _⟩ => ⟨S4096x512, .bf16⟩
  | .hbm, ⟨8, _⟩ => ⟨S4096x128, .bf16⟩
  | .hbm, ⟨9, _⟩ => ⟨S4096x128, .bf16⟩
  | .hbm, ⟨10, _⟩ => ⟨S4096x512, .bf16⟩
  | .hbm, ⟨11, _⟩ => ⟨S32x8, .f32⟩
  | .hbm, ⟨12, _⟩ => ⟨S8x32, .f32⟩
  | .hbm, ⟨13, _⟩ => ⟨S4096x512, .bf16⟩
  | .hbm, ⟨14, _⟩ => ⟨S4096x256, .bf16⟩
  | .hbm, ⟨15, _⟩ => ⟨S8x40x128, .f32⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x256, .i32⟩
  | .local _ .vmem, ⟨13, _⟩ => ⟨S128x512, .bf16⟩
  | .local _ .vmem, ⟨14, _⟩ => ⟨S128x512, .bf16⟩
  | .local _ .vmem, ⟨15, _⟩ => ⟨S128x256, .bf16⟩
  | .local _ .vmem, ⟨16, _⟩ => ⟨S128x256, .bf16⟩
  | .local _ .vmem, ⟨17, _⟩ => ⟨S8x40x128, .f32⟩
  | .local _ .vmem, ⟨18, _⟩ => ⟨S8x128x256, .f32⟩
  | .local _ .vmem, ⟨19, _⟩ => ⟨S8x128x256, .f32⟩
  | .local _ .vmem, ⟨20, _⟩ => ⟨S8x1x1, .f32⟩
  | .local _ .vmem, ⟨21, _⟩ => ⟨S128x128, .f32⟩
  | .local _ .vmem, ⟨22, _⟩ => ⟨S128x128, .f32⟩
  | .local _ .vmem, ⟨23, _⟩ => ⟨S8x128x256, .f32⟩
  | .local _ .vmem, ⟨24, _⟩ => ⟨S8x128x256, .f32⟩
  | .local _ .vmem, ⟨25, _⟩ => ⟨S8x128x256, .bf16⟩
  | .local _ .vmem, ⟨26, _⟩ => ⟨S8x128x256, .bf16⟩
  | .local _ .smem, ⟨0, _⟩ => ⟨S8x32, .f32⟩
  | .local _ .smem, ⟨1, _⟩ => ⟨S1x8, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_stg7_0 : Ref sig .tc := ⟨.smem, 0, rfl⟩
abbrev cc0_stg8_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_5 : BitVec 32 := 0#32
  let c32_i32_6 : BitVec 32 := 32#32
  let v11 : BitVec 32 := Scalar.addi c0_i32_5 c32_i32_6
  let c1_i32 : BitVec 32 := 1#32
  ⟨c0_i32_5, v11, c1_i32⟩
def k0_off1 (k0_t1 : Fin k0_t1_loop.trips) : Fin 2 → Nat :=
  let c0_74 : Index := 0#32
  let c0_i32_5 : BitVec 32 := 0#32
  let c1_i32 : BitVec 32 := 1#32
  let arg22 : BitVec 32 := Scf.iv c0_i32_5 c1_i32 k0_t1
  let v76 : Index := Scalar.indexCast arg22
  ![0, v76.toNat]
@[reducible] def k0_t2_loop : Scf.Loop 32 :=
  let c0_i32_12 : BitVec 32 := 0#32
  let c32_i32_13 : BitVec 32 := 32#32
  let v17 : BitVec 32 := Scalar.addi c0_i32_12 c32_i32_13
  let c1_i32_14 : BitVec 32 := 1#32
  ⟨c0_i32_12, v17, c1_i32_14⟩
def k0_off2 (k0_t2 : Fin k0_t2_loop.trips) : Fin 2 → Nat :=
  let c1_74 : Index := 1#32
  let c0_i32_12 : BitVec 32 := 0#32
  let c1_i32_14 : BitVec 32 := 1#32
  let arg22 : BitVec 32 := Scf.iv c0_i32_12 c1_i32_14 k0_t2
  let v76 : Index := Scalar.indexCast arg22
  ![1, v76.toNat]
@[reducible] def k0_t3_loop : Scf.Loop 32 :=
  let c0_i32_19 : BitVec 32 := 0#32
  let c32_i32_20 : BitVec 32 := 32#32
  let v23 : BitVec 32 := Scalar.addi c0_i32_19 c32_i32_20
  let c1_i32_21 : BitVec 32 := 1#32
  ⟨c0_i32_19, v23, c1_i32_21⟩
def k0_off3 (k0_t3 : Fin k0_t3_loop.trips) : Fin 2 → Nat :=
  let c2_74 : Index := 2#32
  let c0_i32_19 : BitVec 32 := 0#32
  let c1_i32_21 : BitVec 32 := 1#32
  let arg22 : BitVec 32 := Scf.iv c0_i32_19 c1_i32_21 k0_t3
  let v76 : Index := Scalar.indexCast arg22
  ![2, v76.toNat]
@[reducible] def k0_t4_loop : Scf.Loop 32 :=
  let c0_i32_26 : BitVec 32 := 0#32
  let c32_i32_27 : BitVec 32 := 32#32
  let v29 : BitVec 32 := Scalar.addi c0_i32_26 c32_i32_27
  let c1_i32_28 : BitVec 32 := 1#32
  ⟨c0_i32_26, v29, c1_i32_28⟩
def k0_off4 (k0_t4 : Fin k0_t4_loop.trips) : Fin 2 → Nat :=
  let c3_74 : Index := 3#32
  let c0_i32_26 : BitVec 32 := 0#32
  let c1_i32_28 : BitVec 32 := 1#32
  let arg22 : BitVec 32 := Scf.iv c0_i32_26 c1_i32_28 k0_t4
  let v76 : Index := Scalar.indexCast arg22
  ![3, v76.toNat]
@[reducible] def k0_t5_loop : Scf.Loop 32 :=
  let c0_i32_33 : BitVec 32 := 0#32
  let c32_i32_34 : BitVec 32 := 32#32
  let v35 : BitVec 32 := Scalar.addi c0_i32_33 c32_i32_34
  let c1_i32_35 : BitVec 32 := 1#32
  ⟨c0_i32_33, v35, c1_i32_35⟩
def k0_off5 (k0_t5 : Fin k0_t5_loop.trips) : Fin 2 → Nat :=
  let c4_74 : Index := 4#32
  let c0_i32_33 : BitVec 32 := 0#32
  let c1_i32_35 : BitVec 32 := 1#32
  let arg22 : BitVec 32 := Scf.iv c0_i32_33 c1_i32_35 k0_t5
  let v76 : Index := Scalar.indexCast arg22
  ![4, v76.toNat]
@[reducible] def k0_t6_loop : Scf.Loop 32 :=
  let c0_i32_40 : BitVec 32 := 0#32
  let c32_i32_41 : BitVec 32 := 32#32
  let v41 : BitVec 32 := Scalar.addi c0_i32_40 c32_i32_41
  let c1_i32_42 : BitVec 32 := 1#32
  ⟨c0_i32_40, v41, c1_i32_42⟩
def k0_off6 (k0_t6 : Fin k0_t6_loop.trips) : Fin 2 → Nat :=
  let c5_74 : Index := 5#32
  let c0_i32_40 : BitVec 32 := 0#32
  let c1_i32_42 : BitVec 32 := 1#32
  let arg22 : BitVec 32 := Scf.iv c0_i32_40 c1_i32_42 k0_t6
  let v76 : Index := Scalar.indexCast arg22
  ![5, v76.toNat]
@[reducible] def k0_t7_loop : Scf.Loop 32 :=
  let c0_i32_47 : BitVec 32 := 0#32
  let c32_i32_48 : BitVec 32 := 32#32
  let v47 : BitVec 32 := Scalar.addi c0_i32_47 c32_i32_48
  let c1_i32_49 : BitVec 32 := 1#32
  ⟨c0_i32_47, v47, c1_i32_49⟩
def k0_off7 (k0_t7 : Fin k0_t7_loop.trips) : Fin 2 → Nat :=
  let c6_74 : Index := 6#32
  let c0_i32_47 : BitVec 32 := 0#32
  let c1_i32_49 : BitVec 32 := 1#32
  let arg22 : BitVec 32 := Scf.iv c0_i32_47 c1_i32_49 k0_t7
  let v76 : Index := Scalar.indexCast arg22
  ![6, v76.toNat]
@[reducible] def k0_t8_loop : Scf.Loop 32 :=
  let c0_i32_54 : BitVec 32 := 0#32
  let c32_i32_55 : BitVec 32 := 32#32
  let v53 : BitVec 32 := Scalar.addi c0_i32_54 c32_i32_55
  let c1_i32_56 : BitVec 32 := 1#32
  ⟨c0_i32_54, v53, c1_i32_56⟩
def k0_off8 (k0_t8 : Fin k0_t8_loop.trips) : Fin 2 → Nat :=
  let c7_74 : Index := 7#32
  let c0_i32_54 : BitVec 32 := 0#32
  let c1_i32_56 : BitVec 32 := 1#32
  let arg22 : BitVec 32 := Scf.iv c0_i32_54 c1_i32_56 k0_t8
  let v76 : Index := Scalar.indexCast arg22
  ![7, v76.toNat]
def k0_cond4 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

@[reducible] def k0_t9_loop : Scf.Loop 32 :=
  let c0_i32_16 : BitVec 32 := 0#32
  let c32_i32_17 : BitVec 32 := 32#32
  let v28 : BitVec 32 := Scalar.addi c0_i32_16 c32_i32_17
  let c1_i32 : BitVec 32 := 1#32
  ⟨c0_i32_16, v28, c1_i32⟩
def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c0_i32_310 : BitVec 32 := 0#32
  let v405 : BitVec 1 := Scalar.cmpi .sgt arg0 c0_i32_310
  let v406 : BitVec 32 := Scalar.extui v405
  let c0_i32_311 : BitVec 32 := 0#32
  let v407 : BitVec 1 := Scalar.cmpi .ne v406 c0_i32_311
  v407

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  ![v2.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x256 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S8x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x40x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Kernel2Ideal.lean ====
variable {F : FTy → Type} [FloatOps F] [Named F]
def κ : String → Option EReal := fun
  | "mask" => some ⊥
  | _ => none
-- ==== Reference2Ideal.lean ====
abbrev S4096x512 : Shape := ⟨2, ![4096, 512]⟩
abbrev S4096x128 : Shape := ⟨2, ![4096, 128]⟩
abbrev S1x32x8 : Shape := ⟨3, ![1, 32, 8]⟩
abbrev S1x8 : Shape := ⟨2, ![1, 8]⟩
abbrev S8 : Shape := ⟨1, ![8]⟩
abbrev S32x8 : Shape := ⟨2, ![32, 8]⟩
abbrev S32x128x2x4x64 : Shape := ⟨5, ![32, 128, 2, 4, 64]⟩
abbrev S_ : Shape := ⟨0, ![]⟩
abbrev S128x128 : Shape := ⟨2, ![128, 128]⟩
abbrev S3968x128 : Shape := ⟨2, ![3968, 128]⟩
abbrev S32x128x2x64 : Shape := ⟨4, ![32, 128, 2, 64]⟩
abbrev S32x256x2x64 : Shape := ⟨4, ![32, 256, 2, 64]⟩
abbrev S32x2x256x128x4 : Shape := ⟨5, ![32, 2, 256, 128, 4]⟩
abbrev S32x2x4x128x256 : Shape := ⟨5, ![32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S128x256x1 : Shape := ⟨3, ![128, 256, 1]⟩
abbrev S128x256x8 : Shape := ⟨3, ![128, 256, 8]⟩
abbrev S8x128x256 : Shape := ⟨3, ![8, 128, 256]⟩
abbrev S2x4x128x256 : Shape := ⟨4, ![2, 4, 128, 256]⟩
abbrev S32x1x1x128x256 : Shape := ⟨5, ![32, 1, 1, 128, 256]⟩
abbrev S1x2x4x128x256 : Shape := ⟨5, ![1, 2, 4, 128, 256]⟩
abbrev S1x2x4x1x1 : Shape := ⟨5, ![1, 2, 4, 1, 1]⟩
abbrev S32x2x4x128 : Shape := ⟨4, ![32, 2, 4, 128]⟩
abbrev S32x2x4x128x1 : Shape := ⟨5, ![32, 2, 4, 128, 1]⟩
abbrev S32x2x64x4x128 : Shape := ⟨5, ![32, 2, 64, 4, 128]⟩
abbrev S32x2x64x256 : Shape := ⟨4, ![32, 2, 64, 256]⟩
abbrev S2x4x1 : Shape := ⟨3, ![2, 4, 1]⟩
abbrev S32x2x128x4x64 : Shape := ⟨5, ![32, 2, 128, 4, 64]⟩
abbrev S32x2x256x64 : Shape := ⟨4, ![32, 2, 256, 64]⟩
abbrev S8x32 : Shape := ⟨2, ![8, 32]⟩
abbrev S8x1 : Shape := ⟨2, ![8, 1]⟩
abbrev S8x7 : Shape := ⟨2, ![8, 7]⟩
abbrev S8x40 : Shape := ⟨2, ![8, 40]⟩
abbrev S4096x256 : Shape := ⟨2, ![4096, 256]⟩
abbrev S8x40x1 : Shape := ⟨3, ![8, 40, 1]⟩
abbrev S8x40x128 : Shape := ⟨3, ![8, 40, 128]⟩

abbrev nBuf : Space → Nat
  | .hbm => 328
  | .vmem => 0
  | .smem => 0
  | _ => 0

abbrev hbmTy0_0 (i : Nat) : BufTy := match i % 128 with
  | 0 => ⟨S4096x512, .f32⟩
  | 1 => ⟨S4096x128, .f32⟩
  | 2 => ⟨S4096x128, .f32⟩
  | 3 => ⟨S4096x512, .f32⟩
  | 4 => ⟨S1x32x8, .f32⟩
  | 5 => ⟨S1x8, .f32⟩
  | 6 => ⟨S8, .f32⟩
  | 7 => ⟨S32x8, .f32⟩
  | 8 => ⟨S32x128x2x4x64, .f32⟩
  | 9 => ⟨S_, .f32⟩
  | 10 => ⟨S128x128, .f32⟩
  | 11 => ⟨S3968x128, .f32⟩
  | 12 => ⟨S4096x128, .f32⟩
  | 13 => ⟨S_, .f32⟩
  | 14 => ⟨S128x128, .f32⟩
  | 15 => ⟨S32x128x2x64, .f32⟩
  | 16 => ⟨S32x128x2x64, .f32⟩
  | 17 => ⟨S32x256x2x64, .f32⟩
  | 18 => ⟨S_, .f32⟩
  | 19 => ⟨S128x128, .f32⟩
  | 20 => ⟨S3968x128, .f32⟩
  | 21 => ⟨S4096x128, .f32⟩
  | 22 => ⟨S_, .f32⟩
  | 23 => ⟨S128x128, .f32⟩
  | 24 => ⟨S32x128x2x64, .f32⟩
  | 25 => ⟨S32x128x2x64, .f32⟩
  | 26 => ⟨S32x256x2x64, .f32⟩
  | 27 => ⟨S32x2x256x128x4, .f32⟩
  | 28 => ⟨S32x2x4x128x256, .f32⟩
  | 29 => ⟨S_, .f32⟩
  | 30 => ⟨S32x2x4x128x256, .f32⟩
  | 31 => ⟨S32x2x4x128x256, .f32⟩
  | 32 => ⟨S128, .i32⟩
  | 33 => ⟨S128x1, .i32⟩
  | 34 => ⟨S_, .i32⟩
  | 35 => ⟨S128x1, .i32⟩
  | 36 => ⟨S128x1, .i32⟩
  | 37 => ⟨S256, .i32⟩
  | 38 => ⟨S1x256, .i32⟩
  | 39 => ⟨S128x256, .i32⟩
  | 40 => ⟨S128x256, .i32⟩
  | 41 => ⟨S128x256, .i32⟩
  | 42 => ⟨S_, .i32⟩
  | 43 => ⟨S128x256, .i32⟩
  | 44 => ⟨S128x256, .i1⟩
  | 45 => ⟨S_, .i32⟩
  | 46 => ⟨S128x256, .i32⟩
  | 47 => ⟨S128x256, .i1⟩
  | 48 => ⟨S128x256, .i1⟩
  | 49 => ⟨S32, .i32⟩
  | 50 => ⟨S32x1, .i32⟩
  | 51 => ⟨S_, .i32⟩
  | 52 => ⟨S32x1, .i32⟩
  | 53 => ⟨S32x1, .i32⟩
  | 54 => ⟨S_, .i32⟩
  | 55 => ⟨S32x1, .i32⟩
  | 56 => ⟨S32x1, .i32⟩
  | 57 => ⟨S256, .i32⟩
  | 58 => ⟨S1x256, .i32⟩
  | 59 => ⟨S32x256, .i32⟩
  | 60 => ⟨S32x256, .i32⟩
  | 61 => ⟨S32x256, .i32⟩
  | 62 => ⟨S1x128x256, .i1⟩
  | 63 => ⟨S_, .i32⟩
  | 64 => ⟨S32x256, .i32⟩
  | 65 => ⟨S32x256, .i1⟩
  | 66 => ⟨S32x1x256, .i1⟩
  | 67 => ⟨S32x128x256, .i1⟩
  | 68 => ⟨S32x128x256, .i1⟩
  | 69 => ⟨S32x128x256, .i1⟩
  | 70 => ⟨S_, .i32⟩
  | 71 => ⟨S128x256, .i32⟩
  | 72 => ⟨S128x256, .i32⟩
  | 73 => ⟨S_, .i32⟩
  | 74 => ⟨S128x256, .i32⟩
  | 75 => ⟨S128x256, .i1⟩
  | 76 => ⟨S128x256, .i32⟩
  | 77 => ⟨S_, .i32⟩
  | 78 => ⟨S128x256, .i32⟩
  | 79 => ⟨S128x256, .i32⟩
  | 80 => ⟨S_, .i32⟩
  | 81 => ⟨S128x256, .i32⟩
  | 82 => ⟨S128x256, .i1⟩
  | 83 => ⟨S128x256, .i32⟩
  | 84 => ⟨S128x256, .i32⟩
  | 85 => ⟨S_, .i32⟩
  | 86 => ⟨S128x256, .i32⟩
  | 87 => ⟨S128x256, .i1⟩
  | 88 => ⟨S128x256, .i32⟩
  | 89 => ⟨S128x256, .i32⟩
  | 90 => ⟨S_, .i32⟩
  | 91 => ⟨S128x256, .i32⟩
  | 92 => ⟨S128x256, .i1⟩
  | 93 => ⟨S128x256, .i32⟩
  | 94 => ⟨S128x256, .i32⟩
  | 95 => ⟨S_, .i32⟩
  | 96 => ⟨S128x256, .i32⟩
  | 97 => ⟨S128x256, .i1⟩
  | 98 => ⟨S128x256, .i32⟩
  | 99 => ⟨S128x256, .i32⟩
  | 100 => ⟨S_, .i32⟩
  | 101 => ⟨S128x256, .i32⟩
  | 102 => ⟨S128x256, .i1⟩
  | 103 => ⟨S128x256, .i32⟩
  | 104 => ⟨S128x256, .i32⟩
  | 105 => ⟨S_, .i32⟩
  | 106 => ⟨S128x256, .i32⟩
  | 107 => ⟨S128x256, .i1⟩
  | 108 => ⟨S128x256, .i32⟩
  | 109 => ⟨S128x256, .i32⟩
  | 110 => ⟨S_, .i32⟩
  | 111 => ⟨S128x256, .i32⟩
  | 112 => ⟨S128x256, .i1⟩
  | 113 => ⟨S128x256, .i32⟩
  | 114 => ⟨S128x256, .i32⟩
  | 115 => ⟨S_, .i32⟩
  | 116 => ⟨S128x256, .i32⟩
  | 117 => ⟨S128x256, .i1⟩
  | 118 => ⟨S128x256, .i32⟩
  | 119 => ⟨S128x256, .i32⟩
  | 120 => ⟨S_, .i32⟩
  | 121 => ⟨S128x256, .i32⟩
  | 122 => ⟨S128x256, .i1⟩
  | 123 => ⟨S128x256, .i32⟩
  | 124 => ⟨S128x256, .i32⟩
  | 125 => ⟨S_, .i32⟩
  | 126 => ⟨S128x256, .i32⟩
  | 127 => ⟨S128x256, .i1⟩
  | _ => ⟨S4096x512, .f32⟩

abbrev hbmTy0_1 (i : Nat) : BufTy := match i % 128 with
  | 0 => ⟨S128x256, .i32⟩
  | 1 => ⟨S128x256, .i32⟩
  | 2 => ⟨S_, .i32⟩
  | 3 => ⟨S128x256, .i32⟩
  | 4 => ⟨S128x256, .i1⟩
  | 5 => ⟨S128x256, .i32⟩
  | 6 => ⟨S128x256, .i32⟩
  | 7 => ⟨S_, .i32⟩
  | 8 => ⟨S128x256, .i32⟩
  | 9 => ⟨S128x256, .i1⟩
  | 10 => ⟨S128x256, .i32⟩
  | 11 => ⟨S128x256, .i32⟩
  | 12 => ⟨S_, .i32⟩
  | 13 => ⟨S128x256, .i32⟩
  | 14 => ⟨S128x256, .i1⟩
  | 15 => ⟨S128x256, .i32⟩
  | 16 => ⟨S128x256, .i32⟩
  | 17 => ⟨S_, .i32⟩
  | 18 => ⟨S128x256, .i32⟩
  | 19 => ⟨S128x256, .i1⟩
  | 20 => ⟨S128x256, .i32⟩
  | 21 => ⟨S128x256, .i32⟩
  | 22 => ⟨S_, .i32⟩
  | 23 => ⟨S128x256, .i32⟩
  | 24 => ⟨S128x256, .i32⟩
  | 25 => ⟨S_, .i32⟩
  | 26 => ⟨S128x256, .i32⟩
  | 27 => ⟨S128x256, .i1⟩
  | 28 => ⟨S128x256, .i32⟩
  | 29 => ⟨S_, .i32⟩
  | 30 => ⟨S128x256, .i32⟩
  | 31 => ⟨S128x256, .i1⟩
  | 32 => ⟨S_, .i32⟩
  | 33 => ⟨S128x256, .i32⟩
  | 34 => ⟨S128x256, .i32⟩
  | 35 => ⟨S128x256, .i32⟩
  | 36 => ⟨S128x256x1, .i32⟩
  | 37 => ⟨S128x256x8, .f32⟩
  | 38 => ⟨S8x128x256, .f32⟩
  | 39 => ⟨S2x4x128x256, .f32⟩
  | 40 => ⟨S32x1x1x128x256, .i1⟩
  | 41 => ⟨S32x2x4x128x256, .i1⟩
  | 42 => ⟨S1x2x4x128x256, .f32⟩
  | 43 => ⟨S32x2x4x128x256, .f32⟩
  | 44 => ⟨S32x2x4x128x256, .f32⟩
  | 45 => ⟨S_, .f32⟩
  | 46 => ⟨S32x2x4x128x256, .f32⟩
  | 47 => ⟨S32x2x4x128x256, .f32⟩
  | 48 => ⟨S_, .f32⟩
  | 49 => ⟨S32x2x4x128x256, .f32⟩
  | 50 => ⟨S1x2x4x1x1, .f32⟩
  | 51 => ⟨S_, .f32⟩
  | 52 => ⟨S32x2x4x128, .f32⟩
  | 53 => ⟨S32x2x4x128x1, .f32⟩
  | 54 => ⟨S32x2x4x128x256, .f32⟩
  | 55 => ⟨S32x2x4x128x256, .i1⟩
  | 56 => ⟨S32x2x4x128x256, .f32⟩
  | 57 => ⟨S_, .f32⟩
  | 58 => ⟨S32x2x4x128, .f32⟩
  | 59 => ⟨S32x2x4x128x1, .f32⟩
  | 60 => ⟨S32x2x4x128x1, .f32⟩
  | 61 => ⟨S32x2x4x128x1, .f32⟩
  | 62 => ⟨S32x2x4x128x1, .f32⟩
  | 63 => ⟨S32x2x4x128x1, .i1⟩
  | 64 => ⟨S32x2x4x128x1, .f32⟩
  | 65 => ⟨S32x2x4x128x1, .i1⟩
  | 66 => ⟨S_, .f32⟩
  | 67 => ⟨S32x2x4x128x1, .f32⟩
  | 68 => ⟨S_, .f32⟩
  | 69 => ⟨S32x2x4x128x1, .f32⟩
  | 70 => ⟨S_, .f32⟩
  | 71 => ⟨S32x2x4x128x1, .f32⟩
  | 72 => ⟨S32x2x4x128x1, .f32⟩
  | 73 => ⟨S32x2x4x128x1, .f32⟩
  | 74 => ⟨S32x2x4x128x1, .f32⟩
  | 75 => ⟨S32x2x4x128x1, .i1⟩
  | 76 => ⟨S32x2x4x128x1, .f32⟩
  | 77 => ⟨S32x2x4x128x1, .i1⟩
  | 78 => ⟨S_, .f32⟩
  | 79 => ⟨S32x2x4x128x1, .f32⟩
  | 80 => ⟨S_, .f32⟩
  | 81 => ⟨S32x2x4x128x1, .f32⟩
  | 82 => ⟨S_, .f32⟩
  | 83 => ⟨S32x2x4x128x1, .f32⟩
  | 84 => ⟨S32x2x4x128x1, .f32⟩
  | 85 => ⟨S32x2x4x128x1, .f32⟩
  | 86 => ⟨S32x2x4x128x256, .f32⟩
  | 87 => ⟨S32x2x4x128x256, .f32⟩
  | 88 => ⟨S32x2x4x128x256, .f32⟩
  | 89 => ⟨S_, .f32⟩
  | 90 => ⟨S32x2x4x128, .f32⟩
  | 91 => ⟨S32x2x4x128x1, .f32⟩
  | 92 => ⟨S32x2x4x128x1, .f32⟩
  | 93 => ⟨S32x2x4x128x1, .f32⟩
  | 94 => ⟨S32x2x4x128x1, .f32⟩
  | 95 => ⟨S32x2x4x128x1, .f32⟩
  | 96 => ⟨S32x2x4x128x256, .f32⟩
  | 97 => ⟨S32x2x4x128x256, .f32⟩
  | 98 => ⟨S32x2x4x128x1, .f32⟩
  | 99 => ⟨S_, .f32⟩
  | 100 => ⟨S32x2x4x128x1, .f32⟩
  | 101 => ⟨S32x2x4x128x1, .f32⟩
  | 102 => ⟨S32x2x64x4x128, .f32⟩
  | 103 => ⟨S32x128x2x4x64, .f32⟩
  | 104 => ⟨S4096x512, .f32⟩
  | 105 => ⟨S32x128x2x4x64, .f32⟩
  | 106 => ⟨S32x2x64x4x128, .f32⟩
  | 107 => ⟨S32x2x4x128x256, .f32⟩
  | 108 => ⟨S32x2x64x256, .f32⟩
  | 109 => ⟨S32x256x2x64, .f32⟩
  | 110 => ⟨S32x2x4x128x256, .f32⟩
  | 111 => ⟨S32x2x4x128x256, .f32⟩
  | 112 => ⟨S32x2x4x128x256, .f32⟩
  | 113 => ⟨S_, .f32⟩
  | 114 => ⟨S32x2x4x128, .f32⟩
  | 115 => ⟨S32x2x4x128x1, .f32⟩
  | 116 => ⟨S32x2x4x128x1, .f32⟩
  | 117 => ⟨S32x2x4x128x256, .f32⟩
  | 118 => ⟨S32x2x4x128x256, .f32⟩
  | 119 => ⟨S32x2x4x128x1, .f32⟩
  | 120 => ⟨S_, .f32⟩
  | 121 => ⟨S2x4x1, .f32⟩
  | 122 => ⟨S1x2x4x1x1, .f32⟩
  | 123 => ⟨S32x2x4x128x1, .f32⟩
  | 124 => ⟨S_, .f32⟩
  | 125 => ⟨S32x2x4x128, .f32⟩
  | 126 => ⟨S32x2x4x128x256, .f32⟩
  | 127 => ⟨S32x2x4x128x256, .f32⟩
  | _ => ⟨S4096x512, .f32⟩

abbrev hbmTy0_2 (i : Nat) : BufTy := match i % 128 with
  | 0 => ⟨S32x2x4x128x256, .f32⟩
  | 1 => ⟨S32x2x4x128x256, .f32⟩
  | 2 => ⟨S_, .f32⟩
  | 3 => ⟨S32x2x4x128, .f32⟩
  | 4 => ⟨S32x2x4x128x1, .f32⟩
  | 5 => ⟨S32x2x4x128x1, .f32⟩
  | 6 => ⟨S32x2x4x128x1, .f32⟩
  | 7 => ⟨S_, .f32⟩
  | 8 => ⟨S2x4x1, .f32⟩
  | 9 => ⟨S1x2x4x1x1, .f32⟩
  | 10 => ⟨S1x2x4x1x1, .f32⟩
  | 11 => ⟨S32x2x4x128x1, .f32⟩
  | 12 => ⟨S_, .f32⟩
  | 13 => ⟨S32x2x4x128, .f32⟩
  | 14 => ⟨S32x2x4x128, .f32⟩
  | 15 => ⟨S32x2x4x128x256, .f32⟩
  | 16 => ⟨S32x2x4x128x256, .f32⟩
  | 17 => ⟨S32x2x4x128x256, .f32⟩
  | 18 => ⟨S8, .f32⟩
  | 19 => ⟨S_, .f32⟩
  | 20 => ⟨S32x2x4x128x256, .f32⟩
  | 21 => ⟨S32x2x4x128x256, .f32⟩
  | 22 => ⟨S_, .f32⟩
  | 23 => ⟨S2x4x128x256, .f32⟩
  | 24 => ⟨S1x2x4x128x256, .f32⟩
  | 25 => ⟨S_, .f32⟩
  | 26 => ⟨S2x4x128x256, .f32⟩
  | 27 => ⟨S8x128x256, .f32⟩
  | 28 => ⟨S128x256x8, .f32⟩
  | 29 => ⟨S_, .f32⟩
  | 30 => ⟨S32x8, .f32⟩
  | 31 => ⟨S32x8, .f32⟩
  | 32 => ⟨S_, .f32⟩
  | 33 => ⟨S32x2x4x128x256, .f32⟩
  | 34 => ⟨S32x2x4x128x256, .f32⟩
  | 35 => ⟨S32x2x256x128x4, .f32⟩
  | 36 => ⟨S32x2x128x4x64, .f32⟩
  | 37 => ⟨S32x128x2x4x64, .f32⟩
  | 38 => ⟨S32x2x256x64, .f32⟩
  | 39 => ⟨S32x256x2x64, .f32⟩
  | 40 => ⟨S32x128x2x64, .f32⟩
  | 41 => ⟨S32x128x2x64, .f32⟩
  | 42 => ⟨S4096x128, .f32⟩
  | 43 => ⟨S4096x128, .f32⟩
  | 44 => ⟨S128x128, .f32⟩
  | 45 => ⟨S3968x128, .f32⟩
  | 46 => ⟨S_, .f32⟩
  | 47 => ⟨S4096x128, .f32⟩
  | 48 => ⟨S4096x128, .f32⟩
  | 49 => ⟨S32x128x2x64, .f32⟩
  | 50 => ⟨S32x128x2x64, .f32⟩
  | 51 => ⟨S4096x128, .f32⟩
  | 52 => ⟨S4096x128, .f32⟩
  | 53 => ⟨S128x128, .f32⟩
  | 54 => ⟨S3968x128, .f32⟩
  | 55 => ⟨S_, .f32⟩
  | 56 => ⟨S4096x128, .f32⟩
  | 57 => ⟨S4096x128, .f32⟩
  | 58 => ⟨S4096x512, .f32⟩
  | 59 => ⟨S1x32x8, .f32⟩
  | 60 => ⟨S1x8, .f32⟩
  | 61 => ⟨S32x8, .f32⟩
  | 62 => ⟨S8x32, .f32⟩
  | 63 => ⟨S8x1, .f32⟩
  | 64 => ⟨S_, .f32⟩
  | 65 => ⟨S8x7, .f32⟩
  | 66 => ⟨S8x40, .f32⟩
  | 67 => ⟨S4096x512, .bf16⟩
  | 68 => ⟨S4096x256, .f32⟩
  | 69 => ⟨S4096x256, .bf16⟩
  | 70 => ⟨S8x40x1, .f32⟩
  | 71 => ⟨S8x40x128, .f32⟩
  | _ => ⟨S4096x512, .f32⟩

abbrev hbmTy (i : Nat) : BufTy := match i / 128 with
  | 0 => hbmTy0_0 i
  | 1 => hbmTy0_1 i
  | 2 => hbmTy0_2 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_6 : Ref sig .tc := ⟨.hbm, 51, rfl⟩
abbrev main_v37 : Ref sig .tc := ⟨.hbm, 52, rfl⟩
abbrev main_v38 : Ref sig .tc := ⟨.hbm, 53, rfl⟩
abbrev main_c_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_9 : Ref sig .tc := ⟨.hbm, 70, rfl⟩
abbrev main_v53 : Ref sig .tc := ⟨.hbm, 71, rfl⟩
abbrev main_v54 : Ref sig .tc := ⟨.hbm, 72, rfl⟩
abbrev main_c_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_11 : Ref sig .tc := ⟨.hbm, 77, rfl⟩
abbrev main_v58 : Ref sig .tc := ⟨.hbm, 78, rfl⟩
abbrev main_v59 : Ref sig .tc := ⟨.hbm, 79, rfl⟩
abbrev main_c_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_13 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_14 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_15 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_c_16 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_c_17 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_c_18 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_c_19 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_c_20 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_c_21 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_c_22 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_c_23 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_c_24 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_c_25 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_c_26 : Ref sig .tc := ⟨.hbm, 150, rfl⟩
abbrev main_v116 : Ref sig .tc := ⟨.hbm, 151, rfl⟩
abbrev main_v117 : Ref sig .tc := ⟨.hbm, 152, rfl⟩
abbrev main_c_27 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_c_28 : Ref sig .tc := ⟨.hbm, 157, rfl⟩
abbrev main_v121 : Ref sig .tc := ⟨.hbm, 158, rfl⟩
abbrev main_v122 : Ref sig .tc := ⟨.hbm, 159, rfl⟩
abbrev main_c_29 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_30 : Ref sig .tc := ⟨.hbm, 173, rfl⟩
abbrev main_v135 : Ref sig .tc := ⟨.hbm, 174, rfl⟩
abbrev main_v136 : Ref sig .tc := ⟨.hbm, 175, rfl⟩
abbrev main_cst_31 : Ref sig .tc := ⟨.hbm, 176, rfl⟩
abbrev main_v137 : Ref sig .tc := ⟨.hbm, 177, rfl⟩
abbrev main_v138 : Ref sig .tc := ⟨.hbm, 178, rfl⟩
abbrev main_cst_32 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_cst_33 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_cst_34 : Ref sig .tc := ⟨.hbm, 194, rfl⟩
abbrev main_v152 : Ref sig .tc := ⟨.hbm, 195, rfl⟩
abbrev main_cst_35 : Ref sig .tc := ⟨.hbm, 196, rfl⟩
abbrev main_v153 : Ref sig .tc := ⟨.hbm, 197, rfl⟩
abbrev main_cst_36 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_cst_37 : Ref sig .tc := ⟨.hbm, 206, rfl⟩
abbrev main_v161 : Ref sig .tc := ⟨.hbm, 207, rfl⟩
abbrev main_cst_38 : Ref sig .tc := ⟨.hbm, 208, rfl⟩
abbrev main_v162 : Ref sig .tc := ⟨.hbm, 209, rfl⟩
abbrev main_cst_39 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_cst_40 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_cst_41 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_cst_42 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_cst_43 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_cst_44 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_cst_45 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_cst_46 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_cst_47 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_cst_48 : Ref sig .tc := ⟨.hbm, 275, rfl⟩
abbrev main_v219 : Ref sig .tc := ⟨.hbm, 276, rfl⟩
abbrev main_v220 : Ref sig .tc := ⟨.hbm, 277, rfl⟩
abbrev main_cst_49 : Ref sig .tc := ⟨.hbm, 278, rfl⟩
abbrev main_v221 : Ref sig .tc := ⟨.hbm, 279, rfl⟩
abbrev main_v222 : Ref sig .tc := ⟨.hbm, 280, rfl⟩
abbrev main_cst_50 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_cst_51 : Ref sig .tc := ⟨.hbm, 285, rfl⟩
abbrev main_v226 : Ref sig .tc := ⟨.hbm, 286, rfl⟩
abbrev main_v227 : Ref sig .tc := ⟨.hbm, 287, rfl⟩
abbrev main_cst_52 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_v237 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_cst_53 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_cst_54 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_v253 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_cst_55 : Ref sig .tc := ⟨.hbm, 320, rfl⟩
abbrev main_v257 : Ref sig .tc := ⟨.hbm, 321, rfl⟩
abbrev main_v258 : Ref sig .tc := ⟨.hbm, 322, rfl⟩
abbrev main_v259 : Ref sig .tc := ⟨.hbm, 323, rfl⟩
abbrev main_v260 : Ref sig .tc := ⟨.hbm, 324, rfl⟩
abbrev main_v261 : Ref sig .tc := ⟨.hbm, 325, rfl⟩
abbrev main_v262 : Ref sig .tc := ⟨.hbm, 326, rfl⟩
abbrev main_v263 : Ref sig .tc := ⟨.hbm, 327, rfl⟩

abbrev nD : Nat := 1
abbrev τ : Topo := Topo.v7x

variable {F : FTy → Type} [FloatOps F]
-- ==== Kernel3.lean ====
abbrev S4096x1024 : Shape := ⟨2, ![4096, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S4096x4096 : Shape := ⟨2, ![4096, 4096]⟩
abbrev S8x512x1024 : Shape := ⟨3, ![8, 512, 1024]⟩
abbrev S8x1024x512 : Shape := ⟨3, ![8, 1024, 512]⟩
abbrev S4096x512 : Shape := ⟨2, ![4096, 512]⟩
abbrev S1x512x1024 : Shape := ⟨3, ![1, 512, 1024]⟩
abbrev S1x1024x512 : Shape := ⟨3, ![1, 1024, 512]⟩
abbrev S512x512 : Shape := ⟨2, ![512, 512]⟩
abbrev S512x1024 : Shape := ⟨2, ![512, 1024]⟩
abbrev S1024x512 : Shape := ⟨2, ![1024, 512]⟩

abbrev nBuf : Space → Nat
  | .hbm => 15
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024x4096, .f32⟩
  | .hbm, ⟨2, _⟩ => ⟨S1x4096x1024, .f32⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S4096x4096, .bf16⟩
  | .hbm, ⟨7, _⟩ => ⟨S4096x1024, .f32⟩
  | .hbm, ⟨8, _⟩ => ⟨S4096x1024, .bf16⟩
  | .hbm, ⟨9, _⟩ => ⟨S8x512x1024, .bf16⟩
  | .hbm, ⟨10, _⟩ => ⟨S4096x1024, .bf16⟩
  | .hbm, ⟨11, _⟩ => ⟨S4096x1024, .bf16⟩
  | .hbm, ⟨12, _⟩ => ⟨S8x1024x512, .f32⟩
  | .hbm, ⟨13, _⟩ => ⟨S8x512x1024, .f32⟩
  | .hbm, ⟨14, _⟩ => ⟨S4096x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x1024x512, .f32⟩
  | .local _ .vmem, ⟨7, _⟩ => ⟨S1x1024x512, .f32⟩
  | .local _ .vmem, ⟨8, _⟩ => ⟨S1x512x1024, .f32⟩
  | .local _ .vmem, ⟨9, _⟩ => ⟨S1x512x1024, .f32⟩
  | .local _ .vmem, ⟨10, _⟩ => ⟨S4096x512, .bf16⟩
  | .local _ .vmem, ⟨11, _⟩ => ⟨S4096x512, .bf16⟩
  | .local _ .vmem, ⟨12, _⟩ => ⟨S4096x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v15 : BitVec 32 := Scalar.muli arg9 c512_i32
  v15
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32 : BitVec 32 := 512#32
  let v15 : BitVec 32 := Scalar.muli arg9 c512_i32
  let v16 : BitVec 32 := v15
  let v17 : Index := Scalar.indexCast v16
  let c0_15 : Index := 0#32
  ![v17.toNat, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32 : BitVec 32 := 512#32
  let v15 : BitVec 32 := Scalar.muli arg9 c512_i32
  let v16 : BitVec 32 := v15
  let v23 : Index := Scalar.indexCast v16
  let c0_17 : Index := 0#32
  ![v23.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S4096x1024 : Shape := ⟨2, ![4096, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S4096x4096 : Shape := ⟨2, ![4096, 4096]⟩
abbrev S_ : Shape := ⟨0, ![]⟩
abbrev S1024x8x512 : Shape := ⟨3, ![1024, 8, 512]⟩
abbrev S8x1024x512 : Shape := ⟨3, ![8, 1024, 512]⟩
abbrev S8x512x1024 : Shape := ⟨3, ![8, 512, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x4096, .f32⟩
  | .hbm, ⟨2, _⟩ => ⟨S1x4096x1024, .f32⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .i1⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x1024, .f32⟩
  | .hbm, ⟨19, _⟩ => ⟨S4096x1024, .f32⟩
  | .hbm, ⟨20, _⟩ => ⟨S1024x4096, .f32⟩
  | .hbm, ⟨21, _⟩ => ⟨S4096x1024, .f32⟩
  | .hbm, ⟨22, _⟩ => ⟨S4096x4096, .f32⟩
  | .hbm, ⟨23, _⟩ => ⟨S1x4096x1024, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x1024, .f32⟩
  | .hbm, ⟨29, _⟩ => ⟨S1024x4096, .f32⟩
  | .hbm, ⟨30, _⟩ => ⟨S1x1024x4096, .f32⟩
  | .hbm, ⟨31, _⟩ => ⟨S1024x4096, .f32⟩
  | .hbm, ⟨32, _⟩ => ⟨S1024x8x512, .f32⟩
  | .hbm, ⟨33, _⟩ => ⟨S8x1024x512, .f32⟩
  | .hbm, ⟨34, _⟩ => ⟨S4096x1024, .f32⟩
  | .hbm, ⟨35, _⟩ => ⟨S8x512x1024, .f32⟩
  | .hbm, ⟨36, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel4.lean ====
abbrev S4096x512 : Shape := ⟨2, ![4096, 512]⟩
abbrev S4096x128 : Shape := ⟨2, ![4096, 128]⟩
abbrev S1x32x8 : Shape := ⟨3, ![1, 32, 8]⟩
abbrev S1x8 : Shape := ⟨2, ![1, 8]⟩
abbrev S128x256 : Shape := ⟨2, ![128, 256]⟩
abbrev S32x8 : Shape := ⟨2, ![32, 8]⟩
abbrev S8x32 : Shape := ⟨2, ![8, 32]⟩
abbrev S128x512 : Shape := ⟨2, ![128, 512]⟩
abbrev S128x128 : Shape := ⟨2, ![128, 128]⟩
abbrev S8x128x256 : Shape := ⟨3, ![8, 128, 256]⟩
abbrev S1x1 : Shape := ⟨2, ![1, 1]⟩
abbrev S1x128x256 : Shape := ⟨3, ![1, 128, 256]⟩
abbrev S256x128 : Shape := ⟨2, ![256, 128]⟩
abbrev S8x1x1 : Shape := ⟨3, ![8, 1, 1]⟩
abbrev S8x128 : Shape := ⟨2, ![8, 128]⟩
abbrev S8x128x1 : Shape := ⟨3, ![8, 128, 1]⟩

abbrev nBuf : Space → Nat
  | .hbm => 12
  | .vmem => 16
  | .smem => 2
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S1x32x8, .f32⟩
  | .hbm, ⟨4, _⟩ => ⟨S1x8, .f32⟩
  | .hbm, ⟨5, _⟩ => ⟨S128x256, .i32⟩
  | .hbm, ⟨6, _⟩ => ⟨S4096x512, .bf16⟩
  | .hbm, ⟨7, _⟩ => ⟨S4096x128, .bf16⟩
  | .hbm, ⟨8, _⟩ => ⟨S4096x128, .bf16⟩
  | .hbm, ⟨9, _⟩ => ⟨S32x8, .f32⟩
  | .hbm, ⟨10, _⟩ => ⟨S8x32, .f32⟩
  | .hbm, ⟨11, _⟩ => ⟨S4096x512, .bf16⟩
  | .local _ .vmem, ⟨0, _⟩ => ⟨S128x512, .bf16⟩
  | .local _ .vmem, ⟨1, _⟩ => ⟨S128x512, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x256, .i32⟩
  | .local _ .vmem, ⟨11, _⟩ => ⟨S128x512, .bf16⟩
  | .local _ .vmem, ⟨12, _⟩ => ⟨S128x512, .bf16⟩
  | .local _ .vmem, ⟨13, _⟩ => ⟨S8x128x256, .f32⟩
  | .local _ .vmem, ⟨14, _⟩ => ⟨S8x128x256, .f32⟩
  | .local _ .vmem, ⟨15, _⟩ => ⟨S8x128x256, .bf16⟩
  | .local _ .smem, ⟨0, _⟩ => ⟨S8x32, .f32⟩
  | .local _ .smem, ⟨1, _⟩ => ⟨S1x8, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_stg6_0 : Ref sig .tc := ⟨.smem, 0, rfl⟩
abbrev cc0_stg7_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_131 : BitVec 32 := 0#32
  let c32_i32 : BitVec 32 := 32#32
  let v206 : BitVec 32 := Scalar.addi c0_i32_131 c32_i32
  let c1_i32_132 : BitVec 32 := 1#32
  ⟨c0_i32_131, v206, c1_i32_132⟩
def k0_off1 (k0_t1 : Fin k0_t1_loop.trips) : Fin 2 → Nat :=
  let c0_193 : Index := 0#32
  let c0_i32_131 : BitVec 32 := 0#32
  let c1_i32_132 : BitVec 32 := 1#32
  let arg13 : BitVec 32 := Scf.iv c0_i32_131 c1_i32_132 k0_t1
  let v255 : Index := Scalar.indexCast arg13
  ![0, v255.toNat]
@[reducible] def k0_t2_loop : Scf.Loop 32 :=
  let c0_i32_138 : BitVec 32 := 0#32
  let c32_i32_139 : BitVec 32 := 32#32
  let v212 : BitVec 32 := Scalar.addi c0_i32_138 c32_i32_139
  let c1_i32_140 : BitVec 32 := 1#32
  ⟨c0_i32_138, v212, c1_i32_140⟩
def k0_off2 (k0_t2 : Fin k0_t2_loop.trips) : Fin 2 → Nat :=
  let c1_193 : Index := 1#32
  let c0_i32_138 : BitVec 32 := 0#32
  let c1_i32_140 : BitVec 32 := 1#32
  let arg13 : BitVec 32 := Scf.iv c0_i32_138 c1_i32_140 k0_t2
  let v255 : Index := Scalar.indexCast arg13
  ![1, v255.toNat]
@[reducible] def k0_t3_loop : Scf.Loop 32 :=
  let c0_i32_146 : BitVec 32 := 0#32
  let c32_i32_147 : BitVec 32 := 32#32
  let v218 : BitVec 32 := Scalar.addi c0_i32_146 c32_i32_147
  let c1_i32_148 : BitVec 32 := 1#32
  ⟨c0_i32_146, v218, c1_i32_148⟩
def k0_off3 (k0_t3 : Fin k0_t3_loop.trips) : Fin 2 → Nat :=
  let c2_193 : Index := 2#32
  let c0_i32_146 : BitVec 32 := 0#32
  let c1_i32_148 : BitVec 32 := 1#32
  let arg13 : BitVec 32 := Scf.iv c0_i32_146 c1_i32_148 k0_t3
  let v255 : Index := Scalar.indexCast arg13
  ![2, v255.toNat]
@[reducible] def k0_t4_loop : Scf.Loop 32 :=
  let c0_i32_154 : BitVec 32 := 0#32
  let c32_i32_155 : BitVec 32 := 32#32
  let v224 : BitVec 32 := Scalar.addi c0_i32_154 c32_i32_155
  let c1_i32_156 : BitVec 32 := 1#32
  ⟨c0_i32_154, v224, c1_i32_156⟩
def k0_off4 (k0_t4 : Fin k0_t4_loop.trips) : Fin 2 → Nat :=
  let c3_193 : Index := 3#32
  let c0_i32_154 : BitVec 32 := 0#32
  let c1_i32_156 : BitVec 32 := 1#32
  let arg13 : BitVec 32 := Scf.iv c0_i32_154 c1_i32_156 k0_t4
  let v255 : Index := Scalar.indexCast arg13
  ![3, v255.toNat]
@[reducible] def k0_t5_loop : Scf.Loop 32 :=
  let c0_i32_162 : BitVec 32 := 0#32
  let c32_i32_163 : BitVec 32 := 32#32
  let v230 : BitVec 32 := Scalar.addi c0_i32_162 c32_i32_163
  let c1_i32_164 : BitVec 32 := 1#32
  ⟨c0_i32_162, v230, c1_i32_164⟩
def k0_off5 (k0_t5 : Fin k0_t5_loop.trips) : Fin 2 → Nat :=
  let c4_193 : Index := 4#32
  let c0_i32_162 : BitVec 32 := 0#32
  let c1_i32_164 : BitVec 32 := 1#32
  let arg13 : BitVec 32 := Scf.iv c0_i32_162 c1_i32_164 k0_t5
  let v255 : Index := Scalar.indexCast arg13
  ![4, v255.toNat]
@[reducible] def k0_t6_loop : Scf.Loop 32 :=
  let c0_i32_170 : BitVec 32 := 0#32
  let c32_i32_171 : BitVec 32 := 32#32
  let v236 : BitVec 32 := Scalar.addi c0_i32_170 c32_i32_171
  let c1_i32_172 : BitVec 32 := 1#32
  ⟨c0_i32_170, v236, c1_i32_172⟩
def k0_off6 (k0_t6 : Fin k0_t6_loop.trips) : Fin 2 → Nat :=
  let c5_193 : Index := 5#32
  let c0_i32_170 : BitVec 32 := 0#32
  let c1_i32_172 : BitVec 32 := 1#32
  let arg13 : BitVec 32 := Scf.iv c0_i32_170 c1_i32_172 k0_t6
  let v255 : Index := Scalar.indexCast arg13
  ![5, v255.toNat]
@[reducible] def k0_t7_loop : Scf.Loop 32 :=
  let c0_i32_178 : BitVec 32 := 0#32
  let c32_i32_179 : BitVec 32 := 32#32
  let v242 : BitVec 32 := Scalar.addi c0_i32_178 c32_i32_179
  let c1_i32_180 : BitVec 32 := 1#32
  ⟨c0_i32_178, v242, c1_i32_180⟩
def k0_off7 (k0_t7 : Fin k0_t7_loop.trips) : Fin 2 → Nat :=
  let c6_193 : Index := 6#32
  let c0_i32_178 : BitVec 32 := 0#32
  let c1_i32_180 : BitVec 32 := 1#32
  let arg13 : BitVec 32 := Scf.iv c0_i32_178 c1_i32_180 k0_t7
  let v255 : Index := Scalar.indexCast arg13
  ![6, v255.toNat]
@[reducible] def k0_t8_loop : Scf.Loop 32 :=
  let c0_i32_186 : BitVec 32 := 0#32
  let c32_i32_187 : BitVec 32 := 32#32
  let v248 : BitVec 32 := Scalar.addi c0_i32_186 c32_i32_187
  let c1_i32_188 : BitVec 32 := 1#32
  ⟨c0_i32_186, v248, c1_i32_188⟩
def k0_off8 (k0_t8 : Fin k0_t8_loop.trips) : Fin 2 → Nat :=
  let c7_193 : Index := 7#32
  let c0_i32_186 : BitVec 32 := 0#32
  let c1_i32_188 : BitVec 32 := 1#32
  let arg13 : BitVec 32 := Scf.iv c0_i32_186 c1_i32_188 k0_t8
  let v255 : Index := Scalar.indexCast arg13
  ![7, v255.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x256 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S8x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel4Ideal.lean ====
variable {F : FTy → Type} [FloatOps F] [Named F]
def κ : String → Option EReal := fun
  | "mask" => some ⊥
  | _ => none
-- ==== Reference4Ideal.lean ====
abbrev S4096x512 : Shape := ⟨2, ![4096, 512]⟩
abbrev S4096x128 : Shape := ⟨2, ![4096, 128]⟩
abbrev S1x32x8 : Shape := ⟨3, ![1, 32, 8]⟩
abbrev S1x8 : Shape := ⟨2, ![1, 8]⟩
abbrev S8 : Shape := ⟨1, ![8]⟩
abbrev S32x8 : Shape := ⟨2, ![32, 8]⟩
abbrev S32x128x2x4x64 : Shape := ⟨5, ![32, 128, 2, 4, 64]⟩
abbrev S_ : Shape := ⟨0, ![]⟩
abbrev S128x128 : Shape := ⟨2, ![128, 128]⟩
abbrev S3968x128 : Shape := ⟨2, ![3968, 128]⟩
abbrev S32x128x2x64 : Shape := ⟨4, ![32, 128, 2, 64]⟩
abbrev S32x256x2x64 : Shape := ⟨4, ![32, 256, 2, 64]⟩
abbrev S32x2x256x128x4 : Shape := ⟨5, ![32, 2, 256, 128, 4]⟩
abbrev S32x2x4x128x256 : Shape := ⟨5, ![32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S128x256x1 : Shape := ⟨3, ![128, 256, 1]⟩
abbrev S128x256x8 : Shape := ⟨3, ![128, 256, 8]⟩
abbrev S8x128x256 : Shape := ⟨3, ![8, 128, 256]⟩
abbrev S2x4x128x256 : Shape := ⟨4, ![2, 4, 128, 256]⟩
abbrev S32x1x1x128x256 : Shape := ⟨5, ![32, 1, 1, 128, 256]⟩
abbrev S1x2x4x128x256 : Shape := ⟨5, ![1, 2, 4, 128, 256]⟩
abbrev S1x2x4x1x1 : Shape := ⟨5, ![1, 2, 4, 1, 1]⟩
abbrev S32x2x4x128 : Shape := ⟨4, ![32, 2, 4, 128]⟩
abbrev S32x2x4x128x1 : Shape := ⟨5, ![32, 2, 4, 128, 1]⟩
abbrev S32x2x64x4x128 : Shape := ⟨5, ![32, 2, 64, 4, 128]⟩

abbrev nBuf : Space → Nat
  | .hbm => 193
  | .vmem => 0
  | .smem => 0
  | _ => 0

abbrev hbmTy0_0 (i : Nat) : BufTy := match i % 128 with
  | 0 => ⟨S4096x512, .f32⟩
  | 1 => ⟨S4096x128, .f32⟩
  | 2 => ⟨S4096x128, .f32⟩
  | 3 => ⟨S1x32x8, .f32⟩
  | 4 => ⟨S1x8, .f32⟩
  | 5 => ⟨S8, .f32⟩
  | 6 => ⟨S32x8, .f32⟩
  | 7 => ⟨S32x128x2x4x64, .f32⟩
  | 8 => ⟨S_, .f32⟩
  | 9 => ⟨S128x128, .f32⟩
  | 10 => ⟨S3968x128, .f32⟩
  | 11 => ⟨S4096x128, .f32⟩
  | 12 => ⟨S32x128x2x64, .f32⟩
  | 13 => ⟨S32x128x2x64, .f32⟩
  | 14 => ⟨S32x256x2x64, .f32⟩
  | 15 => ⟨S_, .f32⟩
  | 16 => ⟨S128x128, .f32⟩
  | 17 => ⟨S3968x128, .f32⟩
  | 18 => ⟨S4096x128, .f32⟩
  | 19 => ⟨S32x128x2x64, .f32⟩
  | 20 => ⟨S32x128x2x64, .f32⟩
  | 21 => ⟨S32x256x2x64, .f32⟩
  | 22 => ⟨S32x2x256x128x4, .f32⟩
  | 23 => ⟨S32x2x4x128x256, .f32⟩
  | 24 => ⟨S_, .f32⟩
  | 25 => ⟨S32x2x4x128x256, .f32⟩
  | 26 => ⟨S32x2x4x128x256, .f32⟩
  | 27 => ⟨S128, .i32⟩
  | 28 => ⟨S128x1, .i32⟩
  | 29 => ⟨S_, .i32⟩
  | 30 => ⟨S128x1, .i32⟩
  | 31 => ⟨S128x1, .i32⟩
  | 32 => ⟨S256, .i32⟩
  | 33 => ⟨S1x256, .i32⟩
  | 34 => ⟨S128x256, .i32⟩
  | 35 => ⟨S128x256, .i32⟩
  | 36 => ⟨S128x256, .i32⟩
  | 37 => ⟨S_, .i32⟩
  | 38 => ⟨S128x256, .i32⟩
  | 39 => ⟨S128x256, .i1⟩
  | 40 => ⟨S_, .i32⟩
  | 41 => ⟨S128x256, .i32⟩
  | 42 => ⟨S128x256, .i1⟩
  | 43 => ⟨S128x256, .i1⟩
  | 44 => ⟨S32, .i32⟩
  | 45 => ⟨S32x1, .i32⟩
  | 46 => ⟨S_, .i32⟩
  | 47 => ⟨S32x1, .i32⟩
  | 48 => ⟨S32x1, .i32⟩
  | 49 => ⟨S_, .i32⟩
  | 50 => ⟨S32x1, .i32⟩
  | 51 => ⟨S32x1, .i32⟩
  | 52 => ⟨S256, .i32⟩
  | 53 => ⟨S1x256, .i32⟩
  | 54 => ⟨S32x256, .i32⟩
  | 55 => ⟨S32x256, .i32⟩
  | 56 => ⟨S32x256, .i32⟩
  | 57 => ⟨S1x128x256, .i1⟩
  | 58 => ⟨S_, .i32⟩
  | 59 => ⟨S32x256, .i32⟩
  | 60 => ⟨S32x256, .i1⟩
  | 61 => ⟨S32x1x256, .i1⟩
  | 62 => ⟨S32x128x256, .i1⟩
  | 63 => ⟨S32x128x256, .i1⟩
  | 64 => ⟨S32x128x256, .i1⟩
  | 65 => ⟨S_, .i32⟩
  | 66 => ⟨S128x256, .i32⟩
  | 67 => ⟨S128x256, .i32⟩
  | 68 => ⟨S_, .i32⟩
  | 69 => ⟨S128x256, .i32⟩
  | 70 => ⟨S128x256, .i1⟩
  | 71 => ⟨S128x256, .i32⟩
  | 72 => ⟨S_, .i32⟩
  | 73 => ⟨S128x256, .i32⟩
  | 74 => ⟨S128x256, .i32⟩
  | 75 => ⟨S_, .i32⟩
  | 76 => ⟨S128x256, .i32⟩
  | 77 => ⟨S128x256, .i1⟩
  | 78 => ⟨S128x256, .i32⟩
  | 79 => ⟨S128x256, .i32⟩
  | 80 => ⟨S_, .i32⟩
  | 81 => ⟨S128x256, .i32⟩
  | 82 => ⟨S128x256, .i1⟩
  | 83 => ⟨S128x256, .i32⟩
  | 84 => ⟨S128x256, .i32⟩
  | 85 => ⟨S_, .i32⟩
  | 86 => ⟨S128x256, .i32⟩
  | 87 => ⟨S128x256, .i1⟩
  | 88 => ⟨S128x256, .i32⟩
  | 89 => ⟨S128x256, .i32⟩
  | 90 => ⟨S_, .i32⟩
  | 91 => ⟨S128x256, .i32⟩
  | 92 => ⟨S128x256, .i1⟩
  | 93 => ⟨S128x256, .i32⟩
  | 94 => ⟨S128x256, .i32⟩
  | 95 => ⟨S_, .i32⟩
  | 96 => ⟨S128x256, .i32⟩
  | 97 => ⟨S128x256, .i1⟩
  | 98 => ⟨S128x256, .i32⟩
  | 99 => ⟨S128x256, .i32⟩
  | 100 => ⟨S_, .i32⟩
  | 101 => ⟨S128x256, .i32⟩
  | 102 => ⟨S128x256, .i1⟩
  | 103 => ⟨S128x256, .i32⟩
  | 104 => ⟨S128x256, .i32⟩
  | 105 => ⟨S_, .i32⟩
  | 106 => ⟨S128x256, .i32⟩
  | 107 => ⟨S128x256, .i1⟩
  | 108 => ⟨S128x256, .i32⟩
  | 109 => ⟨S128x256, .i32⟩
  | 110 => ⟨S_, .i32⟩
  | 111 => ⟨S128x256, .i32⟩
  | 112 => ⟨S128x256, .i1⟩
  | 113 => ⟨S128x256, .i32⟩
  | 114 => ⟨S128x256, .i32⟩
  | 115 => ⟨S_, .i32⟩
  | 116 => ⟨S128x256, .i32⟩
  | 117 => ⟨S128x256, .i1⟩
  | 118 => ⟨S128x256, .i32⟩
  | 119 => ⟨S128x256, .i32⟩
  | 120 => ⟨S_, .i32⟩
  | 121 => ⟨S128x256, .i32⟩
  | 122 => ⟨S128x256, .i1⟩
  | 123 => ⟨S128x256, .i32⟩
  | 124 => ⟨S128x256, .i32⟩
  | 125 => ⟨S_, .i32⟩
  | 126 => ⟨S128x256, .i32⟩
  | 127 => ⟨S128x256, .i1⟩
  | _ => ⟨S4096x512, .f32⟩

abbrev hbmTy0_1 (i : Nat) : BufTy := match i % 128 with
  | 0 => ⟨S128x256, .i32⟩
  | 1 => ⟨S128x256, .i32⟩
  | 2 => ⟨S_, .i32⟩
  | 3 => ⟨S128x256, .i32⟩
  | 4 => ⟨S128x256, .i1⟩
  | 5 => ⟨S128x256, .i32⟩
  | 6 => ⟨S128x256, .i32⟩
  | 7 => ⟨S_, .i32⟩
  | 8 => ⟨S128x256, .i32⟩
  | 9 => ⟨S128x256, .i1⟩
  | 10 => ⟨S128x256, .i32⟩
  | 11 => ⟨S128x256, .i32⟩
  | 12 => ⟨S_, .i32⟩
  | 13 => ⟨S128x256, .i32⟩
  | 14 => ⟨S128x256, .i1⟩
  | 15 => ⟨S128x256, .i32⟩
  | 16 => ⟨S128x256, .i32⟩
  | 17 => ⟨S_, .i32⟩
  | 18 => ⟨S128x256, .i32⟩
  | 19 => ⟨S128x256, .i32⟩
  | 20 => ⟨S_, .i32⟩
  | 21 => ⟨S128x256, .i32⟩
  | 22 => ⟨S128x256, .i1⟩
  | 23 => ⟨S128x256, .i32⟩
  | 24 => ⟨S_, .i32⟩
  | 25 => ⟨S128x256, .i32⟩
  | 26 => ⟨S128x256, .i1⟩
  | 27 => ⟨S_, .i32⟩
  | 28 => ⟨S128x256, .i32⟩
  | 29 => ⟨S128x256, .i32⟩
  | 30 => ⟨S128x256, .i32⟩
  | 31 => ⟨S128x256x1, .i32⟩
  | 32 => ⟨S128x256x8, .f32⟩
  | 33 => ⟨S8x128x256, .f32⟩
  | 34 => ⟨S2x4x128x256, .f32⟩
  | 35 => ⟨S32x1x1x128x256, .i1⟩
  | 36 => ⟨S32x2x4x128x256, .i1⟩
  | 37 => ⟨S1x2x4x128x256, .f32⟩
  | 38 => ⟨S32x2x4x128x256, .f32⟩
  | 39 => ⟨S32x2x4x128x256, .f32⟩
  | 40 => ⟨S_, .f32⟩
  | 41 => ⟨S32x2x4x128x256, .f32⟩
  | 42 => ⟨S32x2x4x128x256, .f32⟩
  | 43 => ⟨S1x2x4x1x1, .f32⟩
  | 44 => ⟨S_, .f32⟩
  | 45 => ⟨S32x2x4x128, .f32⟩
  | 46 => ⟨S32x2x4x128x1, .f32⟩
  | 47 => ⟨S32x2x4x128x1, .f32⟩
  | 48 => ⟨S32x2x4x128x1, .f32⟩
  | 49 => ⟨S32x2x4x128x256, .f32⟩
  | 50 => ⟨S32x2x4x128x256, .f32⟩
  | 51 => ⟨S32x2x4x128x256, .f32⟩
  | 52 => ⟨S_, .f32⟩
  | 53 => ⟨S32x2x4x128, .f32⟩
  | 54 => ⟨S32x2x4x128x1, .f32⟩
  | 55 => ⟨S32x2x4x128x1, .f32⟩
  | 56 => ⟨S32x2x4x128x1, .f32⟩
  | 57 => ⟨S32x2x4x128x1, .f32⟩
  | 58 => ⟨S32x2x4x128x1, .f32⟩
  | 59 => ⟨S32x2x4x128x256, .f32⟩
  | 60 => ⟨S32x2x4x128x256, .f32⟩
  | 61 => ⟨S32x2x64x4x128, .f32⟩
  | 62 => ⟨S32x128x2x4x64, .f32⟩
  | 63 => ⟨S4096x512, .f32⟩
  | 64 => ⟨S4096x512, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_2 : Ref sig .tc := ⟨.hbm, 37, rfl⟩
abbrev main_v28 : Ref sig .tc := ⟨.hbm, 38, rfl⟩
abbrev main_v29 : Ref sig .tc := ⟨.hbm, 39, rfl⟩
abbrev main_c_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_4 : Ref sig .tc := ⟨.hbm, 46, rfl⟩
abbrev main_v35 : Ref sig .tc := ⟨.hbm, 47, rfl⟩
abbrev main_v36 : Ref sig .tc := ⟨.hbm, 48, rfl⟩
abbrev main_c_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_7 : Ref sig .tc := ⟨.hbm, 65, rfl⟩
abbrev main_v51 : Ref sig .tc := ⟨.hbm, 66, rfl⟩
abbrev main_v52 : Ref sig .tc := ⟨.hbm, 67, rfl⟩
abbrev main_c_8 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c_9 : Ref sig .tc := ⟨.hbm, 72, rfl⟩
abbrev main_v56 : Ref sig .tc := ⟨.hbm, 73, rfl⟩
abbrev main_v57 : Ref sig .tc := ⟨.hbm, 74, rfl⟩
abbrev main_c_10 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_c_11 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_c_12 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_c_13 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_c_14 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_c_15 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_c_16 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_c_17 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_c_18 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_c_19 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_c_20 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_c_21 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_c_22 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_c_23 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_c_24 : Ref sig .tc := ⟨.hbm, 145, rfl⟩
abbrev main_v114 : Ref sig .tc := ⟨.hbm, 146, rfl⟩
abbrev main_v115 : Ref sig .tc := ⟨.hbm, 147, rfl⟩
abbrev main_c_25 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_c_26 : Ref sig .tc := ⟨.hbm, 152, rfl⟩
abbrev main_v119 : Ref sig .tc := ⟨.hbm, 153, rfl⟩
abbrev main_v120 : Ref sig .tc := ⟨.hbm, 154, rfl⟩
abbrev main_c_27 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_cst_28 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_cst_29 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_cst_30 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S8x512x1024 : Shape := ⟨3, ![8, 512, 1024]⟩
abbrev S4096x4096 : Shape := ⟨2, ![4096, 4096]⟩
abbrev S8x128 : Shape := ⟨2, ![8, 128]⟩
abbrev S512x1024 : Shape := ⟨2, ![512, 1024]⟩
abbrev S512x4096 : Shape := ⟨2, ![512, 4096]⟩
abbrev S1024x1024 : Shape := ⟨2, ![1024, 1024]⟩
abbrev S512 : Shape := ⟨1, ![512]⟩
abbrev S512x1 : Shape := ⟨2, ![512, 1]⟩
abbrev S1024 : Shape := ⟨1, ![1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 21
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024x4096, .f32⟩
  | .hbm, ⟨5, _⟩ => ⟨S1x4096x1024, .f32⟩
  | .hbm, ⟨6, _⟩ => ⟨S1024x4096, .f32⟩
  | .hbm, ⟨7, _⟩ => ⟨S4096x1024, .f32⟩
  | .hbm, ⟨8, _⟩ => ⟨S4096x1024, .bf16⟩
  | .hbm, ⟨9, _⟩ => ⟨S8x512x1024, .bf16⟩
  | .hbm, ⟨10, _⟩ => ⟨S4096x1024, .f32⟩
  | .hbm, ⟨11, _⟩ => ⟨S4096x1024, .bf16⟩
  | .hbm, ⟨12, _⟩ => ⟨S8x512x1024, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S4096x4096, .bf16⟩
  | .hbm, ⟨17, _⟩ => ⟨S4096x1024, .bf16⟩
  | .hbm, ⟨18, _⟩ => ⟨S4096x1024, .f32⟩
  | .hbm, ⟨19, _⟩ => ⟨S8x128, .f32⟩
  | .hbm, ⟨20, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S4096x1024, .bf16⟩
  | .local _ .vmem, ⟨8, _⟩ => ⟨S4096x1024, .bf16⟩
  | .local _ .vmem, ⟨9, _⟩ => ⟨S512x4096, .bf16⟩
  | .local _ .vmem, ⟨10, _⟩ => ⟨S512x4096, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S8x128, .f32⟩
  | .local _ .vmem, ⟨16, _⟩ => ⟨S1x1024, .f32⟩
  | .local _ .vmem, ⟨17, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_55 : BitVec 32 := 0#32
  let v125 : BitVec 1 := Scalar.cmpi .eq arg0 c0_i32_55
  let v126 : BitVec 32 := Scalar.extui v125
  let c0_i32_56 : BitVec 32 := 0#32
  let v127 : BitVec 1 := Scalar.cmpi .ne v126 c0_i32_56
  v127

def k0_cond2 (i : grid0.Coords) : BitVec 1 :=
  let arg0 : BitVec 32 := BitVec.ofNat 32 (i 0).val
  let c0_i32_57 : BitVec 32 := 0#32
  let v128 : BitVec 1 := Scalar.cmpi .sgt arg0 c0_i32_57
  let v129 : BitVec 32 := Scalar.extui v128
  let c0_i32_58 : BitVec 32 := 0#32
  let v130 : BitVec 1 := Scalar.cmpi .ne v129 c0_i32_58
  v130

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference5Ideal.lean ====
abbrev S4096x1024 : Shape := ⟨2, ![4096, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S4096x4096 : Shape := ⟨2, ![4096, 4096]⟩
abbrev S_ : Shape := ⟨0, ![]⟩
abbrev S1024 : Shape := ⟨1, ![1024]⟩
abbrev S4096 : Shape := ⟨1, ![4096]⟩
abbrev S4096x1 : Shape := ⟨2, ![4096, 1]⟩
abbrev S1x1 : Shape := ⟨2, ![1, 1]⟩
abbrev S8x128 : Shape := ⟨2, ![8, 128]⟩

abbrev nBuf : Space → Nat
  | .hbm => 91
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024x4096, .f32⟩
  | .hbm, ⟨5, _⟩ => ⟨S1x4096x1024, .f32⟩
  | .hbm, ⟨6, _⟩ => ⟨S1024x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x1024, .f32⟩
  | .hbm, ⟨13, _⟩ => ⟨S4096x1024, .f32⟩
  | .hbm, ⟨14, _⟩ => ⟨S1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S1x1024, .f32⟩
  | .hbm, ⟨85, _⟩ => ⟨S4096x4096, .bf16⟩
  | .hbm, ⟨86, _⟩ => ⟨S4096x1024, .bf16⟩
  | .hbm, ⟨87, _⟩ => ⟨S1x1, .f32⟩
  | .hbm, ⟨88, _⟩ => ⟨S_, .i32⟩
  | .hbm, ⟨89, _⟩ => ⟨S_, .f32⟩
  | .hbm, ⟨90, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_cst_8 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_cst_10 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_11 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_12 : Ref sig .tc := ⟨.hbm, 65, rfl⟩
abbrev main_v44 : Ref sig .tc := ⟨.hbm, 66, rfl⟩
abbrev main_v45 : Ref sig .tc := ⟨.hbm, 67, rfl⟩
abbrev main_cst_13 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_v52 : Ref sig .tc := ⟨.hbm, 76, rfl⟩
abbrev main_cst_15 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c : Ref sig .tc := ⟨.hbm, 88, rfl⟩
abbrev main_call1_v0 : Ref sig .tc := ⟨.hbm, 89, rfl⟩
abbrev main_v63 : Ref sig .tc := ⟨.hbm, 90, rfl⟩

abbrev nD : Nat := 1
abbrev τ : Topo := Topo.v7x

variable {F : FTy → Type} [FloatOps F]
-- ==== Kernel6.lean ====
abbrev S1x32x64 : Shape := ⟨3, ![1, 32, 64]⟩
abbrev S1x32 : Shape := ⟨2, ![1, 32]⟩
abbrev S1x32x64x16 : Shape := ⟨4, ![1, 32, 64, 16]⟩
abbrev S4x128x512 : Shape := ⟨3, ![4, 128, 512]⟩
abbrev S1x2048 : Shape := ⟨2, ![1, 2048]⟩
abbrev S32 : Shape := ⟨1, ![32]⟩
abbrev S32x64 : Shape := ⟨2, ![32, 64]⟩
abbrev S2048 : Shape := ⟨1, ![2048]⟩
abbrev S8x8 : Shape := ⟨2, ![8, 8]⟩
abbrev S_ : Shape := ⟨0, ![]⟩
abbrev S1x32x16x64 : Shape := ⟨4, ![1, 32, 16, 64]⟩
abbrev S32x16x64 : Shape := ⟨3, ![32, 16, 64]⟩
abbrev S4x8x16x64 : Shape := ⟨4, ![4, 8, 16, 64]⟩
abbrev S4x8x16x1x64 : Shape := ⟨5, ![4, 8, 16, 1, 64]⟩
abbrev S1x8x1x8x1 : Shape := ⟨5, ![1, 8, 1, 8, 1]⟩
abbrev S4x8x16x8x64 : Shape := ⟨5, ![4, 8, 16, 8, 64]⟩
abbrev S1x512 : Shape := ⟨2, ![1, 512]⟩
abbrev S1x128x512 : Shape := ⟨3, ![1, 128, 512]⟩
abbrev S128x512 : Shape := ⟨2, ![128, 512]⟩
abbrev S512 : Shape := ⟨1, ![512]⟩

abbrev nBuf : Space → Nat
  | .hbm => 45
  | .vmem => 28
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S1x32x64x16, .f32⟩
  | .hbm, ⟨4, _⟩ => ⟨S1x32x64x16, .f32⟩
  | .hbm, ⟨5, _⟩ => ⟨S4x128x512, .f32⟩
  | .hbm, ⟨6, _⟩ => ⟨S4x128x512, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S32, .f32⟩
  | .hbm, ⟨12, _⟩ => ⟨S32x64, .f32⟩
  | .hbm, ⟨13, _⟩ => ⟨S2048, .f32⟩
  | .hbm, ⟨14, _⟩ => ⟨S1x2048, .f32⟩
  | .hbm, ⟨15, _⟩ => ⟨S8x8, .i32⟩
  | .hbm, ⟨16, _⟩ => ⟨S8x8, .i32⟩
  | .hbm, ⟨17, _⟩ => ⟨S_, .i32⟩
  | .hbm, ⟨18, _⟩ => ⟨S8x8, .i32⟩
  | .hbm, ⟨19, _⟩ => ⟨S8x8, .i32⟩
  | .hbm, ⟨20, _⟩ => ⟨S8x8, .i1⟩
  | .hbm, ⟨21, _⟩ => ⟨S8x8, .f32⟩
  | .hbm, ⟨22, _⟩ => ⟨S1x32x16x64, .f32⟩
  | .hbm, ⟨23, _⟩ => ⟨S32x16x64, .f32⟩
  | .hbm, ⟨24, _⟩ => ⟨S4x8x16x64, .f32⟩
  | .hbm, ⟨25, _⟩ => ⟨S4x8x16x1x64, .f32⟩
  | .hbm, ⟨26, _⟩ => ⟨S1x8x1x8x1, .f32⟩
  | .hbm, ⟨27, _⟩ => ⟨S4x8x16x8x64, .f32⟩
  | .hbm, ⟨28, _⟩ => ⟨S4x8x16x8x64, .f32⟩
  | .hbm, ⟨29, _⟩ => ⟨S4x8x16x8x64, .f32⟩
  | .hbm, ⟨30, _⟩ => ⟨S4x128x512, .f32⟩
  | .hbm, ⟨31, _⟩ => ⟨S1x32x16x64, .f32⟩
  | .hbm, ⟨32, _⟩ => ⟨S32x16x64, .f32⟩
  | .hbm, ⟨33, _⟩ => ⟨S4x8x16x64, .f32⟩
  | .hbm, ⟨34, _⟩ => ⟨S4x8x16x1x64, .f32⟩
  | .hbm, ⟨35, _⟩ => ⟨S1x8x1x8x1, .f32⟩
  | .hbm, ⟨36, _⟩ => ⟨S4x8x16x8x64, .f32⟩
  | .hbm, ⟨37, _⟩ => ⟨S4x8x16x8x64, .f32⟩
  | .hbm, ⟨38, _⟩ => ⟨S4x8x16x8x64, .f32⟩
  | .hbm, ⟨39, _⟩ => ⟨S4x128x512, .f32⟩
  | .hbm, ⟨40, _⟩ => ⟨S4x128x512, .f32⟩
  | .hbm, ⟨41, _⟩ => ⟨S4x128x512, .f32⟩
  | .hbm, ⟨42, _⟩ => ⟨S1x2048, .f32⟩
  | .hbm, ⟨43, _⟩ => ⟨S1x2048, .f32⟩
  | .hbm, ⟨44, _⟩ => ⟨S1x2048, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x128x512, .f32⟩
  | .local _ .vmem, ⟨19, _⟩ => ⟨S1x128x512, .f32⟩
  | .local _ .vmem, ⟨20, _⟩ => ⟨S1x128x512, .f32⟩
  | .local _ .vmem, ⟨21, _⟩ => ⟨S1x128x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30_0 : Ref sig .tc := ⟨.hbm, 40, rfl⟩
abbrev main_v30_1 : Ref sig .tc := ⟨.hbm, 41, rfl⟩
abbrev main_v30_2 : Ref sig .tc := ⟨.hbm, 42, rfl⟩
abbrev main_v30_3 : Ref sig .tc := ⟨.hbm, 43, rfl⟩
abbrev main_v30_4 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference6Ideal.lean ====
abbrev S1x32x64 : Shape := ⟨3, ![1, 32, 64]⟩
abbrev S1x32 : Shape := ⟨2, ![1, 32]⟩
abbrev S1x32x64x16 : Shape := ⟨4, ![1, 32, 64, 16]⟩
abbrev S4x128x512 : Shape := ⟨3, ![4, 128, 512]⟩
abbrev S1x2048 : Shape := ⟨2, ![1, 2048]⟩
abbrev S32 : Shape := ⟨1, ![32]⟩
abbrev S32x1 : Shape := ⟨2, ![32, 1]⟩
abbrev S32x64 : Shape := ⟨2, ![32, 64]⟩
abbrev S32x64x16 : Shape := ⟨3, ![32, 64, 16]⟩
abbrev S32x16x64 : Shape := ⟨3, ![32, 16, 64]⟩
abbrev S4x8x16x1x64 : Shape := ⟨5, ![4, 8, 16, 1, 64]⟩
abbrev S4x8x16x8x64 : Shape := ⟨5, ![4, 8, 16, 8, 64]⟩
abbrev S_ : Shape := ⟨0, ![]⟩
abbrev S4x1x512 : Shape := ⟨3, ![4, 1, 512]⟩
abbrev S4x512 : Shape := ⟨2, ![4, 512]⟩

abbrev nBuf : Space → Nat
  | .hbm => 175
  | .vmem => 0
  | .smem => 0
  | _ => 0

abbrev hbmTy0_0 (i : Nat) : BufTy := match i % 128 with
  | 0 => ⟨S1x32x64, .f32⟩
  | 1 => ⟨S1x32x64, .f32⟩
  | 2 => ⟨S1x32, .f32⟩
  | 3 => ⟨S1x32x64x16, .f32⟩
  | 4 => ⟨S1x32x64x16, .f32⟩
  | 5 => ⟨S4x128x512, .f32⟩
  | 6 => ⟨S4x128x512, .f32⟩
  | 7 => ⟨S1x2048, .f32⟩
  | 8 => ⟨S1x2048, .f32⟩
  | 9 => ⟨S32, .f32⟩
  | 10 => ⟨S32x1, .f32⟩
  | 11 => ⟨S32x64, .f32⟩
  | 12 => ⟨S32x64, .f32⟩
  | 13 => ⟨S32x64, .f32⟩
  | 14 => ⟨S32x64x16, .f32⟩
  | 15 => ⟨S32x16x64, .f32⟩
  | 16 => ⟨S4x8x16x1x64, .f32⟩
  | 17 => ⟨S4x8x16x8x64, .f32⟩
  | 18 => ⟨S4x8x16x8x64, .i32⟩
  | 19 => ⟨S4x8x16x8x64, .i32⟩
  | 20 => ⟨S4x8x16x8x64, .i1⟩
  | 21 => ⟨S_, .f32⟩
  | 22 => ⟨S4x8x16x8x64, .f32⟩
  | 23 => ⟨S4x8x16x8x64, .f32⟩
  | 24 => ⟨S4x128x512, .f32⟩
  | 25 => ⟨S32x64x16, .f32⟩
  | 26 => ⟨S32x16x64, .f32⟩
  | 27 => ⟨S4x8x16x1x64, .f32⟩
  | 28 => ⟨S4x8x16x8x64, .f32⟩
  | 29 => ⟨S4x8x16x8x64, .i32⟩
  | 30 => ⟨S4x8x16x8x64, .i32⟩
  | 31 => ⟨S4x8x16x8x64, .i1⟩
  | 32 => ⟨S_, .f32⟩
  | 33 => ⟨S4x8x16x8x64, .f32⟩
  | 34 => ⟨S4x8x16x8x64, .f32⟩
  | 35 => ⟨S4x128x512, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S32x64, .f32⟩
  | 47 => ⟨S_, .f32⟩
  | 48 => ⟨S32x64, .f32⟩
  | 49 => ⟨S32x64, .f32⟩
  | 50 => ⟨S32x64, .f32⟩
  | 51 => ⟨S32x64, .f32⟩
  | 52 => ⟨S32x64, .f32⟩
  | 53 => ⟨S32x64, .f32⟩
  | 54 => ⟨S32x64, .f32⟩
  | 55 => ⟨S32x64, .f32⟩
  | 56 => ⟨S32x64, .f32⟩
  | 57 => ⟨S32x64, .f32⟩
  | 58 => ⟨S_, .f32⟩
  | 59 => ⟨S32x64, .f32⟩
  | 60 => ⟨S32x64, .f32⟩
  | 61 => ⟨S4x1x512, .f32⟩
  | 62 => ⟨S32x64, .f32⟩
  | 63 => ⟨S32x64, .f32⟩
  | 64 => ⟨S32x64, .f32⟩
  | 65 => ⟨S32x64, .f32⟩
  | 66 => ⟨S32x64, .f32⟩
  | 67 => ⟨S_, .f32⟩
  | 68 => ⟨S32x64, .f32⟩
  | 69 => ⟨S32x64, .f32⟩
  | 70 => ⟨S4x1x512, .f32⟩
  | 71 => ⟨S1x2048, .f32⟩
  | 72 => ⟨S1x2048, .f32⟩
  | 73 => ⟨S4x128x512, .f32⟩
  | 74 => ⟨S4x128x512, .f32⟩
  | 75 => ⟨S4x128x512, .f32⟩
  | 76 => ⟨S4x128x512, .f32⟩
  | 77 => ⟨S4x128x512, .f32⟩
  | 78 => ⟨S4x128x512, .f32⟩
  | 79 => ⟨S4x128x512, .f32⟩
  | 80 => ⟨S4x128x512, .f32⟩
  | 81 => ⟨S4x128x512, .f32⟩
  | 82 => ⟨S4x128x512, .f32⟩
  | 83 => ⟨S4x128x512, .f32⟩
  | 84 => ⟨S4x128x512, .f32⟩
  | 85 => ⟨S4x128x512, .f32⟩
  | 86 => ⟨S4x128x512, .f32⟩
  | 87 => ⟨S4x128x512, .f32⟩
  | 88 => ⟨S_, .f32⟩
  | 89 => ⟨S4x512, .f32⟩
  | 90 => ⟨S4x1x512, .f32⟩
  | 91 => ⟨S4x128x512, .f32⟩
  | 92 => ⟨S4x128x512, .f32⟩
  | 93 => ⟨S4x128x512, .f32⟩
  | 94 => ⟨S_, .f32⟩
  | 95 => ⟨S4x512, .f32⟩
  | 96 => ⟨S4x1x512, .f32⟩
  | 97 => ⟨S4x128x512, .f32⟩
  | 98 => ⟨S4x128x512, .f32⟩
  | 99 => ⟨S4x128x512, .f32⟩
  | 100 => ⟨S4x128x512, .f32⟩
  | 101 => ⟨S4x128x512, .f32⟩
  | 102 => ⟨S4x128x512, .f32⟩
  | 103 => ⟨S_, .f32⟩
  | 104 => ⟨S4x512, .f32⟩
  | 105 => ⟨S4x1x512, .f32⟩
  | 106 => ⟨S4x1x512, .f32⟩
  | 107 => ⟨S4x128x512, .f32⟩
  | 108 => ⟨S4x128x512, .f32⟩
  | 109 => ⟨S4x128x512, .f32⟩
  | 110 => ⟨S4x128x512, .f32⟩
  | 111 => ⟨S_, .f32⟩
  | 112 => ⟨S4x512, .f32⟩
  | 113 => ⟨S4x1x512, .f32⟩
  | 114 => ⟨S4x1x512, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S1x32x64, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S32x64, .f32⟩
  | 6 => ⟨S32x64, .f32⟩
  | 7 => ⟨S32x64, .f32⟩
  | 8 => ⟨S32x64, .f32⟩
  | 9 => ⟨S32x64, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S32x64, .f32⟩
  | 44 => ⟨S1x2048, .f32⟩
  | 45 => ⟨S1x2048, .f32⟩
  | 46 => ⟨S1x2048, .f32⟩
  | _ => ⟨S1x32x64, .f32⟩

abbrev hbmTy (i : Nat) : BufTy := match i / 128 with
  | 0 => hbmTy0_0 i
  | 1 => hbmTy0_1 i
  | _ => ⟨S1x32x64, .f32⟩

abbrev bufTy : (tb : Table) → Fin (tcTables nBuf tb) → BufTy
  | .hbm, ⟨i, _⟩ => hbmTy i
  | _, _ => ⟨S1x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_1 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_2 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_3 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_4 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_cst_5 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_cst_6 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_cst_7 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩

abbrev nD : Nat := 1
abbrev τ : Topo := Topo.v7x

variable {F : FTy → Type} [FloatOps F]
-- ==== Kernel7.lean ====
abbrev S1x32x64 : Shape := ⟨3, ![1, 32, 64]⟩
abbrev S1x32 : Shape := ⟨2, ![1, 32]⟩
abbrev S1x32x64x16 : Shape := ⟨4, ![1, 32, 64, 16]⟩
abbrev S1x2048 : Shape := ⟨2, ![1, 2048]⟩
abbrev S32 : Shape := ⟨1, ![32]⟩
abbrev S32x64 : Shape := ⟨2, ![32, 64]⟩
abbrev S2048 : Shape := ⟨1, ![2048]⟩
abbrev S8x8 : Shape := ⟨2, ![8, 8]⟩
abbrev S_ : Shape := ⟨0, ![]⟩
abbrev S1x32x16x64 : Shape := ⟨4, ![1, 32, 16, 64]⟩
abbrev S32x16x64 : Shape := ⟨3, ![32, 16, 64]⟩
abbrev S4x8x16x64 : Shape := ⟨4, ![4, 8, 16, 64]⟩
abbrev S4x8x16x1x64 : Shape := ⟨5, ![4, 8, 16, 1, 64]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S1x512 : Shape := ⟨2, ![1, 512]⟩
abbrev S1x128x512 : Shape := ⟨3, ![1, 128, 512]⟩
abbrev S128x512 : Shape := ⟨2, ![128, 512]⟩

abbrev nBuf : Space → Nat
  | .hbm => 40
  | .vmem => 18
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S1x32x64x16, .f32⟩
  | .hbm, ⟨4, _⟩ => ⟨S1x32x64x16, .f32⟩
  | .hbm, ⟨5, _⟩ => ⟨S1x2048, .f32⟩
  | .hbm, ⟨6, _⟩ => ⟨S1x2048, .f32⟩
  | .hbm, ⟨7, _⟩ => ⟨S32, .f32⟩
  | .hbm, ⟨8, _⟩ => ⟨S32x64, .f32⟩
  | .hbm, ⟨9, _⟩ => ⟨S2048, .f32⟩
  | .hbm, ⟨10, _⟩ => ⟨S1x2048, .f32⟩
  | .hbm, ⟨11, _⟩ => ⟨S8x8, .i32⟩
  | .hbm, ⟨12, _⟩ => ⟨S8x8, .i32⟩
  | .hbm, ⟨13, _⟩ => ⟨S_, .i32⟩
  | .hbm, ⟨14, _⟩ => ⟨S8x8, .i32⟩
  | .hbm, ⟨15, _⟩ => ⟨S8x8, .i32⟩
  | .hbm, ⟨16, _⟩ => ⟨S8x8, .i1⟩
  | .hbm, ⟨17, _⟩ => ⟨S8x8, .f32⟩
  | .hbm, ⟨18, _⟩ => ⟨S1x32x16x64, .f32⟩
  | .hbm, ⟨19, _⟩ => ⟨S32x16x64, .f32⟩
  | .hbm, ⟨20, _⟩ => ⟨S4x8x16x64, .f32⟩
  | .hbm, ⟨21, _⟩ => ⟨S4x8x16x1x64, .f32⟩
  | .hbm, ⟨22, _⟩ => ⟨S1x8x1x8x1, .f32⟩
  | .hbm, ⟨23, _⟩ => ⟨S4x8x16x8x64, .f32⟩
  | .hbm, ⟨24, _⟩ => ⟨S4x8x16x8x64, .f32⟩
  | .hbm, ⟨25, _⟩ => ⟨S4x8x16x8x64, .f32⟩
  | .hbm, ⟨26, _⟩ => ⟨S4x128x512, .f32⟩
  | .hbm, ⟨27, _⟩ => ⟨S1x32x16x64, .f32⟩
  | .hbm, ⟨28, _⟩ => ⟨S32x16x64, .f32⟩
  | .hbm, ⟨29, _⟩ => ⟨S4x8x16x64, .f32⟩
  | .hbm, ⟨30, _⟩ => ⟨S4x8x16x1x64, .f32⟩
  | .hbm, ⟨31, _⟩ => ⟨S1x8x1x8x1, .f32⟩
  | .hbm, ⟨32, _⟩ => ⟨S4x8x16x8x64, .f32⟩
  | .hbm, ⟨33, _⟩ => ⟨S4x8x16x8x64, .f32⟩
  | .hbm, ⟨34, _⟩ => ⟨S4x8x16x8x64, .f32⟩
  | .hbm, ⟨35, _⟩ => ⟨S4x128x512, .f32⟩
  | .hbm, ⟨36, _⟩ => ⟨S1x2048, .f32⟩
  | .hbm, ⟨37, _⟩ => ⟨S1x2048, .f32⟩
  | .hbm, ⟨38, _⟩ => ⟨S4x128x512, .bf16⟩
  | .hbm, ⟨39, _⟩ => ⟨S4x128x512, .bf16⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x128x512, .bf16⟩
  | .local _ .vmem, ⟨15, _⟩ => ⟨S1x128x512, .bf16⟩
  | .local _ .vmem, ⟨16, _⟩ => ⟨S1x128x512, .bf16⟩
  | .local _ .vmem, ⟨17, _⟩ => ⟨S1x128x512, .bf16⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30_0 : Ref sig .tc := ⟨.hbm, 36, rfl⟩
abbrev main_v30_1 : Ref sig .tc := ⟨.hbm, 37, rfl⟩
abbrev main_v30_2 : Ref sig .tc := ⟨.hbm, 38, rfl⟩
abbrev main_v30_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S1x32x64 : Shape := ⟨3, ![1, 32, 64]⟩
abbrev S1x32 : Shape := ⟨2, ![1, 32]⟩
abbrev S1x32x64x16 : Shape := ⟨4, ![1, 32, 64, 16]⟩
abbrev S32 : Shape := ⟨1, ![32]⟩
abbrev S32x1 : Shape := ⟨2, ![32, 1]⟩
abbrev S32x64 : Shape := ⟨2, ![32, 64]⟩
abbrev S32x64x16 : Shape := ⟨3, ![32, 64, 16]⟩
abbrev S32x16x64 : Shape := ⟨3, ![32, 16, 64]⟩
abbrev S4x8x16x1x64 : Shape := ⟨5, ![4, 8, 16, 1, 64]⟩
abbrev S4x8x16x8x64 : Shape := ⟨5, ![4, 8, 16, 8, 64]⟩
abbrev S_ : Shape := ⟨0, ![]⟩
abbrev S4x128x512 : Shape := ⟨3, ![4, 128, 512]⟩
abbrev S4x1x512 : Shape := ⟨3, ![4, 1, 512]⟩
abbrev S1x2048 : Shape := ⟨2, ![1, 2048]⟩

abbrev nBuf : Space → Nat
  | .hbm => 71
  | .vmem => 0
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S1x32x64x16, .f32⟩
  | .hbm, ⟨4, _⟩ => ⟨S1x32x64x16, .f32⟩
  | .hbm, ⟨5, _⟩ => ⟨S32, .f32⟩
  | .hbm, ⟨6, _⟩ => ⟨S32x1, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64x16, .f32⟩
  | .hbm, ⟨11, _⟩ => ⟨S32x16x64, .f32⟩
  | .hbm, ⟨12, _⟩ => ⟨S4x8x16x1x64, .f32⟩
  | .hbm, ⟨13, _⟩ => ⟨S4x8x16x8x64, .f32⟩
  | .hbm, ⟨14, _⟩ => ⟨S4x8x16x8x64, .i32⟩
  | .hbm, ⟨15, _⟩ => ⟨S4x8x16x8x64, .i32⟩
  | .hbm, ⟨16, _⟩ => ⟨S4x8x16x8x64, .i1⟩
  | .hbm, ⟨17, _⟩ => ⟨S_, .f32⟩
  | .hbm, ⟨18, _⟩ => ⟨S4x8x16x8x64, .f32⟩
  | .hbm, ⟨19, _⟩ => ⟨S4x8x16x8x64, .f32⟩
  | .hbm, ⟨20, _⟩ => ⟨S4x128x512, .f32⟩
  | .hbm, ⟨21, _⟩ => ⟨S32x64x16, .f32⟩
  | .hbm, ⟨22, _⟩ => ⟨S32x16x64, .f32⟩
  | .hbm, ⟨23, _⟩ => ⟨S4x8x16x1x64, .f32⟩
  | .hbm, ⟨24, _⟩ => ⟨S4x8x16x8x64, .f32⟩
  | .hbm, ⟨25, _⟩ => ⟨S4x8x16x8x64, .i32⟩
  | .hbm, ⟨26, _⟩ => ⟨S4x8x16x8x64, .i32⟩
  | .hbm, ⟨27, _⟩ => ⟨S4x8x16x8x64, .i1⟩
  | .hbm, ⟨28, _⟩ => ⟨S_, .f32⟩
  | .hbm, ⟨29, _⟩ => ⟨S4x8x16x8x64, .f32⟩
  | .hbm, ⟨30, _⟩ => ⟨S4x8x16x8x64, .f32⟩
  | .hbm, ⟨31, _⟩ => ⟨S4x128x512, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64, .f32⟩
  | .hbm, ⟨36, _⟩ => ⟨S32x64, .f32⟩
  | .hbm, ⟨37, _⟩ => ⟨S32x64, .f32⟩
  | .hbm, ⟨38, _⟩ => ⟨S32x64, .f32⟩
  | .hbm, ⟨39, _⟩ => ⟨S32x64, .f32⟩
  | .hbm, ⟨40, _⟩ => ⟨S32x64, .f32⟩
  | .hbm, ⟨41, _⟩ => ⟨S_, .f32⟩
  | .hbm, ⟨42, _⟩ => ⟨S32x64, .f32⟩
  | .hbm, ⟨43, _⟩ => ⟨S32x64, .f32⟩
  | .hbm, ⟨44, _⟩ => ⟨S32x64, .f32⟩
  | .hbm, ⟨45, _⟩ => ⟨S32x64, .f32⟩
  | .hbm, ⟨46, _⟩ => ⟨S32x64, .f32⟩
  | .hbm, ⟨47, _⟩ => ⟨S32x64, .f32⟩
  | .hbm, ⟨48, _⟩ => ⟨S32x64, .f32⟩
  | .hbm, ⟨49, _⟩ => ⟨S32x64, .f32⟩
  | .hbm, ⟨50, _⟩ => ⟨S32x64, .f32⟩
  | .hbm, ⟨51, _⟩ => ⟨S4x1x512, .f32⟩
  | .hbm, ⟨52, _⟩ => ⟨S32x64, .f32⟩
  | .hbm, ⟨53, _⟩ => ⟨S32x64, .f32⟩
  | .hbm, ⟨54, _⟩ => ⟨S32x64, .f32⟩
  | .hbm, ⟨55, _⟩ => ⟨S32x64, .f32⟩
  | .hbm, ⟨56, _⟩ => ⟨S4x1x512, .f32⟩
  | .hbm, ⟨57, _⟩ => ⟨S1x2048, .f32⟩
  | .hbm, ⟨58, _⟩ => ⟨S1x2048, .f32⟩
  | .hbm, ⟨59, _⟩ => ⟨S4x128x512, .f32⟩
  | .hbm, ⟨60, _⟩ => ⟨S4x128x512, .f32⟩
  | .hbm, ⟨61, _⟩ => ⟨S4x128x512, .f32⟩
  | .hbm, ⟨62, _⟩ => ⟨S4x128x512, .f32⟩
  | .hbm, ⟨63, _⟩ => ⟨S4x128x512, .f32⟩
  | .hbm, ⟨64, _⟩ => ⟨S4x128x512, .f32⟩
  | .hbm, ⟨65, _⟩ => ⟨S4x128x512, .f32⟩
  | .hbm, ⟨66, _⟩ => ⟨S4x128x512, .f32⟩
  | .hbm, ⟨67, _⟩ => ⟨S4x128x512, .f32⟩
  | .hbm, ⟨68, _⟩ => ⟨S4x128x512, .f32⟩
  | .hbm, ⟨69, _⟩ => ⟨S4x128x512, .bf16⟩
  | .hbm, ⟨70, _⟩ => ⟨S4x128x512, .bf16⟩
  | _, _ => ⟨S1x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_1 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩

abbrev nD : Nat := 1
abbrev τ : Topo := Topo.v7x

variable {F : FTy → Type} [FloatOps F]
-- ==== Proof.InProjBody.lean ====
module

public import proofs.«01_k».proof.Proof.Gen.KernelIdeal.Value
public import Idealize.ShloMosaic.Lib.Pointwise

/-! # What the input projection's backward body leaves in its two output tiles, at either of its two cases -/

@[expose] public section

set_option maxRecDepth 16384

noncomputable section

namespace Cert.InProj

open Cert.KernelIdeal Cert.KernelIdeal.Gen Idealize.ShloMosaic Idealize.ShloMosaic.TcCoe Idealize.SL.Sem

variable {F : FTy → Type} [FloatOps F]

/-- Zero offsets. -/
theorem hz : (![0, 0] : Fin 2 → Nat) = fun _ => 0 := funext fun a => by fin_cases a <;> rfl

variable (c : Dev nD) (i : grid0.Coords) (a1 : Memref sig .tc .vmem S512x1024 .f32) (h1 : a1.IsWhole)
  (a2 : Memref sig .tc .vmem S1x1024 .f32) (h2 : a2.IsWhole) (a3 : Memref sig .tc .vmem S3328x1024 .bf16) (h3 : a3.IsWhole)
  (a4 : Memref sig .tc .vmem S512x1024 .f32) (h4 : a4.IsWhole) (a5 : Memref sig .tc .vmem S512x512 .bf16) (h5 : a5.IsWhole)
  (a6 : Memref sig .tc .vmem S512x256 .bf16) (h6 : a6.IsWhole) (a7 : Memref sig .tc .vmem S512x512 .bf16) (h7 : a7.IsWhole)
  (a8 : Memref sig .tc .vmem S512x2048 .bf16) (h8 : a8.IsWhole) (a9 : Memref sig .tc .vmem S512x1024 .f32) (h9 : a9.IsWhole)
  (a10 : Memref sig .tc .vmem S1x1024 .f32) (h10 : a10.IsWhole)
  (x0 : Vec F S512x1024 .f32) (x1 : Vec F S1x1024 .f32) (x2 : Vec F S3328x1024 .bf16) (x3 : Vec F S512x1024 .f32)
  (x4 : Vec F S512x512 .bf16) (x5 : Vec F S512x256 .bf16) (x6 : Vec F S512x512 .bf16) (x7 : Vec F S512x2048 .bf16)
  (xo : Vec F S1x1024 .f32)

/-- The stored tile of the input gradient, from the blocks the body loads. -/
def tileGrad : FVec F S512x1024 .f32 :=
  k0_pay3 x0 (k0_pay6 x0) x1
    (k0_pay7 x4 (View.ld x2 (Rect.unit ![0, 0] ![512, 1024] inb_S3328x1024_S512x1024_0_0))
      x5 (View.ld x2 (Rect.unit ![512, 0] ![256, 1024] inb_S3328x1024_S256x1024_512_0))
      x6 (View.ld x2 (Rect.unit ![768, 0] ![512, 1024] inb_S3328x1024_S512x1024_768_0)))
    (k0_pay8 x7) (View.ld x2 (Rect.unit ![1280, 0] ![2048, 1024] inb_S3328x1024_S2048x1024_1280_0)) x3

/-- The tile's contribution to the norm's gradient. -/
def tileNorm : FVec F S1x1024 .f32 :=
  k0_pay2 x0 (k0_pay6 x0)
    (k0_pay7 x4 (View.ld x2 (Rect.unit ![0, 0] ![512, 1024] inb_S3328x1024_S512x1024_0_0))
      x5 (View.ld x2 (Rect.unit ![512, 0] ![256, 1024] inb_S3328x1024_S256x1024_512_0))
      x6 (View.ld x2 (Rect.unit ![768, 0] ![512, 1024] inb_S3328x1024_S512x1024_768_0)))
    (k0_pay8 x7) (View.ld x2 (Rect.unit ![1280, 0] ![2048, 1024] inb_S3328x1024_S2048x1024_1280_0))

/-- First grid point: the gradient tile. -/
theorem out_A_8 (hc0 : cond0_0 i) (hc1 : ¬cond0_1 i) :
    out0_A_8 c i a1 h1 a2 h2 a3 h3 a4 h4 a5 h5 a6 h6 a7 h7 a8 h8 a9 h9 a10 h10 hc0 hc1 x0 x1 x2 x3 x4 x5 x6 x7 = tileGrad x0 x1 x2 x3 x4 x5 x6 x7 := by
  unfold out0_A_8
  rw [View.read_writes_eq_canon _ _ _ (cover0_A_8 c i a1 h1 a2 h2 a3 h3 a4 h4 a5 h5 a6 h6 a7 h7 a8 h8 a9 h9 a10 h10 hc0 hc1 x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread,
    h6.read_unread, h7.read_unread, h8.read_unread, View.ld_unit_zero (S := S512x1024) hz, View.ld_unit_zero (S := S1x1024) hz,
    View.ld_unit_zero (S := S512x512) hz, View.ld_unit_zero (S := S512x256) hz, View.ld_unit_zero (S := S512x2048) hz]
  rfl

/-- Later grid points: the gradient tile. -/
theorem out_B_8 (hc0 : ¬cond0_0 i) (hc1 : cond0_1 i) :
    out0_B_8 c i a1 h1 a2 h2 a3 h3 a4 h4 a5 h5 a6 h6 a7 h7 a8 h8 a9 h9 a10 h10 hc0 hc1 x0 x1 x2 x3 x4 x5 x6 x7 xo = tileGrad x0 x1 x2 x3 x4 x5 x6 x7 := by
  unfold out0_B_8
  rw [View.read_writes_eq_canon _ _ _ (cover0_B_8 c i a1 h1 a2 h2 a3 h3 a4 h4 a5 h5 a6 h6 a7 h7 a8 h8 a9 h9 a10 h10 hc0 hc1 x0 x1 x2 x3 x4 x5 x6 x7 xo)]
  unfold kernelRun0_B
  dsimp only
  sl_unfold_words
  rw [View.canon_unit_zero hz]
  simp only [View.readAt_eq_ld, h1.read_unread, h2.read_unread, h3.read_unread, h4.read_unread, h5.read_unread,
    h6.read_unread, h7.read_unread, h8.read_unread, View.ld_unit_zero (S := S512x1024) hz, View.ld_unit_zero (S := S1x1024) hz,
    View.ld_unit_zero (S := S512x512) hz, View.ld_unit_zero (S := S512x256) hz, View.ld_unit_zero (S := S512x2048) hz]
  rfl

/-- First grid point: the norm tile alone. -/
theorem out_A_9 (hc0 : cond0_0 i) (hc1 : ¬cond0_1 i) :
    out0_A_9 c i a1 h1 a2 h2 a3 h3 a4 h4 a5 h5 a6 h6 a7 h7 a8 h8 a9 h9 a10 h10 hc0 hc1 x0 x1 x2 x3 x4 x5 x6 x7 = tileNorm x0 x2 x4 x5 x6 x7 := by
  unfold out0_A_9
  rw [View.read_writes_eq_canon _ _ _ (cover0_A_9 c i a1 h1 a2 h2 a3 h3 a4 h4 a5 h5 a6 h6 a7 h7 a8 h8 a9 h9 a10 h10 hc0 hc1 x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread,
    h6.read_unread, h7.read_unread, h8.read_unread, View.ld_unit_zero (S := S512x1024) hz, View.ld_unit_zero (S := S1x1024) hz,
    View.ld_unit_zero (S := S512x512) hz, View.ld_unit_zero (S := S512x256) hz, View.ld_unit_zero (S := S512x2048) hz, k0_pay4, shapeCast_self]
  rfl

/-- Later grid points: the norm tile added to what the point before left. -/
theorem out_B_9 (hc0 : ¬cond0_0 i) (hc1 : cond0_1 i) :
    out0_B_9 c i a1 h1 a2 h2 a3 h3 a4 h4 a5 h5 a6 h6 a7 h7 a8 h8 a9 h9 a10 h10 hc0 hc1 x0 x1 x2 x3 x4 x5 x6 x7 xo = addf xo (tileNorm x0 x2 x4 x5 x6 x7) := by
  unfold out0_B_9
  rw [View.read_writes_eq_canon _ _ _ (cover0_B_9 c i a1 h1 a2 h2 a3 h3 a4 h4 a5 h5 a6 h6 a7 h7 a8 h8 a9 h9 a10 h10 hc0 hc1 x0 x1 x2 x3 x4 x5 x6 x7 xo)]
  unfold kernelRun0_B
  dsimp only
  sl_unfold_words
  rw [View.canon_unit_zero hz]
  simp only [View.readAt_eq_ld, h1.read_unread, h2.read_unread, h3.read_unread, h4.read_unread, h5.read_unread,
    h6.read_unread, h7.read_unread, h8.read_unread, View.ld_unit_zero (S := S512x1024) hz, View.ld_unit_zero (S := S1x1024) hz,
    View.ld_unit_zero (S := S512x512) hz, View.ld_unit_zero (S := S512x256) hz, View.ld_unit_zero (S := S512x2048) hz, h10.read_unread, k0_pay5, shapeCast_self]
  rfl

end Cert.InProj
end
-- ==== Proof.InProjSum.lean ====
module

public import Idealize.ShloMosaic.Lib.Pointwise

/-! # The input projection's cotangent row and its product with a weight row

The kernel holds the projection's cotangent as four column groups (queries, keys and values, the recurrence's input,
the two gates); the reference joins its six pieces into one row of 3328. -/

@[expose] public section

noncomputable section

namespace Cert.InProj

/-- Two rows joined end to end. -/
def join {a b : Nat} (n : Nat) (x : Fin a → EReal) (y : Fin b → EReal) (hn : n = a + b) (j : Fin n) : EReal :=
  if h : j.val < a then x ⟨j.val, h⟩ else y ⟨j.val - a, by omega⟩

/-- The joined cotangent row: queries, keys, values, recurrence input, attention gate, recurrence gate. -/
def row (q : Fin 512 → EReal) (k v : Fin 128 → EReal) (u : Fin 512 → EReal) (a s : Fin 1024 → EReal) : Fin 3328 → EReal :=
  join 3328 q (join 2816 k (join 2688 v (join 2560 u (join 2048 a s rfl) rfl) rfl) rfl) rfl

/-- A sum over a joined row, piece by piece. -/
theorem sum_join {a b : Nat} (n : Nat) (x : Fin a → EReal) (y : Fin b → EReal) (hn : n = a + b) (w : Fin n → EReal) :
    ∑ j, join n x y hn j * w j
      = ∑ i : Fin a, x i * w ⟨i.val, by omega⟩ + ∑ i : Fin b, y i * w ⟨a + i.val, by omega⟩ := by
  subst hn
  rw [Fin.sum_univ_add]
  congr 1
  · refine Finset.sum_congr rfl fun i _ => ?_
    simp [join]; rfl
  · refine Finset.sum_congr rfl fun i _ => ?_
    simp [join]; rfl

/-- The joined row's product with a weight row is the sum of the four column groups' products. -/
theorem sum_row (q : Fin 512 → EReal) (k v : Fin 128 → EReal) (u : Fin 512 → EReal) (a s : Fin 1024 → EReal)
    (w : Fin 3328 → EReal) :
    ∑ j, row q k v u a s j * w j
      = ∑ i : Fin 512, q i * w ⟨i.val, by omega⟩ + ∑ i : Fin 256, join 256 k v rfl i * w ⟨512 + i.val, by omega⟩
        + ∑ i : Fin 512, u i * w ⟨768 + i.val, by omega⟩ + ∑ i : Fin 2048, join 2048 a s rfl i * w ⟨1280 + i.val, by omega⟩ := by
  unfold row
  rw [sum_join, sum_join 2816 _ _ rfl fun i => w ⟨512 + i.val, by omega⟩,
    sum_join 2688 _ _ rfl fun i => w ⟨512 + (128 + i.val), by omega⟩,
    sum_join 2560 _ _ rfl fun i => w ⟨512 + (128 + (128 + i.val)), by omega⟩,
    sum_join 256 _ _ rfl fun i => w ⟨512 + i.val, by omega⟩]
  simp only [← add_assoc, Nat.reduceAdd]

end Cert.InProj

end
-- ==== Proof.Rms.lean ====
module

public import Idealize.ShloMosaic.Lib.Pointwise

/-! # One row of an RMS norm over the extended reals

The reciprocal root mean square of a row of length 1024, and the identity between the two ways of writing the
gradient of the normalised row: the hand-written one (`r * t - x * r³ * mean (t x)`) and the one that differentiation
of the forward lines gives (`t * r + x * c + c * x`). It holds for every row, infinite entries included. -/

@[expose] public section

noncomputable section

namespace Cert.Rms

open Idealize.ShloMosaic

/-- The f32 word of 1024. -/
theorem word_1024 : Ideal.ofBits .f32 1149239296#32 = ((1024 : ℝ) : EReal) := by
  simp [Ideal.ofBits, Ideal.ieee, -EReal.coe_mul]; norm_num

/-- The f32 word of -1/2. -/
theorem word_neg_half : Ideal.ofBits .f32 3204448256#32 = ((-(1 / 2) : ℝ) : EReal) := by
  simp [Ideal.ofBits, Ideal.ieee, -EReal.coe_mul]; norm_num

/-- The f32 word of the norm's epsilon is a positive real. -/
theorem word_eps : ∃ e : ℝ, 0 < e ∧ Ideal.ofBits .f32 897988541#32 = (e : EReal) := by
  refine ⟨_, ?_, by simp only [Ideal.ofBits, Ideal.ieee]; simp [-EReal.coe_mul]; rfl⟩
  norm_num

/-- The mean square of a row plus epsilon. -/
def meanSq (x : Fin 1024 → EReal) : EReal :=
  Ideal.div (∑ k, x k * x k) (Ideal.ofBits .f32 1149239296#32) + Ideal.ofBits .f32 897988541#32

/-- The reciprocal root mean square of a row. -/
def inv (x : Fin 1024 → EReal) : EReal := Ideal.rsqrt (meanSq x)

theorem mul_self_nonneg (a : EReal) : 0 ≤ a * a := by
  induction a with
  | bot => simp
  | top => simp
  | coe r => exact_mod_cast _root_.mul_self_nonneg r

/-- A mean square plus epsilon is infinite or a positive real. -/
theorem meanSq_cases (x : Fin 1024 → EReal) : meanSq x = ⊤ ∨ ∃ v : ℝ, 0 < v ∧ meanSq x = (v : EReal) := by
  obtain ⟨e, he, hw⟩ := word_eps
  have hs : 0 ≤ ∑ k, x k * x k := Finset.sum_nonneg fun k _ => mul_self_nonneg (x k)
  unfold meanSq
  rw [hw, word_1024, Ideal.div_coe (by norm_num)]
  generalize (∑ k, x k * x k) = s at hs
  induction s with
  | bot => exact absurd hs (by simp)
  | top => left; rw [EReal.top_mul_coe_of_pos (by norm_num)]; rfl
  | coe r =>
    right
    have hr : 0 ≤ r := by exact_mod_cast hs
    refine ⟨r * (1 / 1024) + e, by positivity, ?_⟩
    push_cast
    rfl

/-- Dividing the reciprocal root by the mean square cubes it. -/
theorem inv_div (x : Fin 1024 → EReal) : Ideal.div (inv x) (meanSq x) = inv x * inv x * inv x := by
  unfold inv
  rcases meanSq_cases x with h | ⟨v, hv, h⟩
  · rw [h]; simp [Ideal.div]
  · rw [h, Ideal.rsqrt_coe, if_neg (not_lt.mpr hv.le), if_neg hv.ne', Ideal.div_coe hv.ne']
    norm_cast
    have hs : Real.sqrt v * Real.sqrt v = v := Real.mul_self_sqrt hv.le
    have h0 : Real.sqrt v ≠ 0 := (Real.sqrt_pos.mpr hv).ne'
    nth_rewrite 2 [← hs]
    field_simp

/-- Twice minus one half of a number is its negative. -/
theorem halves (k : EReal) : ((-(1 / 2) : ℝ) : EReal) * k + ((-(1 / 2) : ℝ) : EReal) * k = -k := by
  induction k with
  | bot => rw [EReal.coe_mul_bot_of_neg (by norm_num)]; rfl
  | top => rw [EReal.coe_mul_top_of_neg (by norm_num)]; rfl
  | coe r => norm_cast; ring

/-- The two spellings of the row's gradient agree. -/
theorem grad_eq (x : Fin 1024 → EReal) (b t xd s : EReal) :
    b + t * inv x
      + xd * Ideal.div (s * (Ideal.ofBits .f32 3204448256#32 * Ideal.div (inv x) (meanSq x))) (Ideal.ofBits .f32 1149239296#32)
      + Ideal.div (s * (Ideal.ofBits .f32 3204448256#32 * Ideal.div (inv x) (meanSq x))) (Ideal.ofBits .f32 1149239296#32) * xd
    = b + (inv x * t - xd * (inv x * inv x * inv x) * Ideal.div s (Ideal.ofBits .f32 1149239296#32)) := by
  rw [inv_div, word_1024, word_neg_half, Ideal.div_coe (by norm_num), Ideal.div_coe (by norm_num)]
  generalize inv x = r
  rw [add_assoc, sub_eq_add_neg, ← halves, mul_comm t r, add_assoc]
  congr 3 <;> ac_rfl

end Cert.Rms

end
-- ==== Proof.InProjTile.lean ====
module

public import proofs.«01_k».proof.Proof.InProjBody
public import proofs.«01_k».proof.Proof.InProjSum
public import proofs.«01_k».proof.Proof.Rms
public import Idealize.ShloMosaic.Lib.Pipeline.ValueKit
public import Idealize.ShloMosaic.Lib.Claim

/-! # The body's two tiles, entry by entry, and its input blocks as parts of the arguments -/

@[expose] public section

set_option maxRecDepth 16384

noncomputable section

namespace Cert.InProj

open Cert.KernelIdeal Cert.KernelIdeal.Gen Idealize.ShloMosaic Idealize.ShloMosaic.TcCoe Idealize.SL.Sem

section Tile

variable (x0 : Vec Ideal S512x1024 .f32) (x1 : Vec Ideal S1x1024 .f32) (x2 : Vec Ideal S3328x1024 .bf16) (x3 : Vec Ideal S512x1024 .f32)
  (x4 : Vec Ideal S512x512 .bf16) (x5 : Vec Ideal S512x256 .bf16) (x6 : Vec Ideal S512x512 .bf16) (x7 : Vec Ideal S512x2048 .bf16)

/-- The cotangent of the normalised row, as the body sums it: four products. -/
def tileDh (r : Fin 512) (d : Fin 1024) : EReal :=
  (∑ i : Fin 512, x4 (ix2 r i) * x2 (ix2 ⟨i.val, by omega⟩ d) : EReal) + (∑ i : Fin 256, x5 (ix2 r i) * x2 (ix2 ⟨512 + i.val, by omega⟩ d) : EReal)
    + (∑ i : Fin 512, x6 (ix2 r i) * x2 (ix2 ⟨768 + i.val, by omega⟩ d) : EReal) + (∑ i : Fin 2048, x7 (ix2 r i) * x2 (ix2 ⟨1280 + i.val, by omega⟩ d) : EReal)

/-- A row of the tile. -/
abbrev tileRow (r : Fin 512) : Fin 1024 → EReal := fun k => x0 (ix2 r k)

theorem tileGrad_apply (r : Fin 512) (d : Fin 1024) : (tileGrad x0 x1 x2 x3 x4 x5 x6 x7 (ix2 r d) : EReal)
    = x3 (ix2 r d) + (Rms.inv (tileRow x0 r) * (tileDh x2 x4 x5 x6 x7 r d * x1 (ix2 0 d))
      - x0 (ix2 r d) * (Rms.inv (tileRow x0 r) * Rms.inv (tileRow x0 r) * Rms.inv (tileRow x0 r))
        * Ideal.div (∑ k : Fin 1024, tileDh x2 x4 x5 x6 x7 r k * x1 (ix2 0 k) * x0 (ix2 r k)) (Ideal.ofBits .f32 1149239296#32)) := by
  pointwise [tileGrad, k0_pay3, k0_pay6, k0_pay7, k0_pay8, k0_pay1]
  rfl

theorem tileNorm_apply (d : Fin 1024) : (tileNorm x0 x2 x4 x5 x6 x7 (ix2 0 d) : EReal)
    = ∑ r : Fin 512, tileDh x2 x4 x5 x6 x7 r d * x0 (ix2 r d) * Rms.inv (tileRow x0 r) := by
  pointwise [tileNorm, k0_pay2, k0_pay6, k0_pay7, k0_pay8, k0_pay1]
  rfl

end Tile

variable (m : (ℓ : Loc nD τ sig) → Buf (Elt Ideal) ℓ) (c : Dev nD) (t : Fin cfg0.N)

/-- Each window's block index at each grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0]
    ∧ win0_9.index t = ![0, 0] := by decide +kernel

/-- Row `r` of grid point `t`'s blocks, as a row of the arrays. -/
def at_ (t : Fin cfg0.N) (r : Fin 512) : Fin 4096 :=
  ⟨512 * t.val + r.val, by have h : t.val < 8 := t.isLt; omega⟩

theorem blk0 (r : Fin 512) (d : Fin 1024) :
    (iblk m c 0 t : Vec Ideal S512x1024 .f32) (ix2 r d) = m (c.tc.loc main_arg0) (ix2 (at_ t r) d) := by
  unfold at_; blk_point [iblk, V, idx t]

theorem blk1 (d : Fin 1024) :
    (iblk m c 1 t : Vec Ideal S1x1024 .f32) (ix2 0 d) = m (c.tc.loc main_arg1) (ix2 0 d) := by
  blk_point [iblk, V, idx t]

theorem blk2 (k : Fin 3328) (d : Fin 1024) :
    (iblk m c 2 t : Vec Ideal S3328x1024 .bf16) (ix2 k d) = m (c.tc.loc main_arg2) (ix3 0 d k) := by
  blk_point [iblk, V, idx t]

theorem blk3 (r : Fin 512) (d : Fin 1024) :
    (iblk m c 3 t : Vec Ideal S512x1024 .f32) (ix2 r d) = m (c.tc.loc main_arg3) (ix2 (at_ t r) d) := by
  unfold at_; blk_point [iblk, V, idx t]

theorem blk4 (r : Fin 512) (d : Fin 512) :
    (iblk m c 4 t : Vec Ideal S512x512 .bf16) (ix2 r d) = m (c.tc.loc main_arg4) (ix2 (at_ t r) d) := by
  unfold at_; blk_point [iblk, V, idx t]

theorem blk6 (r : Fin 512) (d : Fin 512) :
    (iblk m c 6 t : Vec Ideal S512x512 .bf16) (ix2 r d) = m (c.tc.loc main_arg7) (ix2 (at_ t r) d) := by
  unfold at_; blk_point [iblk, V, idx t]

theorem blk5 (r : Fin 512) (k : Fin 256) : (iblk m c 5 t : Vec Ideal S512x256 .bf16) (ix2 r k)
    = join 256 (fun j : Fin 128 => m (c.tc.loc main_arg5) (ix2 (at_ t r) j)) (fun j : Fin 128 => m (c.tc.loc main_arg6) (ix2 (at_ t r) j)) rfl k := by
  unfold join at_
  blk_simp [iblk, V, idx t]
  entry_read
  pointwise []
  refine dite_congr (congrArg (fun n : ℕ => n < 128) (by blk_simp [idx t])) (fun h => ?_) (fun h => ?_) <;> blk_ext [idx t]

theorem blk7 (r : Fin 512) (k : Fin 2048) : (iblk m c 7 t : Vec Ideal S512x2048 .bf16) (ix2 r k)
    = join 2048 (fun j : Fin 1024 => m (c.tc.loc main_arg8) (ix2 (at_ t r) j)) (fun j : Fin 1024 => m (c.tc.loc main_arg9) (ix2 (at_ t r) j)) rfl k := by
  unfold join at_
  blk_simp [iblk, V, idx t]
  entry_read
  pointwise []
  refine dite_congr (congrArg (fun n : ℕ => n < 1024) (by blk_simp [idx t])) (fun h => ?_) (fun h => ?_) <;> blk_ext [idx t]

end Cert.InProj

end
-- ==== Proof.InProjRef.lean ====
module

public import proofs.«01_k».proof.Proof.InProjSum
public import proofs.«01_k».proof.Proof.Rms
public import proofs.«01_k».proof.Proof.Gen.ReferenceIdeal.Read
public import Idealize.ShloMosaic.Lib.Pipeline.ValueKit
public import Idealize.ShloMosaic.Lib.Claim

/-! # The reference's two results, entry by entry

The gradient of the step's input, and of the norm's scale, as functions of the argument arrays' entries. The kernel's
run is brought to the same two functions. -/

@[expose] public section

set_option maxRecDepth 16384

noncomputable section

namespace Cert.InProj

open Cert.ReferenceIdeal Cert.ReferenceIdeal.Gen Idealize.ShloMosaic Idealize.ShloMosaic.TcCoe Idealize.SL.Sem Cert.ReferenceIdeal.Read

variable (x0 : (⟨S4096x1024, .f32⟩ : BufTy).Contents (Elt Ideal)) (x1 : (⟨S1x1024, .f32⟩ : BufTy).Contents (Elt Ideal))
  (x2 : (⟨S1x1024x3328, .f32⟩ : BufTy).Contents (Elt Ideal)) (x3 : (⟨S4096x1024, .f32⟩ : BufTy).Contents (Elt Ideal))
  (x4 : (⟨S4096x512, .f32⟩ : BufTy).Contents (Elt Ideal)) (x5 x6 : (⟨S4096x128, .f32⟩ : BufTy).Contents (Elt Ideal))
  (x7 : (⟨S4096x512, .f32⟩ : BufTy).Contents (Elt Ideal)) (x8 x9 : (⟨S4096x1024, .f32⟩ : BufTy).Contents (Elt Ideal))

/-- The cotangent of the normalised input at row `i`, column `d`: the projection's cotangent row times the weight's row. -/
def dhArg (i : Fin 4096) (d : Fin 1024) : EReal :=
  ∑ k : Fin 3328, row (fun j => x4 (ix2 i j)) (fun j => x5 (ix2 i j)) (fun j => x6 (ix2 i j)) (fun j => x7 (ix2 i j))
    (fun j => x8 (ix2 i j)) (fun j => x9 (ix2 i j)) k * x2 (ix3 0 d k)

/-- A row of the input. -/
abbrev argRow (i : Fin 4096) : Fin 1024 → EReal := fun k => x0 (ix2 i k)

/-- The input's gradient at row `i`, column `d`, written out by hand. -/
def gradArg (i : Fin 4096) (d : Fin 1024) : EReal :=
  x3 (ix2 i d) + (Rms.inv (argRow x0 i) * (dhArg x2 x4 x5 x6 x7 x8 x9 i d * x1 (ix2 0 d))
    - x0 (ix2 i d) * (Rms.inv (argRow x0 i) * Rms.inv (argRow x0 i) * Rms.inv (argRow x0 i))
      * Ideal.div (∑ k : Fin 1024, dhArg x2 x4 x5 x6 x7 x8 x9 i k * x1 (ix2 0 k) * x0 (ix2 i k)) (Ideal.ofBits .f32 1149239296#32))

/-- The norm scale's gradient at column `d`. -/
def normArg (d : Fin 1024) : EReal :=
  ∑ i : Fin 4096, dhArg x2 x4 x5 x6 x7 x8 x9 i d * x0 (ix2 i d) * Rms.inv (argRow x0 i)

theorem cat_apply (i : Fin 4096) (k : Fin 3328) :
    (val_main_v25 (F := Ideal) x4 x5 x6 x7 x8 x9 (ix2 i k) : EReal)
      = row (fun j => x4 (ix2 i j)) (fun j => x5 (ix2 i j)) (fun j => x6 (ix2 i j)) (fun j => x7 (ix2 i j))
          (fun j => x8 (ix2 i j)) (fun j => x9 (ix2 i j)) k := by
  unfold val_main_v25
  pointwise []
  rfl

theorem dh_apply (i : Fin 4096) (d : Fin 1024) :
    (val_main_v26 (F := Ideal) x2 x4 x5 x6 x7 x8 x9 (ix2 i d) : EReal) = dhArg x2 x4 x5 x6 x7 x8 x9 i d := by
  rw [val_main_v26_apply]
  refine Finset.sum_congr rfl fun k _ => ?_
  rw [← cat_apply]
  congr 1
  · congr 1; blk_ext []
  · unfold val_main_v17; pointwise []; congr 1; blk_ext []

/-- The reference's first result. -/
theorem v47_apply (i : Fin 4096) (d : Fin 1024) :
    (val_main_v47 (F := Ideal) x0 x1 x2 x3 x4 x5 x6 x7 x8 x9 (ix2 i d) : EReal) = gradArg x0 x1 x2 x3 x4 x5 x6 x7 x8 x9 i d := by
  have hdh := dh_apply x2 x4 x5 x6 x7 x8 x9
  unfold gradArg
  simp only [← hdh]
  clear hdh
  unfold val_main_v47 val_main_v46 val_main_v45 val_main_v44 val_main_v43 val_main_v42 val_main_v41 val_main_v40 val_main_v39 val_main_v38 val_main_v37 val_main_v36 val_main_v35 val_main_v34 val_main_v33 val_main_v31 val_main_v30 val_main_v14 val_main_v11 val_main_v10 val_main_v9 val_main_v8 val_main_v7 val_main_v6 val_main_v5 val_main_v4 val_main_v3 val_main_v2 val_main_v1 val_main_v0 val_main_cst val_main_cst_0 val_main_cst_1 val_main_cst_2 val_main_cst_5 val_main_cst_6 val_main_cst_7
  generalize val_main_v26 (F := Ideal) x2 x4 x5 x6 x7 x8 x9 = dh
  rw [← Rms.grad_eq]
  pointwise []
  simp only [Finset.univ_unique, Finset.sum_singleton]
  simp only [Rms.inv, Rms.meanSq, mul_comm (x0 _)]

/-- The reference's second result. -/
theorem v48_apply (d : Fin 1024) :
    (val_main_v48 (F := Ideal) x0 x2 x4 x5 x6 x7 x8 x9 (ix2 0 d) : EReal) = normArg x0 x2 x4 x5 x6 x7 x8 x9 d := by
  have hdh := dh_apply x2 x4 x5 x6 x7 x8 x9
  unfold normArg
  simp only [← hdh]
  clear hdh
  unfold val_main_v48 val_main_v32 val_main_v29 val_main_v28 val_main_v27 val_main_v13 val_main_v12 val_main_v8 val_main_v7 val_main_v6 val_main_v5 val_main_v4 val_main_v3 val_main_v2 val_main_v1 val_main_cst val_main_cst_0 val_main_cst_1 val_main_cst_3 val_main_cst_4
  generalize val_main_v26 (F := Ideal) x2 x4 x5 x6 x7 x8 x9 = dh
  pointwise []
  simp only [Finset.univ_unique, Finset.sum_singleton]
  refine Finset.sum_congr rfl fun i _ => ?_
  simp only [Rms.inv, Rms.meanSq]
  ac_rfl

end Cert.InProj

end
-- ==== Proof.InProjValue.lean ====
module

public import proofs.«01_k».proof.Proof.InProjTile
public import proofs.«01_k».proof.Proof.InProjRef

/-! # What the kernel's run leaves in its two results -/

@[expose] public section

set_option maxRecDepth 16384

noncomputable section

namespace Cert.InProj

open Cert.KernelIdeal Cert.KernelIdeal.Gen Idealize.ShloMosaic Idealize.ShloMosaic.TcCoe Idealize.SL.Sem

variable (m : (ℓ : Loc nD τ sig) → Buf (Elt Ideal) ℓ) (c : Dev nD)

/-- The cotangent of the normalised input, of the run's arguments. -/
abbrev dhOf (i : Fin 4096) (d : Fin 1024) : EReal :=
  dhArg (m (c.tc.loc main_arg2)) (m (c.tc.loc main_arg4)) (m (c.tc.loc main_arg5)) (m (c.tc.loc main_arg6))
    (m (c.tc.loc main_arg7)) (m (c.tc.loc main_arg8)) (m (c.tc.loc main_arg9)) i d

theorem tileDh_blk (t : Fin cfg0.N) (r : Fin 512) (d : Fin 1024) :
    tileDh (iblk m c 2 t) (iblk m c 4 t) (iblk m c 5 t) (iblk m c 6 t) (iblk m c 7 t) r d = dhOf m c (at_ t r) d := by
  unfold dhOf dhArg
  rw [sum_row]
  unfold tileDh
  simp only [blk2, blk4, blk5, blk6, blk7]

theorem row_blk (t : Fin cfg0.N) (r : Fin 512) : tileRow (iblk m c 0 t) r = argRow (m (c.tc.loc main_arg0)) (at_ t r) :=
  funext fun k => blk0 m c t r k

theorem after8 (t : Fin cfg0.N) : (outsAt0 m c t.val t.isLt).1
    = tileGrad (iblk m c 0 t) (iblk m c 1 t) (iblk m c 2 t) (iblk m c 3 t) (iblk m c 4 t) (iblk m c 5 t) (iblk m c 6 t) (iblk m c 7 t) := by
  by_cases h0 : t.val % 8 = 0
  · have h1 : ¬1 ≤ t.val := by have h : t.val < 8 := t.isLt; omega
    rw [outsAt0_A m c t h0 h1]
    dsimp only
    rw [out_A_8]
  · have h1 : 1 ≤ t.val := by omega
    rw [outsAt0_B m c t h0 h1]
    dsimp only
    rw [out_B_8]

/-- The run's first result is the hand-written gradient of the input. -/
theorem final8 : (dats m 0 c).arrAt 8 cfg0.N = (fun i => gradArg (m (c.tc.loc main_arg0)) (m (c.tc.loc main_arg1)) (m (c.tc.loc main_arg2))
    (m (c.tc.loc main_arg3)) (m (c.tc.loc main_arg4)) (m (c.tc.loc main_arg5)) (m (c.tc.loc main_arg6))
    (m (c.tc.loc main_arg7)) (m (c.tc.loc main_arg8)) (m (c.tc.loc main_arg9)) (i 0) (i 1) : Vec Ideal S4096x1024 .f32) := by
  refine (dats m 0 c).arrAt_eq_of_covers 8 _ (by decide +kernel) fun t hf y => ?_
  blk_simp
  rw [after0_8, after8]
  obtain ⟨r, d, rfl⟩ : ∃ (r : Fin 512) (d : Fin 1024), y = ix2 r d := ⟨y 0, y 1, by funext a; fin_cases a <;> rfl⟩
  have e0 : ((win0_8.blk t).view.emb (ix2 r d) 0 : Fin 4096) = at_ t r := Fin.ext (by unfold at_; blk_simp [idx t]; simp; omega)
  have e1 : ((win0_8.blk t).view.emb (ix2 r d) 1 : Fin 1024) = d := Fin.ext (by blk_simp [idx t])
  rw [e0, e1]
  refine (tileGrad_apply _ _ _ _ _ _ _ _ r d).trans ?_
  unfold gradArg
  rw [row_blk, blk3, blk1, blk0, tileDh_blk]
  simp only [tileDh_blk, blk0, blk1]

/-- The tile's contribution to the norm scale's gradient, of the run's arguments. -/
theorem norm_blk (t : Fin cfg0.N) (d : Fin 1024) :
    (tileNorm (iblk m c 0 t) (iblk m c 2 t) (iblk m c 4 t) (iblk m c 5 t) (iblk m c 6 t) (iblk m c 7 t) (ix2 0 d) : EReal)
      = ∑ r : Fin 512, dhOf m c (at_ t r) d * m (c.tc.loc main_arg0) (ix2 (at_ t r) d) * Rms.inv (argRow (m (c.tc.loc main_arg0)) (at_ t r)) := by
  rw [tileNorm_apply]
  refine Finset.sum_congr rfl fun r _ => ?_
  rw [tileDh_blk, blk0, row_blk]

/-- The norm scale's gradient after the last grid point: every tile's contribution, summed. -/
theorem after9 (d : Fin 1024) : ((outsAt0 m c 7 (by decide)).2 (ix2 0 d) : EReal)
    = normArg (m (c.tc.loc main_arg0)) (m (c.tc.loc main_arg2)) (m (c.tc.loc main_arg4)) (m (c.tc.loc main_arg5)) (m (c.tc.loc main_arg6))
    (m (c.tc.loc main_arg7)) (m (c.tc.loc main_arg8)) (m (c.tc.loc main_arg9)) d := by
  have h := Pipeline.eq_sum_fin_of_reset_step_apply_last (N := cfg0.N) (M := EReal) (fun n h (d : Fin 1024) => (outsAt0 m c n h).2 (ix2 0 d)) 8 (fun _ => 0)
    (fun t d => tileNorm (iblk m c 0 t) (iblk m c 2 t) (iblk m c 4 t) (iblk m c 5 t) (iblk m c 6 t) (iblk m c 7 t) (ix2 0 d))
    (fun t h0 d => by
      have h1 : ¬1 ≤ t.val := by have h : t.val < 8 := t.isLt; omega
      rw [outsAt0_A m c t h0 h1]
      dsimp only
      rw [out_A_9, zero_add])
    (fun t h0 d => by
      have h1 : 1 ≤ t.val := by omega
      rw [outsAt0_B m c t h0 h1]
      dsimp only
      rw [out_B_9]
      rfl)
    (by decide) ⟨7, by decide⟩ rfl d
  refine h.trans ?_
  rw [zero_add]
  simp only [norm_blk]
  unfold normArg
  refine Eq.trans (b := ∑ _a : Fin 1, ∑ i : Fin 4096, dhOf m c i d * m (c.tc.loc main_arg0) (ix2 i d) * Rms.inv (argRow (m (c.tc.loc main_arg0)) i))
    (Fin.sum_points_lanes_congr (N := cfg0.N) 8 fun t k ha hl => ?_) ?_
  · have e : at_ t k = ⟨t.val % 8 * 512 + k.val, hl⟩ := Fin.ext (by have h : t.val < 8 := t.isLt; simp only [at_]; omega)
    rw [e]
  · simp only [Finset.univ_unique, Finset.sum_singleton]

end Cert.InProj

end
-- ==== Proof.InProjClaims.lean ====
module

public import proofs.«01_k».proof.Defs
public import proofs.«01_k».proof.Proof.InProjValue

/-! # The claims about the input projection's backward call -/

@[expose] public section

set_option maxRecDepth 16384

noncomputable section

namespace Cert.InProj

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The run's second result is the gradient of the norm's scale. -/
theorem final9 : (dats m 0 c).arrAt 9 cfg0.N = (fun i => normArg (m (c.tc.loc main_arg0)) (m (c.tc.loc main_arg2))
    (m (c.tc.loc main_arg4)) (m (c.tc.loc main_arg5)) (m (c.tc.loc main_arg6))
    (m (c.tc.loc main_arg7)) (m (c.tc.loc main_arg8)) (m (c.tc.loc main_arg9)) (i 1) : Vec Ideal S1x1024 .f32) := by
  refine (dats m 0 c).arrAt_eq_of_after_last 9 t0_7 (by decide +kernel) _ fun j => ?_
  blk_simp
  rw [after0_9]
  obtain ⟨d, rfl⟩ : ∃ (d : Fin 1024), j = ix2 0 d := ⟨j 1, by
    funext a; fin_cases a
    · exact Subsingleton.elim (α := Fin 1) _ _
    · rfl⟩
  exact after9 m c d

/-- The reference's frame: it has no semaphores and keeps its arguments. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- Over the extended reals the call computes what differentiating the reference's forward lines gives. -/
theorem algebraic : Cert.algebraic_KernelIdeal_ReferenceIdeal := fun m ρ m' ρ' _ hag => by
  refine ⟨fun c => _, fun c => _, (θ_run _ _ _).mono (fun r h c => ⟨(h c).1.trans (final8 m c), (h c).2.1.trans (final9 m c), (h c).2.2⟩)
    (Cert.KernelIdeal.Value.run_blocks (F := Ideal) m ρ), (θ_run _ _ _).mono (fun r h c => ⟨(h c).1.trans ?_, (h c).2.1.trans ?_, (h c).2.2⟩)
    (Cert.ReferenceIdeal.Value.run (F := Ideal) m' ρ')⟩
  · obtain ⟨e0, e1, e2, e3, e4, e5, e6, e7, e8, e9⟩ := hag c
    rw [Cert.ReferenceIdeal.Read.val_main_v47_eq, e0, e1, e2, e3, e4, e5, e6, e7, e8, e9]
    funext i
    obtain ⟨r, d, rfl⟩ : ∃ (r : Fin 4096) (d : Fin 1024), i = ix2 r d := ⟨i 0, i 1, by funext a; fin_cases a <;> rfl⟩
    exact v47_apply _ _ _ _ _ _ _ _ _ _ r d
  · obtain ⟨e0, e1, e2, e3, e4, e5, e6, e7, e8, e9⟩ := hag c
    rw [Cert.ReferenceIdeal.Read.val_main_v48_eq, e0, e2, e4, e5, e6, e7, e8, e9]
    funext i
    obtain ⟨d, rfl⟩ : ∃ (d : Fin 1024), i = ix2 0 d := ⟨i 1, by
      funext a; fin_cases a
      · exact Subsingleton.elim (α := Fin 1) _ _
      · rfl⟩
    exact v48_apply _ _ _ _ _ _ _ _ d

end Cert.InProj

end
-- ==== Proof.AttnKit.lean ====
module

public import proofs.«01_k».proof.Proof.Gen.Kernel2Ideal.Frame
public import proofs.«01_k».proof.Proof.Gen.Kernel2Ideal.Skeleton
public import proofs.«01_k».proof.Proof.Gen.Kernel2Ideal.Loops

set_option maxRecDepth 16384

/-! The operands and branch conditions of the attention gradient's kernel. -/

@[expose] public section

noncomputable section

namespace Cert.Kernel2Ideal

variable {F : Idealize.ShloMosaic.FTy → Type} [Idealize.ShloMosaic.FloatOps F]

/-! The printed parts that read no named constant, as their skeletons. -/
theorem k0_part1_eq_skeleton : k0_part1 (F := F) = Gen.k0_part1_skel (F := F) := rfl
theorem k0_part2_eq_skeleton : k0_part2 (F := F) = Gen.k0_part2_skel (F := F) := rfl
theorem k0_part3_eq_skeleton : k0_part3 (F := F) = Gen.k0_part3_skel (F := F) := rfl
theorem k0_part4_eq_skeleton : k0_part4 (F := F) = Gen.k0_part4_skel (F := F) := rfl
theorem k0_part5_eq_skeleton : k0_part5 (F := F) = Gen.k0_part5_skel (F := F) := rfl
theorem k0_part6_eq_skeleton : k0_part6 (F := F) = Gen.k0_part6_skel (F := F) := rfl
theorem k0_part8_eq_skeleton : k0_part8 (F := F) = Gen.k0_part8_skel (F := F) := rfl
theorem k0_part9_eq_skeleton : k0_part9 (F := F) = Gen.k0_part9_skel (F := F) := rfl
theorem k0_part10_eq_skeleton : k0_part10 (F := F) = Gen.k0_part10_skel (F := F) := rfl
theorem k0_part11_eq_skeleton : k0_part11 (F := F) = Gen.k0_part11_skel (F := F) := rfl
theorem k0_part12_eq_skeleton : k0_part12 (F := F) = Gen.k0_part12_skel (F := F) := rfl
theorem k0_part13_eq_skeleton : k0_part13 (F := F) = Gen.k0_part13_skel (F := F) := rfl
theorem k0_part14_eq_skeleton : k0_part14 (F := F) = Gen.k0_part14_skel (F := F) := rfl

end Cert.Kernel2Ideal

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F] [Named F]

local notation "𝕄" => MT nD τ sig Unit (Elt F) ℕ (UR sig nD τ) ℕ

/-- The kernel's branches, from the grid coordinates: the first point; a point with queries; a point with a previous one; the last point. -/
abbrev cond0_0 (i : grid0.Coords) : Prop := k0_cond1 i = 1#1
abbrev cond0_1 (i : grid0.Coords) : Prop := k0_cond2 i = 1#1
abbrev cond0_2 (i : grid0.Coords) : Prop := k0_cond3 i = 1#1
abbrev cond0_3 (i : grid0.Coords) : Prop := k0_cond4 i = 1#1

/-- Where each branch is taken. -/
theorem conds : ∀ t : Fin cfg0.N, (cond0_0 (grid0.coords t) ↔ t.val = 0) ∧ (cond0_1 (grid0.coords t) ↔ t.val < 32)
    ∧ (cond0_2 (grid0.coords t) ↔ 1 ≤ t.val) ∧ (cond0_3 (grid0.coords t) ↔ t.val = 32) :=
  (by decide +kernel : ∀ t : Fin grid0.N, (cond0_0 (grid0.coords t) ↔ t.val = 0) ∧ (cond0_1 (grid0.coords t) ↔ t.val < 32)
    ∧ (cond0_2 (grid0.coords t) ↔ 1 ≤ t.val) ∧ (cond0_3 (grid0.coords t) ↔ t.val = 32))

/-- The scratch buffers, whole: the bias, the summed score gradients, the sinks' gradient, the carried halves of the key and value
    gradients, and four the point writes before it reads. -/
abbrev sc0 : Memref sig .tc .vmem S8x128x256 .f32 := Memref.whole cc0_scratch0
abbrev sc1 : Memref sig .tc .vmem S8x128x256 .f32 := Memref.whole cc0_scratch1
abbrev sc2 : Memref sig .tc .vmem S8x1x1 .f32 := Memref.whole cc0_scratch2
abbrev sc3 : Memref sig .tc .vmem S128x128 .f32 := Memref.whole cc0_scratch3
abbrev sc4 : Memref sig .tc .vmem S128x128 .f32 := Memref.whole cc0_scratch4
abbrev sc5 : Memref sig .tc .vmem S8x128x256 .f32 := Memref.whole cc0_scratch5
abbrev sc6 : Memref sig .tc .vmem S8x128x256 .f32 := Memref.whole cc0_scratch6
abbrev sc7 : Memref sig .tc .vmem S8x128x256 .bf16 := Memref.whole cc0_scratch7
abbrev sc8 : Memref sig .tc .vmem S8x128x256 .bf16 := Memref.whole cc0_scratch8

/-- The launch's invariant, buffer by buffer. -/
theorem phi_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)
          ∗ (∃ d, owns (c : Thread nD τ) sc4 fullShare d) ∗ (∃ d, owns (c : Thread nD τ) sc5 fullShare d)
          ∗ (∃ d, owns (c : Thread nD τ) sc6 fullShare d) ∗ (∃ d, owns (c : Thread nD τ) sc7 fullShare d)
          ∗ (∃ d, owns (c : Thread nD τ) sc8 fullShare d)) ∗ (∃ r, prngReg c r)) := by
  unfold Pipeline.ΦA; rw [scopedRest0_eq]; simp only [sc0, sc1, sc2, sc3, sc4, sc5, sc6, sc7, sc8, owns_whole]; try rfl

/-- Each window's staging buffer at a point, and that it is whole. -/
abbrev st0 (t : Fin cfg0.N) : Memref sig .tc .vmem S128x512 .bf16 := win0_0.stage (cfg0.slots t 0)
abbrev st1 (t : Fin cfg0.N) : Memref sig .tc .vmem S128x512 .bf16 := win0_1.stage (cfg0.slots t 1)
abbrev st2 (t : Fin cfg0.N) : Memref sig .tc .vmem S128x128 .bf16 := win0_2.stage (cfg0.slots t 2)
abbrev st3 (t : Fin cfg0.N) : Memref sig .tc .vmem S128x128 .bf16 := win0_3.stage (cfg0.slots t 3)
abbrev st4 (t : Fin cfg0.N) : Memref sig .tc .vmem S128x128 .bf16 := win0_4.stage (cfg0.slots t 4)
abbrev st5 (t : Fin cfg0.N) : Memref sig .tc .vmem S128x128 .bf16 := win0_5.stage (cfg0.slots t 5)
abbrev st6 (t : Fin cfg0.N) : Memref sig .tc .vmem S128x256 .i32 := win0_6.stage (cfg0.slots t 6)
abbrev st7 (t : Fin cfg0.N) : Memref sig .tc .smem S8x32 .f32 := win0_7.stage (cfg0.slots t 7)
abbrev st8 (t : Fin cfg0.N) : Memref sig .tc .smem S1x8 .f32 := win0_8.stage (cfg0.slots t 8)
abbrev st9 (t : Fin cfg0.N) : Memref sig .tc .vmem S128x512 .bf16 := win0_9.stage (cfg0.slots t 9)
abbrev st10 (t : Fin cfg0.N) : Memref sig .tc .vmem S128x256 .bf16 := win0_10.stage (cfg0.slots t 10)
abbrev st11 (t : Fin cfg0.N) : Memref sig .tc .vmem S8x40x128 .f32 := win0_11.stage (cfg0.slots t 11)
abbrev hs0 (t : Fin cfg0.N) : (st0 t).IsWhole := hstage0_0 ((cfg0.slots t 0).cast nbuf0_0)
abbrev hs1 (t : Fin cfg0.N) : (st1 t).IsWhole := hstage0_1 ((cfg0.slots t 1).cast nbuf0_1)
abbrev hs2 (t : Fin cfg0.N) : (st2 t).IsWhole := hstage0_2 ((cfg0.slots t 2).cast nbuf0_2)
abbrev hs3 (t : Fin cfg0.N) : (st3 t).IsWhole := hstage0_3 ((cfg0.slots t 3).cast nbuf0_3)
abbrev hs4 (t : Fin cfg0.N) : (st4 t).IsWhole := hstage0_4 ((cfg0.slots t 4).cast nbuf0_4)
abbrev hs5 (t : Fin cfg0.N) : (st5 t).IsWhole := hstage0_5 ((cfg0.slots t 5).cast nbuf0_5)
abbrev hs6 (t : Fin cfg0.N) : (st6 t).IsWhole := hstage0_6 ((cfg0.slots t 6).cast nbuf0_6)
abbrev hs7 (t : Fin cfg0.N) : (st7 t).IsWhole := hstage0_7 ((cfg0.slots t 7).cast nbuf0_7)
abbrev hs8 (t : Fin cfg0.N) : (st8 t).IsWhole := hstage0_8 ((cfg0.slots t 8).cast nbuf0_8)
abbrev hs9 (t : Fin cfg0.N) : (st9 t).IsWhole := hstage0_9 ((cfg0.slots t 9).cast nbuf0_9)
abbrev hs10 (t : Fin cfg0.N) : (st10 t).IsWhole := hstage0_10 ((cfg0.slots t 10).cast nbuf0_10)
abbrev hs11 (t : Fin cfg0.N) : (st11 t).IsWhole := hstage0_11 ((cfg0.slots t 11).cast nbuf0_11)

end Cert.Attn

end

end
-- ==== Proof.AttnRunA.lean ====
module

public import proofs.«01_k».proof.Proof.AttnKit

set_option maxRecDepth 16384
set_option maxHeartbeats 1600000

@[expose] public section

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F] [Named F]

local notation "𝕄" => MT nD τ sig Unit (Elt F) ℕ (UR sig nD τ) ℕ

noncomputable def runA (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc0 : cond0_0 i) (hc1 : cond0_1 i) (hc2 : ¬cond0_2 i) (hc3 : ¬cond0_3 i)
    (x1 : Vec F S128x512 .bf16) (x2 : Vec F S128x512 .bf16) (x3 : Vec F S128x128 .bf16) (x4 : Vec F S128x128 .bf16) (x5 : Vec F S128x128 .bf16) (x6 : Vec F S128x128 .bf16) (x7 : Vec F S128x256 .i32) (x8 : Vec F S8x32 .f32) (x9 : Vec F S1x8 .f32) (x10 : Vec F S128x512 .bf16) (x11 : Vec F S128x256 .bf16) (x12 : Vec F S8x40x128 .f32) (x13 : Vec F S8x128x256 .f32) (x14 : Vec F S8x128x256 .f32) (x15 : Vec F S8x1x1 .f32) (x16 : Vec F S128x128 .f32) (x17 : Vec F S128x128 .f32) (x18 : Vec F S8x128x256 .f32) (x19 : Vec F S8x128x256 .f32) (x20 : Vec F S8x128x256 .bf16) (x21 : Vec F S8x128x256 .bf16) :
    Σ' (y10 : Vec F S128x512 .bf16), Σ' (y13 : Vec F S8x128x256 .f32), Σ' (y14 : Vec F S8x128x256 .f32), Σ' (y15 : Vec F S8x1x1 .f32), Σ' (y16 : Vec F S128x128 .f32), { y17 : Vec F S128x128 .f32 //
      ∀ (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18 ∗ owns (c : Thread nD τ) a19 fullShare x19 ∗ owns (c : Thread nD τ) a20 fullShare x20 ∗ owns (c : Thread nD τ) a21 fullShare x21
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare y10 ∗ owns (c : Thread nD τ) a11 fullShare x11 ∗ owns (c : Thread nD τ) a12 fullShare x12 ∗ owns (c : Thread nD τ) a13 fullShare y13 ∗ owns (c : Thread nD τ) a14 fullShare y14 ∗ owns (c : Thread nD τ) a15 fullShare y15 ∗ owns (c : Thread nD τ) a16 fullShare y16 ∗ owns (c : Thread nD τ) a17 fullShare y17 ∗ (∃ d, owns (c : Thread nD τ) a18 fullShare d) ∗ (∃ d, owns (c : Thread nD τ) a19 fullShare d) ∗ (∃ d, owns (c : Thread nD τ) a20 fullShare d) ∗ (∃ d, owns (c : Thread nD τ) a21 fullShare d)) -∗ K ⟨⟩))
          ⊢ wp frame (wpE (defs₀ (F := F)) Variants.none c none) E (cc0_attn_bwd i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21) K } := by
  refine ⟨?_, ?_, ?_, ?_, ?_, ?_, fun E K => ?run⟩
  case run =>
    simp only [cc0_attn_bwd_eq_skeleton]; unfold cc0_attn_bwd_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15; obtain rfl := h16.eq_unread hf16; obtain rfl := h17.eq_unread hf17; obtain rfl := h18.eq_unread hf18; obtain rfl := h19.eq_unread hf19; obtain rfl := h20.eq_unread hf20; obtain rfl := h21.eq_unread hf21
    sl_exec_parts (disch := first | sl_exact hc0 | sl_exact hc1 | sl_exact hc2 | sl_exact hc3)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; swap; · iexact H10
      ipureintro; rfl
    isplitl [H11]
    · iexists _; isplitr; · ipureintro; exact h11.read_unread _
      iexact H11
    isplitl [H12]
    · iexists _; isplitr; · ipureintro; exact h12.read_unread _
      iexact H12
    isplitl [H13]
    · iexists _; isplitr; swap; · iexact H13
      ipureintro; rfl
    isplitl [H14]
    · iexists _; isplitr; swap; · iexact H14
      ipureintro; rfl
    isplitl [H15]
    · iexists _; isplitr; swap; · iexact H15
      ipureintro; rfl
    isplitl [H16]
    · iexists _; isplitr; swap; · iexact H16
      ipureintro; rfl
    isplitl [H17]
    · iexists _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    iexists _, _; isplitr; swap; · iexact H21
    ipureintro; rfl

end Cert.Attn

end
-- ==== Proof.AttnRunB.lean ====
module

public import proofs.«01_k».proof.Proof.AttnKit

set_option maxRecDepth 16384
set_option maxHeartbeats 1600000

@[expose] public section

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F] [Named F]

local notation "𝕄" => MT nD τ sig Unit (Elt F) ℕ (UR sig nD τ) ℕ

noncomputable def runB (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc0 : ¬cond0_0 i) (hc1 : cond0_1 i) (hc2 : cond0_2 i) (hc3 : ¬cond0_3 i)
    (x1 : Vec F S128x512 .bf16) (x2 : Vec F S128x512 .bf16) (x3 : Vec F S128x128 .bf16) (x4 : Vec F S128x128 .bf16) (x5 : Vec F S128x128 .bf16) (x6 : Vec F S128x128 .bf16) (x7 : Vec F S128x256 .i32) (x8 : Vec F S8x32 .f32) (x9 : Vec F S1x8 .f32) (x10 : Vec F S128x512 .bf16) (x11 : Vec F S128x256 .bf16) (x12 : Vec F S8x40x128 .f32) (x13 : Vec F S8x128x256 .f32) (x14 : Vec F S8x128x256 .f32) (x15 : Vec F S8x1x1 .f32) (x16 : Vec F S128x128 .f32) (x17 : Vec F S128x128 .f32) (x18 : Vec F S8x128x256 .f32) (x19 : Vec F S8x128x256 .f32) (x20 : Vec F S8x128x256 .bf16) (x21 : Vec F S8x128x256 .bf16) :
    Σ' (y10 : Vec F S128x512 .bf16), Σ' (y11 : Vec F S128x256 .bf16), Σ' (y14 : Vec F S8x128x256 .f32), Σ' (y15 : Vec F S8x1x1 .f32), Σ' (y16 : Vec F S128x128 .f32), { y17 : Vec F S128x128 .f32 //
      ∀ (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18 ∗ owns (c : Thread nD τ) a19 fullShare x19 ∗ owns (c : Thread nD τ) a20 fullShare x20 ∗ owns (c : Thread nD τ) a21 fullShare x21
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare y10 ∗ owns (c : Thread nD τ) a11 fullShare y11 ∗ owns (c : Thread nD τ) a12 fullShare x12 ∗ owns (c : Thread nD τ) a13 fullShare x13 ∗ owns (c : Thread nD τ) a14 fullShare y14 ∗ owns (c : Thread nD τ) a15 fullShare y15 ∗ owns (c : Thread nD τ) a16 fullShare y16 ∗ owns (c : Thread nD τ) a17 fullShare y17 ∗ (∃ d, owns (c : Thread nD τ) a18 fullShare d) ∗ (∃ d, owns (c : Thread nD τ) a19 fullShare d) ∗ (∃ d, owns (c : Thread nD τ) a20 fullShare d) ∗ (∃ d, owns (c : Thread nD τ) a21 fullShare d)) -∗ K ⟨⟩))
          ⊢ wp frame (wpE (defs₀ (F := F)) Variants.none c none) E (cc0_attn_bwd i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21) K } := by
  refine ⟨?_, ?_, ?_, ?_, ?_, ?_, fun E K => ?run⟩
  case run =>
    simp only [cc0_attn_bwd_eq_skeleton]; unfold cc0_attn_bwd_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15; obtain rfl := h16.eq_unread hf16; obtain rfl := h17.eq_unread hf17; obtain rfl := h18.eq_unread hf18; obtain rfl := h19.eq_unread hf19; obtain rfl := h20.eq_unread hf20; obtain rfl := h21.eq_unread hf21
    sl_exec_parts (disch := first | sl_exact hc0 | sl_exact hc1 | sl_exact hc2 | sl_exact hc3)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; swap; · iexact H10
      ipureintro; rfl
    isplitl [H11]
    · iexists _; isplitr; swap; · iexact H11
      ipureintro; rfl
    isplitl [H12]
    · iexists _; isplitr; · ipureintro; exact h12.read_unread _
      iexact H12
    isplitl [H13]
    · iexists _; isplitr; · ipureintro; exact h13.read_unread _
      iexact H13
    isplitl [H14]
    · iexists _; isplitr; swap; · iexact H14
      ipureintro; rfl
    isplitl [H15]
    · iexists _; isplitr; swap; · iexact H15
      ipureintro; rfl
    isplitl [H16]
    · iexists _; isplitr; swap; · iexact H16
      ipureintro; rfl
    isplitl [H17]
    · iexists _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    iexists _, _; isplitr; swap; · iexact H21
    ipureintro; rfl

end Cert.Attn

end
-- ==== Proof.AttnRunC.lean ====
module

public import proofs.«01_k».proof.Proof.AttnKit

set_option maxRecDepth 16384
set_option maxHeartbeats 1600000

@[expose] public section

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F] [Named F]

local notation "𝕄" => MT nD τ sig Unit (Elt F) ℕ (UR sig nD τ) ℕ

noncomputable def runC (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc0 : ¬cond0_0 i) (hc1 : ¬cond0_1 i) (hc3 : cond0_3 i)
    (x1 : Vec F S128x512 .bf16) (x2 : Vec F S128x512 .bf16) (x3 : Vec F S128x128 .bf16) (x4 : Vec F S128x128 .bf16) (x5 : Vec F S128x128 .bf16) (x6 : Vec F S128x128 .bf16) (x7 : Vec F S128x256 .i32) (x8 : Vec F S8x32 .f32) (x9 : Vec F S1x8 .f32) (x10 : Vec F S128x512 .bf16) (x11 : Vec F S128x256 .bf16) (x12 : Vec F S8x40x128 .f32) (x13 : Vec F S8x128x256 .f32) (x14 : Vec F S8x128x256 .f32) (x15 : Vec F S8x1x1 .f32) (x16 : Vec F S128x128 .f32) (x17 : Vec F S128x128 .f32) (x18 : Vec F S8x128x256 .f32) (x19 : Vec F S8x128x256 .f32) (x20 : Vec F S8x128x256 .bf16) (x21 : Vec F S8x128x256 .bf16) :
    Σ' (y11 : Vec F S128x256 .bf16), { y12 : Vec F S8x40x128 .f32 //
      ∀ (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18 ∗ owns (c : Thread nD τ) a19 fullShare x19 ∗ owns (c : Thread nD τ) a20 fullShare x20 ∗ owns (c : Thread nD τ) a21 fullShare x21
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare y11 ∗ owns (c : Thread nD τ) a12 fullShare y12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18 ∗ owns (c : Thread nD τ) a19 fullShare x19 ∗ owns (c : Thread nD τ) a20 fullShare x20 ∗ owns (c : Thread nD τ) a21 fullShare x21) -∗ K ⟨⟩))
          ⊢ wp frame (wpE (defs₀ (F := F)) Variants.none c none) E (cc0_attn_bwd i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21) K } := by
  refine ⟨?_, ?_, fun E K => ?run⟩
  case run =>
    simp only [cc0_attn_bwd_eq_skeleton]; unfold cc0_attn_bwd_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15; obtain rfl := h16.eq_unread hf16; obtain rfl := h17.eq_unread hf17; obtain rfl := h18.eq_unread hf18; obtain rfl := h19.eq_unread hf19; obtain rfl := h20.eq_unread hf20; obtain rfl := h21.eq_unread hf21
    sl_exec_parts (disch := first | sl_exact hc0 | sl_exact hc1 | sl_exact hc3)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; swap; · iexact H11
      ipureintro; rfl
    isplitl [H12]
    · iexists _; isplitr; swap; · iexact H12
      ipureintro; rfl
    isplitl [H13]
    · iexists _; isplitr; · ipureintro; exact h13.read_unread _
      iexact H13
    isplitl [H14]
    · iexists _; isplitr; · ipureintro; exact h14.read_unread _
      iexact H14
    isplitl [H15]
    · iexists _; isplitr; · ipureintro; exact h15.read_unread _
      iexact H15
    isplitl [H16]
    · iexists _; isplitr; · ipureintro; exact h16.read_unread _
      iexact H16
    isplitl [H17]
    · iexists _; isplitr; · ipureintro; exact h17.read_unread _
      iexact H17
    isplitl [H18]
    · iexists _; isplitr; · ipureintro; exact h18.read_unread _
      iexact H18
    isplitl [H19]
    · iexists _; isplitr; · ipureintro; exact h19.read_unread _
      iexact H19
    isplitl [H20]
    · iexists _; isplitr; · ipureintro; exact h20.read_unread _
      iexact H20
    iexists _; isplitr; · ipureintro; exact h21.read_unread _
    iexact H21

end Cert.Attn

end
-- ==== Proof.AttnFrame.lean ====
module

public import proofs.«01_k».proof.Proof.AttnRunA
public import proofs.«01_k».proof.Proof.AttnRunB
public import proofs.«01_k».proof.Proof.AttnRunC

set_option maxRecDepth 16384

/-! The attention gradient's launch: what the body keeps between points and leaves in its outputs, as relations a value proof names. -/

@[expose] public section

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

open Idealize.ShloMosaic.Pipeline (RDat shareOf arrRef)

attribute [local irreducible] runA runB runC

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What is known of the scratch kept between points, before point `n`, and of what the body leaves in each output at a point. -/
structure Spec (F : FTy → Type) where
  inv : Dev nD → ℕ → Vec F S8x128x256 .f32 → Vec F S8x128x256 .f32 → Vec F S8x1x1 .f32 → Vec F S128x128 .f32 → Vec F S128x128 .f32 → Prop
  dq : Dev nD → Fin cfg0.N → Vec F S128x512 .bf16 → Prop
  dkv : Dev nD → Fin cfg0.N → Vec F S128x256 .bf16 → Prop
  small : Dev nD → Vec F S8x40x128 .f32 → Prop

/-- The first point' run, on the launch's operands and whatever the buffers hold. -/
abbrev atA (c : Dev nD) (t : Fin cfg0.N) (h : t.val = 0) (z9 : Vec F S128x512 .bf16) (z10 : Vec F S128x256 .bf16) (z11 : Vec F S8x40x128 .f32) (s0 : Vec F S8x128x256 .f32) (s1 : Vec F S8x128x256 .f32) (s2 : Vec F S8x1x1 .f32) (s3 : Vec F S128x128 .f32) (s4 : Vec F S128x128 .f32) (s5 : Vec F S8x128x256 .f32) (s6 : Vec F S8x128x256 .f32) (s7 : Vec F S8x128x256 .bf16) (s8 : Vec F S8x128x256 .bf16) :=
  runA (F := F) c (grid0.coords t) (st0 t) (hs0 t) (st1 t) (hs1 t) (st2 t) (hs2 t) (st3 t) (hs3 t) (st4 t) (hs4 t) (st5 t) (hs5 t) (st6 t) (hs6 t) (st7 t) (hs7 t) (st8 t) (hs8 t) (st9 t) (hs9 t) (st10 t) (hs10 t) (st11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _)
    ((conds t).1.mpr h) ((conds t).2.1.mpr (by omega)) (fun k => absurd ((conds t).2.2.1.mp k) (by omega)) (fun k => absurd ((conds t).2.2.2.mp k) (by omega))
    (iblk m c 0 t) (iblk m c 1 t) (iblk m c 2 t) (iblk m c 3 t) (iblk m c 4 t) (iblk m c 5 t) (iblk m c 6 t) (iblk m c 7 t) (iblk m c 8 t) z9 z10 z11 s0 s1 s2 s3 s4 s5 s6 s7 s8

/-- The middle points' run, on the launch's operands and whatever the buffers hold. -/
abbrev atB (c : Dev nD) (t : Fin cfg0.N) (h : 1 ≤ t.val ∧ t.val < 32) (z9 : Vec F S128x512 .bf16) (z10 : Vec F S128x256 .bf16) (z11 : Vec F S8x40x128 .f32) (s0 : Vec F S8x128x256 .f32) (s1 : Vec F S8x128x256 .f32) (s2 : Vec F S8x1x1 .f32) (s3 : Vec F S128x128 .f32) (s4 : Vec F S128x128 .f32) (s5 : Vec F S8x128x256 .f32) (s6 : Vec F S8x128x256 .f32) (s7 : Vec F S8x128x256 .bf16) (s8 : Vec F S8x128x256 .bf16) :=
  runB (F := F) c (grid0.coords t) (st0 t) (hs0 t) (st1 t) (hs1 t) (st2 t) (hs2 t) (st3 t) (hs3 t) (st4 t) (hs4 t) (st5 t) (hs5 t) (st6 t) (hs6 t) (st7 t) (hs7 t) (st8 t) (hs8 t) (st9 t) (hs9 t) (st10 t) (hs10 t) (st11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _)
    (fun k => absurd ((conds t).1.mp k) (by omega)) ((conds t).2.1.mpr h.2) ((conds t).2.2.1.mpr h.1) (fun k => absurd ((conds t).2.2.2.mp k) (by omega))
    (iblk m c 0 t) (iblk m c 1 t) (iblk m c 2 t) (iblk m c 3 t) (iblk m c 4 t) (iblk m c 5 t) (iblk m c 6 t) (iblk m c 7 t) (iblk m c 8 t) z9 z10 z11 s0 s1 s2 s3 s4 s5 s6 s7 s8

/-- The last point' run, on the launch's operands and whatever the buffers hold. -/
abbrev atC (c : Dev nD) (t : Fin cfg0.N) (h : t.val = 32) (z9 : Vec F S128x512 .bf16) (z10 : Vec F S128x256 .bf16) (z11 : Vec F S8x40x128 .f32) (s0 : Vec F S8x128x256 .f32) (s1 : Vec F S8x128x256 .f32) (s2 : Vec F S8x1x1 .f32) (s3 : Vec F S128x128 .f32) (s4 : Vec F S128x128 .f32) (s5 : Vec F S8x128x256 .f32) (s6 : Vec F S8x128x256 .f32) (s7 : Vec F S8x128x256 .bf16) (s8 : Vec F S8x128x256 .bf16) :=
  runC (F := F) c (grid0.coords t) (st0 t) (hs0 t) (st1 t) (hs1 t) (st2 t) (hs2 t) (st3 t) (hs3 t) (st4 t) (hs4 t) (st5 t) (hs5 t) (st6 t) (hs6 t) (st7 t) (hs7 t) (st8 t) (hs8 t) (st9 t) (hs9 t) (st10 t) (hs10 t) (st11 t) (hs11 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _)
    (fun k => absurd ((conds t).1.mp k) (by omega)) (fun k => absurd ((conds t).2.1.mp k) (by omega)) ((conds t).2.2.2.mpr h)
    (iblk m c 0 t) (iblk m c 1 t) (iblk m c 2 t) (iblk m c 3 t) (iblk m c 4 t) (iblk m c 5 t) (iblk m c 6 t) (iblk m c 7 t) (iblk m c 8 t) z9 z10 z11 s0 s1 s2 s3 s4 s5 s6 s7 s8

/-- What the points' runs must meet: every point's, from what is known before it. -/
structure Steps (S : Spec F) : Prop where
  first : ∀ (c : Dev nD) (t : Fin cfg0.N) (h : t.val = 0) (z9 : Vec F S128x512 .bf16) (z10 : Vec F S128x256 .bf16) (z11 : Vec F S8x40x128 .f32) (s0 : Vec F S8x128x256 .f32) (s1 : Vec F S8x128x256 .f32) (s2 : Vec F S8x1x1 .f32) (s3 : Vec F S128x128 .f32) (s4 : Vec F S128x128 .f32) (s5 : Vec F S8x128x256 .f32) (s6 : Vec F S8x128x256 .f32) (s7 : Vec F S8x128x256 .bf16) (s8 : Vec F S8x128x256 .bf16),
    S.inv c 1 (atA m c t h z9 z10 z11 s0 s1 s2 s3 s4 s5 s6 s7 s8).2.1 (atA m c t h z9 z10 z11 s0 s1 s2 s3 s4 s5 s6 s7 s8).2.2.1 (atA m c t h z9 z10 z11 s0 s1 s2 s3 s4 s5 s6 s7 s8).2.2.2.1 (atA m c t h z9 z10 z11 s0 s1 s2 s3 s4 s5 s6 s7 s8).2.2.2.2.1 (atA m c t h z9 z10 z11 s0 s1 s2 s3 s4 s5 s6 s7 s8).2.2.2.2.2.1
      ∧ S.dq c t (atA m c t h z9 z10 z11 s0 s1 s2 s3 s4 s5 s6 s7 s8).1
  middle : ∀ (c : Dev nD) (t : Fin cfg0.N) (h : 1 ≤ t.val ∧ t.val < 32) (z9 : Vec F S128x512 .bf16) (z10 : Vec F S128x256 .bf16) (z11 : Vec F S8x40x128 .f32) (s0 : Vec F S8x128x256 .f32) (s1 : Vec F S8x128x256 .f32) (s2 : Vec F S8x1x1 .f32) (s3 : Vec F S128x128 .f32) (s4 : Vec F S128x128 .f32) (s5 : Vec F S8x128x256 .f32) (s6 : Vec F S8x128x256 .f32) (s7 : Vec F S8x128x256 .bf16) (s8 : Vec F S8x128x256 .bf16),
    S.inv c t.val s0 s1 s2 s3 s4 →
    S.inv c (t.val + 1) s0 (atB m c t h z9 z10 z11 s0 s1 s2 s3 s4 s5 s6 s7 s8).2.2.1 (atB m c t h z9 z10 z11 s0 s1 s2 s3 s4 s5 s6 s7 s8).2.2.2.1 (atB m c t h z9 z10 z11 s0 s1 s2 s3 s4 s5 s6 s7 s8).2.2.2.2.1 (atB m c t h z9 z10 z11 s0 s1 s2 s3 s4 s5 s6 s7 s8).2.2.2.2.2.1
      ∧ S.dq c t (atB m c t h z9 z10 z11 s0 s1 s2 s3 s4 s5 s6 s7 s8).1 ∧ S.dkv c t (atB m c t h z9 z10 z11 s0 s1 s2 s3 s4 s5 s6 s7 s8).2.1
  last : ∀ (c : Dev nD) (t : Fin cfg0.N) (h : t.val = 32) (z9 : Vec F S128x512 .bf16) (z10 : Vec F S128x256 .bf16) (z11 : Vec F S8x40x128 .f32) (s0 : Vec F S8x128x256 .f32) (s1 : Vec F S8x128x256 .f32) (s2 : Vec F S8x1x1 .f32) (s3 : Vec F S128x128 .f32) (s4 : Vec F S128x128 .f32) (s5 : Vec F S8x128x256 .f32) (s6 : Vec F S8x128x256 .f32) (s7 : Vec F S8x128x256 .bf16) (s8 : Vec F S8x128x256 .bf16),
    S.inv c 32 s0 s1 s2 s3 s4 → S.dkv c t (atC m c t h z9 z10 z11 s0 s1 s2 s3 s4 s5 s6 s7 s8).1 ∧ S.small c (atC m c t h z9 z10 z11 s0 s1 s2 s3 s4 s5 s6 s7 s8).2.1

/-- The invariant before point `n`: the kept scratch at contents of which `S.inv` holds once the first point has run, the rest at anything. -/
def keep (S : Spec F) (c : Dev nD) (n : ℕ) : sProp 𝕄 :=
  iprop(∃ s0 s1 s2 s3 s4, ⌜1 ≤ n ∧ n ≤ 32 → S.inv c n s0 s1 s2 s3 s4⌝
    ∗ owns (c : Thread nD τ) sc0 fullShare s0 ∗ owns (c : Thread nD τ) sc1 fullShare s1 ∗ owns (c : Thread nD τ) sc2 fullShare s2 ∗ owns (c : Thread nD τ) sc3 fullShare s3 ∗ owns (c : Thread nD τ) sc4 fullShare s4
    ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ r, prngReg c r))

/-- What the body may leave in each window: an input as found; an output as `S` says, or as found where it is not written. -/
def leaves (S : Spec F) (c : Dev nD) : (w : Fin cfg0.W) → Fin cfg0.N → (Y X : (cfg0.win w).block.Idx → Elt F (cfg0.win w).elt) → Prop
  | 0 => fun _ Y X => X = Y
  | 1 => fun _ Y X => X = Y
  | 2 => fun _ Y X => X = Y
  | 3 => fun _ Y X => X = Y
  | 4 => fun _ Y X => X = Y
  | 5 => fun _ Y X => X = Y
  | 6 => fun _ Y X => X = Y
  | 7 => fun _ Y X => X = Y
  | 8 => fun _ Y X => X = Y
  | 9 => fun t Y X => if t.val < 32 then S.dq c t X else X = Y
  | 10 => fun t _ X => 1 ≤ t.val → S.dkv c t X
  | 11 => fun t _ X => t.val = 32 → S.small c X

/-- The launch's proof data. -/
def data (S : Spec F) (c : Dev nD) : RDat τ (Elt F) Unit ℕ (UR sig nD τ) ℕ cfg0 c where
  A := fun w => V m c (arrRef spec0 w)
  after := leaves S c
  Φ := fun n => keep S c n.val
  q := shareOf spec0
  owed := fun _ => 0

theorem finds0 (S : Spec F) (c : Dev nD) (t : Fin cfg0.N) (Y) (h : (data m S c).Finds 0 t Y) : Y = iblk m c 0 t := by
  obtain ⟨d, rfl⟩ := (data m S c).finds_in_eq_fetched 0 rfl (fun _ _ _ => rfl) (fun _ _ _ h => h) t Y h
  rfl

theorem finds1 (S : Spec F) (c : Dev nD) (t : Fin cfg0.N) (Y) (h : (data m S c).Finds 1 t Y) : Y = iblk m c 1 t := by
  obtain ⟨d, rfl⟩ := (data m S c).finds_in_eq_fetched 1 rfl (fun _ _ _ => rfl) (fun _ _ _ h => h) t Y h
  rfl

theorem finds2 (S : Spec F) (c : Dev nD) (t : Fin cfg0.N) (Y) (h : (data m S c).Finds 2 t Y) : Y = iblk m c 2 t := by
  obtain ⟨d, rfl⟩ := (data m S c).finds_in_eq_fetched 2 rfl (fun _ _ _ => rfl) (fun _ _ _ h => h) t Y h
  rfl

theorem finds3 (S : Spec F) (c : Dev nD) (t : Fin cfg0.N) (Y) (h : (data m S c).Finds 3 t Y) : Y = iblk m c 3 t := by
  obtain ⟨d, rfl⟩ := (data m S c).finds_in_eq_fetched 3 rfl (fun _ _ _ => rfl) (fun _ _ _ h => h) t Y h
  rfl

theorem finds4 (S : Spec F) (c : Dev nD) (t : Fin cfg0.N) (Y) (h : (data m S c).Finds 4 t Y) : Y = iblk m c 4 t := by
  obtain ⟨d, rfl⟩ := (data m S c).finds_in_eq_fetched 4 rfl (fun _ _ _ => rfl) (fun _ _ _ h => h) t Y h
  rfl

theorem finds5 (S : Spec F) (c : Dev nD) (t : Fin cfg0.N) (Y) (h : (data m S c).Finds 5 t Y) : Y = iblk m c 5 t := by
  obtain ⟨d, rfl⟩ := (data m S c).finds_in_eq_fetched 5 rfl (fun _ _ _ => rfl) (fun _ _ _ h => h) t Y h
  rfl

theorem finds6 (S : Spec F) (c : Dev nD) (t : Fin cfg0.N) (Y) (h : (data m S c).Finds 6 t Y) : Y = iblk m c 6 t := by
  obtain ⟨d, rfl⟩ := (data m S c).finds_in_eq_fetched 6 rfl (fun _ _ _ => rfl) (fun _ _ _ h => h) t Y h
  rfl

theorem finds7 (S : Spec F) (c : Dev nD) (t : Fin cfg0.N) (Y) (h : (data m S c).Finds 7 t Y) : Y = iblk m c 7 t := by
  obtain ⟨d, rfl⟩ := (data m S c).finds_in_eq_fetched 7 rfl (fun _ _ _ => rfl) (fun _ _ _ h => h) t Y h
  rfl

theorem finds8 (S : Spec F) (c : Dev nD) (t : Fin cfg0.N) (Y) (h : (data m S c).Finds 8 t Y) : Y = iblk m c 8 t := by
  obtain ⟨d, rfl⟩ := (data m S c).finds_in_eq_fetched 8 rfl (fun _ _ _ => rfl) (fun _ _ _ h => h) t Y h
  rfl

/-- The body at one point, window by window. -/
theorem body_at (S : Spec F) (hS : Steps m S) (c : Dev nD) (t : Fin cfg0.N) (z9 : Vec F S128x512 .bf16) (z10 : Vec F S128x256 .bf16) (z11 : Vec F S8x40x128 .f32) (O : sProp 𝕄) :
    iprop(keep S c t.val ∗ O ∗ owns (c : Thread nD τ) (st0 t) fullShare (iblk m c 0 t) ∗ owns (c : Thread nD τ) (st1 t) fullShare (iblk m c 1 t) ∗ owns (c : Thread nD τ) (st2 t) fullShare (iblk m c 2 t) ∗ owns (c : Thread nD τ) (st3 t) fullShare (iblk m c 3 t) ∗ owns (c : Thread nD τ) (st4 t) fullShare (iblk m c 4 t) ∗ owns (c : Thread nD τ) (st5 t) fullShare (iblk m c 5 t) ∗ owns (c : Thread nD τ) (st6 t) fullShare (iblk m c 6 t) ∗ owns (c : Thread nD τ) (st7 t) fullShare (iblk m c 7 t) ∗ owns (c : Thread nD τ) (st8 t) fullShare (iblk m c 8 t) ∗ owns (c : Thread nD τ) (st9 t) fullShare z9 ∗ owns (c : Thread nD τ) (st10 t) fullShare z10 ∗ owns (c : Thread nD τ) (st11 t) fullShare z11)
      ⊢ wp frame (wpE (defs₀ (F := F)) Variants.none c none) Set.univ (bodyAt0 t)
          fun _ => iprop(keep S c (t.val + 1) ∗ O ∗ (∃ X, ⌜leaves S c 0 t (iblk m c 0 t) X⌝ ∗ owns (c : Thread nD τ) (st0 t) fullShare X) ∗ (∃ X, ⌜leaves S c 1 t (iblk m c 1 t) X⌝ ∗ owns (c : Thread nD τ) (st1 t) fullShare X) ∗ (∃ X, ⌜leaves S c 2 t (iblk m c 2 t) X⌝ ∗ owns (c : Thread nD τ) (st2 t) fullShare X) ∗ (∃ X, ⌜leaves S c 3 t (iblk m c 3 t) X⌝ ∗ owns (c : Thread nD τ) (st3 t) fullShare X) ∗ (∃ X, ⌜leaves S c 4 t (iblk m c 4 t) X⌝ ∗ owns (c : Thread nD τ) (st4 t) fullShare X) ∗ (∃ X, ⌜leaves S c 5 t (iblk m c 5 t) X⌝ ∗ owns (c : Thread nD τ) (st5 t) fullShare X) ∗ (∃ X, ⌜leaves S c 6 t (iblk m c 6 t) X⌝ ∗ owns (c : Thread nD τ) (st6 t) fullShare X) ∗ (∃ X, ⌜leaves S c 7 t (iblk m c 7 t) X⌝ ∗ owns (c : Thread nD τ) (st7 t) fullShare X) ∗ (∃ X, ⌜leaves S c 8 t (iblk m c 8 t) X⌝ ∗ owns (c : Thread nD τ) (st8 t) fullShare X) ∗ (∃ X, ⌜leaves S c 9 t z9 X⌝ ∗ owns (c : Thread nD τ) (st9 t) fullShare X) ∗ (∃ X, ⌜leaves S c 10 t z10 X⌝ ∗ owns (c : Thread nD τ) (st10 t) fullShare X) ∗ (∃ X, ⌜leaves S c 11 t z11 X⌝ ∗ owns (c : Thread nD τ) (st11 t) fullShare X)) := by
  have hN : t.val < 33 := lt_of_lt_of_eq t.isLt N_0
  unfold keep
  iintro ⟨⟨%s0, %s1, %s2, %s3, %s4, %hI, S0, S1, S2, S3, S4, ⟨%s5, S5⟩, ⟨%s6, S6⟩, ⟨%s7, S7⟩, ⟨%s8, S8⟩, Hg⟩, Ho, H0, H1, H2, H3, H4, H5, H6, H7, H8, H9, H10, H11⟩
  rcases (by omega : t.val = 0 ∨ (1 ≤ t.val ∧ t.val < 32) ∨ t.val = 32) with h | h | h
  · iapply (atA m c t h z9 z10 z11 s0 s1 s2 s3 s4 s5 s6 s7 s8).2.2.2.2.2.2 Set.univ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iintro ⟨H0, H1, H2, H3, H4, H5, H6, H7, H8, H9, H10, H11, S0, S1, S2, S3, S4, ⟨%d5, S5⟩, ⟨%d6, S6⟩, ⟨%d7, S7⟩, ⟨%d8, S8⟩⟩
    have hp := hS.first c t h z9 z10 z11 s0 s1 s2 s3 s4 s5 s6 s7 s8
    isplitl [S0 S1 S2 S3 S4 S5 S6 S7 S8 Hg]
    · iexists _, _, _, _, _
      isplitr; · ipureintro; exact fun _ => by rw [h]; exact hp.1
      isplitl [S0]; · iexact S0
      isplitl [S1]; · iexact S1
      isplitl [S2]; · iexact S2
      isplitl [S3]; · iexact S3
      isplitl [S4]; · iexact S4
      isplitl [S5]; · iexists _; iexact S5
      isplitl [S6]; · iexists _; iexact S6
      isplitl [S7]; · iexists _; iexact S7
      isplitl [S8]; · iexists _; iexact S8
      iexact Hg
    isplitl [Ho]; · iexact Ho
    isplitl [H0]
    · iexists _; isplitr; · ipureintro; exact rfl
      iexact H0
    isplitl [H1]
    · iexists _; isplitr; · ipureintro; exact rfl
      iexact H1
    isplitl [H2]
    · iexists _; isplitr; · ipureintro; exact rfl
      iexact H2
    isplitl [H3]
    · iexists _; isplitr; · ipureintro; exact rfl
      iexact H3
    isplitl [H4]
    · iexists _; isplitr; · ipureintro; exact rfl
      iexact H4
    isplitl [H5]
    · iexists _; isplitr; · ipureintro; exact rfl
      iexact H5
    isplitl [H6]
    · iexists _; isplitr; · ipureintro; exact rfl
      iexact H6
    isplitl [H7]
    · iexists _; isplitr; · ipureintro; exact rfl
      iexact H7
    isplitl [H8]
    · iexists _; isplitr; · ipureintro; exact rfl
      iexact H8
    isplitl [H9]
    · iexists _; isplitr; · ipureintro; show ite _ _ _; rw [if_pos (by omega)]; exact hp.2
      iexact H9
    isplitl [H10]
    · iexists z10; isplitr; · ipureintro; exact fun k => absurd k (by omega)
      iexact H10
    iexists z11; isplitr; · ipureintro; exact fun k => absurd k (by omega)
    iexact H11
  · iapply (atB m c t h z9 z10 z11 s0 s1 s2 s3 s4 s5 s6 s7 s8).2.2.2.2.2.2 Set.univ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iintro ⟨H0, H1, H2, H3, H4, H5, H6, H7, H8, H9, H10, H11, S0, S1, S2, S3, S4, ⟨%d5, S5⟩, ⟨%d6, S6⟩, ⟨%d7, S7⟩, ⟨%d8, S8⟩⟩
    have hp := hS.middle c t h z9 z10 z11 s0 s1 s2 s3 s4 s5 s6 s7 s8 (hI (by omega))
    isplitl [S0 S1 S2 S3 S4 S5 S6 S7 S8 Hg]
    · iexists _, _, _, _, _
      isplitr; · ipureintro; exact fun _ => hp.1
      isplitl [S0]; · iexact S0
      isplitl [S1]; · iexact S1
      isplitl [S2]; · iexact S2
      isplitl [S3]; · iexact S3
      isplitl [S4]; · iexact S4
      isplitl [S5]; · iexists _; iexact S5
      isplitl [S6]; · iexists _; iexact S6
      isplitl [S7]; · iexists _; iexact S7
      isplitl [S8]; · iexists _; iexact S8
      iexact Hg
    isplitl [Ho]; · iexact Ho
    isplitl [H0]
    · iexists _; isplitr; · ipureintro; exact rfl
      iexact H0
    isplitl [H1]
    · iexists _; isplitr; · ipureintro; exact rfl
      iexact H1
    isplitl [H2]
    · iexists _; isplitr; · ipureintro; exact rfl
      iexact H2
    isplitl [H3]
    · iexists _; isplitr; · ipureintro; exact rfl
      iexact H3
    isplitl [H4]
    · iexists _; isplitr; · ipureintro; exact rfl
      iexact H4
    isplitl [H5]
    · iexists _; isplitr; · ipureintro; exact rfl
      iexact H5
    isplitl [H6]
    · iexists _; isplitr; · ipureintro; exact rfl
      iexact H6
    isplitl [H7]
    · iexists _; isplitr; · ipureintro; exact rfl
      iexact H7
    isplitl [H8]
    · iexists _; isplitr; · ipureintro; exact rfl
      iexact H8
    isplitl [H9]
    · iexists _; isplitr; · ipureintro; show ite _ _ _; rw [if_pos h.2]; exact hp.2.1
      iexact H9
    isplitl [H10]
    · iexists _; isplitr; · ipureintro; exact fun _ => hp.2.2
      iexact H10
    iexists z11; isplitr; · ipureintro; exact fun k => absurd k (by omega)
    iexact H11
  · iapply (atC m c t h z9 z10 z11 s0 s1 s2 s3 s4 s5 s6 s7 s8).2.2 Set.univ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iintro ⟨H0, H1, H2, H3, H4, H5, H6, H7, H8, H9, H10, H11, S0, S1, S2, S3, S4, S5, S6, S7, S8⟩
    have hp := hS.last c t h z9 z10 z11 s0 s1 s2 s3 s4 s5 s6 s7 s8 (h ▸ hI (by omega))
    isplitl [S0 S1 S2 S3 S4 S5 S6 S7 S8 Hg]
    · iexists s0, s1, s2, s3, s4
      isplitr; · ipureintro; exact fun _ => absurd ‹_› (by omega)
      isplitl [S0]; · iexact S0
      isplitl [S1]; · iexact S1
      isplitl [S2]; · iexact S2
      isplitl [S3]; · iexact S3
      isplitl [S4]; · iexact S4
      isplitl [S5]; · iexists _; iexact S5
      isplitl [S6]; · iexists _; iexact S6
      isplitl [S7]; · iexists _; iexact S7
      isplitl [S8]; · iexists _; iexact S8
      iexact Hg
    isplitl [Ho]; · iexact Ho
    isplitl [H0]
    · iexists _; isplitr; · ipureintro; exact rfl
      iexact H0
    isplitl [H1]
    · iexists _; isplitr; · ipureintro; exact rfl
      iexact H1
    isplitl [H2]
    · iexists _; isplitr; · ipureintro; exact rfl
      iexact H2
    isplitl [H3]
    · iexists _; isplitr; · ipureintro; exact rfl
      iexact H3
    isplitl [H4]
    · iexists _; isplitr; · ipureintro; exact rfl
      iexact H4
    isplitl [H5]
    · iexists _; isplitr; · ipureintro; exact rfl
      iexact H5
    isplitl [H6]
    · iexists _; isplitr; · ipureintro; exact rfl
      iexact H6
    isplitl [H7]
    · iexists _; isplitr; · ipureintro; exact rfl
      iexact H7
    isplitl [H8]
    · iexists _; isplitr; · ipureintro; exact rfl
      iexact H8
    isplitl [H9]
    · iexists z9; isplitr; · ipureintro; show ite _ _ _; rw [if_neg (by omega)]
      iexact H9
    isplitl [H10]
    · iexists _; isplitr; · ipureintro; exact fun _ => hp.1
      iexact H10
    iexists _; isplitr; · ipureintro; exact fun _ => hp.2
    iexact H11

/-- The body meets the launch's obligation at every point. -/
theorem body (S : Spec F) (hS : Steps m S) (c : Dev nD) : (data m S c).BodyObligation (defs₀ (F := F)) Variants.none () Set.univ := by
  intro t Y hY
  have e0 := finds0 m S c t (Y 0) (hY 0)
  have e1 := finds1 m S c t (Y 1) (hY 1)
  have e2 := finds2 m S c t (Y 2) (hY 2)
  have e3 := finds3 m S c t (Y 3) (hY 3)
  have e4 := finds4 m S c t (Y 4) (hY 4)
  have e5 := finds5 m S c t (Y 5) (hY 5)
  have e6 := finds6 m S c t (Y 6) (hY 6)
  have e7 := finds7 m S c t (Y 7) (hY 7)
  have e8 := finds8 m S c t (Y 8) (hY 8)
  simp only [bigSep_W0]
  have := body_at m S hS c t (Y 9) (Y 10) (Y 11) ((data m S c).owesAt () t.castSucc)
  rw [← e0, ← e1, ← e2, ← e3, ← e4, ← e5, ← e6, ← e7, ← e8] at this
  exact this

/-- The launch runs, and its arrays end as the relations say. -/
theorem launch (S : Spec F) (hS : Steps m S) :
    θ_run defs (onTc (τ := τ) (main (F := F))) (s₀ m ρ) (fun r => RDat.FramePost (cfgs 0) (data m S) (V m) r ∧ r.2.sem = (fun _ => 0)) := by
  refine RDat.θ_run_frame_track_shared cfgs 0 launch₀0 defs₀ Variants.none (data m S) m ρ main (body m S hS) (fun _ _ _ => rfl) (fun _ _ => rfl)
    (V m) (hmain m Variants.none) (fun _ _ => rfl) (fun c => ?_) (fun c => ?_) _ (fun _ h => h)
  · rw [phi_eq]; show _ ⊢ keep S c 0; unfold keep
    iintro ⟨⟨⟨%s0, S0⟩, ⟨%s1, S1⟩, ⟨%s2, S2⟩, ⟨%s3, S3⟩, ⟨%s4, S4⟩, S5, S6, S7, S8⟩, Hg⟩
    iexists s0, s1, s2, s3, s4
    isplitr; · ipureintro; exact fun h => absurd h.1 (by omega)
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact Hg
  · rw [phi_eq]; show keep S c _ ⊢ _; unfold keep
    iintro ⟨%s0, %s1, %s2, %s3, %s4, -, S0, S1, S2, S3, S4, S5, S6, S7, S8, Hg⟩
    isplitl [S0 S1 S2 S3 S4 S5 S6 S7 S8]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexact S5
      isplitl [S6]; · iexact S6
      isplitl [S7]; · iexact S7
      iexact S8
    iexact Hg

end Cert.Attn

end

end
-- ==== Proof.AttnTiles.lean ====
module

public import proofs.«01_k».proof.Proof.Gen.Kernel2Ideal.Frame
public import Idealize.ShloMosaic.Lib.Pipeline.ValueKit
public import Idealize.ShloMosaic.Lib.Pointwise

set_option maxRecDepth 16384

/-! # Arrays written tile by tile: eight heads, four or two groups of lanes -/

@[expose] public section

noncomputable section

namespace Cert.Attn

open Idealize.ShloMosaic Idealize.ShloMosaic.TcCoe Idealize.SL.Sem
open Cert.Kernel2Ideal Cert.Kernel2Ideal.Gen

variable {F : FTy → Type} [FloatOps F] {sig : RefSig}

theorem hz2 : (![0, 0] : Fin 2 → Nat) = fun _ => 0 := funext fun a => by fin_cases a <;> rfl
theorem hz3 : (![0, 0, 0] : Fin 3 → Nat) = fun _ => 0 := funext fun a => by fin_cases a <;> rfl

/-- Eight heads' tiles, one after the other. -/
def stack8 {e : EltTy} (w0 w1 w2 w3 w4 w5 w6 w7 : Vec F S1x128x256 e) : Vec F S8x128x256 e := fun y =>
  (![w0, w1, w2, w3, w4, w5, w6, w7] : Fin 8 → Vec F S1x128x256 e) (y 0) (ix3 (0 : Fin 1) (y 1) (y 2))

/-- The pieces the kernel writes head by head, last first. -/
abbrev heads8 {e : EltTy} (w0 w1 w2 w3 w4 w5 w6 w7 : Vec F S1x128x256 e) : List (View.Piece (Elt F) S8x128x256 e) :=
  [⟨Rect.unit ![7, 0, 0] (no_index S1x128x256.size) inb_S8x128x256_S1x128x256_7_0_0, w7⟩,
    ⟨Rect.unit ![6, 0, 0] (no_index S1x128x256.size) inb_S8x128x256_S1x128x256_6_0_0, w6⟩,
    ⟨Rect.unit ![5, 0, 0] (no_index S1x128x256.size) inb_S8x128x256_S1x128x256_5_0_0, w5⟩,
    ⟨Rect.unit ![4, 0, 0] (no_index S1x128x256.size) inb_S8x128x256_S1x128x256_4_0_0, w4⟩,
    ⟨Rect.unit ![3, 0, 0] (no_index S1x128x256.size) inb_S8x128x256_S1x128x256_3_0_0, w3⟩,
    ⟨Rect.unit ![2, 0, 0] (no_index S1x128x256.size) inb_S8x128x256_S1x128x256_2_0_0, w2⟩,
    ⟨Rect.unit ![1, 0, 0] (no_index S1x128x256.size) inb_S8x128x256_S1x128x256_1_0_0, w1⟩,
    ⟨Rect.unit ![0, 0, 0] (no_index S1x128x256.size) inb_S8x128x256_S1x128x256_0_0_0, w0⟩]

theorem cover8 {e : EltTy} (w0 w1 w2 w3 w4 w5 w6 w7 : Vec F S1x128x256 e) :
    ∀ y : S8x128x256.Idx, ∃ p ∈ heads8 w0 w1 w2 w3 w4 w5 w6 w7, y ∈ p.1.set :=
  View.cover_of_tiledL _ ![1, 128, 256] rfl

theorem stack8_at {e : EltTy} (w0 w1 w2 w3 w4 w5 w6 w7 : Vec F S1x128x256 e) (h : ℕ) (hh : h < 8) (inb)
    (x : (Rect.unit ![h, 0, 0] S1x128x256.size inb : Rect S8x128x256).shape.Idx) :
    (![w0, w1, w2, w3, w4, w5, w6, w7] : Fin 8 → Vec F S1x128x256 e) ⟨h, hh⟩ x
      = stack8 w0 w1 w2 w3 w4 w5 w6 w7 ((Rect.unit ![h, 0, 0] S1x128x256.size inb : Rect S8x128x256).emb x) := by
  have h0 : (x 0 : ℕ) < 1 := (x 0).isLt
  have e0 : ((Rect.unit ![h, 0, 0] S1x128x256.size inb : Rect S8x128x256).emb x 0 : ℕ) = h + x 0 :=
    Rect.idx_unit_val (s := S8x128x256) ![h, 0, 0] S1x128x256.size inb x 0
  have e1 : ((Rect.unit ![h, 0, 0] S1x128x256.size inb : Rect S8x128x256).emb x 1 : ℕ) = x 1 := by
    simpa using Rect.idx_unit_val (s := S8x128x256) ![h, 0, 0] S1x128x256.size inb x 1
  have e2 : ((Rect.unit ![h, 0, 0] S1x128x256.size inb : Rect S8x128x256).emb x 2 : ℕ) = x 2 := by
    simpa using Rect.idx_unit_val (s := S8x128x256) ![h, 0, 0] S1x128x256.size inb x 2
  have ee : (Rect.unit ![h, 0, 0] S1x128x256.size inb : Rect S8x128x256).emb x 0 = (⟨h, hh⟩ : Fin 8) :=
    Fin.ext (by show _ = h; omega)
  unfold stack8
  rw [ee]
  refine congrArg ((![w0, w1, w2, w3, w4, w5, w6, w7] : Fin 8 → Vec F S1x128x256 e) ⟨h, hh⟩) (funext fun a => ?_)
  apply Fin.ext
  fin_cases a
  · show (x 0 : ℕ) = 0
    omega
  · exact e1.symm
  · exact e2.symm

/-- Eight heads written one by one leave the stack. -/
theorem canon_heads8 {e : EltTy} (w0 w1 w2 w3 w4 w5 w6 w7 : Vec F S1x128x256 e) :
    View.canon (heads8 w0 w1 w2 w3 w4 w5 w6 w7) = stack8 w0 w1 w2 w3 w4 w5 w6 w7 := by
  funext y
  refine View.canon_apply_of_pieces (stack8 w0 w1 w2 w3 w4 w5 w6 w7) _ (fun p hp x => ?_) y (cover8 _ _ _ _ _ _ _ _ y)
  simp only [List.mem_cons, List.not_mem_nil, or_false] at hp
  rcases hp with rfl | rfl | rfl | rfl | rfl | rfl | rfl | rfl
  · exact stack8_at w0 w1 w2 w3 w4 w5 w6 w7 7 (by omega) inb_S8x128x256_S1x128x256_7_0_0 x
  · exact stack8_at w0 w1 w2 w3 w4 w5 w6 w7 6 (by omega) inb_S8x128x256_S1x128x256_6_0_0 x
  · exact stack8_at w0 w1 w2 w3 w4 w5 w6 w7 5 (by omega) inb_S8x128x256_S1x128x256_5_0_0 x
  · exact stack8_at w0 w1 w2 w3 w4 w5 w6 w7 4 (by omega) inb_S8x128x256_S1x128x256_4_0_0 x
  · exact stack8_at w0 w1 w2 w3 w4 w5 w6 w7 3 (by omega) inb_S8x128x256_S1x128x256_3_0_0 x
  · exact stack8_at w0 w1 w2 w3 w4 w5 w6 w7 2 (by omega) inb_S8x128x256_S1x128x256_2_0_0 x
  · exact stack8_at w0 w1 w2 w3 w4 w5 w6 w7 1 (by omega) inb_S8x128x256_S1x128x256_1_0_0 x
  · exact stack8_at w0 w1 w2 w3 w4 w5 w6 w7 0 (by omega) inb_S8x128x256_S1x128x256_0_0_0 x

theorem readCov_heads8 {e : EltTy} {κ : Kind} {sp : Space} (v : View sig κ sp S8x128x256 e) (w0 w1 w2 w3 w4 w5 w6 w7 : Vec F S1x128x256 e) (inb) :
    v.readCov (heads8 w0 w1 w2 w3 w4 w5 w6 w7) (Rect.unit ![0, 0, 0] (no_index S8x128x256.size) inb).toLoadRect = stack8 w0 w1 w2 w3 w4 w5 w6 w7 := by
  rw [View.readCov_eq_canon_ld _ _ _ (cover8 _ _ _ _ _ _ _ _), canon_heads8, View.ld_unit_zero hz3]

theorem read_heads8 {e : EltTy} {κ : Kind} {sp : Space} (v : View sig κ sp S8x128x256 e) (f) (w0 w1 w2 w3 w4 w5 w6 w7 : Vec F S1x128x256 e) :
    v.read (Elt F) (v.writes (Elt F) f (heads8 w0 w1 w2 w3 w4 w5 w6 w7)) = stack8 w0 w1 w2 w3 w4 w5 w6 w7 := by
  rw [View.read_writes_eq_canon _ _ _ (cover8 _ _ _ _ _ _ _ _), canon_heads8]

/-- One head of an array written whole. -/
theorem readCov_head {e : EltTy} {κ : Kind} {sp : Space} (v : View sig κ sp S8x128x256 e) (w : Vec F S8x128x256 e) (off : Fin 3 → ℕ) (inb)
    (inb' : ∀ a : Fin S8x128x256.rank, off a + S1x128x256.size a ≤ S8x128x256.size a) :
    v.readCov [⟨Rect.unit ![0, 0, 0] (no_index S8x128x256.size) inb, w⟩] (Rect.unit (s := S8x128x256) off (no_index S1x128x256.size) inb').toLoadRect
      = View.ld w (Rect.unit (s := S8x128x256) off (no_index S1x128x256.size) inb') := by
  have hc : ∀ y : S8x128x256.Idx, ∃ p ∈ ([⟨Rect.unit ![0, 0, 0] (no_index S8x128x256.size) inb, w⟩] : List (View.Piece (Elt F) S8x128x256 e)), y ∈ p.1.set :=
    fun y => ⟨_, List.mem_singleton_self _, View.mem_set_unit_zero hz3 inb y⟩
  rw [View.readCov_eq_canon_ld v _ (Rect.unit (s := S8x128x256) off (no_index S1x128x256.size) inb') hc, View.canon_unit_zero hz3]

/-- Four groups of 128 lanes, side by side. -/
def lanes4 {e : EltTy} (w0 w1 w2 w3 : Vec F S128x128 e) : Vec F S128x512 e := fun y =>
  (![w0, w1, w2, w3] : Fin 4 → Vec F S128x128 e) ⟨(y 1).val / 128, by have := (y 1).isLt; have : S128x512.size 1 = 512 := rfl; omega⟩
    (ix2 (y 0) (⟨(y 1).val % 128, Nat.mod_lt _ (by omega)⟩ : Fin 128))

/-- Two groups of 128 lanes, side by side. -/
def lanes2 {e : EltTy} (w0 w1 : Vec F S128x128 e) : Vec F S128x256 e := fun y =>
  (![w0, w1] : Fin 2 → Vec F S128x128 e) ⟨(y 1).val / 128, by have := (y 1).isLt; have : S128x256.size 1 = 256 := rfl; omega⟩
    (ix2 (y 0) (⟨(y 1).val % 128, Nat.mod_lt _ (by omega)⟩ : Fin 128))

theorem lanes4_at {e : EltTy} (w0 w1 w2 w3 : Vec F S128x128 e) (g : ℕ) (hg : g < 4) (inb)
    (x : (Rect.unit ![0, 128 * g] S128x128.size inb : Rect S128x512).shape.Idx) :
    (![w0, w1, w2, w3] : Fin 4 → Vec F S128x128 e) ⟨g, hg⟩ x
      = lanes4 w0 w1 w2 w3 ((Rect.unit ![0, 128 * g] S128x128.size inb : Rect S128x512).emb x) := by
  have h1 : (x 1 : ℕ) < 128 := (x 1).isLt
  have e1 : ((Rect.unit ![0, 128 * g] S128x128.size inb : Rect S128x512).emb x 1 : ℕ) = 128 * g + x 1 := by
    simpa using Rect.idx_unit_val (s := S128x512) ![0, 128 * g] S128x128.size inb x 1
  have e0 : ((Rect.unit ![0, 128 * g] S128x128.size inb : Rect S128x512).emb x 0 : ℕ) = x 0 := by
    simpa using Rect.idx_unit_val (s := S128x512) ![0, 128 * g] S128x128.size inb x 0
  unfold lanes4
  refine congr (congrArg _ (Fin.ext ?_)) (funext fun a => Fin.ext ?_)
  · show g = _ / 128
    omega
  · fin_cases a
    · exact e0.symm
    · show (x 1 : ℕ) = _ % 128
      omega

theorem lanes2_at {e : EltTy} (w0 w1 : Vec F S128x128 e) (g : ℕ) (hg : g < 2) (inb)
    (x : (Rect.unit ![0, 128 * g] S128x128.size inb : Rect S128x256).shape.Idx) :
    (![w0, w1] : Fin 2 → Vec F S128x128 e) ⟨g, hg⟩ x
      = lanes2 w0 w1 ((Rect.unit ![0, 128 * g] S128x128.size inb : Rect S128x256).emb x) := by
  have h1 : (x 1 : ℕ) < 128 := (x 1).isLt
  have e1 : ((Rect.unit ![0, 128 * g] S128x128.size inb : Rect S128x256).emb x 1 : ℕ) = 128 * g + x 1 := by
    simpa using Rect.idx_unit_val (s := S128x256) ![0, 128 * g] S128x128.size inb x 1
  have e0 : ((Rect.unit ![0, 128 * g] S128x128.size inb : Rect S128x256).emb x 0 : ℕ) = x 0 := by
    simpa using Rect.idx_unit_val (s := S128x256) ![0, 128 * g] S128x128.size inb x 0
  unfold lanes2
  refine congr (congrArg _ (Fin.ext ?_)) (funext fun a => Fin.ext ?_)
  · show g = _ / 128
    omega
  · fin_cases a
    · exact e0.symm
    · show (x 1 : ℕ) = _ % 128
      omega

/-- The pieces the kernel writes 128 lanes at a time, last first. -/
abbrev groups4 {e : EltTy} (w0 w1 w2 w3 : Vec F S128x128 e) : List (View.Piece (Elt F) S128x512 e) :=
  [⟨Rect.unit ![0, 384] (no_index S128x128.size) inb_S128x512_S128x128_0_384, w3⟩,
      ⟨Rect.unit ![0, 256] (no_index S128x128.size) inb_S128x512_S128x128_0_256, w2⟩,
      ⟨Rect.unit ![0, 128] (no_index S128x128.size) inb_S128x512_S128x128_0_128, w1⟩,
      ⟨Rect.unit ![0, 0] (no_index S128x128.size) inb_S128x512_S128x128_0_0, w0⟩]

theorem read_lanes4 {e : EltTy} {κ : Kind} {sp : Space} (v : View sig κ sp S128x512 e) (f) (w0 w1 w2 w3 : Vec F S128x128 e) :
    v.read (Elt F) (v.writes (Elt F) f (groups4 w0 w1 w2 w3)) = lanes4 w0 w1 w2 w3 := by
  have hc := View.cover_of_tiledL (groups4 w0 w1 w2 w3) ![128, 128] rfl
  rw [View.read_writes_eq_canon _ _ _ hc]
  funext y
  refine View.canon_apply_of_pieces (lanes4 w0 w1 w2 w3) _ (fun p hp x => ?_) y (hc y)
  simp only [List.mem_cons, List.not_mem_nil, or_false] at hp
  rcases hp with rfl | rfl | rfl | rfl
  · exact lanes4_at w0 w1 w2 w3 3 (by omega) inb_S128x512_S128x128_0_384 x
  · exact lanes4_at w0 w1 w2 w3 2 (by omega) inb_S128x512_S128x128_0_256 x
  · exact lanes4_at w0 w1 w2 w3 1 (by omega) inb_S128x512_S128x128_0_128 x
  · exact lanes4_at w0 w1 w2 w3 0 (by omega) inb_S128x512_S128x128_0_0 x

/-- The pieces the kernel writes 128 lanes at a time, last first. -/
abbrev groups2 {e : EltTy} (w0 w1 : Vec F S128x128 e) : List (View.Piece (Elt F) S128x256 e) :=
  [⟨Rect.unit ![0, 128] (no_index S128x128.size) inb_S128x256_S128x128_0_128, w1⟩,
      ⟨Rect.unit ![0, 0] (no_index S128x128.size) inb_S128x256_S128x128_0_0, w0⟩]

theorem read_lanes2 {e : EltTy} {κ : Kind} {sp : Space} (v : View sig κ sp S128x256 e) (f) (w0 w1 : Vec F S128x128 e) :
    v.read (Elt F) (v.writes (Elt F) f (groups2 w0 w1)) = lanes2 w0 w1 := by
  have hc := View.cover_of_tiledL (groups2 w0 w1) ![128, 128] rfl
  rw [View.read_writes_eq_canon _ _ _ hc]
  funext y
  refine View.canon_apply_of_pieces (lanes2 w0 w1) _ (fun p hp x => ?_) y (hc y)
  simp only [List.mem_cons, List.not_mem_nil, or_false] at hp
  rcases hp with rfl | rfl
  · exact lanes2_at w0 w1 1 (by omega) inb_S128x256_S128x128_0_128 x
  · exact lanes2_at w0 w1 0 (by omega) inb_S128x256_S128x128_0_0 x

/-- An array written whole, read back. -/
theorem read_whole {S : Shape} {e : EltTy} {κ : Kind} {sp : Space} (v : View sig κ sp S e) (f) (w : Vec F S e) (off : Fin S.rank → ℕ) (h : off = fun _ => 0) (inb) :
    v.read (Elt F) (v.writes (Elt F) f [⟨Rect.unit off (no_index S.size) inb, w⟩]) = w := by
  rw [View.read_writes_eq_canon _ _ _ (fun y => ⟨_, List.mem_singleton_self _, View.mem_set_unit_zero h inb y⟩), View.canon_unit_zero h]

/-- An array written whole last, whatever was written before. -/
theorem read_whole_cons {S : Shape} {e : EltTy} {κ : Kind} {sp : Space} (v : View sig κ sp S e) (f) (w : Vec F S e) (L : List (View.Piece (Elt F) S e)) (off : Fin S.rank → ℕ) (h : off = fun _ => 0) (inb) :
    v.read (Elt F) (v.writes (Elt F) f (⟨Rect.unit off (no_index S.size) inb, w⟩ :: L)) = w := by
  rw [View.read_writes_eq_canon _ _ _ (fun y => ⟨_, List.mem_cons_self, View.mem_set_unit_zero h inb y⟩), View.canon_cons_unit_zero h]

end Cert.Attn

end
-- ==== Proof.AttnOut.lean ====
module

public import proofs.«01_k».proof.Proof.Gen.Kernel2Ideal.Frame
public import proofs.«01_k».proof.Proof.Gen.Kernel2Ideal.Skeleton
public import proofs.«01_k».proof.Proof.AttnTiles

set_option maxRecDepth 16384
set_option maxHeartbeats 1600000

/-! # The kernel's arrays at one point, from the blocks it loads -/

@[expose] public section

noncomputable section

namespace Cert.Attn

open Idealize.ShloMosaic Idealize.ShloMosaic.TcCoe Idealize.SL.Sem
open Cert.Kernel2Ideal Cert.Kernel2Ideal.Gen

variable {F : FTy → Type} [FloatOps F] [Named F]

section

variable (q da : Vec F S128x512 .bf16) (kc kp vc vp : Vec F S128x128 .bf16) (bk : Vec F S128x256 .i32) (sk : Vec F S1x8 .f32)
  (n : BitVec 32) (bias : Vec F S8x128x256 .f32)

/-- A group of 128 lanes. -/
abbrev grp0 (x : Vec F S128x512 .bf16) := View.ld x (Rect.unit (s := S128x512) ![0, 0] S128x128.size inb_S128x512_S128x128_0_0)
abbrev grp1 (x : Vec F S128x512 .bf16) := View.ld x (Rect.unit (s := S128x512) ![0, 128] S128x128.size inb_S128x512_S128x128_0_128)
abbrev grp2 (x : Vec F S128x512 .bf16) := View.ld x (Rect.unit (s := S128x512) ![0, 256] S128x128.size inb_S128x512_S128x128_0_256)
abbrev grp3 (x : Vec F S128x512 .bf16) := View.ld x (Rect.unit (s := S128x512) ![0, 384] S128x128.size inb_S128x512_S128x128_0_384)

/-- The scores, head by head. -/
def scoreV : Vec F S8x128x256 .f32 :=
  stack8 (k0_pay55 (k0_pay43 kp kc) (grp0 q)) (k0_pay56 (k0_pay45 kp kc) (grp0 q)) (k0_pay57 (k0_pay43 kp kc) (grp1 q)) (k0_pay58 (k0_pay45 kp kc) (grp1 q))
    (k0_pay60 (k0_pay59 (k0_pay46 kp kc) (grp2 q))) (k0_pay61 (k0_pay44 kp kc) (grp2 q)) (k0_pay62 (k0_pay46 kp kc) (grp3 q)) (k0_pay63 (k0_pay44 kp kc) (grp3 q))

/-- The probabilities' cotangent, head by head. -/
def dprobV : Vec F S8x128x256 .f32 :=
  stack8 (k0_pay75 (k0_pay50 vp vc) (grp0 da)) (k0_pay76 (k0_pay52 vp vc) (grp0 da)) (k0_pay78 (k0_pay77 (k0_pay50 vp vc) (grp1 da))) (k0_pay79 (k0_pay52 vp vc) (grp1 da))
    (k0_pay80 (k0_pay53 vp vc) (grp2 da)) (k0_pay81 (k0_pay51 vp vc) (grp2 da)) (k0_pay82 (k0_pay53 vp vc) (grp3 da)) (k0_pay83 (k0_pay51 vp vc) (grp3 da))

/-- The heads' sinks. -/
def sinkV : FVec F S8x1x1 .f32 :=
  k0_pay65 (iota Kind.tc S8x1x1 32 [0] iota_S8x1x1_d0_w32)
    (k0_pay64 (View.ld sk (Rect.unit (s := S1x8) ![0, 0] S1x1.size inb_S1x8_S1x1_0_0) (Shape.Idx.first (by decide)))
      (View.ld sk (Rect.unit (s := S1x8) ![0, 1] S1x1.size inb_S1x8_S1x1_0_1) (Shape.Idx.first (by decide))))
    (View.ld sk (Rect.unit (s := S1x8) ![0, 2] S1x1.size inb_S1x8_S1x1_0_2) (Shape.Idx.first (by decide)))
    (View.ld sk (Rect.unit (s := S1x8) ![0, 3] S1x1.size inb_S1x8_S1x1_0_3) (Shape.Idx.first (by decide)))
    (View.ld sk (Rect.unit (s := S1x8) ![0, 4] S1x1.size inb_S1x8_S1x1_0_4) (Shape.Idx.first (by decide)))
    (View.ld sk (Rect.unit (s := S1x8) ![0, 5] S1x1.size inb_S1x8_S1x1_0_5) (Shape.Idx.first (by decide)))
    (View.ld sk (Rect.unit (s := S1x8) ![0, 6] S1x1.size inb_S1x8_S1x1_0_6) (Shape.Idx.first (by decide)))
    (View.ld sk (Rect.unit (s := S1x8) ![0, 7] S1x1.size inb_S1x8_S1x1_0_7) (Shape.Idx.first (by decide)))

/-- The probabilities. -/
def probV : FVec F S8x128x256 .f32 := k0_pay73 (sinkV sk) (k0_pay66 (k0_pay54 n bk)) (k0_pay67 (scoreV q kc kp)) bias
/-- The sinks' probabilities. -/
def psinkV : FVec F S8x128x1 .f32 := k0_pay74 (sinkV sk) (k0_pay66 (k0_pay54 n bk)) (k0_pay67 (scoreV q kc kp)) bias
end

section

variable (q da : Vec F S128x512 .bf16) (kc kp : Vec F S128x128 .bf16) (P DP : FVec F S8x128x256 .f32) (PS : FVec F S8x128x1 .f32)

/-- One head. -/
abbrev hd0 (w : Vec F S8x128x256 .bf16) := View.ld w (Rect.unit (s := S8x128x256) ![0, 0, 0] S1x128x256.size inb_S8x128x256_S1x128x256_0_0_0)
abbrev hd1 (w : Vec F S8x128x256 .bf16) := View.ld w (Rect.unit (s := S8x128x256) ![1, 0, 0] S1x128x256.size inb_S8x128x256_S1x128x256_1_0_0)
abbrev hd2 (w : Vec F S8x128x256 .bf16) := View.ld w (Rect.unit (s := S8x128x256) ![2, 0, 0] S1x128x256.size inb_S8x128x256_S1x128x256_2_0_0)
abbrev hd3 (w : Vec F S8x128x256 .bf16) := View.ld w (Rect.unit (s := S8x128x256) ![3, 0, 0] S1x128x256.size inb_S8x128x256_S1x128x256_3_0_0)
abbrev hd4 (w : Vec F S8x128x256 .bf16) := View.ld w (Rect.unit (s := S8x128x256) ![4, 0, 0] S1x128x256.size inb_S8x128x256_S1x128x256_4_0_0)
abbrev hd5 (w : Vec F S8x128x256 .bf16) := View.ld w (Rect.unit (s := S8x128x256) ![5, 0, 0] S1x128x256.size inb_S8x128x256_S1x128x256_5_0_0)
abbrev hd6 (w : Vec F S8x128x256 .bf16) := View.ld w (Rect.unit (s := S8x128x256) ![6, 0, 0] S1x128x256.size inb_S8x128x256_S1x128x256_6_0_0)
abbrev hd7 (w : Vec F S8x128x256 .bf16) := View.ld w (Rect.unit (s := S8x128x256) ![7, 0, 0] S1x128x256.size inb_S8x128x256_S1x128x256_7_0_0)
/-- The rows of a band, lane by lane, weighted by head. -/
def headsV (w : Vec F S8x128x256 .bf16) : Vec F S128x512 .bf16 :=
  lanes4 (k0_pay90 (k0_pay43 kp kc) (k0_pay45 kp kc) (hd0 w) (hd1 w))
    (k0_pay91 (k0_pay43 kp kc) (k0_pay45 kp kc) (hd2 w) (hd3 w))
    (k0_pay93 (k0_pay44 kp kc) (k0_pay92 (k0_pay46 kp kc) (hd4 w)) (hd5 w))
    (k0_pay94 (k0_pay44 kp kc) (k0_pay46 kp kc) (hd6 w) (hd7 w))

/-- The queries' gradient. -/
def dqV : Vec F S128x512 .bf16 := headsV kc kp (k0_pay88 P DP)

/-- The four sums of which the keys' gradient is made. -/
abbrev dk0 := k0_pay98 (k0_pay95 (hd0 (k0_pay88 P DP)) (grp0 q)) (k0_pay96 (hd2 (k0_pay88 P DP))) (k0_pay97 (grp1 q))
abbrev dk1 := k0_pay100 (hd1 (k0_pay88 P DP)) (grp0 q) (hd3 (k0_pay88 P DP)) (grp1 q)
abbrev dk2 := k0_pay103 (hd4 (k0_pay88 P DP)) (grp2 q) (hd6 (k0_pay88 P DP)) (grp3 q)
abbrev dk3 := k0_pay107 (hd5 (k0_pay88 P DP)) (grp2 q) (hd7 (k0_pay88 P DP)) (grp3 q)

/-- The sums of which the values' gradient is made. -/
abbrev dv0 := k0_pay99 (hd0 (k0_pay89 P)) (grp0 da) (hd2 (k0_pay89 P)) (grp1 da)
abbrev dv1 := k0_pay102 (k0_pay101 (hd1 (k0_pay89 P))) (grp0 da) (hd3 (k0_pay89 P)) (grp1 da)
abbrev dv2 := k0_pay106 (k0_pay104 (hd4 (k0_pay89 P)) (grp2 da)) k0_pay105 (hd6 (k0_pay89 P)) (grp3 da)
abbrev dv3 := k0_pay108 (hd5 (k0_pay89 P)) (grp2 da)

/-- The current block's part of the keys' and the values' gradients, kept for the next point. -/
def keepK : Vec F S128x128 .f32 := k0_pay10 (dk0 q P DP) (dk1 q P DP) (dk2 q P DP) (dk3 q P DP)
def keepW : Vec F S128x128 .f32 := k0_pay11 (dv0 da P) (dv1 da P) (dv2 da P) (dv3 da P) (k0_pay109 (hd7 (k0_pay89 P))) (grp3 da)

/-- The previous block's gradients, complete. -/
def dkvV (c0 c1 : Vec F S128x128 .f32) : Vec F S128x256 .bf16 :=
  lanes2 (k0_pay8 (dk0 q P DP) (dk1 q P DP) (dk2 q P DP) (dk3 q P DP) c0)
    (k0_pay9 (dv0 da P) (dv1 da P) (dv2 da P) (dv3 da P) (k0_pay109 (hd7 (k0_pay89 P))) (grp3 da) c1)

end

end Cert.Attn

end
-- ==== Proof.AttnOutA.lean ====
module

public import proofs.«01_k».proof.Proof.AttnRunA
public import proofs.«01_k».proof.Proof.AttnOut

set_option maxRecDepth 16384
set_option maxHeartbeats 1600000

/-! # What the first point leaves -/

@[expose] public section

noncomputable section

namespace Cert.Attn

open Idealize.ShloMosaic Idealize.ShloMosaic.TcCoe Idealize.SL.Sem
open Cert.Kernel2Ideal Cert.Kernel2Ideal.Gen

variable {F : FTy → Type} [FloatOps F] [Named F]

/-- The biases the first point spreads over the band. -/
def biasA  (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc0 : cond0_0 i) (hc1 : cond0_1 i) (hc2 : ¬cond0_2 i) (hc3 : ¬cond0_3 i)
    (x1 : Vec F S128x512 .bf16) (x2 : Vec F S128x512 .bf16) (x3 : Vec F S128x128 .bf16) (x4 : Vec F S128x128 .bf16) (x5 : Vec F S128x128 .bf16) (x6 : Vec F S128x128 .bf16) (x7 : Vec F S128x256 .i32) (x8 : Vec F S8x32 .f32) (x9 : Vec F S1x8 .f32) (x10 : Vec F S128x512 .bf16) (x11 : Vec F S128x256 .bf16) (x12 : Vec F S8x40x128 .f32) (x13 : Vec F S8x128x256 .f32) (x14 : Vec F S8x128x256 .f32) (x15 : Vec F S8x1x1 .f32) (x16 : Vec F S128x128 .f32) (x17 : Vec F S128x128 .f32) (x18 : Vec F S8x128x256 .f32) (x19 : Vec F S8x128x256 .f32) (x20 : Vec F S8x128x256 .bf16) (x21 : Vec F S8x128x256 .bf16) : Vec F S8x128x256 .f32 :=
  stack8 (k0_pay19 (st_k0_t1 Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x7 (h8.unread x8) k0_pay17 (Scf.trips (0#32) (Scalar.addi 0#32 32#32) 1#32))) (k0_pay22 (st_k0_t2 Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x7 (h8.unread x8) k0_pay20 (Scf.trips (0#32) (Scalar.addi 0#32 32#32) 1#32))) (k0_pay25 (st_k0_t3 Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x7 (h8.unread x8) k0_pay23 (Scf.trips (0#32) (Scalar.addi 0#32 32#32) 1#32))) (k0_pay28 (st_k0_t4 Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x7 (h8.unread x8) k0_pay26 (Scf.trips (0#32) (Scalar.addi 0#32 32#32) 1#32))) (k0_pay31 (st_k0_t5 Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x7 (st_k0_t4 Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x7 (h8.unread x8) k0_pay26 (Scf.trips (0#32) (Scalar.addi 0#32 32#32) 1#32)) (View.ld x13 (Rect.unit (s := S8x128x256) ![3, 0, 0] ![1, 128, 256] inb_S8x128x256_S1x128x256_3_0_0)) (h8.unread x8) k0_pay29 (Scf.trips (0#32) (Scalar.addi 0#32 32#32) 1#32))) (k0_pay34 (st_k0_t6 Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x7 (st_k0_t4 Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x7 (h8.unread x8) k0_pay26 (Scf.trips (0#32) (Scalar.addi 0#32 32#32) 1#32)) (View.ld x13 (Rect.unit (s := S8x128x256) ![3, 0, 0] ![1, 128, 256] inb_S8x128x256_S1x128x256_3_0_0)) (h8.unread x8) k0_pay32 (Scf.trips (0#32) (Scalar.addi 0#32 32#32) 1#32))) (k0_pay37 (st_k0_t7 Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x7 (st_k0_t4 Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x7 (h8.unread x8) k0_pay26 (Scf.trips (0#32) (Scalar.addi 0#32 32#32) 1#32)) (View.ld x13 (Rect.unit (s := S8x128x256) ![3, 0, 0] ![1, 128, 256] inb_S8x128x256_S1x128x256_3_0_0)) (h8.unread x8) k0_pay35 (Scf.trips (0#32) (Scalar.addi 0#32 32#32) 1#32))) (k0_pay1 (st_k0_t8 Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x7 (st_k0_t4 Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x7 (h8.unread x8) k0_pay26 (Scf.trips (0#32) (Scalar.addi 0#32 32#32) 1#32)) (View.ld x13 (Rect.unit (s := S8x128x256) ![3, 0, 0] ![1, 128, 256] inb_S8x128x256_S1x128x256_3_0_0)) (h8.unread x8) k0_pay38 (Scf.trips (0#32) (Scalar.addi 0#32 32#32) 1#32)))

/-- What the run leaves: the biases. -/
theorem outA_bias  (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc0 : cond0_0 i) (hc1 : cond0_1 i) (hc2 : ¬cond0_2 i) (hc3 : ¬cond0_3 i)
    (x1 : Vec F S128x512 .bf16) (x2 : Vec F S128x512 .bf16) (x3 : Vec F S128x128 .bf16) (x4 : Vec F S128x128 .bf16) (x5 : Vec F S128x128 .bf16) (x6 : Vec F S128x128 .bf16) (x7 : Vec F S128x256 .i32) (x8 : Vec F S8x32 .f32) (x9 : Vec F S1x8 .f32) (x10 : Vec F S128x512 .bf16) (x11 : Vec F S128x256 .bf16) (x12 : Vec F S8x40x128 .f32) (x13 : Vec F S8x128x256 .f32) (x14 : Vec F S8x128x256 .f32) (x15 : Vec F S8x1x1 .f32) (x16 : Vec F S128x128 .f32) (x17 : Vec F S128x128 .f32) (x18 : Vec F S8x128x256 .f32) (x19 : Vec F S8x128x256 .f32) (x20 : Vec F S8x128x256 .bf16) (x21 : Vec F S8x128x256 .bf16) :
    (runA (F := F) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 hc2 hc3 x1 x2 x3 x4 x5 x6 x7 x8 x9 x10 x11 x12 x13 x14 x15 x16 x17 x18 x19 x20 x21).2.1 = biasA c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 hc2 hc3 x1 x2 x3 x4 x5 x6 x7 x8 x9 x10 x11 x12 x13 x14 x15 x16 x17 x18 x19 x20 x21 := by
  unfold runA
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread,
    View.ld_unit_zero (S := S128x128) hz2, View.ld_unit_zero (S := S128x256) hz2, View.ld_unit_zero (S := S8x128x256) hz3, View.ld_unit_zero (S := S8x1x1) hz3, View.ld_unit_zero (S := S8x40x128) hz3,
    readCov_heads8, readCov_head, read_whole_cons (S := S8x128x256) _ _ _ _ _ hz3, read_whole_cons (S := S8x1x1) _ _ _ _ _ hz3, read_whole_cons (S := S8x40x128) _ _ _ _ _ hz3, read_whole_cons (S := S128x128) _ _ _ _ _ hz2, read_heads8, read_lanes4, read_lanes2, View.readCov_unit_zero (S := S8x128x256) _ hz3, View.readCov_unit_zero (S := S128x128) _ hz2, View.readCov_unit_zero (S := S8x1x1) _ hz3]
  rfl

/-- What the run leaves: the queries' gradient. -/
theorem outA_dq  (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc0 : cond0_0 i) (hc1 : cond0_1 i) (hc2 : ¬cond0_2 i) (hc3 : ¬cond0_3 i)
    (x1 : Vec F S128x512 .bf16) (x2 : Vec F S128x512 .bf16) (x3 : Vec F S128x128 .bf16) (x4 : Vec F S128x128 .bf16) (x5 : Vec F S128x128 .bf16) (x6 : Vec F S128x128 .bf16) (x7 : Vec F S128x256 .i32) (x8 : Vec F S8x32 .f32) (x9 : Vec F S1x8 .f32) (x10 : Vec F S128x512 .bf16) (x11 : Vec F S128x256 .bf16) (x12 : Vec F S8x40x128 .f32) (x13 : Vec F S8x128x256 .f32) (x14 : Vec F S8x128x256 .f32) (x15 : Vec F S8x1x1 .f32) (x16 : Vec F S128x128 .f32) (x17 : Vec F S128x128 .f32) (x18 : Vec F S8x128x256 .f32) (x19 : Vec F S8x128x256 .f32) (x20 : Vec F S8x128x256 .bf16) (x21 : Vec F S8x128x256 .bf16) :
    (runA (F := F) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 hc2 hc3 x1 x2 x3 x4 x5 x6 x7 x8 x9 x10 x11 x12 x13 x14 x15 x16 x17 x18 x19 x20 x21).1 = dqV x3 x4 (probV x1 x3 x4 x7 x9 (BitVec.ofNat 32 (i 0).val) (biasA c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 hc2 hc3 x1 x2 x3 x4 x5 x6 x7 x8 x9 x10 x11 x12 x13 x14 x15 x16 x17 x18 x19 x20 x21)) (dprobV x2 x5 x6) := by
  unfold runA
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread,
    View.ld_unit_zero (S := S128x128) hz2, View.ld_unit_zero (S := S128x256) hz2, View.ld_unit_zero (S := S8x128x256) hz3, View.ld_unit_zero (S := S8x1x1) hz3, View.ld_unit_zero (S := S8x40x128) hz3,
    readCov_heads8, readCov_head, read_whole_cons (S := S8x128x256) _ _ _ _ _ hz3, read_whole_cons (S := S8x1x1) _ _ _ _ _ hz3, read_whole_cons (S := S8x40x128) _ _ _ _ _ hz3, read_whole_cons (S := S128x128) _ _ _ _ _ hz2, read_heads8, read_lanes4, read_lanes2, View.readCov_unit_zero (S := S8x128x256) _ hz3, View.readCov_unit_zero (S := S128x128) _ hz2, View.readCov_unit_zero (S := S8x1x1) _ hz3]
  rfl

/-- What the run leaves: the scores' gradients summed. -/
theorem outA_ds  (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc0 : cond0_0 i) (hc1 : cond0_1 i) (hc2 : ¬cond0_2 i) (hc3 : ¬cond0_3 i)
    (x1 : Vec F S128x512 .bf16) (x2 : Vec F S128x512 .bf16) (x3 : Vec F S128x128 .bf16) (x4 : Vec F S128x128 .bf16) (x5 : Vec F S128x128 .bf16) (x6 : Vec F S128x128 .bf16) (x7 : Vec F S128x256 .i32) (x8 : Vec F S8x32 .f32) (x9 : Vec F S1x8 .f32) (x10 : Vec F S128x512 .bf16) (x11 : Vec F S128x256 .bf16) (x12 : Vec F S8x40x128 .f32) (x13 : Vec F S8x128x256 .f32) (x14 : Vec F S8x128x256 .f32) (x15 : Vec F S8x1x1 .f32) (x16 : Vec F S128x128 .f32) (x17 : Vec F S128x128 .f32) (x18 : Vec F S8x128x256 .f32) (x19 : Vec F S8x128x256 .f32) (x20 : Vec F S8x128x256 .bf16) (x21 : Vec F S8x128x256 .bf16) :
    (runA (F := F) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 hc2 hc3 x1 x2 x3 x4 x5 x6 x7 x8 x9 x10 x11 x12 x13 x14 x15 x16 x17 x18 x19 x20 x21).2.2.1 = k0_pay86 (probV x1 x3 x4 x7 x9 (BitVec.ofNat 32 (i 0).val) (biasA c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 hc2 hc3 x1 x2 x3 x4 x5 x6 x7 x8 x9 x10 x11 x12 x13 x14 x15 x16 x17 x18 x19 x20 x21)) (dprobV x2 x5 x6) (k0_pay2 (F := F)) := by
  unfold runA
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread,
    View.ld_unit_zero (S := S128x128) hz2, View.ld_unit_zero (S := S128x256) hz2, View.ld_unit_zero (S := S8x128x256) hz3, View.ld_unit_zero (S := S8x1x1) hz3, View.ld_unit_zero (S := S8x40x128) hz3,
    readCov_heads8, readCov_head, read_whole_cons (S := S8x128x256) _ _ _ _ _ hz3, read_whole_cons (S := S8x1x1) _ _ _ _ _ hz3, read_whole_cons (S := S8x40x128) _ _ _ _ _ hz3, read_whole_cons (S := S128x128) _ _ _ _ _ hz2, read_heads8, read_lanes4, read_lanes2, View.readCov_unit_zero (S := S8x128x256) _ hz3, View.readCov_unit_zero (S := S128x128) _ hz2, View.readCov_unit_zero (S := S8x1x1) _ hz3]
  rfl

/-- What the run leaves: the sinks' gradient. -/
theorem outA_dsink  (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc0 : cond0_0 i) (hc1 : cond0_1 i) (hc2 : ¬cond0_2 i) (hc3 : ¬cond0_3 i)
    (x1 : Vec F S128x512 .bf16) (x2 : Vec F S128x512 .bf16) (x3 : Vec F S128x128 .bf16) (x4 : Vec F S128x128 .bf16) (x5 : Vec F S128x128 .bf16) (x6 : Vec F S128x128 .bf16) (x7 : Vec F S128x256 .i32) (x8 : Vec F S8x32 .f32) (x9 : Vec F S1x8 .f32) (x10 : Vec F S128x512 .bf16) (x11 : Vec F S128x256 .bf16) (x12 : Vec F S8x40x128 .f32) (x13 : Vec F S8x128x256 .f32) (x14 : Vec F S8x128x256 .f32) (x15 : Vec F S8x1x1 .f32) (x16 : Vec F S128x128 .f32) (x17 : Vec F S128x128 .f32) (x18 : Vec F S8x128x256 .f32) (x19 : Vec F S8x128x256 .f32) (x20 : Vec F S8x128x256 .bf16) (x21 : Vec F S8x128x256 .bf16) :
    (runA (F := F) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 hc2 hc3 x1 x2 x3 x4 x5 x6 x7 x8 x9 x10 x11 x12 x13 x14 x15 x16 x17 x18 x19 x20 x21).2.2.2.1 = k0_pay87 (probV x1 x3 x4 x7 x9 (BitVec.ofNat 32 (i 0).val) (biasA c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 hc2 hc3 x1 x2 x3 x4 x5 x6 x7 x8 x9 x10 x11 x12 x13 x14 x15 x16 x17 x18 x19 x20 x21)) (psinkV x1 x3 x4 x7 x9 (BitVec.ofNat 32 (i 0).val) (biasA c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 hc2 hc3 x1 x2 x3 x4 x5 x6 x7 x8 x9 x10 x11 x12 x13 x14 x15 x16 x17 x18 x19 x20 x21)) (dprobV x2 x5 x6) (k0_pay3 (F := F)) := by
  unfold runA
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread,
    View.ld_unit_zero (S := S128x128) hz2, View.ld_unit_zero (S := S128x256) hz2, View.ld_unit_zero (S := S8x128x256) hz3, View.ld_unit_zero (S := S8x1x1) hz3, View.ld_unit_zero (S := S8x40x128) hz3,
    readCov_heads8, readCov_head, read_whole_cons (S := S8x128x256) _ _ _ _ _ hz3, read_whole_cons (S := S8x1x1) _ _ _ _ _ hz3, read_whole_cons (S := S8x40x128) _ _ _ _ _ hz3, read_whole_cons (S := S128x128) _ _ _ _ _ hz2, read_heads8, read_lanes4, read_lanes2, View.readCov_unit_zero (S := S8x128x256) _ hz3, View.readCov_unit_zero (S := S128x128) _ hz2, View.readCov_unit_zero (S := S8x1x1) _ hz3]
  rfl

/-- What the run leaves: the keys' part kept. -/
theorem outA_kk  (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc0 : cond0_0 i) (hc1 : cond0_1 i) (hc2 : ¬cond0_2 i) (hc3 : ¬cond0_3 i)
    (x1 : Vec F S128x512 .bf16) (x2 : Vec F S128x512 .bf16) (x3 : Vec F S128x128 .bf16) (x4 : Vec F S128x128 .bf16) (x5 : Vec F S128x128 .bf16) (x6 : Vec F S128x128 .bf16) (x7 : Vec F S128x256 .i32) (x8 : Vec F S8x32 .f32) (x9 : Vec F S1x8 .f32) (x10 : Vec F S128x512 .bf16) (x11 : Vec F S128x256 .bf16) (x12 : Vec F S8x40x128 .f32) (x13 : Vec F S8x128x256 .f32) (x14 : Vec F S8x128x256 .f32) (x15 : Vec F S8x1x1 .f32) (x16 : Vec F S128x128 .f32) (x17 : Vec F S128x128 .f32) (x18 : Vec F S8x128x256 .f32) (x19 : Vec F S8x128x256 .f32) (x20 : Vec F S8x128x256 .bf16) (x21 : Vec F S8x128x256 .bf16) :
    (runA (F := F) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 hc2 hc3 x1 x2 x3 x4 x5 x6 x7 x8 x9 x10 x11 x12 x13 x14 x15 x16 x17 x18 x19 x20 x21).2.2.2.2.1 = keepK x1 (probV x1 x3 x4 x7 x9 (BitVec.ofNat 32 (i 0).val) (biasA c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 hc2 hc3 x1 x2 x3 x4 x5 x6 x7 x8 x9 x10 x11 x12 x13 x14 x15 x16 x17 x18 x19 x20 x21)) (dprobV x2 x5 x6) := by
  unfold runA
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread,
    View.ld_unit_zero (S := S128x128) hz2, View.ld_unit_zero (S := S128x256) hz2, View.ld_unit_zero (S := S8x128x256) hz3, View.ld_unit_zero (S := S8x1x1) hz3, View.ld_unit_zero (S := S8x40x128) hz3,
    readCov_heads8, readCov_head, read_whole_cons (S := S8x128x256) _ _ _ _ _ hz3, read_whole_cons (S := S8x1x1) _ _ _ _ _ hz3, read_whole_cons (S := S8x40x128) _ _ _ _ _ hz3, read_whole_cons (S := S128x128) _ _ _ _ _ hz2, read_heads8, read_lanes4, read_lanes2, View.readCov_unit_zero (S := S8x128x256) _ hz3, View.readCov_unit_zero (S := S128x128) _ hz2, View.readCov_unit_zero (S := S8x1x1) _ hz3]
  rfl

/-- What the run leaves: the values' part kept. -/
theorem outA_kw  (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc0 : cond0_0 i) (hc1 : cond0_1 i) (hc2 : ¬cond0_2 i) (hc3 : ¬cond0_3 i)
    (x1 : Vec F S128x512 .bf16) (x2 : Vec F S128x512 .bf16) (x3 : Vec F S128x128 .bf16) (x4 : Vec F S128x128 .bf16) (x5 : Vec F S128x128 .bf16) (x6 : Vec F S128x128 .bf16) (x7 : Vec F S128x256 .i32) (x8 : Vec F S8x32 .f32) (x9 : Vec F S1x8 .f32) (x10 : Vec F S128x512 .bf16) (x11 : Vec F S128x256 .bf16) (x12 : Vec F S8x40x128 .f32) (x13 : Vec F S8x128x256 .f32) (x14 : Vec F S8x128x256 .f32) (x15 : Vec F S8x1x1 .f32) (x16 : Vec F S128x128 .f32) (x17 : Vec F S128x128 .f32) (x18 : Vec F S8x128x256 .f32) (x19 : Vec F S8x128x256 .f32) (x20 : Vec F S8x128x256 .bf16) (x21 : Vec F S8x128x256 .bf16) :
    (runA (F := F) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 hc2 hc3 x1 x2 x3 x4 x5 x6 x7 x8 x9 x10 x11 x12 x13 x14 x15 x16 x17 x18 x19 x20 x21).2.2.2.2.2.1 = keepW x2 (probV x1 x3 x4 x7 x9 (BitVec.ofNat 32 (i 0).val) (biasA c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 hc2 hc3 x1 x2 x3 x4 x5 x6 x7 x8 x9 x10 x11 x12 x13 x14 x15 x16 x17 x18 x19 x20 x21)) := by
  unfold runA
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread,
    View.ld_unit_zero (S := S128x128) hz2, View.ld_unit_zero (S := S128x256) hz2, View.ld_unit_zero (S := S8x128x256) hz3, View.ld_unit_zero (S := S8x1x1) hz3, View.ld_unit_zero (S := S8x40x128) hz3,
    readCov_heads8, readCov_head, read_whole_cons (S := S8x128x256) _ _ _ _ _ hz3, read_whole_cons (S := S8x1x1) _ _ _ _ _ hz3, read_whole_cons (S := S8x40x128) _ _ _ _ _ hz3, read_whole_cons (S := S128x128) _ _ _ _ _ hz2, read_heads8, read_lanes4, read_lanes2, View.readCov_unit_zero (S := S8x128x256) _ hz3, View.readCov_unit_zero (S := S128x128) _ hz2, View.readCov_unit_zero (S := S8x1x1) _ hz3]
  rfl

end Cert.Attn

end
-- ==== Proof.AttnOutB.lean ====
module

public import proofs.«01_k».proof.Proof.AttnRunB
public import proofs.«01_k».proof.Proof.AttnOut

set_option maxRecDepth 16384
set_option maxHeartbeats 1600000

/-! # What a middle point leaves -/

@[expose] public section

noncomputable section

namespace Cert.Attn

open Idealize.ShloMosaic Idealize.ShloMosaic.TcCoe Idealize.SL.Sem
open Cert.Kernel2Ideal Cert.Kernel2Ideal.Gen

variable {F : FTy → Type} [FloatOps F] [Named F]

/-- What the run leaves: the queries' gradient. -/
theorem outB_dq  (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc0 : ¬cond0_0 i) (hc1 : cond0_1 i) (hc2 : cond0_2 i) (hc3 : ¬cond0_3 i)
    (x1 : Vec F S128x512 .bf16) (x2 : Vec F S128x512 .bf16) (x3 : Vec F S128x128 .bf16) (x4 : Vec F S128x128 .bf16) (x5 : Vec F S128x128 .bf16) (x6 : Vec F S128x128 .bf16) (x7 : Vec F S128x256 .i32) (x8 : Vec F S8x32 .f32) (x9 : Vec F S1x8 .f32) (x10 : Vec F S128x512 .bf16) (x11 : Vec F S128x256 .bf16) (x12 : Vec F S8x40x128 .f32) (x13 : Vec F S8x128x256 .f32) (x14 : Vec F S8x128x256 .f32) (x15 : Vec F S8x1x1 .f32) (x16 : Vec F S128x128 .f32) (x17 : Vec F S128x128 .f32) (x18 : Vec F S8x128x256 .f32) (x19 : Vec F S8x128x256 .f32) (x20 : Vec F S8x128x256 .bf16) (x21 : Vec F S8x128x256 .bf16) :
    (runB (F := F) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 hc2 hc3 x1 x2 x3 x4 x5 x6 x7 x8 x9 x10 x11 x12 x13 x14 x15 x16 x17 x18 x19 x20 x21).1 = dqV x3 x4 (probV x1 x3 x4 x7 x9 (BitVec.ofNat 32 (i 0).val) x13) (dprobV x2 x5 x6) := by
  unfold runB
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread,
    View.ld_unit_zero (S := S128x128) hz2, View.ld_unit_zero (S := S128x256) hz2, View.ld_unit_zero (S := S8x128x256) hz3, View.ld_unit_zero (S := S8x1x1) hz3, View.ld_unit_zero (S := S8x40x128) hz3,
    readCov_heads8, readCov_head, read_whole_cons (S := S8x128x256) _ _ _ _ _ hz3, read_whole_cons (S := S8x1x1) _ _ _ _ _ hz3, read_whole_cons (S := S8x40x128) _ _ _ _ _ hz3, read_whole_cons (S := S128x128) _ _ _ _ _ hz2, read_heads8, read_lanes4, read_lanes2, View.readCov_unit_zero (S := S8x128x256) _ hz3, View.readCov_unit_zero (S := S128x128) _ hz2, View.readCov_unit_zero (S := S8x1x1) _ hz3]
  rfl

/-- What the run leaves: the previous block's gradients. -/
theorem outB_dkv  (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc0 : ¬cond0_0 i) (hc1 : cond0_1 i) (hc2 : cond0_2 i) (hc3 : ¬cond0_3 i)
    (x1 : Vec F S128x512 .bf16) (x2 : Vec F S128x512 .bf16) (x3 : Vec F S128x128 .bf16) (x4 : Vec F S128x128 .bf16) (x5 : Vec F S128x128 .bf16) (x6 : Vec F S128x128 .bf16) (x7 : Vec F S128x256 .i32) (x8 : Vec F S8x32 .f32) (x9 : Vec F S1x8 .f32) (x10 : Vec F S128x512 .bf16) (x11 : Vec F S128x256 .bf16) (x12 : Vec F S8x40x128 .f32) (x13 : Vec F S8x128x256 .f32) (x14 : Vec F S8x128x256 .f32) (x15 : Vec F S8x1x1 .f32) (x16 : Vec F S128x128 .f32) (x17 : Vec F S128x128 .f32) (x18 : Vec F S8x128x256 .f32) (x19 : Vec F S8x128x256 .f32) (x20 : Vec F S8x128x256 .bf16) (x21 : Vec F S8x128x256 .bf16) :
    (runB (F := F) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 hc2 hc3 x1 x2 x3 x4 x5 x6 x7 x8 x9 x10 x11 x12 x13 x14 x15 x16 x17 x18 x19 x20 x21).2.1 = dkvV x1 x2 (probV x1 x3 x4 x7 x9 (BitVec.ofNat 32 (i 0).val) x13) (dprobV x2 x5 x6) x16 x17 := by
  unfold runB
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread,
    View.ld_unit_zero (S := S128x128) hz2, View.ld_unit_zero (S := S128x256) hz2, View.ld_unit_zero (S := S8x128x256) hz3, View.ld_unit_zero (S := S8x1x1) hz3, View.ld_unit_zero (S := S8x40x128) hz3,
    readCov_heads8, readCov_head, read_whole_cons (S := S8x128x256) _ _ _ _ _ hz3, read_whole_cons (S := S8x1x1) _ _ _ _ _ hz3, read_whole_cons (S := S8x40x128) _ _ _ _ _ hz3, read_whole_cons (S := S128x128) _ _ _ _ _ hz2, read_heads8, read_lanes4, read_lanes2, View.readCov_unit_zero (S := S8x128x256) _ hz3, View.readCov_unit_zero (S := S128x128) _ hz2, View.readCov_unit_zero (S := S8x1x1) _ hz3]
  rfl

/-- What the run leaves: the scores' gradients summed. -/
theorem outB_ds  (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc0 : ¬cond0_0 i) (hc1 : cond0_1 i) (hc2 : cond0_2 i) (hc3 : ¬cond0_3 i)
    (x1 : Vec F S128x512 .bf16) (x2 : Vec F S128x512 .bf16) (x3 : Vec F S128x128 .bf16) (x4 : Vec F S128x128 .bf16) (x5 : Vec F S128x128 .bf16) (x6 : Vec F S128x128 .bf16) (x7 : Vec F S128x256 .i32) (x8 : Vec F S8x32 .f32) (x9 : Vec F S1x8 .f32) (x10 : Vec F S128x512 .bf16) (x11 : Vec F S128x256 .bf16) (x12 : Vec F S8x40x128 .f32) (x13 : Vec F S8x128x256 .f32) (x14 : Vec F S8x128x256 .f32) (x15 : Vec F S8x1x1 .f32) (x16 : Vec F S128x128 .f32) (x17 : Vec F S128x128 .f32) (x18 : Vec F S8x128x256 .f32) (x19 : Vec F S8x128x256 .f32) (x20 : Vec F S8x128x256 .bf16) (x21 : Vec F S8x128x256 .bf16) :
    (runB (F := F) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 hc2 hc3 x1 x2 x3 x4 x5 x6 x7 x8 x9 x10 x11 x12 x13 x14 x15 x16 x17 x18 x19 x20 x21).2.2.1 = k0_pay86 (probV x1 x3 x4 x7 x9 (BitVec.ofNat 32 (i 0).val) x13) (dprobV x2 x5 x6) x14 := by
  unfold runB
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread,
    View.ld_unit_zero (S := S128x128) hz2, View.ld_unit_zero (S := S128x256) hz2, View.ld_unit_zero (S := S8x128x256) hz3, View.ld_unit_zero (S := S8x1x1) hz3, View.ld_unit_zero (S := S8x40x128) hz3,
    readCov_heads8, readCov_head, read_whole_cons (S := S8x128x256) _ _ _ _ _ hz3, read_whole_cons (S := S8x1x1) _ _ _ _ _ hz3, read_whole_cons (S := S8x40x128) _ _ _ _ _ hz3, read_whole_cons (S := S128x128) _ _ _ _ _ hz2, read_heads8, read_lanes4, read_lanes2, View.readCov_unit_zero (S := S8x128x256) _ hz3, View.readCov_unit_zero (S := S128x128) _ hz2, View.readCov_unit_zero (S := S8x1x1) _ hz3]
  rfl

/-- What the run leaves: the sinks' gradient. -/
theorem outB_dsink  (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc0 : ¬cond0_0 i) (hc1 : cond0_1 i) (hc2 : cond0_2 i) (hc3 : ¬cond0_3 i)
    (x1 : Vec F S128x512 .bf16) (x2 : Vec F S128x512 .bf16) (x3 : Vec F S128x128 .bf16) (x4 : Vec F S128x128 .bf16) (x5 : Vec F S128x128 .bf16) (x6 : Vec F S128x128 .bf16) (x7 : Vec F S128x256 .i32) (x8 : Vec F S8x32 .f32) (x9 : Vec F S1x8 .f32) (x10 : Vec F S128x512 .bf16) (x11 : Vec F S128x256 .bf16) (x12 : Vec F S8x40x128 .f32) (x13 : Vec F S8x128x256 .f32) (x14 : Vec F S8x128x256 .f32) (x15 : Vec F S8x1x1 .f32) (x16 : Vec F S128x128 .f32) (x17 : Vec F S128x128 .f32) (x18 : Vec F S8x128x256 .f32) (x19 : Vec F S8x128x256 .f32) (x20 : Vec F S8x128x256 .bf16) (x21 : Vec F S8x128x256 .bf16) :
    (runB (F := F) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 hc2 hc3 x1 x2 x3 x4 x5 x6 x7 x8 x9 x10 x11 x12 x13 x14 x15 x16 x17 x18 x19 x20 x21).2.2.2.1 = k0_pay87 (probV x1 x3 x4 x7 x9 (BitVec.ofNat 32 (i 0).val) x13) (psinkV x1 x3 x4 x7 x9 (BitVec.ofNat 32 (i 0).val) x13) (dprobV x2 x5 x6) x15 := by
  unfold runB
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread,
    View.ld_unit_zero (S := S128x128) hz2, View.ld_unit_zero (S := S128x256) hz2, View.ld_unit_zero (S := S8x128x256) hz3, View.ld_unit_zero (S := S8x1x1) hz3, View.ld_unit_zero (S := S8x40x128) hz3,
    readCov_heads8, readCov_head, read_whole_cons (S := S8x128x256) _ _ _ _ _ hz3, read_whole_cons (S := S8x1x1) _ _ _ _ _ hz3, read_whole_cons (S := S8x40x128) _ _ _ _ _ hz3, read_whole_cons (S := S128x128) _ _ _ _ _ hz2, read_heads8, read_lanes4, read_lanes2, View.readCov_unit_zero (S := S8x128x256) _ hz3, View.readCov_unit_zero (S := S128x128) _ hz2, View.readCov_unit_zero (S := S8x1x1) _ hz3]
  rfl

/-- What the run leaves: the keys' part kept. -/
theorem outB_kk  (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc0 : ¬cond0_0 i) (hc1 : cond0_1 i) (hc2 : cond0_2 i) (hc3 : ¬cond0_3 i)
    (x1 : Vec F S128x512 .bf16) (x2 : Vec F S128x512 .bf16) (x3 : Vec F S128x128 .bf16) (x4 : Vec F S128x128 .bf16) (x5 : Vec F S128x128 .bf16) (x6 : Vec F S128x128 .bf16) (x7 : Vec F S128x256 .i32) (x8 : Vec F S8x32 .f32) (x9 : Vec F S1x8 .f32) (x10 : Vec F S128x512 .bf16) (x11 : Vec F S128x256 .bf16) (x12 : Vec F S8x40x128 .f32) (x13 : Vec F S8x128x256 .f32) (x14 : Vec F S8x128x256 .f32) (x15 : Vec F S8x1x1 .f32) (x16 : Vec F S128x128 .f32) (x17 : Vec F S128x128 .f32) (x18 : Vec F S8x128x256 .f32) (x19 : Vec F S8x128x256 .f32) (x20 : Vec F S8x128x256 .bf16) (x21 : Vec F S8x128x256 .bf16) :
    (runB (F := F) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 hc2 hc3 x1 x2 x3 x4 x5 x6 x7 x8 x9 x10 x11 x12 x13 x14 x15 x16 x17 x18 x19 x20 x21).2.2.2.2.1 = keepK x1 (probV x1 x3 x4 x7 x9 (BitVec.ofNat 32 (i 0).val) x13) (dprobV x2 x5 x6) := by
  unfold runB
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread,
    View.ld_unit_zero (S := S128x128) hz2, View.ld_unit_zero (S := S128x256) hz2, View.ld_unit_zero (S := S8x128x256) hz3, View.ld_unit_zero (S := S8x1x1) hz3, View.ld_unit_zero (S := S8x40x128) hz3,
    readCov_heads8, readCov_head, read_whole_cons (S := S8x128x256) _ _ _ _ _ hz3, read_whole_cons (S := S8x1x1) _ _ _ _ _ hz3, read_whole_cons (S := S8x40x128) _ _ _ _ _ hz3, read_whole_cons (S := S128x128) _ _ _ _ _ hz2, read_heads8, read_lanes4, read_lanes2, View.readCov_unit_zero (S := S8x128x256) _ hz3, View.readCov_unit_zero (S := S128x128) _ hz2, View.readCov_unit_zero (S := S8x1x1) _ hz3]
  rfl

/-- What the run leaves: the values' part kept. -/
theorem outB_kw  (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc0 : ¬cond0_0 i) (hc1 : cond0_1 i) (hc2 : cond0_2 i) (hc3 : ¬cond0_3 i)
    (x1 : Vec F S128x512 .bf16) (x2 : Vec F S128x512 .bf16) (x3 : Vec F S128x128 .bf16) (x4 : Vec F S128x128 .bf16) (x5 : Vec F S128x128 .bf16) (x6 : Vec F S128x128 .bf16) (x7 : Vec F S128x256 .i32) (x8 : Vec F S8x32 .f32) (x9 : Vec F S1x8 .f32) (x10 : Vec F S128x512 .bf16) (x11 : Vec F S128x256 .bf16) (x12 : Vec F S8x40x128 .f32) (x13 : Vec F S8x128x256 .f32) (x14 : Vec F S8x128x256 .f32) (x15 : Vec F S8x1x1 .f32) (x16 : Vec F S128x128 .f32) (x17 : Vec F S128x128 .f32) (x18 : Vec F S8x128x256 .f32) (x19 : Vec F S8x128x256 .f32) (x20 : Vec F S8x128x256 .bf16) (x21 : Vec F S8x128x256 .bf16) :
    (runB (F := F) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 hc2 hc3 x1 x2 x3 x4 x5 x6 x7 x8 x9 x10 x11 x12 x13 x14 x15 x16 x17 x18 x19 x20 x21).2.2.2.2.2.1 = keepW x2 (probV x1 x3 x4 x7 x9 (BitVec.ofNat 32 (i 0).val) x13) := by
  unfold runB
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread,
    View.ld_unit_zero (S := S128x128) hz2, View.ld_unit_zero (S := S128x256) hz2, View.ld_unit_zero (S := S8x128x256) hz3, View.ld_unit_zero (S := S8x1x1) hz3, View.ld_unit_zero (S := S8x40x128) hz3,
    readCov_heads8, readCov_head, read_whole_cons (S := S8x128x256) _ _ _ _ _ hz3, read_whole_cons (S := S8x1x1) _ _ _ _ _ hz3, read_whole_cons (S := S8x40x128) _ _ _ _ _ hz3, read_whole_cons (S := S128x128) _ _ _ _ _ hz2, read_heads8, read_lanes4, read_lanes2, View.readCov_unit_zero (S := S8x128x256) _ hz3, View.readCov_unit_zero (S := S128x128) _ hz2, View.readCov_unit_zero (S := S8x1x1) _ hz3]
  rfl

end Cert.Attn

end
-- ==== Proof.AttnOutC.lean ====
module

public import proofs.«01_k».proof.Proof.AttnRunC
public import proofs.«01_k».proof.Proof.AttnOut

set_option maxRecDepth 16384
set_option maxHeartbeats 1600000

/-! # What the last point leaves -/

@[expose] public section

noncomputable section

namespace Cert.Attn

open Idealize.ShloMosaic Idealize.ShloMosaic.TcCoe Idealize.SL.Sem
open Cert.Kernel2Ideal Cert.Kernel2Ideal.Gen

variable {F : FTy → Type} [FloatOps F] [Named F]

/-- The loop that sums the scores' gradients bucket by bucket. -/
def smallC  (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc0 : ¬cond0_0 i) (hc1 : ¬cond0_1 i) (hc3 : cond0_3 i)
    (x1 : Vec F S128x512 .bf16) (x2 : Vec F S128x512 .bf16) (x3 : Vec F S128x128 .bf16) (x4 : Vec F S128x128 .bf16) (x5 : Vec F S128x128 .bf16) (x6 : Vec F S128x128 .bf16) (x7 : Vec F S128x256 .i32) (x8 : Vec F S8x32 .f32) (x9 : Vec F S1x8 .f32) (x10 : Vec F S128x512 .bf16) (x11 : Vec F S128x256 .bf16) (x12 : Vec F S8x40x128 .f32) (x13 : Vec F S8x128x256 .f32) (x14 : Vec F S8x128x256 .f32) (x15 : Vec F S8x1x1 .f32) (x16 : Vec F S128x128 .f32) (x17 : Vec F S128x128 .f32) (x18 : Vec F S8x128x256 .f32) (x19 : Vec F S8x128x256 .f32) (x20 : Vec F S8x128x256 .bf16) (x21 : Vec F S8x128x256 .bf16) : Vec F S8x40x128 .f32 :=
  k0_pay16 (st_k0_t9 Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc3 x7 (h14.unread x14) (k0_pay14 x15) (Scf.trips (0#32) (Scalar.addi 0#32 32#32) 1#32))

theorem outC_small  (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc0 : ¬cond0_0 i) (hc1 : ¬cond0_1 i) (hc3 : cond0_3 i)
    (x1 : Vec F S128x512 .bf16) (x2 : Vec F S128x512 .bf16) (x3 : Vec F S128x128 .bf16) (x4 : Vec F S128x128 .bf16) (x5 : Vec F S128x128 .bf16) (x6 : Vec F S128x128 .bf16) (x7 : Vec F S128x256 .i32) (x8 : Vec F S8x32 .f32) (x9 : Vec F S1x8 .f32) (x10 : Vec F S128x512 .bf16) (x11 : Vec F S128x256 .bf16) (x12 : Vec F S8x40x128 .f32) (x13 : Vec F S8x128x256 .f32) (x14 : Vec F S8x128x256 .f32) (x15 : Vec F S8x1x1 .f32) (x16 : Vec F S128x128 .f32) (x17 : Vec F S128x128 .f32) (x18 : Vec F S8x128x256 .f32) (x19 : Vec F S8x128x256 .f32) (x20 : Vec F S8x128x256 .bf16) (x21 : Vec F S8x128x256 .bf16) :
    (runC (F := F) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 hc3 x1 x2 x3 x4 x5 x6 x7 x8 x9 x10 x11 x12 x13 x14 x15 x16 x17 x18 x19 x20 x21).2.1 = smallC c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 hc3 x1 x2 x3 x4 x5 x6 x7 x8 x9 x10 x11 x12 x13 x14 x15 x16 x17 x18 x19 x20 x21 := by
  unfold runC
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread,
    View.ld_unit_zero (S := S128x128) hz2, View.ld_unit_zero (S := S128x256) hz2, View.ld_unit_zero (S := S8x128x256) hz3, View.ld_unit_zero (S := S8x1x1) hz3, View.ld_unit_zero (S := S8x40x128) hz3,
    readCov_heads8, readCov_head, read_whole_cons (S := S8x128x256) _ _ _ _ _ hz3, read_whole_cons (S := S8x1x1) _ _ _ _ _ hz3, read_whole_cons (S := S8x40x128) _ _ _ _ _ hz3, read_whole_cons (S := S128x128) _ _ _ _ _ hz2, read_heads8, read_lanes4, read_lanes2, View.readCov_unit_zero (S := S8x128x256) _ hz3, View.readCov_unit_zero (S := S128x128) _ hz2, View.readCov_unit_zero (S := S8x1x1) _ hz3]
  rfl

/-- What the run leaves: the last block's gradients. -/
theorem outC_dkv  (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc0 : ¬cond0_0 i) (hc1 : ¬cond0_1 i) (hc3 : cond0_3 i)
    (x1 : Vec F S128x512 .bf16) (x2 : Vec F S128x512 .bf16) (x3 : Vec F S128x128 .bf16) (x4 : Vec F S128x128 .bf16) (x5 : Vec F S128x128 .bf16) (x6 : Vec F S128x128 .bf16) (x7 : Vec F S128x256 .i32) (x8 : Vec F S8x32 .f32) (x9 : Vec F S1x8 .f32) (x10 : Vec F S128x512 .bf16) (x11 : Vec F S128x256 .bf16) (x12 : Vec F S8x40x128 .f32) (x13 : Vec F S8x128x256 .f32) (x14 : Vec F S8x128x256 .f32) (x15 : Vec F S8x1x1 .f32) (x16 : Vec F S128x128 .f32) (x17 : Vec F S128x128 .f32) (x18 : Vec F S8x128x256 .f32) (x19 : Vec F S8x128x256 .f32) (x20 : Vec F S8x128x256 .bf16) (x21 : Vec F S8x128x256 .bf16) :
    (runC (F := F) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 hc3 x1 x2 x3 x4 x5 x6 x7 x8 x9 x10 x11 x12 x13 x14 x15 x16 x17 x18 x19 x20 x21).1 = lanes2 (k0_pay12 x16) (k0_pay13 x17) := by
  unfold runC
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread,
    View.ld_unit_zero (S := S128x128) hz2, View.ld_unit_zero (S := S128x256) hz2, View.ld_unit_zero (S := S8x128x256) hz3, View.ld_unit_zero (S := S8x1x1) hz3, View.ld_unit_zero (S := S8x40x128) hz3,
    readCov_heads8, readCov_head, read_whole_cons (S := S8x128x256) _ _ _ _ _ hz3, read_whole_cons (S := S8x1x1) _ _ _ _ _ hz3, read_whole_cons (S := S8x40x128) _ _ _ _ _ hz3, read_whole_cons (S := S128x128) _ _ _ _ _ hz2, read_heads8, read_lanes4, read_lanes2, View.readCov_unit_zero (S := S8x128x256) _ hz3, View.readCov_unit_zero (S := S128x128) _ hz2, View.readCov_unit_zero (S := S8x1x1) _ hz3]

end Cert.Attn

end
-- ==== Proof.AttnBand.lean ====
module

public import proofs.«01_k».proof.Proof.AttnOut
public import Idealize.ShloMosaic.Lib.Pointwise
public import Idealize.ShloMosaic.Lib.Pipeline.ValueKit

set_option maxRecDepth 16384
set_option maxHeartbeats 1600000

/-! # The band of keys the kernel reads, entry by entry, and sums over it -/

@[expose] public section

noncomputable section

namespace Cert.Attn

open Idealize.ShloMosaic Idealize.ShloMosaic.TcCoe
open Cert.Kernel2Ideal Cert.Kernel2Ideal.Gen

/-- The previous block's rows, then the current one's. -/
def bnd (a b : Vec Ideal S128x128 .bf16) (j : Fin 256) (l : Fin 128) : EReal :=
  if h : j.val < 128 then a (ix2 ⟨j.val, h⟩ l) else b (ix2 ⟨j.val - 128, by omega⟩ l)

/-- The other half's lane. -/
def sw (l : Fin 128) : Fin 128 := ⟨(l.val + 128 - 64) % 128, by omega⟩
/-- Lane `d` of the lower or the upper half. -/
def lo (d : Fin 64) : Fin 128 := ⟨d.val, by omega⟩
def hi (d : Fin 64) : Fin 128 := ⟨64 + d.val, by omega⟩
/-- Lane `d` of query head `h`. -/
def lane8 (h : Fin 8) (d : Fin 64) : Fin 512 := ⟨64 * h.val + d.val, by omega⟩
/-- Lane `d` of the key head that query head `h` reads. -/
def lane2 (h : Fin 8) (d : Fin 64) : Fin 128 := ⟨64 * (h.val / 4) + d.val, by omega⟩

theorem sw_hi (d : Fin 64) : sw (hi d) = lo d := Fin.ext (by simp [sw, hi, lo]; omega)
theorem sw_lo (d : Fin 64) : sw (lo d) = hi d := Fin.ext (by simp [sw, hi, lo]; omega)

theorem slt64 (l : Fin 128) : IntOp.cmpi .slt (BitVec.ofNat 32 l.val) 64#32 = if l.val < 64 then 1#1 else 0#1 := by
  revert l; decide +kernel
theorem slt64' (l : Fin 128) : IntOp.cmpi .slt (BitVec.ofNat 32 ((l.val + 128 - 64) % 128)) 64#32 = if l.val < 64 then 0#1 else 1#1 := by
  revert l; decide +kernel

theorem sum_halves (f : Fin 128 → EReal) : ∑ l, f l = ∑ d, f (lo d) + ∑ d, f (hi d) :=
  Fin.sum_univ_add (a := 64) (b := 64) f
/-- A sum over the lanes of which only the lower half counts. -/
theorem sum_lo (f g : Fin 128 → EReal) : (∑ l, f l * if l.val < 64 then g l else 0) = ∑ d, f (lo d) * g (lo d) := by
  rw [sum_halves]
  simp [lo, hi]
theorem sum_hi (f g : Fin 128 → EReal) : (∑ l, f l * if l.val < 64 then 0 else g l) = ∑ d, f (hi d) * g (hi d) := by
  rw [sum_halves]
  simp [lo, hi]

theorem pay43_at (a b : Vec Ideal S128x128 .bf16) (j : Fin 256) (l : Fin 128) :
    (k0_pay43 a b (ix2 j l) : EReal) = if l.val < 64 then bnd a b j l else 0 := by
  pointwise [k0_pay43, k0_pay43, k0_pay44, k0_pay41, k0_pay40, k0_pay42, bnd]
  rw [slt64]
  by_cases h : l.val < 64 <;> simp [Scalar.select, h, sw]

theorem pay44_at (a b : Vec Ideal S128x128 .bf16) (j : Fin 256) (l : Fin 128) :
    (k0_pay44 a b (ix2 j l) : EReal) = if l.val < 64 then 0 else bnd a b j l := by
  pointwise [k0_pay44, k0_pay43, k0_pay44, k0_pay41, k0_pay40, k0_pay42, bnd]
  rw [slt64]
  by_cases h : l.val < 64 <;> simp [Scalar.select, h, sw]

theorem pay45_at (a b : Vec Ideal S128x128 .bf16) (j : Fin 256) (l : Fin 128) :
    (k0_pay45 a b (ix2 j l) : EReal) = if l.val < 64 then 0 else bnd a b j (sw l) := by
  pointwise [k0_pay45, k0_pay43, k0_pay44, k0_pay41, k0_pay40, k0_pay42, bnd]
  rw [slt64']
  by_cases h : l.val < 64 <;> simp [Scalar.select, h, sw]

theorem pay46_at (a b : Vec Ideal S128x128 .bf16) (j : Fin 256) (l : Fin 128) :
    (k0_pay46 a b (ix2 j l) : EReal) = if l.val < 64 then bnd a b j (sw l) else 0 := by
  pointwise [k0_pay46, k0_pay43, k0_pay44, k0_pay41, k0_pay40, k0_pay42, bnd]
  rw [slt64']
  by_cases h : l.val < 64 <;> simp [Scalar.select, h, sw]

theorem pay50_at (a b : Vec Ideal S128x128 .bf16) (j : Fin 256) (l : Fin 128) :
    (k0_pay50 a b (ix2 j l) : EReal) = if l.val < 64 then bnd a b j l else 0 := by
  pointwise [k0_pay50, k0_pay50, k0_pay51, k0_pay48, k0_pay47, k0_pay49, bnd]
  rw [slt64]
  by_cases h : l.val < 64 <;> simp [Scalar.select, h, sw]

theorem pay51_at (a b : Vec Ideal S128x128 .bf16) (j : Fin 256) (l : Fin 128) :
    (k0_pay51 a b (ix2 j l) : EReal) = if l.val < 64 then 0 else bnd a b j l := by
  pointwise [k0_pay51, k0_pay50, k0_pay51, k0_pay48, k0_pay47, k0_pay49, bnd]
  rw [slt64]
  by_cases h : l.val < 64 <;> simp [Scalar.select, h, sw]

theorem pay52_at (a b : Vec Ideal S128x128 .bf16) (j : Fin 256) (l : Fin 128) :
    (k0_pay52 a b (ix2 j l) : EReal) = if l.val < 64 then 0 else bnd a b j (sw l) := by
  pointwise [k0_pay52, k0_pay50, k0_pay51, k0_pay48, k0_pay47, k0_pay49, bnd]
  rw [slt64']
  by_cases h : l.val < 64 <;> simp [Scalar.select, h, sw]

theorem pay53_at (a b : Vec Ideal S128x128 .bf16) (j : Fin 256) (l : Fin 128) :
    (k0_pay53 a b (ix2 j l) : EReal) = if l.val < 64 then bnd a b j (sw l) else 0 := by
  pointwise [k0_pay53, k0_pay50, k0_pay51, k0_pay48, k0_pay47, k0_pay49, bnd]
  rw [slt64']
  by_cases h : l.val < 64 <;> simp [Scalar.select, h, sw]

theorem pay55_at (K : FVec Ideal S256x128 .bf16) (x : Vec Ideal S128x128 .bf16) (i : Fin 128) (j : Fin 256) :
    (k0_pay55 K x (ix3 0 i j) : EReal) = ∑ l : Fin 128, (x (ix2 i l) : EReal) * K (ix2 j l) := by
  pointwise [k0_pay55]

theorem pay56_at (K : FVec Ideal S256x128 .bf16) (x : Vec Ideal S128x128 .bf16) (i : Fin 128) (j : Fin 256) :
    (k0_pay56 K x (ix3 0 i j) : EReal) = ∑ l : Fin 128, (x (ix2 i l) : EReal) * K (ix2 j l) := by
  pointwise [k0_pay56]

theorem pay57_at (K : FVec Ideal S256x128 .bf16) (x : Vec Ideal S128x128 .bf16) (i : Fin 128) (j : Fin 256) :
    (k0_pay57 K x (ix3 0 i j) : EReal) = ∑ l : Fin 128, (x (ix2 i l) : EReal) * K (ix2 j l) := by
  pointwise [k0_pay57]

theorem pay58_at (K : FVec Ideal S256x128 .bf16) (x : Vec Ideal S128x128 .bf16) (i : Fin 128) (j : Fin 256) :
    (k0_pay58 K x (ix3 0 i j) : EReal) = ∑ l : Fin 128, (x (ix2 i l) : EReal) * K (ix2 j l) := by
  pointwise [k0_pay58]

theorem pay61_at (K : FVec Ideal S256x128 .bf16) (x : Vec Ideal S128x128 .bf16) (i : Fin 128) (j : Fin 256) :
    (k0_pay61 K x (ix3 0 i j) : EReal) = ∑ l : Fin 128, (x (ix2 i l) : EReal) * K (ix2 j l) := by
  pointwise [k0_pay61]

theorem pay62_at (K : FVec Ideal S256x128 .bf16) (x : Vec Ideal S128x128 .bf16) (i : Fin 128) (j : Fin 256) :
    (k0_pay62 K x (ix3 0 i j) : EReal) = ∑ l : Fin 128, (x (ix2 i l) : EReal) * K (ix2 j l) := by
  pointwise [k0_pay62]

theorem pay63_at (K : FVec Ideal S256x128 .bf16) (x : Vec Ideal S128x128 .bf16) (i : Fin 128) (j : Fin 256) :
    (k0_pay63 K x (ix3 0 i j) : EReal) = ∑ l : Fin 128, (x (ix2 i l) : EReal) * K (ix2 j l) := by
  pointwise [k0_pay63]

theorem pay75_at (K : FVec Ideal S256x128 .bf16) (x : Vec Ideal S128x128 .bf16) (i : Fin 128) (j : Fin 256) :
    (k0_pay75 K x (ix3 0 i j) : EReal) = ∑ l : Fin 128, (x (ix2 i l) : EReal) * K (ix2 j l) := by
  pointwise [k0_pay75]

theorem pay76_at (K : FVec Ideal S256x128 .bf16) (x : Vec Ideal S128x128 .bf16) (i : Fin 128) (j : Fin 256) :
    (k0_pay76 K x (ix3 0 i j) : EReal) = ∑ l : Fin 128, (x (ix2 i l) : EReal) * K (ix2 j l) := by
  pointwise [k0_pay76]

theorem pay79_at (K : FVec Ideal S256x128 .bf16) (x : Vec Ideal S128x128 .bf16) (i : Fin 128) (j : Fin 256) :
    (k0_pay79 K x (ix3 0 i j) : EReal) = ∑ l : Fin 128, (x (ix2 i l) : EReal) * K (ix2 j l) := by
  pointwise [k0_pay79]

theorem pay80_at (K : FVec Ideal S256x128 .bf16) (x : Vec Ideal S128x128 .bf16) (i : Fin 128) (j : Fin 256) :
    (k0_pay80 K x (ix3 0 i j) : EReal) = ∑ l : Fin 128, (x (ix2 i l) : EReal) * K (ix2 j l) := by
  pointwise [k0_pay80]

theorem pay81_at (K : FVec Ideal S256x128 .bf16) (x : Vec Ideal S128x128 .bf16) (i : Fin 128) (j : Fin 256) :
    (k0_pay81 K x (ix3 0 i j) : EReal) = ∑ l : Fin 128, (x (ix2 i l) : EReal) * K (ix2 j l) := by
  pointwise [k0_pay81]

theorem pay82_at (K : FVec Ideal S256x128 .bf16) (x : Vec Ideal S128x128 .bf16) (i : Fin 128) (j : Fin 256) :
    (k0_pay82 K x (ix3 0 i j) : EReal) = ∑ l : Fin 128, (x (ix2 i l) : EReal) * K (ix2 j l) := by
  pointwise [k0_pay82]

theorem pay83_at (K : FVec Ideal S256x128 .bf16) (x : Vec Ideal S128x128 .bf16) (i : Fin 128) (j : Fin 256) :
    (k0_pay83 K x (ix3 0 i j) : EReal) = ∑ l : Fin 128, (x (ix2 i l) : EReal) * K (ix2 j l) := by
  pointwise [k0_pay83]

theorem pay60_at (K : FVec Ideal S256x128 .bf16) (x : Vec Ideal S128x128 .bf16) (i : Fin 128) (j : Fin 256) :
    (k0_pay60 (k0_pay59 K x) (ix3 0 i j) : EReal) = ∑ l : Fin 128, (x (ix2 i l) : EReal) * K (ix2 j l) := by
  pointwise [k0_pay60, k0_pay59]

theorem pay78_at (K : FVec Ideal S256x128 .bf16) (x : Vec Ideal S128x128 .bf16) (i : Fin 128) (j : Fin 256) :
    (k0_pay78 (k0_pay77 K x) (ix3 0 i j) : EReal) = ∑ l : Fin 128, (x (ix2 i l) : EReal) * K (ix2 j l) := by
  pointwise [k0_pay78, k0_pay77]

theorem grp0_at (x : Vec Ideal S128x512 .bf16) (i l : Fin 128) : grp0 x (ix2 i l) = x (ix2 i ⟨0 + l.val, by omega⟩) :=
  View.ld_unit_apply_of _ _ _ _ _ _ (by intro a; fin_cases a <;> simp)

theorem grp1_at (x : Vec Ideal S128x512 .bf16) (i l : Fin 128) : grp1 x (ix2 i l) = x (ix2 i ⟨128 + l.val, by omega⟩) :=
  View.ld_unit_apply_of _ _ _ _ _ _ (by intro a; fin_cases a <;> simp)

theorem grp2_at (x : Vec Ideal S128x512 .bf16) (i l : Fin 128) : grp2 x (ix2 i l) = x (ix2 i ⟨256 + l.val, by omega⟩) :=
  View.ld_unit_apply_of _ _ _ _ _ _ (by intro a; fin_cases a <;> simp)

theorem grp3_at (x : Vec Ideal S128x512 .bf16) (i l : Fin 128) : grp3 x (ix2 i l) = x (ix2 i ⟨384 + l.val, by omega⟩) :=
  View.ld_unit_apply_of _ _ _ _ _ _ (by intro a; fin_cases a <;> simp)

theorem hd0_at (w : Vec Ideal S8x128x256 .bf16) (i : Fin 128) (j : Fin 256) : hd0 w (ix3 0 i j) = w (ix3 0 i j) :=
  View.ld_unit_apply_of _ _ _ _ _ _ (by intro a; fin_cases a <;> simp)

theorem hd1_at (w : Vec Ideal S8x128x256 .bf16) (i : Fin 128) (j : Fin 256) : hd1 w (ix3 0 i j) = w (ix3 1 i j) :=
  View.ld_unit_apply_of _ _ _ _ _ _ (by intro a; fin_cases a <;> simp)

theorem hd2_at (w : Vec Ideal S8x128x256 .bf16) (i : Fin 128) (j : Fin 256) : hd2 w (ix3 0 i j) = w (ix3 2 i j) :=
  View.ld_unit_apply_of _ _ _ _ _ _ (by intro a; fin_cases a <;> simp)

theorem hd3_at (w : Vec Ideal S8x128x256 .bf16) (i : Fin 128) (j : Fin 256) : hd3 w (ix3 0 i j) = w (ix3 3 i j) :=
  View.ld_unit_apply_of _ _ _ _ _ _ (by intro a; fin_cases a <;> simp)

theorem hd4_at (w : Vec Ideal S8x128x256 .bf16) (i : Fin 128) (j : Fin 256) : hd4 w (ix3 0 i j) = w (ix3 4 i j) :=
  View.ld_unit_apply_of _ _ _ _ _ _ (by intro a; fin_cases a <;> simp)

theorem hd5_at (w : Vec Ideal S8x128x256 .bf16) (i : Fin 128) (j : Fin 256) : hd5 w (ix3 0 i j) = w (ix3 5 i j) :=
  View.ld_unit_apply_of _ _ _ _ _ _ (by intro a; fin_cases a <;> simp)

theorem hd6_at (w : Vec Ideal S8x128x256 .bf16) (i : Fin 128) (j : Fin 256) : hd6 w (ix3 0 i j) = w (ix3 6 i j) :=
  View.ld_unit_apply_of _ _ _ _ _ _ (by intro a; fin_cases a <;> simp)

theorem hd7_at (w : Vec Ideal S8x128x256 .bf16) (i : Fin 128) (j : Fin 256) : hd7 w (ix3 0 i j) = w (ix3 7 i j) :=
  View.ld_unit_apply_of _ _ _ _ _ _ (by intro a; fin_cases a <;> simp)

theorem heads_congr {i : Fin 128} {j : Fin 256} {x : Vec Ideal S128x512 .bf16} {g : Fin 128 → EReal} {c : ℕ} {hc : ∀ l : Fin 128, c + l.val < 512}
    {kp kc : Vec Ideal S128x128 .bf16} {u v w : Fin 64 → Fin 128} {z : Fin 64 → Fin 512}
    (hg : ∀ l, g l = x (ix2 i ⟨c + l.val, hc l⟩)) (hz : ∀ d, c + (u d).val = (z d).val) (hv : ∀ d, (v d).val = (w d).val) :
    ∑ d, g (u d) * bnd kp kc j (v d) = ∑ d, (x (ix2 i (z d)) : EReal) * bnd kp kc j (w d) :=
  Finset.sum_congr rfl fun d _ => congrArg₂ _ ((hg _).trans (congrArg (fun l => x (ix2 i l)) (Fin.ext (hz d)))) (congrArg (bnd kp kc j) (Fin.ext (hv d)))

/-- The scores of head `h`. -/
theorem scoreV_at (q : Vec Ideal S128x512 .bf16) (kc kp : Vec Ideal S128x128 .bf16) (h : Fin 8) (i : Fin 128) (j : Fin 256) :
    (scoreV q kc kp (ix3 h i j) : EReal) = ∑ d : Fin 64, (q (ix2 i (lane8 h d)) : EReal) * bnd kp kc j (lane2 h d) := by
  unfold scoreV
  fin_cases h
  · refine (pay55_at _ _ i j).trans ?_
    simp only [pay43_at, sum_lo, sw_hi, sw_lo]
    exact heads_congr (grp0_at _ _) (by intro d; simp [lane8, lo, hi]; try omega) (by intro d; simp [lane2, lo, hi]; try omega)
  · refine (pay56_at _ _ i j).trans ?_
    simp only [pay45_at, sum_hi, sw_hi, sw_lo]
    exact heads_congr (grp0_at _ _) (by intro d; simp [lane8, lo, hi]; try omega) (by intro d; simp [lane2, lo, hi]; try omega)
  · refine (pay57_at _ _ i j).trans ?_
    simp only [pay43_at, sum_lo, sw_hi, sw_lo]
    exact heads_congr (grp1_at _ _) (by intro d; simp [lane8, lo, hi]; try omega) (by intro d; simp [lane2, lo, hi]; try omega)
  · refine (pay58_at _ _ i j).trans ?_
    simp only [pay45_at, sum_hi, sw_hi, sw_lo]
    exact heads_congr (grp1_at _ _) (by intro d; simp [lane8, lo, hi]; try omega) (by intro d; simp [lane2, lo, hi]; try omega)
  · refine (pay60_at _ _ i j).trans ?_
    simp only [pay46_at, sum_lo, sw_hi, sw_lo]
    exact heads_congr (grp2_at _ _) (by intro d; simp [lane8, lo, hi]; try omega) (by intro d; simp [lane2, lo, hi]; try omega)
  · refine (pay61_at _ _ i j).trans ?_
    simp only [pay44_at, sum_hi, sw_hi, sw_lo]
    exact heads_congr (grp2_at _ _) (by intro d; simp [lane8, lo, hi]; try omega) (by intro d; simp [lane2, lo, hi]; try omega)
  · refine (pay62_at _ _ i j).trans ?_
    simp only [pay46_at, sum_lo, sw_hi, sw_lo]
    exact heads_congr (grp3_at _ _) (by intro d; simp [lane8, lo, hi]; try omega) (by intro d; simp [lane2, lo, hi]; try omega)
  · refine (pay63_at _ _ i j).trans ?_
    simp only [pay44_at, sum_hi, sw_hi, sw_lo]
    exact heads_congr (grp3_at _ _) (by intro d; simp [lane8, lo, hi]; try omega) (by intro d; simp [lane2, lo, hi]; try omega)

/-- The cotangents of head `h`'s probabilities. -/
theorem dprobV_at (da : Vec Ideal S128x512 .bf16) (vc vp : Vec Ideal S128x128 .bf16) (h : Fin 8) (i : Fin 128) (j : Fin 256) :
    (dprobV da vc vp (ix3 h i j) : EReal) = ∑ d : Fin 64, (da (ix2 i (lane8 h d)) : EReal) * bnd vp vc j (lane2 h d) := by
  unfold dprobV
  fin_cases h
  · refine (pay75_at _ _ i j).trans ?_
    simp only [pay50_at, sum_lo, sw_hi, sw_lo]
    exact heads_congr (grp0_at _ _) (by intro d; simp [lane8, lo, hi]; try omega) (by intro d; simp [lane2, lo, hi]; try omega)
  · refine (pay76_at _ _ i j).trans ?_
    simp only [pay52_at, sum_hi, sw_hi, sw_lo]
    exact heads_congr (grp0_at _ _) (by intro d; simp [lane8, lo, hi]; try omega) (by intro d; simp [lane2, lo, hi]; try omega)
  · refine (pay78_at _ _ i j).trans ?_
    simp only [pay50_at, sum_lo, sw_hi, sw_lo]
    exact heads_congr (grp1_at _ _) (by intro d; simp [lane8, lo, hi]; try omega) (by intro d; simp [lane2, lo, hi]; try omega)
  · refine (pay79_at _ _ i j).trans ?_
    simp only [pay52_at, sum_hi, sw_hi, sw_lo]
    exact heads_congr (grp1_at _ _) (by intro d; simp [lane8, lo, hi]; try omega) (by intro d; simp [lane2, lo, hi]; try omega)
  · refine (pay80_at _ _ i j).trans ?_
    simp only [pay53_at, sum_lo, sw_hi, sw_lo]
    exact heads_congr (grp2_at _ _) (by intro d; simp [lane8, lo, hi]; try omega) (by intro d; simp [lane2, lo, hi]; try omega)
  · refine (pay81_at _ _ i j).trans ?_
    simp only [pay51_at, sum_hi, sw_hi, sw_lo]
    exact heads_congr (grp2_at _ _) (by intro d; simp [lane8, lo, hi]; try omega) (by intro d; simp [lane2, lo, hi]; try omega)
  · refine (pay82_at _ _ i j).trans ?_
    simp only [pay53_at, sum_lo, sw_hi, sw_lo]
    exact heads_congr (grp3_at _ _) (by intro d; simp [lane8, lo, hi]; try omega) (by intro d; simp [lane2, lo, hi]; try omega)
  · refine (pay83_at _ _ i j).trans ?_
    simp only [pay51_at, sum_hi, sw_hi, sw_lo]
    exact heads_congr (grp3_at _ _) (by intro d; simp [lane8, lo, hi]; try omega) (by intro d; simp [lane2, lo, hi]; try omega)

end Cert.Attn

end
-- ==== Proof.AttnGrad.lean ====
module

public import proofs.«01_k».proof.Proof.AttnBand

set_option maxRecDepth 16384
set_option maxHeartbeats 1600000

/-! # The kernel's gradients at one point, entry by entry -/

@[expose] public section

noncomputable section

namespace Cert.Attn

open Idealize.ShloMosaic Idealize.ShloMosaic.TcCoe
open Cert.Kernel2Ideal Cert.Kernel2Ideal.Gen

section
variable (K K' : FVec Ideal S256x128 .bf16) (w w' : Vec Ideal S1x128x256 .bf16) (x x' : Vec Ideal S128x128 .bf16) (i l : Fin 128) (j : Fin 256)

theorem pay90_at : (k0_pay90 K K' w w' (ix2 i l) : EReal) = ∑ j : Fin 256, (w (ix3 0 i j) : EReal) * K (ix2 j l) + ∑ j : Fin 256, (w' (ix3 0 i j) : EReal) * K' (ix2 j l) := by
  pointwise [k0_pay90]

theorem pay91_at : (k0_pay91 K K' w w' (ix2 i l) : EReal) = ∑ j : Fin 256, (w (ix3 0 i j) : EReal) * K (ix2 j l) + ∑ j : Fin 256, (w' (ix3 0 i j) : EReal) * K' (ix2 j l) := by
  pointwise [k0_pay91]

theorem pay93_at : (k0_pay93 K' (k0_pay92 K w) w' (ix2 i l) : EReal) = ∑ j : Fin 256, (w (ix3 0 i j) : EReal) * K (ix2 j l) + ∑ j : Fin 256, (w' (ix3 0 i j) : EReal) * K' (ix2 j l) := by
  pointwise [k0_pay93, k0_pay92]

theorem pay94_at : (k0_pay94 K' K w w' (ix2 i l) : EReal) = ∑ j : Fin 256, (w (ix3 0 i j) : EReal) * K (ix2 j l) + ∑ j : Fin 256, (w' (ix3 0 i j) : EReal) * K' (ix2 j l) := by
  pointwise [k0_pay94]

theorem pay98_at : (k0_pay98 (k0_pay95 w x) (k0_pay96 w') (k0_pay97 x') (ix2 j l) : EReal) = ∑ i : Fin 128, (w (ix3 0 i j) : EReal) * x (ix2 i l) + ∑ i : Fin 128, (w' (ix3 0 i j) : EReal) * x' (ix2 i l) := by
  pointwise [k0_pay98, k0_pay95, k0_pay96, k0_pay97]

theorem pay100_at : (k0_pay100 w x w' x' (ix2 j l) : EReal) = ∑ i : Fin 128, (w (ix3 0 i j) : EReal) * x (ix2 i l) + ∑ i : Fin 128, (w' (ix3 0 i j) : EReal) * x' (ix2 i l) := by
  pointwise [k0_pay100]

theorem pay103_at : (k0_pay103 w x w' x' (ix2 j l) : EReal) = ∑ i : Fin 128, (w (ix3 0 i j) : EReal) * x (ix2 i l) + ∑ i : Fin 128, (w' (ix3 0 i j) : EReal) * x' (ix2 i l) := by
  pointwise [k0_pay103]

theorem pay107_at : (k0_pay107 w x w' x' (ix2 j l) : EReal) = ∑ i : Fin 128, (w (ix3 0 i j) : EReal) * x (ix2 i l) + ∑ i : Fin 128, (w' (ix3 0 i j) : EReal) * x' (ix2 i l) := by
  pointwise [k0_pay107]

theorem pay99_at : (k0_pay99 w x w' x' (ix2 j l) : EReal) = ∑ i : Fin 128, (w (ix3 0 i j) : EReal) * x (ix2 i l) + ∑ i : Fin 128, (w' (ix3 0 i j) : EReal) * x' (ix2 i l) := by
  pointwise [k0_pay99]

theorem pay102_at : (k0_pay102 (k0_pay101 w) x w' x' (ix2 j l) : EReal) = ∑ i : Fin 128, (w (ix3 0 i j) : EReal) * x (ix2 i l) + ∑ i : Fin 128, (w' (ix3 0 i j) : EReal) * x' (ix2 i l) := by
  pointwise [k0_pay102, k0_pay101]

theorem pay106_at : (k0_pay106 (k0_pay104 w x) k0_pay105 w' x' (ix2 j l) : EReal) = ∑ i : Fin 128, (w (ix3 0 i j) : EReal) * x (ix2 i l) + ∑ i : Fin 128, (w' (ix3 0 i j) : EReal) * x' (ix2 i l) := by
  pointwise [k0_pay106, k0_pay104, k0_pay105]

theorem pay108_at : (k0_pay108 w x (ix2 j l) : EReal) = ∑ i : Fin 128, (w (ix3 0 i j) : EReal) * x (ix2 i l) := by
  pointwise [k0_pay108]

theorem pay6_at (a0 a1 a2 a3 : FVec Ideal S256x128 .f32) : (k0_pay6 a0 a1 a2 a3 (ix2 j l) : EReal) = if l.val < 64 then a0 (ix2 j l) + a1 (ix2 j (sw l)) else a3 (ix2 j l) + a2 (ix2 j (sw l)) := by
  pointwise [k0_pay6]
  rw [slt64]
  by_cases h : l.val < 64 <;> simp [Scalar.select, h, sw]
theorem pay7_at (a0 a1 a2 a3 : FVec Ideal S256x128 .f32) : (k0_pay7 a0 a1 a2 a3 (k0_pay109 w) x (ix2 j l) : EReal) = if l.val < 64 then a0 (ix2 j l) + a1 (ix2 j (sw l)) else (a3 (ix2 j l) + ∑ i : Fin 128, (w (ix3 0 i j) : EReal) * x (ix2 i l)) + a2 (ix2 j (sw l)) := by
  pointwise [k0_pay7, k0_pay109]
  rw [slt64]
  by_cases h : l.val < 64 <;> simp [Scalar.select, h, sw]

/-- The current and the previous block's rows of the band. -/
def up (i : Fin 128) : Fin 256 := ⟨128 + i.val, by omega⟩
def dn (i : Fin 128) : Fin 256 := ⟨i.val, by omega⟩

section
variable (a0 a1 a2 a3 : FVec Ideal S256x128 .f32) (c : Vec Ideal S128x128 .f32)
theorem pay10_at : (k0_pay10 a0 a1 a2 a3 (ix2 i l) : EReal) = k0_pay6 a0 a1 a2 a3 (ix2 (up i) l) := by
  pointwise [k0_pay10]; rfl
theorem pay8_at : (k0_pay8 a0 a1 a2 a3 c (ix2 i l) : EReal) = c (ix2 i l) + k0_pay6 a0 a1 a2 a3 (ix2 (dn i) l) := by
  pointwise [k0_pay8]; rfl
theorem pay11_at (u : FVec Ideal S128x256 .bf16) : (k0_pay11 a0 a1 a2 a3 u x (ix2 i l) : EReal) = k0_pay7 a0 a1 a2 a3 u x (ix2 (up i) l) := by
  pointwise [k0_pay11]; rfl
theorem pay9_at (u : FVec Ideal S128x256 .bf16) : (k0_pay9 a0 a1 a2 a3 u x c (ix2 i l) : EReal) = c (ix2 i l) + k0_pay7 a0 a1 a2 a3 u x (ix2 (dn i) l) := by
  pointwise [k0_pay9]; rfl
theorem pay12_at : (k0_pay12 c (ix2 i l) : EReal) = c (ix2 i l) := by
  pointwise [k0_pay12]
theorem pay13_at : (k0_pay13 c (ix2 i l) : EReal) = c (ix2 i l) := by
  pointwise [k0_pay13]
end

/-- The gradient of one score. -/
def dsR (p dp : Fin 256 → EReal) (j : Fin 256) : EReal := p j * (dp j - ∑ x, p x * dp x)

theorem eighth : Ideal.ofBits FTy.f32 0x3E000000#32 = ((1 / 8 : ℝ) : EReal) := by
  simp [Ideal.ofBits, Ideal.ieee, -EReal.coe_mul]; norm_num

variable (P DP s : FVec Ideal S8x128x256 .f32) (h : Fin 8)
theorem pay88_at : (k0_pay88 P DP (ix3 h i j) : EReal) = dsR (fun j => P (ix3 h i j)) (fun j => DP (ix3 h i j)) j * ((1 / 8 : ℝ) : EReal) := by
  pointwise [k0_pay88, k0_pay85, k0_pay84]
  rw [eighth]; rfl
theorem pay89_at : (k0_pay89 P (ix3 h i j) : EReal) = P (ix3 h i j) := by
  pointwise [k0_pay89]
theorem pay86_at : (k0_pay86 P DP s (ix3 h i j) : EReal) = s (ix3 h i j) + dsR (fun j => P (ix3 h i j)) (fun j => DP (ix3 h i j)) j := by
  pointwise [k0_pay86, k0_pay85, k0_pay84]; rfl
theorem pay87_at (PS : FVec Ideal S8x128x1 .f32) (s : Vec Ideal S8x1x1 .f32) : (k0_pay87 P PS DP s (ix3 h 0 0) : EReal) = s (ix3 h 0 0) - ∑ i : Fin 128, PS (ix3 h i 0) * ∑ j : Fin 256, P (ix3 h i j) * DP (ix3 h i j) := by
  pointwise [k0_pay87, k0_pay84]
theorem pay2_at : (k0_pay2 (F := Ideal) (ix3 h i j) : EReal) = 0 := by
  pointwise [k0_pay2]
theorem pay3_at : (k0_pay3 (F := Ideal) (ix3 h 0 0) : EReal) = 0 := by
  pointwise [k0_pay3]
end

theorem lanes4_lane {e : EltTy} (w0 w1 w2 w3 : Vec Ideal S128x128 e) (i l : Fin 128) (z : Fin 512) (g : Fin 4) (hz : z.val = 128 * g.val + l.val) :
    lanes4 w0 w1 w2 w3 (ix2 i z) = (![w0, w1, w2, w3] : Fin 4 → Vec Ideal S128x128 e) g (ix2 i l) := by
  have h1 : (⟨z.val / 128, by omega⟩ : Fin 4) = g := Fin.ext (by simp; omega)
  have h2 : (⟨z.val % 128, Nat.mod_lt _ (by omega)⟩ : Fin 128) = l := Fin.ext (by simp; omega)
  exact (congrArg (fun g : Fin 4 => (![w0, w1, w2, w3] : Fin 4 → Vec Ideal S128x128 e) g _) h1).trans
    (congrArg (fun l : Fin 128 => (![w0, w1, w2, w3] : Fin 4 → Vec Ideal S128x128 e) g (ix2 i l)) h2)

theorem lanes2_lane {e : EltTy} (w0 w1 : Vec Ideal S128x128 e) (i l : Fin 128) (z : Fin 256) (g : Fin 2) (hz : z.val = 128 * g.val + l.val) :
    lanes2 w0 w1 (ix2 i z) = (![w0, w1] : Fin 2 → Vec Ideal S128x128 e) g (ix2 i l) := by
  have h1 : (⟨z.val / 128, by omega⟩ : Fin 2) = g := Fin.ext (by simp; omega)
  have h2 : (⟨z.val % 128, Nat.mod_lt _ (by omega)⟩ : Fin 128) = l := Fin.ext (by simp; omega)
  exact (congrArg (fun g : Fin 2 => (![w0, w1] : Fin 2 → Vec Ideal S128x128 e) g _) h1).trans
    (congrArg (fun l : Fin 128 => (![w0, w1] : Fin 2 → Vec Ideal S128x128 e) g (ix2 i l)) h2)

theorem lo_lt (d : Fin 64) : (lo d).val < 64 := d.isLt
theorem hi_not (d : Fin 64) : ¬ (hi d).val < 64 := by simp [hi]

/-- The rows of a band weighted by head, at one entry. -/
theorem headsV_at (kc kp : Vec Ideal S128x128 .bf16) (w : Vec Ideal S8x128x256 .bf16) (i : Fin 128) (h : Fin 8) (d : Fin 64) :
    (headsV kc kp w (ix2 i (lane8 h d)) : EReal) = ∑ j : Fin 256, (w (ix3 h i j) : EReal) * bnd kp kc j (lane2 h d) := by
  unfold headsV
  fin_cases h

  · refine (lanes4_lane _ _ _ _ i (lo d) _ 0 (by simp [lane8, lo]; try omega)).trans ((pay90_at _ _ _ _ _ _).trans ?_)
    simp only [pay43_at, pay45_at, lo_lt d, if_true, if_false, mul_zero, Finset.sum_const_zero, add_zero, zero_add, sw_hi, sw_lo]
    refine Finset.sum_congr rfl fun j _ => congrArg₂ _ (hd0_at _ i j) (congrArg (bnd kp kc j) (Fin.ext ?_))
    simp [lane2, lo, hi]

  · refine (lanes4_lane _ _ _ _ i (hi d) _ 0 (by simp [lane8, hi]; try omega)).trans ((pay90_at _ _ _ _ _ _).trans ?_)
    simp only [pay43_at, pay45_at, hi_not d, if_true, if_false, mul_zero, Finset.sum_const_zero, add_zero, zero_add, sw_hi, sw_lo]
    refine Finset.sum_congr rfl fun j _ => congrArg₂ _ (hd1_at _ i j) (congrArg (bnd kp kc j) (Fin.ext ?_))
    simp [lane2, lo, hi]

  · refine (lanes4_lane _ _ _ _ i (lo d) _ 1 (by simp [lane8, lo]; try omega)).trans ((pay91_at _ _ _ _ _ _).trans ?_)
    simp only [pay43_at, pay45_at, lo_lt d, if_true, if_false, mul_zero, Finset.sum_const_zero, add_zero, zero_add, sw_hi, sw_lo]
    refine Finset.sum_congr rfl fun j _ => congrArg₂ _ (hd2_at _ i j) (congrArg (bnd kp kc j) (Fin.ext ?_))
    simp [lane2, lo, hi]

  · refine (lanes4_lane _ _ _ _ i (hi d) _ 1 (by simp [lane8, hi]; try omega)).trans ((pay91_at _ _ _ _ _ _).trans ?_)
    simp only [pay43_at, pay45_at, hi_not d, if_true, if_false, mul_zero, Finset.sum_const_zero, add_zero, zero_add, sw_hi, sw_lo]
    refine Finset.sum_congr rfl fun j _ => congrArg₂ _ (hd3_at _ i j) (congrArg (bnd kp kc j) (Fin.ext ?_))
    simp [lane2, lo, hi]

  · refine (lanes4_lane _ _ _ _ i (lo d) _ 2 (by simp [lane8, lo]; try omega)).trans ((pay93_at _ _ _ _ _ _).trans ?_)
    simp only [pay46_at, pay44_at, lo_lt d, if_true, if_false, mul_zero, Finset.sum_const_zero, add_zero, zero_add, sw_hi, sw_lo]
    refine Finset.sum_congr rfl fun j _ => congrArg₂ _ (hd4_at _ i j) (congrArg (bnd kp kc j) (Fin.ext ?_))
    simp [lane2, lo, hi]

  · refine (lanes4_lane _ _ _ _ i (hi d) _ 2 (by simp [lane8, hi]; try omega)).trans ((pay93_at _ _ _ _ _ _).trans ?_)
    simp only [pay46_at, pay44_at, hi_not d, if_true, if_false, mul_zero, Finset.sum_const_zero, add_zero, zero_add, sw_hi, sw_lo]
    refine Finset.sum_congr rfl fun j _ => congrArg₂ _ (hd5_at _ i j) (congrArg (bnd kp kc j) (Fin.ext ?_))
    simp [lane2, lo, hi]

  · refine (lanes4_lane _ _ _ _ i (lo d) _ 3 (by simp [lane8, lo]; try omega)).trans ((pay94_at _ _ _ _ _ _).trans ?_)
    simp only [pay46_at, pay44_at, lo_lt d, if_true, if_false, mul_zero, Finset.sum_const_zero, add_zero, zero_add, sw_hi, sw_lo]
    refine Finset.sum_congr rfl fun j _ => congrArg₂ _ (hd6_at _ i j) (congrArg (bnd kp kc j) (Fin.ext ?_))
    simp [lane2, lo, hi]

  · refine (lanes4_lane _ _ _ _ i (hi d) _ 3 (by simp [lane8, hi]; try omega)).trans ((pay94_at _ _ _ _ _ _).trans ?_)
    simp only [pay46_at, pay44_at, hi_not d, if_true, if_false, mul_zero, Finset.sum_const_zero, add_zero, zero_add, sw_hi, sw_lo]
    refine Finset.sum_congr rfl fun j _ => congrArg₂ _ (hd7_at _ i j) (congrArg (bnd kp kc j) (Fin.ext ?_))
    simp [lane2, lo, hi]

/-- The queries' gradient. -/
theorem dqV_at (kc kp : Vec Ideal S128x128 .bf16) (P DP : FVec Ideal S8x128x256 .f32) (i : Fin 128) (h : Fin 8) (d : Fin 64) :
    (dqV kc kp P DP (ix2 i (lane8 h d)) : EReal)
      = ∑ j : Fin 256, dsR (fun j => P (ix3 h i j)) (fun j => DP (ix3 h i j)) j * ((1 / 8 : ℝ) : EReal) * bnd kp kc j (lane2 h d) :=
  (headsV_at _ _ _ i h d).trans (Finset.sum_congr rfl fun j _ => congrArg (· * _) (pay88_at i j P DP _))

end Cert.Attn

end
-- ==== Proof.AttnKv.lean ====
module

public import proofs.«01_k».proof.Proof.AttnGrad

set_option maxRecDepth 16384
set_option maxHeartbeats 1600000

/-! # The keys' and the values' gradients at one point, entry by entry -/

@[expose] public section

noncomputable section

namespace Cert.Attn

open Idealize.ShloMosaic Idealize.ShloMosaic.TcCoe
open Cert.Kernel2Ideal Cert.Kernel2Ideal.Gen

/-- Query head `g` of key head `k`, and lane `d` of key head `k`. -/
def head4 (k : Fin 2) (g : Fin 4) : Fin 8 := ⟨4 * k.val + g.val, by omega⟩
def laneK (k : Fin 2) (d : Fin 64) : Fin 128 := ⟨64 * k.val + d.val, by omega⟩

/-- The sum over the queries that read key head `k`. -/
def kvSum (w : Fin 8 → Fin 128 → Fin 256 → EReal) (x : Fin 128 → Fin 512 → EReal) (k : Fin 2) (d : Fin 64) (j : Fin 256) : EReal :=
  ∑ g : Fin 4, ∑ i : Fin 128, w (head4 k g) i j * x i (lane8 (head4 k g) d)

theorem term_congr {w : Vec Ideal S8x128x256 .bf16} {x : Vec Ideal S128x512 .bf16} {f : Fin 128 → EReal} {g : Fin 128 → Fin 128 → EReal} {h : Fin 8} {j : Fin 256} {l : Fin 128} {c : ℕ}
    {hc : ∀ l : Fin 128, c + l.val < 512} {z : Fin 512}
    (hf : ∀ i, f i = w (ix3 h i j)) (hg : ∀ i l, g i l = x (ix2 i ⟨c + l.val, hc l⟩)) (hz : c + l.val = z.val) :
    ∑ i, f i * g i l = ∑ i, (w (ix3 h i j) : EReal) * x (ix2 i z) :=
  Finset.sum_congr rfl fun i _ => congrArg₂ _ (hf i) ((hg i l).trans (congrArg (fun l => x (ix2 i l)) (Fin.ext hz)))

section
variable (q da : Vec Ideal S128x512 .bf16) (P DP : FVec Ideal S8x128x256 .f32)

/-- The keys' sums. -/
theorem pay6_sum (j : Fin 256) (k : Fin 2) (d : Fin 64) :
    (k0_pay6 (dk0 q P DP) (dk1 q P DP) (dk2 q P DP) (dk3 q P DP) (ix2 j (laneK k d)) : EReal) = kvSum (fun h i j => (k0_pay88 P DP) (ix3 h i j)) (fun i l => q (ix2 i l)) k d j := by
  fin_cases k
  · have e : laneK 0 d = lo d := Fin.ext (by simp [laneK, lo])
    refine (congrArg (fun l => (k0_pay6 (dk0 q P DP) (dk1 q P DP) (dk2 q P DP) (dk3 q P DP) (ix2 j l) : EReal)) e).trans ?_
    rw [pay6_at, if_pos (lo_lt d), sw_lo]
    refine (congrArg₂ (· + ·) (pay98_at _ _ _ _ _ _) (pay100_at _ _ _ _ _ _)).trans ?_
    refine (congrArg₂ (· + ·) (congrArg₂ (· + ·) (term_congr (h := 0) (l := lo d) (z := lane8 0 d) (fun i => hd0_at (k0_pay88 P DP) i j) (fun i l => grp0_at q i l) (by simp [lane8, lo]; try omega)) (term_congr (h := 2) (l := lo d) (z := lane8 2 d) (fun i => hd2_at (k0_pay88 P DP) i j) (fun i l => grp1_at q i l) (by simp [lane8, lo]; try omega)))
      (congrArg₂ (· + ·) (term_congr (h := 1) (l := hi d) (z := lane8 1 d) (fun i => hd1_at (k0_pay88 P DP) i j) (fun i l => grp0_at q i l) (by simp [lane8, hi]; try omega)) (term_congr (h := 3) (l := hi d) (z := lane8 3 d) (fun i => hd3_at (k0_pay88 P DP) i j) (fun i l => grp1_at q i l) (by simp [lane8, hi]; try omega)))).trans ?_
    unfold kvSum
    rw [Fin.sum_univ_four, add_add_add_comm, ← add_assoc]
    rfl
  · have e : laneK 1 d = hi d := Fin.ext (by simp [laneK, hi])
    refine (congrArg (fun l => (k0_pay6 (dk0 q P DP) (dk1 q P DP) (dk2 q P DP) (dk3 q P DP) (ix2 j l) : EReal)) e).trans ?_
    rw [pay6_at, if_neg (hi_not d), sw_hi]
    refine (congrArg₂ (· + ·) (pay107_at _ _ _ _ _ _) (pay103_at _ _ _ _ _ _)).trans ?_
    refine (congrArg₂ (· + ·) (congrArg₂ (· + ·) (term_congr (h := 5) (l := hi d) (z := lane8 5 d) (fun i => hd5_at (k0_pay88 P DP) i j) (fun i l => grp2_at q i l) (by simp [lane8, hi]; try omega)) (term_congr (h := 7) (l := hi d) (z := lane8 7 d) (fun i => hd7_at (k0_pay88 P DP) i j) (fun i l => grp3_at q i l) (by simp [lane8, hi]; try omega)))
      (congrArg₂ (· + ·) (term_congr (h := 4) (l := lo d) (z := lane8 4 d) (fun i => hd4_at (k0_pay88 P DP) i j) (fun i l => grp2_at q i l) (by simp [lane8, lo]; try omega)) (term_congr (h := 6) (l := lo d) (z := lane8 6 d) (fun i => hd6_at (k0_pay88 P DP) i j) (fun i l => grp3_at q i l) (by simp [lane8, lo]; try omega)))).trans ?_
    unfold kvSum
    rw [Fin.sum_univ_four, add_comm, add_add_add_comm, ← add_assoc]
    rfl

/-- The values' sums. -/
theorem pay7_sum (j : Fin 256) (k : Fin 2) (d : Fin 64) :
    (k0_pay7 (dv0 da P) (dv1 da P) (dv2 da P) (dv3 da P) (k0_pay109 (hd7 (k0_pay89 P))) (grp3 da) (ix2 j (laneK k d)) : EReal) = kvSum (fun h i j => (k0_pay89 P) (ix3 h i j)) (fun i l => da (ix2 i l)) k d j := by
  fin_cases k
  · have e : laneK 0 d = lo d := Fin.ext (by simp [laneK, lo])
    refine (congrArg (fun l => (k0_pay7 (dv0 da P) (dv1 da P) (dv2 da P) (dv3 da P) (k0_pay109 (hd7 (k0_pay89 P))) (grp3 da) (ix2 j l) : EReal)) e).trans ?_
    rw [pay7_at, if_pos (lo_lt d), sw_lo]
    refine (congrArg₂ (· + ·) (pay99_at _ _ _ _ _ _) (pay102_at _ _ _ _ _ _)).trans ?_
    refine (congrArg₂ (· + ·) (congrArg₂ (· + ·) (term_congr (h := 0) (l := lo d) (z := lane8 0 d) (fun i => hd0_at (k0_pay89 P) i j) (fun i l => grp0_at da i l) (by simp [lane8, lo]; try omega)) (term_congr (h := 2) (l := lo d) (z := lane8 2 d) (fun i => hd2_at (k0_pay89 P) i j) (fun i l => grp1_at da i l) (by simp [lane8, lo]; try omega)))
      (congrArg₂ (· + ·) (term_congr (h := 1) (l := hi d) (z := lane8 1 d) (fun i => hd1_at (k0_pay89 P) i j) (fun i l => grp0_at da i l) (by simp [lane8, hi]; try omega)) (term_congr (h := 3) (l := hi d) (z := lane8 3 d) (fun i => hd3_at (k0_pay89 P) i j) (fun i l => grp1_at da i l) (by simp [lane8, hi]; try omega)))).trans ?_
    unfold kvSum
    rw [Fin.sum_univ_four, add_add_add_comm, ← add_assoc]
    rfl
  · have e : laneK 1 d = hi d := Fin.ext (by simp [laneK, hi])
    refine (congrArg (fun l => (k0_pay7 (dv0 da P) (dv1 da P) (dv2 da P) (dv3 da P) (k0_pay109 (hd7 (k0_pay89 P))) (grp3 da) (ix2 j l) : EReal)) e).trans ?_
    rw [pay7_at, if_neg (hi_not d), sw_hi]
    refine (congrArg₂ (· + ·) (congrArg (· + _) (pay108_at _ _ _ _)) (pay106_at _ _ _ _ _ _)).trans ?_
    refine (congrArg₂ (· + ·) (congrArg₂ (· + ·) (term_congr (h := 5) (l := hi d) (z := lane8 5 d) (fun i => hd5_at (k0_pay89 P) i j) (fun i l => grp2_at da i l) (by simp [lane8, hi]; try omega)) (term_congr (h := 7) (l := hi d) (z := lane8 7 d) (fun i => hd7_at (k0_pay89 P) i j) (fun i l => grp3_at da i l) (by simp [lane8, hi]; try omega)))
      (congrArg₂ (· + ·) (term_congr (h := 4) (l := lo d) (z := lane8 4 d) (fun i => hd4_at (k0_pay89 P) i j) (fun i l => grp2_at da i l) (by simp [lane8, lo]; try omega)) (term_congr (h := 6) (l := lo d) (z := lane8 6 d) (fun i => hd6_at (k0_pay89 P) i j) (fun i l => grp3_at da i l) (by simp [lane8, lo]; try omega)))).trans ?_
    unfold kvSum
    rw [Fin.sum_univ_four, add_comm, add_add_add_comm, ← add_assoc]
    rfl

/-- The scores' gradients and the probabilities, as functions. -/
def gradS (P DP : FVec Ideal S8x128x256 .f32) (h : Fin 8) (i : Fin 128) (j : Fin 256) : EReal :=
  dsR (fun j => P (ix3 h i j)) (fun j => DP (ix3 h i j)) j * ((1 / 8 : ℝ) : EReal)

theorem pay88_fun : (fun h i j => (k0_pay88 P DP (ix3 h i j) : EReal)) = gradS P DP :=
  funext fun h => funext fun i => funext fun j => pay88_at i j P DP h
theorem pay89_fun : (fun h i j => (k0_pay89 P (ix3 h i j) : EReal)) = fun h i j => P (ix3 h i j) :=
  funext fun h => funext fun i => funext fun j => pay89_at i j P h

theorem keepK_at (i : Fin 128) (k : Fin 2) (d : Fin 64) :
    (keepK q P DP (ix2 i (laneK k d)) : EReal) = kvSum (gradS P DP) (fun i l => q (ix2 i l)) k d (up i) :=
  (pay10_at i _ _ _ _ _).trans ((pay6_sum q P DP (up i) k d).trans (congrArg (fun w => kvSum w _ k d (up i)) (pay88_fun P DP)))
theorem keepW_at (i : Fin 128) (k : Fin 2) (d : Fin 64) :
    (keepW da P (ix2 i (laneK k d)) : EReal) = kvSum (fun h i j => P (ix3 h i j)) (fun i l => da (ix2 i l)) k d (up i) :=
  (pay11_at _ i _ _ _ _ _ _).trans ((pay7_sum da P (up i) k d).trans (congrArg (fun w => kvSum w _ k d (up i)) (pay89_fun P)))

/-- Lane `d` of key head `k` in a row that holds the keys' lanes, then the values'. -/
def laneKV (b k : Fin 2) (d : Fin 64) : Fin 256 := ⟨128 * b.val + 64 * k.val + d.val, by omega⟩

theorem dkvV_k (c0 c1 : Vec Ideal S128x128 .f32) (i : Fin 128) (k : Fin 2) (d : Fin 64) :
    (dkvV q da P DP c0 c1 (ix2 i (laneKV 0 k d)) : EReal) = c0 (ix2 i (laneK k d)) + kvSum (gradS P DP) (fun i l => q (ix2 i l)) k d (dn i) :=
  (lanes2_lane _ _ i (laneK k d) _ 0 (by simp [laneK, laneKV])).trans ((pay8_at i _ _ _ _ _ _).trans
    (congrArg (c0 (ix2 i (laneK k d)) + ·) ((pay6_sum q P DP (dn i) k d).trans (congrArg (fun w => kvSum w _ k d (dn i)) (pay88_fun P DP)))))
theorem dkvV_v (c0 c1 : Vec Ideal S128x128 .f32) (i : Fin 128) (k : Fin 2) (d : Fin 64) :
    (dkvV q da P DP c0 c1 (ix2 i (laneKV 1 k d)) : EReal) = c1 (ix2 i (laneK k d)) + kvSum (fun h i j => P (ix3 h i j)) (fun i l => da (ix2 i l)) k d (dn i) :=
  (lanes2_lane _ _ i (laneK k d) _ 1 (by simp [laneK, laneKV]; omega)).trans ((pay9_at _ i _ _ _ _ _ _ _).trans
    (congrArg (c1 (ix2 i (laneK k d)) + ·) ((pay7_sum da P (dn i) k d).trans (congrArg (fun w => kvSum w _ k d (dn i)) (pay89_fun P)))))
end

end Cert.Attn

end
-- ==== Proof.AttnProb.lean ====
module

public import proofs.«01_k».proof.Proof.AttnBand

set_option maxRecDepth 16384
set_option maxHeartbeats 1600000

/-! # The kernel's probabilities at one point, entry by entry -/

@[expose] public section

noncomputable section

namespace Cert.Attn

open Idealize.ShloMosaic Idealize.ShloMosaic.TcCoe
open Cert.Kernel2Ideal Cert.Kernel2Ideal.Gen

/-- The largest of a row's scores and the sink. -/
def rowMax (L : Fin 256 → EReal) (s : EReal) : EReal := max (Finset.univ.fold max ⊥ L) s
/-- The row's normaliser. -/
def rowDen (L : Fin 256 → EReal) (s : EReal) : EReal := ∑ x, Ideal.exp (L x - rowMax L s) + Ideal.exp (s - rowMax L s)
/-- The row's probabilities, and the sink's. -/
def rowP (L : Fin 256 → EReal) (s : EReal) (j : Fin 256) : EReal := Ideal.exp (L j - rowMax L s) * Ideal.div 1 (rowDen L s)
def rowS (L : Fin 256 → EReal) (s : EReal) : EReal := Ideal.exp (s - rowMax L s) * Ideal.div 1 (rowDen L s)

theorem maskBits : Ideal.ofBits FTy.f32 0xFF800000#32 = (⊥ : EReal) := by
  simp [Ideal.ofBits, Ideal.ieee]
theorem maskNamed : (Named.named (F := Ideal) (φ := .f32) κ "mask" 0xF149F2CA#32 : EReal) = ⊥ := rfl

/-- The kernel's masked scores. -/
def logitK (m : IVec S1x128x256 1) (s b : Vec Ideal S8x128x256 .f32) (h : Fin 8) (i : Fin 128) (j : Fin 256) : EReal :=
  Scalar.select (m (ix3 0 i j)) ((s (ix3 h i j) : EReal) + b (ix3 h i j)) ⊥

section
variable (i : Fin 128) (j : Fin 256) (h : Fin 8)
theorem pay73_at (sk : FVec Ideal S8x1x1 .f32) (m : IVec S1x128x256 1) (s b : Vec Ideal S8x128x256 .f32) :
    (k0_pay73 sk m s b (ix3 h i j) : EReal) = rowP (logitK m s b h i) (sk (ix3 h 0 0)) j := by
  pointwise [k0_pay73, k0_pay70, k0_pay72, k0_pay71, k0_pay68, k0_pay69]
  rw [maskBits, maskNamed]; rfl
theorem pay74_at (sk : FVec Ideal S8x1x1 .f32) (m : IVec S1x128x256 1) (s b : Vec Ideal S8x128x256 .f32) :
    (k0_pay74 sk m s b (ix3 h i 0) : EReal) = rowS (logitK m s b h i) (sk (ix3 h 0 0)) := by
  pointwise [k0_pay74, k0_pay70, k0_pay72, k0_pay71, k0_pay68, k0_pay69]
  rw [maskBits, maskNamed]; rfl
theorem pay67_at (s : Vec Ideal S8x128x256 .f32) : (k0_pay67 s (ix3 h i j) : EReal) = s (ix3 h i j) * Ideal.ofBits FTy.f32 0x3E000000#32 := by
  pointwise [k0_pay67]
theorem pay66_at (n : BitVec 32) (bk : Vec Ideal S128x256 .i32) : k0_pay66 (k0_pay54 n bk) (ix3 0 i j)
    = IntOp.andi (IntOp.cmpi .sge (bk (ix2 i j)) 0#32) (IntOp.ori (Scalar.cmpi .sgt n 0#32) (IntOp.cmpi .sge (BitVec.ofNat 32 j.val) 128#32)) := by
  pointwise [k0_pay66, k0_pay54]
theorem pay65_at (a b c d e f g z : EReal) : (k0_pay65 (F := Ideal) (iota Kind.tc S8x1x1 32 [0] iota_S8x1x1_d0_w32) (k0_pay64 a b) c d e f g z (ix3 h 0 0) : EReal)
    = (![a, b, c, d, e, f, g, z] : Fin 8 → EReal) h := by
  pointwise [k0_pay65, k0_pay64]
  fin_cases h <;> rfl
theorem sinkV_at (sk : Vec Ideal S1x8 .f32) : (sinkV sk (ix3 h 0 0) : EReal) = sk (ix2 0 h) := by
  unfold sinkV
  refine (pay65_at h _ _ _ _ _ _ _ _).trans ?_
  fin_cases h <;> exact View.ld_unit_apply_of _ _ _ _ _ _ (by intro a; fin_cases a <;> rfl)
end
end Cert.Attn

end
-- ==== Proof.AttnLoop.lean ====
module

public import proofs.«01_k».proof.Proof.Gen.Kernel2Ideal.Loops
public import proofs.«01_k».proof.Proof.AttnOutA
public import proofs.«01_k».proof.Proof.AttnOutC
public import proofs.«01_k».proof.Proof.AttnProb

set_option maxRecDepth 16384
set_option maxHeartbeats 1600000

/-! # The kernel's loops over the buckets, entry by entry -/

@[expose] public section

noncomputable section

namespace Cert.Attn

open Idealize.ShloMosaic Idealize.ShloMosaic.TcCoe
open Cert.Kernel2Ideal Cert.Kernel2Ideal.Gen

/-- The bias of a bucket, as the sum over all buckets of which one is taken. -/
def biasOf (b : BitVec 32) (rb : Fin 32 → EReal) : EReal := ∑ k : Fin 32, if b = BitVec.ofNat 32 k.val then rb k else 0

theorem iv_eq (k : ℕ) (hk : k < 32) : Scf.iv 0#32 1#32 k = BitVec.ofNat 32 k := by
  have : ∀ k : Fin 32, Scf.iv 0#32 1#32 k.val = BitVec.ofNat 32 k.val := by decide +kernel
  exact this ⟨k, hk⟩
theorem select_eq (a b : BitVec 32) (x y : EReal) : Scalar.select (IntOp.cmpi .eq a b) x y = if a = b then x else y := by
  by_cases h : a = b
  · simp [Scalar.select, IntOp.cmpi, h]
  · have : (a == b) = false := by simpa using h
    simp [Scalar.select, IntOp.cmpi, h, this]

/-- A loop that adds one bucket's value a trip. -/
theorem loop_sum (st : ℕ → EReal) (g : ℕ → EReal) (hs : ∀ k, k < 32 → st (k + 1) = st k + g k) : st 32 = st 0 + ∑ k : Fin 32, g k.val := by
  have : ∀ n, n ≤ 32 → st n = st 0 + ∑ k ∈ Finset.range n, g k := by
    intro n
    induction n with
    | zero => intro _; simp
    | succ n ih => intro hn; rw [hs n (by omega), ih (by omega), Finset.sum_range_succ, add_assoc]
  rw [this 32 le_rfl, Finset.sum_range]

theorem idx_nat (k : ℕ) (hk : k < 32) : (Scalar.indexCast (Scf.iv 0#32 1#32 k)).toNat = k := by
  have : ∀ k : Fin 32, (Scalar.indexCast (Scf.iv 0#32 1#32 k.val)).toNat = k.val := by decide +kernel
  exact this ⟨k, hk⟩

theorem bias1_at   (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc : k0_cond1 i = 1#1) (x7 : Vec Ideal S128x256 .i32) (x8 : Vec Ideal S8x32 .f32) (r : Fin 128) (j : Fin 256) :
    (k0_pay19 (st_k0_t1 (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 (h8.unread x8) k0_pay17 (Scf.trips (0#32) (Scalar.addi 0#32 32#32) 1#32)) (ix3 0 r j) : EReal)
      = biasOf (x7 (ix2 r j)) (fun k => x8 (ix2 0 k)) := by
  have ht : (Scf.trips (0#32) (Scalar.addi 0#32 32#32) 1#32) = 32 := by decide +kernel
  rw [ht]
  pointwise [k0_pay19]
  refine (loop_sum (fun n => (st_k0_t1 (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 (h8.unread x8) k0_pay17 n (ix2 r j) : EReal))
    (fun k => if x7 (ix2 r j) = BitVec.ofNat 32 k then (if hk : k < 32 then x8 (ix2 0 ⟨k, hk⟩) else 0) else 0) fun k hk => ?_).trans ?_
  rotate_left
  · have h0 : (st_k0_t1 (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 (h8.unread x8) k0_pay17 0 (ix2 r j) : EReal) = 0 := by
      rw [st_k0_t1_zero]
      pointwise [k0_pay17]
    rw [h0, zero_add]
    unfold biasOf
    refine Finset.sum_congr rfl fun k _ => ?_
    rw [dif_pos k.isLt]
  · have hk' : k < k0_t1_loop.trips := lt_of_lt_of_eq hk (by decide +kernel)
    refine (congrFun (st_k0_t1_succ (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 (h8.unread x8) k0_pay17 ⟨k, hk'⟩) (ix2 r j)).trans ?_
    unfold tripR_k0_t1 trip_k0_t1
    dsimp only
    sl_unfold_words
    simp only [View.readAt_eq_ld, h8.read_unread]
    pointwise [k0_pay18]
    rw [select_eq]
    simp only [hk, dif_pos]
    exact congrArg (_ + ·) (if_congr (by rw [iv_eq k hk]) (congrArg (fun l => x8 (ix2 0 l)) (Fin.ext (idx_nat k hk))) rfl)

theorem bias2_at   (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc : k0_cond1 i = 1#1) (x7 : Vec Ideal S128x256 .i32) (x8 : Vec Ideal S8x32 .f32) (r : Fin 128) (j : Fin 256) :
    (k0_pay22 (st_k0_t2 (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 (h8.unread x8) k0_pay20 (Scf.trips (0#32) (Scalar.addi 0#32 32#32) 1#32)) (ix3 0 r j) : EReal)
      = biasOf (x7 (ix2 r j)) (fun k => x8 (ix2 1 k)) := by
  have ht : (Scf.trips (0#32) (Scalar.addi 0#32 32#32) 1#32) = 32 := by decide +kernel
  rw [ht]
  pointwise [k0_pay22]
  refine (loop_sum (fun n => (st_k0_t2 (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 (h8.unread x8) k0_pay20 n (ix2 r j) : EReal))
    (fun k => if x7 (ix2 r j) = BitVec.ofNat 32 k then (if hk : k < 32 then x8 (ix2 1 ⟨k, hk⟩) else 0) else 0) fun k hk => ?_).trans ?_
  rotate_left
  · have h0 : (st_k0_t2 (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 (h8.unread x8) k0_pay20 0 (ix2 r j) : EReal) = 0 := by
      rw [st_k0_t2_zero]
      pointwise [k0_pay20]
    rw [h0, zero_add]
    unfold biasOf
    refine Finset.sum_congr rfl fun k _ => ?_
    rw [dif_pos k.isLt]
  · have hk' : k < k0_t2_loop.trips := lt_of_lt_of_eq hk (by decide +kernel)
    refine (congrFun (st_k0_t2_succ (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 (h8.unread x8) k0_pay20 ⟨k, hk'⟩) (ix2 r j)).trans ?_
    unfold tripR_k0_t2 trip_k0_t2
    dsimp only
    sl_unfold_words
    simp only [View.readAt_eq_ld, h8.read_unread]
    pointwise [k0_pay21]
    rw [select_eq]
    simp only [hk, dif_pos]
    exact congrArg (_ + ·) (if_congr (by rw [iv_eq k hk]) (congrArg (fun l => x8 (ix2 1 l)) (Fin.ext (idx_nat k hk))) rfl)

theorem bias3_at   (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc : k0_cond1 i = 1#1) (x7 : Vec Ideal S128x256 .i32) (x8 : Vec Ideal S8x32 .f32) (r : Fin 128) (j : Fin 256) :
    (k0_pay25 (st_k0_t3 (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 (h8.unread x8) k0_pay23 (Scf.trips (0#32) (Scalar.addi 0#32 32#32) 1#32)) (ix3 0 r j) : EReal)
      = biasOf (x7 (ix2 r j)) (fun k => x8 (ix2 2 k)) := by
  have ht : (Scf.trips (0#32) (Scalar.addi 0#32 32#32) 1#32) = 32 := by decide +kernel
  rw [ht]
  pointwise [k0_pay25]
  refine (loop_sum (fun n => (st_k0_t3 (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 (h8.unread x8) k0_pay23 n (ix2 r j) : EReal))
    (fun k => if x7 (ix2 r j) = BitVec.ofNat 32 k then (if hk : k < 32 then x8 (ix2 2 ⟨k, hk⟩) else 0) else 0) fun k hk => ?_).trans ?_
  rotate_left
  · have h0 : (st_k0_t3 (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 (h8.unread x8) k0_pay23 0 (ix2 r j) : EReal) = 0 := by
      rw [st_k0_t3_zero]
      pointwise [k0_pay23]
    rw [h0, zero_add]
    unfold biasOf
    refine Finset.sum_congr rfl fun k _ => ?_
    rw [dif_pos k.isLt]
  · have hk' : k < k0_t3_loop.trips := lt_of_lt_of_eq hk (by decide +kernel)
    refine (congrFun (st_k0_t3_succ (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 (h8.unread x8) k0_pay23 ⟨k, hk'⟩) (ix2 r j)).trans ?_
    unfold tripR_k0_t3 trip_k0_t3
    dsimp only
    sl_unfold_words
    simp only [View.readAt_eq_ld, h8.read_unread]
    pointwise [k0_pay24]
    rw [select_eq]
    simp only [hk, dif_pos]
    exact congrArg (_ + ·) (if_congr (by rw [iv_eq k hk]) (congrArg (fun l => x8 (ix2 2 l)) (Fin.ext (idx_nat k hk))) rfl)

theorem bias4_at   (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc : k0_cond1 i = 1#1) (x7 : Vec Ideal S128x256 .i32) (x8 : Vec Ideal S8x32 .f32) (r : Fin 128) (j : Fin 256) :
    (k0_pay28 (st_k0_t4 (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 (h8.unread x8) k0_pay26 (Scf.trips (0#32) (Scalar.addi 0#32 32#32) 1#32)) (ix3 0 r j) : EReal)
      = biasOf (x7 (ix2 r j)) (fun k => x8 (ix2 3 k)) := by
  have ht : (Scf.trips (0#32) (Scalar.addi 0#32 32#32) 1#32) = 32 := by decide +kernel
  rw [ht]
  pointwise [k0_pay28]
  refine (loop_sum (fun n => (st_k0_t4 (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 (h8.unread x8) k0_pay26 n (ix2 r j) : EReal))
    (fun k => if x7 (ix2 r j) = BitVec.ofNat 32 k then (if hk : k < 32 then x8 (ix2 3 ⟨k, hk⟩) else 0) else 0) fun k hk => ?_).trans ?_
  rotate_left
  · have h0 : (st_k0_t4 (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 (h8.unread x8) k0_pay26 0 (ix2 r j) : EReal) = 0 := by
      rw [st_k0_t4_zero]
      pointwise [k0_pay26]
    rw [h0, zero_add]
    unfold biasOf
    refine Finset.sum_congr rfl fun k _ => ?_
    rw [dif_pos k.isLt]
  · have hk' : k < k0_t4_loop.trips := lt_of_lt_of_eq hk (by decide +kernel)
    refine (congrFun (st_k0_t4_succ (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 (h8.unread x8) k0_pay26 ⟨k, hk'⟩) (ix2 r j)).trans ?_
    unfold tripR_k0_t4 trip_k0_t4
    dsimp only
    sl_unfold_words
    simp only [View.readAt_eq_ld, h8.read_unread]
    pointwise [k0_pay27]
    rw [select_eq]
    simp only [hk, dif_pos]
    exact congrArg (_ + ·) (if_congr (by rw [iv_eq k hk]) (congrArg (fun l => x8 (ix2 3 l)) (Fin.ext (idx_nat k hk))) rfl)

theorem bias5_at   (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc : k0_cond1 i = 1#1) (x7 : Vec Ideal S128x256 .i32) (x8 : Vec Ideal S8x32 .f32) (u : FVec Ideal S128x256 .f32) (v : Vec Ideal S1x128x256 .f32) (r : Fin 128) (j : Fin 256) :
    (k0_pay31 (st_k0_t5 (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 u v (h8.unread x8) k0_pay29 (Scf.trips (0#32) (Scalar.addi 0#32 32#32) 1#32)) (ix3 0 r j) : EReal)
      = biasOf (x7 (ix2 r j)) (fun k => x8 (ix2 4 k)) := by
  have ht : (Scf.trips (0#32) (Scalar.addi 0#32 32#32) 1#32) = 32 := by decide +kernel
  rw [ht]
  pointwise [k0_pay31]
  refine (loop_sum (fun n => (st_k0_t5 (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 u v (h8.unread x8) k0_pay29 n (ix2 r j) : EReal))
    (fun k => if x7 (ix2 r j) = BitVec.ofNat 32 k then (if hk : k < 32 then x8 (ix2 4 ⟨k, hk⟩) else 0) else 0) fun k hk => ?_).trans ?_
  rotate_left
  · have h0 : (st_k0_t5 (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 u v (h8.unread x8) k0_pay29 0 (ix2 r j) : EReal) = 0 := by
      rw [st_k0_t5_zero]
      pointwise [k0_pay29]
    rw [h0, zero_add]
    unfold biasOf
    refine Finset.sum_congr rfl fun k _ => ?_
    rw [dif_pos k.isLt]
  · have hk' : k < k0_t5_loop.trips := lt_of_lt_of_eq hk (by decide +kernel)
    refine (congrFun (st_k0_t5_succ (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 u v (h8.unread x8) k0_pay29 ⟨k, hk'⟩) (ix2 r j)).trans ?_
    unfold tripR_k0_t5 trip_k0_t5
    dsimp only
    sl_unfold_words
    simp only [View.readAt_eq_ld, h8.read_unread]
    pointwise [k0_pay30]
    rw [select_eq]
    simp only [hk, dif_pos]
    exact congrArg (_ + ·) (if_congr (by rw [iv_eq k hk]) (congrArg (fun l => x8 (ix2 4 l)) (Fin.ext (idx_nat k hk))) rfl)

theorem bias6_at   (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc : k0_cond1 i = 1#1) (x7 : Vec Ideal S128x256 .i32) (x8 : Vec Ideal S8x32 .f32) (u : FVec Ideal S128x256 .f32) (v : Vec Ideal S1x128x256 .f32) (r : Fin 128) (j : Fin 256) :
    (k0_pay34 (st_k0_t6 (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 u v (h8.unread x8) k0_pay32 (Scf.trips (0#32) (Scalar.addi 0#32 32#32) 1#32)) (ix3 0 r j) : EReal)
      = biasOf (x7 (ix2 r j)) (fun k => x8 (ix2 5 k)) := by
  have ht : (Scf.trips (0#32) (Scalar.addi 0#32 32#32) 1#32) = 32 := by decide +kernel
  rw [ht]
  pointwise [k0_pay34]
  refine (loop_sum (fun n => (st_k0_t6 (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 u v (h8.unread x8) k0_pay32 n (ix2 r j) : EReal))
    (fun k => if x7 (ix2 r j) = BitVec.ofNat 32 k then (if hk : k < 32 then x8 (ix2 5 ⟨k, hk⟩) else 0) else 0) fun k hk => ?_).trans ?_
  rotate_left
  · have h0 : (st_k0_t6 (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 u v (h8.unread x8) k0_pay32 0 (ix2 r j) : EReal) = 0 := by
      rw [st_k0_t6_zero]
      pointwise [k0_pay32]
    rw [h0, zero_add]
    unfold biasOf
    refine Finset.sum_congr rfl fun k _ => ?_
    rw [dif_pos k.isLt]
  · have hk' : k < k0_t6_loop.trips := lt_of_lt_of_eq hk (by decide +kernel)
    refine (congrFun (st_k0_t6_succ (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 u v (h8.unread x8) k0_pay32 ⟨k, hk'⟩) (ix2 r j)).trans ?_
    unfold tripR_k0_t6 trip_k0_t6
    dsimp only
    sl_unfold_words
    simp only [View.readAt_eq_ld, h8.read_unread]
    pointwise [k0_pay33]
    rw [select_eq]
    simp only [hk, dif_pos]
    exact congrArg (_ + ·) (if_congr (by rw [iv_eq k hk]) (congrArg (fun l => x8 (ix2 5 l)) (Fin.ext (idx_nat k hk))) rfl)

theorem bias7_at   (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc : k0_cond1 i = 1#1) (x7 : Vec Ideal S128x256 .i32) (x8 : Vec Ideal S8x32 .f32) (u : FVec Ideal S128x256 .f32) (v : Vec Ideal S1x128x256 .f32) (r : Fin 128) (j : Fin 256) :
    (k0_pay37 (st_k0_t7 (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 u v (h8.unread x8) k0_pay35 (Scf.trips (0#32) (Scalar.addi 0#32 32#32) 1#32)) (ix3 0 r j) : EReal)
      = biasOf (x7 (ix2 r j)) (fun k => x8 (ix2 6 k)) := by
  have ht : (Scf.trips (0#32) (Scalar.addi 0#32 32#32) 1#32) = 32 := by decide +kernel
  rw [ht]
  pointwise [k0_pay37]
  refine (loop_sum (fun n => (st_k0_t7 (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 u v (h8.unread x8) k0_pay35 n (ix2 r j) : EReal))
    (fun k => if x7 (ix2 r j) = BitVec.ofNat 32 k then (if hk : k < 32 then x8 (ix2 6 ⟨k, hk⟩) else 0) else 0) fun k hk => ?_).trans ?_
  rotate_left
  · have h0 : (st_k0_t7 (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 u v (h8.unread x8) k0_pay35 0 (ix2 r j) : EReal) = 0 := by
      rw [st_k0_t7_zero]
      pointwise [k0_pay35]
    rw [h0, zero_add]
    unfold biasOf
    refine Finset.sum_congr rfl fun k _ => ?_
    rw [dif_pos k.isLt]
  · have hk' : k < k0_t7_loop.trips := lt_of_lt_of_eq hk (by decide +kernel)
    refine (congrFun (st_k0_t7_succ (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 u v (h8.unread x8) k0_pay35 ⟨k, hk'⟩) (ix2 r j)).trans ?_
    unfold tripR_k0_t7 trip_k0_t7
    dsimp only
    sl_unfold_words
    simp only [View.readAt_eq_ld, h8.read_unread]
    pointwise [k0_pay36]
    rw [select_eq]
    simp only [hk, dif_pos]
    exact congrArg (_ + ·) (if_congr (by rw [iv_eq k hk]) (congrArg (fun l => x8 (ix2 6 l)) (Fin.ext (idx_nat k hk))) rfl)

theorem bias8_at   (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc : k0_cond1 i = 1#1) (x7 : Vec Ideal S128x256 .i32) (x8 : Vec Ideal S8x32 .f32) (u : FVec Ideal S128x256 .f32) (v : Vec Ideal S1x128x256 .f32) (r : Fin 128) (j : Fin 256) :
    (k0_pay1 (st_k0_t8 (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 u v (h8.unread x8) k0_pay38 (Scf.trips (0#32) (Scalar.addi 0#32 32#32) 1#32)) (ix3 0 r j) : EReal)
      = biasOf (x7 (ix2 r j)) (fun k => x8 (ix2 7 k)) := by
  have ht : (Scf.trips (0#32) (Scalar.addi 0#32 32#32) 1#32) = 32 := by decide +kernel
  rw [ht]
  pointwise [k0_pay1]
  refine (loop_sum (fun n => (st_k0_t8 (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 u v (h8.unread x8) k0_pay38 n (ix2 r j) : EReal))
    (fun k => if x7 (ix2 r j) = BitVec.ofNat 32 k then (if hk : k < 32 then x8 (ix2 7 ⟨k, hk⟩) else 0) else 0) fun k hk => ?_).trans ?_
  rotate_left
  · have h0 : (st_k0_t8 (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 u v (h8.unread x8) k0_pay38 0 (ix2 r j) : EReal) = 0 := by
      rw [st_k0_t8_zero]
      pointwise [k0_pay38]
    rw [h0, zero_add]
    unfold biasOf
    refine Finset.sum_congr rfl fun k _ => ?_
    rw [dif_pos k.isLt]
  · have hk' : k < k0_t8_loop.trips := lt_of_lt_of_eq hk (by decide +kernel)
    refine (congrFun (st_k0_t8_succ (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x7 u v (h8.unread x8) k0_pay38 ⟨k, hk'⟩) (ix2 r j)).trans ?_
    unfold tripR_k0_t8 trip_k0_t8
    dsimp only
    sl_unfold_words
    simp only [View.readAt_eq_ld, h8.read_unread]
    pointwise [k0_pay39]
    rw [select_eq]
    simp only [hk, dif_pos]
    exact congrArg (_ + ·) (if_congr (by rw [iv_eq k hk]) (congrArg (fun l => x8 (ix2 7 l)) (Fin.ext (idx_nat k hk))) rfl)

/-- The bias array of the first point. -/
theorem biasA_at   (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc0 : cond0_0 i) (hc1 : cond0_1 i) (hc2 : ¬cond0_2 i) (hc3 : ¬cond0_3 i) (x1 : Vec Ideal S128x512 .bf16) (x2 : Vec Ideal S128x512 .bf16) (x3 : Vec Ideal S128x128 .bf16) (x4 : Vec Ideal S128x128 .bf16) (x5 : Vec Ideal S128x128 .bf16) (x6 : Vec Ideal S128x128 .bf16) (x7 : Vec Ideal S128x256 .i32) (x8 : Vec Ideal S8x32 .f32) (x9 : Vec Ideal S1x8 .f32) (x10 : Vec Ideal S128x512 .bf16) (x11 : Vec Ideal S128x256 .bf16) (x12 : Vec Ideal S8x40x128 .f32) (x13 : Vec Ideal S8x128x256 .f32) (x14 : Vec Ideal S8x128x256 .f32) (x15 : Vec Ideal S8x1x1 .f32) (x16 : Vec Ideal S128x128 .f32) (x17 : Vec Ideal S128x128 .f32) (x18 : Vec Ideal S8x128x256 .f32) (x19 : Vec Ideal S8x128x256 .f32) (x20 : Vec Ideal S8x128x256 .bf16) (x21 : Vec Ideal S8x128x256 .bf16) (h : Fin 8) (r : Fin 128) (j : Fin 256) :
    (biasA (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 hc2 hc3 x1 x2 x3 x4 x5 x6 x7 x8 x9 x10 x11 x12 x13 x14 x15 x16 x17 x18 x19 x20 x21 (ix3 h r j) : EReal) = biasOf (x7 (ix2 r j)) (fun k => x8 (ix2 h k)) := by
  unfold biasA
  fin_cases h
  · exact bias1_at c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 _ x7 x8 r j
  · exact bias2_at c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 _ x7 x8 r j
  · exact bias3_at c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 _ x7 x8 r j
  · exact bias4_at c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 _ x7 x8 r j
  · exact bias5_at c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 _ x7 x8 _ _ r j
  · exact bias6_at c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 _ x7 x8 _ _ r j
  · exact bias7_at c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 _ x7 x8 _ _ r j
  · exact bias8_at c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 _ x7 x8 _ _ r j

/-- The last point's sums, bucket by bucket, with the sinks' row. -/
theorem smallC_at   (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc0 : ¬cond0_0 i) (hc1 : ¬cond0_1 i) (hc3 : cond0_3 i) (x1 : Vec Ideal S128x512 .bf16) (x2 : Vec Ideal S128x512 .bf16) (x3 : Vec Ideal S128x128 .bf16) (x4 : Vec Ideal S128x128 .bf16) (x5 : Vec Ideal S128x128 .bf16) (x6 : Vec Ideal S128x128 .bf16) (x7 : Vec Ideal S128x256 .i32) (x8 : Vec Ideal S8x32 .f32) (x9 : Vec Ideal S1x8 .f32) (x10 : Vec Ideal S128x512 .bf16) (x11 : Vec Ideal S128x256 .bf16) (x12 : Vec Ideal S8x40x128 .f32) (x13 : Vec Ideal S8x128x256 .f32) (x14 : Vec Ideal S8x128x256 .f32) (x15 : Vec Ideal S8x1x1 .f32) (x16 : Vec Ideal S128x128 .f32) (x17 : Vec Ideal S128x128 .f32) (x18 : Vec Ideal S8x128x256 .f32) (x19 : Vec Ideal S8x128x256 .f32) (x20 : Vec Ideal S8x128x256 .bf16) (x21 : Vec Ideal S8x128x256 .bf16) (h : Fin 8) (r : Fin 40) (l : Fin 128) :
    (smallC (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 hc3 x1 x2 x3 x4 x5 x6 x7 x8 x9 x10 x11 x12 x13 x14 x15 x16 x17 x18 x19 x20 x21 (ix3 h r l) : EReal)
      = (if BitVec.ofNat 32 r.val = 32#32 then (x15 (ix3 h 0 0) : EReal) else 0)
        + ∑ k : Fin 32, if BitVec.ofNat 32 r.val = BitVec.ofNat 32 k.val then ∑ j : Fin 256, ∑ i : Fin 128, if x7 (ix2 i j) = BitVec.ofNat 32 k.val then (x14 (ix3 h i j) : EReal) else 0 else 0 := by
  have ht : (Scf.trips (0#32) (Scalar.addi 0#32 32#32) 1#32) = 32 := by decide +kernel
  unfold smallC
  rw [ht]
  pointwise [k0_pay16]
  refine (loop_sum (fun n => (st_k0_t9 (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc3 x7 (h14.unread x14) (k0_pay14 x15) n (ix3 h r l) : EReal))
    (fun k => if BitVec.ofNat 32 r.val = BitVec.ofNat 32 k then ∑ j : Fin 256, ∑ i : Fin 128, if x7 (ix2 i j) = BitVec.ofNat 32 k then (x14 (ix3 h i j) : EReal) else 0 else 0) fun k hk => ?_).trans ?_
  · have hk' : k < k0_t9_loop.trips := lt_of_lt_of_eq hk (by decide +kernel)
    refine (congrFun (st_k0_t9_succ (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc3 x7 (h14.unread x14) (k0_pay14 x15) ⟨k, hk'⟩) (ix3 h r l)).trans ?_
    unfold tripR_k0_t9 trip_k0_t9
    dsimp only
    sl_unfold_words
    simp only [View.readAt_eq_ld, h14.read_unread, View.ld_unit_zero (S := S8x128x256) hz3]
    pointwise [k0_pay15]
    simp only [iv_eq k hk, select_eq]
  · refine congrArg (· + _) ?_
    show (st_k0_t9 (F := Ideal) Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc3 x7 (h14.unread x14) (k0_pay14 x15) 0 (ix3 h r l) : EReal) = _
    rw [st_k0_t9_zero]
    pointwise [k0_pay14]
    rw [select_eq]

end Cert.Attn

end
-- ==== Proof.AttnSteps.lean ====
module

public import proofs.«01_k».proof.Proof.AttnFrame
public import proofs.«01_k».proof.Proof.AttnOutA
public import proofs.«01_k».proof.Proof.AttnOutB
public import proofs.«01_k».proof.Proof.AttnOutC
public import proofs.«01_k».proof.Proof.AttnKv
public import proofs.«01_k».proof.Proof.AttnProb
public import proofs.«01_k».proof.Proof.AttnLoop

set_option maxRecDepth 16384
set_option maxHeartbeats 1600000

/-! # What the kernel keeps between points, and leaves in its outputs -/

@[expose] public section

noncomputable section

namespace Cert.Attn

open Idealize.ShloMosaic Idealize.ShloMosaic.TcCoe
open Cert.Kernel2Ideal Cert.Kernel2Ideal.Gen

attribute [local irreducible] runA runB runC

/-- The biases of the band, from the bucket table and the biases by head and bucket. -/
def biasB (bk : Vec Ideal S128x256 .i32) (rb : Vec Ideal S8x32 .f32) : Vec Ideal S8x128x256 .f32 :=
  fun i => biasOf (bk (ix2 (i 1) (i 2))) (fun k => rb (ix2 (i 0) k))

theorem biasA_fun    (c : Dev nD) (i : grid0.Coords) (a1 : Memref sig .tc .vmem S128x512 .bf16) (h1 : a1.IsWhole) (a2 : Memref sig .tc .vmem S128x512 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x128 .bf16) (h6 : a6.IsWhole) (a7 : Memref sig .tc .vmem S128x256 .i32) (h7 : a7.IsWhole) (a8 : Memref sig .tc .smem S8x32 .f32) (h8 : a8.IsWhole) (a9 : Memref sig .tc .smem S1x8 .f32) (h9 : a9.IsWhole) (a10 : Memref sig .tc .vmem S128x512 .bf16) (h10 : a10.IsWhole) (a11 : Memref sig .tc .vmem S128x256 .bf16) (h11 : a11.IsWhole) (a12 : Memref sig .tc .vmem S8x40x128 .f32) (h12 : a12.IsWhole) (a13 : Memref sig .tc .vmem S8x128x256 .f32) (h13 : a13.IsWhole) (a14 : Memref sig .tc .vmem S8x128x256 .f32) (h14 : a14.IsWhole) (a15 : Memref sig .tc .vmem S8x1x1 .f32) (h15 : a15.IsWhole) (a16 : Memref sig .tc .vmem S128x128 .f32) (h16 : a16.IsWhole) (a17 : Memref sig .tc .vmem S128x128 .f32) (h17 : a17.IsWhole) (a18 : Memref sig .tc .vmem S8x128x256 .f32) (h18 : a18.IsWhole) (a19 : Memref sig .tc .vmem S8x128x256 .f32) (h19 : a19.IsWhole) (a20 : Memref sig .tc .vmem S8x128x256 .bf16) (h20 : a20.IsWhole) (a21 : Memref sig .tc .vmem S8x128x256 .bf16) (h21 : a21.IsWhole) (hc0 : cond0_0 i) (hc1 : cond0_1 i) (hc2 : ¬cond0_2 i) (hc3 : ¬cond0_3 i) (x1 : Vec Ideal S128x512 .bf16) (x2 : Vec Ideal S128x512 .bf16) (x3 : Vec Ideal S128x128 .bf16) (x4 : Vec Ideal S128x128 .bf16) (x5 : Vec Ideal S128x128 .bf16) (x6 : Vec Ideal S128x128 .bf16) (x7 : Vec Ideal S128x256 .i32) (x8 : Vec Ideal S8x32 .f32) (x9 : Vec Ideal S1x8 .f32) (x10 : Vec Ideal S128x512 .bf16) (x11 : Vec Ideal S128x256 .bf16) (x12 : Vec Ideal S8x40x128 .f32) (x13 : Vec Ideal S8x128x256 .f32) (x14 : Vec Ideal S8x128x256 .f32) (x15 : Vec Ideal S8x1x1 .f32) (x16 : Vec Ideal S128x128 .f32) (x17 : Vec Ideal S128x128 .f32) (x18 : Vec Ideal S8x128x256 .f32) (x19 : Vec Ideal S8x128x256 .f32) (x20 : Vec Ideal S8x128x256 .bf16) (x21 : Vec Ideal S8x128x256 .bf16) :
    biasA (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 hc2 hc3 x1 x2 x3 x4 x5 x6 x7 x8 x9 x10 x11 x12 x13 x14 x15 x16 x17 x18 x19 x20 x21 = biasB x7 x8 := by
  funext z
  obtain ⟨h, r, j, rfl⟩ : ∃ (h : Fin 8) (r : Fin 128) (j : Fin 256), z = ix3 h r j := ⟨z 0, z 1, z 2, eq_ix3 z⟩
  exact biasA_at c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 hc2 hc3 x1 x2 x3 x4 x5 x6 x7 x8 x9 x10 x11 x12 x13 x14 x15 x16 x17 x18 x19 x20 x21 h r j

variable (m : (ℓ : Loc nD τ sig) → Buf (Elt Ideal) ℓ) (c : Dev nD)

/-- The point with number `n` (the last one from there on). -/
def pt (n : ℕ) : Fin cfg0.N := ⟨min n 32, lt_of_lt_of_eq (by omega) N_0.symm⟩
theorem pt_val (t : Fin cfg0.N) : pt t.val = t :=
  Fin.ext (min_eq_left (Nat.lt_succ_iff.mp (lt_of_lt_of_eq t.isLt N_0)))

/-- The blocks the kernel loads at point `n`. -/
abbrev bQ (n : ℕ) : Vec Ideal S128x512 .bf16 := iblk m c 0 (pt n)
abbrev bA (n : ℕ) : Vec Ideal S128x512 .bf16 := iblk m c 1 (pt n)
abbrev bKc (n : ℕ) : Vec Ideal S128x128 .bf16 := iblk m c 2 (pt n)
abbrev bKp (n : ℕ) : Vec Ideal S128x128 .bf16 := iblk m c 3 (pt n)
abbrev bVc (n : ℕ) : Vec Ideal S128x128 .bf16 := iblk m c 4 (pt n)
abbrev bVp (n : ℕ) : Vec Ideal S128x128 .bf16 := iblk m c 5 (pt n)
abbrev bT (n : ℕ) : Vec Ideal S128x256 .i32 := iblk m c 6 (pt n)
abbrev bR (n : ℕ) : Vec Ideal S8x32 .f32 := iblk m c 7 (pt n)
abbrev bS (n : ℕ) : Vec Ideal S1x8 .f32 := iblk m c 8 (pt n)

/-- The biases spread by the first point, the probabilities, the sinks' probabilities and the probabilities' cotangent. -/
def vB : Vec Ideal S8x128x256 .f32 := biasB (bT m c 0) (bR m c 0)
def vP (n : ℕ) : FVec Ideal S8x128x256 .f32 :=
  probV (bQ m c n) (bKc m c n) (bKp m c n) (bT m c n) (bS m c n) (BitVec.ofNat 32 ((grid0.coords (pt n)) 0).val) (vB m c)
def vS (n : ℕ) : FVec Ideal S8x128x1 .f32 :=
  psinkV (bQ m c n) (bKc m c n) (bKp m c n) (bT m c n) (bS m c n) (BitVec.ofNat 32 ((grid0.coords (pt n)) 0).val) (vB m c)
def vD (n : ℕ) : FVec Ideal S8x128x256 .f32 := dprobV (bA m c n) (bVc m c n) (bVp m c n)

/-- The gradient of one score, and one point's part of a sink's gradient. -/
def gS (n : ℕ) (h : Fin 8) (i : Fin 128) (j : Fin 256) : EReal :=
  dsR (fun j => vP m c n (ix3 h i j)) (fun j => vD m c n (ix3 h i j)) j
def gK (n : ℕ) (h : Fin 8) : EReal :=
  ∑ i : Fin 128, vS m c n (ix3 h i 0) * ∑ j : Fin 256, vP m c n (ix3 h i j) * vD m c n (ix3 h i j)

/-- What is kept before point `n`, and what point `t` leaves. -/
def specV : Spec Ideal where
  inv c n s0 s1 s2 s3 s4 := s0 = vB m c ∧ (∀ h i j, (s1 (ix3 h i j) : EReal) = ∑ k ∈ Finset.range n, gS m c k h i j)
    ∧ (∀ h, (s2 (ix3 h 0 0) : EReal) = ∑ k ∈ Finset.range n, -gK m c k h)
    ∧ s3 = keepK (bQ m c (n - 1)) (vP m c (n - 1)) (vD m c (n - 1)) ∧ s4 = keepW (bA m c (n - 1)) (vP m c (n - 1))
  dq c t X := X = dqV (bKc m c t.val) (bKp m c t.val) (vP m c t.val) (vD m c t.val)
  dkv c t X := X = if t.val < 32 then
      dkvV (bQ m c t.val) (bA m c t.val) (vP m c t.val) (vD m c t.val)
        (keepK (bQ m c (t.val - 1)) (vP m c (t.val - 1)) (vD m c (t.val - 1))) (keepW (bA m c (t.val - 1)) (vP m c (t.val - 1)))
    else lanes2 (k0_pay12 (keepK (bQ m c (t.val - 1)) (vP m c (t.val - 1)) (vD m c (t.val - 1))))
      (k0_pay13 (keepW (bA m c (t.val - 1)) (vP m c (t.val - 1))))
  small c X := ∀ (h : Fin 8) (r : Fin 40) (l : Fin 128), (X (ix3 h r l) : EReal)
    = (if BitVec.ofNat 32 r.val = 32#32 then ∑ k ∈ Finset.range 32, -gK m c k h else 0)
      + ∑ k : Fin 32, if BitVec.ofNat 32 r.val = BitVec.ofNat 32 k.val then
          ∑ j : Fin 256, ∑ i : Fin 128, if bT m c 32 (ix2 i j) = BitVec.ofNat 32 k.val then ∑ n ∈ Finset.range 32, gS m c n h i j else 0 else 0

theorem outA_facts (t : Fin cfg0.N) (h : t.val = 0) (z9 z10 z11 s0 s1 s2 s3 s4 s5 s6 s7 s8) :
    (specV m).inv c 1 (atA m c t h z9 z10 z11 s0 s1 s2 s3 s4 s5 s6 s7 s8).2.1 (atA m c t h z9 z10 z11 s0 s1 s2 s3 s4 s5 s6 s7 s8).2.2.1 (atA m c t h z9 z10 z11 s0 s1 s2 s3 s4 s5 s6 s7 s8).2.2.2.1 (atA m c t h z9 z10 z11 s0 s1 s2 s3 s4 s5 s6 s7 s8).2.2.2.2.1 (atA m c t h z9 z10 z11 s0 s1 s2 s3 s4 s5 s6 s7 s8).2.2.2.2.2.1
      ∧ (specV m).dq c t (atA m c t h z9 z10 z11 s0 s1 s2 s3 s4 s5 s6 s7 s8).1 := by
  obtain rfl : t = pt 0 := Fin.ext h
  refine ⟨⟨?_, fun hh i j => ?_, fun hh => ?_, ?_, ?_⟩, ?_⟩
  · exact (outA_bias ..).trans (biasA_fun ..)
  · refine (congrFun (outA_ds ..) _).trans ?_
    rw [biasA_fun, pay86_at, pay2_at, zero_add, Finset.sum_range_one]
    rfl
  · refine (congrFun (outA_dsink ..) _).trans ?_
    rw [biasA_fun, pay87_at, pay3_at, zero_sub, Finset.sum_range_one]
    rfl
  · refine (outA_kk ..).trans ?_
    rw [biasA_fun]
    rfl
  · refine (outA_kw ..).trans ?_
    rw [biasA_fun]
    rfl
  · refine (outA_dq ..).trans ?_
    rw [biasA_fun]
    rfl

theorem outB_facts (t : Fin cfg0.N) (h : 1 ≤ t.val ∧ t.val < 32) (z9 z10 z11 s0 s1 s2 s3 s4 s5 s6 s7 s8)
    (hi : (specV m).inv c t.val s0 s1 s2 s3 s4) :
    (specV m).inv c (t.val + 1) s0 (atB m c t h z9 z10 z11 s0 s1 s2 s3 s4 s5 s6 s7 s8).2.2.1 (atB m c t h z9 z10 z11 s0 s1 s2 s3 s4 s5 s6 s7 s8).2.2.2.1 (atB m c t h z9 z10 z11 s0 s1 s2 s3 s4 s5 s6 s7 s8).2.2.2.2.1 (atB m c t h z9 z10 z11 s0 s1 s2 s3 s4 s5 s6 s7 s8).2.2.2.2.2.1
      ∧ (specV m).dq c t (atB m c t h z9 z10 z11 s0 s1 s2 s3 s4 s5 s6 s7 s8).1 ∧ (specV m).dkv c t (atB m c t h z9 z10 z11 s0 s1 s2 s3 s4 s5 s6 s7 s8).2.1 := by
  obtain ⟨n, rfl⟩ : ∃ n, t = pt n := ⟨t.val, (pt_val t).symm⟩
  obtain ⟨h0, h1, h2, h3, h4⟩ := hi
  subst h0 h3 h4
  have e : pt (pt n).val = pt n := pt_val _
  refine ⟨⟨rfl, fun hh i j => ?_, fun hh => ?_, ?_, ?_⟩, ?_, ?_⟩
  · refine (congrFun (outB_ds ..) _).trans ?_
    rw [pay86_at, h1, Finset.sum_range_succ]
    refine congrArg _ ?_
    dsimp only [gS, gK, vS, vP, vD, bQ, bA, bKc, bKp, bVc, bVp, bT, bS]
    rw [e]
  · refine (congrFun (outB_dsink ..) _).trans ?_
    rw [pay87_at, h2, Finset.sum_range_succ, sub_eq_add_neg]
    refine congrArg _ ?_
    dsimp only [gS, gK, vS, vP, vD, bQ, bA, bKc, bKp, bVc, bVp, bT, bS]
    rw [e]
  · refine (outB_kk ..).trans ?_
    rw [Nat.add_sub_cancel]
    dsimp only [gS, gK, vS, vP, vD, bQ, bA, bKc, bKp, bVc, bVp, bT, bS]
    rw [e]
  · refine (outB_kw ..).trans ?_
    rw [Nat.add_sub_cancel]
    dsimp only [gS, gK, vS, vP, vD, bQ, bA, bKc, bKp, bVc, bVp, bT, bS]
    rw [e]
  · refine (outB_dq ..).trans ?_
    show _ = dqV _ _ _ _
    dsimp only [gS, gK, vS, vP, vD, bQ, bA, bKc, bKp, bVc, bVp, bT, bS]
    rw [e]
  · refine (outB_dkv ..).trans ?_
    show _ = ite _ _ _
    rw [if_pos h.2]
    dsimp only [gS, gK, vS, vP, vD, bQ, bA, bKc, bKp, bVc, bVp, bT, bS]
    rw [e]

theorem outC_facts (t : Fin cfg0.N) (h : t.val = 32) (z9 z10 z11 s0 s1 s2 s3 s4 s5 s6 s7 s8)
    (hi : (specV m).inv c 32 s0 s1 s2 s3 s4) :
    (specV m).dkv c t (atC m c t h z9 z10 z11 s0 s1 s2 s3 s4 s5 s6 s7 s8).1 ∧ (specV m).small c (atC m c t h z9 z10 z11 s0 s1 s2 s3 s4 s5 s6 s7 s8).2.1 := by
  obtain ⟨h0, h1, h2, h3, h4⟩ := hi
  subst h0 h3 h4
  obtain rfl : t = pt 32 := Fin.ext h
  refine ⟨?_, fun hh r l => ?_⟩
  · refine (outC_dkv ..).trans ?_
    show _ = ite _ _ _
    rw [if_neg (by omega), h]
  · refine (congrFun (outC_small ..) _).trans ((smallC_at ..).trans ?_)
    rw [h2]
    simp only [h1]

theorem stepsV : Steps m (specV m) :=
  ⟨fun c => outA_facts m c, fun c => outB_facts m c, fun c => outC_facts m c⟩

end Cert.Attn
-- ==== Proof.AttnRow.lean ====
module

public import proofs.«01_k».proof.Proof.AttnProb
public import proofs.«01_k».proof.Proof.AttnGrad

/-! # One row of the softmax with a sink: the gradient of the reference is the kernel's

The reference differentiates through the division and through the row's maximum. Over the reals the part that
reaches the maximum is zero, and what is left is the kernel's closed form. -/

@[expose] public section

noncomputable section

namespace Cert.Attn

open Idealize.ShloMosaic

/-- Every score is a real number or the mask. -/
def Scores (L : Fin 256 → EReal) : Prop := ∀ j, L j = ⊥ ∨ ∃ r : ℝ, L j = r

theorem fold_max_cases (L : Fin 256 → EReal) (hL : Scores L) (u : Finset (Fin 256)) :
    u.fold max ⊥ L = ⊥ ∨ ∃ r : ℝ, u.fold max ⊥ L = r := by
  classical
  induction u using Finset.induction_on with
  | empty => exact Or.inl (Finset.fold_empty)
  | insert a u ha ih =>
    rw [Finset.fold_insert ha]
    rcases hL a with h | ⟨r, h⟩ <;> rcases ih with h' | ⟨r', h'⟩ <;> rw [h, h']
    · exact Or.inl (max_self _)
    · exact Or.inr ⟨r', max_eq_right bot_le⟩
    · exact Or.inr ⟨r, max_eq_left bot_le⟩
    · exact Or.inr ⟨max r r', (EReal.coe_strictMono.monotone.map_max).symm⟩

theorem rowMax_real (L : Fin 256 → EReal) (hL : Scores L) (s : ℝ) : ∃ M : ℝ, rowMax L s = M := by
  unfold rowMax
  rcases fold_max_cases L hL Finset.univ with h | ⟨r, h⟩ <;> rw [h]
  · exact ⟨s, max_eq_right bot_le⟩
  · exact ⟨max r s, (EReal.coe_strictMono.monotone.map_max).symm⟩

/-- The row's exponentials as real numbers. -/
theorem row_reals (L : Fin 256 → EReal) (hL : Scores L) (s : ℝ) : ∃ (X : Fin 256 → ℝ) (E : ℝ), 0 < E ∧ (∀ j, 0 ≤ X j) ∧
    (∀ j, L j = ⊥ → X j = 0) ∧ (∀ j, Ideal.exp (L j - rowMax L s) = X j) ∧ Ideal.exp ((s : EReal) - rowMax L s) = E := by
  obtain ⟨M, hM⟩ := rowMax_real L hL s
  refine ⟨fun j => if L j = ⊥ then 0 else Real.exp ((L j).toReal - M), Real.exp (s - M), Real.exp_pos _, fun j => ?_,
    fun j h => if_pos h, fun j => ?_, ?_⟩
  · dsimp only; split_ifs
    · exact le_rfl
    · exact (Real.exp_pos _).le
  · rw [hM]
    rcases hL j with h | ⟨r, h⟩
    · simp only [h, if_true, EReal.bot_sub]; rfl
    · simp only [h, EReal.coe_ne_bot, if_false, EReal.toReal_coe, ← EReal.coe_sub]; rfl
  · rw [hM, ← EReal.coe_sub]; rfl

theorem coe_sum_univ {ι : Type*} (u : Finset ι) (f : ι → ℝ) : ∑ k ∈ u, (f k : EReal) = ((∑ k ∈ u, f k : ℝ) : EReal) := by
  classical
  induction u using Finset.induction_on with
  | empty => rfl
  | insert a u ha ih => rw [Finset.sum_insert ha, Finset.sum_insert ha, ih, EReal.coe_add]

theorem div_real (a b : ℝ) (hb : b ≠ 0) : Ideal.div (a : EReal) b = ((a / b : ℝ) : EReal) := by
  rw [Ideal.div_coe hb, ← EReal.coe_mul, mul_one_div]

/-- The reference's coefficient that comes back through the normaliser. -/
def refC (L : Fin 256 → EReal) (s : EReal) (dp : Fin 256 → EReal) : EReal :=
  -(0 + ∑ k, dp k * Ideal.div 1 (rowDen L s * rowDen L s) * Ideal.exp (L k - rowMax L s))
/-- The reference's gradient of one score, without the part through the maximum. -/
def refW (L : Fin 256 → EReal) (s : EReal) (dp : Fin 256 → EReal) (j : Fin 256) : EReal :=
  (Ideal.div (dp j) (rowDen L s) + refC L s dp) * Ideal.exp (L j - rowMax L s)
/-- What the reference sends into the row's maximum. -/
def refT (L : Fin 256 → EReal) (s : EReal) (dp : Fin 256 → EReal) : EReal :=
  -(refC L s dp * Ideal.exp (s - rowMax L s)) + (0 + ∑ k, -refW L s dp k)

section
variable (L : Fin 256 → EReal) (hL : Scores L) (s : ℝ) (dp : Fin 256 → ℝ)
include hL

/-- Both sides in real numbers. -/
theorem row_all : ∃ (X : Fin 256 → ℝ) (E D : ℝ), 0 < D ∧ D = ∑ k, X k + E ∧ (∀ j, L j = ⊥ → X j = 0) ∧
    (∀ j, rowP L s j = ((X j / D : ℝ) : EReal)) ∧ rowS L s = ((E / D : ℝ) : EReal) ∧
    (∀ j, Ideal.div (Ideal.exp (L j - rowMax L s)) (rowDen L s) = ((X j / D : ℝ) : EReal)) ∧
    refC L s (fun j => dp j) * Ideal.exp (s - rowMax L s) = ((-((∑ k, dp k * X k) / (D * D)) * E : ℝ) : EReal) ∧
    (∀ j, refW L s (fun j => dp j) j = (((dp j / D - (∑ k, dp k * X k) / (D * D)) * X j : ℝ) : EReal)) := by
  obtain ⟨X, E, hE, h0, hb, hX, hEe⟩ := row_reals L hL s
  have hD : rowDen L s = ((∑ k, X k + E : ℝ) : EReal) := by
    unfold rowDen
    rw [hEe, EReal.coe_add, ← coe_sum_univ]
    exact congrArg (· + _) (Finset.sum_congr rfl fun j _ => hX j)
  have hpos : 0 < ∑ k, X k + E := add_pos_of_nonneg_of_pos (Finset.sum_nonneg fun j _ => h0 j) hE
  have hne := hpos.ne'
  have hone : Ideal.div 1 (rowDen L s) = ((1 / (∑ k, X k + E) : ℝ) : EReal) := by
    rw [hD, ← EReal.coe_one, div_real _ _ hne]
  have hcc : refC L s (fun j => dp j) = ((-((∑ k, dp k * X k) / ((∑ k, X k + E) * (∑ k, X k + E))) : ℝ) : EReal) := by
    unfold refC
    rw [hD, ← EReal.coe_mul, ← EReal.coe_one, div_real _ _ (mul_ne_zero hne hne), zero_add, EReal.coe_neg, Finset.sum_div, ← coe_sum_univ]
    refine congrArg _ (Finset.sum_congr rfl fun j _ => ?_)
    rw [hX, ← EReal.coe_mul, ← EReal.coe_mul]
    congr 1; ring
  refine ⟨X, E, _, hpos, rfl, hb, fun j => ?_, ?_, fun j => ?_, ?_, fun j => ?_⟩
  · unfold rowP; rw [hX, hone, ← EReal.coe_mul, mul_one_div]
  · unfold rowS; rw [hEe, hone, ← EReal.coe_mul, mul_one_div]
  · rw [hX, hD, div_real _ _ hne]
  · rw [hcc, hEe, ← EReal.coe_mul]
  · unfold refW; rw [hcc, hD, div_real _ _ hne, hX, ← EReal.coe_add, ← EReal.coe_mul]; congr 1

/-- Nothing reaches the maximum. -/
theorem refT_eq : refT L s (fun j => dp j) = 0 := by
  obtain ⟨X, E, D, hD, hDe, -, -, -, -, hc, hw⟩ := row_all L hL s dp
  unfold refT
  rw [hc, zero_add]
  simp only [hw, ← EReal.coe_neg]
  rw [coe_sum_univ, ← EReal.coe_add, ← EReal.coe_zero]
  congr 1
  have hne := hD.ne'
  have hE : E = D - ∑ k, X k := by rw [hDe]; ring
  have h1 : ∑ k, -((dp k / D - (∑ k, dp k * X k) / (D * D)) * X k)
      = -((∑ k, dp k * X k) / D) + (∑ k, dp k * X k) / (D * D) * ∑ k, X k := by
    generalize (∑ k, dp k * X k) / (D * D) = a
    rw [Finset.sum_div, Finset.mul_sum, ← Finset.sum_neg_distrib, ← Finset.sum_add_distrib]
    exact Finset.sum_congr rfl fun k _ => by ring
  rw [h1, hE]
  field_simp
  ring

/-- The reference's score gradient is the kernel's, the masked ones included. -/
theorem ref_ds (m : Fin 256 → Bool) (hm : ∀ j, m j = false → L j = ⊥) (dk : Fin 256 → ℝ) (hk : ∀ j, L j ≠ ⊥ → dk j = dp j)
    (α : EReal) (e : Fin 256 → EReal) (he : ∀ j, 0 ≤ e j) (j : Fin 256) :
    (bif m j then refW L s (fun j => dp j) j + Ideal.div (0 + refT L s (fun j => dp j) * α) (0 + ∑ k, e k) * e j else 0)
      = dsR (rowP L s) (fun j => dk j) j := by
  rw [refT_eq L hL s dp, zero_mul, add_zero]
  have hz : Ideal.div 0 (0 + ∑ k, e k) * e j = 0 := by
    by_cases h : ∑ k, e k = 0
    · rw [(Finset.sum_eq_zero_iff_of_nonneg fun k _ => he k).mp h j (Finset.mem_univ _), mul_zero]
    · unfold Ideal.div
      rw [zero_add, if_neg h, zero_mul, zero_mul]
  rw [hz, add_zero]
  obtain ⟨X, E, D, hD, -, hb, hP, -, -, -, hw⟩ := row_all L hL s dp
  have hs : ∑ x, rowP L s x * (dk x : EReal) = ((((∑ k, dp k * X k) / D : ℝ)) : EReal) := by
    rw [Finset.sum_div, ← coe_sum_univ]
    refine Finset.sum_congr rfl fun k _ => ?_
    rw [hP, ← EReal.coe_mul]
    congr 1
    by_cases h : L k = ⊥
    · rw [hb k h]; ring
    · rw [hk k h]; ring
  have hd : dsR (rowP L s) (fun j => dk j) j = ((X j / D * (dk j - (∑ k, dp k * X k) / D) : ℝ) : EReal) := by
    unfold dsR
    rw [hs, hP, ← EReal.coe_sub, ← EReal.coe_mul]
  rw [hd]
  by_cases h : L j = ⊥
  · rw [hb j h, zero_div, zero_mul, EReal.coe_zero]
    cases m j
    · rfl
    · rw [cond_true, hw, hb j h, mul_zero, EReal.coe_zero]
  · have : m j = true := by
      cases hmj : m j
      · exact absurd (hm j hmj) h
      · rfl
    rw [this, cond_true, hw, hk j h]
    congr 1
    have hne := hD.ne'
    field_simp

/-- The sink's gradient of one row. -/
theorem ref_sink (dk : Fin 256 → ℝ) (hk : ∀ j, L j ≠ ⊥ → dk j = dp j) :
    refC L s (fun j => dp j) * Ideal.exp (s - rowMax L s) = -(rowS L s * ∑ j, rowP L s j * (dk j : EReal)) := by
  obtain ⟨X, E, D, hD, -, hb, hP, hS, -, hc, -⟩ := row_all L hL s dp
  have hs : ∑ x, rowP L s x * (dk x : EReal) = ((((∑ k, dp k * X k) / D : ℝ)) : EReal) := by
    rw [Finset.sum_div, ← coe_sum_univ]
    refine Finset.sum_congr rfl fun k _ => ?_
    rw [hP, ← EReal.coe_mul]
    congr 1
    by_cases h : L k = ⊥
    · rw [hb k h]; ring
    · rw [hk k h]; ring
  rw [hc, hs, hS, ← EReal.coe_mul, ← EReal.coe_neg]
  congr 1
  have hne := hD.ne'
  field_simp

/-- The gradient of one row's sink is a real number. -/
theorem sink_real : ∃ r : ℝ, rowS L s * ∑ j, rowP L s j * (dp j : EReal) = r := by
  obtain ⟨X, E, D, hD, -, hb, hP, hS, -, hc, -⟩ := row_all L hL s dp
  refine ⟨E / D * ∑ j, X j / D * dp j, ?_⟩
  rw [hS, EReal.coe_mul, ← coe_sum_univ]
  refine congrArg _ (Finset.sum_congr rfl fun j _ => ?_)
  rw [hP, ← EReal.coe_mul]

/-- The reference divides where the kernel multiplies by the reciprocal. -/
theorem ref_prob (j : Fin 256) : Ideal.div (Ideal.exp (L j - rowMax L s)) (rowDen L s) = rowP L s j := by
  obtain ⟨X, E, D, hD, -, hb, hP, hS, hq, -, -⟩ := row_all L hL s fun _ => 0
  rw [hq, hP]

/-- Where no score is left, the probability is zero. -/
theorem rowP_masked (j : Fin 256) (h : L j = ⊥) : rowP L s j = 0 := by
  obtain ⟨X, E, D, hD, -, hb, hP, -⟩ := row_all L hL s fun _ => 0
  rw [hP, hb j h, zero_div, EReal.coe_zero]
end

end Cert.Attn
-- ==== Proof.AttnBucket.lean ====
module

public import Idealize.ShloMosaic.Lib.Pointwise

/-! # The bucket of a distance -/

@[expose] public section

namespace Cert.Attn

/-- The bucket of a distance. -/
def bucketN (d : ℕ) : ℕ :=
  bif Nat.ble 113 d then 31 else
  bif Nat.ble 99 d then 30 else
  bif Nat.ble 87 d then 29 else
  bif Nat.ble 77 d then 28 else
  bif Nat.ble 67 d then 27 else
  bif Nat.ble 59 d then 26 else
  bif Nat.ble 52 d then 25 else
  bif Nat.ble 46 d then 24 else
  bif Nat.ble 40 d then 23 else
  bif Nat.ble 35 d then 22 else
  bif Nat.ble 31 d then 21 else
  bif Nat.ble 27 d then 20 else
  bif Nat.ble 24 d then 19 else
  bif Nat.ble 21 d then 18 else
  bif Nat.ble 19 d then 17 else bif Nat.ble 16 d then 16 else d

/-- What the table holds: the bucket of every pair in the window, and -1 elsewhere. -/
def bucketT (i j : ℕ) : BitVec 32 := bif (Nat.blt i j && Nat.ble j (i + 128)) then BitVec.ofNat 32 (bucketN (128 + i - j)) else 4294967295#32

end Cert.Attn

end
-- ==== Proof.AttnSpec.lean ====
module

public import proofs.«01_k».proof.Proof.AttnKv
public import proofs.«01_k».proof.Proof.AttnProb
public import proofs.«01_k».proof.Proof.AttnRow
public import proofs.«01_k».proof.Proof.AttnBucket

set_option maxRecDepth 16384

/-! # The gradient of the attention, of finite arguments -/

@[expose] public section

noncomputable section

namespace Cert.Attn

open Idealize.ShloMosaic Idealize.ShloMosaic.TcCoe

/-- A product of real vectors. -/
theorem dot_coe {ι : Type*} [Fintype ι] {f g : ι → EReal} {x y : ι → ℝ} (hf : ∀ d, f d = x d) (hg : ∀ d, g d = y d) :
    ∑ d, f d * g d = ((∑ d, x d * y d : ℝ) : EReal) := by
  rw [← coe_sum_univ]
  exact Finset.sum_congr rfl fun d _ => by rw [hf, hg, ← EReal.coe_mul]

/-- Row `i` of block `n`. -/
def rowN (n : Fin 32) (i : Fin 128) : Fin 4096 := ⟨128 * n.val + i.val, by omega⟩

/-- The finite arguments: queries, keys, values, cotangent, biases by bucket and head, sinks. -/
structure Args where
  Q : Fin 4096 → Fin 512 → ℝ
  K : Fin 4096 → Fin 128 → ℝ
  V : Fin 4096 → Fin 128 → ℝ
  A : Fin 4096 → Fin 512 → ℝ
  B : Fin 32 → Fin 8 → ℝ
  S : Fin 8 → ℝ

/-- These arrays hold these real numbers. -/
structure IsArgs (q : Fin 4096 → Fin 512 → EReal) (k v : Fin 4096 → Fin 128 → EReal) (a : Fin 4096 → Fin 512 → EReal)
    (b : Fin 32 → Fin 8 → EReal) (s : Fin 8 → EReal) (X : Args) : Prop where
  q : ∀ i l, q i l = X.Q i l
  k : ∀ i l, k i l = X.K i l
  v : ∀ i l, v i l = X.V i l
  a : ∀ i l, a i l = X.A i l
  b : ∀ i h, b i h = X.B i h
  s : ∀ h, s h = X.S h

/-- The rows that block `n` attends to: the previous block's (none before the first), then its own. -/
def bandR (X : Fin 4096 → Fin 128 → ℝ) (n : Fin 32) (j : Fin 256) (l : Fin 128) : ℝ :=
  if j.val < 128 then if n.val = 0 then 0 else X ⟨128 * (n.val - 1) + j.val % 128, by omega⟩ l
  else X ⟨128 * n.val + (j.val - 128), by omega⟩ l

/-- The same of any extended reals. -/
def bandE (X : Fin 4096 → Fin 128 → EReal) (n : Fin 32) (j : Fin 256) (l : Fin 128) : EReal :=
  if j.val < 128 then if n.val = 0 then 0 else X ⟨128 * (n.val - 1) + j.val % 128, by omega⟩ l
  else X ⟨128 * n.val + (j.val - 128), by omega⟩ l
theorem bandE_coe {Y : Fin 4096 → Fin 128 → EReal} {X : Fin 4096 → Fin 128 → ℝ} (h : ∀ i l, Y i l = X i l) (n : Fin 32) (j : Fin 256) (l : Fin 128) :
    bandE Y n j l = ((bandR X n j l : ℝ) : EReal) := by
  unfold bandE bandR
  split_ifs <;> first | exact h _ _ | rfl

/-- Query row `i` of block `n` may attend to row `j` of the band. -/
def okN (n : Fin 32) (i : Fin 128) (j : Fin 256) : Bool :=
  (Nat.blt i.val j.val && Nat.ble j.val (i.val + 128)) && (Nat.blt 0 n.val || Nat.ble 128 j.val)

theorem bucketN_lt (d : ℕ) : bucketN d < 32 := by
  unfold bucketN
  iterate 16 (cases h : Nat.ble _ d <;> simp only [cond_true, cond_false] <;> try omega)
  rename_i h
  have : ¬ 16 ≤ d := fun hh => by rw [Nat.ble_eq_true_of_le hh] at h; cases h
  omega

namespace Args
variable (X : Args)

/-- A score, before its mask. -/
def score (n : Fin 32) (h : Fin 8) (i : Fin 128) (j : Fin 256) : ℝ :=
  (∑ d : Fin 64, X.Q (rowN n i) (lane8 h d) * bandR X.K n j (lane2 h d)) * (1 / 8) + X.B ⟨bucketN (128 + i.val - j.val), bucketN_lt _⟩ h
/-- The masked scores of a row. -/
def logit (n : Fin 32) (h : Fin 8) (i : Fin 128) (j : Fin 256) : EReal :=
  if okN n i j = true then ((X.score n h i j : ℝ) : EReal) else ⊥
/-- The probabilities, the sink's, and the probabilities' cotangent. -/
def prob (n : Fin 32) (h : Fin 8) (i : Fin 128) (j : Fin 256) : EReal := rowP (X.logit n h i) (X.S h) j
def psink (n : Fin 32) (h : Fin 8) (i : Fin 128) : EReal := rowS (X.logit n h i) (X.S h)
def dprob (n : Fin 32) (h : Fin 8) (i : Fin 128) (j : Fin 256) : ℝ :=
  ∑ d : Fin 64, X.A (rowN n i) (lane8 h d) * bandR X.V n j (lane2 h d)
/-- The gradient of a score. -/
def ds (n : Fin 32) (h : Fin 8) (i : Fin 128) (j : Fin 256) : EReal :=
  dsR (X.prob n h i) (fun j => (X.dprob n h i j : EReal)) j
/-- What block `n` contributes to row `j` of its band: to the keys' gradient and to the values'. -/
def dkN (n : Fin 32) (k : Fin 2) (d : Fin 64) (j : Fin 256) : EReal :=
  kvSum (fun h i j => X.ds n h i j * ((1 / 8 : ℝ) : EReal)) (fun i l => (X.Q (rowN n i) l : EReal)) k d j
def dvN (n : Fin 32) (k : Fin 2) (d : Fin 64) (j : Fin 256) : EReal :=
  kvSum (fun h i j => X.prob n h i j) (fun i l => (X.A (rowN n i) l : EReal)) k d j

/-- The queries' gradient. -/
def dq (n : Fin 32) (h : Fin 8) (i : Fin 128) (d : Fin 64) : EReal :=
  ∑ j : Fin 256, X.ds n h i j * ((1 / 8 : ℝ) : EReal) * (bandR X.K n j (lane2 h d) : EReal)
/-- The keys' and the values' gradient: from the row's own block, and from the next one. -/
def dk (n : Fin 32) (k : Fin 2) (i : Fin 128) (d : Fin 64) : EReal :=
  X.dkN n k d (up i) + if h : n.val + 1 < 32 then X.dkN ⟨n.val + 1, h⟩ k d (dn i) else 0
def dv (n : Fin 32) (k : Fin 2) (i : Fin 128) (d : Fin 64) : EReal :=
  X.dvN n k d (up i) + if h : n.val + 1 < 32 then X.dvN ⟨n.val + 1, h⟩ k d (dn i) else 0
/-- The sinks' gradient, and the biases'. -/
def dsink (h : Fin 8) : EReal :=
  ∑ n : Fin 32, -∑ i : Fin 128, X.psink n h i * ∑ j : Fin 256, X.prob n h i j * (X.dprob n h i j : EReal)
def dbias (b : Fin 32) (h : Fin 8) : EReal :=
  ∑ j : Fin 256, ∑ i : Fin 128, if bucketT i.val j.val = BitVec.ofNat 32 b.val then ∑ n : Fin 32, X.ds n h i j else 0
/-- The small gradients' rows: the biases by bucket, the sinks, nothing. -/
def small (h : Fin 8) (r : Fin 40) : EReal :=
  if hr : r.val < 32 then X.dbias ⟨r.val, hr⟩ h else if r.val = 32 then X.dsink h else 0

/-- The three results, by position. -/
def dqA (i : Fin 4096) (l : Fin 512) : EReal :=
  X.dq ⟨i.val / 128, by omega⟩ ⟨l.val / 64, by omega⟩ ⟨i.val % 128, by omega⟩ ⟨l.val % 64, by omega⟩
def dkvA (i : Fin 4096) (l : Fin 256) : EReal :=
  if l.val < 128 then X.dk ⟨i.val / 128, by omega⟩ ⟨l.val % 128 / 64, by omega⟩ ⟨i.val % 128, by omega⟩ ⟨l.val % 64, by omega⟩
  else X.dv ⟨i.val / 128, by omega⟩ ⟨l.val % 128 / 64, by omega⟩ ⟨i.val % 128, by omega⟩ ⟨l.val % 64, by omega⟩

theorem dqA_at (n : Fin 32) (h : Fin 8) (i : Fin 128) (d : Fin 64) : X.dqA (rowN n i) (lane8 h d) = X.dq n h i d := by
  unfold dqA
  congr 1 <;> ext <;> simp only [rowN, lane8] <;> omega
theorem dkvA_k (n : Fin 32) (k : Fin 2) (i : Fin 128) (d : Fin 64) : X.dkvA (rowN n i) (laneKV 0 k d) = X.dk n k i d := by
  unfold dkvA
  rw [if_pos (by simp only [laneKV, Fin.val_zero]; omega)]
  congr 1 <;> ext <;> simp only [rowN, laneKV, Fin.val_zero] <;> omega
theorem dkvA_v (n : Fin 32) (k : Fin 2) (i : Fin 128) (d : Fin 64) : X.dkvA (rowN n i) (laneKV 1 k d) = X.dv n k i d := by
  unfold dkvA
  rw [if_neg (by simp only [laneKV, Fin.val_one]; omega)]
  congr 1 <;> ext <;> simp only [rowN, laneKV, Fin.val_one] <;> omega

theorem scores (n : Fin 32) (h : Fin 8) (i : Fin 128) : Scores (X.logit n h i) := fun j => by
  unfold logit
  split
  · exact .inr ⟨_, rfl⟩
  · exact .inl rfl

theorem prob_masked (n : Fin 32) (h : Fin 8) (i : Fin 128) (j : Fin 256) (hm : okN n i j = false) : X.prob n h i j = 0 :=
  rowP_masked _ (X.scores n h i) _ j (by unfold logit; rw [if_neg (by rw [hm]; exact Bool.false_ne_true)])
end Args

theorem dsR_congr {p dp dp' : Fin 256 → EReal} (h : ∀ j, p j = 0 ∨ dp j = dp' j) (j : Fin 256) : dsR p dp j = dsR p dp' j := by
  have e : ∑ x, p x * dp x = ∑ x, p x * dp' x := Finset.sum_congr rfl fun x _ => by
    rcases h x with h | h <;> rw [h]
    rw [zero_mul, zero_mul]
  unfold dsR
  rw [e]
  rcases h j with h | h <;> rw [h]
  rw [zero_mul, zero_mul]

theorem row_split (i : Fin 4096) : ∃ (n : Fin 32) (r : Fin 128), i = rowN n r :=
  ⟨⟨i.val / 128, by omega⟩, ⟨i.val % 128, by omega⟩, Fin.ext (by simp only [rowN]; omega)⟩
theorem lane8_split (l : Fin 512) : ∃ (h : Fin 8) (d : Fin 64), l = lane8 h d :=
  ⟨⟨l.val / 64, by omega⟩, ⟨l.val % 64, by omega⟩, Fin.ext (by simp only [lane8]; omega)⟩
theorem laneKV_split (l : Fin 256) : ∃ (b k : Fin 2) (d : Fin 64), l = laneKV b k d :=
  ⟨⟨l.val / 128, by omega⟩, ⟨l.val % 128 / 64, by omega⟩, ⟨l.val % 64, by omega⟩, Fin.ext (by simp only [laneKV]; omega)⟩

end Cert.Attn
-- ==== Proof.AttnBlocks.lean ====
module

public import proofs.«01_k».proof.Proof.AttnSteps
public import proofs.«01_k».proof.Proof.AttnSpec
import all proofs.«01_k».proof.Kernel2Ideal

set_option maxRecDepth 16384

/-! # What the kernel loads at each grid point -/

@[expose] public section

noncomputable section

namespace Cert.Attn

open Idealize.ShloMosaic Idealize.ShloMosaic.TcCoe
open Cert.Kernel2Ideal Cert.Kernel2Ideal.Gen

/-- Each window's block index at each grid point. -/
theorem idx : ∀ t : Fin cfg0.N, win0_0.index t = ![min t.val 31, 0] ∧ win0_1.index t = ![min t.val 31, 0] ∧ win0_2.index t = ![min t.val 31, 0]
    ∧ win0_3.index t = ![t.val - 1, 0] ∧ win0_4.index t = ![min t.val 31, 0] ∧ win0_5.index t = ![t.val - 1, 0]
    ∧ win0_6.index t = ![0, 0] ∧ win0_7.index t = ![0, 0] ∧ win0_8.index t = ![0, 0]
    ∧ win0_9.index t = ![min t.val 31, 0] ∧ win0_10.index t = ![t.val - 1, 0] ∧ win0_11.index t = ![0, 0, 0] := by decide +kernel
theorem coord : ∀ t : Fin cfg0.N, ((grid0.coords t) 0).val = t.val := by decide +kernel

variable (m : (ℓ : Loc nD τ sig) → Buf (Elt Ideal) ℓ) (c : Dev nD)

/-- The row of the arrays that row `r` of the blocks at point `t` is, and of the previous block's. -/
def rowCur (t : Fin cfg0.N) (r : Fin 128) : Fin 4096 := ⟨128 * min t.val 31 + r.val, by omega⟩
def rowPrev (t : Fin cfg0.N) (r : Fin 128) : Fin 4096 :=
  ⟨128 * (t.val - 1) + r.val, by have h : t.val < 33 := lt_of_lt_of_eq t.isLt N_0; omega⟩

section
variable (t : Fin cfg0.N) (r : Fin 128)
theorem blk0 (d : Fin 512) : (iblk m c 0 t : Vec Ideal S128x512 .bf16) (ix2 r d) = m (c.tc.loc main_arg0) (ix2 (rowCur t r) d) := by
  unfold rowCur; blk_point [iblk, V, idx t]
theorem blk1 (d : Fin 512) : (iblk m c 1 t : Vec Ideal S128x512 .bf16) (ix2 r d) = m (c.tc.loc main_arg3) (ix2 (rowCur t r) d) := by
  unfold rowCur; blk_point [iblk, V, idx t]
theorem blk2 (d : Fin 128) : (iblk m c 2 t : Vec Ideal S128x128 .bf16) (ix2 r d) = m (c.tc.loc main_arg1) (ix2 (rowCur t r) d) := by
  unfold rowCur; blk_point [iblk, V, idx t]
theorem blk3 (d : Fin 128) : (iblk m c 3 t : Vec Ideal S128x128 .bf16) (ix2 r d) = m (c.tc.loc main_arg1) (ix2 (rowPrev t r) d) := by
  unfold rowPrev; blk_point [iblk, V, idx t]
theorem blk4 (d : Fin 128) : (iblk m c 4 t : Vec Ideal S128x128 .bf16) (ix2 r d) = m (c.tc.loc main_arg2) (ix2 (rowCur t r) d) := by
  unfold rowCur; blk_point [iblk, V, idx t]
theorem blk5 (d : Fin 128) : (iblk m c 5 t : Vec Ideal S128x128 .bf16) (ix2 r d) = m (c.tc.loc main_arg2) (ix2 (rowPrev t r) d) := by
  unfold rowPrev; blk_point [iblk, V, idx t]
theorem blk6 (d : Fin 256) : (iblk m c 6 t : Vec Ideal S128x256 .i32) (ix2 r d) = lit0 ⟨256 * r.val + d.val, by omega⟩ := by
  blk_simp [iblk, V, idx t]
  entry_read
  have e : ((View.whole main_c).slice (win0_6.rect t)).emb (ix2 r d) = (ix2 r d : S128x256.Idx) := by blk_ext [idx t]
  refine congrArg lit0 (Fin.ext ?_)
  rw [e]
  refine (Shape.rowMajor_val_two _).trans ?_
  show r.val * 256 + d.val = 256 * r.val + d.val
  omega
theorem blk7 (h : Fin 8) (b : Fin 32) : (iblk m c 7 t : Vec Ideal S8x32 .f32) (ix2 h b) = m (c.tc.loc main_arg4) (ix3 0 b h) := by
  blk_point [iblk, V, idx t]
theorem blk8 (h : Fin 8) : (iblk m c 8 t : Vec Ideal S1x8 .f32) (ix2 0 h) = m (c.tc.loc main_arg5) (ix2 0 h) := by
  blk_point [iblk, V, idx t]
end

end Cert.Attn
-- ==== Proof.AttnTable.lean ====
module

public import proofs.«01_k».proof.Proof.AttnBucket
public import proofs.«01_k».proof.Proof.Gen.Kernel2Ideal.Frame
import all proofs.«01_k».proof.Kernel2Ideal
import all proofs.«01_k».proof.Kernel2Ideal.P01

set_option maxRecDepth 16384

/-! # The table of buckets, by a formula -/

@[expose] public section

noncomputable section

namespace Cert.Attn

open Idealize.ShloMosaic
open Cert.Kernel2Ideal

theorem table_0 : ∀ (i : Fin 16) (j : Fin 256), lit0 ⟨256 * (0 + i.val) + j.val, by omega⟩ = bucketT (0 + i.val) j.val := by
  decide +kernel

theorem table_1 : ∀ (i : Fin 16) (j : Fin 256), lit0 ⟨256 * (16 + i.val) + j.val, by omega⟩ = bucketT (16 + i.val) j.val := by
  decide +kernel

theorem table_2 : ∀ (i : Fin 16) (j : Fin 256), lit0 ⟨256 * (32 + i.val) + j.val, by omega⟩ = bucketT (32 + i.val) j.val := by
  decide +kernel

theorem table_3 : ∀ (i : Fin 16) (j : Fin 256), lit0 ⟨256 * (48 + i.val) + j.val, by omega⟩ = bucketT (48 + i.val) j.val := by
  decide +kernel

theorem table_4 : ∀ (i : Fin 16) (j : Fin 256), lit0 ⟨256 * (64 + i.val) + j.val, by omega⟩ = bucketT (64 + i.val) j.val := by
  decide +kernel

theorem table_5 : ∀ (i : Fin 16) (j : Fin 256), lit0 ⟨256 * (80 + i.val) + j.val, by omega⟩ = bucketT (80 + i.val) j.val := by
  decide +kernel

theorem table_6 : ∀ (i : Fin 16) (j : Fin 256), lit0 ⟨256 * (96 + i.val) + j.val, by omega⟩ = bucketT (96 + i.val) j.val := by
  decide +kernel

theorem table_7 : ∀ (i : Fin 16) (j : Fin 256), lit0 ⟨256 * (112 + i.val) + j.val, by omega⟩ = bucketT (112 + i.val) j.val := by
  decide +kernel
end Cert.Attn

end
-- ==== Proof.AttnValue.lean ====
module

public import proofs.«01_k».proof.Proof.AttnBlocks
public import proofs.«01_k».proof.Proof.AttnTable

set_option maxRecDepth 16384

/-! # The kernel's scores, probabilities and their gradients, of the run's arguments -/

@[expose] public section

noncomputable section

namespace Cert.Attn

open Idealize.ShloMosaic Idealize.ShloMosaic.TcCoe
open Cert.Kernel2Ideal Cert.Kernel2Ideal.Gen

theorem table_at (r : Fin 128) (d : Fin 256) : lit0 ⟨256 * r.val + d.val, by omega⟩ = bucketT r.val d.val := by
  have h := r.isLt
  rcases (by omega : (0 ≤ r.val ∧ r.val < 16) ∨ (16 ≤ r.val ∧ r.val < 32) ∨ (32 ≤ r.val ∧ r.val < 48) ∨ (48 ≤ r.val ∧ r.val < 64) ∨ (64 ≤ r.val ∧ r.val < 80) ∨ (80 ≤ r.val ∧ r.val < 96) ∨ (96 ≤ r.val ∧ r.val < 112) ∨ (112 ≤ r.val ∧ r.val < 128)) with h | h | h | h | h | h | h | h
  · have e := table_0 ⟨r.val - 0, by omega⟩ d
    simpa only [show 0 + (r.val - 0) = r.val by omega] using e
  · have e := table_1 ⟨r.val - 16, by omega⟩ d
    simpa only [show 16 + (r.val - 16) = r.val by omega] using e
  · have e := table_2 ⟨r.val - 32, by omega⟩ d
    simpa only [show 32 + (r.val - 32) = r.val by omega] using e
  · have e := table_3 ⟨r.val - 48, by omega⟩ d
    simpa only [show 48 + (r.val - 48) = r.val by omega] using e
  · have e := table_4 ⟨r.val - 64, by omega⟩ d
    simpa only [show 64 + (r.val - 64) = r.val by omega] using e
  · have e := table_5 ⟨r.val - 80, by omega⟩ d
    simpa only [show 80 + (r.val - 80) = r.val by omega] using e
  · have e := table_6 ⟨r.val - 96, by omega⟩ d
    simpa only [show 96 + (r.val - 96) = r.val by omega] using e
  · have e := table_7 ⟨r.val - 112, by omega⟩ d
    simpa only [show 112 + (r.val - 112) = r.val by omega] using e

variable (m : (ℓ : Loc nD τ sig) → Buf (Elt Ideal) ℓ) (c : Dev nD)

/-- The run's arguments are these real numbers. -/
abbrev KArgs (X : Args) : Prop :=
  IsArgs (fun i l => m (c.tc.loc main_arg0) (ix2 i l)) (fun i l => m (c.tc.loc main_arg1) (ix2 i l)) (fun i l => m (c.tc.loc main_arg2) (ix2 i l))
    (fun i l => m (c.tc.loc main_arg3) (ix2 i l)) (fun b h => m (c.tc.loc main_arg4) (ix3 0 b h)) (fun h => m (c.tc.loc main_arg5) (ix2 0 h)) X

/-- The table's block. -/
theorem bT_at (n : ℕ) (i : Fin 128) (j : Fin 256) : bT m c n (ix2 i j) = bucketT i.val j.val := (blk6 m c _ i j).trans (table_at i j)

variable {m c} {X : Args} (hX : KArgs m c X)

theorem pt_of (n : Fin 32) : (pt n.val).val = n.val := min_eq_left (by omega)
theorem rowCur_pt (n : Fin 32) (i : Fin 128) : rowCur (pt n.val) i = rowN n i :=
  Fin.ext (by simp only [rowCur, rowN, pt_of]; omega)

/-- The mask, by the positions. -/
theorem mask_at (n : Fin 32) (i : Fin 128) (j : Fin 256) :
    IntOp.andi (IntOp.cmpi .sge (bucketT i.val j.val) 0#32) (IntOp.ori (Scalar.cmpi .sgt (BitVec.ofNat 32 n.val) 0#32) (IntOp.cmpi .sge (BitVec.ofNat 32 j.val) 128#32))
      = BitVec.ofBool (okN n i j) := by
  have h1 : IntOp.cmpi .sge (bucketT i.val j.val) 0#32 = BitVec.ofBool (Nat.blt i.val j.val && Nat.ble j.val (i.val + 128)) := by
    unfold bucketT
    cases Nat.blt i.val j.val && Nat.ble j.val (i.val + 128)
    · rfl
    · exact (by decide +kernel : ∀ b : Fin 32, IntOp.cmpi .sge (BitVec.ofNat 32 b.val) 0#32 = 1#1) ⟨_, bucketN_lt _⟩
  have h2 : Scalar.cmpi .sgt (BitVec.ofNat 32 n.val) 0#32 = BitVec.ofBool (Nat.blt 0 n.val) :=
    (by decide +kernel : ∀ n : Fin 32, Scalar.cmpi .sgt (BitVec.ofNat 32 n.val) 0#32 = BitVec.ofBool (Nat.blt 0 n.val)) n
  have h3 : IntOp.cmpi .sge (BitVec.ofNat 32 j.val) 128#32 = BitVec.ofBool (Nat.ble 128 j.val) :=
    (by decide +kernel : ∀ j : Fin 256, IntOp.cmpi .sge (BitVec.ofNat 32 j.val) 128#32 = BitVec.ofBool (Nat.ble 128 j.val)) j
  rw [h1, h2, h3]
  unfold okN
  cases Nat.blt i.val j.val && Nat.ble j.val (i.val + 128) <;> cases Nat.blt 0 n.val <;> cases Nat.ble 128 j.val <;> rfl

theorem ok_band {n : Fin 32} {i : Fin 128} {j : Fin 256} (h : okN n i j = true) : (n.val ≠ 0 ∨ 128 ≤ j.val) ∧ i.val < j.val ∧ j.val ≤ i.val + 128 := by
  simp only [okN, Bool.and_eq_true, Bool.or_eq_true, Nat.blt_eq, Nat.ble_eq] at h
  omega

/-- The rows of the band, where the mask is on. -/
theorem bndE_of {A B : Vec Ideal S128x128 .bf16} {x : Fin 4096 → Fin 128 → EReal} {n : Fin 32}
    (hA : ∀ r l, (A (ix2 r l) : EReal) = x (rowPrev (pt n.val) r) l) (hB : ∀ r l, (B (ix2 r l) : EReal) = x (rowCur (pt n.val) r) l)
    {j : Fin 256} (hj : n.val ≠ 0 ∨ 128 ≤ j.val) (l : Fin 128) : bnd A B j l = bandE x n j l := by
  unfold bnd bandE
  by_cases h : j.val < 128
  · rw [dif_pos h, if_pos h, if_neg (by omega), hA]
    refine congrArg (fun r => x r l) (Fin.ext ?_)
    simp only [rowPrev, pt_of]; omega
  · rw [dif_neg h, if_neg h, hB]
    refine congrArg (fun r => x r l) (Fin.ext ?_)
    simp only [rowCur, pt_of]; omega
theorem bnd_of {A B : Vec Ideal S128x128 .bf16} {x : Fin 4096 → Fin 128 → ℝ} {n : Fin 32}
    (hA : ∀ r l, (A (ix2 r l) : EReal) = x (rowPrev (pt n.val) r) l) (hB : ∀ r l, (B (ix2 r l) : EReal) = x (rowCur (pt n.val) r) l)
    {j : Fin 256} (hj : n.val ≠ 0 ∨ 128 ≤ j.val) (l : Fin 128) : bnd A B j l = bandR x n j l :=
  (bndE_of (x := fun i l => (x i l : EReal)) hA hB hj l).trans (bandE_coe (fun _ _ => rfl) n j l)

/-- The bias of a pair in the window. -/
theorem bias_of (i : Fin 128) (j : Fin 256) (h : i.val < j.val ∧ j.val ≤ i.val + 128) (f : Fin 32 → EReal) :
    biasOf (bucketT i.val j.val) f = f ⟨bucketN (128 + i.val - j.val), bucketN_lt _⟩ := by
  have e : bucketT i.val j.val = BitVec.ofNat 32 (bucketN (128 + i.val - j.val)) := by
    unfold bucketT
    rw [Nat.blt_eq.mpr h.1, Nat.ble_eq.mpr h.2]; rfl
  unfold biasOf
  rw [e]
  have hb := bucketN_lt (128 + i.val - j.val)
  refine (Finset.sum_eq_single ⟨bucketN (128 + i.val - j.val), hb⟩ (fun k _ hk => if_neg fun hh => hk (Fin.ext ?_)) (fun hh => absurd (Finset.mem_univ _) hh)).trans (if_pos rfl)
  have := congrArg BitVec.toNat hh
  simp only [BitVec.toNat_ofNat] at this
  have hk := k.isLt
  show k.val = bucketN (128 + i.val - j.val)
  omega

/-- The masked scores of a row, from the blocks they are made of. -/
theorem logit_of {X : Args} (n : Fin 32) {q : Vec Ideal S128x512 .bf16} {kc kp : Vec Ideal S128x128 .bf16} {bk : Vec Ideal S128x256 .i32}
    {w : Vec Ideal S8x128x256 .f32} (hq : ∀ i l, (q (ix2 i l) : EReal) = X.Q (rowN n i) l)
    (hk : ∀ j : Fin 256, n.val ≠ 0 ∨ 128 ≤ j.val → ∀ l, bnd kp kc j l = bandR X.K n j l) (hb : ∀ i j, bk (ix2 i j) = bucketT i.val j.val)
    (hw : ∀ h i j, (w (ix3 h i j) : EReal) = biasOf (bucketT i.val j.val) (fun b => (X.B b h : EReal))) (h : Fin 8) (i : Fin 128) :
    logitK (k0_pay66 (k0_pay54 (BitVec.ofNat 32 n.val) bk)) (k0_pay67 (scoreV q kc kp)) w h i = X.logit n h i := by
  funext j
  unfold logitK Args.logit
  rw [pay66_at, hb, mask_at]
  by_cases ho : okN n i j = true
  · rw [ho, if_pos rfl]
    have hj := ok_band ho
    refine Eq.trans (b := (k0_pay67 (scoreV q kc kp) (ix3 h i j) : EReal) + w (ix3 h i j)) rfl ?_
    rw [pay67_at, scoreV_at, eighth, dot_coe (fun d => hq i (lane8 h d)) (fun d => hk j hj.1 (lane2 h d)), hw, bias_of i j hj.2]
    unfold Args.score
    rw [EReal.coe_add, EReal.coe_mul]
  · rw [if_neg ho, Bool.eq_false_iff.mpr ho]
    rfl

section
include hX
theorem q_at (n : Fin 32) (i : Fin 128) (l : Fin 512) : (bQ m c n.val (ix2 i l) : EReal) = X.Q (rowN n i) l :=
  (blk0 m c _ i l).trans ((hX.q _ l).trans (by rw [rowCur_pt]))
theorem a_at (n : Fin 32) (i : Fin 128) (l : Fin 512) : (bA m c n.val (ix2 i l) : EReal) = X.A (rowN n i) l :=
  (blk1 m c _ i l).trans ((hX.a _ l).trans (by rw [rowCur_pt]))
theorem k_band (n : Fin 32) (j : Fin 256) (hj : n.val ≠ 0 ∨ 128 ≤ j.val) (l : Fin 128) : bnd (bKp m c n.val) (bKc m c n.val) j l = bandR X.K n j l :=
  bnd_of (fun r l => (blk3 m c _ r l).trans (hX.k _ l)) (fun r l => (blk2 m c _ r l).trans (hX.k _ l)) hj l
theorem v_band (n : Fin 32) (j : Fin 256) (hj : n.val ≠ 0 ∨ 128 ≤ j.val) (l : Fin 128) : bnd (bVp m c n.val) (bVc m c n.val) j l = bandR X.V n j l :=
  bnd_of (fun r l => (blk5 m c _ r l).trans (hX.v _ l)) (fun r l => (blk4 m c _ r l).trans (hX.v _ l)) hj l

theorem vB_at (h : Fin 8) (i : Fin 128) (j : Fin 256) : (vB m c (ix3 h i j) : EReal) = biasOf (bucketT i.val j.val) (fun b => (X.B b h : EReal)) := by
  have e : (fun b => (bR m c 0 (ix2 h b) : EReal)) = fun b => (X.B b h : EReal) := funext fun b => (blk7 m c _ h b).trans (hX.b b h)
  unfold vB biasB
  exact congrArg₂ biasOf (bT_at m c 0 i j) e

theorem logit_at (n : Fin 32) (h : Fin 8) (i : Fin 128) :
    logitK (k0_pay66 (k0_pay54 (BitVec.ofNat 32 ((grid0.coords (pt n.val)) 0).val) (bT m c n.val))) (k0_pay67 (scoreV (bQ m c n.val) (bKc m c n.val) (bKp m c n.val)))
      (vB m c) h i = X.logit n h i := by
  rw [coord, pt_of]
  exact logit_of n (q_at hX n) (k_band hX n) (bT_at m c n.val) (vB_at hX) h i

theorem sink_at (n : Fin 32) (h : Fin 8) : (sinkV (bS m c n.val) (ix3 h 0 0) : EReal) = X.S h :=
  (sinkV_at h _).trans ((blk8 m c _ h).trans (hX.s h))

theorem vP_at (n : Fin 32) (h : Fin 8) (i : Fin 128) (j : Fin 256) : (vP m c n.val (ix3 h i j) : EReal) = X.prob n h i j := by
  refine (pay73_at i j h _ _ _ _).trans ?_
  rw [logit_at hX, sink_at hX]; rfl
theorem vS_at (n : Fin 32) (h : Fin 8) (i : Fin 128) : (vS m c n.val (ix3 h i 0) : EReal) = X.psink n h i := by
  refine (pay74_at i h _ _ _ _).trans ?_
  rw [logit_at hX, sink_at hX]; rfl
theorem vD_at (n : Fin 32) (h : Fin 8) (i : Fin 128) (j : Fin 256) (hj : n.val ≠ 0 ∨ 128 ≤ j.val) : (vD m c n.val (ix3 h i j) : EReal) = X.dprob n h i j := by
  refine (dprobV_at _ _ _ h i j).trans ?_
  exact dot_coe (fun d => a_at hX n i (lane8 h d)) (fun d => v_band hX n j hj (lane2 h d))
theorem vPD (n : Fin 32) (h : Fin 8) (i : Fin 128) (j : Fin 256) : X.prob n h i j = 0 ∨ (vD m c n.val (ix3 h i j) : EReal) = X.dprob n h i j := by
  by_cases ho : okN n i j = true
  · exact .inr (vD_at hX n h i j (ok_band ho).1)
  · exact .inl (X.prob_masked n h i j (Bool.eq_false_iff.mpr ho))

theorem ds_at (n : Fin 32) (h : Fin 8) (i : Fin 128) (j : Fin 256) :
    dsR (fun j => vP m c n.val (ix3 h i j)) (fun j => vD m c n.val (ix3 h i j)) j = X.ds n h i j := by
  have e : (fun j => (vP m c n.val (ix3 h i j) : EReal)) = X.prob n h i := funext fun j => vP_at hX n h i j
  rw [e]
  exact dsR_congr (fun j => vPD hX n h i j) j
theorem gS_at (n : Fin 32) (h : Fin 8) (i : Fin 128) (j : Fin 256) : gS m c n.val h i j = X.ds n h i j := ds_at hX n h i j
theorem gK_at (n : Fin 32) (h : Fin 8) : gK m c n.val h = ∑ i : Fin 128, X.psink n h i * ∑ j : Fin 256, X.prob n h i j * (X.dprob n h i j : EReal) := by
  refine Finset.sum_congr rfl fun i _ => congrArg₂ _ (vS_at hX n h i) (Finset.sum_congr rfl fun j _ => ?_)
  rw [vP_at hX]
  rcases vPD hX n h i j with e | e
  · rw [e, zero_mul, zero_mul]
  · rw [e]

/-- The queries' gradient, of one block. -/
theorem dq_at (n : Fin 32) (h : Fin 8) (i : Fin 128) (d : Fin 64) :
    (dqV (bKc m c n.val) (bKp m c n.val) (vP m c n.val) (vD m c n.val) (ix2 i (lane8 h d)) : EReal) = X.dq n h i d := by
  refine (dqV_at _ _ _ _ i h d).trans (Finset.sum_congr rfl fun j _ => ?_)
  rw [ds_at hX]
  by_cases ho : okN n i j = true
  · rw [k_band hX n j (ok_band ho).1]
  · have e : X.ds n h i j = 0 := by
      unfold Args.ds dsR
      rw [X.prob_masked n h i j (Bool.eq_false_iff.mpr ho), zero_mul]
    rw [e, zero_mul, zero_mul, zero_mul]

theorem kvS_at (n : Fin 32) (k : Fin 2) (d : Fin 64) (j : Fin 256) :
    kvSum (gradS (vP m c n.val) (vD m c n.val)) (fun i l => bQ m c n.val (ix2 i l)) k d j = X.dkN n k d j := by
  unfold Args.dkN kvSum gradS
  refine Finset.sum_congr rfl fun g _ => Finset.sum_congr rfl fun i _ => ?_
  dsimp only
  rw [ds_at hX, q_at hX]
theorem kvW_at (n : Fin 32) (k : Fin 2) (d : Fin 64) (j : Fin 256) :
    kvSum (fun h i j => vP m c n.val (ix3 h i j)) (fun i l => bA m c n.val (ix2 i l)) k d j = X.dvN n k d j := by
  unfold Args.dvN kvSum
  refine Finset.sum_congr rfl fun g _ => Finset.sum_congr rfl fun i _ => ?_
  dsimp only
  rw [vP_at hX, a_at hX]
end

end Cert.Attn
-- ==== Proof.AttnFinal.lean ====
module

public import proofs.«01_k».proof.Proof.AttnValue
public import Idealize.ShloMosaic.Lib.Pipeline.ArrRel

set_option maxRecDepth 16384

/-! # What the kernel's run leaves in its three results -/

@[expose] public section

noncomputable section

namespace Cert.Attn

open Idealize.ShloMosaic Idealize.ShloMosaic.TcCoe Idealize.ShloMosaic.Pipeline
open Cert.Kernel2Ideal Cert.Kernel2Ideal.Gen

variable {m : (ℓ : Loc nD τ sig) → Buf (Elt Ideal) ℓ} {c : Dev nD}

/-- The block of the queries' gradient that a point leaves (the last point leaves the one before it). -/
theorem leaf9 (u : Fin cfg0.N) (Y : Vec Ideal S128x512 .bf16) (h : (data m (specV m) c).Leaves 9 u Y) :
    ∃ n : Fin 32, n.val = min u.val 31 ∧ Y = dqV (bKc m c n.val) (bKp m c n.val) (vP m c n.val) (vD m c n.val) := by
  by_cases hu : u.val < 32
  · obtain ⟨Z, -, hl⟩ := h
    have e : Y = dqV (bKc m c u.val) (bKp m c u.val) (vP m c u.val) (vD m c u.val) := (if_pos hu).mp hl
    exact ⟨⟨u.val, hu⟩, (min_eq_left (by omega)).symm, e⟩
  · have h32 : u = pt 32 := Fin.ext (show u.val = 32 by have := lt_of_lt_of_eq u.isLt N_0; omega)
    subst h32
    obtain ⟨Z, hf, hl⟩ := h
    obtain rfl : Y = Z := (if_neg (t := (specV m).dq c (pt 32) Y) hu).mp hl
    rcases ((data m (specV m) c).finds_of_pos (w := 9) (t := pt 32) (by decide +kernel) (by decide +kernel) Y).mp hf with hf | hf
    · exact absurd hf (by decide +kernel)
    · obtain ⟨W, -, hl⟩ := hf
      have h31 : (pt 32).val - 1 < 32 := by decide +kernel
      exact ⟨31, by decide +kernel, (if_pos (c := (pt 32).val - 1 < 32) (e := Y = W) h31).mp hl⟩

/-- The block of the keys' and values' gradients that a point leaves. -/
theorem leaf10 (X : Args) (hX : KArgs m c X) (u : Fin cfg0.N) (hu : 1 ≤ u.val) (Y : Vec Ideal S128x256 .bf16) (h : (data m (specV m) c).Leaves 10 u Y)
    (n : Fin 32) (hn : n.val = u.val - 1) (i : Fin 128) (l : Fin 256) : (Y (ix2 i l) : EReal) = X.dkvA (rowN n i) l := by
  obtain ⟨Z, -, hl⟩ := h
  have hl := hl hu
  have hl : Y = _ := hl
  rw [hl, ← hn]
  obtain ⟨b, k, d, rfl⟩ := laneKV_split l
  by_cases h32 : u.val < 32
  · rw [if_pos h32]
    have hlt : n.val + 1 < 32 := by omega
    have e : u.val = (⟨n.val + 1, hlt⟩ : Fin 32).val := show u.val = n.val + 1 by omega
    rw [e]
    rcases (by decide : ∀ b : Fin 2, b = 0 ∨ b = 1) b with rfl | rfl
    · refine (dkvV_k ..).trans ?_
      rw [keepK_at, kvS_at hX, kvS_at hX, Args.dkvA_k]
      unfold Args.dk
      rw [dif_pos hlt]
    · refine (dkvV_v ..).trans ?_
      rw [keepW_at, kvW_at hX, kvW_at hX, Args.dkvA_v]
      unfold Args.dv
      rw [dif_pos hlt]
  · rw [if_neg h32]
    have hlt : ¬ n.val + 1 < 32 := by omega
    rcases (by decide : ∀ b : Fin 2, b = 0 ∨ b = 1) b with rfl | rfl
    · refine (lanes2_lane _ _ i (laneK k d) _ 0 (by simp [laneK, laneKV])).trans ((pay12_at _ _ _).trans ?_)
      rw [keepK_at, kvS_at hX, Args.dkvA_k]
      unfold Args.dk
      rw [dif_neg hlt, add_zero]
    · refine (lanes2_lane _ _ i (laneK k d) _ 1 (by simp [laneK, laneKV]; omega)).trans ((pay13_at _ _ _).trans ?_)
      rw [keepW_at, kvW_at hX, Args.dkvA_v]
      unfold Args.dv
      rw [dif_neg hlt, add_zero]

/-- The small gradients that the last point leaves. -/
theorem leaf11 (X : Args) (hX : KArgs m c X) (u : Fin cfg0.N) (hu : u.val = 32) (Y : Vec Ideal S8x40x128 .f32) (h : (data m (specV m) c).Leaves 11 u Y)
    (hh : Fin 8) (r : Fin 40) (l : Fin 128) : (Y (ix3 hh r l) : EReal) = X.small hh r := by
  obtain ⟨Z, -, hl⟩ := h
  refine (hl hu hh r l).trans ?_
  have e1 : ∑ k ∈ Finset.range 32, -gK m c k hh = X.dsink hh := by
    rw [Finset.sum_range]
    exact Finset.sum_congr rfl fun n _ => congrArg _ (gK_at hX n hh)
  have e2 : ∀ i j, ∑ n ∈ Finset.range 32, gS m c n hh i j = ∑ n : Fin 32, X.ds n hh i j := fun i j => by
    rw [Finset.sum_range]
    exact Finset.sum_congr rfl fun n _ => gS_at hX n hh i j
  have e3 : ∀ k : Fin 32, (∑ j : Fin 256, ∑ i : Fin 128, if bT m c 32 (ix2 i j) = BitVec.ofNat 32 k.val then ∑ n ∈ Finset.range 32, gS m c n hh i j else 0) = X.dbias k hh :=
    fun k => Finset.sum_congr rfl fun j _ => Finset.sum_congr rfl fun i _ => by rw [bT_at, e2]
  rw [e1]
  simp only [e3]
  have hb : ∀ k : ℕ, k ≤ 32 → (BitVec.ofNat 32 r.val = BitVec.ofNat 32 k ↔ r.val = k) := fun k hk => by
    refine ⟨fun e => ?_, fun e => by rw [e]⟩
    have := congrArg BitVec.toNat e
    simp only [BitVec.toNat_ofNat] at this
    have := r.isLt
    omega
  have h32 := hb 32 le_rfl
  have hk : ∀ k : Fin 32, (BitVec.ofNat 32 r.val = BitVec.ofNat 32 k.val ↔ r.val = k.val) := fun k => hb k.val (by omega)
  rw [show (32#32 : BitVec 32) = BitVec.ofNat 32 32 from rfl]
  simp only [h32, hk]
  unfold Args.small
  by_cases hr : r.val < 32
  · rw [dif_pos hr, if_neg (by omega), zero_add]
    exact (Finset.sum_eq_single ⟨r.val, hr⟩ (fun k _ hk => if_neg fun e => hk (Fin.ext e.symm)) (fun e => absurd (Finset.mem_univ _) e)).trans (if_pos rfl)
  · rw [dif_neg hr, Finset.sum_eq_zero (fun k _ => if_neg (by omega)), add_zero]

/-- The run's results, from what the launch is known to leave. -/
theorem final (X : Args) (hX : KArgs m c X) {r} (h : RDat.FramePost (cfgs 0) (data m (specV m)) (V m) r) :
    r.2.mem ((c.tc : Thread nD τ).loc main_v6_0) = (fun i => X.dqA (i 0) (i 1) : Vec Ideal S4096x512 .bf16)
    ∧ r.2.mem ((c.tc : Thread nD τ).loc main_v6_1) = (fun i => X.dkvA (i 0) (i 1) : Vec Ideal S4096x256 .bf16)
    ∧ r.2.mem ((c.tc : Thread nD τ).loc main_v6_2) = (fun i => X.small (i 0) (i 1) : Vec Ideal S8x40x128 .f32) := by
  obtain ⟨after, hL, hA⟩ := h.exists_exact c
  refine ⟨(hA 9).trans ?_, (hA 10).trans ?_, (hA 11).trans ?_⟩
  · refine Dat.arrAt_eq_of_covers _ 9 _ (by decide +kernel) fun t hf y => ?_
    obtain ⟨n, hn, e⟩ := leaf9 t _ (hL 9 t hf)
    blk_simp
    rw [RDat.withAfter_after]
    obtain ⟨i, l, rfl⟩ : ∃ (i : Fin 128) (l : Fin 512), y = ix2 i l := ⟨y 0, y 1, by funext a; fin_cases a <;> rfl⟩
    obtain ⟨hh, d, rfl⟩ := lane8_split l
    refine (congrFun e _).trans ((dq_at hX n hh i d).trans ?_)
    rw [← Args.dqA_at]
    have e0 : ((win0_9.blk t).view.emb (ix2 i (lane8 hh d)) 0 : Fin 4096) = rowN n i := Fin.ext (by unfold rowN; blk_simp [idx t]; simp; omega)
    have e1 : ((win0_9.blk t).view.emb (ix2 i (lane8 hh d)) 1 : Fin 512) = lane8 hh d := Fin.ext (by blk_simp [idx t])
    exact (congrArg₂ X.dqA e0 e1).symm
  · refine Dat.arrAt_eq_of_covers _ 10 _ (by decide +kernel) fun t hf y => ?_
    have ht : 1 ≤ t.val := (by decide +kernel : ∀ t : Fin cfg0.N, win0_10.flush t = true → 1 ≤ t.val) t hf
    have h33 : t.val < 33 := lt_of_lt_of_eq t.isLt N_0
    have e := leaf10 X hX t ht _ (hL 10 t hf) ⟨t.val - 1, by omega⟩ rfl
    blk_simp
    rw [RDat.withAfter_after]
    obtain ⟨i, l, rfl⟩ : ∃ (i : Fin 128) (l : Fin 256), y = ix2 i l := ⟨y 0, y 1, by funext a; fin_cases a <;> rfl⟩
    refine (e i l).trans ?_
    have e0 : ((win0_10.blk t).view.emb (ix2 i l) 0 : Fin 4096) = rowN ⟨t.val - 1, by omega⟩ i := Fin.ext (by unfold rowN; blk_simp [idx t]; simp; omega)
    have e1 : ((win0_10.blk t).view.emb (ix2 i l) 1 : Fin 256) = l := Fin.ext (by blk_simp [idx t])
    exact (congrArg₂ X.dkvA e0 e1).symm
  · refine Dat.arrAt_eq_of_covers _ 11 _ (by decide +kernel) fun t hf y => ?_
    have ht : t.val = 32 := (by decide +kernel : ∀ t : Fin cfg0.N, win0_11.flush t = true → t.val = 32) t hf
    have e := leaf11 X hX t ht _ (hL 11 t hf)
    blk_simp
    rw [RDat.withAfter_after]
    obtain ⟨hh, i, l, rfl⟩ : ∃ (hh : Fin 8) (i : Fin 40) (l : Fin 128), y = ix3 hh i l := ⟨y 0, y 1, y 2, by funext a; fin_cases a <;> rfl⟩
    refine (e hh i l).trans ?_
    have e0 : ((win0_11.blk t).view.emb (ix3 hh i l) 0 : Fin 8) = hh := Fin.ext (by blk_simp [idx t])
    have e1 : ((win0_11.blk t).view.emb (ix3 hh i l) 1 : Fin 40) = i := Fin.ext (by blk_simp [idx t])
    exact (congrArg₂ X.small e0 e1).symm

end Cert.Attn
-- ==== Proof.AttnFrames.lean ====
module

public import proofs.«01_k».proof.Defs
public import proofs.«01_k».proof.Proof.AttnFrame
public import proofs.«01_k».proof.Proof.Gen.Kernel2

set_option maxRecDepth 16384

/-! # The frames of the attention gradient -/

@[expose] public section

noncomputable section

namespace Cert.Attn

open Idealize.ShloMosaic Idealize.ShloMosaic.TcCoe Idealize.SL.Sem
open Cert.Kernel2Ideal Cert.Kernel2Ideal.Gen
open Idealize.ShloMosaic.Pipeline (RDat)

/-- At words the mask's constant is its literal. -/
instance namedBits : Named Bits := ⟨fun _ _ _ bits => bits⟩

section

variable {F : FTy → Type} [FloatOps F] [Named F]
variable (m : (ℓ : Loc nD τ sig) → Buf (Elt F) ℓ) (ρ : Dev nD → PrngReg)

/-- The arguments end as they began, whatever is known of the kernel's values. -/
theorem kept (S : Spec F) (r) (h : RDat.FramePost (cfgs 0) (data m S) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    (h.arr_in c 8 rfl).trans (V_main_arg5 m c)⟩

/-- Nothing is asked of the values. -/
def anySpec : Spec F := ⟨fun _ _ _ _ _ _ _ => True, fun _ _ _ => True, fun _ _ _ => True, fun _ _ => True⟩

theorem anySteps : Steps m (anySpec (F := F)) :=
  ⟨fun _ _ _ _ _ _ _ _ _ _ _ _ _ _ _ => ⟨trivial, trivial⟩, fun _ _ _ _ _ _ _ _ _ _ _ _ _ _ _ _ => ⟨trivial, trivial, trivial⟩,
    fun _ _ _ _ _ _ _ _ _ _ _ _ _ _ _ _ => ⟨trivial, trivial⟩⟩

end

/-- The program runs, ends with every counter at zero, and keeps its arguments. -/
theorem frame_all {F : FTy → Type} [FloatOps F] [Named F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) := by
  have h := launch m ρ anySpec (anySteps m)
  exact (θ_run _ _ _).mono (fun r h => ⟨fun c => kept m _ r h.1 c, h.2⟩) h

theorem frame_ideal : Cert.quiescent_Kernel2Ideal := by
  intro m ρ _
  have h := frame_all (F := Ideal) m ρ
  exact h

/-- At words the two programs are the same. -/
theorem frame_kernel : Cert.quiescent_Kernel2 := by
  intro m ρ _
  refine cast ?_ (frame_all (F := Bits) m ρ)
  sl_kernel_rfl

end Cert.Attn

end
-- ==== Proof.AttnFinite.lean ====
module

public import proofs.«01_k».proof.Defs
public import proofs.«01_k».proof.Proof.Gen.Pre_finite
public import proofs.«01_k».proof.Proof.AttnSpec
public import Idealize.ShloMosaic.Lib.ReduceAll
public import Idealize.ShloMosaic.Lib.Claim

set_option maxRecDepth 16384

/-! # What the precondition says: the arguments are real numbers -/

@[expose] public section

noncomputable section

namespace Cert.Attn

open Idealize.ShloMosaic Idealize.ShloMosaic.TcCoe

theorem real_of_abs_lt (x : EReal) (h : max x (-x) < ⊤) : x = (x.toReal : EReal) := by
  have h1 : x ≠ ⊤ := fun e => by rw [e] at h; simp at h
  have h2 : x ≠ ⊥ := fun e => by rw [e] at h; simp at h
  exact (EReal.coe_toReal h1 h2).symm

/-- One array's test. -/
theorem real_of_all {s t u : Shape} {axes : List (Fin s.rank)} [Subsingleton t.Idx] (x : FVec Ideal s .f32) (b : FVec Ideal s .f32)
    (hb : ∀ i, (b i : EReal) = ⊤) (init : u.Idx → BitVec 1) (h : s.ReducesTo axes t) (hu : 0 < u.numel) (j : t.Idx)
    (e : Host.reduce IntOp.andi (cmpf .olt (Host.absf x) b) init h hu j = 1#1) (i : s.Idx) : (x i : EReal) = ((x i : EReal).toReal : EReal) := by
  have h1 := Host.reduce_andi_all _ init h hu j e i
  refine real_of_abs_lt _ ?_
  have h2 : BitVec.ofBool (decide (max (x i : EReal) (-(x i : EReal)) < b i)) = 1#1 := h1
  rw [hb i] at h2
  by_contra hc
  rw [decide_eq_false hc] at h2
  exact absurd h2 (by decide)

theorem inf_bits : Ideal.ofBits FTy.f32 0x7F800000#32 = (⊤ : EReal) := by
  simp [Ideal.ofBits, Ideal.ieee]

open Cert.Pre_finite in
/-- The test of the six arrays, taken apart. -/
theorem pre_real (a0 : FVec Ideal S4096x512 .f32) (a1 a2 : FVec Ideal S4096x128 .f32) (a3 : FVec Ideal S4096x512 .f32)
    (a4 : FVec Ideal S1x32x8 .f32) (a5 : FVec Ideal S1x8 .f32) (h : Cert.Pre_finite.fn (F := Ideal) a0 a1 a2 a3 a4 a5 = fun _ => 1#1) :
    (∀ i, (a0 i : EReal) = ((a0 i : EReal).toReal : EReal)) ∧ (∀ i, (a1 i : EReal) = ((a1 i : EReal).toReal : EReal))
      ∧ (∀ i, (a2 i : EReal) = ((a2 i : EReal).toReal : EReal)) ∧ (∀ i, (a3 i : EReal) = ((a3 i : EReal).toReal : EReal))
      ∧ (∀ i, (a4 i : EReal) = ((a4 i : EReal).toReal : EReal)) ∧ (∀ i, (a5 i : EReal) = ((a5 i : EReal).toReal : EReal)) := by
  have : Subsingleton S_.Idx := ⟨fun _ _ => funext fun a => a.elim0⟩
  have h0 := congrFun h ix0
  unfold Cert.Pre_finite.fn Cert.Pre_finite.fn_part1 at h0
  obtain ⟨h0, h5⟩ := IntOp.andi_eq_one.mp h0
  obtain ⟨h0, h4⟩ := IntOp.andi_eq_one.mp h0
  obtain ⟨h0, h3⟩ := IntOp.andi_eq_one.mp h0
  obtain ⟨h0, h2⟩ := IntOp.andi_eq_one.mp h0
  obtain ⟨h0, h1⟩ := IntOp.andi_eq_one.mp h0
  exact ⟨real_of_all _ _ (fun _ => inf_bits) _ _ _ _ h0, real_of_all _ _ (fun _ => inf_bits) _ _ _ _ h1,
    real_of_all _ _ (fun _ => inf_bits) _ _ _ _ h2, real_of_all _ _ (fun _ => inf_bits) _ _ _ _ h3,
    real_of_all _ _ (fun _ => inf_bits) _ _ _ _ h4, real_of_all _ _ (fun _ => inf_bits) _ _ _ _ h5⟩

/-- Six such arrays as real numbers. -/
def realArgs (a0 : Vec Ideal ⟨2, ![4096, 512]⟩ .f32) (a1 a2 : Vec Ideal ⟨2, ![4096, 128]⟩ .f32) (a3 : Vec Ideal ⟨2, ![4096, 512]⟩ .f32)
    (a4 : Vec Ideal ⟨3, ![1, 32, 8]⟩ .f32) (a5 : Vec Ideal ⟨2, ![1, 8]⟩ .f32) : Args where
  Q i l := (a0 (ix2 i l) : EReal).toReal
  K i l := (a1 (ix2 i l) : EReal).toReal
  V i l := (a2 (ix2 i l) : EReal).toReal
  A i l := (a3 (ix2 i l) : EReal).toReal
  B b h := (a4 (ix3 0 b h) : EReal).toReal
  S h := (a5 (ix2 0 h) : EReal).toReal

end Cert.Attn
-- ==== Proof.AttnRefInt.lean ====
module

public import proofs.«01_k».proof.Proof.AttnSpec
public import proofs.«01_k».proof.Proof.Gen.Reference2Ideal.Read

set_option maxRecDepth 16384

/-! # The reference's distances, buckets and mask -/

@[expose] public section

noncomputable section

namespace Cert.Attn

open Cert.Reference2Ideal Cert.Reference2Ideal.Gen Idealize.ShloMosaic Idealize.ShloMosaic.TcCoe Cert.Reference2Ideal.Read

/-- The distance of a pair, and the part of the mask and the bucket it decides. -/
def dist (q : Fin 128) (s : Fin 256) : BitVec 32 := IntOp.subi (IntOp.addi (BitVec.ofNat 32 q.val) 128#32) (BitVec.ofNat 32 s.val)
def near (d : BitVec 32) : BitVec 1 := IntOp.andi (IntOp.cmpi .sge d 0#32) (IntOp.cmpi .slt d 128#32)
def bkt (d : BitVec 32) : BitVec 32 :=
  let x := IntOp.maxsi 0#32 d
  let f (n : BitVec 32) : BitVec 32 := (IntOp.cmpi .sge x n).setWidth 32
  let l := IntOp.addi (IntOp.addi (IntOp.addi (IntOp.addi (IntOp.addi (IntOp.addi (IntOp.addi (IntOp.addi (IntOp.addi (IntOp.addi (IntOp.addi (IntOp.addi
    (IntOp.addi (IntOp.addi (IntOp.addi (IntOp.addi 0#32 (f 19#32)) (f 21#32)) (f 24#32)) (f 27#32)) (f 31#32)) (f 35#32)) (f 40#32)) (f 46#32)) (f 52#32)) (f 59#32)) (f 67#32))
    (f 77#32)) (f 87#32)) (f 99#32)) (f 113#32)) 16#32
  let b := Scalar.select (IntOp.cmpi .slt x 16#32) x l
  Scalar.select (IntOp.cmpi .slt b 0#32) (IntOp.addi b 32#32) b

theorem v29_at (q : Fin 128) (s : Fin 256) : val_main_v29 (F := Ideal) (ix2 q s) = dist q s := by
  rfl
theorem v34_at (q : Fin 128) (s : Fin 256) : val_main_v34 (F := Ideal) (ix2 q s) = near (dist q s) := by
  rfl
theorem v52_at (n : Fin 32) (q : Fin 128) (s : Fin 256) : val_main_v52 (F := Ideal) (ix3 n q s)
    = IntOp.andi (near (dist q s)) (IntOp.cmpi .sge (IntOp.addi (IntOp.subi (IntOp.muli (BitVec.ofNat 32 n.val) 128#32) 128#32) (BitVec.ofNat 32 s.val)) 0#32) := by
  rfl
theorem v125_at (q : Fin 128) (s : Fin 256) : val_main_v125 (F := Ideal) (ix2 q s) = bkt (dist q s) := by
  rfl

theorem dist_in (q : Fin 128) (s : Fin 256) (h : s.val ≤ q.val + 128) : dist q s = BitVec.ofNat 32 (q.val + 128 - s.val) := by
  apply BitVec.eq_of_toNat_eq
  have := q.isLt; have := s.isLt
  simp only [dist, IntOp.subi, IntOp.addi, BitVec.toNat_sub, BitVec.toNat_add, BitVec.toNat_ofNat]
  omega
theorem dist_out (q : Fin 128) (s : Fin 256) (h : ¬ s.val ≤ q.val + 128) : dist q s = BitVec.ofNat 32 (4294967296 - (s.val - q.val - 128)) := by
  apply BitVec.eq_of_toNat_eq
  have := q.isLt; have := s.isLt
  simp only [dist, IntOp.subi, IntOp.addi, BitVec.toNat_sub, BitVec.toNat_add, BitVec.toNat_ofNat]
  omega

theorem near_at (q : Fin 128) (s : Fin 256) : near (dist q s) = BitVec.ofBool (Nat.blt q.val s.val && Nat.ble s.val (q.val + 128)) := by
  by_cases h : s.val ≤ q.val + 128
  · rw [dist_in q s h, Nat.ble_eq_true_of_le h, Bool.and_true]
    have e := (by decide +kernel : ∀ d : Fin 257, near (BitVec.ofNat 32 d.val) = BitVec.ofBool (Nat.blt d.val 128)) ⟨q.val + 128 - s.val, by omega⟩
    refine e.trans (congrArg _ ?_)
    rw [Bool.eq_iff_iff, Nat.blt_eq, Nat.blt_eq]
    show q.val + 128 - s.val < 128 ↔ _
    omega
  · have hs := s.isLt
    rw [dist_out q s h, show Nat.ble s.val (q.val + 128) = false from Bool.eq_false_iff.mpr fun hh => h (Nat.le_of_ble_eq_true hh), Bool.and_false]
    exact (by decide +kernel : ∀ e : Fin 128, near (BitVec.ofNat 32 (4294967296 - (e.val + 1))) = 0#1) ⟨s.val - q.val - 128 - 1, by omega⟩
      |> fun h => by
        have e : s.val - q.val - 128 - 1 + 1 = s.val - q.val - 128 := by omega
        rw [e] at h; exact h

/-- The reference's mask. -/
theorem mask_ref (n : Fin 32) (q : Fin 128) (s : Fin 256) : val_main_v52 (F := Ideal) (ix3 n q s) = BitVec.ofBool (okN n q s) := by
  rw [v52_at, near_at]
  have e : IntOp.cmpi .sge (IntOp.addi (IntOp.subi (IntOp.muli (BitVec.ofNat 32 n.val) 128#32) 128#32) (BitVec.ofNat 32 s.val)) 0#32
      = BitVec.ofBool (Nat.blt 0 n.val || Nat.ble 128 s.val) := by
    by_cases h0 : n.val = 0
    · obtain rfl : n = 0 := Fin.ext h0
      exact (by decide +kernel : ∀ s : Fin 256, IntOp.cmpi .sge (IntOp.addi (IntOp.subi (IntOp.muli (BitVec.ofNat 32 (0 : Fin 32).val) 128#32) 128#32) (BitVec.ofNat 32 s.val)) 0#32
        = BitVec.ofBool (Nat.blt 0 (0 : Fin 32).val || Nat.ble 128 s.val)) s
    · have e1 : IntOp.addi (IntOp.subi (IntOp.muli (BitVec.ofNat 32 n.val) 128#32) 128#32) (BitVec.ofNat 32 s.val) = BitVec.ofNat 32 (128 * n.val - 128 + s.val) := by
        apply BitVec.eq_of_toNat_eq
        have := n.isLt; have := s.isLt
        simp only [IntOp.subi, IntOp.addi, IntOp.muli, BitVec.toNat_sub, BitVec.toNat_add, BitVec.toNat_mul, BitVec.toNat_ofNat]
        omega
      rw [e1, show Nat.blt 0 n.val = true from Nat.blt_eq.mpr (by omega), Bool.true_or]
      have hn := n.isLt; have hs := s.isLt
      exact (by decide +kernel : ∀ x : Fin 4352, IntOp.cmpi .sge (BitVec.ofNat 32 x.val) 0#32 = BitVec.ofBool true) ⟨128 * n.val - 128 + s.val, by omega⟩
  rw [e]
  unfold okN
  cases Nat.blt q.val s.val && Nat.ble s.val (q.val + 128) <;> cases Nat.blt 0 n.val || Nat.ble 128 s.val <;> rfl

/-- The reference's bucket of a pair in the window. -/
theorem bucket_ref (q : Fin 128) (s : Fin 256) (h : q.val < s.val ∧ s.val ≤ q.val + 128) :
    val_main_v125 (F := Ideal) (ix2 q s) = BitVec.ofNat 32 (bucketN (128 + q.val - s.val)) := by
  rw [v125_at, dist_in q s h.2, Nat.add_comm q.val 128]
  exact (by decide +kernel : ∀ d : Fin 128, bkt (BitVec.ofNat 32 d.val) = BitVec.ofNat 32 (bucketN d.val)) ⟨128 + q.val - s.val, by omega⟩

end Cert.Attn
-- ==== Proof.AttnRefA.lean ====
module

public import proofs.«01_k».proof.Proof.AttnRefInt
public import Idealize.ShloMosaic.Lib.Pipeline.ValueKit
public import Idealize.ShloMosaic.Lib.Claim

set_option maxRecDepth 16384

/-! # The reference's scores, by block, head and position -/

@[expose] public section

noncomputable section

namespace Cert.Attn

open Cert.Reference2Ideal Cert.Reference2Ideal.Gen Idealize.ShloMosaic Idealize.ShloMosaic.TcCoe Cert.Reference2Ideal.Read

section
variable {α : Type} {n0 n1 n2 n3 n4 : ℕ}
/-- An array read at an index whose coordinates are known. -/
theorem at1 (f : (⟨1, ![n0]⟩ : Shape).Idx → α) (i : (⟨1, ![n0]⟩ : Shape).Idx) (a : Fin n0)
    (h0 : (i 0).val = a.val) : f i = f (ix1 a) := by
  rw [eq_ix1 i, show (i 0 : Fin n0) = a from Fin.ext h0]
theorem at2 (f : (⟨2, ![n0, n1]⟩ : Shape).Idx → α) (i : (⟨2, ![n0, n1]⟩ : Shape).Idx) (a : Fin n0) (b : Fin n1)
    (h0 : (i 0).val = a.val) (h1 : (i 1).val = b.val) : f i = f (ix2 a b) := by
  rw [eq_ix2 i, show (i 0 : Fin n0) = a from Fin.ext h0, show (i 1 : Fin n1) = b from Fin.ext h1]
theorem at3 (f : (⟨3, ![n0, n1, n2]⟩ : Shape).Idx → α) (i : (⟨3, ![n0, n1, n2]⟩ : Shape).Idx) (a : Fin n0) (b : Fin n1) (c : Fin n2)
    (h0 : (i 0).val = a.val) (h1 : (i 1).val = b.val) (h2 : (i 2).val = c.val) : f i = f (ix3 a b c) := by
  rw [eq_ix3 i, show (i 0 : Fin n0) = a from Fin.ext h0, show (i 1 : Fin n1) = b from Fin.ext h1, show (i 2 : Fin n2) = c from Fin.ext h2]
theorem at4 (f : (⟨4, ![n0, n1, n2, n3]⟩ : Shape).Idx → α) (i : (⟨4, ![n0, n1, n2, n3]⟩ : Shape).Idx) (a : Fin n0) (b : Fin n1) (c : Fin n2)
    (d : Fin n3) (h0 : (i 0).val = a.val) (h1 : (i 1).val = b.val) (h2 : (i 2).val = c.val) (h3 : (i 3).val = d.val) : f i = f (ix4 a b c d) := by
  rw [eq_ix4 i, show (i 0 : Fin n0) = a from Fin.ext h0, show (i 1 : Fin n1) = b from Fin.ext h1, show (i 2 : Fin n2) = c from Fin.ext h2,
    show (i 3 : Fin n3) = d from Fin.ext h3]
theorem at5 (f : (⟨5, ![n0, n1, n2, n3, n4]⟩ : Shape).Idx → α) (i : (⟨5, ![n0, n1, n2, n3, n4]⟩ : Shape).Idx) (a : Fin n0) (b : Fin n1)
    (c : Fin n2) (d : Fin n3) (e : Fin n4) (h0 : (i 0).val = a.val) (h1 : (i 1).val = b.val) (h2 : (i 2).val = c.val) (h3 : (i 3).val = d.val)
    (h4 : (i 4).val = e.val) : f i = f (ix5 a b c d e) := by
  rw [eq_ix5 i, show (i 0 : Fin n0) = a from Fin.ext h0, show (i 1 : Fin n1) = b from Fin.ext h1, show (i 2 : Fin n2) = c from Fin.ext h2,
    show (i 3 : Fin n3) = d from Fin.ext h3, show (i 4 : Fin n4) = e from Fin.ext h4]
end

/-- The reference's arguments. -/
abbrev AQ := (⟨S4096x512, .f32⟩ : BufTy).Contents (Elt Ideal)
abbrev AK := (⟨S4096x128, .f32⟩ : BufTy).Contents (Elt Ideal)
abbrev AB := (⟨S1x32x8, .f32⟩ : BufTy).Contents (Elt Ideal)
abbrev AS := (⟨S1x8, .f32⟩ : BufTy).Contents (Elt Ideal)
/-- They are these real numbers. -/
abbrev RArgs (x0 : AQ) (x1 x2 : AK) (x3 : AQ) (x4 : AB) (x5 : AS) (X : Args) : Prop :=
  IsArgs (fun i l => x0 (ix2 i l)) (fun i l => x1 (ix2 i l)) (fun i l => x2 (ix2 i l)) (fun i l => x3 (ix2 i l))
    (fun b h => x4 (ix3 0 b h)) (fun h => x5 (ix2 0 h)) X

theorem lane2_head4 (k : Fin 2) (g : Fin 4) (d : Fin 64) : lane2 (head4 k g) d = laneK k d :=
  Fin.ext (by simp only [lane2, head4, laneK]; omega)

variable (n : Fin 32) (k : Fin 2) (g : Fin 4) (q : Fin 128) (s : Fin 256) (d : Fin 64)

/-- The queries by block, row, group, head, lane. -/
theorem q_ref (x0 : AQ) : val_main_v2 (F := Ideal) x0 (ix5 n q k g d) = x0 (ix2 (rowN n q) (lane8 (head4 k g) d)) := by
  rw [val_main_v2_apply]
  have hd := d.isLt
  exact at2 x0 _ _ _
    (by show ((((n.val * 128 + q.val) * 2 + k.val) * 4 + g.val) * 64 + d.val) / 512 = 128 * n.val + q.val; omega)
    (by show ((((n.val * 128 + q.val) * 2 + k.val) * 4 + g.val) * 64 + d.val) % 512 = 64 * (4 * k.val + g.val) + d.val; omega)

/-- The rows shifted by one block. -/
def shiftR (x : AK) (i : Fin 4096) (l : Fin 128) : EReal := if h : i.val < 128 then 0 else x (ix2 ⟨i.val - 128, by omega⟩ l)
theorem zero_bits : Ideal.ofBits FTy.f32 0x00000000#32 = 0 := by simp [Ideal.ofBits, Ideal.ieee]

theorem shiftK_ref (x1 : AK) (i : Fin 4096) (l : Fin 128) : (val_main_v5 (F := Ideal) x1 (ix2 i l) : EReal) = shiftR x1 i l := by
  unfold val_main_v5 shiftR
  pointwise []
  split
  · rw [val_main_v3_apply, val_main_cst_apply]; exact zero_bits
  · rw [val_main_v4_apply]; exact at2 x1 _ _ _ rfl rfl
theorem shiftV_ref (x2 : AK) (i : Fin 4096) (l : Fin 128) : (val_main_v12 (F := Ideal) x2 (ix2 i l) : EReal) = shiftR x2 i l := by
  unfold val_main_v12 shiftR
  pointwise []
  split
  · rw [val_main_v10_apply, val_main_cst_1_apply]; exact zero_bits
  · rw [val_main_v11_apply]; exact at2 x2 _ _ _ rfl rfl

theorem band_of (x : AK) (l : Fin 128) :
    (if h : s.val < 128 then shiftR x (rowN n ⟨s.val, h⟩) l else x (ix2 (rowN n ⟨s.val - 128, by omega⟩) l)) = bandE (fun i l => x (ix2 i l)) n s l := by
  unfold bandE shiftR
  split
  · rename_i h
    split
    · rename_i h2; simp only [rowN] at h2; rw [if_pos (by omega)]
    · rename_i h2; simp only [rowN] at h2; rw [if_neg (by omega)]
      refine congrArg (fun i => (x (ix2 i l) : EReal)) (Fin.ext ?_)
      simp only [rowN]; omega
  · rfl

/-- The bands of keys and of values. -/
theorem bandK_ref (X : Fin 4096 → Fin 128 → ℝ) (x1 : AK) (hx : ∀ i l, (x1 (ix2 i l) : EReal) = X i l) :
    (val_main_v9 (F := Ideal) x1 (ix4 n s k d) : EReal) = ((bandR X n s (laneK k d) : ℝ) : EReal) := by
  rw [← bandE_coe (Y := fun i l => x1 (ix2 i l)) hx, ← band_of n s x1]
  unfold val_main_v9
  pointwise []
  have hd := d.isLt
  split
  · rename_i h
    rw [val_main_v7_apply]
    refine (at2 (val_main_v5 (F := Ideal) x1) _ (rowN n ⟨s.val, h⟩) (laneK k d)
      (by show (((n.val * 128 + s.val) * 2 + k.val) * 64 + d.val) / 128 = 128 * n.val + s.val; omega)
      (by show (((n.val * 128 + s.val) * 2 + k.val) * 64 + d.val) % 128 = 64 * k.val + d.val; omega)).trans (shiftK_ref _ _ _)
  · rw [val_main_v8_apply]
    exact at2 x1 _ _ _
      (by show (((n.val * 128 + (s.val - 128)) * 2 + k.val) * 64 + d.val) / 128 = 128 * n.val + (s.val - 128); omega)
      (by show (((n.val * 128 + (s.val - 128)) * 2 + k.val) * 64 + d.val) % 128 = 64 * k.val + d.val; omega)
theorem bandVE_ref (x2 : AK) :
    (val_main_v16 (F := Ideal) x2 (ix4 n s k d) : EReal) = bandE (fun i l => x2 (ix2 i l)) n s (laneK k d) := by
  rw [← band_of n s x2]
  unfold val_main_v16
  pointwise []
  have hd := d.isLt
  split
  · rename_i h
    rw [val_main_v14_apply]
    refine (at2 (val_main_v12 (F := Ideal) x2) _ (rowN n ⟨s.val, h⟩) (laneK k d)
      (by show (((n.val * 128 + s.val) * 2 + k.val) * 64 + d.val) / 128 = 128 * n.val + s.val; omega)
      (by show (((n.val * 128 + s.val) * 2 + k.val) * 64 + d.val) % 128 = 64 * k.val + d.val; omega)).trans (shiftV_ref _ _ _)
  · rw [val_main_v15_apply]
    exact at2 x2 _ _ _
      (by show (((n.val * 128 + (s.val - 128)) * 2 + k.val) * 64 + d.val) / 128 = 128 * n.val + (s.val - 128); omega)
      (by show (((n.val * 128 + (s.val - 128)) * 2 + k.val) * 64 + d.val) % 128 = 64 * k.val + d.val; omega)
theorem bandV_ref (X : Fin 4096 → Fin 128 → ℝ) (x2 : AK) (hx : ∀ i l, (x2 (ix2 i l) : EReal) = X i l) :
    (val_main_v16 (F := Ideal) x2 (ix4 n s k d) : EReal) = ((bandR X n s (laneK k d) : ℝ) : EReal) :=
  (bandVE_ref n k s d x2).trans (bandE_coe hx n s _)

end Cert.Attn
-- ==== Proof.AttnRefB.lean ====
module

public import proofs.«01_k».proof.Proof.AttnRefA

set_option maxRecDepth 16384

/-! # The reference's masked scores and probabilities -/

@[expose] public section

noncomputable section

namespace Cert.Attn

open Cert.Reference2Ideal Cert.Reference2Ideal.Gen Idealize.ShloMosaic Idealize.ShloMosaic.TcCoe Cert.Reference2Ideal.Read

/-- The gather reads a bucket's row. -/
theorem gather_ref {α : Type} (x : S32x8.Idx → α) (idx : IVec S128x256x1 32) (q : Fin 128) (s : Fin 256) (h : Fin 8) :
    Host.gather gather_S32x8_S128x256x1_S128x256x8_2_0_n_n_0_2_18 x idx (ix3 q s h)
      = x (ix2 ⟨min (idx (ix3 q s 0)).toInt.toNat 31, by omega⟩ h) := by
  unfold Host.gather
  refine congrArg x (funext fun a => Fin.ext ?_)
  show GatherDims.start _ (ix3 q s h) idx a + GatherDims.batchCoord _ (ix3 q s h) a + GatherDims.offCoord _ (ix3 q s h) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by cases h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x8_S128x256x1_S128x256x8_2_0_n_n_0_2_18.startIndexMap from List.mem_singleton.mpr rfl)]
    have hsi : gather_S32x8_S128x256x1_S128x256x8_2_0_n_n_0_2_18.siIdx (ix3 q s h)
        ⟨List.idxOf (0 : Fin 2) gather_S32x8_S128x256x1_S128x256x8_2_0_n_n_0_2_18.startIndexMap,
          List.idxOf_lt_length_iff.2 (List.mem_singleton.mpr rfl)⟩ = ix3 q s 0 := by
      funext b; refine Fin.ext ?_
      match b with
      | ⟨0, _⟩ => rfl
      | ⟨1, _⟩ => rfl
      | ⟨2, _⟩ => rfl
    rw [hsi]
    rfl
  · rw [GatherDims.batchCoord_eq_zero _ _ _ (fun h => by cases h)]
    unfold GatherDims.start
    rw [dif_neg (show (1 : Fin 2) ∉ gather_S32x8_S128x256x1_S128x256x8_2_0_n_n_0_2_18.startIndexMap from fun h => by
      have := List.mem_singleton.mp h; exact absurd this (by decide))]
    simp only [Nat.zero_add]
    rfl

/-- The same, of an index known to be `b`. -/
theorem gather_at (x : S32x8.Idx → EReal) (idx : S128x256x1.Idx → BitVec 32) (q : Fin 128) (s : Fin 256) (h : Fin 8) (b : Fin 32)
    (e : idx (ix3 q s 0) = BitVec.ofNat 32 b.val) :
    Host.gather gather_S32x8_S128x256x1_S128x256x8_2_0_n_n_0_2_18 x idx (ix3 q s h) = x (ix2 b h) := by
  rw [gather_ref]
  refine at2 x _ b h ?_ rfl
  show min (idx (ix3 q s 0)).toInt.toNat 31 = b.val
  have hb := b.isLt
  have e2 : ∀ b : Fin 32, (BitVec.ofNat 32 b.val).toInt.toNat = b.val := by decide
  rw [e, e2]; omega

variable {x0 : AQ} {x1 x2 : AK} {x3 : AQ} {x4 : AB} {x5 : AS} {X : Args} (hX : RArgs x0 x1 x2 x3 x4 x5 X)
variable (n : Fin 32) (k : Fin 2) (g : Fin 4) (q : Fin 128) (s : Fin 256) (d : Fin 64)

include hX in
theorem table_ref (b : Fin 32) (h : Fin 8) : (val_main_v1 (F := Ideal) x4 (ix2 b h) : EReal) = X.B b h := by
  have hb := b.isLt; have hh := h.isLt
  rw [val_main_v1_apply]
  exact (at3 x4 _ 0 b h rfl (by show (b.val * 8 + h.val) / 8 % 32 = b.val; omega)
    (by show (b.val * 8 + h.val) % 8 = h.val; omega)).trans (hX.b _ _)

include hX in
/-- The bias of a pair in the window. -/
theorem bias_ref (h : q.val < s.val ∧ s.val ≤ q.val + 128) :
    (val_main_v133 (F := Ideal) x4 (ix5 n k g q s) : EReal) = X.B ⟨bucketN (128 + q.val - s.val), bucketN_lt _⟩ (head4 k g) := by
  have hq := q.isLt; have hs := s.isLt; have hk := k.isLt; have hg := g.isLt
  rw [val_main_v133_apply, val_main_v132_apply]
  refine (at4 (val_main_v129 (F := Ideal) x4) _ k g q s rfl rfl rfl rfl).trans ?_
  rw [val_main_v129_apply]
  refine (at3 (val_main_v128 (F := Ideal) x4) _ (head4 k g) q s
    (by show (((k.val * 4 + g.val) * 128 + q.val) * 256 + s.val) / 32768 = 4 * k.val + g.val; omega)
    (by show (((k.val * 4 + g.val) * 128 + q.val) * 256 + s.val) / 256 % 128 = q.val; omega)
    (by show (((k.val * 4 + g.val) * 128 + q.val) * 256 + s.val) % 256 = s.val; omega)).trans ?_
  rw [val_main_v128_apply]
  refine (at3 (val_main_v127 (F := Ideal) x4) _ q s (head4 k g) rfl rfl rfl).trans ?_
  unfold val_main_v127
  refine (gather_at (val_main_v1 (F := Ideal) x4) (val_main_v126 (F := Ideal)) q s (head4 k g) ⟨bucketN (128 + q.val - s.val), bucketN_lt _⟩
    ?_).trans ?_
  · rw [val_main_v126_apply]
    exact (at2 (val_main_v125 (F := Ideal)) _ q s rfl rfl).trans (bucket_ref q s h)
  · exact table_ref hX _ _

include hX in
/-- A score before its bias. -/
theorem dot_ref : (val_main_v20 (F := Ideal) x0 x1 (ix5 n k g q s) : EReal)
    = (((∑ d : Fin 64, X.Q (rowN n q) (lane8 (head4 k g) d) * bandR X.K n s (lane2 (head4 k g) d)) * (1 / 8) : ℝ) : EReal) := by
  rw [val_main_v20_apply, val_main_v18_apply, val_main_v19_apply, val_main_cst_3_apply]
  refine Eq.trans (b := (val_main_v17 (F := Ideal) x0 x1 (ix5 n k s q g) : EReal) * Ideal.ofBits FTy.f32 0x3E000000#32) ?_ ?_
  · exact congrArg (fun t : EReal => t * _) (at5 (val_main_v17 (F := Ideal) x0 x1) _ n k s q g rfl rfl rfl rfl rfl)
  · rw [eighth, EReal.coe_mul, val_main_v17_apply]
    refine congrArg (· * _) (dot_coe (fun d => ?_) (fun d => ?_) |>.trans (congrArg _ (Finset.sum_congr rfl fun d _ => mul_comm _ _)))
    · exact (at4 (val_main_v9 (F := Ideal) x1) _ n s k d rfl rfl rfl rfl).trans
        ((bandK_ref n k s d X.K x1 hX.k).trans (by rw [lane2_head4]))
    · exact (at5 (val_main_v2 (F := Ideal) x0) _ n q k g d rfl rfl rfl rfl rfl).trans ((q_ref n k g q d x0).trans (hX.q _ _))

theorem mask5_ref : val_main_v131 (F := Ideal) (ix5 n k g q s) = BitVec.ofBool (okN n q s) := by
  rw [val_main_v131_apply, val_main_v130_apply]
  exact (at3 (val_main_v52 (F := Ideal)) _ n q s rfl rfl rfl).trans (mask_ref n q s)
theorem okN_window (h : okN n q s = true) : q.val < s.val ∧ s.val ≤ q.val + 128 := by
  unfold okN at h
  simp only [Bool.and_eq_true, Nat.blt_eq] at h
  exact ⟨h.1.1, Nat.le_of_ble_eq_true h.1.2⟩

include hX in
/-- The masked scores. -/
theorem logit_ref : (val_main_v136 (F := Ideal) x0 x1 x4 (ix5 n k g q s) : EReal) = X.logit n (head4 k g) q s := by
  rw [val_main_v136_apply, mask5_ref]
  unfold Args.logit
  cases h : okN n q s
  · rw [if_neg Bool.false_ne_true]
    refine Eq.trans (b := (val_main_v135 (F := Ideal) (ix5 n k g q s) : EReal)) rfl ?_
    rw [val_main_v135_apply, val_main_cst_30_apply]
    exact maskBits
  · rw [if_pos rfl]
    refine Eq.trans (b := (val_main_v134 (F := Ideal) x0 x1 x4 (ix5 n k g q s) : EReal)) rfl ?_
    rw [val_main_v134_apply]
    unfold Args.score
    rw [EReal.coe_add, ← dot_ref hX, ← bias_ref hX n k g q s (okN_window n q s h)]
    rfl

include hX in
theorem sink_ref : (val_main_v138 (F := Ideal) x5 (ix5 0 k g 0 0) : EReal) = X.S (head4 k g) := by
  rw [val_main_v138_apply]
  refine (at1 (val_main_v0 (F := Ideal) x5) _ (head4 k g) (by show (((0 * 2 + k.val) * 4 + g.val) * 1 + 0) * 1 + 0 = 4 * k.val + g.val; omega)).trans ?_
  rw [val_main_v0_apply]
  exact (at2 x5 _ 0 (head4 k g) rfl (Nat.mod_eq_of_lt (head4 k g).isLt)).trans (hX.s _)

include hX in
/-- A row's largest score. -/
theorem rowmax_ref : (val_main_v139 (F := Ideal) x0 x1 x4 (ix4 n k g q) : EReal)
    = Finset.univ.fold max (⊥ : EReal) (X.logit n (head4 k g) q) := by
  unfold val_main_v139
  pointwise []
  rw [show (val_main_cst_32 (F := Ideal) (Shape.Idx.first h_S_) : EReal) = ⊥ from maskBits,
    show (fun s => val_main_v136 (F := Ideal) x0 x1 x4 (ix5 n k g q s)) = X.logit n (head4 k g) q from
      funext fun s => logit_ref hX n k g q s]

include hX in
/-- A row's largest score, with its sink. -/
theorem max_ref : (val_main_v147 (F := Ideal) x0 x1 x4 x5 (ix5 n k g q 0) : EReal) = rowMax (X.logit n (head4 k g) q) (X.S (head4 k g)) := by
  rw [val_main_v147_apply, val_main_v145_apply, val_main_v146_apply]
  have e1 := at4 (val_main_v139 (F := Ideal) x0 x1 x4) (idx_main_v145 (ix5 n k g q 0)) n k g q rfl rfl rfl rfl
  have e2 := (at5 (val_main_v138 (F := Ideal) x5) (idx_main_v146 (ix5 n k g q 0)) 0 k g 0 0 rfl rfl rfl rfl rfl).trans (sink_ref hX k g)
  refine (congrArg₂ (fun a b : EReal => max a b) (e1.trans (rowmax_ref hX n k g q)) e2).trans ?_
  rfl

include hX in
theorem exp_ref : (val_main_v168 (F := Ideal) x0 x1 x4 x5 (ix5 n k g q s) : EReal)
    = Ideal.exp (X.logit n (head4 k g) q s - rowMax (X.logit n (head4 k g) q) (X.S (head4 k g))) := by
  rw [val_main_v168_apply, val_main_v167_apply, val_main_v166_apply, logit_ref hX]
  rw [show val_main_v147 (F := Ideal) x0 x1 x4 x5 (idx_main_v166 (ix5 n k g q s)) = _ from
    (at5 (val_main_v147 (F := Ideal) x0 x1 x4 x5) (idx_main_v166 (ix5 n k g q s)) n k g q 0 rfl rfl rfl rfl rfl).trans (max_ref hX n k g q)]
  rfl
include hX in
theorem expS_ref : (val_main_v173 (F := Ideal) x0 x1 x4 x5 (ix5 n k g q 0) : EReal)
    = Ideal.exp ((X.S (head4 k g) : ℝ) - rowMax (X.logit n (head4 k g) q) (X.S (head4 k g))) := by
  rw [val_main_v173_apply, val_main_v172_apply, val_main_v171_apply, max_ref hX]
  rw [show val_main_v138 (F := Ideal) x5 (idx_main_v171 (ix5 n k g q 0)) = _ from
    (at5 (val_main_v138 (F := Ideal) x5) (idx_main_v171 (ix5 n k g q 0)) 0 k g 0 0 rfl rfl rfl rfl rfl).trans (sink_ref hX k g)]
  rfl
include hX in
/-- The normaliser. -/
theorem den_ref : (val_main_v174 (F := Ideal) x0 x1 x4 x5 (ix5 n k g q 0) : EReal) = rowDen (X.logit n (head4 k g) q) (X.S (head4 k g)) := by
  rw [val_main_v174_apply, val_main_v170_apply, expS_ref hX]
  rw [show val_main_v169 (F := Ideal) x0 x1 x4 x5 (idx_main_v170 (ix5 n k g q 0)) = _ from
    (at4 (val_main_v169 (F := Ideal) x0 x1 x4 x5) (idx_main_v170 (ix5 n k g q 0)) n k g q rfl rfl rfl rfl)]
  rw [val_main_v169_apply, val_main_cst_40_apply]
  unfold rowDen
  refine congrArg (fun t : EReal => t + _) ((congrArg (· + _) zero_bits).trans ((zero_add _).trans (Finset.sum_congr rfl fun s _ => ?_)))
  exact (at5 (val_main_v168 (F := Ideal) x0 x1 x4 x5) _ n k g q s rfl rfl rfl rfl rfl).trans (exp_ref hX n k g q s)
include hX in
theorem prob_ref : (val_main_v176 (F := Ideal) x0 x1 x4 x5 (ix5 n k g q s) : EReal) = X.prob n (head4 k g) q s := by
  rw [val_main_v176_apply, val_main_v175_apply, exp_ref hX]
  rw [show val_main_v174 (F := Ideal) x0 x1 x4 x5 (idx_main_v175 (ix5 n k g q s)) = _ from
    (at5 (val_main_v174 (F := Ideal) x0 x1 x4 x5) (idx_main_v175 (ix5 n k g q s)) n k g q 0 rfl rfl rfl rfl rfl).trans (den_ref hX n k g q)]
  exact ref_prob _ (X.scores n (head4 k g) q) _ s

end Cert.Attn
-- ==== Proof.AttnRefC.lean ====
module

public import proofs.«01_k».proof.Proof.AttnRefB

set_option maxRecDepth 16384

/-! # The reference's gradient of a score -/

@[expose] public section

noncomputable section

namespace Cert.Attn

open Cert.Reference2Ideal Cert.Reference2Ideal.Gen Idealize.ShloMosaic Idealize.ShloMosaic.TcCoe Cert.Reference2Ideal.Read

theorem one_bits : Ideal.ofBits FTy.f32 0x3F800000#32 = 1 :=
  Ideal.ofBits_one_f32

/-- A sum over blocks and rows. -/
theorem sum_blocks_rows (x : S32x2x4x128x1.Idx → EReal) (z : EReal) (k : Fin 2) (g : Fin 4) :
    Ideal.hostReduceAdd reducesTo_S32x2x4x128x1_S2x4x1_d0_3 x z (ix3 k g 0) = z + ∑ n : Fin 32, ∑ q : Fin 128, x (ix5 n k g q 0) := by
  unfold Ideal.hostReduceAdd
  refine congrArg (fun t : EReal => z + t) ?_
  rw [← Finset.sum_product']
  refine Finset.sum_bij' (fun i _ => ((i 0 : Fin 32), (i 3 : Fin 128))) (fun p _ => ix5 p.1 k g p.2 0)
    (fun _ _ => Finset.mem_product.mpr ⟨Finset.mem_univ _, Finset.mem_univ _⟩) (fun p _ => ?_) (fun i hi => ?_) (fun _ _ => rfl) (fun i hi => ?_)
  · refine Finset.mem_filter.mpr ⟨Finset.mem_univ _, funext fun a => Fin.ext ?_⟩
    match a with
    | ⟨0, _⟩ => rfl
    | ⟨1, _⟩ => rfl
    | ⟨2, _⟩ => rfl
  · have h := (Finset.mem_filter.mp hi).2
    have h1 : (i 1).val = k.val := congrArg (fun f : S2x4x1.Idx => (f 0).val) h
    have h2 : (i 2).val = g.val := congrArg (fun f : S2x4x1.Idx => (f 1).val) h
    have h4 : (i 4).val < 1 := (i 4).isLt
    exact (at5 (fun j => j) i (i 0) k g (i 3) 0 rfl h1 h2 rfl (by show (i 4).val = 0; omega)).symm
  · have h := (Finset.mem_filter.mp hi).2
    have h1 : (i 1).val = k.val := congrArg (fun f : S2x4x1.Idx => (f 0).val) h
    have h2 : (i 2).val = g.val := congrArg (fun f : S2x4x1.Idx => (f 1).val) h
    have h4 : (i 4).val < 1 := (i 4).isLt
    exact at5 x i (i 0) k g (i 3) 0 rfl h1 h2 rfl (by show (i 4).val = 0; omega)

variable {x0 : AQ} {x1 x2 : AK} {x3 : AQ} {x4 : AB} {x5 : AS} {X : Args} (hX : RArgs x0 x1 x2 x3 x4 x5 X)
variable (n : Fin 32) (k : Fin 2) (g : Fin 4) (q : Fin 128) (s : Fin 256) (d : Fin 64)

theorem datt_ref : val_main_v184 (F := Ideal) x3 (ix5 n k d g q) = x3 (ix2 (rowN n q) (lane8 (head4 k g) d)) := by
  rw [val_main_v184_apply]
  refine (at5 (val_main_v183 (F := Ideal) x3) _ n q k g d rfl rfl rfl rfl rfl).trans ?_
  rw [val_main_v183_apply]
  have hd := d.isLt
  exact at2 x3 _ _ _
    (by show ((((n.val * 128 + q.val) * 2 + k.val) * 4 + g.val) * 64 + d.val) / 512 = 128 * n.val + q.val; omega)
    (by show ((((n.val * 128 + q.val) * 2 + k.val) * 4 + g.val) * 64 + d.val) % 512 = 64 * (4 * k.val + g.val) + d.val; omega)

include hX
/-- The cotangent of a probability. -/
theorem dprob_ref : (val_main_v185 (F := Ideal) x2 x3 (ix5 n k g q s) : EReal) = ((X.dprob n (head4 k g) q s : ℝ) : EReal) := by
  rw [val_main_v185_apply]
  refine dot_coe (fun d => ?_) (fun d => ?_)
  · exact (at5 (val_main_v184 (F := Ideal) x3) _ n k d g q rfl rfl rfl rfl rfl).trans ((datt_ref n k g q d).trans (hX.a _ _))
  · exact (at4 (val_main_v16 (F := Ideal) x2) _ n s k d rfl rfl rfl rfl).trans ((bandV_ref n k s d X.V x2 hX.v).trans (by rw [lane2_head4]))

/-- What comes back through the normaliser. -/
theorem refC_ref : (val_main_v193 (F := Ideal) x0 x1 x2 x3 x4 x5 (ix5 n k g q 0) : EReal)
    = refC (X.logit n (head4 k g) q) (X.S (head4 k g)) fun s => (X.dprob n (head4 k g) q s : EReal) := by
  rw [val_main_v193_apply, val_main_v192_apply]
  rw [show val_main_v191 (F := Ideal) x0 x1 x2 x3 x4 x5 (idx_main_v192 (ix5 n k g q 0)) = _ from
    (at4 (val_main_v191 (F := Ideal) x0 x1 x2 x3 x4 x5) (idx_main_v192 (ix5 n k g q 0)) n k g q
      (by show ((((n.val * 2 + k.val) * 4 + g.val) * 128 + q.val) * 1 + 0) / 1024 = n.val; omega)
      (by show ((((n.val * 2 + k.val) * 4 + g.val) * 128 + q.val) * 1 + 0) / 512 % 2 = k.val; omega)
      (by show ((((n.val * 2 + k.val) * 4 + g.val) * 128 + q.val) * 1 + 0) / 128 % 4 = g.val; omega)
      (by show ((((n.val * 2 + k.val) * 4 + g.val) * 128 + q.val) * 1 + 0) % 128 = q.val; omega))]
  rw [val_main_v191_apply, val_main_cst_42_apply]
  unfold refC
  refine congrArg (fun t : EReal => -t) (congrArg₂ (fun a b : EReal => a + b) zero_bits (Finset.sum_congr rfl fun s _ => ?_))
  refine (at5 (val_main_v190 (F := Ideal) x0 x1 x2 x3 x4 x5) _ n k g q s rfl rfl rfl rfl rfl).trans ?_
  rw [val_main_v190_apply, val_main_v189_apply, val_main_v188_apply, exp_ref hX, dprob_ref hX]
  rw [show val_main_v179 (F := Ideal) x0 x1 x4 x5 (idx_main_v188 (ix5 n k g q s)) = _ from
    (at5 (val_main_v179 (F := Ideal) x0 x1 x4 x5) (idx_main_v188 (ix5 n k g q s)) n k g q 0 rfl rfl rfl rfl rfl)]
  rw [val_main_v179_apply, val_main_v177_apply, val_main_v178_apply, den_ref hX, val_main_cst_41_apply]
  refine congrArg (fun t : EReal => _ * Ideal.div t _ * _) one_bits

theorem refW_ref : (val_main_v203 (F := Ideal) x0 x1 x2 x3 x4 x5 (ix5 n k g q s) : EReal)
    = refW (X.logit n (head4 k g) q) (X.S (head4 k g)) (fun s => (X.dprob n (head4 k g) q s : EReal)) s := by
  rw [val_main_v203_apply, val_main_v202_apply, val_main_v195_apply, val_main_v194_apply, val_main_v201_apply, exp_ref hX, dprob_ref hX]
  rw [show val_main_v174 (F := Ideal) x0 x1 x4 x5 (idx_main_v194 (ix5 n k g q s)) = _ from
    (at5 (val_main_v174 (F := Ideal) x0 x1 x4 x5) (idx_main_v194 (ix5 n k g q s)) n k g q 0 rfl rfl rfl rfl rfl).trans (den_ref hX n k g q)]
  rw [show val_main_v200 (F := Ideal) x0 x1 x2 x3 x4 x5 (idx_main_v201 (ix5 n k g q s)) = _ from
    (at4 (val_main_v200 (F := Ideal) x0 x1 x2 x3 x4 x5) (idx_main_v201 (ix5 n k g q s)) n k g q rfl rfl rfl rfl)]
  rw [val_main_v200_apply, val_main_cst_44_apply, Fin.sum_univ_one]
  have e : (val_main_v193 (F := Ideal) x0 x1 x2 x3 x4 x5 (idx_main_v200 (ix4 n k g q) 0) : EReal) = _ :=
    (at5 (val_main_v193 (F := Ideal) x0 x1 x2 x3 x4 x5) _ n k g q 0 rfl rfl rfl rfl rfl).trans (refC_ref hX n k g q)
  unfold refW
  exact congrArg (fun t : EReal => (Ideal.div (X.dprob n (head4 k g) q s : ℝ) (rowDen (X.logit n (head4 k g) q) (X.S (head4 k g))) + t)
    * Ideal.exp (X.logit n (head4 k g) q s - rowMax (X.logit n (head4 k g) q) (X.S (head4 k g)))) <| (congrArg₂ (fun a b : EReal => a + b) zero_bits e).trans (zero_add _)

theorem sinkC_ref : (val_main_v196 (F := Ideal) x0 x1 x2 x3 x4 x5 (ix5 n k g q 0) : EReal)
    = refC (X.logit n (head4 k g) q) (X.S (head4 k g)) (fun s => (X.dprob n (head4 k g) q s : EReal))
      * Ideal.exp ((X.S (head4 k g) : ℝ) - rowMax (X.logit n (head4 k g) q) (X.S (head4 k g))) := by
  rw [val_main_v196_apply, refC_ref hX, expS_ref hX]; rfl

/-- Nothing reaches the maximum. -/
theorem refT_ref : (val_main_v207 (F := Ideal) x0 x1 x2 x3 x4 x5 (ix5 n k g q 0) : EReal) = 0 := by
  rw [val_main_v207_apply, val_main_v199_apply, val_main_v206_apply, sinkC_ref hX]
  rw [show val_main_v205 (F := Ideal) x0 x1 x2 x3 x4 x5 (idx_main_v206 (ix5 n k g q 0)) = _ from
    (at4 (val_main_v205 (F := Ideal) x0 x1 x2 x3 x4 x5) (idx_main_v206 (ix5 n k g q 0)) n k g q
      (by show ((((n.val * 2 + k.val) * 4 + g.val) * 128 + q.val) * 1 + 0) / 1024 = n.val; omega)
      (by show ((((n.val * 2 + k.val) * 4 + g.val) * 128 + q.val) * 1 + 0) / 512 % 2 = k.val; omega)
      (by show ((((n.val * 2 + k.val) * 4 + g.val) * 128 + q.val) * 1 + 0) / 128 % 4 = g.val; omega)
      (by show ((((n.val * 2 + k.val) * 4 + g.val) * 128 + q.val) * 1 + 0) % 128 = q.val; omega))]
  rw [val_main_v205_apply, val_main_cst_45_apply]
  refine Eq.trans ?_ (refT_eq (X.logit n (head4 k g) q) (X.scores n (head4 k g) q) (X.S (head4 k g)) (X.dprob n (head4 k g) q))
  unfold refT
  refine congrArg (fun t : EReal => _ + t) (congrArg₂ (fun a b : EReal => a + b) zero_bits (Finset.sum_congr rfl fun s _ => ?_))
  refine (at5 (val_main_v204 (F := Ideal) x0 x1 x2 x3 x4 x5) _ n k g q s rfl rfl rfl rfl rfl).trans ?_
  rw [val_main_v204_apply, refW_ref hX]; rfl

/-- The gradient of a score. -/
theorem ds_ref : (val_main_v220 (F := Ideal) x0 x1 x2 x3 x4 x5 (ix5 n k g q s) : EReal) = X.ds n (head4 k g) q s := by
  have h := ref_ds (X.logit n (head4 k g) q) (X.scores n (head4 k g) q) (X.S (head4 k g)) (X.dprob n (head4 k g) q) (fun s => okN n q s)
    (fun s hs => by unfold Args.logit; rw [if_neg (by rw [hs]; exact Bool.false_ne_true)])
    (X.dprob n (head4 k g) q) (fun _ _ => rfl) (val_main_v156 (F := Ideal) x0 x1 x4 x5 (ix5 n k g q 0))
    (fun s => val_main_v143 (F := Ideal) x0 x1 x4 (ix5 n k g q s))
    (fun s => by
      rw [val_main_v143_apply]
      exact EReal.coe_nonneg.mpr (Nat.cast_nonneg _)) s
  rw [refT_eq _ (X.scores n (head4 k g) q)] at h
  unfold Args.ds
  refine Eq.trans ?_ h
  rw [val_main_v220_apply, mask5_ref]
  cases okN n q s
  · refine Eq.trans (b := (val_main_v219 (F := Ideal) (ix5 n k g q s) : EReal)) rfl ?_
    rw [val_main_v219_apply, val_main_cst_48_apply]
    exact zero_bits
  · refine Eq.trans (b := (val_main_v217 (F := Ideal) x0 x1 x2 x3 x4 x5 (ix5 n k g q s) : EReal)) rfl ?_
    rw [val_main_v217_apply, val_main_v216_apply, val_main_v215_apply, refW_ref hX]
    rw [show val_main_v214 (F := Ideal) x0 x1 x2 x3 x4 x5 (idx_main_v215 (ix5 n k g q s)) = _ from
      (at4 (val_main_v214 (F := Ideal) x0 x1 x2 x3 x4 x5) (idx_main_v215 (ix5 n k g q s)) n k g q rfl rfl rfl rfl)]
    rw [val_main_v214_apply, val_main_v213_apply, val_main_v144_apply, val_main_cst_47_apply, val_main_cst_33_apply, Fin.sum_univ_one]
    have e : (val_main_v212 (F := Ideal) x0 x1 x2 x3 x4 x5 (idx_main_v213 (ix4 n k g q) 0) : EReal)
        = 0 * (val_main_v156 (F := Ideal) x0 x1 x4 x5 (ix5 n k g q 0) : EReal) := by
      refine (at5 (val_main_v212 (F := Ideal) x0 x1 x2 x3 x4 x5) _ n k g q 0 rfl rfl rfl rfl rfl).trans ?_
      rw [val_main_v212_apply, refT_ref hX]; rfl
    refine congrArg (fun t : EReal => _ + t * _) (congrArg₂ Ideal.div (congrArg₂ (fun a b : EReal => a + b) zero_bits e)
      (congrArg₂ (fun a b : EReal => a + b) zero_bits (Finset.sum_congr rfl fun s _ => ?_)))
    exact at5 (val_main_v143 (F := Ideal) x0 x1 x4) _ n k g q s rfl rfl rfl rfl rfl

/-- The gradient of a sink. -/
theorem dsink_ref : (val_main_v218 (F := Ideal) x0 x1 x2 x3 x4 x5 (ix1 (head4 k g)) : EReal) = X.dsink (head4 k g) := by
  rw [val_main_v218_apply]
  refine (at5 (val_main_v211 (F := Ideal) x0 x1 x2 x3 x4 x5) _ 0 k g 0 0 rfl
    (by show (4 * k.val + g.val) / 4 % 2 = k.val; omega) (by show (4 * k.val + g.val) / 1 % 4 = g.val; omega) rfl rfl).trans ?_
  rw [val_main_v211_apply, val_main_v198_apply, val_main_v210_apply]
  have e1 := at3 (val_main_v197 (F := Ideal) x0 x1 x2 x3 x4 x5) (idx_main_v198 (ix5 0 k g 0 0)) k g 0
    (by show ((((0 * 2 + k.val) * 4 + g.val) * 1 + 0) * 1 + 0) / 4 = k.val; omega)
    (by show ((((0 * 2 + k.val) * 4 + g.val) * 1 + 0) * 1 + 0) / 1 % 4 = g.val; omega) rfl
  have e2 := at3 (val_main_v209 (F := Ideal) x0 x1 x2 x3 x4 x5) (idx_main_v210 (ix5 0 k g 0 0)) k g 0
    (by show ((((0 * 2 + k.val) * 4 + g.val) * 1 + 0) * 1 + 0) / 4 = k.val; omega)
    (by show ((((0 * 2 + k.val) * 4 + g.val) * 1 + 0) * 1 + 0) / 1 % 4 = g.val; omega) rfl
  rw [e1, e2]
  have e3 : (val_main_v209 (F := Ideal) x0 x1 x2 x3 x4 x5 (ix3 k g 0) : EReal) = 0 := by
    unfold val_main_v209
    rw [ValueIdx.hostReduceAdd_apply, val_main_cst_46_apply]
    refine (sum_blocks_rows _ _ k g).trans ?_
    refine (congrArg₂ (fun a b : EReal => a + b) zero_bits (Finset.sum_eq_zero fun n _ => Finset.sum_eq_zero fun q _ => ?_)).trans (add_zero _)
    rw [val_main_v208_apply, refT_ref hX]
    exact zero_mul _
  have e4 : (val_main_v197 (F := Ideal) x0 x1 x2 x3 x4 x5 (ix3 k g 0) : EReal)
      = ∑ n : Fin 32, ∑ q : Fin 128, -(X.psink n (head4 k g) q * ∑ j : Fin 256, X.prob n (head4 k g) q j * (X.dprob n (head4 k g) q j : EReal)) := by
    unfold val_main_v197
    rw [ValueIdx.hostReduceAdd_apply, val_main_cst_43_apply]
    refine (sum_blocks_rows _ _ k g).trans ?_
    refine (congrArg₂ (fun a b : EReal => a + b) zero_bits (Finset.sum_congr rfl fun n _ => Finset.sum_congr rfl fun q _ => ?_)).trans (zero_add _)
    rw [sinkC_ref hX]
    exact ref_sink _ (X.scores n (head4 k g) q) _ _ _ fun _ _ => rfl
  rw [e3, e4]
  refine (add_zero _).trans (Finset.sum_congr rfl fun n _ => ?_)
  choose r hr using fun q => sink_real (X.logit n (head4 k g) q) (X.scores n (head4 k g) q) (X.S (head4 k g)) (X.dprob n (head4 k g) q)
  have hr' : ∀ q, X.psink n (head4 k g) q * ∑ j : Fin 256, X.prob n (head4 k g) q j * (X.dprob n (head4 k g) q j : EReal) = r q := hr
  simp only [hr', ← EReal.coe_neg, coe_sum_univ, Finset.sum_neg_distrib]

end Cert.Attn
-- ==== Proof.AttnRefD.lean ====
module

public import proofs.«01_k».proof.Proof.AttnRefC
public import Idealize.ShloMosaic.Lib.TwoAxisContraction
public import Idealize.ShloMosaic.Lib.Routing.OpsPair

set_option maxRecDepth 16384

/-! # The reference's gradients of the biases, the queries, the keys and the values -/

@[expose] public section

noncomputable section

namespace Cert.Attn

open Cert.Reference2Ideal Cert.Reference2Ideal.Gen Idealize.ShloMosaic Idealize.ShloMosaic.TcCoe Cert.Reference2Ideal.Read

/-- Where the scatter writes an update. -/
theorem scatter_at (idx : IVec S128x256x1 32) (q : Fin 128) (s : Fin 256) (h' : Fin 8) (b : Fin 32) (h : Fin 8) :
    scatter_S32x8_S128x256x1_S128x256x8_2_0_0_2.resultIdx? (ix3 q s h') idx = some (ix2 b h)
      ↔ (idx (ix3 q s 0)).toInt = (b.val : Int) ∧ h' = h := by
  have e0 : scatter_S32x8_S128x256x1_S128x256x8_2_0_0_2.resultIdx? (ix3 q s h') idx = some (ix2 b h)
      ↔ scatter_S32x8_S128x256x1_S128x256x8_2_0_0_2.start (ix3 q s h') idx 0
            + (scatter_S32x8_S128x256x1_S128x256x8_2_0_0_2.window (ix3 q s h') 0 : Int) = (b.val : Int)
        ∧ scatter_S32x8_S128x256x1_S128x256x8_2_0_0_2.start (ix3 q s h') idx 1
            + (scatter_S32x8_S128x256x1_S128x256x8_2_0_0_2.window (ix3 q s h') 1 : Int) = (h.val : Int) :=
    (Routing.resultIdx?_eq_some _ _ _ _).trans
      ⟨fun hh => ⟨hh 0, hh 1⟩, fun hh a => match a with | ⟨0, _⟩ => hh.1 | ⟨1, _⟩ => hh.2⟩
  rw [e0]
  have e1 : scatter_S32x8_S128x256x1_S128x256x8_2_0_0_2.start (ix3 q s h') idx 0 = (idx (ix3 q s 0)).toInt := by
    unfold ScatterDims.start
    rw [dif_pos (show (0 : Fin 2) ∈ scatter_S32x8_S128x256x1_S128x256x8_2_0_0_2.scatterDimsToOperandDims from List.mem_singleton.mpr rfl)]
    refine congrArg (fun i => (idx i).toInt) (funext fun b => Fin.ext ?_)
    match b with
    | ⟨0, _⟩ => rfl
    | ⟨1, _⟩ => rfl
    | ⟨2, _⟩ => rfl
  have e2 : scatter_S32x8_S128x256x1_S128x256x8_2_0_0_2.start (ix3 q s h') idx 1 = 0 := by
    unfold ScatterDims.start
    rw [dif_neg (show (1 : Fin 2) ∉ scatter_S32x8_S128x256x1_S128x256x8_2_0_0_2.scatterDimsToOperandDims from fun h => by
      have := List.mem_singleton.mp h; exact absurd this (by decide))]
  have e3 : scatter_S32x8_S128x256x1_S128x256x8_2_0_0_2.window (ix3 q s h') 0 = 0 := rfl
  have e4 : scatter_S32x8_S128x256x1_S128x256x8_2_0_0_2.window (ix3 q s h') 1 = h'.val := rfl
  rw [e1, e2, e3, e4, Fin.ext_iff]
  constructor
  · rintro ⟨a, b⟩; exact ⟨by simpa using a, by omega⟩
  · rintro ⟨a, b⟩; exact ⟨by simpa using a, by omega⟩

/-- The padded array. -/
theorem pad_ref {α : Type} (x : S3968x128.Idx → α) (v : S_.Idx → α) (i : Fin 4096) (l : Fin 128) :
    pad S4096x128 ![0, 0] ![128, 0] ![0, 0] x v pads_S3968x128_S4096x128_01280_000 h_S_ (ix2 i l)
      = if h : i.val < 3968 then x (ix2 ⟨i.val, h⟩ l) else v (Shape.Idx.first h_S_) := by
  rw [pad_apply]
  split
  · rename_i h
    have h0 : (i.val - 0) / 1 < 3968 := (h 0).2.2
    rw [dif_pos (by omega)]
    exact at2 x _ _ _ (by show (i.val - 0) / 1 = i.val; omega) (by show (l.val - 0) / 1 = l.val; omega)
  · rename_i h
    rw [dif_neg]
    intro hh
    refine h fun a => ?_
    match a with
    | ⟨0, _⟩ => exact ⟨Nat.zero_le _, Nat.mod_one _, by show (i.val - 0) / 1 < 3968; omega⟩
    | ⟨1, _⟩ => exact ⟨Nat.zero_le _, Nat.mod_one _, by show (l.val - 0) / 1 < 128; omega⟩

/-- The two products over a group's rows. -/
theorem dotV_ref (a : Vec Ideal S32x2x64x4x128 .f32) (p : Vec Ideal S32x2x4x128x256 .f32) (n : Fin 32) (k : Fin 2) (d : Fin 64) (s : Fin 256) :
    ((Host.dotGeneral (F := Ideal) (φ₁ := .f32) (φ₂ := .f32) dot_S32x2x64x4x128_S32x2x4x128x256_S32x2x64x256_34_23_2_4_01_01 none a p : Vec Ideal S32x2x64x256 .f32) (ix4 n k d s) : EReal)
      = ∑ g : Fin 4, ∑ q : Fin 128, (a (ix5 n k d g q) : EReal) * (p (ix5 n k g q s) : EReal) := by
  simp only [Host.dotGeneral]
  rw [Ideal.dotGeneral_apply, ValueIdx.sum_contr2 _ 4 128 rfl rfl rfl]
  refine Finset.sum_congr rfl fun g _ => Finset.sum_congr rfl fun q _ => ?_
  have h0 := ValueIdx.contrEquiv2_symm_val0 dot_S32x2x64x4x128_S32x2x4x128x256_S32x2x64x256_34_23_2_4_01_01 4 128 rfl rfl rfl (g, q)
  have h1 := ValueIdx.contrEquiv2_symm_val1 dot_S32x2x64x4x128_S32x2x4x128x256_S32x2x64x256_34_23_2_4_01_01 4 128 rfl rfl rfl (g, q)
  exact congrArg₂ (fun x y : EReal => x * y) (at5 a _ n k d g q rfl rfl rfl h0 h1) (at5 p _ n k g q s rfl rfl h0 h1 rfl)
theorem dotK_ref (w : Vec Ideal S32x2x256x128x4 .f32) (x : Vec Ideal S32x128x2x4x64 .f32) (n : Fin 32) (k : Fin 2) (s : Fin 256) (d : Fin 64) :
    ((Host.dotGeneral (F := Ideal) (φ₁ := .f32) (φ₂ := .f32) dot_S32x2x256x128x4_S32x128x2x4x64_S32x2x256x64_34_13_2_4_01_02 none w x : Vec Ideal S32x2x256x64 .f32) (ix4 n k s d) : EReal)
      = ∑ q : Fin 128, ∑ g : Fin 4, (w (ix5 n k s q g) : EReal) * (x (ix5 n q k g d) : EReal) := by
  simp only [Host.dotGeneral]
  rw [Ideal.dotGeneral_apply, ValueIdx.sum_contr2 _ 128 4 rfl rfl rfl]
  refine Finset.sum_congr rfl fun q _ => Finset.sum_congr rfl fun g _ => ?_
  have h0 := ValueIdx.contrEquiv2_symm_val0 dot_S32x2x256x128x4_S32x128x2x4x64_S32x2x256x64_34_13_2_4_01_02 128 4 rfl rfl rfl (q, g)
  have h1 := ValueIdx.contrEquiv2_symm_val1 dot_S32x2x256x128x4_S32x128x2x4x64_S32x2x256x64_34_13_2_4_01_02 128 4 rfl rfl rfl (q, g)
  exact congrArg₂ (fun x y : EReal => x * y) (at5 w _ n k s q g rfl rfl rfl h0 h1) (at5 x _ n q k g d rfl h0 rfl h1 rfl)

variable {x0 : AQ} {x1 x2 : AK} {x3 : AQ} {x4 : AB} {x5 : AS} {X : Args} (hX : RArgs x0 x1 x2 x3 x4 x5 X)
variable (n : Fin 32) (k : Fin 2) (g : Fin 4) (q : Fin 128) (s : Fin 256) (d : Fin 64)

include hX
/-- The blocks' gradients of one bias, added. -/
theorem upd_ref : (val_main_v225 (F := Ideal) x0 x1 x2 x3 x4 x5 (ix3 q s (head4 k g)) : EReal) = ∑ n : Fin 32, X.ds n (head4 k g) q s := by
  have hs := s.isLt; have hq := q.isLt; have hg := g.isLt
  rw [val_main_v225_apply]
  refine (at3 (val_main_v224 (F := Ideal) x0 x1 x2 x3 x4 x5) _ (head4 k g) q s rfl rfl rfl).trans ?_
  rw [val_main_v224_apply]
  refine (at4 (val_main_v223 (F := Ideal) x0 x1 x2 x3 x4 x5) _ k g q s
    (by show (((4 * k.val + g.val) * 128 + q.val) * 256 + s.val) / 131072 = k.val; omega)
    (by show (((4 * k.val + g.val) * 128 + q.val) * 256 + s.val) / 32768 % 4 = g.val; omega)
    (by show (((4 * k.val + g.val) * 128 + q.val) * 256 + s.val) / 256 % 128 = q.val; omega)
    (by show (((4 * k.val + g.val) * 128 + q.val) * 256 + s.val) % 256 = s.val; omega)).trans ?_
  rw [val_main_v223_apply, val_main_cst_50_apply, Fin.sum_univ_one, val_main_v222_apply]
  rw [show val_main_v221 (F := Ideal) x0 x1 x2 x3 x4 x5 (idx_main_v222 (idx_main_v223 (ix4 k g q s) 0)) = _ from
    (at4 (val_main_v221 (F := Ideal) x0 x1 x2 x3 x4 x5) (idx_main_v222 (idx_main_v223 (ix4 k g q s) 0)) k g q s
      (by show ((((0 * 2 + k.val) * 4 + g.val) * 128 + q.val) * 256 + s.val) / 131072 = k.val; omega)
      (by show ((((0 * 2 + k.val) * 4 + g.val) * 128 + q.val) * 256 + s.val) / 32768 % 4 = g.val; omega)
      (by show ((((0 * 2 + k.val) * 4 + g.val) * 128 + q.val) * 256 + s.val) / 256 % 128 = q.val; omega)
      (by show ((((0 * 2 + k.val) * 4 + g.val) * 128 + q.val) * 256 + s.val) % 256 = s.val; omega))]
  rw [val_main_v221_apply, val_main_cst_49_apply]
  refine (congrArg₂ (fun a b : EReal => a + b) zero_bits (congrArg₂ (fun a b : EReal => a + b) zero_bits
    (Finset.sum_congr rfl fun n _ => ?_))).trans ((zero_add _).trans (zero_add _))
  exact (at5 (val_main_v220 (F := Ideal) x0 x1 x2 x3 x4 x5) _ n k g q s rfl rfl rfl rfl rfl).trans (ds_ref hX n k g q s)

omit hX in
theorem head_split (h : Fin 8) : ∃ (k : Fin 2) (g : Fin 4), h = head4 k g :=
  ⟨⟨h.val / 4, by omega⟩, ⟨h.val % 4, by omega⟩, Fin.ext (by simp only [head4]; omega)⟩

/-- The biases' gradient. -/
theorem dbias_ref (b : Fin 32) (h : Fin 8) : (val_main_v227 (F := Ideal) x0 x1 x2 x3 x4 x5 (ix2 b h) : EReal) = X.dbias b h := by
  obtain ⟨k, g, rfl⟩ := head_split h
  unfold val_main_v227 Host.scatterAdd
  refine Eq.trans (b := (val_main_v226 (F := Ideal) (ix2 b (head4 k g)) : EReal) + ∑ j ∈ Finset.univ.filter
    (fun j => scatter_S32x8_S128x256x1_S128x256x8_2_0_0_2.resultIdx? j (val_main_v126 (F := Ideal)) = some (ix2 b (head4 k g))),
      (val_main_v225 (F := Ideal) x0 x1 x2 x3 x4 x5 j : EReal)) rfl ?_
  rw [val_main_v226_apply, val_main_cst_51_apply, Finset.sum_filter, sum_idx3, Finset.sum_comm]
  refine (congrArg (· + _) zero_bits).trans ((zero_add _).trans ?_)
  unfold Args.dbias
  refine Finset.sum_congr rfl fun s _ => Finset.sum_congr rfl fun q _ => ?_
  have e : (val_main_v126 (F := Ideal) (ix3 q s 0)) = val_main_v125 (F := Ideal) (ix2 q s) := by
    rw [val_main_v126_apply]
    exact at2 (val_main_v125 (F := Ideal)) _ q s rfl rfl
  have hb := b.isLt
  refine Eq.trans (b := if (val_main_v125 (F := Ideal) (ix2 q s)).toInt = (b.val : Int) then ∑ n : Fin 32, X.ds n (head4 k g) q s else 0) ?_ ?_
  · refine (Finset.sum_eq_single (head4 k g) (fun h' _ hh => if_neg fun hc => hh ((scatter_at _ q s h' b _).mp hc).2)
      (fun hh => absurd (Finset.mem_univ _) hh)).trans ?_
    rw [upd_ref hX]
    refine if_congr ?_ rfl rfl
    rw [scatter_at, e]
    exact ⟨fun hc => hc.1, fun hc => ⟨hc, rfl⟩⟩
  · by_cases h : q.val < s.val ∧ s.val ≤ q.val + 128
    · rw [bucket_ref q s h]
      have e2 : bucketT q.val s.val = BitVec.ofNat 32 (bucketN (128 + q.val - s.val)) := by
        unfold bucketT
        rw [Nat.blt_eq.mpr h.1, Nat.ble_eq.mpr h.2]; rfl
      have hl := bucketN_lt (128 + q.val - s.val)
      rw [e2]
      refine if_congr ⟨fun hc => ?_, fun hc => ?_⟩ rfl rfl
      · rw [WordCmp.toInt_ofNat_of_lt (by omega)] at hc
        exact congrArg _ (by omega)
      · rw [hc, WordCmp.toInt_ofNat_of_lt (by omega)]
    · have hz : ∑ n : Fin 32, X.ds n (head4 k g) q s = 0 := Finset.sum_eq_zero fun n _ => by
        unfold Args.ds dsR
        rw [X.prob_masked n (head4 k g) q s (by
          cases ho : okN n q s
          · rfl
          · exact absurd (okN_window n q s ho) h), zero_mul]
      rw [hz]
      split <;> split <;> rfl

/-- The queries' gradient. -/
theorem dq_ref : (val_main_v251 (F := Ideal) x0 x1 x2 x3 x4 x5 (ix2 (rowN n q) (lane8 (head4 k g) d)) : EReal) = X.dq n (head4 k g) q d := by
  have hd := d.isLt; have hq := q.isLt; have hg := g.isLt
  rw [val_main_v251_apply]
  refine (at5 (val_main_v232 (F := Ideal) x0 x1 x2 x3 x4 x5) _ n q k g d
    (by show ((128 * n.val + q.val) * 512 + (64 * (4 * k.val + g.val) + d.val)) / 65536 = n.val; omega)
    (by show ((128 * n.val + q.val) * 512 + (64 * (4 * k.val + g.val) + d.val)) / 512 % 128 = q.val; omega)
    (by show ((128 * n.val + q.val) * 512 + (64 * (4 * k.val + g.val) + d.val)) / 256 % 2 = k.val; omega)
    (by show ((128 * n.val + q.val) * 512 + (64 * (4 * k.val + g.val) + d.val)) / 64 % 4 = g.val; omega)
    (by show ((128 * n.val + q.val) * 512 + (64 * (4 * k.val + g.val) + d.val)) % 64 = d.val; omega)).trans ?_
  rw [val_main_v232_apply]
  refine (at5 (val_main_v231 (F := Ideal) x0 x1 x2 x3 x4 x5) _ n k q g d rfl rfl rfl rfl rfl).trans ?_
  rw [val_main_v231_apply]
  unfold Args.dq
  refine Finset.sum_congr rfl fun s _ => congrArg₂ (fun a b : EReal => a * b) ?_ ?_
  · exact (at5 (val_main_v230 (F := Ideal) x0 x1 x2 x3 x4 x5) _ n k s q g rfl rfl rfl rfl rfl).trans (by
      rw [val_main_v230_apply]
      refine (at5 (val_main_v229 (F := Ideal) x0 x1 x2 x3 x4 x5) _ n k g q s rfl rfl rfl rfl rfl).trans ?_
      rw [val_main_v229_apply, val_main_v228_apply, val_main_cst_52_apply, ds_ref hX]
      exact congrArg (fun t : EReal => _ * t) eighth)
  · exact (at4 (val_main_v9 (F := Ideal) x1) _ n s k d rfl rfl rfl rfl).trans
      ((bandK_ref n k s d X.K x1 hX.k).trans (by rw [lane2_head4]))

theorem dkN_ref : (val_main_v234 (F := Ideal) x0 x1 x2 x3 x4 x5 (ix4 n s k d) : EReal) = X.dkN n k d s := by
  rw [val_main_v234_apply]
  refine (at4 (val_main_v233 (F := Ideal) x0 x1 x2 x3 x4 x5) _ n k s d rfl rfl rfl rfl).trans ?_
  unfold val_main_v233
  refine (dotK_ref _ _ n k s d).trans ?_
  unfold Args.dkN kvSum
  rw [Finset.sum_comm]
  refine Finset.sum_congr rfl fun g _ => Finset.sum_congr rfl fun q _ => congrArg₂ (fun a b : EReal => a * b) ?_ ?_
  · rw [val_main_v230_apply]
    refine (at5 (val_main_v229 (F := Ideal) x0 x1 x2 x3 x4 x5) _ n k g q s rfl rfl rfl rfl rfl).trans ?_
    rw [val_main_v229_apply, val_main_v228_apply, val_main_cst_52_apply, ds_ref hX]
    exact congrArg (fun t : EReal => _ * t) eighth
  · exact (q_ref n k g q d x0).trans (hX.q _ _)

theorem dvN_ref : (val_main_v187 (F := Ideal) x0 x1 x3 x4 x5 (ix4 n s k d) : EReal) = X.dvN n k d s := by
  rw [val_main_v187_apply]
  refine (at4 (val_main_v186 (F := Ideal) x0 x1 x3 x4 x5) _ n k d s rfl rfl rfl rfl).trans ?_
  unfold val_main_v186
  refine (dotV_ref _ _ n k d s).trans ?_
  unfold Args.dvN kvSum
  refine Finset.sum_congr rfl fun g _ => Finset.sum_congr rfl fun q _ => ?_
  rw [prob_ref hX, mul_comm]
  exact congrArg (fun t : EReal => _ * t) ((datt_ref n k g q d).trans (hX.a _ _))

/-- The keys' gradient. -/
theorem dk_ref : (val_main_v250 (F := Ideal) x0 x1 x2 x3 x4 x5 (ix2 (rowN n q) (laneK k d)) : EReal) = X.dk n k q d := by
  have hd := d.isLt; have hq := q.isLt; have hk := k.isLt
  rw [val_main_v250_apply, val_main_v245_apply]
  unfold Args.dk val_main_v249
  rw [pad_ref]
  refine congrArg₂ (fun a b : EReal => a + b) ?_ ?_
  · refine (at4 (val_main_v244 (F := Ideal) x0 x1 x2 x3 x4 x5) _ n q k d
      (by show ((128 * n.val + q.val) * 128 + (64 * k.val + d.val)) / 16384 = n.val; omega)
      (by show ((128 * n.val + q.val) * 128 + (64 * k.val + d.val)) / 128 % 128 = q.val; omega)
      (by show ((128 * n.val + q.val) * 128 + (64 * k.val + d.val)) / 64 % 2 = k.val; omega)
      (by show ((128 * n.val + q.val) * 128 + (64 * k.val + d.val)) % 64 = d.val; omega)).trans ?_
    rw [val_main_v244_apply]
    exact (at4 (val_main_v234 (F := Ideal) x0 x1 x2 x3 x4 x5) _ n (up q) k d rfl rfl rfl rfl).trans (dkN_ref hX n k (up q) d)
  · by_cases h : n.val + 1 < 32
    · rw [dif_pos (show (rowN n q).val < 3968 by simp only [rowN]; omega), dif_pos h, val_main_v248_apply]
      refine (at2 (val_main_v246 (F := Ideal) x0 x1 x2 x3 x4 x5) _ (rowN ⟨n.val + 1, h⟩ q) (laneK k d)
        (by show 128 + (128 * n.val + q.val) = 128 * (n.val + 1) + q.val; omega) rfl).trans ?_
      rw [val_main_v246_apply]
      refine (at4 (val_main_v243 (F := Ideal) x0 x1 x2 x3 x4 x5) _ ⟨n.val + 1, h⟩ q k d
        (by show ((128 * (n.val + 1) + q.val) * 128 + (64 * k.val + d.val)) / 16384 = n.val + 1; omega)
        (by show ((128 * (n.val + 1) + q.val) * 128 + (64 * k.val + d.val)) / 128 % 128 = q.val; omega)
        (by show ((128 * (n.val + 1) + q.val) * 128 + (64 * k.val + d.val)) / 64 % 2 = k.val; omega)
        (by show ((128 * (n.val + 1) + q.val) * 128 + (64 * k.val + d.val)) % 64 = d.val; omega)).trans ?_
      rw [val_main_v243_apply]
      exact (at4 (val_main_v234 (F := Ideal) x0 x1 x2 x3 x4 x5) _ ⟨n.val + 1, h⟩ (dn q) k d rfl rfl rfl rfl).trans (dkN_ref hX ⟨n.val + 1, h⟩ k (dn q) d)
    · rw [dif_neg (show ¬ (rowN n q).val < 3968 by simp only [rowN]; omega), dif_neg h, val_main_cst_54_apply]
      exact zero_bits
/-- The values' gradient. -/
theorem dv_ref : (val_main_v242 (F := Ideal) x0 x1 x3 x4 x5 (ix2 (rowN n q) (laneK k d)) : EReal) = X.dv n k q d := by
  have hd := d.isLt; have hq := q.isLt; have hk := k.isLt
  rw [val_main_v242_apply, val_main_v237_apply]
  unfold Args.dv val_main_v241
  rw [pad_ref]
  refine congrArg₂ (fun a b : EReal => a + b) ?_ ?_
  · refine (at4 (val_main_v236 (F := Ideal) x0 x1 x3 x4 x5) _ n q k d
      (by show ((128 * n.val + q.val) * 128 + (64 * k.val + d.val)) / 16384 = n.val; omega)
      (by show ((128 * n.val + q.val) * 128 + (64 * k.val + d.val)) / 128 % 128 = q.val; omega)
      (by show ((128 * n.val + q.val) * 128 + (64 * k.val + d.val)) / 64 % 2 = k.val; omega)
      (by show ((128 * n.val + q.val) * 128 + (64 * k.val + d.val)) % 64 = d.val; omega)).trans ?_
    rw [val_main_v236_apply]
    exact (at4 (val_main_v187 (F := Ideal) x0 x1 x3 x4 x5) _ n (up q) k d rfl rfl rfl rfl).trans (dvN_ref hX n k (up q) d)
  · by_cases h : n.val + 1 < 32
    · rw [dif_pos (show (rowN n q).val < 3968 by simp only [rowN]; omega), dif_pos h, val_main_v240_apply]
      refine (at2 (val_main_v238 (F := Ideal) x0 x1 x3 x4 x5) _ (rowN ⟨n.val + 1, h⟩ q) (laneK k d)
        (by show 128 + (128 * n.val + q.val) = 128 * (n.val + 1) + q.val; omega) rfl).trans ?_
      rw [val_main_v238_apply]
      refine (at4 (val_main_v235 (F := Ideal) x0 x1 x3 x4 x5) _ ⟨n.val + 1, h⟩ q k d
        (by show ((128 * (n.val + 1) + q.val) * 128 + (64 * k.val + d.val)) / 16384 = n.val + 1; omega)
        (by show ((128 * (n.val + 1) + q.val) * 128 + (64 * k.val + d.val)) / 128 % 128 = q.val; omega)
        (by show ((128 * (n.val + 1) + q.val) * 128 + (64 * k.val + d.val)) / 64 % 2 = k.val; omega)
        (by show ((128 * (n.val + 1) + q.val) * 128 + (64 * k.val + d.val)) % 64 = d.val; omega)).trans ?_
      rw [val_main_v235_apply]
      exact (at4 (val_main_v187 (F := Ideal) x0 x1 x3 x4 x5) _ ⟨n.val + 1, h⟩ (dn q) k d rfl rfl rfl rfl).trans (dvN_ref hX ⟨n.val + 1, h⟩ k (dn q) d)
    · rw [dif_neg (show ¬ (rowN n q).val < 3968 by simp only [rowN]; omega), dif_neg h, val_main_cst_53_apply]
      exact zero_bits

end Cert.Attn
-- ==== Proof.AttnRefE.lean ====
module

public import proofs.«01_k».proof.Proof.AttnRefD

set_option maxRecDepth 16384

/-! # The reference's three results -/

@[expose] public section

noncomputable section

namespace Cert.Attn

open Cert.Reference2Ideal Cert.Reference2Ideal.Gen Idealize.ShloMosaic Idealize.ShloMosaic.TcCoe Cert.Reference2Ideal.Read

variable {x0 : AQ} {x1 x2 : AK} {x3 : AQ} {x4 : AB} {x5 : AS} {X : Args} (hX : RArgs x0 x1 x2 x3 x4 x5 X)
include hX

/-- The queries' gradient. -/
theorem res_q : (val_main_v259 (F := Ideal) x0 x1 x2 x3 x4 x5 : Vec Ideal S4096x512 .bf16) = fun i => X.dqA (i 0) (i 1) := by
  funext i
  obtain ⟨r, l, rfl⟩ : ∃ (r : Fin 4096) (l : Fin 512), i = ix2 r l := ⟨i 0, i 1, eq_ix2 i⟩
  obtain ⟨n, q, rfl⟩ := row_split r
  obtain ⟨h, d, rfl⟩ := lane8_split l
  obtain ⟨k, g, rfl⟩ := head_split h
  exact (dq_ref hX n k g q d).trans (X.dqA_at n (head4 k g) q d).symm

omit hX in
/-- The keys' and the values' gradients, side by side. -/
theorem cat_kv (r : Fin 4096) (l : Fin 256) : (val_main_v260 (F := Ideal) x0 x1 x2 x3 x4 x5 (ix2 r l) : EReal)
    = if h : l.val < 128 then (val_main_v250 (F := Ideal) x0 x1 x2 x3 x4 x5 (ix2 r ⟨l.val, h⟩) : EReal)
      else (val_main_v242 (F := Ideal) x0 x1 x3 x4 x5 (ix2 r ⟨l.val - 128, by omega⟩) : EReal) := by
  unfold val_main_v260
  pointwise []
theorem res_kv : (val_main_v261 (F := Ideal) x0 x1 x2 x3 x4 x5 : Vec Ideal S4096x256 .bf16) = fun i => X.dkvA (i 0) (i 1) := by
  funext i
  obtain ⟨r, l, rfl⟩ : ∃ (r : Fin 4096) (l : Fin 256), i = ix2 r l := ⟨i 0, i 1, eq_ix2 i⟩
  obtain ⟨n, q, rfl⟩ := row_split r
  obtain ⟨b, k, d, rfl⟩ := laneKV_split l
  have hk := k.isLt; have hd := d.isLt
  refine (cat_kv (rowN n q) (laneKV b k d)).trans ?_
  have hb : b = 0 ∨ b = 1 := by omega
  rcases hb with rfl | rfl
  · rw [dif_pos (show (laneKV 0 k d).val < 128 by simp only [laneKV, Fin.val_zero]; omega)]
    exact (at2 (val_main_v250 (F := Ideal) x0 x1 x2 x3 x4 x5) _ (rowN n q) (laneK k d) rfl
      (by show 128 * 0 + 64 * k.val + d.val = 64 * k.val + d.val; omega)).trans ((dk_ref hX n k q d).trans (X.dkvA_k n k q d).symm)
  · rw [dif_neg (show ¬ (laneKV 1 k d).val < 128 by simp only [laneKV, Fin.val_one]; omega)]
    exact (at2 (val_main_v242 (F := Ideal) x0 x1 x3 x4 x5) _ (rowN n q) (laneK k d) rfl
      (by show 128 * 1 + 64 * k.val + d.val - 128 = 64 * k.val + d.val; omega)).trans ((dv_ref hX n k q d).trans (X.dkvA_v n k q d).symm)

/-- The biases' gradient, the sinks' gradient and the padding, below one another. -/
theorem cat_small (h : Fin 8) (r : Fin 40) : (val_main_v258 (F := Ideal) x0 x1 x2 x3 x4 x5 (ix2 h r) : EReal) = X.small h r := by
  have hh := h.isLt
  unfold Args.small
  by_cases h1 : r.val < 32
  · rw [dif_pos h1]
    refine Eq.trans (b := (val_main_v255 (F := Ideal) x0 x1 x2 x3 x4 x5 (ix2 h ⟨r.val, h1⟩) : EReal)) ?_ ?_
    · unfold val_main_v258
      pointwise []
      simp [h1]
    · rw [val_main_v255_apply]
      refine (at2 (val_main_v254 (F := Ideal) x0 x1 x2 x3 x4 x5) _ ⟨r.val, h1⟩ h rfl rfl).trans ?_
      rw [val_main_v254_apply]
      refine (at3 (val_main_v252 (F := Ideal) x0 x1 x2 x3 x4 x5) _ 0 ⟨r.val, h1⟩ h rfl
        (by show (r.val * 8 + h.val) / 8 % 32 = r.val; omega) (by show (r.val * 8 + h.val) % 8 = h.val; omega)).trans ?_
      rw [val_main_v252_apply]
      exact (at2 (val_main_v227 (F := Ideal) x0 x1 x2 x3 x4 x5) _ ⟨r.val, h1⟩ h rfl rfl).trans (dbias_ref hX _ _)
  · rw [dif_neg h1]
    by_cases h2 : r.val = 32
    · rw [if_pos h2]
      refine Eq.trans (b := (val_main_v256 (F := Ideal) x0 x1 x2 x3 x4 x5 (ix2 h 0) : EReal)) ?_ ?_
      · unfold val_main_v258
        pointwise []
        simp [h2]
      · obtain ⟨k, g, rfl⟩ := head_split h
        rw [val_main_v256_apply]
        refine (at2 (val_main_v253 (F := Ideal) x0 x1 x2 x3 x4 x5) _ 0 (head4 k g) rfl rfl).trans ?_
        rw [val_main_v253_apply]
        exact (at1 (val_main_v218 (F := Ideal) x0 x1 x2 x3 x4 x5) _ (head4 k g) rfl).trans (dsink_ref hX k g)
    · rw [if_neg h2]
      refine Eq.trans (b := (val_main_v257 (F := Ideal) (ix2 h ⟨r.val - 33, by omega⟩) : EReal)) ?_ ?_
      · unfold val_main_v258
        pointwise []
        rw [dif_neg h1, dif_neg (by omega)]
        exact at2 (val_main_v257 (F := Ideal)) _ h _ rfl rfl
      · rw [val_main_v257_apply, val_main_cst_55_apply]
        exact zero_bits
theorem res_small : (val_main_v263 (F := Ideal) x0 x1 x2 x3 x4 x5 : Vec Ideal S8x40x128 .f32) = fun i => X.small (i 0) (i 1) := by
  funext i
  obtain ⟨h, r, l, rfl⟩ : ∃ (h : Fin 8) (r : Fin 40) (l : Fin 128), i = ix3 h r l := ⟨i 0, i 1, i 2, eq_ix3 i⟩
  rw [val_main_v263_apply]
  refine (at3 (val_main_v262 (F := Ideal) x0 x1 x2 x3 x4 x5) _ h r 0 rfl rfl rfl).trans ?_
  rw [val_main_v262_apply]
  exact (at2 (val_main_v258 (F := Ideal) x0 x1 x2 x3 x4 x5) _ h r rfl rfl).trans (cat_small hX h r)

end Cert.Attn
-- ==== Proof.AttnClaims.lean ====
module

public import proofs.«01_k».proof.Defs
public import proofs.«01_k».proof.Proof.AttnFinal
public import proofs.«01_k».proof.Proof.AttnFrames
public import proofs.«01_k».proof.Proof.AttnFinite
public import proofs.«01_k».proof.Proof.AttnRefE

set_option maxRecDepth 16384

/-! # The claims about the attention's backward call -/

@[expose] public section

noncomputable section

namespace Cert.Attn

open Idealize.ShloMosaic Idealize.ShloMosaic.TcCoe Idealize.SL.Sem

/-- The reference's frame: it has no semaphores and keeps its arguments. -/
theorem frame_reference : Cert.quiescent_Reference2Ideal := fun m ρ _ =>
  (θ_run Cert.Reference2Ideal.defs _ _).mono (fun r h => ⟨fun c => (h c).2.2.2,
      Idealize.ShloMosaic.sem_eq_zero_of_no_sems (by decide) r.2⟩)
    (Cert.Reference2Ideal.Value.run (F := Ideal) m ρ)

theorem frame_ideal_pre : Cert.quiescent_Kernel2Ideal_pre_finite := fun m ρ _ => frame_ideal m ρ trivial
theorem frame_reference_pre : Cert.quiescent_Reference2Ideal_pre_finite := fun m ρ _ => frame_reference m ρ trivial

/-- The mask's constant stands for minus infinity. -/
theorem preserves : Cert.preserves_Kernel2_Kernel2Ideal := IdealRules.named_const.statement Cert.Kernel2Ideal.κ "mask" .f32 0xF149F2CA#32 ⊥ rfl

section
open Cert.Kernel2Ideal Cert.Kernel2Ideal.Gen
variable (m : (ℓ : Loc nD τ sig) → Buf (Elt Ideal) ℓ) (c : Dev nD)

/-- The arguments as real numbers. -/
def margs : Args := realArgs (m (c.tc.loc main_arg0)) (m (c.tc.loc main_arg1)) (m (c.tc.loc main_arg2)) (m (c.tc.loc main_arg3))
  (m (c.tc.loc main_arg4)) (m (c.tc.loc main_arg5))

theorem margs_ok (h : Cert.Pre_Kernel2Ideal_finite m) : KArgs m c (margs m c) := by
  obtain ⟨h0, h1, h2, h3, h4, h5⟩ := pre_real _ _ _ _ _ _ (h c)
  exact ⟨fun i l => h0 _, fun i l => h1 _, fun i l => h2 _, fun i l => h3 _, fun b h => h4 _, fun h => h5 _⟩
end

/-- Over the extended reals, on finite arguments, the call computes what differentiating the attention gives. -/
theorem algebraic : Cert.algebraic_Kernel2Ideal_Reference2Ideal_pre_finite := fun m ρ m' ρ' hp hag => by
  have hR : ∀ c : Dev Cert.Reference2Ideal.nD, RArgs (m' (c.tc.loc Cert.Reference2Ideal.main_arg0)) (m' (c.tc.loc Cert.Reference2Ideal.main_arg1))
      (m' (c.tc.loc Cert.Reference2Ideal.main_arg2)) (m' (c.tc.loc Cert.Reference2Ideal.main_arg3)) (m' (c.tc.loc Cert.Reference2Ideal.main_arg4))
      (m' (c.tc.loc Cert.Reference2Ideal.main_arg5)) (margs m c) := fun c => by
    obtain ⟨e0, e1, e2, e3, e4, e5⟩ := hag c
    rw [e0, e1, e2, e3, e4, e5]
    exact margs_ok m c hp
  refine ⟨fun c => _, fun c => _, fun c => _,
    (θ_run _ _ _).mono (fun r h c => ⟨(final (margs m c) (margs_ok m c hp) h.1).1, (final (margs m c) (margs_ok m c hp) h.1).2.1,
      (final (margs m c) (margs_ok m c hp) h.1).2.2, kept m (specV m) r h.1 c⟩) (launch m ρ (specV m) (stepsV m)),
    (θ_run _ _ _).mono (fun r h c => ⟨(h c).1.trans ?_, (h c).2.1.trans ?_, (h c).2.2.1.trans ?_, (h c).2.2.2⟩)
    (Cert.Reference2Ideal.Value.run (F := Ideal) m' ρ')⟩
  · rw [Cert.Reference2Ideal.Read.val_main_v259_eq]
    exact res_q (hR c)
  · rw [Cert.Reference2Ideal.Read.val_main_v261_eq]
    exact res_kv (hR c)
  · rw [Cert.Reference2Ideal.Read.val_main_v263_eq]
    exact res_small (hR c)

end Cert.Attn
-- ==== Proof.MlpTile.lean ====
module

public import proofs.«01_k».proof.Proof.Gen.Kernel3Ideal.Frame
public import Idealize.ShloMosaic.Lib.Pointwise
public import Idealize.ShloMosaic.Lib.Pipeline.ValueKit
public import Idealize.ShloMosaic.Lib.Pipeline.CanonAppend

/-! # The perceptron's backward body: its loop's rows and its three tiles -/

@[expose] public section

set_option maxRecDepth 16384

noncomputable section

namespace Cert.Mlp

open Cert.Kernel3Ideal Cert.Kernel3Ideal.Gen Idealize.ShloMosaic Idealize.ShloMosaic.TcCoe Idealize.SL.Sem

/-- The activation: the positive part, squared. -/
def actT (x2 : Vec Ideal S4096x512 .bf16) : Vec Ideal S4096x512 .bf16 := fun y =>
  (max (x2 y : EReal) (Ideal.ofBits .f32 0x00000000#32) * max (x2 y : EReal) (Ideal.ofBits .f32 0x00000000#32) : EReal)
/-- The gradient of the preactivation. -/
def preT (x0 : Vec Ideal S4096x1024 .bf16) (x2 : Vec Ideal S4096x512 .bf16) (x3 : Vec Ideal S1x512x1024 .bf16) : Vec Ideal S4096x512 .bf16 := fun y =>
  ((∑ d : Fin 1024, (x0 (ix2 (y 0) d) : EReal) * x3 (ix3 0 (y 1) d))
    * (Ideal.ofBits .f32 0x40000000#32 * max (x2 y : EReal) (Ideal.ofBits .f32 0x00000000#32)) : EReal)

variable (𝒱 : Variants) (c : Dev nD) (bd : Option 𝒱.V) (i : grid0.Coords) (a1 : Memref sig .tc .vmem S4096x1024 .bf16) (h1 : a1.IsWhole) (a2 : Memref sig .tc .vmem S4096x1024 .bf16) (h2 : a2.IsWhole) (a3 : Memref sig .tc .vmem S4096x512 .bf16) (h3 : a3.IsWhole) (a4 : Memref sig .tc .vmem S1x512x1024 .bf16) (h4 : a4.IsWhole) (a5 : Memref sig .tc .vmem S1x1024x512 .f32) (h5 : a5.IsWhole) (a6 : Memref sig .tc .vmem S1x512x1024 .f32) (h6 : a6.IsWhole) (a7 : Memref sig .tc .vmem S4096x512 .bf16) (h7 : a7.IsWhole) (a8 : Memref sig .tc .vmem S4096x512 .bf16) (h8 : a8.IsWhole)
  (x0 : Vec Ideal S4096x1024 .bf16) (x1 : Vec Ideal S4096x1024 .bf16) (x2 : Vec Ideal S4096x512 .bf16) (x3 : Vec Ideal S1x512x1024 .bf16)

theorem off_val (k : Fin k0_t1_loop.trips) : k0_off1 k = ![512 * k.val, 0] ∧ k0_off2 k = ![512 * k.val, 0] := by
  have : ∀ k : Fin k0_t1_loop.trips, k0_off1 k = ![512 * k.val, 0] ∧ k0_off2 k = ![512 * k.val, 0] := by decide +kernel
  exact this k

/-- The rows that trip `k` stores. -/
abbrev rows (k : Fin k0_t1_loop.trips) : Rect S4096x512 := Rect.unit (k0_off1 k) S512x512.size (k0_off1_inb k)

theorem trip_fst (k : Fin k0_t1_loop.trips) : (trip_k0_t1 (F := Ideal) 𝒱 c bd i a1 h1 a2 h2 a3 h3 a4 h4 a5 h5 a6 h6 a7 h7 a8 h8 (h1.unread x0) (h3.unread x2) (h4.unread x3) k).1
    = [⟨rows k, k0_pay2 (View.ld x2 (rows k)) (View.ld x0 (Rect.unit (k0_off2 k) S512x1024.size (k0_off2_inb k)))
        (View.ld x3 (Rect.unit ![0, 0, 0] S1x512x1024.size inb_S1x512x1024_S1x512x1024_0_0_0))⟩] := by
  unfold trip_k0_t1
  dsimp only
  sl_unfold_words
  simp only [View.readAt_eq_ld, h1.read_unread, h3.read_unread, h4.read_unread]
  rfl
theorem trip_snd (k : Fin k0_t1_loop.trips) : (trip_k0_t1 (F := Ideal) 𝒱 c bd i a1 h1 a2 h2 a3 h3 a4 h4 a5 h5 a6 h6 a7 h7 a8 h8 (h1.unread x0) (h3.unread x2) (h4.unread x3) k).2.1
    = [⟨rows k, k0_pay3 (View.ld x2 (rows k))⟩] := by
  unfold trip_k0_t1
  dsimp only
  sl_unfold_words
  simp only [View.readAt_eq_ld, h1.read_unread, h3.read_unread, h4.read_unread]
  rfl

theorem emb_rows (k : Fin k0_t1_loop.trips) (r : Fin 512) (j : Fin 512) :
    (rows k).emb (ix2 r j) = ix2 (⟨512 * k.val + r.val, by have := k.isLt; have h : k0_t1_loop.trips = 8 := by decide +kernel
                                                           omega⟩ : Fin 4096) j := by
  funext a
  apply Fin.ext
  refine (Rect.idx_unit_val _ _ _ _ _).trans ?_
  fin_cases a <;> simp [off_val]

theorem pay2_at (a : Vec Ideal S512x512 .bf16) (b : Vec Ideal S512x1024 .bf16) (w : Vec Ideal S1x512x1024 .bf16) (r j : Fin 512) :
    (k0_pay2 a b w (ix2 r j) : EReal) = (∑ d : Fin 1024, (b (ix2 r d) : EReal) * w (ix3 0 j d))
      * (Ideal.ofBits .f32 0x40000000#32 * max (a (ix2 r j) : EReal) (Ideal.ofBits .f32 0x00000000#32)) := by
  pointwise [k0_pay2, k0_pay1]
theorem pay3_at (a : Vec Ideal S512x512 .bf16) (r j : Fin 512) :
    (k0_pay3 a (ix2 r j) : EReal) = max (a (ix2 r j) : EReal) (Ideal.ofBits .f32 0x00000000#32) * max (a (ix2 r j) : EReal) (Ideal.ofBits .f32 0x00000000#32) := by
  pointwise [k0_pay3, k0_pay1]
theorem pay4_at (a : Vec Ideal S4096x512 .bf16) (b : Vec Ideal S4096x1024 .bf16) (r : Fin 512) (j : Fin 1024) :
    (k0_pay4 a b (ix3 0 r j) : EReal) = ∑ n : Fin 4096, (a (ix2 n r) : EReal) * b (ix2 n j) := by
  pointwise [k0_pay4]
theorem pay5_at (a : Vec Ideal S4096x1024 .bf16) (b : Vec Ideal S4096x512 .bf16) (r : Fin 1024) (j : Fin 512) :
    (k0_pay5 a b (ix3 0 r j) : EReal) = ∑ n : Fin 4096, (a (ix2 n r) : EReal) * b (ix2 n j) := by
  pointwise [k0_pay5]

/-- A trip's rows of the preactivation's gradient. -/
theorem trip_pre (k : Fin k0_t1_loop.trips) : ∀ p ∈ (trip_k0_t1 (F := Ideal) 𝒱 c bd i a1 h1 a2 h2 a3 h3 a4 h4 a5 h5 a6 h6 a7 h7 a8 h8 (h1.unread x0) (h3.unread x2) (h4.unread x3) k).1,
    ∀ x, p.2 x = preT x0 x2 x3 (p.1.emb x) := by
  rw [trip_fst]
  intro p hp
  obtain rfl := List.mem_singleton.mp hp
  intro x
  obtain ⟨r, j, rfl⟩ : ∃ (r j : Fin 512), x = ix2 r j := ⟨x 0, x 1, by funext a; fin_cases a <;> rfl⟩
  refine (pay2_at _ _ _ r j).trans ?_
  dsimp only
  rw [emb_rows]
  unfold preT
  have e (d : Fin 1024) : View.ld x0 (Rect.unit (k0_off2 k) S512x1024.size (k0_off2_inb k)) (ix2 r d)
      = x0 (ix2 (⟨512 * k.val + r.val, by have := k.isLt; have h : k0_t1_loop.trips = 8 := by decide +kernel
                                          omega⟩ : Fin 4096) d) :=
    View.ld_unit_apply_of _ _ _ _ _ _ (by intro a; fin_cases a <;> simp [off_val])
  rw [View.ld_unit_zero (S := S1x512x1024) (by funext a; fin_cases a <;> rfl)]
  have e' : View.ld x2 (rows k) (ix2 r j) = x2 ((rows k).emb (ix2 r j)) := rfl
  rw [e', emb_rows]
  simp only [e]
  rfl

/-- A trip's rows of the activation. -/
theorem trip_act (k : Fin k0_t1_loop.trips) : ∀ p ∈ (trip_k0_t1 (F := Ideal) 𝒱 c bd i a1 h1 a2 h2 a3 h3 a4 h4 a5 h5 a6 h6 a7 h7 a8 h8 (h1.unread x0) (h3.unread x2) (h4.unread x3) k).2.1,
    ∀ x, p.2 x = actT x2 (p.1.emb x) := by
  rw [trip_snd]
  intro p hp
  obtain rfl := List.mem_singleton.mp hp
  intro x
  obtain ⟨r, j, rfl⟩ : ∃ (r j : Fin 512), x = ix2 r j := ⟨x 0, x 1, by funext a; fin_cases a <;> rfl⟩
  exact pay3_at _ r j

/-- The pieces of all the trips. -/
theorem pieces : ∀ n, n ≤ k0_t1_loop.trips →
    (∀ p ∈ (pb_k0_t1 (F := Ideal) 𝒱 c bd i a1 h1 a2 h2 a3 h3 a4 h4 a5 h5 a6 h6 a7 h7 a8 h8 (h1.unread x0) (h3.unread x2) (h4.unread x3) n).1, ∀ x, p.2 x = preT x0 x2 x3 (p.1.emb x))
    ∧ ∀ p ∈ (pb_k0_t1 (F := Ideal) 𝒱 c bd i a1 h1 a2 h2 a3 h3 a4 h4 a5 h5 a6 h6 a7 h7 a8 h8 (h1.unread x0) (h3.unread x2) (h4.unread x3) n).2, ∀ x, p.2 x = actT x2 (p.1.emb x)
  | 0, _ => ⟨fun p hp => absurd hp List.not_mem_nil, fun p hp => absurd hp List.not_mem_nil⟩
  | n + 1, hn => by
    have ih := pieces n (by omega)
    have e := pb_k0_t1_succ (F := Ideal) 𝒱 c bd i a1 h1 a2 h2 a3 h3 a4 h4 a5 h5 a6 h6 a7 h7 a8 h8 (h1.unread x0) (h3.unread x2) (h4.unread x3) ⟨n, hn⟩
    dsimp only at e
    rw [e]
    refine ⟨fun p hp => ?_, fun p hp => ?_⟩
    · rcases List.mem_append.mp hp with hp | hp
      · exact trip_pre 𝒱 c bd i a1 h1 a2 h2 a3 h3 a4 h4 a5 h5 a6 h6 a7 h7 a8 h8 x0 x2 x3 _ p hp
      · exact ih.1 p hp
    · rcases List.mem_append.mp hp with hp | hp
      · exact trip_act 𝒱 c bd i a1 h1 a2 h2 a3 h3 a4 h4 a5 h5 a6 h6 a7 h7 a8 h8 x0 x2 x3 _ p hp
      · exact ih.2 p hp

/-- Writing the rows of all the trips leaves the whole array. -/
theorem canon_rows (G : S4096x512.Idx → Elt Ideal .bf16) (L : List (View.Piece (Elt Ideal) S4096x512 .bf16))
    (hL : ∀ p ∈ L, ∀ x, p.2 x = G (p.1.emb x)) (hc : ∀ y, ∃ p ∈ L, y ∈ p.1.set) : View.canon L = G := by
  funext y
  have e := View.canon_append_of_pieces G [] L hL y (hc y)
  rwa [List.append_nil] at e

theorem out_6 : out0_A_6 c i a1 h1 a2 h2 a3 h3 a4 h4 a5 h5 a6 h6 a7 h7 a8 h8 x0 x1 x2 x3 = preT x0 x2 x3 := by
  unfold out0_A_6
  have hc := cover0_A_6 (F := Ideal) c i a1 h1 a2 h2 a3 h3 a4 h4 a5 h5 a6 h6 a7 h7 a8 h8 x0 x1 x2 x3
  rw [View.read_writes_eq_canon _ _ _ hc]
  revert hc
  unfold kernelRun0_A
  dsimp only
  sl_unfold_words
  intro hc
  exact canon_rows _ _ (pieces Variants.none c none i a1 h1 a2 h2 a3 h3 a4 h4 a5 h5 a6 h6 a7 h7 a8 h8 x0 x2 x3 _ le_rfl).1 hc

/-- The scratch's pieces cover it: the trips' rows are the output's. -/
theorem cover_scr : ∀ y, ∃ p ∈ (pb_k0_t1 (F := Ideal) Variants.none c none i a1 h1 a2 h2 a3 h3 a4 h4 a5 h5 a6 h6 a7 h7 a8 h8 (h1.unread x0) (h3.unread x2) (h4.unread x3) (Scf.trips (0#32) (Scalar.addi 0#32 8#32) 1#32)).2, y ∈ p.1.set := fun y =>
  View.cover_of_tiledL (pb_k0_t1 (F := Ideal) Variants.none c none i a1 h1 a2 h2 a3 h3 a4 h4 a5 h5 a6 h6 a7 h7 a8 h8 (h1.unread x0) (h3.unread x2) (h4.unread x3) (Scf.trips (0#32) (Scalar.addi 0#32 8#32) 1#32)).2 S512x512.size (by sl_kernel_rfl) y

theorem hz3 : (![0, 0, 0] : Fin 3 → Nat) = fun _ => 0 := by funext a; fin_cases a <;> rfl
theorem hz2 : (![0, 0] : Fin 2 → Nat) = fun _ => 0 := by funext a; fin_cases a <;> rfl

theorem out_5 : out0_A_5 c i a1 h1 a2 h2 a3 h3 a4 h4 a5 h5 a6 h6 a7 h7 a8 h8 x0 x1 x2 x3 = k0_pay4 (actT x2) x0 := by
  unfold out0_A_5
  rw [View.read_writes_eq_canon _ _ _ (cover0_A_5 (F := Ideal) c i a1 h1 a2 h2 a3 h3 a4 h4 a5 h5 a6 h6 a7 h7 a8 h8 x0 x1 x2 x3)]
  unfold kernelRun0_A
  dsimp only
  sl_unfold_words
  refine (View.canon_unit_zero (S := S1x512x1024) hz3 _ _).trans ?_
  rw [View.readCov_eq_canon', canon_rows _ _ (pieces Variants.none c none i a1 h1 a2 h2 a3 h3 a4 h4 a5 h5 a6 h6 a7 h7 a8 h8 x0 x2 x3 _ le_rfl).2 (cover_scr c i a1 h1 a2 h2 a3 h3 a4 h4 a5 h5 a6 h6 a7 h7 a8 h8 x0 x2 x3)]
  rw [View.readAt_eq_ld, h1.read_unread, View.ld_unit_zero (S := S4096x1024) hz2]
  exact congrArg (fun a => k0_pay4 a x0) (View.ld_unit_zero (S := S4096x512) hz2 _ _)
theorem out_4 : out0_A_4 c i a1 h1 a2 h2 a3 h3 a4 h4 a5 h5 a6 h6 a7 h7 a8 h8 x0 x1 x2 x3 = k0_pay5 x1 (preT x0 x2 x3) := by
  unfold out0_A_4
  rw [View.read_writes_eq_canon _ _ _ (cover0_A_4 (F := Ideal) c i a1 h1 a2 h2 a3 h3 a4 h4 a5 h5 a6 h6 a7 h7 a8 h8 x0 x1 x2 x3)]
  have hc := cover0_A_6 (F := Ideal) c i a1 h1 a2 h2 a3 h3 a4 h4 a5 h5 a6 h6 a7 h7 a8 h8 x0 x1 x2 x3
  revert hc
  unfold kernelRun0_A
  dsimp only
  sl_unfold_words
  intro hc
  refine (View.canon_unit_zero (S := S1x1024x512) hz3 _ _).trans ?_
  rw [View.readCov_eq_canon', canon_rows _ _ (pieces Variants.none c none i a1 h1 a2 h2 a3 h3 a4 h4 a5 h5 a6 h6 a7 h7 a8 h8 x0 x2 x3 _ le_rfl).1 hc]
  rw [View.readAt_eq_ld, h2.read_unread, View.ld_unit_zero (S := S4096x1024) hz2]
  exact congrArg (fun a => k0_pay5 x1 a) (View.ld_unit_zero (S := S4096x512) hz2 _ _)

end Cert.Mlp

end
-- ==== Proof.MlpRef.lean ====
module

public import proofs.«01_k».proof.Proof.Gen.Reference3Ideal.Read
public import Idealize.ShloMosaic.Lib.Pipeline.ValueKit
public import Idealize.ShloMosaic.Lib.Claim

/-! # The MLP's weight gradients: the reference's three results, entry by entry -/

@[expose] public section

set_option maxRecDepth 16384

noncomputable section

namespace Cert.Mlp

open Cert.Reference3Ideal Cert.Reference3Ideal.Gen Idealize.ShloMosaic Idealize.ShloMosaic.TcCoe Idealize.SL.Sem Cert.Reference3Ideal.Read

variable (h : (⟨S4096x1024, .f32⟩ : BufTy).Contents (Elt Ideal)) (wi : (⟨S1x1024x4096, .f32⟩ : BufTy).Contents (Elt Ideal))
  (wo : (⟨S1x4096x1024, .f32⟩ : BufTy).Contents (Elt Ideal)) (df : (⟨S4096x1024, .f32⟩ : BufTy).Contents (Elt Ideal))

/-- The preactivation. -/
def pre (n : Fin 4096) (j : Fin 4096) : EReal := ∑ k : Fin 1024, (h (ix2 n k) : EReal) * wi (ix3 0 k j)
/-- The activation: the square of the positive part. -/
def act (n : Fin 4096) (j : Fin 4096) : EReal :=
  max (pre h wi n j) (Ideal.ofBits .f32 0x00000000#32) * max (pre h wi n j) (Ideal.ofBits .f32 0x00000000#32)
/-- The preactivation's gradient. -/
def dpre (n : Fin 4096) (j : Fin 4096) : EReal :=
  (∑ d : Fin 1024, (df (ix2 n d) : EReal) * wo (ix3 0 j d)) * (Ideal.ofBits .f32 0x40000000#32 * max (pre h wi n j) (Ideal.ofBits .f32 0x00000000#32))
/-- Row `j` of device `b`'s block, as a row of the whole weights. -/
def wide (b : Fin 8) (j : Fin 512) : Fin 4096 := ⟨b.val * 512 + j.val, by omega⟩

/-- A product kept only where the factor's argument is positive is the product with its positive part: the other products are zero. -/
theorem select_pos (s a k : EReal) : (if 0 < a then s * (k * max a 0) else 0) = s * (k * max a 0) := by
  by_cases ha : 0 < a
  · rw [if_pos ha]
  · rw [if_neg ha, max_eq_right (not_lt.mp ha), mul_zero, mul_zero]

theorem v1_apply (n j : Fin 4096) : (val_main_v1 (F := Ideal) h wi (ix2 n j) : EReal) = pre h wi n j := by
  unfold val_main_v1 val_main_v0 pre
  pointwise []

theorem v13_apply (n j : Fin 4096) : (val_main_v13 (F := Ideal) wo df (ix2 n j) : EReal) = ∑ d : Fin 1024, (df (ix2 n d) : EReal) * wo (ix3 0 j d) := by
  unfold val_main_v13 val_main_v9
  pointwise []

theorem v17_apply (n j : Fin 4096) : (val_main_v17 (F := Ideal) h wi wo df (ix2 n j) : EReal) = dpre h wi wo df n j := by
  unfold dpre
  rw [← v1_apply, ← v13_apply]
  unfold val_main_v17 val_main_v16 val_main_v15 val_main_v8 val_main_v7 val_main_v4 val_main_v3 val_main_v2 val_main_call0_v0 val_main_cst val_main_cst_1 val_main_cst_2 val_main_call0_cst
  generalize val_main_v1 (F := Ideal) h wi = p
  generalize val_main_v13 (F := Ideal) wo df = s
  pointwise []
  exact select_pos _ _ _

theorem v6_apply (n j : Fin 4096) : (val_main_v6 (F := Ideal) h wi (ix2 n j) : EReal) = act h wi n j := by
  unfold act
  rw [← v1_apply]
  unfold val_main_v6 val_main_v2 val_main_call0_v0 val_main_call0_cst
  generalize val_main_v1 (F := Ideal) h wi = p
  pointwise []

/-- The first result: the gradient of the first weights. -/
theorem v23_apply (b : Fin 8) (k : Fin 1024) (j : Fin 512) : (val_main_v23 (F := Ideal) h wi wo df (ix3 b k j) : EReal)
    = ∑ n : Fin 4096, (h (ix2 n k) : EReal) * dpre h wi wo df n (wide b j) := by
  have e := v17_apply h wi wo df
  simp only [← e]
  unfold val_main_v23 val_main_v22 val_main_v21 val_main_v20 val_main_v19 val_main_v18 wide
  generalize val_main_v17 (F := Ideal) h wi wo df = g
  pointwise []
  exact Finset.sum_congr rfl fun n _ => mul_comm _ _
/-- The second result: the gradient of the second weights. -/
theorem v25_apply (b : Fin 8) (j : Fin 512) (d : Fin 1024) : (val_main_v25 (F := Ideal) h wi df (ix3 b j d) : EReal)
    = ∑ n : Fin 4096, act h wi n (wide b j) * df (ix2 n d) := by
  have e := v6_apply h wi
  simp only [← e]
  unfold val_main_v25 val_main_v24 val_main_v14 val_main_v12 val_main_v11 wide
  generalize val_main_v6 (F := Ideal) h wi = g
  pointwise []
  exact Finset.sum_congr rfl fun n _ => mul_comm _ _
/-- The third result: the preactivation's gradient. -/
theorem v26_apply (n j : Fin 4096) : (val_main_v26 (F := Ideal) h wi wo df (ix2 n j) : EReal) = dpre h wi wo df n j := by
  unfold val_main_v26
  rw [← v17_apply]
  rfl

end Cert.Mlp

end
-- ==== Proof.MlpValue.lean ====
module

public import proofs.«01_k».proof.Proof.MlpTile
public import proofs.«01_k».proof.Proof.MlpRef
public import proofs.«01_k».proof.Proof.Gen.Kernel3Ideal.Value
public import Idealize.ShloMosaic.Lib.Pipeline.ValueKit
public import Idealize.ShloMosaic.Lib.Claim

/-! # The MLP's weight gradients: the kernel's arrays, entry by entry -/

@[expose] public section

set_option maxRecDepth 16384

noncomputable section

namespace Cert.Mlp

open Cert.Kernel3Ideal Cert.Kernel3Ideal.Gen Idealize.ShloMosaic Idealize.ShloMosaic.TcCoe Idealize.SL.Sem

variable (m : (ℓ : Loc nD τ sig) → Buf (Elt Ideal) ℓ) (c : Dev nD) (t : Fin cfg0.N)

/-- Each window's block index at each grid point. -/
theorem idx : ∀ t : Fin cfg0.N, win0_0.index t = ![0, 0] ∧ win0_1.index t = ![0, 0] ∧ win0_2.index t = ![0, t.val]
    ∧ win0_3.index t = ![t.val, 0, 0] ∧ win0_4.index t = ![t.val, 0, 0] ∧ win0_5.index t = ![t.val, 0, 0]
    ∧ win0_6.index t = ![0, t.val] := by decide +kernel

/-- Grid point `t`'s device. -/
def dev_ (t : Fin cfg0.N) : Fin 8 := ⟨t.val, t.isLt⟩

abbrev H : Vec Ideal S4096x1024 .f32 := m (c.tc.loc main_arg0)
abbrev WI : Vec Ideal S1x1024x4096 .f32 := m (c.tc.loc main_arg1)
abbrev WO : Vec Ideal S1x4096x1024 .f32 := m (c.tc.loc main_arg2)
abbrev DF : Vec Ideal S4096x1024 .f32 := m (c.tc.loc main_arg3)

theorem blk0 (r : Fin 4096) (d : Fin 1024) : (iblk m c 0 t : Vec Ideal S4096x1024 .bf16) (ix2 r d) = DF m c (ix2 r d) := by
  blk_point [iblk, V, idx t]
theorem blk1 (r : Fin 4096) (d : Fin 1024) : (iblk m c 1 t : Vec Ideal S4096x1024 .bf16) (ix2 r d) = H m c (ix2 r d) := by
  blk_point [iblk, V, idx t]
theorem blk2 (r : Fin 4096) (j : Fin 512) : ((iblk m c 2 t : Vec Ideal S4096x512 .bf16) (ix2 r j) : EReal) = pre (H m c) (WI m c) r (wide (dev_ t) j) := by
  unfold pre
  blk_simp [iblk, V, idx t]
  have e : (win0_2.blk t).view.emb (ix2 r j) = (ix2 r (wide (dev_ t) j) : S4096x4096.Idx) := by unfold wide dev_; blk_ext [idx t]
  rw [e]
  entry_read
  pointwise []
theorem blk3 (j : Fin 512) (d : Fin 1024) : ((iblk m c 3 t : Vec Ideal S1x512x1024 .bf16) (ix3 0 j d) : EReal) = WO m c (ix3 0 (wide (dev_ t) j) d) := by
  unfold wide dev_
  blk_point [iblk, V, idx t]

theorem pre_blk (n : Fin 4096) (j : Fin 512) : preT (iblk m c 0 t) (iblk m c 2 t) (iblk m c 3 t) (ix2 n j)
    = dpre (H m c) (WI m c) (WO m c) (DF m c) n (wide (dev_ t) j) := by
  unfold preT dpre
  refine congrArg₂ (· * ·) (Finset.sum_congr rfl fun d _ => congrArg₂ (· * ·) (blk0 m c t n d) (blk3 m c t j d)) ?_
  exact congrArg (fun x => Ideal.ofBits .f32 0x40000000#32 * max x (Ideal.ofBits .f32 0x00000000#32)) (blk2 m c t n j)

theorem act_blk (n : Fin 4096) (j : Fin 512) : actT (iblk m c 2 t) (ix2 n j) = act (H m c) (WI m c) n (wide (dev_ t) j) := by
  unfold actT act
  exact congrArg (fun x => max x (Ideal.ofBits .f32 0x00000000#32) * max x (Ideal.ofBits .f32 0x00000000#32)) (blk2 m c t n j)

theorem after4 : (outsAt0 m c t).1 = k0_pay5 (iblk m c 1 t) (preT (iblk m c 0 t) (iblk m c 2 t) (iblk m c 3 t)) := by
  unfold outsAt0; dsimp only; rw [out_4]
theorem after5 : (outsAt0 m c t).2.1 = k0_pay4 (actT (iblk m c 2 t)) (iblk m c 0 t) := by
  unfold outsAt0; dsimp only; rw [out_5]
theorem after6 : (outsAt0 m c t).2.2 = preT (iblk m c 0 t) (iblk m c 2 t) (iblk m c 3 t) := by
  unfold outsAt0; dsimp only; rw [out_6]

/-- The first result: the gradient of the first weights, a block of columns for each device. -/
theorem final4 : (dats m 0 c).arrAt 4 cfg0.N = (fun i => (∑ n : Fin 4096, (H m c (ix2 n (i 1)) : EReal)
    * dpre (H m c) (WI m c) (WO m c) (DF m c) n (wide (i 0) (i 2)) : EReal) : Vec Ideal S8x1024x512 .f32) := by
  refine (dats m 0 c).arrAt_eq_of_covers 4 _ (by decide +kernel) fun t hf y => ?_
  blk_simp
  rw [after0_4, after4]
  obtain ⟨k, j, rfl⟩ : ∃ (k : Fin 1024) (j : Fin 512), y = ix3 0 k j := ⟨y 1, y 2, by
    funext a; fin_cases a
    · exact Subsingleton.elim (α := Fin 1) _ _
    · rfl
    · rfl⟩
  have e0 : ((win0_4.blk t).view.emb (ix3 0 k j) 0 : Fin 8) = dev_ t := Fin.ext (by unfold dev_; blk_simp [idx t]; simp)
  have e1 : ((win0_4.blk t).view.emb (ix3 0 k j) 1 : Fin 1024) = k := Fin.ext (by blk_simp [idx t])
  have e2 : ((win0_4.blk t).view.emb (ix3 0 k j) 2 : Fin 512) = j := Fin.ext (by blk_simp [idx t])
  rw [e0, e1, e2]
  refine (pay5_at _ _ k j).trans (Finset.sum_congr rfl fun n _ => ?_)
  exact congrArg₂ (· * ·) (blk1 m c t n k) (pre_blk m c t n j)

/-- The second result: the gradient of the second weights, a block of rows for each device. -/
theorem final5 : (dats m 0 c).arrAt 5 cfg0.N = (fun i => (∑ n : Fin 4096, act (H m c) (WI m c) n (wide (i 0) (i 1))
    * DF m c (ix2 n (i 2)) : EReal) : Vec Ideal S8x512x1024 .f32) := by
  refine (dats m 0 c).arrAt_eq_of_covers 5 _ (by decide +kernel) fun t hf y => ?_
  blk_simp
  rw [after0_5, after5]
  obtain ⟨j, d, rfl⟩ : ∃ (j : Fin 512) (d : Fin 1024), y = ix3 0 j d := ⟨y 1, y 2, by
    funext a; fin_cases a
    · exact Subsingleton.elim (α := Fin 1) _ _
    · rfl
    · rfl⟩
  have e0 : ((win0_5.blk t).view.emb (ix3 0 j d) 0 : Fin 8) = dev_ t := Fin.ext (by unfold dev_; blk_simp [idx t]; simp)
  have e1 : ((win0_5.blk t).view.emb (ix3 0 j d) 1 : Fin 512) = j := Fin.ext (by blk_simp [idx t])
  have e2 : ((win0_5.blk t).view.emb (ix3 0 j d) 2 : Fin 1024) = d := Fin.ext (by blk_simp [idx t])
  rw [e0, e1, e2]
  refine (pay4_at _ _ j d).trans (Finset.sum_congr rfl fun n _ => ?_)
  exact congrArg₂ (· * ·) (act_blk m c t n j) (blk0 m c t n d)

/-- The third result: the preactivation's gradient. -/
theorem final6 : (dats m 0 c).arrAt 6 cfg0.N = (fun i => dpre (H m c) (WI m c) (WO m c) (DF m c) (i 0) (i 1) : Vec Ideal S4096x4096 .bf16) := by
  refine (dats m 0 c).arrAt_eq_of_covers 6 _ (by decide +kernel) fun t hf y => ?_
  blk_simp
  rw [after0_6, after6]
  obtain ⟨n, j, rfl⟩ : ∃ (n : Fin 4096) (j : Fin 512), y = ix2 n j := ⟨y 0, y 1, by funext a; fin_cases a <;> rfl⟩
  have e0 : ((win0_6.blk t).view.emb (ix2 n j) 0 : Fin 4096) = n := Fin.ext (by blk_simp [idx t])
  have e1 : ((win0_6.blk t).view.emb (ix2 n j) 1 : Fin 4096) = wide (dev_ t) j := Fin.ext (by unfold wide dev_; blk_simp [idx t])
  rw [e0, e1]
  exact pre_blk m c t n j

end Cert.Mlp

end
-- ==== Proof.MlpClaims.lean ====
module

public import proofs.«01_k».proof.Defs
public import proofs.«01_k».proof.Proof.MlpValue
public import proofs.«01_k».proof.Proof.Gen.Reference3Ideal.Run

/-! # The claims about the MLP's weight gradients -/

@[expose] public section

set_option maxRecDepth 16384

noncomputable section

namespace Cert.Mlp

open Idealize.ShloMosaic Idealize.ShloMosaic.TcCoe Idealize.SL.Sem
open Cert.Kernel3Ideal Cert.Kernel3Ideal.Gen

/-- The reference's frame: it has no semaphores and keeps its arguments. -/
theorem frame_reference : Cert.quiescent_Reference3Ideal := fun m ρ _ =>
  (θ_run Cert.Reference3Ideal.defs _ _).mono (fun r h => ⟨fun c => (h c).2.2.2,
      Idealize.ShloMosaic.sem_eq_zero_of_no_sems (by decide) r.2⟩)
    (Cert.Reference3Ideal.Value.run (F := Ideal) m ρ)

/-- Over the extended reals the call computes what differentiating the reference's forward lines gives. -/
theorem algebraic : Cert.algebraic_Kernel3Ideal_Reference3Ideal := fun m ρ m' ρ' _ hag => by
  refine ⟨fun c => _, fun c => _, fun c => _,
    (θ_run _ _ _).mono (fun r h c => ⟨(h c).1.trans (final4 m c), (h c).2.1.trans (final5 m c), (h c).2.2.1.trans (final6 m c), (h c).2.2.2⟩)
      (Cert.Kernel3Ideal.Value.run_blocks (F := Ideal) m ρ),
    (θ_run _ _ _).mono (fun r h c => ⟨(h c).1.trans ?_, (h c).2.1.trans ?_, (h c).2.2.1.trans ?_, (h c).2.2.2⟩)
      (Cert.Reference3Ideal.Value.run (F := Ideal) m' ρ')⟩
  · obtain ⟨e0, e1, e2, e3⟩ := hag c
    rw [Cert.Reference3Ideal.Read.val_main_v23_eq, e0, e1, e2, e3]
    funext i
    obtain ⟨b, k, j, rfl⟩ : ∃ (b : Fin 8) (k : Fin 1024) (j : Fin 512), i = ix3 b k j := ⟨i 0, i 1, i 2, by funext a; fin_cases a <;> rfl⟩
    exact v23_apply _ _ _ _ b k j
  · obtain ⟨e0, e1, e2, e3⟩ := hag c
    rw [Cert.Reference3Ideal.Read.val_main_v25_eq, e0, e1, e3]
    funext i
    obtain ⟨b, j, d, rfl⟩ : ∃ (b : Fin 8) (j : Fin 512) (d : Fin 1024), i = ix3 b j d := ⟨i 0, i 1, i 2, by funext a; fin_cases a <;> rfl⟩
    exact v25_apply _ _ _ b j d
  · obtain ⟨e0, e1, e2, e3⟩ := hag c
    rw [Cert.Reference3Ideal.Read.val_main_v26_eq, e0, e1, e2, e3]
    funext i
    obtain ⟨n, j, rfl⟩ : ∃ (n : Fin 4096) (j : Fin 4096), i = ix2 n j := ⟨i 0, i 1, by funext a; fin_cases a <;> rfl⟩
    exact v26_apply _ _ _ _ n j

end Cert.Mlp

end
-- ==== Proof.FwdKit.lean ====
module

public import proofs.«01_k».proof.Proof.Gen.Kernel4Ideal.Skeleton
public import proofs.«01_k».proof.Proof.Gen.Kernel4Ideal.Loops
public import proofs.«01_k».proof.Proof.Gen.Kernel4Ideal.Launch
public import proofs.«01_k».proof.Proof.Gen.Kernel4Ideal.Points
public import proofs.«01_k».proof.Proof.Gen.Kernel4Ideal.Frame.Runs

set_option maxRecDepth 16384

/-! The parts of the attention's forward kernel that read no named constant, as their skeletons. -/

@[expose] public section

noncomputable section

namespace Cert.Kernel4Ideal

variable {F : Idealize.ShloMosaic.FTy → Type} [Idealize.ShloMosaic.FloatOps F]

theorem k0_part1_eq_skeleton : k0_part1 (F := F) = Gen.k0_part1_skel (F := F) := rfl
theorem k0_part2_eq_skeleton : k0_part2 (F := F) = Gen.k0_part2_skel (F := F) := rfl
theorem k0_part3_eq_skeleton : k0_part3 (F := F) = Gen.k0_part3_skel (F := F) := rfl
theorem k0_part4_eq_skeleton : k0_part4 (F := F) = Gen.k0_part4_skel (F := F) := rfl
theorem k0_part5_eq_skeleton : k0_part5 (F := F) = Gen.k0_part5_skel (F := F) := rfl
theorem k0_part6_eq_skeleton : k0_part6 (F := F) = Gen.k0_part6_skel (F := F) := rfl
theorem k0_part8_eq_skeleton : k0_part8 (F := F) = Gen.k0_part8_skel (F := F) := rfl

end Cert.Kernel4Ideal

end

end
-- ==== Proof.FwdRunA.lean ====
module

public import proofs.«01_k».proof.Proof.FwdKit

set_option maxRecDepth 16384
set_option maxHeartbeats 4000000

@[expose] public section

noncomputable section

namespace Cert.AttnFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F] [Named F]

local notation "𝕄" => MT nD τ sig Unit (Elt F) ℕ (UR sig nD τ) ℕ

/-- The first point's run: the bias table is filled before it is read. -/
noncomputable def runA (c : Dev nD) (i : grid0.Coords) (a1 : Memref sig .tc .vmem S128x512 .bf16) (h1 : a1.IsWhole) (a2 : Memref sig .tc .vmem S128x128 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x256 .i32) (h6 : a6.IsWhole) (a7 : Memref sig .tc .smem S8x32 .f32) (h7 : a7.IsWhole) (a8 : Memref sig .tc .smem S1x8 .f32) (h8 : a8.IsWhole) (a9 : Memref sig .tc .vmem S128x512 .bf16) (h9 : a9.IsWhole) (a10 : Memref sig .tc .vmem S8x128x256 .f32) (h10 : a10.IsWhole) (a11 : Memref sig .tc .vmem S8x128x256 .f32) (h11 : a11.IsWhole) (a12 : Memref sig .tc .vmem S8x128x256 .bf16) (h12 : a12.IsWhole) (hc0 : cond0_0 i)
    (x1 : Vec F S128x512 .bf16) (x2 : Vec F S128x128 .bf16) (x3 : Vec F S128x128 .bf16) (x4 : Vec F S128x128 .bf16) (x5 : Vec F S128x128 .bf16) (x6 : Vec F S128x256 .i32) (x7 : Vec F S8x32 .f32) (x8 : Vec F S1x8 .f32) (x9 : Vec F S128x512 .bf16) (x10 : Vec F S8x128x256 .f32) (x11 : Vec F S8x128x256 .f32) (x12 : Vec F S8x128x256 .bf16) :
    Σ' (y9 : Vec F S128x512 .bf16), { y10 : Vec F S8x128x256 .f32 //
      ∀ (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare y9 ∗ owns (c : Thread nD τ) a10 fullShare y10 ∗ (∃ d, owns (c : Thread nD τ) a11 fullShare d) ∗ (∃ d, owns (c : Thread nD τ) a12 fullShare d)) -∗ K ⟨⟩))
          ⊢ wp frame (wpE (defs₀ (F := F)) Variants.none c none) E (cc0_attn_fwd i a1 h1 a2 h2 a3 h3 a4 h4 a5 h5 a6 h6 a7 h7 a8 h8 a9 h9 a10 h10 a11 h11 a12 h12) K } := by
  refine ⟨?_, ?_, fun E K => ?run⟩
  case run =>
    simp only [cc0_attn_fwd_eq_skeleton]; unfold cc0_attn_fwd_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12
    sl_exec_parts (disch := first | sl_exact hc0)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; swap; · iexact H9
      ipureintro; rfl
    isplitl [H10]
    · iexists _; isplitr; swap; · iexact H10
      ipureintro; rfl
    isplitl [H11]
    · iexists _, _; isplitr; swap; · iexact H11
      ipureintro; rfl
    iexists _, _; isplitr; swap; · iexact H12
    ipureintro; rfl

end Cert.AttnFwd

end

end
-- ==== Proof.FwdRunB.lean ====
module

public import proofs.«01_k».proof.Proof.FwdKit

set_option maxRecDepth 16384
set_option maxHeartbeats 4000000

@[expose] public section

noncomputable section

namespace Cert.AttnFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F] [Named F]

local notation "𝕄" => MT nD τ sig Unit (Elt F) ℕ (UR sig nD τ) ℕ

/-- A later point's run: the bias table is the first point's. -/
noncomputable def runB (c : Dev nD) (i : grid0.Coords) (a1 : Memref sig .tc .vmem S128x512 .bf16) (h1 : a1.IsWhole) (a2 : Memref sig .tc .vmem S128x128 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x256 .i32) (h6 : a6.IsWhole) (a7 : Memref sig .tc .smem S8x32 .f32) (h7 : a7.IsWhole) (a8 : Memref sig .tc .smem S1x8 .f32) (h8 : a8.IsWhole) (a9 : Memref sig .tc .vmem S128x512 .bf16) (h9 : a9.IsWhole) (a10 : Memref sig .tc .vmem S8x128x256 .f32) (h10 : a10.IsWhole) (a11 : Memref sig .tc .vmem S8x128x256 .f32) (h11 : a11.IsWhole) (a12 : Memref sig .tc .vmem S8x128x256 .bf16) (h12 : a12.IsWhole) (hc0 : ¬ cond0_0 i)
    (x1 : Vec F S128x512 .bf16) (x2 : Vec F S128x128 .bf16) (x3 : Vec F S128x128 .bf16) (x4 : Vec F S128x128 .bf16) (x5 : Vec F S128x128 .bf16) (x6 : Vec F S128x256 .i32) (x7 : Vec F S8x32 .f32) (x8 : Vec F S1x8 .f32) (x9 : Vec F S128x512 .bf16) (x10 : Vec F S8x128x256 .f32) (x11 : Vec F S8x128x256 .f32) (x12 : Vec F S8x128x256 .bf16) :
    { y9 : Vec F S128x512 .bf16 //
      ∀ (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare y9 ∗ owns (c : Thread nD τ) a10 fullShare x10 ∗ (∃ d, owns (c : Thread nD τ) a11 fullShare d) ∗ (∃ d, owns (c : Thread nD τ) a12 fullShare d)) -∗ K ⟨⟩))
          ⊢ wp frame (wpE (defs₀ (F := F)) Variants.none c none) E (cc0_attn_fwd i a1 h1 a2 h2 a3 h3 a4 h4 a5 h5 a6 h6 a7 h7 a8 h8 a9 h9 a10 h10 a11 h11 a12 h12) K } := by
  refine ⟨?_, fun E K => ?run⟩
  case run =>
    simp only [cc0_attn_fwd_eq_skeleton]; unfold cc0_attn_fwd_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12
    sl_exec_parts (disch := first | sl_exact hc0)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; swap; · iexact H9
      ipureintro; rfl
    isplitl [H10]
    · iexists _; isplitr; · ipureintro; exact h10.read_unread _
      iexact H10
    isplitl [H11]
    · iexists _, _; isplitr; swap; · iexact H11
      ipureintro; rfl
    iexists _, _; isplitr; swap; · iexact H12
    ipureintro; rfl

end Cert.AttnFwd

end

end
-- ==== Proof.FwdFrame.lean ====
module

public import proofs.«01_k».proof.Proof.FwdRunA
public import proofs.«01_k».proof.Proof.FwdRunB

set_option maxRecDepth 16384

/-! The attention's forward launch: the bias table kept between points and the rows left in the output, as relations a value proof names. -/

@[expose] public section

noncomputable section

namespace Cert.AttnFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

open Idealize.ShloMosaic.Pipeline (RDat shareOf arrRef)

attribute [local irreducible] runA runB

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The bias table is filled at the first point alone. -/
theorem at_zero (t : Fin cfg0.N) : cond0_0 (grid0.coords t) ↔ t.val = 0 := by
  have hN : t.val < 32 := lt_of_lt_of_eq t.isLt N_0
  rw [hcond0_0 t]; omega

/-- What is known of the bias table after the first point, and of the rows the body leaves at a point. -/
structure Spec (F : FTy → Type) where
  inv : Dev nD → Vec F S8x128x256 .f32 → Prop
  out : Dev nD → Fin cfg0.N → Vec F S128x512 .bf16 → Prop

/-- The first point' run, on the launch's operands and whatever the buffers hold. -/
abbrev atA (c : Dev nD) (t : Fin cfg0.N) (h : t.val = 0) (z8 : Vec F S128x512 .bf16) (s0 s1 : Vec F S8x128x256 .f32) (s2 : Vec F S8x128x256 .bf16) :=
  runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _)
    ((at_zero t).mpr h)
    (iblk m c 0 t) (iblk m c 1 t) (iblk m c 2 t) (iblk m c 3 t) (iblk m c 4 t) (iblk m c 5 t) (iblk m c 6 t) (iblk m c 7 t) z8 s0 s1 s2

/-- The later points' run, on the launch's operands and whatever the buffers hold. -/
abbrev atB (c : Dev nD) (t : Fin cfg0.N) (h : 1 ≤ t.val) (z8 : Vec F S128x512 .bf16) (s0 s1 : Vec F S8x128x256 .f32) (s2 : Vec F S8x128x256 .bf16) :=
  runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _)
    (fun k => absurd ((at_zero t).mp k) (by omega))
    (iblk m c 0 t) (iblk m c 1 t) (iblk m c 2 t) (iblk m c 3 t) (iblk m c 4 t) (iblk m c 5 t) (iblk m c 6 t) (iblk m c 7 t) z8 s0 s1 s2

/-- What the points' runs must meet. -/
structure Steps (S : Spec F) : Prop where
  first : ∀ (c : Dev nD) (t : Fin cfg0.N) (h : t.val = 0) (z8 : Vec F S128x512 .bf16) (s0 s1 : Vec F S8x128x256 .f32) (s2 : Vec F S8x128x256 .bf16),
    S.inv c (atA m c t h z8 s0 s1 s2).2.1 ∧ S.out c t (atA m c t h z8 s0 s1 s2).1
  later : ∀ (c : Dev nD) (t : Fin cfg0.N) (h : 1 ≤ t.val) (z8 : Vec F S128x512 .bf16) (s0 s1 : Vec F S8x128x256 .f32) (s2 : Vec F S8x128x256 .bf16),
    S.inv c s0 → S.out c t (atB m c t h z8 s0 s1 s2).1

/-- The invariant before point `n`: the bias table at contents of which `S.inv` holds once the first point has run, the rest at anything. -/
def keep (S : Spec F) (c : Dev nD) (n : ℕ) : sProp 𝕄 :=
  iprop(∃ s0, ⌜1 ≤ n → S.inv c s0⌝ ∗ owns (c : Thread nD τ) scM0_0 fullShare s0
    ∗ (∃ d, owns (c : Thread nD τ) scM0_1 fullShare d) ∗ (∃ d, owns (c : Thread nD τ) scM0_2 fullShare d) ∗ (∃ r, prngReg c r))

/-- What the body may leave in each window: an input as found; the output as `S` says. -/
def leaves (S : Spec F) (c : Dev nD) : (w : Fin cfg0.W) → Fin cfg0.N → (Y X : (cfg0.win w).block.Idx → Elt F (cfg0.win w).elt) → Prop
  | 0 => fun _ Y X => X = Y
  | 1 => fun _ Y X => X = Y
  | 2 => fun _ Y X => X = Y
  | 3 => fun _ Y X => X = Y
  | 4 => fun _ Y X => X = Y
  | 5 => fun _ Y X => X = Y
  | 6 => fun _ Y X => X = Y
  | 7 => fun _ Y X => X = Y
  | 8 => fun t _ X => S.out c t X

/-- The launch's proof data. -/
def data (S : Spec F) (c : Dev nD) : RDat τ (Elt F) Unit ℕ (UR sig nD τ) ℕ cfg0 c where
  A := fun w => V m c (arrRef spec0 w)
  after := leaves S c
  Φ := fun n => keep S c n.val
  q := shareOf spec0
  owed := fun _ => 0

theorem finds0 (S : Spec F) (c : Dev nD) (t : Fin cfg0.N) (Y) (h : (data m S c).Finds 0 t Y) : Y = iblk m c 0 t := by
  obtain ⟨d, rfl⟩ := (data m S c).finds_in_eq_fetched 0 rfl (fun _ _ _ => rfl) (fun _ _ _ h => h) t Y h
  rfl

theorem finds1 (S : Spec F) (c : Dev nD) (t : Fin cfg0.N) (Y) (h : (data m S c).Finds 1 t Y) : Y = iblk m c 1 t := by
  obtain ⟨d, rfl⟩ := (data m S c).finds_in_eq_fetched 1 rfl (fun _ _ _ => rfl) (fun _ _ _ h => h) t Y h
  rfl

theorem finds2 (S : Spec F) (c : Dev nD) (t : Fin cfg0.N) (Y) (h : (data m S c).Finds 2 t Y) : Y = iblk m c 2 t := by
  obtain ⟨d, rfl⟩ := (data m S c).finds_in_eq_fetched 2 rfl (fun _ _ _ => rfl) (fun _ _ _ h => h) t Y h
  rfl

theorem finds3 (S : Spec F) (c : Dev nD) (t : Fin cfg0.N) (Y) (h : (data m S c).Finds 3 t Y) : Y = iblk m c 3 t := by
  obtain ⟨d, rfl⟩ := (data m S c).finds_in_eq_fetched 3 rfl (fun _ _ _ => rfl) (fun _ _ _ h => h) t Y h
  rfl

theorem finds4 (S : Spec F) (c : Dev nD) (t : Fin cfg0.N) (Y) (h : (data m S c).Finds 4 t Y) : Y = iblk m c 4 t := by
  obtain ⟨d, rfl⟩ := (data m S c).finds_in_eq_fetched 4 rfl (fun _ _ _ => rfl) (fun _ _ _ h => h) t Y h
  rfl

theorem finds5 (S : Spec F) (c : Dev nD) (t : Fin cfg0.N) (Y) (h : (data m S c).Finds 5 t Y) : Y = iblk m c 5 t := by
  obtain ⟨d, rfl⟩ := (data m S c).finds_in_eq_fetched 5 rfl (fun _ _ _ => rfl) (fun _ _ _ h => h) t Y h
  rfl

theorem finds6 (S : Spec F) (c : Dev nD) (t : Fin cfg0.N) (Y) (h : (data m S c).Finds 6 t Y) : Y = iblk m c 6 t := by
  obtain ⟨d, rfl⟩ := (data m S c).finds_in_eq_fetched 6 rfl (fun _ _ _ => rfl) (fun _ _ _ h => h) t Y h
  rfl

theorem finds7 (S : Spec F) (c : Dev nD) (t : Fin cfg0.N) (Y) (h : (data m S c).Finds 7 t Y) : Y = iblk m c 7 t := by
  obtain ⟨d, rfl⟩ := (data m S c).finds_in_eq_fetched 7 rfl (fun _ _ _ => rfl) (fun _ _ _ h => h) t Y h
  rfl

/-- The body at one point, window by window. -/
theorem body_at (S : Spec F) (hS : Steps m S) (c : Dev nD) (t : Fin cfg0.N) (z8 : Vec F S128x512 .bf16) (O : sProp 𝕄) :
    iprop(keep S c t.val ∗ O ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare z8)
      ⊢ wp frame (wpE (defs₀ (F := F)) Variants.none c none) Set.univ (bodyAt0 t)
          fun _ => iprop(keep S c (t.val + 1) ∗ O ∗ (∃ X, ⌜leaves S c 0 t (iblk m c 0 t) X⌝ ∗ owns (c : Thread nD τ) (ms0_0 t) fullShare X) ∗ (∃ X, ⌜leaves S c 1 t (iblk m c 1 t) X⌝ ∗ owns (c : Thread nD τ) (ms0_1 t) fullShare X) ∗ (∃ X, ⌜leaves S c 2 t (iblk m c 2 t) X⌝ ∗ owns (c : Thread nD τ) (ms0_2 t) fullShare X) ∗ (∃ X, ⌜leaves S c 3 t (iblk m c 3 t) X⌝ ∗ owns (c : Thread nD τ) (ms0_3 t) fullShare X) ∗ (∃ X, ⌜leaves S c 4 t (iblk m c 4 t) X⌝ ∗ owns (c : Thread nD τ) (ms0_4 t) fullShare X) ∗ (∃ X, ⌜leaves S c 5 t (iblk m c 5 t) X⌝ ∗ owns (c : Thread nD τ) (ms0_5 t) fullShare X) ∗ (∃ X, ⌜leaves S c 6 t (iblk m c 6 t) X⌝ ∗ owns (c : Thread nD τ) (ms0_6 t) fullShare X) ∗ (∃ X, ⌜leaves S c 7 t (iblk m c 7 t) X⌝ ∗ owns (c : Thread nD τ) (ms0_7 t) fullShare X) ∗ (∃ X, ⌜leaves S c 8 t z8 X⌝ ∗ owns (c : Thread nD τ) (ms0_8 t) fullShare X)) := by
  unfold keep
  iintro ⟨⟨%s0, %hI, S0, ⟨%s1, S1⟩, ⟨%s2, S2⟩, Hg⟩, Ho, H0, H1, H2, H3, H4, H5, H6, H7, H8⟩
  rcases (by omega : t.val = 0 ∨ 1 ≤ t.val) with h | h
  · iapply (atA m c t h z8 s0 s1 s2).2.2 Set.univ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    iintro ⟨H0, H1, H2, H3, H4, H5, H6, H7, H8, S0, ⟨%d1, S1⟩, ⟨%d2, S2⟩⟩
    have hp := hS.first c t h z8 s0 s1 s2
    isplitl [S0 S1 S2 Hg]
    · iexists _
      isplitr; · ipureintro; exact fun _ => hp.1
      isplitl [S0]; · iexact S0
      isplitl [S1]; · iexists _; iexact S1
      isplitl [S2]; · iexists _; iexact S2
      iexact Hg
    isplitl [Ho]; · iexact Ho
    isplitl [H0]
    · iexists _; isplitr; · ipureintro; exact rfl
      iexact H0
    isplitl [H1]
    · iexists _; isplitr; · ipureintro; exact rfl
      iexact H1
    isplitl [H2]
    · iexists _; isplitr; · ipureintro; exact rfl
      iexact H2
    isplitl [H3]
    · iexists _; isplitr; · ipureintro; exact rfl
      iexact H3
    isplitl [H4]
    · iexists _; isplitr; · ipureintro; exact rfl
      iexact H4
    isplitl [H5]
    · iexists _; isplitr; · ipureintro; exact rfl
      iexact H5
    isplitl [H6]
    · iexists _; isplitr; · ipureintro; exact rfl
      iexact H6
    isplitl [H7]
    · iexists _; isplitr; · ipureintro; exact rfl
      iexact H7
    iexists _; isplitr; · ipureintro; exact hp.2
    iexact H8
  · iapply (atB m c t h z8 s0 s1 s2).2 Set.univ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    iintro ⟨H0, H1, H2, H3, H4, H5, H6, H7, H8, S0, ⟨%d1, S1⟩, ⟨%d2, S2⟩⟩
    have hp := hS.later c t h z8 s0 s1 s2 (hI h)
    isplitl [S0 S1 S2 Hg]
    · iexists _
      isplitr; · ipureintro; exact fun _ => hI h
      isplitl [S0]; · iexact S0
      isplitl [S1]; · iexists _; iexact S1
      isplitl [S2]; · iexists _; iexact S2
      iexact Hg
    isplitl [Ho]; · iexact Ho
    isplitl [H0]
    · iexists _; isplitr; · ipureintro; exact rfl
      iexact H0
    isplitl [H1]
    · iexists _; isplitr; · ipureintro; exact rfl
      iexact H1
    isplitl [H2]
    · iexists _; isplitr; · ipureintro; exact rfl
      iexact H2
    isplitl [H3]
    · iexists _; isplitr; · ipureintro; exact rfl
      iexact H3
    isplitl [H4]
    · iexists _; isplitr; · ipureintro; exact rfl
      iexact H4
    isplitl [H5]
    · iexists _; isplitr; · ipureintro; exact rfl
      iexact H5
    isplitl [H6]
    · iexists _; isplitr; · ipureintro; exact rfl
      iexact H6
    isplitl [H7]
    · iexists _; isplitr; · ipureintro; exact rfl
      iexact H7
    iexists _; isplitr; · ipureintro; exact hp
    iexact H8

/-- The body meets the launch's obligation at every point. -/
theorem body (S : Spec F) (hS : Steps m S) (c : Dev nD) : (data m S c).BodyObligation (defs₀ (F := F)) Variants.none () Set.univ := by
  intro t Y hY
  have e0 := finds0 m S c t (Y 0) (hY 0)
  have e1 := finds1 m S c t (Y 1) (hY 1)
  have e2 := finds2 m S c t (Y 2) (hY 2)
  have e3 := finds3 m S c t (Y 3) (hY 3)
  have e4 := finds4 m S c t (Y 4) (hY 4)
  have e5 := finds5 m S c t (Y 5) (hY 5)
  have e6 := finds6 m S c t (Y 6) (hY 6)
  have e7 := finds7 m S c t (Y 7) (hY 7)
  simp only [bigSep_W0]
  have := body_at m S hS c t (Y 8) ((data m S c).owesAt () t.castSucc)
  rw [← e0, ← e1, ← e2, ← e3, ← e4, ← e5, ← e6, ← e7] at this
  exact this

/-- The launch runs, and its arrays end as the relations say. -/
theorem launch (S : Spec F) (hS : Steps m S) :
    θ_run defs (onTc (τ := τ) (main (F := F))) (s₀ m ρ) (fun r => RDat.FramePost (cfgs 0) (data m S) (V m) r ∧ r.2.sem = (fun _ => 0)) := by
  refine RDat.θ_run_frame_track_shared cfgs 0 launch₀0 defs₀ Variants.none (data m S) m ρ main (body m S hS) (fun _ _ _ => rfl) (fun _ _ => rfl)
    (V m) (hmain m Variants.none) (fun _ _ => rfl) (fun c => ?_) (fun c => ?_) _ (fun _ h => h)
  · rw [PhiA0_eq]; show _ ⊢ keep S c 0; unfold keep
    iintro ⟨⟨⟨%s0, S0⟩, S1, S2⟩, Hg⟩
    iexists s0
    isplitr; · ipureintro; exact fun h => absurd h (by omega)
    isplitl [S0]; · iexact S0
    isplitl [S1]; · iexact S1
    isplitl [S2]; · iexact S2
    iexact Hg
  · rw [PhiA0_eq]; show keep S c _ ⊢ _; unfold keep
    iintro ⟨%s0, -, S0, S1, S2, Hg⟩
    isplitl [S0 S1 S2]
    · isplitl [S0]; · iexists _; iexact S0
      isplitl [S1]; · iexact S1
      iexact S2
    iexact Hg

end Cert.AttnFwd

end

end
-- ==== Proof.FwdOut.lean ====
module

public import proofs.«01_k».proof.Proof.FwdRunA
public import proofs.«01_k».proof.Proof.FwdRunB
public import proofs.«01_k».proof.Proof.AttnOut

set_option maxRecDepth 16384
set_option maxHeartbeats 1600000

/-! # What each run of the attention leaves -/

@[expose] public section

noncomputable section

namespace Cert.AttnFwd

open Idealize.ShloMosaic Idealize.ShloMosaic.TcCoe Idealize.SL.Sem
open Cert.Kernel4Ideal Cert.Kernel4Ideal.Gen

variable {F : FTy → Type} [FloatOps F] [Named F]

/-- The biases the first point spreads over the band. -/
def biasA (c : Dev nD) (i : grid0.Coords) (a1 : Memref sig .tc .vmem S128x512 .bf16) (h1 : a1.IsWhole) (a2 : Memref sig .tc .vmem S128x128 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x256 .i32) (h6 : a6.IsWhole) (a7 : Memref sig .tc .smem S8x32 .f32) (h7 : a7.IsWhole) (a8 : Memref sig .tc .smem S1x8 .f32) (h8 : a8.IsWhole) (a9 : Memref sig .tc .vmem S128x512 .bf16) (h9 : a9.IsWhole) (a10 : Memref sig .tc .vmem S8x128x256 .f32) (h10 : a10.IsWhole) (a11 : Memref sig .tc .vmem S8x128x256 .f32) (h11 : a11.IsWhole) (a12 : Memref sig .tc .vmem S8x128x256 .bf16) (h12 : a12.IsWhole) (hc0 : cond0_0 i)
    (x6 : Vec F S128x256 .i32) (x7 : Vec F S8x32 .f32) (x10 : Vec F S8x128x256 .f32) : Vec F S8x128x256 .f32 :=
  Attn.stack8 (k0_pay4 (st_k0_t1 Variants.none c none i a1 h1 a2 h2 a3 h3 a4 h4 a5 h5 a6 h6 a7 h7 a8 h8 a9 h9 a10 h10 a11 h11 a12 h12 hc0 x6 (h7.unread x7) k0_pay2 (Scf.trips (0#32) (Scalar.addi 0#32 32#32) 1#32)))
      (k0_pay7 (st_k0_t2 Variants.none c none i a1 h1 a2 h2 a3 h3 a4 h4 a5 h5 a6 h6 a7 h7 a8 h8 a9 h9 a10 h10 a11 h11 a12 h12 hc0 x6 (h7.unread x7) k0_pay5 (Scf.trips (0#32) (Scalar.addi 0#32 32#32) 1#32)))
      (k0_pay10 (st_k0_t3 Variants.none c none i a1 h1 a2 h2 a3 h3 a4 h4 a5 h5 a6 h6 a7 h7 a8 h8 a9 h9 a10 h10 a11 h11 a12 h12 hc0 x6 (h7.unread x7) k0_pay8 (Scf.trips (0#32) (Scalar.addi 0#32 32#32) 1#32)))
      (k0_pay13 (st_k0_t4 Variants.none c none i a1 h1 a2 h2 a3 h3 a4 h4 a5 h5 a6 h6 a7 h7 a8 h8 a9 h9 a10 h10 a11 h11 a12 h12 hc0 x6 (h7.unread x7) k0_pay11 (Scf.trips (0#32) (Scalar.addi 0#32 32#32) 1#32)))
      (k0_pay16 (st_k0_t5 Variants.none c none i a1 h1 a2 h2 a3 h3 a4 h4 a5 h5 a6 h6 a7 h7 a8 h8 a9 h9 a10 h10 a11 h11 a12 h12 hc0 x6 (st_k0_t4 Variants.none c none i a1 h1 a2 h2 a3 h3 a4 h4 a5 h5 a6 h6 a7 h7 a8 h8 a9 h9 a10 h10 a11 h11 a12 h12 hc0 x6 (h7.unread x7) k0_pay11 (Scf.trips (0#32) (Scalar.addi 0#32 32#32) 1#32)) (View.ld x10 (Rect.unit (s := S8x128x256) ![3, 0, 0] ![1, 128, 256] inb_S8x128x256_S1x128x256_3_0_0)) (h7.unread x7) k0_pay14 (Scf.trips (0#32) (Scalar.addi 0#32 32#32) 1#32)))
      (k0_pay19 (st_k0_t6 Variants.none c none i a1 h1 a2 h2 a3 h3 a4 h4 a5 h5 a6 h6 a7 h7 a8 h8 a9 h9 a10 h10 a11 h11 a12 h12 hc0 x6 (st_k0_t4 Variants.none c none i a1 h1 a2 h2 a3 h3 a4 h4 a5 h5 a6 h6 a7 h7 a8 h8 a9 h9 a10 h10 a11 h11 a12 h12 hc0 x6 (h7.unread x7) k0_pay11 (Scf.trips (0#32) (Scalar.addi 0#32 32#32) 1#32)) (View.ld x10 (Rect.unit (s := S8x128x256) ![3, 0, 0] ![1, 128, 256] inb_S8x128x256_S1x128x256_3_0_0)) (h7.unread x7) k0_pay17 (Scf.trips (0#32) (Scalar.addi 0#32 32#32) 1#32)))
      (k0_pay22 (st_k0_t7 Variants.none c none i a1 h1 a2 h2 a3 h3 a4 h4 a5 h5 a6 h6 a7 h7 a8 h8 a9 h9 a10 h10 a11 h11 a12 h12 hc0 x6 (st_k0_t4 Variants.none c none i a1 h1 a2 h2 a3 h3 a4 h4 a5 h5 a6 h6 a7 h7 a8 h8 a9 h9 a10 h10 a11 h11 a12 h12 hc0 x6 (h7.unread x7) k0_pay11 (Scf.trips (0#32) (Scalar.addi 0#32 32#32) 1#32)) (View.ld x10 (Rect.unit (s := S8x128x256) ![3, 0, 0] ![1, 128, 256] inb_S8x128x256_S1x128x256_3_0_0)) (h7.unread x7) k0_pay20 (Scf.trips (0#32) (Scalar.addi 0#32 32#32) 1#32)))
      (k0_pay25 (st_k0_t8 Variants.none c none i a1 h1 a2 h2 a3 h3 a4 h4 a5 h5 a6 h6 a7 h7 a8 h8 a9 h9 a10 h10 a11 h11 a12 h12 hc0 x6 (st_k0_t4 Variants.none c none i a1 h1 a2 h2 a3 h3 a4 h4 a5 h5 a6 h6 a7 h7 a8 h8 a9 h9 a10 h10 a11 h11 a12 h12 hc0 x6 (h7.unread x7) k0_pay11 (Scf.trips (0#32) (Scalar.addi 0#32 32#32) 1#32)) (View.ld x10 (Rect.unit (s := S8x128x256) ![3, 0, 0] ![1, 128, 256] inb_S8x128x256_S1x128x256_3_0_0)) (h7.unread x7) k0_pay23 (Scf.trips (0#32) (Scalar.addi 0#32 32#32) 1#32)))

/-- What a point leaves in the output: the values of the band, weighted by the probabilities. -/
def outV (q : Vec F S128x512 .bf16) (kc kp vc vp : Vec F S128x128 .bf16) (bk : Vec F S128x256 .i32) (sk : Vec F S1x8 .f32)
    (n : BitVec 32) (bias : Vec F S8x128x256 .f32) : Vec F S128x512 .bf16 :=
  Attn.headsV vc vp (Cert.Kernel2Ideal.Gen.k0_pay89 (Attn.probV q kc kp bk sk n bias))

/-- What the first point leaves: the biases. -/
theorem outA_bias (c : Dev nD) (i : grid0.Coords) (a1 : Memref sig .tc .vmem S128x512 .bf16) (h1 : a1.IsWhole) (a2 : Memref sig .tc .vmem S128x128 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x256 .i32) (h6 : a6.IsWhole) (a7 : Memref sig .tc .smem S8x32 .f32) (h7 : a7.IsWhole) (a8 : Memref sig .tc .smem S1x8 .f32) (h8 : a8.IsWhole) (a9 : Memref sig .tc .vmem S128x512 .bf16) (h9 : a9.IsWhole) (a10 : Memref sig .tc .vmem S8x128x256 .f32) (h10 : a10.IsWhole) (a11 : Memref sig .tc .vmem S8x128x256 .f32) (h11 : a11.IsWhole) (a12 : Memref sig .tc .vmem S8x128x256 .bf16) (h12 : a12.IsWhole) (hc0 : cond0_0 i)
    (x1 : Vec F S128x512 .bf16) (x2 : Vec F S128x128 .bf16) (x3 : Vec F S128x128 .bf16) (x4 : Vec F S128x128 .bf16) (x5 : Vec F S128x128 .bf16) (x6 : Vec F S128x256 .i32) (x7 : Vec F S8x32 .f32) (x8 : Vec F S1x8 .f32) (x9 : Vec F S128x512 .bf16) (x10 : Vec F S8x128x256 .f32) (x11 : Vec F S8x128x256 .f32) (x12 : Vec F S8x128x256 .bf16) :
    (runA (F := F) c i a1 h1 a2 h2 a3 h3 a4 h4 a5 h5 a6 h6 a7 h7 a8 h8 a9 h9 a10 h10 a11 h11 a12 h12 hc0 x1 x2 x3 x4 x5 x6 x7 x8 x9 x10 x11 x12).2.1 = biasA c i a1 h1 a2 h2 a3 h3 a4 h4 a5 h5 a6 h6 a7 h7 a8 h8 a9 h9 a10 h10 a11 h11 a12 h12 hc0 x6 x7 x10 := by
  unfold runA
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread,
    View.ld_unit_zero (S := S128x128) Attn.hz2, View.ld_unit_zero (S := S128x256) Attn.hz2, View.ld_unit_zero (S := S8x128x256) Attn.hz3,
    Attn.readCov_heads8, Attn.readCov_head, Attn.read_whole_cons (S := S8x128x256) _ _ _ _ _ Attn.hz3, Attn.read_heads8, Attn.read_lanes4,
    View.readCov_unit_zero (S := S8x128x256) _ Attn.hz3]
  rfl

/-- What the first point leaves: the attention of its rows. -/
theorem outA_out (c : Dev nD) (i : grid0.Coords) (a1 : Memref sig .tc .vmem S128x512 .bf16) (h1 : a1.IsWhole) (a2 : Memref sig .tc .vmem S128x128 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x256 .i32) (h6 : a6.IsWhole) (a7 : Memref sig .tc .smem S8x32 .f32) (h7 : a7.IsWhole) (a8 : Memref sig .tc .smem S1x8 .f32) (h8 : a8.IsWhole) (a9 : Memref sig .tc .vmem S128x512 .bf16) (h9 : a9.IsWhole) (a10 : Memref sig .tc .vmem S8x128x256 .f32) (h10 : a10.IsWhole) (a11 : Memref sig .tc .vmem S8x128x256 .f32) (h11 : a11.IsWhole) (a12 : Memref sig .tc .vmem S8x128x256 .bf16) (h12 : a12.IsWhole) (hc0 : cond0_0 i)
    (x1 : Vec F S128x512 .bf16) (x2 : Vec F S128x128 .bf16) (x3 : Vec F S128x128 .bf16) (x4 : Vec F S128x128 .bf16) (x5 : Vec F S128x128 .bf16) (x6 : Vec F S128x256 .i32) (x7 : Vec F S8x32 .f32) (x8 : Vec F S1x8 .f32) (x9 : Vec F S128x512 .bf16) (x10 : Vec F S8x128x256 .f32) (x11 : Vec F S8x128x256 .f32) (x12 : Vec F S8x128x256 .bf16) :
    (runA (F := F) c i a1 h1 a2 h2 a3 h3 a4 h4 a5 h5 a6 h6 a7 h7 a8 h8 a9 h9 a10 h10 a11 h11 a12 h12 hc0 x1 x2 x3 x4 x5 x6 x7 x8 x9 x10 x11 x12).1
      = outV x1 x2 x3 x4 x5 x6 x8 (BitVec.ofNat 32 (i 0).val) (biasA c i a1 h1 a2 h2 a3 h3 a4 h4 a5 h5 a6 h6 a7 h7 a8 h8 a9 h9 a10 h10 a11 h11 a12 h12 hc0 x6 x7 x10) := by
  unfold runA
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread,
    View.ld_unit_zero (S := S128x128) Attn.hz2, View.ld_unit_zero (S := S128x256) Attn.hz2, View.ld_unit_zero (S := S8x128x256) Attn.hz3,
    Attn.readCov_heads8, Attn.readCov_head, Attn.read_whole_cons (S := S8x128x256) _ _ _ _ _ Attn.hz3, Attn.read_heads8, Attn.read_lanes4,
    View.readCov_unit_zero (S := S8x128x256) _ Attn.hz3]
  rfl

/-- What a later point leaves: the attention of its rows. -/
theorem outB_out (c : Dev nD) (i : grid0.Coords) (a1 : Memref sig .tc .vmem S128x512 .bf16) (h1 : a1.IsWhole) (a2 : Memref sig .tc .vmem S128x128 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x256 .i32) (h6 : a6.IsWhole) (a7 : Memref sig .tc .smem S8x32 .f32) (h7 : a7.IsWhole) (a8 : Memref sig .tc .smem S1x8 .f32) (h8 : a8.IsWhole) (a9 : Memref sig .tc .vmem S128x512 .bf16) (h9 : a9.IsWhole) (a10 : Memref sig .tc .vmem S8x128x256 .f32) (h10 : a10.IsWhole) (a11 : Memref sig .tc .vmem S8x128x256 .f32) (h11 : a11.IsWhole) (a12 : Memref sig .tc .vmem S8x128x256 .bf16) (h12 : a12.IsWhole) (hc0 : ¬ cond0_0 i)
    (x1 : Vec F S128x512 .bf16) (x2 : Vec F S128x128 .bf16) (x3 : Vec F S128x128 .bf16) (x4 : Vec F S128x128 .bf16) (x5 : Vec F S128x128 .bf16) (x6 : Vec F S128x256 .i32) (x7 : Vec F S8x32 .f32) (x8 : Vec F S1x8 .f32) (x9 : Vec F S128x512 .bf16) (x10 : Vec F S8x128x256 .f32) (x11 : Vec F S8x128x256 .f32) (x12 : Vec F S8x128x256 .bf16) :
    (runB (F := F) c i a1 h1 a2 h2 a3 h3 a4 h4 a5 h5 a6 h6 a7 h7 a8 h8 a9 h9 a10 h10 a11 h11 a12 h12 hc0 x1 x2 x3 x4 x5 x6 x7 x8 x9 x10 x11 x12).1
      = outV x1 x2 x3 x4 x5 x6 x8 (BitVec.ofNat 32 (i 0).val) x10 := by
  unfold runB
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread,
    View.ld_unit_zero (S := S128x128) Attn.hz2, View.ld_unit_zero (S := S128x256) Attn.hz2, View.ld_unit_zero (S := S8x128x256) Attn.hz3,
    Attn.readCov_heads8, Attn.readCov_head, Attn.read_whole_cons (S := S8x128x256) _ _ _ _ _ Attn.hz3, Attn.read_heads8, Attn.read_lanes4,
    View.readCov_unit_zero (S := S8x128x256) _ Attn.hz3]
  rfl

end Cert.AttnFwd

end

end
-- ==== Proof.FwdLoop.lean ====
module

public import proofs.«01_k».proof.Proof.FwdOut
public import proofs.«01_k».proof.Proof.AttnLoop

set_option maxRecDepth 16384
set_option maxHeartbeats 1600000

/-! # The loops over the buckets, entry by entry -/

@[expose] public section

noncomputable section

namespace Cert.AttnFwd

open Idealize.ShloMosaic Idealize.ShloMosaic.TcCoe Idealize.SL.Sem
open Cert.Kernel4Ideal Cert.Kernel4Ideal.Gen

/-- A loop over the buckets that adds one bucket's value a trip, from zero. -/
theorem loop_bias (st : ℕ → EReal) (b : BitVec 32) (f : Fin 32 → EReal) (h0 : st 0 = 0)
    (hs : ∀ (k : ℕ) (hk : k < 32), st (k + 1) = st k + if b = Scf.iv 0#32 1#32 k then f ⟨(Scalar.indexCast (Scf.iv 0#32 1#32 k)).toNat, (Attn.idx_nat k hk).trans_lt hk⟩ else 0) :
    st (Scf.trips (0#32) (Scalar.addi 0#32 32#32) 1#32) = Attn.biasOf b f := by
  have ht : (Scf.trips (0#32) (Scalar.addi 0#32 32#32) 1#32) = 32 := by decide +kernel
  rw [ht]
  refine (Attn.loop_sum st (fun k => if b = BitVec.ofNat 32 k then (if hk : k < 32 then f ⟨k, hk⟩ else 0) else 0) fun k hk => ?_).trans ?_
  · rw [hs k hk]
    simp only [hk, dif_pos]
    exact congrArg (_ + ·) (if_congr (by rw [Attn.iv_eq k hk]) (congrArg f (Fin.ext (Attn.idx_nat k hk))) rfl)
  · rw [h0, zero_add]
    unfold Attn.biasOf
    refine Finset.sum_congr rfl fun k _ => ?_
    rw [dif_pos k.isLt]

theorem bias1_at (c : Dev nD) (i : grid0.Coords) (a1 : Memref sig .tc .vmem S128x512 .bf16) (h1 : a1.IsWhole) (a2 : Memref sig .tc .vmem S128x128 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x256 .i32) (h6 : a6.IsWhole) (a7 : Memref sig .tc .smem S8x32 .f32) (h7 : a7.IsWhole) (a8 : Memref sig .tc .smem S1x8 .f32) (h8 : a8.IsWhole) (a9 : Memref sig .tc .vmem S128x512 .bf16) (h9 : a9.IsWhole) (a10 : Memref sig .tc .vmem S8x128x256 .f32) (h10 : a10.IsWhole) (a11 : Memref sig .tc .vmem S8x128x256 .f32) (h11 : a11.IsWhole) (a12 : Memref sig .tc .vmem S8x128x256 .bf16) (h12 : a12.IsWhole) (hc : cond0_0 i)
    (x6 : Vec Ideal S128x256 .i32) (x7 : Vec Ideal S8x32 .f32) (r : Fin 128) (j : Fin 256) :
    (k0_pay4 (st_k0_t1 (F := Ideal) Variants.none c none i a1 h1 a2 h2 a3 h3 a4 h4 a5 h5 a6 h6 a7 h7 a8 h8 a9 h9 a10 h10 a11 h11 a12 h12 hc x6 (h7.unread x7) k0_pay2 (Scf.trips (0#32) (Scalar.addi 0#32 32#32) 1#32)) (ix3 0 r j) : EReal)
      = Attn.biasOf (x6 (ix2 r j)) (fun k => x7 (ix2 0 k)) := by
  pointwise [k0_pay4]
  refine loop_bias (fun n => (st_k0_t1 (F := Ideal) Variants.none c none i a1 h1 a2 h2 a3 h3 a4 h4 a5 h5 a6 h6 a7 h7 a8 h8 a9 h9 a10 h10 a11 h11 a12 h12 hc x6 (h7.unread x7) k0_pay2 n (ix2 r j) : EReal)) _ _ ?_ fun k hk => ?_
  · show (st_k0_t1 (F := Ideal) Variants.none c none i a1 h1 a2 h2 a3 h3 a4 h4 a5 h5 a6 h6 a7 h7 a8 h8 a9 h9 a10 h10 a11 h11 a12 h12 hc x6 (h7.unread x7) k0_pay2 0 (ix2 r j) : EReal) = 0
    rw [st_k0_t1_zero]
    pointwise [k0_pay2]
  · have hk' : k < k0_t1_loop.trips := lt_of_lt_of_eq hk (by decide +kernel)
    refine (congrFun (st_k0_t1_succ (F := Ideal) Variants.none c none i a1 h1 a2 h2 a3 h3 a4 h4 a5 h5 a6 h6 a7 h7 a8 h8 a9 h9 a10 h10 a11 h11 a12 h12 hc x6 (h7.unread x7) k0_pay2 ⟨k, hk'⟩) (ix2 r j)).trans ?_
    unfold tripR_k0_t1 trip_k0_t1
    dsimp only
    sl_unfold_words
    simp only [View.readAt_eq_ld, h7.read_unread]
    pointwise [k0_pay3]
    rw [Attn.select_eq]

theorem bias2_at (c : Dev nD) (i : grid0.Coords) (a1 : Memref sig .tc .vmem S128x512 .bf16) (h1 : a1.IsWhole) (a2 : Memref sig .tc .vmem S128x128 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x256 .i32) (h6 : a6.IsWhole) (a7 : Memref sig .tc .smem S8x32 .f32) (h7 : a7.IsWhole) (a8 : Memref sig .tc .smem S1x8 .f32) (h8 : a8.IsWhole) (a9 : Memref sig .tc .vmem S128x512 .bf16) (h9 : a9.IsWhole) (a10 : Memref sig .tc .vmem S8x128x256 .f32) (h10 : a10.IsWhole) (a11 : Memref sig .tc .vmem S8x128x256 .f32) (h11 : a11.IsWhole) (a12 : Memref sig .tc .vmem S8x128x256 .bf16) (h12 : a12.IsWhole) (hc : cond0_0 i)
    (x6 : Vec Ideal S128x256 .i32) (x7 : Vec Ideal S8x32 .f32) (r : Fin 128) (j : Fin 256) :
    (k0_pay7 (st_k0_t2 (F := Ideal) Variants.none c none i a1 h1 a2 h2 a3 h3 a4 h4 a5 h5 a6 h6 a7 h7 a8 h8 a9 h9 a10 h10 a11 h11 a12 h12 hc x6 (h7.unread x7) k0_pay5 (Scf.trips (0#32) (Scalar.addi 0#32 32#32) 1#32)) (ix3 0 r j) : EReal)
      = Attn.biasOf (x6 (ix2 r j)) (fun k => x7 (ix2 1 k)) := by
  pointwise [k0_pay7]
  refine loop_bias (fun n => (st_k0_t2 (F := Ideal) Variants.none c none i a1 h1 a2 h2 a3 h3 a4 h4 a5 h5 a6 h6 a7 h7 a8 h8 a9 h9 a10 h10 a11 h11 a12 h12 hc x6 (h7.unread x7) k0_pay5 n (ix2 r j) : EReal)) _ _ ?_ fun k hk => ?_
  · show (st_k0_t2 (F := Ideal) Variants.none c none i a1 h1 a2 h2 a3 h3 a4 h4 a5 h5 a6 h6 a7 h7 a8 h8 a9 h9 a10 h10 a11 h11 a12 h12 hc x6 (h7.unread x7) k0_pay5 0 (ix2 r j) : EReal) = 0
    rw [st_k0_t2_zero]
    pointwise [k0_pay5]
  · have hk' : k < k0_t2_loop.trips := lt_of_lt_of_eq hk (by decide +kernel)
    refine (congrFun (st_k0_t2_succ (F := Ideal) Variants.none c none i a1 h1 a2 h2 a3 h3 a4 h4 a5 h5 a6 h6 a7 h7 a8 h8 a9 h9 a10 h10 a11 h11 a12 h12 hc x6 (h7.unread x7) k0_pay5 ⟨k, hk'⟩) (ix2 r j)).trans ?_
    unfold tripR_k0_t2 trip_k0_t2
    dsimp only
    sl_unfold_words
    simp only [View.readAt_eq_ld, h7.read_unread]
    pointwise [k0_pay6]
    rw [Attn.select_eq]

theorem bias3_at (c : Dev nD) (i : grid0.Coords) (a1 : Memref sig .tc .vmem S128x512 .bf16) (h1 : a1.IsWhole) (a2 : Memref sig .tc .vmem S128x128 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x256 .i32) (h6 : a6.IsWhole) (a7 : Memref sig .tc .smem S8x32 .f32) (h7 : a7.IsWhole) (a8 : Memref sig .tc .smem S1x8 .f32) (h8 : a8.IsWhole) (a9 : Memref sig .tc .vmem S128x512 .bf16) (h9 : a9.IsWhole) (a10 : Memref sig .tc .vmem S8x128x256 .f32) (h10 : a10.IsWhole) (a11 : Memref sig .tc .vmem S8x128x256 .f32) (h11 : a11.IsWhole) (a12 : Memref sig .tc .vmem S8x128x256 .bf16) (h12 : a12.IsWhole) (hc : cond0_0 i)
    (x6 : Vec Ideal S128x256 .i32) (x7 : Vec Ideal S8x32 .f32) (r : Fin 128) (j : Fin 256) :
    (k0_pay10 (st_k0_t3 (F := Ideal) Variants.none c none i a1 h1 a2 h2 a3 h3 a4 h4 a5 h5 a6 h6 a7 h7 a8 h8 a9 h9 a10 h10 a11 h11 a12 h12 hc x6 (h7.unread x7) k0_pay8 (Scf.trips (0#32) (Scalar.addi 0#32 32#32) 1#32)) (ix3 0 r j) : EReal)
      = Attn.biasOf (x6 (ix2 r j)) (fun k => x7 (ix2 2 k)) := by
  pointwise [k0_pay10]
  refine loop_bias (fun n => (st_k0_t3 (F := Ideal) Variants.none c none i a1 h1 a2 h2 a3 h3 a4 h4 a5 h5 a6 h6 a7 h7 a8 h8 a9 h9 a10 h10 a11 h11 a12 h12 hc x6 (h7.unread x7) k0_pay8 n (ix2 r j) : EReal)) _ _ ?_ fun k hk => ?_
  · show (st_k0_t3 (F := Ideal) Variants.none c none i a1 h1 a2 h2 a3 h3 a4 h4 a5 h5 a6 h6 a7 h7 a8 h8 a9 h9 a10 h10 a11 h11 a12 h12 hc x6 (h7.unread x7) k0_pay8 0 (ix2 r j) : EReal) = 0
    rw [st_k0_t3_zero]
    pointwise [k0_pay8]
  · have hk' : k < k0_t3_loop.trips := lt_of_lt_of_eq hk (by decide +kernel)
    refine (congrFun (st_k0_t3_succ (F := Ideal) Variants.none c none i a1 h1 a2 h2 a3 h3 a4 h4 a5 h5 a6 h6 a7 h7 a8 h8 a9 h9 a10 h10 a11 h11 a12 h12 hc x6 (h7.unread x7) k0_pay8 ⟨k, hk'⟩) (ix2 r j)).trans ?_
    unfold tripR_k0_t3 trip_k0_t3
    dsimp only
    sl_unfold_words
    simp only [View.readAt_eq_ld, h7.read_unread]
    pointwise [k0_pay9]
    rw [Attn.select_eq]

theorem bias4_at (c : Dev nD) (i : grid0.Coords) (a1 : Memref sig .tc .vmem S128x512 .bf16) (h1 : a1.IsWhole) (a2 : Memref sig .tc .vmem S128x128 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x256 .i32) (h6 : a6.IsWhole) (a7 : Memref sig .tc .smem S8x32 .f32) (h7 : a7.IsWhole) (a8 : Memref sig .tc .smem S1x8 .f32) (h8 : a8.IsWhole) (a9 : Memref sig .tc .vmem S128x512 .bf16) (h9 : a9.IsWhole) (a10 : Memref sig .tc .vmem S8x128x256 .f32) (h10 : a10.IsWhole) (a11 : Memref sig .tc .vmem S8x128x256 .f32) (h11 : a11.IsWhole) (a12 : Memref sig .tc .vmem S8x128x256 .bf16) (h12 : a12.IsWhole) (hc : cond0_0 i)
    (x6 : Vec Ideal S128x256 .i32) (x7 : Vec Ideal S8x32 .f32) (r : Fin 128) (j : Fin 256) :
    (k0_pay13 (st_k0_t4 (F := Ideal) Variants.none c none i a1 h1 a2 h2 a3 h3 a4 h4 a5 h5 a6 h6 a7 h7 a8 h8 a9 h9 a10 h10 a11 h11 a12 h12 hc x6 (h7.unread x7) k0_pay11 (Scf.trips (0#32) (Scalar.addi 0#32 32#32) 1#32)) (ix3 0 r j) : EReal)
      = Attn.biasOf (x6 (ix2 r j)) (fun k => x7 (ix2 3 k)) := by
  pointwise [k0_pay13]
  refine loop_bias (fun n => (st_k0_t4 (F := Ideal) Variants.none c none i a1 h1 a2 h2 a3 h3 a4 h4 a5 h5 a6 h6 a7 h7 a8 h8 a9 h9 a10 h10 a11 h11 a12 h12 hc x6 (h7.unread x7) k0_pay11 n (ix2 r j) : EReal)) _ _ ?_ fun k hk => ?_
  · show (st_k0_t4 (F := Ideal) Variants.none c none i a1 h1 a2 h2 a3 h3 a4 h4 a5 h5 a6 h6 a7 h7 a8 h8 a9 h9 a10 h10 a11 h11 a12 h12 hc x6 (h7.unread x7) k0_pay11 0 (ix2 r j) : EReal) = 0
    rw [st_k0_t4_zero]
    pointwise [k0_pay11]
  · have hk' : k < k0_t4_loop.trips := lt_of_lt_of_eq hk (by decide +kernel)
    refine (congrFun (st_k0_t4_succ (F := Ideal) Variants.none c none i a1 h1 a2 h2 a3 h3 a4 h4 a5 h5 a6 h6 a7 h7 a8 h8 a9 h9 a10 h10 a11 h11 a12 h12 hc x6 (h7.unread x7) k0_pay11 ⟨k, hk'⟩) (ix2 r j)).trans ?_
    unfold tripR_k0_t4 trip_k0_t4
    dsimp only
    sl_unfold_words
    simp only [View.readAt_eq_ld, h7.read_unread]
    pointwise [k0_pay12]
    rw [Attn.select_eq]

theorem bias5_at (c : Dev nD) (i : grid0.Coords) (a1 : Memref sig .tc .vmem S128x512 .bf16) (h1 : a1.IsWhole) (a2 : Memref sig .tc .vmem S128x128 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x256 .i32) (h6 : a6.IsWhole) (a7 : Memref sig .tc .smem S8x32 .f32) (h7 : a7.IsWhole) (a8 : Memref sig .tc .smem S1x8 .f32) (h8 : a8.IsWhole) (a9 : Memref sig .tc .vmem S128x512 .bf16) (h9 : a9.IsWhole) (a10 : Memref sig .tc .vmem S8x128x256 .f32) (h10 : a10.IsWhole) (a11 : Memref sig .tc .vmem S8x128x256 .f32) (h11 : a11.IsWhole) (a12 : Memref sig .tc .vmem S8x128x256 .bf16) (h12 : a12.IsWhole) (hc : cond0_0 i)
    (x6 : Vec Ideal S128x256 .i32) (x7 : Vec Ideal S8x32 .f32) (u : FVec Ideal S128x256 .f32) (v : Vec Ideal S1x128x256 .f32) (r : Fin 128) (j : Fin 256) :
    (k0_pay16 (st_k0_t5 (F := Ideal) Variants.none c none i a1 h1 a2 h2 a3 h3 a4 h4 a5 h5 a6 h6 a7 h7 a8 h8 a9 h9 a10 h10 a11 h11 a12 h12 hc x6 u v (h7.unread x7) k0_pay14 (Scf.trips (0#32) (Scalar.addi 0#32 32#32) 1#32)) (ix3 0 r j) : EReal)
      = Attn.biasOf (x6 (ix2 r j)) (fun k => x7 (ix2 4 k)) := by
  pointwise [k0_pay16]
  refine loop_bias (fun n => (st_k0_t5 (F := Ideal) Variants.none c none i a1 h1 a2 h2 a3 h3 a4 h4 a5 h5 a6 h6 a7 h7 a8 h8 a9 h9 a10 h10 a11 h11 a12 h12 hc x6 u v (h7.unread x7) k0_pay14 n (ix2 r j) : EReal)) _ _ ?_ fun k hk => ?_
  · show (st_k0_t5 (F := Ideal) Variants.none c none i a1 h1 a2 h2 a3 h3 a4 h4 a5 h5 a6 h6 a7 h7 a8 h8 a9 h9 a10 h10 a11 h11 a12 h12 hc x6 u v (h7.unread x7) k0_pay14 0 (ix2 r j) : EReal) = 0
    rw [st_k0_t5_zero]
    pointwise [k0_pay14]
  · have hk' : k < k0_t5_loop.trips := lt_of_lt_of_eq hk (by decide +kernel)
    refine (congrFun (st_k0_t5_succ (F := Ideal) Variants.none c none i a1 h1 a2 h2 a3 h3 a4 h4 a5 h5 a6 h6 a7 h7 a8 h8 a9 h9 a10 h10 a11 h11 a12 h12 hc x6 u v (h7.unread x7) k0_pay14 ⟨k, hk'⟩) (ix2 r j)).trans ?_
    unfold tripR_k0_t5 trip_k0_t5
    dsimp only
    sl_unfold_words
    simp only [View.readAt_eq_ld, h7.read_unread]
    pointwise [k0_pay15]
    rw [Attn.select_eq]

theorem bias6_at (c : Dev nD) (i : grid0.Coords) (a1 : Memref sig .tc .vmem S128x512 .bf16) (h1 : a1.IsWhole) (a2 : Memref sig .tc .vmem S128x128 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x256 .i32) (h6 : a6.IsWhole) (a7 : Memref sig .tc .smem S8x32 .f32) (h7 : a7.IsWhole) (a8 : Memref sig .tc .smem S1x8 .f32) (h8 : a8.IsWhole) (a9 : Memref sig .tc .vmem S128x512 .bf16) (h9 : a9.IsWhole) (a10 : Memref sig .tc .vmem S8x128x256 .f32) (h10 : a10.IsWhole) (a11 : Memref sig .tc .vmem S8x128x256 .f32) (h11 : a11.IsWhole) (a12 : Memref sig .tc .vmem S8x128x256 .bf16) (h12 : a12.IsWhole) (hc : cond0_0 i)
    (x6 : Vec Ideal S128x256 .i32) (x7 : Vec Ideal S8x32 .f32) (u : FVec Ideal S128x256 .f32) (v : Vec Ideal S1x128x256 .f32) (r : Fin 128) (j : Fin 256) :
    (k0_pay19 (st_k0_t6 (F := Ideal) Variants.none c none i a1 h1 a2 h2 a3 h3 a4 h4 a5 h5 a6 h6 a7 h7 a8 h8 a9 h9 a10 h10 a11 h11 a12 h12 hc x6 u v (h7.unread x7) k0_pay17 (Scf.trips (0#32) (Scalar.addi 0#32 32#32) 1#32)) (ix3 0 r j) : EReal)
      = Attn.biasOf (x6 (ix2 r j)) (fun k => x7 (ix2 5 k)) := by
  pointwise [k0_pay19]
  refine loop_bias (fun n => (st_k0_t6 (F := Ideal) Variants.none c none i a1 h1 a2 h2 a3 h3 a4 h4 a5 h5 a6 h6 a7 h7 a8 h8 a9 h9 a10 h10 a11 h11 a12 h12 hc x6 u v (h7.unread x7) k0_pay17 n (ix2 r j) : EReal)) _ _ ?_ fun k hk => ?_
  · show (st_k0_t6 (F := Ideal) Variants.none c none i a1 h1 a2 h2 a3 h3 a4 h4 a5 h5 a6 h6 a7 h7 a8 h8 a9 h9 a10 h10 a11 h11 a12 h12 hc x6 u v (h7.unread x7) k0_pay17 0 (ix2 r j) : EReal) = 0
    rw [st_k0_t6_zero]
    pointwise [k0_pay17]
  · have hk' : k < k0_t6_loop.trips := lt_of_lt_of_eq hk (by decide +kernel)
    refine (congrFun (st_k0_t6_succ (F := Ideal) Variants.none c none i a1 h1 a2 h2 a3 h3 a4 h4 a5 h5 a6 h6 a7 h7 a8 h8 a9 h9 a10 h10 a11 h11 a12 h12 hc x6 u v (h7.unread x7) k0_pay17 ⟨k, hk'⟩) (ix2 r j)).trans ?_
    unfold tripR_k0_t6 trip_k0_t6
    dsimp only
    sl_unfold_words
    simp only [View.readAt_eq_ld, h7.read_unread]
    pointwise [k0_pay18]
    rw [Attn.select_eq]

theorem bias7_at (c : Dev nD) (i : grid0.Coords) (a1 : Memref sig .tc .vmem S128x512 .bf16) (h1 : a1.IsWhole) (a2 : Memref sig .tc .vmem S128x128 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x256 .i32) (h6 : a6.IsWhole) (a7 : Memref sig .tc .smem S8x32 .f32) (h7 : a7.IsWhole) (a8 : Memref sig .tc .smem S1x8 .f32) (h8 : a8.IsWhole) (a9 : Memref sig .tc .vmem S128x512 .bf16) (h9 : a9.IsWhole) (a10 : Memref sig .tc .vmem S8x128x256 .f32) (h10 : a10.IsWhole) (a11 : Memref sig .tc .vmem S8x128x256 .f32) (h11 : a11.IsWhole) (a12 : Memref sig .tc .vmem S8x128x256 .bf16) (h12 : a12.IsWhole) (hc : cond0_0 i)
    (x6 : Vec Ideal S128x256 .i32) (x7 : Vec Ideal S8x32 .f32) (u : FVec Ideal S128x256 .f32) (v : Vec Ideal S1x128x256 .f32) (r : Fin 128) (j : Fin 256) :
    (k0_pay22 (st_k0_t7 (F := Ideal) Variants.none c none i a1 h1 a2 h2 a3 h3 a4 h4 a5 h5 a6 h6 a7 h7 a8 h8 a9 h9 a10 h10 a11 h11 a12 h12 hc x6 u v (h7.unread x7) k0_pay20 (Scf.trips (0#32) (Scalar.addi 0#32 32#32) 1#32)) (ix3 0 r j) : EReal)
      = Attn.biasOf (x6 (ix2 r j)) (fun k => x7 (ix2 6 k)) := by
  pointwise [k0_pay22]
  refine loop_bias (fun n => (st_k0_t7 (F := Ideal) Variants.none c none i a1 h1 a2 h2 a3 h3 a4 h4 a5 h5 a6 h6 a7 h7 a8 h8 a9 h9 a10 h10 a11 h11 a12 h12 hc x6 u v (h7.unread x7) k0_pay20 n (ix2 r j) : EReal)) _ _ ?_ fun k hk => ?_
  · show (st_k0_t7 (F := Ideal) Variants.none c none i a1 h1 a2 h2 a3 h3 a4 h4 a5 h5 a6 h6 a7 h7 a8 h8 a9 h9 a10 h10 a11 h11 a12 h12 hc x6 u v (h7.unread x7) k0_pay20 0 (ix2 r j) : EReal) = 0
    rw [st_k0_t7_zero]
    pointwise [k0_pay20]
  · have hk' : k < k0_t7_loop.trips := lt_of_lt_of_eq hk (by decide +kernel)
    refine (congrFun (st_k0_t7_succ (F := Ideal) Variants.none c none i a1 h1 a2 h2 a3 h3 a4 h4 a5 h5 a6 h6 a7 h7 a8 h8 a9 h9 a10 h10 a11 h11 a12 h12 hc x6 u v (h7.unread x7) k0_pay20 ⟨k, hk'⟩) (ix2 r j)).trans ?_
    unfold tripR_k0_t7 trip_k0_t7
    dsimp only
    sl_unfold_words
    simp only [View.readAt_eq_ld, h7.read_unread]
    pointwise [k0_pay21]
    rw [Attn.select_eq]

theorem bias8_at (c : Dev nD) (i : grid0.Coords) (a1 : Memref sig .tc .vmem S128x512 .bf16) (h1 : a1.IsWhole) (a2 : Memref sig .tc .vmem S128x128 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x256 .i32) (h6 : a6.IsWhole) (a7 : Memref sig .tc .smem S8x32 .f32) (h7 : a7.IsWhole) (a8 : Memref sig .tc .smem S1x8 .f32) (h8 : a8.IsWhole) (a9 : Memref sig .tc .vmem S128x512 .bf16) (h9 : a9.IsWhole) (a10 : Memref sig .tc .vmem S8x128x256 .f32) (h10 : a10.IsWhole) (a11 : Memref sig .tc .vmem S8x128x256 .f32) (h11 : a11.IsWhole) (a12 : Memref sig .tc .vmem S8x128x256 .bf16) (h12 : a12.IsWhole) (hc : cond0_0 i)
    (x6 : Vec Ideal S128x256 .i32) (x7 : Vec Ideal S8x32 .f32) (u : FVec Ideal S128x256 .f32) (v : Vec Ideal S1x128x256 .f32) (r : Fin 128) (j : Fin 256) :
    (k0_pay25 (st_k0_t8 (F := Ideal) Variants.none c none i a1 h1 a2 h2 a3 h3 a4 h4 a5 h5 a6 h6 a7 h7 a8 h8 a9 h9 a10 h10 a11 h11 a12 h12 hc x6 u v (h7.unread x7) k0_pay23 (Scf.trips (0#32) (Scalar.addi 0#32 32#32) 1#32)) (ix3 0 r j) : EReal)
      = Attn.biasOf (x6 (ix2 r j)) (fun k => x7 (ix2 7 k)) := by
  pointwise [k0_pay25]
  refine loop_bias (fun n => (st_k0_t8 (F := Ideal) Variants.none c none i a1 h1 a2 h2 a3 h3 a4 h4 a5 h5 a6 h6 a7 h7 a8 h8 a9 h9 a10 h10 a11 h11 a12 h12 hc x6 u v (h7.unread x7) k0_pay23 n (ix2 r j) : EReal)) _ _ ?_ fun k hk => ?_
  · show (st_k0_t8 (F := Ideal) Variants.none c none i a1 h1 a2 h2 a3 h3 a4 h4 a5 h5 a6 h6 a7 h7 a8 h8 a9 h9 a10 h10 a11 h11 a12 h12 hc x6 u v (h7.unread x7) k0_pay23 0 (ix2 r j) : EReal) = 0
    rw [st_k0_t8_zero]
    pointwise [k0_pay23]
  · have hk' : k < k0_t8_loop.trips := lt_of_lt_of_eq hk (by decide +kernel)
    refine (congrFun (st_k0_t8_succ (F := Ideal) Variants.none c none i a1 h1 a2 h2 a3 h3 a4 h4 a5 h5 a6 h6 a7 h7 a8 h8 a9 h9 a10 h10 a11 h11 a12 h12 hc x6 u v (h7.unread x7) k0_pay23 ⟨k, hk'⟩) (ix2 r j)).trans ?_
    unfold tripR_k0_t8 trip_k0_t8
    dsimp only
    sl_unfold_words
    simp only [View.readAt_eq_ld, h7.read_unread]
    pointwise [k0_pay24]
    rw [Attn.select_eq]

theorem biasA_at (c : Dev nD) (i : grid0.Coords) (a1 : Memref sig .tc .vmem S128x512 .bf16) (h1 : a1.IsWhole) (a2 : Memref sig .tc .vmem S128x128 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x256 .i32) (h6 : a6.IsWhole) (a7 : Memref sig .tc .smem S8x32 .f32) (h7 : a7.IsWhole) (a8 : Memref sig .tc .smem S1x8 .f32) (h8 : a8.IsWhole) (a9 : Memref sig .tc .vmem S128x512 .bf16) (h9 : a9.IsWhole) (a10 : Memref sig .tc .vmem S8x128x256 .f32) (h10 : a10.IsWhole) (a11 : Memref sig .tc .vmem S8x128x256 .f32) (h11 : a11.IsWhole) (a12 : Memref sig .tc .vmem S8x128x256 .bf16) (h12 : a12.IsWhole) (hc : cond0_0 i)
    (x6 : Vec Ideal S128x256 .i32) (x7 : Vec Ideal S8x32 .f32) (x10 : Vec Ideal S8x128x256 .f32) (h : Fin 8) (r : Fin 128) (j : Fin 256) :
    (biasA (F := Ideal) c i a1 h1 a2 h2 a3 h3 a4 h4 a5 h5 a6 h6 a7 h7 a8 h8 a9 h9 a10 h10 a11 h11 a12 h12 hc x6 x7 x10 (ix3 h r j) : EReal)
      = Attn.biasOf (x6 (ix2 r j)) (fun k => x7 (ix2 h k)) := by
  unfold biasA
  fin_cases h
  · exact bias1_at c i a1 h1 a2 h2 a3 h3 a4 h4 a5 h5 a6 h6 a7 h7 a8 h8 a9 h9 a10 h10 a11 h11 a12 h12 hc x6 x7 r j
  · exact bias2_at c i a1 h1 a2 h2 a3 h3 a4 h4 a5 h5 a6 h6 a7 h7 a8 h8 a9 h9 a10 h10 a11 h11 a12 h12 hc x6 x7 r j
  · exact bias3_at c i a1 h1 a2 h2 a3 h3 a4 h4 a5 h5 a6 h6 a7 h7 a8 h8 a9 h9 a10 h10 a11 h11 a12 h12 hc x6 x7 r j
  · exact bias4_at c i a1 h1 a2 h2 a3 h3 a4 h4 a5 h5 a6 h6 a7 h7 a8 h8 a9 h9 a10 h10 a11 h11 a12 h12 hc x6 x7 r j
  · exact bias5_at c i a1 h1 a2 h2 a3 h3 a4 h4 a5 h5 a6 h6 a7 h7 a8 h8 a9 h9 a10 h10 a11 h11 a12 h12 hc x6 x7 _ _ r j
  · exact bias6_at c i a1 h1 a2 h2 a3 h3 a4 h4 a5 h5 a6 h6 a7 h7 a8 h8 a9 h9 a10 h10 a11 h11 a12 h12 hc x6 x7 _ _ r j
  · exact bias7_at c i a1 h1 a2 h2 a3 h3 a4 h4 a5 h5 a6 h6 a7 h7 a8 h8 a9 h9 a10 h10 a11 h11 a12 h12 hc x6 x7 _ _ r j
  · exact bias8_at c i a1 h1 a2 h2 a3 h3 a4 h4 a5 h5 a6 h6 a7 h7 a8 h8 a9 h9 a10 h10 a11 h11 a12 h12 hc x6 x7 _ _ r j

end Cert.AttnFwd

end

end
-- ==== Proof.FwdSteps.lean ====
module

public import proofs.«01_k».proof.Proof.FwdFrame
public import proofs.«01_k».proof.Proof.FwdLoop
public import proofs.«01_k».proof.Proof.AttnSteps

set_option maxRecDepth 16384
set_option maxHeartbeats 1600000

/-! # What the attention keeps between points, and leaves in its output -/

@[expose] public section

noncomputable section

namespace Cert.AttnFwd

open Idealize.ShloMosaic Idealize.ShloMosaic.TcCoe Idealize.SL.Sem
open Cert.Kernel4Ideal Cert.Kernel4Ideal.Gen

attribute [local irreducible] runA runB

theorem biasA_fun (c : Dev nD) (i : grid0.Coords) (a1 : Memref sig .tc .vmem S128x512 .bf16) (h1 : a1.IsWhole) (a2 : Memref sig .tc .vmem S128x128 .bf16) (h2 : a2.IsWhole) (a3 : Memref sig .tc .vmem S128x128 .bf16) (h3 : a3.IsWhole) (a4 : Memref sig .tc .vmem S128x128 .bf16) (h4 : a4.IsWhole) (a5 : Memref sig .tc .vmem S128x128 .bf16) (h5 : a5.IsWhole) (a6 : Memref sig .tc .vmem S128x256 .i32) (h6 : a6.IsWhole) (a7 : Memref sig .tc .smem S8x32 .f32) (h7 : a7.IsWhole) (a8 : Memref sig .tc .smem S1x8 .f32) (h8 : a8.IsWhole) (a9 : Memref sig .tc .vmem S128x512 .bf16) (h9 : a9.IsWhole) (a10 : Memref sig .tc .vmem S8x128x256 .f32) (h10 : a10.IsWhole) (a11 : Memref sig .tc .vmem S8x128x256 .f32) (h11 : a11.IsWhole) (a12 : Memref sig .tc .vmem S8x128x256 .bf16) (h12 : a12.IsWhole) (hc : cond0_0 i)
    (x6 : Vec Ideal S128x256 .i32) (x7 : Vec Ideal S8x32 .f32) (x10 : Vec Ideal S8x128x256 .f32) :
    biasA (F := Ideal) c i a1 h1 a2 h2 a3 h3 a4 h4 a5 h5 a6 h6 a7 h7 a8 h8 a9 h9 a10 h10 a11 h11 a12 h12 hc x6 x7 x10 = Attn.biasB x6 x7 := by
  funext z
  obtain ⟨h, r, j, rfl⟩ : ∃ (h : Fin 8) (r : Fin 128) (j : Fin 256), z = ix3 h r j := ⟨z 0, z 1, z 2, eq_ix3 z⟩
  exact biasA_at c i a1 h1 a2 h2 a3 h3 a4 h4 a5 h5 a6 h6 a7 h7 a8 h8 a9 h9 a10 h10 a11 h11 a12 h12 hc x6 x7 x10 h r j

variable (m : (ℓ : Loc nD τ sig) → Buf (Elt Ideal) ℓ) (c : Dev nD)

/-- The point with number `n` (the last one from there on). -/
def pt (n : ℕ) : Fin cfg0.N := ⟨min n 31, lt_of_lt_of_eq (by omega) N_0.symm⟩
theorem pt_val (t : Fin cfg0.N) : pt t.val = t :=
  Fin.ext (min_eq_left (Nat.lt_succ_iff.mp (lt_of_lt_of_eq t.isLt N_0)))

/-- The blocks the kernel loads at point `n`. -/
abbrev bQ (n : ℕ) : Vec Ideal S128x512 .bf16 := iblk m c 0 (pt n)
abbrev bKc (n : ℕ) : Vec Ideal S128x128 .bf16 := iblk m c 1 (pt n)
abbrev bKp (n : ℕ) : Vec Ideal S128x128 .bf16 := iblk m c 2 (pt n)
abbrev bVc (n : ℕ) : Vec Ideal S128x128 .bf16 := iblk m c 3 (pt n)
abbrev bVp (n : ℕ) : Vec Ideal S128x128 .bf16 := iblk m c 4 (pt n)
abbrev bT (n : ℕ) : Vec Ideal S128x256 .i32 := iblk m c 5 (pt n)
abbrev bR (n : ℕ) : Vec Ideal S8x32 .f32 := iblk m c 6 (pt n)
abbrev bS (n : ℕ) : Vec Ideal S1x8 .f32 := iblk m c 7 (pt n)

/-- The biases spread by the first point, and the probabilities. -/
def vB : Vec Ideal S8x128x256 .f32 := Attn.biasB (bT m c 0) (bR m c 0)
def vP (n : ℕ) : FVec Ideal S8x128x256 .f32 :=
  Attn.probV (bQ m c n) (bKc m c n) (bKp m c n) (bT m c n) (bS m c n) (BitVec.ofNat 32 ((grid0.coords (pt n)) 0).val) (vB m c)

/-- What is kept before a point, and what point `t` leaves. -/
def specV : Spec Ideal where
  inv c s0 := s0 = vB m c
  out c t X := X = Attn.headsV (bVc m c t.val) (bVp m c t.val) (Cert.Kernel2Ideal.Gen.k0_pay89 (vP m c t.val))

theorem stepsV : Steps m (specV m) where
  first c t h z8 s0 s1 s2 := by
    obtain rfl : t = pt 0 := Fin.ext h
    refine ⟨(outA_bias ..).trans (biasA_fun ..), (outA_out ..).trans ?_⟩
    rw [biasA_fun]
    rfl
  later c t h z8 s0 s1 s2 hi := by
    obtain ⟨n, rfl⟩ : ∃ n, t = pt n := ⟨t.val, (pt_val t).symm⟩
    subst hi
    have e : pt (pt n).val = pt n := pt_val _
    refine (outB_out ..).trans ?_
    show _ = Attn.headsV _ _ _
    dsimp only [vP, bQ, bKc, bKp, bVc, bVp, bT, bR, bS]
    rw [e]
    rfl

end Cert.AttnFwd

end

end
-- ==== Proof.FwdBlocks.lean ====
module

public import proofs.«01_k».proof.Proof.FwdSteps
public import proofs.«01_k».proof.Proof.AttnValue
import all proofs.«01_k».proof.Kernel4Ideal
import all proofs.«01_k».proof.Kernel2Ideal

set_option maxRecDepth 16384
set_option maxHeartbeats 1600000

/-! # What the attention loads at each grid point -/

@[expose] public section

noncomputable section

namespace Cert.AttnFwd

open Idealize.ShloMosaic Idealize.ShloMosaic.TcCoe Idealize.SL.Sem
open Cert.Kernel4Ideal Cert.Kernel4Ideal.Gen

/-- Each window's block index at each grid point. -/
theorem idx : ∀ t : Fin cfg0.N, win0_0.index t = ![t.val, 0] ∧ win0_1.index t = ![t.val, 0] ∧ win0_2.index t = ![t.val - 1, 0]
    ∧ win0_3.index t = ![t.val, 0] ∧ win0_4.index t = ![t.val - 1, 0] ∧ win0_5.index t = ![0, 0] ∧ win0_6.index t = ![0, 0]
    ∧ win0_7.index t = ![0, 0] ∧ win0_8.index t = ![t.val, 0] := by decide +kernel
theorem coord : ∀ t : Fin cfg0.N, ((grid0.coords t) 0).val = t.val := by decide +kernel

/-- The table of the buckets is the one that the gradient's kernel reads. -/
theorem lit_eq : (lit0 : Fin 32768 → BitVec 32) = Cert.Kernel2Ideal.lit0 := rfl

variable (m : (ℓ : Loc nD τ sig) → Buf (Elt Ideal) ℓ) (c : Dev nD)

/-- The row of the arrays that row `r` of the blocks at point `t` is, and of the previous block's. -/
def rowCur (t : Fin cfg0.N) (r : Fin 128) : Fin 4096 := ⟨128 * t.val + r.val, by have h : t.val < 32 := lt_of_lt_of_eq t.isLt N_0; omega⟩
def rowPrev (t : Fin cfg0.N) (r : Fin 128) : Fin 4096 :=
  ⟨128 * (t.val - 1) + r.val, by have h : t.val < 32 := lt_of_lt_of_eq t.isLt N_0; omega⟩

section
variable (t : Fin cfg0.N) (r : Fin 128)
theorem blk0 (d : Fin 512) : (iblk m c 0 t : Vec Ideal S128x512 .bf16) (ix2 r d) = m (c.tc.loc main_arg0) (ix2 (rowCur t r) d) := by
  unfold rowCur; blk_point [iblk, V, idx t]
theorem blk1 (d : Fin 128) : (iblk m c 1 t : Vec Ideal S128x128 .bf16) (ix2 r d) = m (c.tc.loc main_arg1) (ix2 (rowCur t r) d) := by
  unfold rowCur; blk_point [iblk, V, idx t]
theorem blk2 (d : Fin 128) : (iblk m c 2 t : Vec Ideal S128x128 .bf16) (ix2 r d) = m (c.tc.loc main_arg1) (ix2 (rowPrev t r) d) := by
  unfold rowPrev; blk_point [iblk, V, idx t]
theorem blk3 (d : Fin 128) : (iblk m c 3 t : Vec Ideal S128x128 .bf16) (ix2 r d) = m (c.tc.loc main_arg2) (ix2 (rowCur t r) d) := by
  unfold rowCur; blk_point [iblk, V, idx t]
theorem blk4 (d : Fin 128) : (iblk m c 4 t : Vec Ideal S128x128 .bf16) (ix2 r d) = m (c.tc.loc main_arg2) (ix2 (rowPrev t r) d) := by
  unfold rowPrev; blk_point [iblk, V, idx t]
theorem blk5 (d : Fin 256) : (iblk m c 5 t : Vec Ideal S128x256 .i32) (ix2 r d) = lit0 ⟨256 * r.val + d.val, by omega⟩ := by
  blk_simp [iblk, V, idx t]
  entry_read
  have e : ((View.whole main_c).slice (win0_5.rect t)).emb (ix2 r d) = (ix2 r d : S128x256.Idx) := by blk_ext [idx t]
  refine congrArg lit0 (Fin.ext ?_)
  rw [e]
  refine (Shape.rowMajor_val_two _).trans ?_
  show r.val * 256 + d.val = 256 * r.val + d.val
  omega
theorem blk6 (h : Fin 8) (b : Fin 32) : (iblk m c 6 t : Vec Ideal S8x32 .f32) (ix2 h b) = m (c.tc.loc main_arg3) (ix3 0 b h) := by
  blk_point [iblk, V, idx t]
theorem blk7 (h : Fin 8) : (iblk m c 7 t : Vec Ideal S1x8 .f32) (ix2 0 h) = m (c.tc.loc main_arg4) (ix2 0 h) := by
  blk_point [iblk, V, idx t]
end

end Cert.AttnFwd

end

end
-- ==== Proof.FwdValue.lean ====
module

public import proofs.«01_k».proof.Proof.FwdBlocks

set_option maxRecDepth 16384
set_option maxHeartbeats 1600000

/-! # The attention, of finite queries, keys, biases and sinks -/

@[expose] public section

noncomputable section

namespace Cert.AttnFwd

open Idealize.ShloMosaic Idealize.ShloMosaic.TcCoe Idealize.SL.Sem
open Cert.Kernel4Ideal Cert.Kernel4Ideal.Gen

open Cert.Attn (Args IsArgs bnd bandE bandR rowN lane8 lane2 okN ok_band bucketT biasOf)

/-- What row `i` of block `n` gets in one lane of one head: the values it attends to, weighted. -/
def att (X : Args) (V : Fin 4096 → Fin 128 → EReal) (n : Fin 32) (h : Fin 8) (i : Fin 128) (d : Fin 64) : EReal :=
  ∑ j : Fin 256, X.prob n h i j * bandE V n j (lane2 h d)
/-- The same, by position. -/
def attA (X : Args) (V : Fin 4096 → Fin 128 → EReal) (i : Fin 4096) (l : Fin 512) : EReal :=
  att X V ⟨i.val / 128, by omega⟩ ⟨l.val / 64, by omega⟩ ⟨i.val % 128, by omega⟩ ⟨l.val % 64, by omega⟩
theorem attA_at (X : Args) (V : Fin 4096 → Fin 128 → EReal) (n : Fin 32) (h : Fin 8) (i : Fin 128) (d : Fin 64) :
    attA X V (rowN n i) (lane8 h d) = att X V n h i d := by
  unfold attA
  congr 1 <;> ext <;> simp only [rowN, lane8] <;> omega

variable (m : (ℓ : Loc nD τ sig) → Buf (Elt Ideal) ℓ) (c : Dev nD)

/-- The run's values. -/
def valsOf (i : Fin 4096) (l : Fin 128) : EReal := m (c.tc.loc main_arg2) (ix2 i l)
/-- The run's other arguments are these real numbers (the attention takes no cotangent, and its values may be infinite). -/
abbrev KArgs (X : Args) : Prop :=
  IsArgs (fun i l => m (c.tc.loc main_arg0) (ix2 i l)) (fun i l => m (c.tc.loc main_arg1) (ix2 i l)) (fun _ _ => 0)
    (fun _ _ => 0) (fun b h => m (c.tc.loc main_arg3) (ix3 0 b h)) (fun h => m (c.tc.loc main_arg4) (ix2 0 h)) X

/-- The table's block. -/
theorem bT_at (n : ℕ) (i : Fin 128) (j : Fin 256) : bT m c n (ix2 i j) = bucketT i.val j.val :=
  (blk5 m c _ i j).trans ((congrFun lit_eq _).trans (Attn.table_at i j))

variable {m c} {X : Args} (hX : KArgs m c X)

theorem pt_of (n : Fin 32) : (pt n.val).val = n.val := min_eq_left (by omega)
theorem rowCur_pt (n : Fin 32) (i : Fin 128) : rowCur (pt n.val) i = rowN n i :=
  Fin.ext (by simp only [rowCur, rowN, pt_of])
theorem rowCur_eq (n : Fin 32) (i : Fin 128) : rowCur (pt n.val) i = Attn.rowCur (Attn.pt n.val) i := by
  rw [rowCur_pt, Attn.rowCur_pt]
theorem rowPrev_eq (n : Fin 32) (i : Fin 128) : rowPrev (pt n.val) i = Attn.rowPrev (Attn.pt n.val) i :=
  Fin.ext (by simp only [rowPrev, Attn.rowPrev, pt_of, Attn.pt_of])

include hX
theorem q_at (n : Fin 32) (i : Fin 128) (l : Fin 512) : (bQ m c n.val (ix2 i l) : EReal) = X.Q (rowN n i) l :=
  (blk0 m c _ i l).trans ((hX.q _ l).trans (by rw [rowCur_pt]))
theorem k_band (n : Fin 32) (j : Fin 256) (hj : n.val ≠ 0 ∨ 128 ≤ j.val) (l : Fin 128) : bnd (bKp m c n.val) (bKc m c n.val) j l = bandR X.K n j l :=
  Attn.bnd_of (fun r l => (blk2 m c _ r l).trans ((hX.k _ l).trans (by rw [rowPrev_eq])))
    (fun r l => (blk1 m c _ r l).trans ((hX.k _ l).trans (by rw [rowCur_eq]))) hj l
omit hX in
theorem v_band (n : Fin 32) (j : Fin 256) (hj : n.val ≠ 0 ∨ 128 ≤ j.val) (l : Fin 128) : bnd (bVp m c n.val) (bVc m c n.val) j l = bandE (valsOf m c) n j l :=
  Attn.bndE_of (fun r l => (blk4 m c _ r l).trans (by rw [rowPrev_eq]; rfl))
    (fun r l => (blk3 m c _ r l).trans (by rw [rowCur_eq]; rfl)) hj l
theorem vB_at (h : Fin 8) (i : Fin 128) (j : Fin 256) : (vB m c (ix3 h i j) : EReal) = biasOf (bucketT i.val j.val) (fun b => (X.B b h : EReal)) := by
  have e : (fun b => (bR m c 0 (ix2 h b) : EReal)) = fun b => (X.B b h : EReal) := funext fun b => (blk6 m c _ h b).trans (hX.b b h)
  unfold vB Attn.biasB
  exact congrArg₂ biasOf (bT_at m c 0 i j) e
theorem sink_at (n : Fin 32) (h : Fin 8) : (Attn.sinkV (bS m c n.val) (ix3 h 0 0) : EReal) = X.S h :=
  (Attn.sinkV_at h _).trans ((blk7 m c _ h).trans (hX.s h))

theorem vP_at (n : Fin 32) (h : Fin 8) (i : Fin 128) (j : Fin 256) : (vP m c n.val (ix3 h i j) : EReal) = X.prob n h i j := by
  have hq := q_at hX n
  have hk := k_band hX n
  have hb := bT_at m c n.val
  have hw := vB_at (m := m) (c := c) hX
  have hs := sink_at hX n h
  unfold vP Attn.probV
  rw [coord, pt_of, Attn.pay73_at]
  generalize bQ m c n.val = q at hq ⊢
  generalize bKc m c n.val = kc at hk ⊢
  generalize bKp m c n.val = kp at hk ⊢
  generalize bT m c n.val = bk at hb ⊢
  generalize vB m c = w at hw ⊢
  rw [Attn.logit_of n hq hk hb hw, hs]
  rfl

/-- The attention, of one block. -/
theorem att_at (n : Fin 32) (h : Fin 8) (i : Fin 128) (d : Fin 64) :
    (Attn.headsV (bVc m c n.val) (bVp m c n.val) (Cert.Kernel2Ideal.Gen.k0_pay89 (vP m c n.val)) (ix2 i (lane8 h d)) : EReal) = att X (valsOf m c) n h i d := by
  have e := fun j => vP_at hX n h i j
  have hv := v_band (m := m) (c := c) n
  generalize vP m c n.val = P at e ⊢
  generalize bVc m c n.val = A at hv ⊢
  generalize bVp m c n.val = B at hv ⊢
  rw [Attn.headsV_at]
  unfold att
  refine Finset.sum_congr rfl fun j _ => ?_
  rw [Attn.pay89_at, e]
  by_cases ho : okN n i j = true
  · rw [hv j (ok_band ho).1]
  · rw [X.prob_masked n h i j (Bool.eq_false_iff.mpr ho), zero_mul, zero_mul]

end Cert.AttnFwd

end

end
-- ==== Proof.FwdFinal.lean ====
module

public import proofs.«01_k».proof.Proof.FwdValue
public import Idealize.ShloMosaic.Lib.Pipeline.ArrRel

set_option maxRecDepth 16384
set_option maxHeartbeats 1600000

/-! # What the attention leaves in its result -/

@[expose] public section

noncomputable section

namespace Cert.AttnFwd

open Idealize.ShloMosaic Idealize.ShloMosaic.TcCoe Idealize.SL.Sem
open Cert.Kernel4Ideal Cert.Kernel4Ideal.Gen

open Idealize.ShloMosaic.Pipeline

variable {m : (ℓ : Loc nD τ sig) → Buf (Elt Ideal) ℓ} {c : Dev nD}

/-- The run's result, from what the launch is known to leave. -/
theorem final (X : Attn.Args) (hX : KArgs m c X) {r} (h : RDat.FramePost (cfgs 0) (data m (specV m)) (V m) r) :
    r.2.mem ((c.tc : Thread nD τ).loc main_v5) = (fun i => attA X (valsOf m c) (i 0) (i 1) : Vec Ideal S4096x512 .bf16) := by
  obtain ⟨after, hL, hA⟩ := h.exists_exact c
  refine (hA 8).trans ?_
  refine Dat.arrAt_eq_of_covers _ 8 _ (by decide +kernel) fun t hf y => ?_
  obtain ⟨Z, -, e⟩ := hL 8 t hf
  have h32 : t.val < 32 := lt_of_lt_of_eq t.isLt N_0
  obtain ⟨n, rfl⟩ : ∃ n : Fin 32, t = pt n.val := ⟨⟨t.val, h32⟩, (pt_val t).symm⟩
  blk_simp
  rw [RDat.withAfter_after]
  obtain ⟨i, l, rfl⟩ : ∃ (i : Fin 128) (l : Fin 512), y = ix2 i l := ⟨y 0, y 1, by funext a; fin_cases a <;> rfl⟩
  obtain ⟨hh, d, rfl⟩ := Attn.lane8_split l
  have e : after 8 (pt n.val) = _ := e
  refine (congrFun e _).trans ?_
  rw [pt_of]
  refine (att_at hX n hh i d).trans ?_
  rw [← attA_at]
  have e0 : ((win0_8.blk (pt n.val)).view.emb (ix2 i (Attn.lane8 hh d)) 0 : Fin 4096) = Attn.rowN n i :=
    Fin.ext (by unfold Attn.rowN; blk_simp [idx (pt n.val), pt_of]; simp; omega)
  have e1 : ((win0_8.blk (pt n.val)).view.emb (ix2 i (Attn.lane8 hh d)) 1 : Fin 512) = Attn.lane8 hh d := Fin.ext (by blk_simp [idx (pt n.val)])
  exact (congrArg₂ (attA X (valsOf m c)) e0 e1).symm

end Cert.AttnFwd

end

end
-- ==== Proof.FwdFrames.lean ====
module

public import proofs.«01_k».proof.Defs
public import proofs.«01_k».proof.Proof.AttnFrames
public import proofs.«01_k».proof.Proof.FwdFrame
public import proofs.«01_k».proof.Proof.Gen.Kernel4
public import proofs.«01_k».proof.Proof.Gen.Pre_finite_inputs

set_option maxRecDepth 16384
set_option maxHeartbeats 1600000

/-! # The frames of the attention -/

@[expose] public section

noncomputable section

namespace Cert.AttnFwd

open Idealize.ShloMosaic Idealize.ShloMosaic.TcCoe Idealize.SL.Sem
open Cert.Kernel4Ideal Cert.Kernel4Ideal.Gen

open Idealize.ShloMosaic.Pipeline (RDat)

section

variable {F : FTy → Type} [FloatOps F] [Named F]
variable (m : (ℓ : Loc nD τ sig) → Buf (Elt F) ℓ) (ρ : Dev nD → PrngReg)

/-- The arguments end as they began, whatever is known of the kernel's values. -/
theorem kept (S : Spec F) (r) (h : RDat.FramePost (cfgs 0) (data m S) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    (h.arr_in c 7 rfl).trans (V_main_arg4 m c)⟩

/-- Nothing is asked of the values. -/
def anySpec : Spec F := ⟨fun _ _ => True, fun _ _ _ => True⟩

theorem anySteps : Steps m (anySpec (F := F)) := ⟨fun _ _ _ _ _ _ _ => ⟨trivial, trivial⟩, fun _ _ _ _ _ _ _ _ => trivial⟩

end

/-- The program runs, ends with every counter at zero, and keeps its arguments. -/
theorem frame_all {F : FTy → Type} [FloatOps F] [Named F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  have h := launch m ρ anySpec (anySteps m)
  exact (θ_run _ _ _).mono (fun r h => ⟨fun c => kept m _ r h.1 c, h.2⟩) h

theorem frame_ideal : Cert.quiescent_Kernel4Ideal := by
  intro m ρ _
  have h := frame_all (F := Ideal) m ρ
  exact h

theorem frame_ideal_pre : Cert.quiescent_Kernel4Ideal_pre_finite_inputs := by
  intro m ρ _
  have h := frame_all (F := Ideal) m ρ
  exact h

/-- At words the two programs are the same. -/
theorem frame_kernel : Cert.quiescent_Kernel4 := by
  intro m ρ _
  refine cast ?_ (frame_all (F := Bits) m ρ)
  sl_kernel_rfl

end Cert.AttnFwd

end

end
-- ==== Proof.FwdRef.lean ====
module

public import proofs.«01_k».proof.Proof.AttnRefD
public import proofs.«01_k».proof.Proof.FwdValue
public import proofs.«01_k».proof.Proof.Gen.Reference4Ideal.Read

set_option maxRecDepth 16384

/-! # The attention's reference, entry by entry -/

@[expose] public section

noncomputable section

namespace Cert.AttnFwd

open Cert.Reference4Ideal Cert.Reference4Ideal.Gen Idealize.ShloMosaic Idealize.ShloMosaic.TcCoe Cert.Reference4Ideal.Read
open Cert.Attn (Args AQ AK AB AS RArgs at2 at4 at5 rowN lane8 lane2 head4 bandR)

/-- Up to the probabilities the reference does what its gradient's does. -/
theorem probs_eq (x0 : AQ) (x1 : AK) (x3 : AB) (x4 : AS) :
    val_main_v150 (F := Ideal) x0 x1 x3 x4 = Cert.Reference2Ideal.Read.val_main_v176 (F := Ideal) x0 x1 x3 x4 := rfl
theorem values_eq (x2 : AK) : val_main_v14 (F := Ideal) x2 = Cert.Reference2Ideal.Read.val_main_v16 (F := Ideal) x2 := rfl

variable {x0 : AQ} {x1 x2 : AK} {x3 : AB} {x4 : AS} {X : Args} (hX : RArgs x0 x1 (fun _ => (0 : EReal)) (fun _ => (0 : EReal)) x3 x4 X)
include hX

theorem att_ref (n : Fin 32) (k : Fin 2) (g : Fin 4) (q : Fin 128) (d : Fin 64) :
    (val_main_v153 (F := Ideal) x0 x1 x2 x3 x4 (ix2 (rowN n q) (lane8 (head4 k g) d)) : EReal) = att X (fun i l => x2 (ix2 i l)) n (head4 k g) q d := by
  have hd := d.isLt; have hq := q.isLt; have hg := g.isLt
  rw [val_main_v153_apply]
  refine (at5 (val_main_v152 (F := Ideal) x0 x1 x2 x3 x4) _ n q k g d
    (by show ((128 * n.val + q.val) * 512 + (64 * (4 * k.val + g.val) + d.val)) / 65536 = n.val; omega)
    (by show ((128 * n.val + q.val) * 512 + (64 * (4 * k.val + g.val) + d.val)) / 512 % 128 = q.val; omega)
    (by show ((128 * n.val + q.val) * 512 + (64 * (4 * k.val + g.val) + d.val)) / 256 % 2 = k.val; omega)
    (by show ((128 * n.val + q.val) * 512 + (64 * (4 * k.val + g.val) + d.val)) / 64 % 4 = g.val; omega)
    (by show ((128 * n.val + q.val) * 512 + (64 * (4 * k.val + g.val) + d.val)) % 64 = d.val; omega)).trans ?_
  rw [val_main_v152_apply]
  refine (at5 (val_main_v151 (F := Ideal) x0 x1 x2 x3 x4) _ n k d g q rfl rfl rfl rfl rfl).trans ?_
  rw [val_main_v151_apply, probs_eq, values_eq]
  unfold att
  refine Finset.sum_congr rfl fun s _ => (mul_comm _ _).trans (congrArg₂ (fun a b : EReal => a * b) ?_ ?_)
  · exact (at5 (Cert.Reference2Ideal.Read.val_main_v176 (F := Ideal) x0 x1 x3 x4) _ n k g q s rfl rfl rfl rfl rfl).trans (Attn.prob_ref hX n k g q s)
  · exact (at4 (Cert.Reference2Ideal.Read.val_main_v16 (F := Ideal) x2) _ n s k d rfl rfl rfl rfl).trans
      ((Attn.bandVE_ref n k s d x2).trans (by rw [Attn.lane2_head4]))

/-- The reference's result. -/
theorem res : (val_main_v154 (F := Ideal) x0 x1 x2 x3 x4 : Vec Ideal S4096x512 .bf16) = fun i => attA X (fun i l => x2 (ix2 i l)) (i 0) (i 1) := by
  funext i
  obtain ⟨r, l, rfl⟩ : ∃ (r : Fin 4096) (l : Fin 512), i = ix2 r l := ⟨i 0, i 1, eq_ix2 i⟩
  obtain ⟨n, q, rfl⟩ := Attn.row_split r
  obtain ⟨h, d, rfl⟩ := Attn.lane8_split l
  obtain ⟨k, g, rfl⟩ := Attn.head_split h
  exact (att_ref hX n k g q d).trans (attA_at X _ n (head4 k g) q d).symm

end Cert.AttnFwd

end

end
-- ==== Proof.FwdClaims.lean ====
module

public import proofs.«01_k».proof.Defs
public import proofs.«01_k».proof.Proof.FwdFinal
public import proofs.«01_k».proof.Proof.FwdFrames
public import proofs.«01_k».proof.Proof.FwdRef
public import proofs.«01_k».proof.Proof.AttnFinite
public import proofs.«01_k».proof.Proof.Gen.Reference4Ideal.Run

set_option maxRecDepth 16384

/-! # The claims about the attention's forward call -/

@[expose] public section

noncomputable section

namespace Cert.AttnFwd

open Idealize.ShloMosaic Idealize.ShloMosaic.TcCoe Idealize.SL.Sem

/-- The reference's frame: it has no semaphores and keeps its arguments. -/
theorem frame_reference : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem frame_reference_pre : Cert.quiescent_Reference4Ideal_pre_finite_inputs := fun m ρ _ => frame_reference m ρ trivial

/-- The mask's constant stands for minus infinity. -/
theorem preserves : Cert.preserves_Kernel4_Kernel4Ideal := IdealRules.named_const.statement Cert.Kernel4Ideal.κ "mask" .f32 0xF149F2CA#32 ⊥ rfl

open Cert.Pre_finite_inputs in
/-- The test of the four arrays, taken apart. -/
theorem pre_real (a0 : FVec Ideal S4096x512 .f32) (a1 a2 : FVec Ideal S4096x128 .f32)
    (a3 : FVec Ideal S1x32x8 .f32) (a4 : FVec Ideal S1x8 .f32) (h : Cert.Pre_finite_inputs.fn (F := Ideal) a0 a1 a2 a3 a4 = fun _ => 1#1) :
    (∀ i, (a0 i : EReal) = ((a0 i : EReal).toReal : EReal)) ∧ (∀ i, (a1 i : EReal) = ((a1 i : EReal).toReal : EReal))
      ∧ (∀ i, (a3 i : EReal) = ((a3 i : EReal).toReal : EReal)) ∧ (∀ i, (a4 i : EReal) = ((a4 i : EReal).toReal : EReal)) := by
  have : Subsingleton S_.Idx := ⟨fun _ _ => funext fun a => a.elim0⟩
  have h0 := congrFun h ix0
  unfold Cert.Pre_finite_inputs.fn at h0
  obtain ⟨h0, h4⟩ := IntOp.andi_eq_one.mp h0
  obtain ⟨h0, h3⟩ := IntOp.andi_eq_one.mp h0
  obtain ⟨h0, h1⟩ := IntOp.andi_eq_one.mp h0
  exact ⟨Attn.real_of_all _ _ (fun _ => Attn.inf_bits) _ _ _ _ h0, Attn.real_of_all _ _ (fun _ => Attn.inf_bits) _ _ _ _ h1,
    Attn.real_of_all _ _ (fun _ => Attn.inf_bits) _ _ _ _ h3,
    Attn.real_of_all _ _ (fun _ => Attn.inf_bits) _ _ _ _ h4⟩

section
open Cert.Kernel4Ideal Cert.Kernel4Ideal.Gen
variable (m : (ℓ : Loc nD τ sig) → Buf (Elt Ideal) ℓ) (c : Dev nD)

/-- The arguments as real numbers, the values left out. -/
def margs : Attn.Args := Attn.realArgs (m (c.tc.loc main_arg0)) (m (c.tc.loc main_arg1)) (fun _ => (0 : EReal)) (fun _ => (0 : EReal))
  (m (c.tc.loc main_arg3)) (m (c.tc.loc main_arg4))

theorem margs_ok (h : Cert.Pre_Kernel4Ideal_finite_inputs m) : KArgs m c (margs m c) := by
  obtain ⟨h0, h1, h3, h4⟩ := pre_real _ _ _ _ _ (h c)
  exact ⟨fun i l => h0 _, fun i l => h1 _, fun i l => by simp [margs, Attn.realArgs], fun i l => by simp [margs, Attn.realArgs], fun b h => h3 _, fun h => h4 _⟩
end

/-- Over the extended reals, on finite queries, keys, biases and sinks, the call computes the attention. -/
theorem algebraic : Cert.algebraic_Kernel4Ideal_Reference4Ideal_pre_finite_inputs := fun m ρ m' ρ' hp hag => by
  have hR : ∀ c : Dev Cert.Reference4Ideal.nD, Attn.RArgs (m' (c.tc.loc Cert.Reference4Ideal.main_arg0)) (m' (c.tc.loc Cert.Reference4Ideal.main_arg1))
      (fun _ => (0 : EReal)) (fun _ => (0 : EReal)) (m' (c.tc.loc Cert.Reference4Ideal.main_arg3))
      (m' (c.tc.loc Cert.Reference4Ideal.main_arg4)) (margs m c) := fun c => by
    obtain ⟨e0, e1, e2, e3, e4⟩ := hag c
    rw [e0, e1, e3, e4]
    exact margs_ok m c hp
  refine ⟨fun c => _,
    (θ_run _ _ _).mono (fun r h c => ⟨final (margs m c) (margs_ok m c hp) h.1, kept m (specV m) r h.1 c⟩) (launch m ρ (specV m) (stepsV m)),
    (θ_run _ _ _).mono (fun r h c => ⟨(h c).1.trans ?_, (h c).2⟩) (Cert.Reference4Ideal.Value.run (F := Ideal) m' ρ')⟩
  rw [Cert.Reference4Ideal.Read.val_main_v154_eq]
  refine (res (hR c)).trans (funext fun i => ?_)
  exact congrArg (fun V => attA (margs m c) V (i 0) (i 1)) (funext₂ fun r l => congrFun (hag c).2.2.1 (ix2 r l))

end Cert.AttnFwd

end

end
-- ==== Proof.MlpFwdBody.lean ====
module

public import proofs.«01_k».proof.Proof.Gen.Kernel5Ideal.Value
public import Idealize.ShloMosaic.Lib.Pointwise

/-! # What the forward perceptron's body leaves in its five output tiles, at either of its two cases -/

@[expose] public section

set_option maxRecDepth 16384

noncomputable section

namespace Cert.MlpFwd

open Cert.Kernel5Ideal Cert.Kernel5Ideal.Gen Idealize.ShloMosaic Idealize.ShloMosaic.TcCoe Idealize.SL.Sem

variable {F : FTy → Type} [FloatOps F]

/-- Zero offsets. -/
theorem hz : (![0, 0] : Fin 2 → Nat) = fun _ => 0 := funext fun a => by fin_cases a <;> rfl

variable (c : Dev nD) (i : grid0.Coords) (a1 : Memref sig .tc .vmem S512x1024 .bf16) (h1 : a1.IsWhole) (a2 : Memref sig .tc .vmem S512x1024 .f32) (h2 : a2.IsWhole) (a3 : Memref sig .tc .vmem S512x1024 .f32) (h3 : a3.IsWhole) (a4 : Memref sig .tc .vmem S1x1024 .f32) (h4 : a4.IsWhole) (a5 : Memref sig .tc .vmem S4096x1024 .bf16) (h5 : a5.IsWhole) (a6 : Memref sig .tc .vmem S4096x1024 .bf16) (h6 : a6.IsWhole) (a7 : Memref sig .tc .vmem S512x4096 .bf16) (h7 : a7.IsWhole) (a8 : Memref sig .tc .vmem S512x1024 .bf16) (h8 : a8.IsWhole) (a9 : Memref sig .tc .vmem S512x1024 .f32) (h9 : a9.IsWhole) (a10 : Memref sig .tc .vmem S8x128 .f32) (h10 : a10.IsWhole) (a11 : Memref sig .tc .vmem S1x1024 .f32) (h11 : a11.IsWhole) (a12 : Memref sig .tc .vmem S512x4096 .bf16) (h12 : a12.IsWhole)
  (x0 : Vec F S512x1024 .bf16) (x1 : Vec F S512x1024 .f32) (x2 : Vec F S512x1024 .f32) (x3 : Vec F S1x1024 .f32)
  (x4 : Vec F S4096x1024 .bf16) (x5 : Vec F S4096x1024 .bf16) (o9 : Vec F S8x128 .f32) (o10 : Vec F S1x1024 .f32)

/-- The four groups of 1024 rows of the first weight. -/
def w0 : Vec F S1024x1024 .bf16 := View.ld x4 (Rect.unit ![0, 0] ![1024, 1024] inb_S4096x1024_S1024x1024_0_0)
/-- The second group. -/
def w1 : Vec F S1024x1024 .bf16 := View.ld x4 (Rect.unit ![1024, 0] ![1024, 1024] inb_S4096x1024_S1024x1024_1024_0)
/-- The third group. -/
def w2 : Vec F S1024x1024 .bf16 := View.ld x4 (Rect.unit ![2048, 0] ![1024, 1024] inb_S4096x1024_S1024x1024_2048_0)
/-- The fourth group. -/
def w3 : Vec F S1024x1024 .bf16 := View.ld x4 (Rect.unit ![3072, 0] ![1024, 1024] inb_S4096x1024_S1024x1024_3072_0)

/-- Four stores of 1024 columns each, into a tile of 4096 columns. -/
def cols4 (p0 p1 p2 p3 : Vec F S512x1024 .bf16) : Vec F S512x4096 .bf16 :=
  View.canon [⟨Rect.unit (s := S512x4096) ![0, 3072] S512x1024.size inb_S512x4096_S512x1024_0_3072, p3⟩,
    ⟨Rect.unit (s := S512x4096) ![0, 2048] S512x1024.size inb_S512x4096_S512x1024_0_2048, p2⟩,
    ⟨Rect.unit (s := S512x4096) ![0, 1024] S512x1024.size inb_S512x4096_S512x1024_0_1024, p1⟩,
    ⟨Rect.unit (s := S512x4096) ![0, 0] S512x1024.size inb_S512x4096_S512x1024_0_0, p0⟩]

/-- The stored preactivations. -/
def tilePre : Vec F S512x4096 .bf16 :=
  cols4 (k0_pay8 x0 (w0 x4)) (k0_pay11 x0 (w1 x4)) (k0_pay15 (k0_pay14 x0 (w2 x4))) (k0_pay18 (k0_pay6 x0) (w3 x4))

/-- The activations, as the scratch holds them. -/
def tileAct : Vec F S512x4096 .bf16 :=
  cols4 (k0_pay9 x0 (w0 x4)) (k0_pay12 x0 (w1 x4)) (k0_pay16 (k0_pay13 x0 (w2 x4))) (k0_pay19 (k0_pay6 x0) (w3 x4))

/-- The stored tile of the perceptron output's gradient. -/
def tileDf : FVec F S512x1024 .bf16 :=
  k0_pay27 (k0_pay20 (tileAct x0 x4) x5) (k0_pay21 (tileAct x0 x4) x5) x3 x1 x2

/-- The stored tile of the residual's gradient. -/
def tileDx : FVec F S512x1024 .f32 :=
  k0_pay24 (k0_pay20 (tileAct x0 x4) x5) (k0_pay21 (tileAct x0 x4) x5) x3 x1 x2

/-- The tile's contribution to the loss block. -/
def tileLoss : FVec F S8x128 .f32 :=
  k0_pay1 (k0_pay23 (k0_pay20 (tileAct x0 x4) x5) (k0_pay21 (tileAct x0 x4) x5) x3 x1 x2)
    (iota .tc S8x128 32 [0] iota_S8x128_d0_w32) (iota .tc S8x128 32 [1] iota_S8x128_d1_w32) k0_pay28

/-- The tile's contribution to the norm scale's gradient. -/
def tileDg : FVec F S1x1024 .f32 :=
  k0_pay26 (k0_pay20 (tileAct x0 x4) x5) (k0_pay21 (tileAct x0 x4) x5) x3 x1 x2

/-- The scratch is read whole after its four stores. -/
theorem read_cols4 (v : View sig .tc .vmem S512x4096 .bf16) (p0 p1 p2 p3 : Vec F S512x1024 .bf16) :
    v.readCov (Val := Elt F) [⟨Rect.unit (s := S512x4096) ![0, 3072] ![512, 1024] inb_S512x4096_S512x1024_0_3072, p3⟩,
    ⟨Rect.unit (s := S512x4096) ![0, 2048] ![512, 1024] inb_S512x4096_S512x1024_0_2048, p2⟩,
    ⟨Rect.unit (s := S512x4096) ![0, 1024] ![512, 1024] inb_S512x4096_S512x1024_0_1024, p1⟩,
    ⟨Rect.unit (s := S512x4096) ![0, 0] ![512, 1024] inb_S512x4096_S512x1024_0_0, p0⟩]
      (Rect.unit (s := S512x4096) ![0, 0] ![512, 4096] inb_S512x4096_S512x4096_0_0).toLoadRect = cols4 p0 p1 p2 p3 := by
  rw [View.readCov_eq_canon']
  exact View.ld_unit_zero (S := S512x4096) hz _ _

/-- First grid point: the preactivations. -/
theorem out_A_6 (hc0 : cond0_0 i) (hc1 : ¬cond0_1 i) :
    out0_A_6 c i a1 h1 a2 h2 a3 h3 a4 h4 a5 h5 a6 h6 a7 h7 a8 h8 a9 h9 a10 h10 a11 h11 a12 h12 hc0 hc1 x0 x1 x2 x3 x4 x5 = tilePre x0 x4 := by
  unfold out0_A_6
  rw [View.read_writes_eq_canon _ _ _ (cover0_A_6 c i a1 h1 a2 h2 a3 h3 a4 h4 a5 h5 a6 h6 a7 h7 a8 h8 a9 h9 a10 h10 a11 h11 a12 h12 hc0 hc1 x0 x1 x2 x3 x4 x5)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, read_cols4,
    View.ld_unit_zero (S := S512x1024) hz, View.ld_unit_zero (S := S1x1024) hz, View.ld_unit_zero (S := S8x128) hz,
    View.ld_unit_zero (S := S4096x1024) hz, k0_pay2, k0_pay3, k0_pay4, k0_pay5, k0_pay25, shapeCast_self]
  rfl

/-- Later grid points: the preactivations. -/
theorem out_B_6 (hc0 : ¬cond0_0 i) (hc1 : cond0_1 i) :
    out0_B_6 c i a1 h1 a2 h2 a3 h3 a4 h4 a5 h5 a6 h6 a7 h7 a8 h8 a9 h9 a10 h10 a11 h11 a12 h12 hc0 hc1 x0 x1 x2 x3 x4 x5 o9 o10 = tilePre x0 x4 := by
  unfold out0_B_6
  rw [View.read_writes_eq_canon _ _ _ (cover0_B_6 c i a1 h1 a2 h2 a3 h3 a4 h4 a5 h5 a6 h6 a7 h7 a8 h8 a9 h9 a10 h10 a11 h11 a12 h12 hc0 hc1 x0 x1 x2 x3 x4 x5 o9 o10)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, read_cols4,
    View.ld_unit_zero (S := S512x1024) hz, View.ld_unit_zero (S := S1x1024) hz, View.ld_unit_zero (S := S8x128) hz,
    View.ld_unit_zero (S := S4096x1024) hz, k0_pay2, k0_pay3, k0_pay4, k0_pay5, k0_pay25, shapeCast_self]
  rfl

/-- First grid point: the perceptron output's gradient. -/
theorem out_A_7 (hc0 : cond0_0 i) (hc1 : ¬cond0_1 i) :
    out0_A_7 c i a1 h1 a2 h2 a3 h3 a4 h4 a5 h5 a6 h6 a7 h7 a8 h8 a9 h9 a10 h10 a11 h11 a12 h12 hc0 hc1 x0 x1 x2 x3 x4 x5 = tileDf x0 x1 x2 x3 x4 x5 := by
  unfold out0_A_7
  rw [View.read_writes_eq_canon _ _ _ (cover0_A_7 c i a1 h1 a2 h2 a3 h3 a4 h4 a5 h5 a6 h6 a7 h7 a8 h8 a9 h9 a10 h10 a11 h11 a12 h12 hc0 hc1 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, read_cols4,
    View.ld_unit_zero (S := S512x1024) hz, View.ld_unit_zero (S := S1x1024) hz, View.ld_unit_zero (S := S8x128) hz,
    View.ld_unit_zero (S := S4096x1024) hz, k0_pay2, k0_pay3, k0_pay4, k0_pay5, k0_pay25, shapeCast_self]
  rfl

/-- Later grid points: the perceptron output's gradient. -/
theorem out_B_7 (hc0 : ¬cond0_0 i) (hc1 : cond0_1 i) :
    out0_B_7 c i a1 h1 a2 h2 a3 h3 a4 h4 a5 h5 a6 h6 a7 h7 a8 h8 a9 h9 a10 h10 a11 h11 a12 h12 hc0 hc1 x0 x1 x2 x3 x4 x5 o9 o10 = tileDf x0 x1 x2 x3 x4 x5 := by
  unfold out0_B_7
  rw [View.read_writes_eq_canon _ _ _ (cover0_B_7 c i a1 h1 a2 h2 a3 h3 a4 h4 a5 h5 a6 h6 a7 h7 a8 h8 a9 h9 a10 h10 a11 h11 a12 h12 hc0 hc1 x0 x1 x2 x3 x4 x5 o9 o10)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, read_cols4,
    View.ld_unit_zero (S := S512x1024) hz, View.ld_unit_zero (S := S1x1024) hz, View.ld_unit_zero (S := S8x128) hz,
    View.ld_unit_zero (S := S4096x1024) hz, k0_pay2, k0_pay3, k0_pay4, k0_pay5, k0_pay25, shapeCast_self]
  rfl

/-- First grid point: the residual's gradient. -/
theorem out_A_8 (hc0 : cond0_0 i) (hc1 : ¬cond0_1 i) :
    out0_A_8 c i a1 h1 a2 h2 a3 h3 a4 h4 a5 h5 a6 h6 a7 h7 a8 h8 a9 h9 a10 h10 a11 h11 a12 h12 hc0 hc1 x0 x1 x2 x3 x4 x5 = tileDx x0 x1 x2 x3 x4 x5 := by
  unfold out0_A_8
  rw [View.read_writes_eq_canon _ _ _ (cover0_A_8 c i a1 h1 a2 h2 a3 h3 a4 h4 a5 h5 a6 h6 a7 h7 a8 h8 a9 h9 a10 h10 a11 h11 a12 h12 hc0 hc1 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, read_cols4,
    View.ld_unit_zero (S := S512x1024) hz, View.ld_unit_zero (S := S1x1024) hz, View.ld_unit_zero (S := S8x128) hz,
    View.ld_unit_zero (S := S4096x1024) hz, k0_pay2, k0_pay3, k0_pay4, k0_pay5, k0_pay25, shapeCast_self]
  rfl

/-- Later grid points: the residual's gradient. -/
theorem out_B_8 (hc0 : ¬cond0_0 i) (hc1 : cond0_1 i) :
    out0_B_8 c i a1 h1 a2 h2 a3 h3 a4 h4 a5 h5 a6 h6 a7 h7 a8 h8 a9 h9 a10 h10 a11 h11 a12 h12 hc0 hc1 x0 x1 x2 x3 x4 x5 o9 o10 = tileDx x0 x1 x2 x3 x4 x5 := by
  unfold out0_B_8
  rw [View.read_writes_eq_canon _ _ _ (cover0_B_8 c i a1 h1 a2 h2 a3 h3 a4 h4 a5 h5 a6 h6 a7 h7 a8 h8 a9 h9 a10 h10 a11 h11 a12 h12 hc0 hc1 x0 x1 x2 x3 x4 x5 o9 o10)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, read_cols4,
    View.ld_unit_zero (S := S512x1024) hz, View.ld_unit_zero (S := S1x1024) hz, View.ld_unit_zero (S := S8x128) hz,
    View.ld_unit_zero (S := S4096x1024) hz, k0_pay2, k0_pay3, k0_pay4, k0_pay5, k0_pay25, shapeCast_self]
  rfl

/-- First grid point: the loss block. -/
theorem out_A_9 (hc0 : cond0_0 i) (hc1 : ¬cond0_1 i) :
    out0_A_9 c i a1 h1 a2 h2 a3 h3 a4 h4 a5 h5 a6 h6 a7 h7 a8 h8 a9 h9 a10 h10 a11 h11 a12 h12 hc0 hc1 x0 x1 x2 x3 x4 x5 = tileLoss x0 x1 x2 x3 x4 x5 := by
  unfold out0_A_9
  rw [View.read_writes_eq_canon _ _ _ (cover0_A_9 c i a1 h1 a2 h2 a3 h3 a4 h4 a5 h5 a6 h6 a7 h7 a8 h8 a9 h9 a10 h10 a11 h11 a12 h12 hc0 hc1 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, read_cols4,
    View.ld_unit_zero (S := S512x1024) hz, View.ld_unit_zero (S := S1x1024) hz, View.ld_unit_zero (S := S8x128) hz,
    View.ld_unit_zero (S := S4096x1024) hz, k0_pay2, k0_pay3, k0_pay4, k0_pay5, k0_pay25, shapeCast_self]
  rfl

/-- Later grid points: the loss block. -/
theorem out_B_9 (hc0 : ¬cond0_0 i) (hc1 : cond0_1 i) :
    out0_B_9 c i a1 h1 a2 h2 a3 h3 a4 h4 a5 h5 a6 h6 a7 h7 a8 h8 a9 h9 a10 h10 a11 h11 a12 h12 hc0 hc1 x0 x1 x2 x3 x4 x5 o9 o10 = addf o9 (tileLoss x0 x1 x2 x3 x4 x5) := by
  unfold out0_B_9
  rw [View.read_writes_eq_canon _ _ _ (cover0_B_9 c i a1 h1 a2 h2 a3 h3 a4 h4 a5 h5 a6 h6 a7 h7 a8 h8 a9 h9 a10 h10 a11 h11 a12 h12 hc0 hc1 x0 x1 x2 x3 x4 x5 o9 o10)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, read_cols4,
    View.ld_unit_zero (S := S512x1024) hz, View.ld_unit_zero (S := S1x1024) hz, View.ld_unit_zero (S := S8x128) hz,
    View.ld_unit_zero (S := S4096x1024) hz, k0_pay2, k0_pay3, k0_pay4, k0_pay5, k0_pay25, shapeCast_self]
  rfl

/-- First grid point: the norm scale's gradient. -/
theorem out_A_10 (hc0 : cond0_0 i) (hc1 : ¬cond0_1 i) :
    out0_A_10 c i a1 h1 a2 h2 a3 h3 a4 h4 a5 h5 a6 h6 a7 h7 a8 h8 a9 h9 a10 h10 a11 h11 a12 h12 hc0 hc1 x0 x1 x2 x3 x4 x5 = tileDg x0 x1 x2 x3 x4 x5 := by
  unfold out0_A_10
  rw [View.read_writes_eq_canon _ _ _ (cover0_A_10 c i a1 h1 a2 h2 a3 h3 a4 h4 a5 h5 a6 h6 a7 h7 a8 h8 a9 h9 a10 h10 a11 h11 a12 h12 hc0 hc1 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, read_cols4,
    View.ld_unit_zero (S := S512x1024) hz, View.ld_unit_zero (S := S1x1024) hz, View.ld_unit_zero (S := S8x128) hz,
    View.ld_unit_zero (S := S4096x1024) hz, k0_pay2, k0_pay3, k0_pay4, k0_pay5, k0_pay25, shapeCast_self]
  rfl

/-- Later grid points: the norm scale's gradient. -/
theorem out_B_10 (hc0 : ¬cond0_0 i) (hc1 : cond0_1 i) :
    out0_B_10 c i a1 h1 a2 h2 a3 h3 a4 h4 a5 h5 a6 h6 a7 h7 a8 h8 a9 h9 a10 h10 a11 h11 a12 h12 hc0 hc1 x0 x1 x2 x3 x4 x5 o9 o10 = addf o10 (tileDg x0 x1 x2 x3 x4 x5) := by
  unfold out0_B_10
  rw [View.read_writes_eq_canon _ _ _ (cover0_B_10 c i a1 h1 a2 h2 a3 h3 a4 h4 a5 h5 a6 h6 a7 h7 a8 h8 a9 h9 a10 h10 a11 h11 a12 h12 hc0 hc1 x0 x1 x2 x3 x4 x5 o9 o10)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, read_cols4,
    View.ld_unit_zero (S := S512x1024) hz, View.ld_unit_zero (S := S1x1024) hz, View.ld_unit_zero (S := S8x128) hz,
    View.ld_unit_zero (S := S4096x1024) hz, k0_pay2, k0_pay3, k0_pay4, k0_pay5, k0_pay25, shapeCast_self]
  rfl

end Cert.MlpFwd
end
-- ==== Proof.MlpFwdSpec.lean ====
module

public import proofs.«01_k».proof.Proof.Rms

/-! # One row of the perceptron with its loss, and the loss as one sum

Everything the forward perceptron returns is a function of one row of its inputs: the preactivations, the perceptron's
output, the error of the normalised output added to the residual, and the gradients of half the mean square error. The
kernel and the reference are both brought to these functions. -/

@[expose] public section

noncomputable section

namespace Cert.MlpFwd

open Idealize.ShloMosaic

variable (h : Fin 1024 → EReal) (w : Fin 4096 → Fin 1024 → EReal) (v : Fin 4096 → Fin 1024 → EReal) (x t g : Fin 1024 → EReal)

/-- The preactivation of hidden unit `j`. -/
def pre (j : Fin 4096) : EReal := ∑ d : Fin 1024, h d * w j d

/-- The activation of hidden unit `j`: the positive part, squared. -/
def act (j : Fin 4096) : EReal := max (pre h w j) 0 * max (pre h w j) 0

/-- The perceptron's output. -/
def out (d : Fin 1024) : EReal := ∑ j : Fin 4096, act h w j * v j d

/-- The error of the row: residual plus normalised, scaled output, minus the target. -/
def err (d : Fin 1024) : EReal := x d + out h w v d * Rms.inv (out h w v) * g d - t d

/-- The residual's gradient. -/
def dres (d : Fin 1024) : EReal := err h w v x t g d * Ideal.ofBits .f32 981467136#32

/-- The gradient of the perceptron's output, written out by hand. -/
def dout (d : Fin 1024) : EReal :=
  Rms.inv (out h w v) * (dres h w v x t g d * g d)
    - out h w v d * (Rms.inv (out h w v) * Rms.inv (out h w v) * Rms.inv (out h w v))
      * Ideal.div (∑ k : Fin 1024, dres h w v x t g k * g k * out h w v k) (Ideal.ofBits .f32 1149239296#32)

/-- The row's contribution to the gradient of the norm's scale. -/
def dscale (d : Fin 1024) : EReal := dres h w v x t g d * out h w v d * Rms.inv (out h w v)

/-- The row's squared error. -/
def sqErr : EReal := ∑ d : Fin 1024, err h w v x t g d * err h w v x t g d

theorem sqErr_nonneg : 0 ≤ sqErr h w v x t g := Finset.sum_nonneg fun _ _ => Rms.mul_self_nonneg _

/-- The f32 word of 1/1024. -/
theorem word_inv_1024 : Ideal.ofBits .f32 981467136#32 = ((1 / 1024 : ℝ) : EReal) := by
  simp [Ideal.ofBits, Ideal.ieee, -EReal.coe_mul]; norm_num

/-- The f32 word of 1/2048. -/
theorem word_inv_2048 : Ideal.ofBits .f32 973078528#32 = ((1 / 2048 : ℝ) : EReal) := by
  simp [Ideal.ofBits, Ideal.ieee, -EReal.coe_mul]; norm_num

/-- The f32 word of 1/2. -/
theorem word_half : Ideal.ofBits .f32 1056964608#32 = ((1 / 2 : ℝ) : EReal) := by
  simp [Ideal.ofBits, Ideal.ieee, -EReal.coe_mul]; norm_num

/-- The f32 word of 1. -/
theorem word_one : Ideal.ofBits .f32 1065353216#32 = ((1 : ℝ) : EReal) := by
  simp [Ideal.ofBits, Ideal.ieee, -EReal.coe_mul]; norm_num

/-- The f32 word of 2. -/
theorem word_two : Ideal.ofBits .f32 1073741824#32 = ((2 : ℝ) : EReal) := by
  simp [Ideal.ofBits, Ideal.ieee, -EReal.coe_mul]; norm_num

/-- Half of one 1024th of twice the error is one 1024th of it. -/
theorem half_double (e : EReal) :
    Ideal.div (Ideal.ofBits .f32 1056964608#32 * Ideal.ofBits .f32 1065353216#32) (Ideal.ofBits .f32 1149239296#32)
      * (Ideal.ofBits .f32 1073741824#32 * e) = e * Ideal.ofBits .f32 981467136#32 := by
  rw [word_half, word_one, word_two, word_inv_1024, Rms.word_1024, Ideal.div_coe (by norm_num), ← mul_assoc, mul_comm e]
  congr 1
  norm_cast
  norm_num

/-- A real factor goes into a sum of numbers that are not negative. -/
theorem coe_mul_sum {ι : Type} (s : Finset ι) (f : ι → EReal) (c : ℝ) (hf : ∀ i, 0 ≤ f i) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg (hf a) (Finset.sum_nonneg fun i _ => hf i), ih]

/-- Half the sum of the rows' mean square errors, as one sum of 2048ths. -/
theorem half_mean (f : Fin 4096 → EReal) (hf : ∀ i, 0 ≤ f i) :
    Ideal.ofBits .f32 1056964608#32 * ∑ i, Ideal.div (f i) (Ideal.ofBits .f32 1149239296#32)
      = ∑ i, Ideal.ofBits .f32 973078528#32 * f i := by
  have hd : ∀ x : EReal, Ideal.div x ((1024 : ℝ) : EReal) = x * ((1 / 1024 : ℝ) : EReal) := fun x => by
    rw [Ideal.div_coe (by norm_num)]
  rw [word_half, word_inv_2048, Rms.word_1024]
  simp only [hd]
  rw [coe_mul_sum Finset.univ (fun i => f i * ((1 / 1024 : ℝ) : EReal)) (1 / 2) fun i => mul_nonneg (hf i) (by norm_cast; norm_num)]
  refine Finset.sum_congr rfl fun i _ => ?_
  rw [mul_comm (f i), ← mul_assoc, ← EReal.coe_mul]
  norm_num

end Cert.MlpFwd

end
-- ==== Proof.MlpFwdTile.lean ====
module

public import proofs.«01_k».proof.Proof.MlpFwdBody
public import proofs.«01_k».proof.Proof.MlpFwdSpec
public import Idealize.ShloMosaic.Lib.Pipeline.ValueKit
public import Idealize.ShloMosaic.Lib.Claim

/-! # The forward perceptron's tiles, entry by entry -/

@[expose] public section

set_option maxRecDepth 16384

noncomputable section

namespace Cert.MlpFwd

open Cert.Kernel5Ideal Cert.Kernel5Ideal.Gen Idealize.ShloMosaic Idealize.ShloMosaic.TcCoe Idealize.SL.Sem

/-- Four stores of 1024 columns leave a function that each of them agrees with. -/
theorem cols4_apply (p0 p1 p2 p3 : Vec Ideal S512x1024 .bf16) (G : Fin 512 → Fin 4096 → EReal)
    (e0 : ∀ (r : Fin 512) (j : Fin 1024), (p0 (ix2 r j) : EReal) = G r ⟨j.val, by omega⟩)
    (e1 : ∀ (r : Fin 512) (j : Fin 1024), (p1 (ix2 r j) : EReal) = G r ⟨1024 + j.val, by omega⟩)
    (e2 : ∀ (r : Fin 512) (j : Fin 1024), (p2 (ix2 r j) : EReal) = G r ⟨2048 + j.val, by omega⟩)
    (e3 : ∀ (r : Fin 512) (j : Fin 1024), (p3 (ix2 r j) : EReal) = G r ⟨3072 + j.val, by omega⟩)
    (r : Fin 512) (j : Fin 4096) : (cols4 p0 p1 p2 p3 (ix2 r j) : EReal) = G r j := by
  have key : ∀ (x : S512x1024.Idx) (p : Vec Ideal S512x1024 .bf16) (o : Nat) (ho : ∀ j : Fin 1024, o + j.val < 4096)
      (e : ∀ (r : Fin 512) (j : Fin 1024), (p (ix2 r j) : EReal) = G r ⟨o + j.val, ho j⟩),
      r.val = (x 0).val → j.val = o + (x 1).val → (p x : EReal) = G r j := by
    intro x p o ho e h0 h1
    obtain ⟨a, b, rfl⟩ : ∃ (a : Fin 512) (b : Fin 1024), x = ix2 a b := ⟨x 0, x 1, by funext a; fin_cases a <;> rfl⟩
    rw [e a b]
    exact congrArg₂ G (Fin.ext h0.symm) (Fin.ext h1.symm)
  unfold cols4
  canon_tiles x h
  · exact key x p3 3072 _ e3 h0 h1
  · exact key x p2 2048 _ e2 h0 h1
  · exact key x p1 1024 _ e1 h0 h1
  · exact key x p0 0 (fun j => by omega) (fun r j => (e0 r j).trans (congrArg (G r) (Fin.ext (Nat.zero_add _).symm))) h0 (h1.trans (Nat.zero_add _).symm)

section Tile

variable (x0 : Vec Ideal S512x1024 .bf16) (x1 : Vec Ideal S512x1024 .f32) (x2 : Vec Ideal S512x1024 .f32) (x3 : Vec Ideal S1x1024 .f32)
  (x4 : Vec Ideal S4096x1024 .bf16) (x5 : Vec Ideal S4096x1024 .bf16)

/-- A row of a tile. -/
abbrev rowOf (x : S512x1024.Idx → EReal) (r : Fin 512) : Fin 1024 → EReal := fun k => x (ix2 r k)
/-- A weight by its rows. -/
abbrev rowsOf (x : S4096x1024.Idx → EReal) : Fin 4096 → Fin 1024 → EReal := fun j k => x (ix2 j k)

theorem tilePre_apply (r : Fin 512) (j : Fin 4096) : (tilePre x0 x4 (ix2 r j) : EReal) = pre (rowOf x0 r) (rowsOf x4) j := by
  refine cols4_apply _ _ _ _ (fun r j => pre (rowOf x0 r) (rowsOf x4) j) ?_ ?_ ?_ ?_ r j <;> intro r j
  · pointwise [k0_pay8, k0_pay7, k0_pay6, w0]
    rfl
  · pointwise [k0_pay11, k0_pay10, k0_pay6, w1]
    rfl
  · pointwise [k0_pay15, k0_pay14, k0_pay13, k0_pay6, w2]
    rfl
  · pointwise [k0_pay18, k0_pay17, k0_pay6, w3]
    rfl

theorem tileAct_apply (r : Fin 512) (j : Fin 4096) : (tileAct x0 x4 (ix2 r j) : EReal) = act (rowOf x0 r) (rowsOf x4) j := by
  refine cols4_apply _ _ _ _ (fun r j => act (rowOf x0 r) (rowsOf x4) j) ?_ ?_ ?_ ?_ r j <;> intro r j
  · pointwise [k0_pay9, k0_pay7, k0_pay6, w0]
    rfl
  · pointwise [k0_pay12, k0_pay10, k0_pay6, w1]
    rfl
  · pointwise [k0_pay16, k0_pay13, k0_pay6, w2]
    rfl
  · pointwise [k0_pay19, k0_pay17, k0_pay6, w3]
    rfl

/-- The perceptron's output of a tile's row. -/
abbrev outOf (r : Fin 512) : Fin 1024 → EReal := out (rowOf x0 r) (rowsOf x4) (rowsOf x5)

theorem tileOut_apply (r : Fin 512) (d : Fin 1024) : (k0_pay20 (tileAct x0 x4) x5 (ix2 r d) : EReal) = outOf x0 x4 x5 r d := by
  have e := tileAct_apply x0 x4 r
  unfold outOf out
  simp only [← e]
  clear e
  generalize tileAct x0 x4 = A
  pointwise [k0_pay20]

theorem tileInv_apply (r : Fin 512) : (k0_pay22 (k0_pay21 (tileAct x0 x4) x5) (ix2 r 0) : EReal) = Rms.inv (outOf x0 x4 x5 r) := by
  have e := tileOut_apply x0 x4 x5 r
  unfold Rms.inv Rms.meanSq
  simp only [← e]
  clear e
  unfold k0_pay21
  generalize k0_pay20 (tileAct x0 x4) x5 = A
  pointwise [k0_pay22]

theorem tileErr_apply (r : Fin 512) (d : Fin 1024) :
    (k0_pay23 (k0_pay20 (tileAct x0 x4) x5) (k0_pay21 (tileAct x0 x4) x5) x3 x1 x2 (ix2 r d) : EReal)
      = err (rowOf x0 r) (rowsOf x4) (rowsOf x5) (rowOf x1 r) (rowOf x2 r) (fun k => x3 (ix2 0 k)) d := by
  have e := tileOut_apply x0 x4 x5 r d
  have e' := tileInv_apply x0 x4 x5 r
  unfold err
  simp only [← e, ← e']
  unfold k0_pay23
  generalize k0_pay20 (tileAct x0 x4) x5 = A
  generalize k0_pay22 (k0_pay21 (tileAct x0 x4) x5) = B
  pointwise []

theorem tileDx_apply (r : Fin 512) (d : Fin 1024) : (tileDx x0 x1 x2 x3 x4 x5 (ix2 r d) : EReal)
    = dres (rowOf x0 r) (rowsOf x4) (rowsOf x5) (rowOf x1 r) (rowOf x2 r) (fun k => x3 (ix2 0 k)) d := by
  unfold dres
  rw [← tileErr_apply]
  unfold tileDx k0_pay24
  generalize k0_pay23 (k0_pay20 (tileAct x0 x4) x5) (k0_pay21 (tileAct x0 x4) x5) x3 x1 x2 = A
  pointwise []

theorem tileDf_apply (r : Fin 512) (d : Fin 1024) : (tileDf x0 x1 x2 x3 x4 x5 (ix2 r d) : EReal)
    = dout (rowOf x0 r) (rowsOf x4) (rowsOf x5) (rowOf x1 r) (rowOf x2 r) (fun k => x3 (ix2 0 k)) d := by
  have e := tileOut_apply x0 x4 x5 r
  have e' := tileInv_apply x0 x4 x5 r
  have e'' := tileDx_apply x0 x1 x2 x3 x4 x5 r
  unfold dout
  simp only [← e, ← e', ← e'']
  clear e e' e''
  unfold tileDf k0_pay27 tileDx
  generalize k0_pay24 (k0_pay20 (tileAct x0 x4) x5) (k0_pay21 (tileAct x0 x4) x5) x3 x1 x2 = D
  generalize k0_pay20 (tileAct x0 x4) x5 = A
  generalize k0_pay22 (k0_pay21 (tileAct x0 x4) x5) = B
  pointwise []

theorem tileDg_apply (d : Fin 1024) : (tileDg x0 x1 x2 x3 x4 x5 (ix2 0 d) : EReal)
    = ∑ r : Fin 512, dscale (rowOf x0 r) (rowsOf x4) (rowsOf x5) (rowOf x1 r) (rowOf x2 r) (fun k => x3 (ix2 0 k)) d := by
  have e := tileOut_apply x0 x4 x5
  have e' := tileInv_apply x0 x4 x5
  have e'' := tileDx_apply x0 x1 x2 x3 x4 x5
  unfold dscale
  simp only [← e, ← e', ← e'']
  clear e e' e''
  unfold tileDg k0_pay26 tileDx
  generalize k0_pay24 (k0_pay20 (tileAct x0 x4) x5) (k0_pay21 (tileAct x0 x4) x5) x3 x1 x2 = D
  generalize k0_pay20 (tileAct x0 x4) x5 = A
  generalize k0_pay22 (k0_pay21 (tileAct x0 x4) x5) = B
  pointwise []

/-- The mask of the block's first entry. -/
theorem corner : ∀ (a : Fin 8) (b : Fin 128),
    IntOp.andi (IntOp.cmpi CmpIPredicate.eq (BitVec.ofNat 32 a.val) 0#32) (IntOp.cmpi CmpIPredicate.eq (BitVec.ofNat 32 b.val) 0#32)
      = if a.val = 0 ∧ b.val = 0 then 1#1 else 0#1 := by decide +kernel

/-- The tile's loss stands in the block's first entry; the others are zero. -/
theorem tileLoss_apply (a : Fin 8) (b : Fin 128) : (tileLoss x0 x1 x2 x3 x4 x5 (ix2 a b) : EReal)
    = if a.val = 0 ∧ b.val = 0 then Ideal.ofBits .f32 973078528#32
        * ∑ r : Fin 512, sqErr (rowOf x0 r) (rowsOf x4) (rowsOf x5) (rowOf x1 r) (rowOf x2 r) (fun k => x3 (ix2 0 k)) else 0 := by
  have e := tileErr_apply x0 x1 x2 x3 x4 x5
  unfold sqErr
  simp only [← e]
  clear e
  unfold tileLoss k0_pay1 k0_pay28
  generalize k0_pay23 (k0_pay20 (tileAct x0 x4) x5) (k0_pay21 (tileAct x0 x4) x5) x3 x1 x2 = A
  pointwise []
  rw [corner]
  by_cases h : a.val = 0 ∧ b.val = 0
  · rw [if_pos h, if_pos h]; rfl
  · rw [if_neg h, if_neg h]; rfl

end Tile
end Cert.MlpFwd

end
-- ==== Proof.MlpFwdRef.lean ====
module

public import proofs.«01_k».proof.Proof.MlpFwdSpec
public import proofs.«01_k».proof.Proof.Gen.Reference5Ideal.Read
public import Idealize.ShloMosaic.Lib.Pipeline.ValueKit
public import Idealize.ShloMosaic.Lib.Claim

/-! # The forward perceptron's reference, entry by entry -/

@[expose] public section

set_option maxRecDepth 16384

noncomputable section

namespace Cert.MlpFwd

open Cert.Reference5Ideal Cert.Reference5Ideal.Gen Idealize.ShloMosaic Idealize.ShloMosaic.TcCoe Idealize.SL.Sem Cert.Reference5Ideal.Read

variable (x0 x1 x2 : (⟨S4096x1024, .f32⟩ : BufTy).Contents (Elt Ideal)) (x3 : (⟨S1x1024, .f32⟩ : BufTy).Contents (Elt Ideal))
  (x4 : (⟨S1x1024x4096, .f32⟩ : BufTy).Contents (Elt Ideal)) (x5 : (⟨S1x4096x1024, .f32⟩ : BufTy).Contents (Elt Ideal))

/-- A row of an argument. -/
abbrev argRow (x : S4096x1024.Idx → EReal) (i : Fin 4096) : Fin 1024 → EReal := fun k => x (ix2 i k)
/-- The norm's scale. -/
abbrev argG (x : S1x1024.Idx → EReal) : Fin 1024 → EReal := fun k => x (ix2 0 k)
/-- The first weight, by hidden unit. -/
abbrev argW (x : S1x1024x4096.Idx → EReal) : Fin 4096 → Fin 1024 → EReal := fun j d => x (ix3 0 d j)
/-- The second weight, by hidden unit. -/
abbrev argV (x : S1x4096x1024.Idx → EReal) : Fin 4096 → Fin 1024 → EReal := fun j d => x (ix3 0 j d)

theorem v1_apply (i j : Fin 4096) : (val_main_v1 (F := Ideal) x0 x4 (ix2 i j) : EReal) = pre (argRow x0 i) (argW x4) j := by
  rw [val_main_v1_apply]
  refine Finset.sum_congr rfl fun k _ => ?_
  congr 1
  · congr 1; blk_ext []
  · unfold val_main_v0; pointwise []; congr 1; blk_ext []

theorem v3_apply (i j : Fin 4096) : (val_main_v3 (F := Ideal) x0 x4 (ix2 i j) : EReal) = act (argRow x0 i) (argW x4) j := by
  unfold act
  rw [← v1_apply]
  unfold val_main_v3 val_main_v2 val_main_call0_v0 val_main_call0_cst
  generalize val_main_v1 (F := Ideal) x0 x4 = A
  pointwise []

theorem v5_apply (i : Fin 4096) (d : Fin 1024) :
    (val_main_v5 (F := Ideal) x0 x4 x5 (ix2 i d) : EReal) = out (argRow x0 i) (argW x4) (argV x5) d := by
  rw [val_main_v5_apply]
  refine Finset.sum_congr rfl fun k _ => ?_
  rw [← v3_apply]
  congr 1
  · congr 1; blk_ext []
  · unfold val_main_v4; pointwise []; congr 1; blk_ext []

/-- The reciprocal root mean square, before it is spread over the row. -/
theorem v14_apply (i : Fin 4096) :
    (val_main_v14 (F := Ideal) x0 x4 x5 (ix2 i 0) : EReal) = Rms.inv (out (argRow x0 i) (argW x4) (argV x5)) := by
  have e := v5_apply x0 x4 x5 i
  unfold Rms.inv Rms.meanSq
  simp only [← e]
  clear e
  unfold val_main_v14 val_main_v13 val_main_v12 val_main_v11 val_main_v10 val_main_v9 val_main_v8 val_main_v7 val_main_cst val_main_cst_0 val_main_cst_1
  generalize val_main_v5 (F := Ideal) x0 x4 x5 = A
  pointwise []

theorem v13_apply (i : Fin 4096) :
    (val_main_v13 (F := Ideal) x0 x4 x5 (ix2 i 0) : EReal) = Rms.meanSq (out (argRow x0 i) (argW x4) (argV x5)) := by
  have e := v5_apply x0 x4 x5 i
  unfold Rms.meanSq
  simp only [← e]
  clear e
  unfold val_main_v13 val_main_v12 val_main_v11 val_main_v10 val_main_v9 val_main_v8 val_main_v7 val_main_cst val_main_cst_0 val_main_cst_1
  generalize val_main_v5 (F := Ideal) x0 x4 x5 = A
  pointwise []

theorem v24_apply (i : Fin 4096) (d : Fin 1024) : (val_main_v24 (F := Ideal) x0 x1 x2 x3 x4 x5 (ix2 i d) : EReal)
    = err (argRow x0 i) (argW x4) (argV x5) (argRow x1 i) (argRow x2 i) (argG x3) d := by
  have e := v5_apply x0 x4 x5 i
  have e' := v14_apply x0 x4 x5 i
  unfold err
  simp only [← e, ← e']
  clear e e'
  unfold val_main_v24 val_main_v23 val_main_v22 val_main_v21 val_main_v20 val_main_v19 val_main_v18 val_main_v6
  generalize val_main_v5 (F := Ideal) x0 x4 x5 = A
  generalize val_main_v14 (F := Ideal) x0 x4 x5 = B
  pointwise []

/-- The residual's gradient. -/
theorem v38_apply (i : Fin 4096) (d : Fin 1024) : (val_main_v38 (F := Ideal) x0 x1 x2 x3 x4 x5 (ix2 i d) : EReal)
    = dres (argRow x0 i) (argW x4) (argV x5) (argRow x1 i) (argRow x2 i) (argG x3) d := by
  have e := v24_apply x0 x1 x2 x3 x4 x5 i d
  unfold dres
  rw [← e, ← half_double]
  clear e
  unfold val_main_v38 val_main_v37 val_main_v36 val_main_v35 val_main_v34 val_main_v33 val_main_v27 val_main_v26 val_main_cst_3 val_main_cst_8 val_main_cst_9 val_main_cst_10
  generalize val_main_v24 (F := Ideal) x0 x1 x2 x3 x4 x5 = A
  pointwise []

/-- The gradient of the perceptron's output. -/
theorem v61_apply (i : Fin 4096) (d : Fin 1024) : (val_main_v61 (F := Ideal) x0 x1 x2 x3 x4 x5 (ix2 i d) : EReal)
    = dout (argRow x0 i) (argW x4) (argV x5) (argRow x1 i) (argRow x2 i) (argG x3) d := by
  have e := v5_apply x0 x4 x5 i
  have e' := v14_apply x0 x4 x5 i
  have em := v13_apply x0 x4 x5 i
  have ed := v38_apply x0 x1 x2 x3 x4 x5 i
  unfold dout
  rw [← zero_add (_ - _), ← Rms.grad_eq, ← em, ← e', zero_add]
  simp only [← e, ← ed]
  clear e e' em ed
  unfold val_main_v61 val_main_v58 val_main_v57 val_main_v56 val_main_v55 val_main_v54 val_main_v53 val_main_v52 val_main_v51 val_main_v50 val_main_v49 val_main_v48 val_main_v47 val_main_v46 val_main_v45 val_main_v43 val_main_v42 val_main_v20 val_main_v6 val_main_v17 val_main_v16 val_main_v15 val_main_cst_2 val_main_cst_13 val_main_cst_14 val_main_cst_15
  generalize val_main_v38 (F := Ideal) x0 x1 x2 x3 x4 x5 = D
  generalize val_main_v5 (F := Ideal) x0 x4 x5 = A
  generalize val_main_v14 (F := Ideal) x0 x4 x5 = B
  generalize val_main_v13 (F := Ideal) x0 x4 x5 = M
  pointwise []
  simp only [Finset.univ_unique, Finset.sum_singleton]
  simp only [mul_comm (A _)]
  rfl

/-- The gradient of the norm's scale. -/
theorem v59_apply (d : Fin 1024) : (val_main_v59 (F := Ideal) x0 x1 x2 x3 x4 x5 (ix2 0 d) : EReal)
    = ∑ i : Fin 4096, dscale (argRow x0 i) (argW x4) (argV x5) (argRow x1 i) (argRow x2 i) (argG x3) d := by
  have e := v5_apply x0 x4 x5
  have e' := v14_apply x0 x4 x5
  have ed := v38_apply x0 x1 x2 x3 x4 x5
  unfold dscale
  simp only [← e, ← e', ← ed]
  clear e e' ed
  unfold val_main_v59 val_main_v44 val_main_v41 val_main_v40 val_main_v39 val_main_v19 val_main_v18 val_main_cst_11 val_main_cst_12
  generalize val_main_v38 (F := Ideal) x0 x1 x2 x3 x4 x5 = D
  generalize val_main_v5 (F := Ideal) x0 x4 x5 = A
  generalize val_main_v14 (F := Ideal) x0 x4 x5 = B
  pointwise []
  simp only [Finset.univ_unique, Finset.sum_singleton]
  refine Finset.sum_congr rfl fun i _ => ?_
  ac_rfl

/-- The loss, in the block's first entry. -/
theorem v63_apply (a : Fin 8) (b : Fin 128) : (val_main_v63 (F := Ideal) x0 x1 x2 x3 x4 x5 (ix2 a b) : EReal)
    = if a.val = 0 ∧ b.val = 0 then ∑ i : Fin 4096, Ideal.ofBits .f32 973078528#32
        * sqErr (argRow x0 i) (argW x4) (argV x5) (argRow x1 i) (argRow x2 i) (argG x3) else 0 := by
  have e := v24_apply x0 x1 x2 x3 x4 x5
  rw [← half_mean _ fun i => sqErr_nonneg _ _ _ _ _ _]
  unfold sqErr
  simp only [← e]
  clear e
  unfold val_main_v63 val_main_call1_v0 val_main_c val_main_v62 val_main_v32 val_main_v31 val_main_v30 val_main_v29 val_main_v28 val_main_v25 val_main_cst_4 val_main_cst_5 val_main_cst_6 val_main_cst_7
  generalize val_main_v24 (F := Ideal) x0 x1 x2 x3 x4 x5 = A
  pointwise []
  by_cases h : a.val = 0 ∧ b.val = 0
  · rw [if_pos h, dif_pos (by omega)]
  · rw [if_neg h, dif_neg (by omega)]
    show ((((0#32 : BitVec 32).toInt : ℝ)) : EReal) = 0
    simp

end Cert.MlpFwd

end
-- ==== Proof.MlpFwdValue.lean ====
module

public import proofs.«01_k».proof.Proof.MlpFwdTile
public import proofs.«01_k».proof.Proof.MlpFwdRef

/-! # What the forward perceptron's run leaves in its five results -/

@[expose] public section

set_option maxRecDepth 16384

noncomputable section

namespace Cert.MlpFwd

open Cert.Kernel5Ideal Cert.Kernel5Ideal.Gen Idealize.ShloMosaic Idealize.ShloMosaic.TcCoe Idealize.SL.Sem

variable (m : (ℓ : Loc nD τ sig) → Buf (Elt Ideal) ℓ) (c : Dev nD) (t : Fin cfg0.N)

/-- Each window's block index at each grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0]
    ∧ win0_6.index t = ![t.val, 0] ∧ win0_7.index t = ![t.val, 0] ∧ win0_8.index t = ![t.val, 0]
    ∧ win0_9.index t = ![0, 0] ∧ win0_10.index t = ![0, 0] := by decide +kernel

/-- Row `r` of grid point `t`'s blocks, as a row of the arrays. -/
def at_ (t : Fin cfg0.N) (r : Fin 512) : Fin 4096 :=
  ⟨512 * t.val + r.val, by have h : t.val < 8 := t.isLt; omega⟩

theorem blk0 (r : Fin 512) : rowOf (iblk m c 0 t : Vec Ideal S512x1024 .bf16) r = argRow (m (c.tc.loc main_arg0)) (at_ t r) := by
  funext d; unfold rowOf argRow at_; blk_point [iblk, V, idx t]

theorem blk1 (r : Fin 512) : rowOf (iblk m c 1 t : Vec Ideal S512x1024 .f32) r = argRow (m (c.tc.loc main_arg1)) (at_ t r) := by
  funext d; unfold rowOf argRow at_; blk_point [iblk, V, idx t]

theorem blk2 (r : Fin 512) : rowOf (iblk m c 2 t : Vec Ideal S512x1024 .f32) r = argRow (m (c.tc.loc main_arg2)) (at_ t r) := by
  funext d; unfold rowOf argRow at_; blk_point [iblk, V, idx t]

theorem blk3 : (fun k => (iblk m c 3 t : Vec Ideal S1x1024 .f32) (ix2 0 k)) = argG (m (c.tc.loc main_arg3)) := by
  funext d; unfold argG; blk_point [iblk, V, idx t]

theorem blk4 : rowsOf (iblk m c 4 t : Vec Ideal S4096x1024 .bf16) = argW (m (c.tc.loc main_arg4)) := by
  funext j d; unfold rowsOf argW; blk_point [iblk, V, idx t]

theorem blk5 : rowsOf (iblk m c 5 t : Vec Ideal S4096x1024 .bf16) = argV (m (c.tc.loc main_arg5)) := by
  funext j d; unfold rowsOf argV; blk_point [iblk, V, idx t]

/-- What each grid point leaves in the three tiles it writes once. -/
theorem after678 : (outsAt0 m c t.val t.isLt).1 = tilePre (iblk m c 0 t) (iblk m c 4 t)
    ∧ (outsAt0 m c t.val t.isLt).2.1 = tileDf (iblk m c 0 t) (iblk m c 1 t) (iblk m c 2 t) (iblk m c 3 t) (iblk m c 4 t) (iblk m c 5 t)
    ∧ (outsAt0 m c t.val t.isLt).2.2.1 = tileDx (iblk m c 0 t) (iblk m c 1 t) (iblk m c 2 t) (iblk m c 3 t) (iblk m c 4 t) (iblk m c 5 t) := by
  by_cases h0 : t.val % 8 = 0
  · have h1 : ¬1 ≤ t.val := by have h : t.val < 8 := t.isLt; omega
    rw [outsAt0_A m c t h0 h1]
    dsimp only
    rw [out_A_6, out_A_7, out_A_8]
    exact ⟨rfl, rfl, rfl⟩
  · have h1 : 1 ≤ t.val := by omega
    rw [outsAt0_B m c t h0 h1]
    dsimp only
    rw [out_B_6, out_B_7, out_B_8]
    exact ⟨rfl, rfl, rfl⟩

/-- The run's first result holds the preactivations. -/
theorem final6 : (dats m 0 c).arrAt 6 cfg0.N
    = (fun i => pre (argRow (m (c.tc.loc main_arg0)) (i 0)) (argW (m (c.tc.loc main_arg4))) (i 1) : Vec Ideal S4096x4096 .bf16) := by
  refine (dats m 0 c).arrAt_eq_of_covers 6 _ (by decide +kernel) fun t hf y => ?_
  blk_simp
  rw [after0_6, (after678 m c t).1]
  obtain ⟨r, d, rfl⟩ : ∃ (r : Fin 512) (d : Fin 4096), y = ix2 r d := ⟨y 0, y 1, by funext a; fin_cases a <;> rfl⟩
  have e0 : ((win0_6.blk t).view.emb (ix2 r d) 0 : Fin 4096) = at_ t r := Fin.ext (by unfold at_; blk_simp [idx t]; simp; omega)
  have e1 : ((win0_6.blk t).view.emb (ix2 r d) 1 : Fin 4096) = d := Fin.ext (by blk_simp [idx t])
  rw [e0, e1]
  refine (tilePre_apply _ _ r d).trans ?_
  rw [blk0, blk4]

/-- The run's second result is the hand-written gradient of the perceptron's output. -/
theorem final7 : (dats m 0 c).arrAt 7 cfg0.N
    = (fun i => dout (argRow (m (c.tc.loc main_arg0)) (i 0)) (argW (m (c.tc.loc main_arg4))) (argV (m (c.tc.loc main_arg5)))
        (argRow (m (c.tc.loc main_arg1)) (i 0)) (argRow (m (c.tc.loc main_arg2)) (i 0)) (argG (m (c.tc.loc main_arg3))) (i 1) : Vec Ideal S4096x1024 .bf16) := by
  refine (dats m 0 c).arrAt_eq_of_covers 7 _ (by decide +kernel) fun t hf y => ?_
  blk_simp
  rw [after0_7, (after678 m c t).2.1]
  obtain ⟨r, d, rfl⟩ : ∃ (r : Fin 512) (d : Fin 1024), y = ix2 r d := ⟨y 0, y 1, by funext a; fin_cases a <;> rfl⟩
  have e0 : ((win0_7.blk t).view.emb (ix2 r d) 0 : Fin 4096) = at_ t r := Fin.ext (by unfold at_; blk_simp [idx t]; simp; omega)
  have e1 : ((win0_7.blk t).view.emb (ix2 r d) 1 : Fin 1024) = d := Fin.ext (by blk_simp [idx t])
  rw [e0, e1]
  refine (tileDf_apply _ _ _ _ _ _ r d).trans ?_
  rw [blk0, blk1, blk2, blk3, blk4, blk5]

/-- The run's third result is the residual's gradient. -/
theorem final8 : (dats m 0 c).arrAt 8 cfg0.N
    = (fun i => dres (argRow (m (c.tc.loc main_arg0)) (i 0)) (argW (m (c.tc.loc main_arg4))) (argV (m (c.tc.loc main_arg5)))
        (argRow (m (c.tc.loc main_arg1)) (i 0)) (argRow (m (c.tc.loc main_arg2)) (i 0)) (argG (m (c.tc.loc main_arg3))) (i 1) : Vec Ideal S4096x1024 .f32) := by
  refine (dats m 0 c).arrAt_eq_of_covers 8 _ (by decide +kernel) fun t hf y => ?_
  blk_simp
  rw [after0_8, (after678 m c t).2.2]
  obtain ⟨r, d, rfl⟩ : ∃ (r : Fin 512) (d : Fin 1024), y = ix2 r d := ⟨y 0, y 1, by funext a; fin_cases a <;> rfl⟩
  have e0 : ((win0_8.blk t).view.emb (ix2 r d) 0 : Fin 4096) = at_ t r := Fin.ext (by unfold at_; blk_simp [idx t]; simp; omega)
  have e1 : ((win0_8.blk t).view.emb (ix2 r d) 1 : Fin 1024) = d := Fin.ext (by blk_simp [idx t])
  rw [e0, e1]
  refine (tileDx_apply _ _ _ _ _ _ r d).trans ?_
  rw [blk0, blk1, blk2, blk3, blk4, blk5]

/-- A sum over the rows, tile by tile. -/
theorem sum_tiles (f : Fin 4096 → EReal) : ∑ t : Fin cfg0.N, ∑ r : Fin 512, f (at_ t r) = ∑ i : Fin 4096, f i := by
  refine Eq.trans (b := ∑ _a : Fin 1, ∑ i : Fin 4096, f i) (Fin.sum_points_lanes_congr (N := cfg0.N) 8 fun t k ha hl => ?_) ?_
  · have e : at_ t k = ⟨t.val % 8 * 512 + k.val, hl⟩ := Fin.ext (by have h : t.val < 8 := t.isLt; simp only [at_]; omega)
    rw [e]
  · simp only [Finset.univ_unique, Finset.sum_singleton]

/-- The squared error of a row of the run's arguments. -/
abbrev sqOf (i : Fin 4096) : EReal :=
  sqErr (argRow (m (c.tc.loc main_arg0)) i) (argW (m (c.tc.loc main_arg4))) (argV (m (c.tc.loc main_arg5)))
    (argRow (m (c.tc.loc main_arg1)) i) (argRow (m (c.tc.loc main_arg2)) i) (argG (m (c.tc.loc main_arg3)))

theorem loss_blk (a : Fin 8) (b : Fin 128) :
    (tileLoss (iblk m c 0 t) (iblk m c 1 t) (iblk m c 2 t) (iblk m c 3 t) (iblk m c 4 t) (iblk m c 5 t) (ix2 a b) : EReal)
      = if a.val = 0 ∧ b.val = 0 then ∑ r : Fin 512, Ideal.ofBits .f32 973078528#32 * sqOf m c (at_ t r) else 0 := by
  rw [tileLoss_apply, word_inv_2048, coe_mul_sum _ _ _ fun r => sqErr_nonneg _ _ _ _ _ _]
  simp only [blk0, blk1, blk2, blk3, blk4, blk5]

/-- The loss block after the last grid point: every row's share, in the first entry. -/
theorem after9 (a : Fin 8) (b : Fin 128) : ((outsAt0 m c 7 (by decide)).2.2.2.1 (ix2 a b) : EReal)
    = if a.val = 0 ∧ b.val = 0 then ∑ i : Fin 4096, Ideal.ofBits .f32 973078528#32 * sqOf m c i else 0 := by
  have h := Pipeline.eq_sum_fin_of_reset_step_apply_last (N := cfg0.N) (M := EReal) (fun n h (j : Fin 8 × Fin 128) => (outsAt0 m c n h).2.2.2.1 (ix2 j.1 j.2)) 8 (fun _ => 0)
    (fun t j => tileLoss (iblk m c 0 t) (iblk m c 1 t) (iblk m c 2 t) (iblk m c 3 t) (iblk m c 4 t) (iblk m c 5 t) (ix2 j.1 j.2))
    (fun t h0 j => by
      have h1 : ¬1 ≤ t.val := by have h : t.val < 8 := t.isLt; omega
      rw [outsAt0_A m c t h0 h1]
      dsimp only
      rw [out_A_9, zero_add])
    (fun t h0 j => by
      have h1 : 1 ≤ t.val := by omega
      rw [outsAt0_B m c t h0 h1]
      dsimp only
      rw [out_B_9]
      rfl)
    (by decide) ⟨7, by decide⟩ rfl (a, b)
  refine h.trans ?_
  rw [zero_add]
  simp only [loss_blk]
  by_cases hab : a.val = 0 ∧ b.val = 0
  · simp only [if_pos hab]
    exact sum_tiles fun i => Ideal.ofBits .f32 973078528#32 * sqOf m c i
  · simp only [if_neg hab, Finset.sum_const_zero]

/-- A row's contribution to the gradient of the norm's scale, of the run's arguments. -/
abbrev scaleOf (d : Fin 1024) (i : Fin 4096) : EReal :=
  dscale (argRow (m (c.tc.loc main_arg0)) i) (argW (m (c.tc.loc main_arg4))) (argV (m (c.tc.loc main_arg5)))
    (argRow (m (c.tc.loc main_arg1)) i) (argRow (m (c.tc.loc main_arg2)) i) (argG (m (c.tc.loc main_arg3))) d

theorem scale_blk (d : Fin 1024) :
    (tileDg (iblk m c 0 t) (iblk m c 1 t) (iblk m c 2 t) (iblk m c 3 t) (iblk m c 4 t) (iblk m c 5 t) (ix2 0 d) : EReal)
      = ∑ r : Fin 512, scaleOf m c d (at_ t r) := by
  rw [tileDg_apply]
  simp only [blk0, blk1, blk2, blk3, blk4, blk5]

/-- The norm scale's gradient after the last grid point. -/
theorem after10 (d : Fin 1024) : ((outsAt0 m c 7 (by decide)).2.2.2.2 (ix2 0 d) : EReal) = ∑ i : Fin 4096, scaleOf m c d i := by
  have h := Pipeline.eq_sum_fin_of_reset_step_apply_last (N := cfg0.N) (M := EReal) (fun n h (d : Fin 1024) => (outsAt0 m c n h).2.2.2.2 (ix2 0 d)) 8 (fun _ => 0)
    (fun t d => tileDg (iblk m c 0 t) (iblk m c 1 t) (iblk m c 2 t) (iblk m c 3 t) (iblk m c 4 t) (iblk m c 5 t) (ix2 0 d))
    (fun t h0 d => by
      have h1 : ¬1 ≤ t.val := by have h : t.val < 8 := t.isLt; omega
      rw [outsAt0_A m c t h0 h1]
      dsimp only
      rw [out_A_10, zero_add])
    (fun t h0 d => by
      have h1 : 1 ≤ t.val := by omega
      rw [outsAt0_B m c t h0 h1]
      dsimp only
      rw [out_B_10]
      rfl)
    (by decide) ⟨7, by decide⟩ rfl d
  refine h.trans ?_
  rw [zero_add]
  simp only [scale_blk]
  exact sum_tiles (scaleOf m c d)

/-- The run's fourth result is the loss block. -/
theorem final9 : (dats m 0 c).arrAt 9 cfg0.N
    = (fun i => if (i 0).val = 0 ∧ (i 1).val = 0 then ∑ k : Fin 4096, Ideal.ofBits .f32 973078528#32 * sqOf m c k else 0 : Vec Ideal S8x128 .f32) := by
  refine (dats m 0 c).arrAt_eq_of_after_last 9 t0_7 (by decide +kernel) _ fun j => ?_
  blk_simp
  rw [after0_9]
  obtain ⟨a, b, rfl⟩ : ∃ (a : Fin 8) (b : Fin 128), j = ix2 a b := ⟨j 0, j 1, by funext a; fin_cases a <;> rfl⟩
  exact after9 m c a b

/-- The run's fifth result is the gradient of the norm's scale. -/
theorem final10 : (dats m 0 c).arrAt 10 cfg0.N = (fun i => ∑ k : Fin 4096, scaleOf m c (i 1) k : Vec Ideal S1x1024 .f32) := by
  refine (dats m 0 c).arrAt_eq_of_after_last 10 t0_7 (by decide +kernel) _ fun j => ?_
  blk_simp
  rw [after0_10]
  obtain ⟨d, rfl⟩ : ∃ (d : Fin 1024), j = ix2 0 d := ⟨j 1, by
    funext a; fin_cases a
    · exact Subsingleton.elim (α := Fin 1) _ _
    · rfl⟩
  exact after10 m c d

end Cert.MlpFwd

end
-- ==== Proof.MlpFwdClaims.lean ====
module

public import proofs.«01_k».proof.Defs
public import proofs.«01_k».proof.Proof.MlpFwdValue
public import proofs.«01_k».proof.Proof.Gen.Reference5Ideal.Run

/-! # The claims about the forward perceptron with its loss -/

@[expose] public section

set_option maxRecDepth 16384

noncomputable section

namespace Cert.MlpFwd

open Idealize.ShloMosaic Idealize.ShloMosaic.TcCoe Idealize.SL.Sem

/-- The reference's frame: it has no semaphores and keeps its arguments. -/
theorem frame_reference : Cert.quiescent_Reference5Ideal := fun m ρ _ =>
  (θ_run Cert.Reference5Ideal.defs _ _).mono (fun r h => ⟨fun c => (h c).2.2.2.2.2,
      Idealize.ShloMosaic.sem_eq_zero_of_no_sems (by decide) r.2⟩)
    (Cert.Reference5Ideal.Value.run (F := Ideal) m ρ)

/-- Over the extended reals the call computes what the reference's forward lines and their differentiation give. -/
theorem algebraic : Cert.algebraic_Kernel5Ideal_Reference5Ideal := fun m ρ m' ρ' _ hag => by
  refine ⟨fun c => _, fun c => _, fun c => _, fun c => _, fun c => _, (θ_run _ _ _).mono (fun r h c => ⟨(h c).1.trans (final6 m c), (h c).2.1.trans (final7 m c),
      (h c).2.2.1.trans (final8 m c), (h c).2.2.2.1.trans (final9 m c), (h c).2.2.2.2.1.trans (final10 m c), (h c).2.2.2.2.2⟩)
    (Cert.Kernel5Ideal.Value.run_blocks (F := Ideal) m ρ), (θ_run _ _ _).mono (fun r h c => ⟨(h c).1.trans ?_, (h c).2.1.trans ?_,
      (h c).2.2.1.trans ?_, (h c).2.2.2.1.trans ?_, (h c).2.2.2.2.1.trans ?_, (h c).2.2.2.2.2⟩)
    (Cert.Reference5Ideal.Value.run (F := Ideal) m' ρ')⟩
  all_goals obtain ⟨e0, e1, e2, e3, e4, e5⟩ := hag c
  · rw [Cert.Reference5Ideal.Read.val_main_v60_eq, e0, e4]
    funext i
    obtain ⟨r, d, rfl⟩ : ∃ (r : Fin 4096) (d : Fin 4096), i = ix2 r d := ⟨i 0, i 1, by funext a; fin_cases a <;> rfl⟩
    exact v1_apply _ _ r d
  · rw [Cert.Reference5Ideal.Read.val_main_v61_eq, e0, e1, e2, e3, e4, e5]
    funext i
    obtain ⟨r, d, rfl⟩ : ∃ (r : Fin 4096) (d : Fin 1024), i = ix2 r d := ⟨i 0, i 1, by funext a; fin_cases a <;> rfl⟩
    exact v61_apply _ _ _ _ _ _ r d
  · rw [Cert.Reference5Ideal.Read.val_main_v38_eq, e0, e1, e2, e3, e4, e5]
    funext i
    obtain ⟨r, d, rfl⟩ : ∃ (r : Fin 4096) (d : Fin 1024), i = ix2 r d := ⟨i 0, i 1, by funext a; fin_cases a <;> rfl⟩
    exact v38_apply _ _ _ _ _ _ r d
  · rw [Cert.Reference5Ideal.Read.val_main_v63_eq, e0, e1, e2, e3, e4, e5]
    funext i
    obtain ⟨a, b, rfl⟩ : ∃ (a : Fin 8) (b : Fin 128), i = ix2 a b := ⟨i 0, i 1, by funext a; fin_cases a <;> rfl⟩
    exact v63_apply _ _ _ _ _ _ a b
  · rw [Cert.Reference5Ideal.Read.val_main_v59_eq, e0, e1, e2, e3, e4, e5]
    funext i
    obtain ⟨d, rfl⟩ : ∃ (d : Fin 1024), i = ix2 0 d := ⟨i 1, by
      funext a; fin_cases a
      · exact Subsingleton.elim (α := Fin 1) _ _
      · rfl⟩
    exact v59_apply _ _ _ _ _ _ d

end Cert.MlpFwd

end
-- ==== Proof.SsmPrepSpec.lean ====
module

public import Idealize.ShloMosaic.PureOps
public import Idealize.ShloMosaic.Lib.Pointwise

/-! # The discretisation of one state and its gradients, as numbers

A state has a complex rate `lr + i·li` and a logarithmic step `ld`. Its transition is `exp (rate · step)` and its input factor
is `(transition − 1) / rate`. The gradients take the cotangents `ga` of the transition and `gf` of the factor. -/

@[expose] public section

set_option maxRecDepth 16384

noncomputable section

namespace Cert.SsmPrep

open Idealize.ShloMosaic Idealize.ShloMosaic.TcCoe

variable (lr li ld gar gai gfr gfi : EReal)

/-- The transition's modulus. -/
def mag : EReal := Ideal.exp (lr * Ideal.exp ld)
/-- The cosine of its angle. -/
def cs : EReal := Ideal.cos (li * Ideal.exp ld)
/-- The sine of its angle. -/
def sn : EReal := Ideal.sin (li * Ideal.exp ld)
/-- The transition's real part, less one. -/
def nr : EReal := mag lr ld * cs li ld - 1
/-- The transition's imaginary part. -/
def ai : EReal := mag lr ld * sn li ld
/-- The rate's squared modulus. -/
def den : EReal := lr * lr + li * li
/-- The numerator of the factor's real part. -/
def numR : EReal := nr lr li ld * lr + ai lr li ld * li
/-- The numerator of the factor's imaginary part. -/
def numI : EReal := ai lr li ld * lr - nr lr li ld * li
/-- The factor's real part. -/
def facR : EReal := Ideal.div (numR lr li ld) (den lr li)
/-- The factor's imaginary part. -/
def facI : EReal := Ideal.div (numI lr li ld) (den lr li)
/-- The reciprocal of the squared denominator. -/
def inv2 : EReal := Ideal.div 1 (den lr li * den lr li)

/-- The cotangent of the numerator of the real part. -/
def qR : EReal := Ideal.div gfr (den lr li)
/-- The cotangent of the numerator of the imaginary part. -/
def qI : EReal := Ideal.div gfi (den lr li)
/-- The cotangent of the denominator. -/
def dDen : EReal := -(gfi * inv2 lr li * numI lr li ld) + -(gfr * inv2 lr li * numR lr li ld)
/-- The cotangent of the transition's real part. -/
def dR : EReal := gar + -qI lr li gfi * li + qR lr li gfr * lr
/-- The cotangent of the transition's imaginary part. -/
def dI : EReal := gai + qI lr li gfi * lr + qR lr li gfr * li
/-- The angle's cotangent, through the sine. -/
def dSin : EReal := mag lr ld * dI lr li gai gfr gfi * cs li ld
/-- The angle's cotangent, through the cosine. -/
def dCos : EReal := -(mag lr ld * dR lr li gar gfr gfi) * sn li ld
/-- The cotangent of the modulus' logarithm. -/
def dMag : EReal := (dI lr li gai gfr gfi * sn li ld + dR lr li gar gfr gfi * cs li ld) * mag lr ld

/-- The gradient of the rate's real part. -/
def gradR : EReal :=
  ai lr li ld * qI lr li gfi + nr lr li ld * qR lr li gfr + lr * dDen lr li ld gfr gfi + dDen lr li ld gfr gfi * lr
    + dMag lr li ld gar gai gfr gfi * Ideal.exp ld
/-- The gradient of the rate's imaginary part. -/
def gradI : EReal :=
  nr lr li ld * -qI lr li gfi + ai lr li ld * qR lr li gfr + li * dDen lr li ld gfr gfi + dDen lr li ld gfr gfi * li
    + dSin lr li ld gai gfr gfi * Ideal.exp ld + dCos lr li ld gar gfr gfi * Ideal.exp ld
/-- The gradient of the step's logarithm. -/
def gradD : EReal :=
  (li * dSin lr li ld gai gfr gfi + li * dCos lr li ld gar gfr gfi + lr * dMag lr li ld gar gai gfr gfi) * Ideal.exp ld

/-- The factor's cotangent, real part: a sum over the 128 rows of a matrix of cotangents. -/
def sumR (g h b e : Fin 128 → EReal) : EReal := ∑ r : Fin 128, (g r * b r + h r * e r)
/-- The factor's cotangent, imaginary part. -/
def sumI (g h b e : Fin 128 → EReal) : EReal := ∑ r : Fin 128, (h r * b r - g r * e r)

/-- Lane `l` of block `j`, as a state. -/
def lane (j : Fin 4) (l : Fin 512) : Fin 2048 := ⟨512 * j.val + l.val, by omega⟩
/-- A lane's group. -/
def grp (j : Fin 4) (l : Fin 512) : Fin 32 := ⟨8 * j.val + l.val / 64, by omega⟩
/-- A lane's position in its group. -/
def pos (l : Fin 512) : Fin 64 := ⟨l.val % 64, by omega⟩
/-- The block of a state. -/
def blkOf (s : Fin 2048) : Fin 4 := ⟨s.val / 512, by omega⟩
/-- The lane of a state. -/
def laneOf (s : Fin 2048) : Fin 512 := ⟨s.val % 512, by omega⟩

/-- Entry `(r, l)` of block `j` of the block-diagonal input matrix. -/
def diag (x : (⟨4, ![1, 32, 64, 16]⟩ : Shape).Idx → EReal) (j : Fin 4) (l : Fin 512) (r : Fin 128) : EReal :=
  if r.val / 16 = l.val / 64 then x (ix4 0 ⟨8 * j.val + r.val / 16, by omega⟩ (pos l) ⟨r.val % 16, by omega⟩) else 0

end Cert.SsmPrep

end
-- ==== Proof.SsmPrepTile.lean ====
module

public import proofs.«01_k».proof.Proof.SsmPrepSpec
public import proofs.«01_k».proof.Proof.Gen.Kernel6Ideal.Frame

/-! # What the discretisation's gradient leaves in a tile, entry by entry -/

@[expose] public section

set_option maxRecDepth 16384

noncomputable section

namespace Cert.SsmPrep

open Cert.Kernel6Ideal Cert.Kernel6Ideal.Gen Idealize.ShloMosaic Idealize.ShloMosaic.TcCoe Idealize.SL.Sem

/-- Zero offsets. -/
theorem hz2 : (![0, 0] : Fin 2 → Nat) = fun _ => 0 := funext fun a => by fin_cases a <;> rfl
/-- Zero offsets. -/
theorem hz3 : (![0, 0, 0] : Fin 3 → Nat) = fun _ => 0 := funext fun a => by fin_cases a <;> rfl

variable (x0 x1 x2 : Vec Ideal S1x512 .f32) (x3 x4 x5 x6 : Vec Ideal S1x128x512 .f32) (x7 x8 : Vec Ideal S1x512 .f32)

/-- A column of a block of matrices. -/
abbrev colOf (x : Vec Ideal S1x128x512 .f32) (l : Fin 512) : Fin 128 → EReal := fun r => x (ix3 0 r l)

theorem fac_apply (l : Fin 512) :
    (k0_pay15 (F := Ideal) x0 x1 x2 (ix2 0 l) : EReal) = facR (x0 (ix2 0 l)) (x1 (ix2 0 l)) (x2 (ix2 0 l))
    ∧ (k0_pay18 (F := Ideal) x0 x1 x2 (ix2 0 l) : EReal) = facI (x0 (ix2 0 l)) (x1 (ix2 0 l)) (x2 (ix2 0 l)) := by
  unfold facR facI numR numI den nr ai mag cs sn
  constructor
  · pointwise [k0_pay15, k0_pay14, k0_pay13, k0_pay12, k0_pay11, k0_pay9, k0_pay8, k0_pay6, k0_pay5, k0_pay4, k0_pay3, k0_pay2, k0_pay1]
  · pointwise [k0_pay18, k0_pay17, k0_pay13, k0_pay12, k0_pay11, k0_pay9, k0_pay8, k0_pay6, k0_pay5, k0_pay4, k0_pay3, k0_pay2, k0_pay1]

theorem sum_apply (l : Fin 512) :
    (k0_pay26 (F := Ideal) (k0_pay20 x3) (k0_pay21 x4) x5 x6 (ix2 0 l) : EReal) = sumR (colOf x5 l) (colOf x6 l) (colOf x3 l) (colOf x4 l)
    ∧ (k0_pay27 (F := Ideal) (k0_pay20 x3) (k0_pay21 x4) x5 x6 (ix2 0 l) : EReal) = sumI (colOf x5 l) (colOf x6 l) (colOf x3 l) (colOf x4 l) := by
  unfold sumR sumI
  constructor
  · pointwise [k0_pay26, k0_pay20, k0_pay21, k0_pay22, k0_pay23]
  · pointwise [k0_pay27, k0_pay20, k0_pay21, k0_pay22, k0_pay23]

theorem out9_apply (r : Fin 128) (l : Fin 512) : (out0_9 (F := Ideal) x0 x1 x2 x3 x4 x5 x6 x7 x8 (ix3 0 r l) : EReal)
    = x5 (ix3 0 r l) * facR (x0 (ix2 0 l)) (x1 (ix2 0 l)) (x2 (ix2 0 l)) + x6 (ix3 0 r l) * facI (x0 (ix2 0 l)) (x1 (ix2 0 l)) (x2 (ix2 0 l)) := by
  rw [← (fac_apply x0 x1 x2 l).1, ← (fac_apply x0 x1 x2 l).2]
  unfold out0_9 k0_pay57 k0_pay55 r0_0 r0_1
  rw [View.canon_unit_zero hz3]
  simp only [View.ld_unit_zero (S := S1x512) hz2, View.ld_unit_zero (S := S1x128x512) hz3]
  generalize k0_pay15 (F := Ideal) x0 x1 x2 = A
  generalize k0_pay18 (F := Ideal) x0 x1 x2 = B
  pointwise [k0_pay24, k0_pay22, k0_pay23]

theorem out10_apply (r : Fin 128) (l : Fin 512) : (out0_10 (F := Ideal) x0 x1 x2 x3 x4 x5 x6 x7 x8 (ix3 0 r l) : EReal)
    = x6 (ix3 0 r l) * facR (x0 (ix2 0 l)) (x1 (ix2 0 l)) (x2 (ix2 0 l)) - x5 (ix3 0 r l) * facI (x0 (ix2 0 l)) (x1 (ix2 0 l)) (x2 (ix2 0 l)) := by
  rw [← (fac_apply x0 x1 x2 l).1, ← (fac_apply x0 x1 x2 l).2]
  unfold out0_10 k0_pay57 k0_pay55 r0_0 r0_1
  rw [View.canon_unit_zero hz3]
  simp only [View.ld_unit_zero (S := S1x512) hz2, View.ld_unit_zero (S := S1x128x512) hz3]
  generalize k0_pay15 (F := Ideal) x0 x1 x2 = A
  generalize k0_pay18 (F := Ideal) x0 x1 x2 = B
  pointwise [k0_pay25, k0_pay22, k0_pay23]

theorem out11_apply (l : Fin 512) : (out0_11 (F := Ideal) x0 x1 x2 x3 x4 x5 x6 x7 x8 (ix2 0 l) : EReal)
    = gradR (x0 (ix2 0 l)) (x1 (ix2 0 l)) (x2 (ix2 0 l)) (x7 (ix2 0 l)) (x8 (ix2 0 l))
      (sumR (colOf x5 l) (colOf x6 l) (colOf x3 l) (colOf x4 l)) (sumI (colOf x5 l) (colOf x6 l) (colOf x3 l) (colOf x4 l)) := by
  have e := sum_apply x3 x4 x5 x6 l
  rw [← e.1, ← e.2]
  clear e
  unfold out0_11 k0_pay63 k0_pay62 k0_pay61 k0_pay60 k0_pay59 k0_pay58 k0_pay56 k0_pay54 k0_pay53 k0_pay52 k0_pay51 k0_pay49 k0_pay47 k0_pay46 k0_pay45 k0_pay44 k0_pay43 r0_0 r0_1
  rw [View.canon_unit_zero hz2]
  simp only [View.ld_unit_zero (S := S1x512) hz2, View.ld_unit_zero (S := S1x128x512) hz3]
  unfold k0_pay28 k0_pay32 k0_pay30 k0_pay29
  generalize k0_pay26 (F := Ideal) (k0_pay20 x3) (k0_pay21 x4) x5 x6 = A
  generalize k0_pay27 (F := Ideal) (k0_pay20 x3) (k0_pay21 x4) x5 x6 = B
  unfold gradR dMag dI dR dDen qI qR inv2 numR numI den nr ai mag cs sn
  pointwise [k0_pay41, k0_pay40, k0_pay36, k0_pay35, k0_pay34, k0_pay33, k0_pay19, k0_pay17, k0_pay16, k0_pay14, k0_pay13, k0_pay12, k0_pay11, k0_pay10, k0_pay9, k0_pay8, k0_pay7, k0_pay6, k0_pay5, k0_pay4, k0_pay3, k0_pay2, k0_pay1]
  simp only [zero_sub]

theorem out12_apply (l : Fin 512) : (out0_12 (F := Ideal) x0 x1 x2 x3 x4 x5 x6 x7 x8 (ix2 0 l) : EReal)
    = gradI (x0 (ix2 0 l)) (x1 (ix2 0 l)) (x2 (ix2 0 l)) (x7 (ix2 0 l)) (x8 (ix2 0 l))
      (sumR (colOf x5 l) (colOf x6 l) (colOf x3 l) (colOf x4 l)) (sumI (colOf x5 l) (colOf x6 l) (colOf x3 l) (colOf x4 l)) := by
  have e := sum_apply x3 x4 x5 x6 l
  rw [← e.1, ← e.2]
  clear e
  unfold out0_12 k0_pay63 k0_pay62 k0_pay61 k0_pay60 k0_pay59 k0_pay58 k0_pay56 k0_pay54 k0_pay53 k0_pay52 k0_pay51 k0_pay50 k0_pay48 k0_pay46 k0_pay45 k0_pay44 k0_pay43 r0_0 r0_1
  rw [View.canon_unit_zero hz2]
  simp only [View.ld_unit_zero (S := S1x512) hz2, View.ld_unit_zero (S := S1x128x512) hz3]
  unfold k0_pay28 k0_pay32 k0_pay31 k0_pay30 k0_pay29
  generalize k0_pay26 (F := Ideal) (k0_pay20 x3) (k0_pay21 x4) x5 x6 = A
  generalize k0_pay27 (F := Ideal) (k0_pay20 x3) (k0_pay21 x4) x5 x6 = B
  unfold gradI dSin dCos dI dR dDen qI qR inv2 numR numI den nr ai mag cs sn
  pointwise [k0_pay39, k0_pay38, k0_pay37, k0_pay36, k0_pay35, k0_pay34, k0_pay33, k0_pay19, k0_pay17, k0_pay16, k0_pay14, k0_pay13, k0_pay12, k0_pay11, k0_pay10, k0_pay9, k0_pay8, k0_pay7, k0_pay6, k0_pay5, k0_pay4, k0_pay3, k0_pay2, k0_pay1]
  simp only [zero_sub]

theorem out13_apply (l : Fin 512) : (out0_13 (F := Ideal) x0 x1 x2 x3 x4 x5 x6 x7 x8 (ix2 0 l) : EReal)
    = gradD (x0 (ix2 0 l)) (x1 (ix2 0 l)) (x2 (ix2 0 l)) (x7 (ix2 0 l)) (x8 (ix2 0 l))
      (sumR (colOf x5 l) (colOf x6 l) (colOf x3 l) (colOf x4 l)) (sumI (colOf x5 l) (colOf x6 l) (colOf x3 l) (colOf x4 l)) := by
  have e := sum_apply x3 x4 x5 x6 l
  rw [← e.1, ← e.2]
  clear e
  unfold out0_13 k0_pay63 k0_pay62 k0_pay60 k0_pay59 k0_pay58 k0_pay53 k0_pay50 k0_pay49 k0_pay48 k0_pay47 k0_pay46 k0_pay45 k0_pay44 k0_pay43 r0_0 r0_1
  rw [View.canon_unit_zero hz2]
  simp only [View.ld_unit_zero (S := S1x512) hz2, View.ld_unit_zero (S := S1x128x512) hz3]
  unfold k0_pay32 k0_pay30 k0_pay29
  generalize k0_pay26 (F := Ideal) (k0_pay20 x3) (k0_pay21 x4) x5 x6 = A
  generalize k0_pay27 (F := Ideal) (k0_pay20 x3) (k0_pay21 x4) x5 x6 = B
  unfold gradD dMag dSin dCos dI dR qI qR den mag cs sn
  pointwise [k0_pay42, k0_pay40, k0_pay38, k0_pay37, k0_pay36, k0_pay35, k0_pay34, k0_pay14, k0_pay13, k0_pay12, k0_pay11, k0_pay10, k0_pay9, k0_pay8, k0_pay7, k0_pay6, k0_pay5, k0_pay4, k0_pay3, k0_pay2, k0_pay1]
  simp only [zero_sub]

end Cert.SsmPrep

end
-- ==== Proof.SsmPrepBlocks.lean ====
module

public import proofs.«01_k».proof.Proof.SsmPrepSpec
public import proofs.«01_k».proof.Proof.Gen.Kernel6Ideal.Frame
public import Idealize.ShloMosaic.Lib.Pipeline.ValueKit
public import Idealize.ShloMosaic.Lib.Claim

/-! # The blocks the discretisation's gradient reads, as entries of the arguments -/

@[expose] public section

set_option maxRecDepth 16384

noncomputable section

namespace Cert.SsmPrep

open Cert.Kernel6Ideal Cert.Kernel6Ideal.Gen Idealize.ShloMosaic Idealize.ShloMosaic.TcCoe Idealize.SL.Sem

variable (m : (ℓ : Loc nD τ sig) → Buf (Elt Ideal) ℓ) (c : Dev nD) (t : Fin cfg0.N)

/-- Each window's block index at each grid point. -/
theorem idx : ∀ t : Fin cfg0.N, win0_0.index t = ![0, t.val] ∧ win0_1.index t = ![0, t.val] ∧ win0_2.index t = ![0, t.val]
    ∧ win0_3.index t = ![t.val, 0, 0] ∧ win0_4.index t = ![t.val, 0, 0] ∧ win0_5.index t = ![t.val, 0, 0]
    ∧ win0_6.index t = ![t.val, 0, 0] ∧ win0_7.index t = ![0, t.val] ∧ win0_8.index t = ![0, t.val]
    ∧ win0_9.index t = ![t.val, 0, 0] ∧ win0_10.index t = ![t.val, 0, 0] ∧ win0_11.index t = ![0, t.val]
    ∧ win0_12.index t = ![0, t.val] ∧ win0_13.index t = ![0, t.val] := by decide +kernel

/-- A grid point, as the number of its block. -/
def bk (t : Fin cfg0.N) : Fin 4 := ⟨t.val, t.isLt⟩

theorem blk0 (l : Fin 512) : (iblk m c 0 t : Vec Ideal S1x512 .f32) (ix2 0 l) = m (c.tc.loc main_arg0) (ix3 0 (grp (bk t) l) (pos l)) := by
  unfold grp pos bk; blk_point [iblk, V, idx t]

theorem blk1 (l : Fin 512) : (iblk m c 1 t : Vec Ideal S1x512 .f32) (ix2 0 l) = m (c.tc.loc main_arg1) (ix3 0 (grp (bk t) l) (pos l)) := by
  unfold grp pos bk; blk_point [iblk, V, idx t]

theorem blk2 (l : Fin 512) : (iblk m c 2 t : Vec Ideal S1x512 .f32) (ix2 0 l) = m (c.tc.loc main_arg2) (ix2 0 (grp (bk t) l)) := by
  unfold grp bk; blk_point [iblk, V, idx t]

theorem blk7 (l : Fin 512) : (iblk m c 7 t : Vec Ideal S1x512 .f32) (ix2 0 l) = m (c.tc.loc main_arg7) (ix2 0 (lane (bk t) l)) := by
  unfold lane bk; blk_point [iblk, V, idx t]

theorem blk8 (l : Fin 512) : (iblk m c 8 t : Vec Ideal S1x512 .f32) (ix2 0 l) = m (c.tc.loc main_arg8) (ix2 0 (lane (bk t) l)) := by
  unfold lane bk; blk_point [iblk, V, idx t]

theorem blk5 (r : Fin 128) (l : Fin 512) : (iblk m c 5 t : Vec Ideal S1x128x512 .f32) (ix3 0 r l) = m (c.tc.loc main_arg5) (ix3 (bk t) r l) := by
  unfold bk; blk_point [iblk, V, idx t]

theorem blk6 (r : Fin 128) (l : Fin 512) : (iblk m c 6 t : Vec Ideal S1x128x512 .f32) (ix3 0 r l) = m (c.tc.loc main_arg6) (ix3 (bk t) r l) := by
  unfold bk; blk_point [iblk, V, idx t]

/-- An entry of the identity, as the word comparison gives it. -/
theorem eye_entry : ∀ a b : Fin 8, IntOp.cmpi .eq (IntOp.addi (BitVec.ofNat 32 a.val) 0#32) (BitVec.ofNat 32 b.val) = if a.val = b.val then 1#1 else 0#1 := by
  decide +kernel

/-- A product with a true flag's value. -/
theorem flag1 (x : EReal) : x * (FloatOps.uitofp (F := Ideal) .f32 (1#1) : EReal) = x := by
  refine Eq.trans (congrArg (x * ·) (?_ : _ = (1 : EReal))) (mul_one x)
  show (((1 : ℕ) : ℝ) : EReal) = 1
  simp

/-- A product with a false flag's value. -/
theorem flag0 (x : EReal) : x * (FloatOps.uitofp (F := Ideal) .f32 (0#1) : EReal) = 0 := by
  refine Eq.trans (congrArg (x * ·) (?_ : _ = (0 : EReal))) (mul_zero x)
  show (((0 : ℕ) : ℝ) : EReal) = 0
  simp

theorem mat3 (a : Fin 4) (r : Fin 128) (l : Fin 512) : (V m c main_v20 : Vec Ideal S4x128x512 .f32) (ix3 a r l) = diag (m (c.tc.loc main_arg3)) a l r := by
  have hm := eye_entry ⟨r.val / 16, by omega⟩ ⟨l.val / 64, by omega⟩
  simp only at hm
  unfold diag pos
  blk_simp [V]
  entry_read
  pointwise []
  have e : a.val * 8 + r.val / 16 = 8 * a.val + r.val / 16 := by omega
  simp only [hm, e]
  by_cases h : r.val / 16 = l.val / 64
  · simp only [if_pos h]
    exact flag1 _
  · simp only [if_neg h]
    exact flag0 _

theorem blk3 (r : Fin 128) (l : Fin 512) : (iblk m c 3 t : Vec Ideal S1x128x512 .f32) (ix3 0 r l) = diag (m (c.tc.loc main_arg3)) (bk t) l r := by
  have e : (win0_3.blk t).view.emb (ix3 0 r l) = (ix3 (bk t) r l : S4x128x512.Idx) := by
    funext a
    fin_cases a
    · exact Fin.ext (by unfold bk; blk_simp [idx t]; simp)
    · exact Fin.ext (by blk_simp [idx t]; rfl)
    · exact Fin.ext (by blk_simp [idx t]; rfl)
  refine Eq.trans ?_ (mat3 m c (bk t) r l)
  exact congrArg (V m c main_v20) e

theorem mat4 (a : Fin 4) (r : Fin 128) (l : Fin 512) : (V m c main_v29 : Vec Ideal S4x128x512 .f32) (ix3 a r l) = diag (m (c.tc.loc main_arg4)) a l r := by
  have hm := eye_entry ⟨r.val / 16, by omega⟩ ⟨l.val / 64, by omega⟩
  simp only at hm
  unfold diag pos
  blk_simp [V]
  entry_read
  pointwise []
  have e : a.val * 8 + r.val / 16 = 8 * a.val + r.val / 16 := by omega
  simp only [hm, e]
  by_cases h : r.val / 16 = l.val / 64
  · simp only [if_pos h]
    exact flag1 _
  · simp only [if_neg h]
    exact flag0 _

theorem blk4 (r : Fin 128) (l : Fin 512) : (iblk m c 4 t : Vec Ideal S1x128x512 .f32) (ix3 0 r l) = diag (m (c.tc.loc main_arg4)) (bk t) l r := by
  have e : (win0_4.blk t).view.emb (ix3 0 r l) = (ix3 (bk t) r l : S4x128x512.Idx) := by
    funext a
    fin_cases a
    · exact Fin.ext (by unfold bk; blk_simp [idx t]; simp)
    · exact Fin.ext (by blk_simp [idx t]; rfl)
    · exact Fin.ext (by blk_simp [idx t]; rfl)
  refine Eq.trans ?_ (mat4 m c (bk t) r l)
  exact congrArg (V m c main_v29) e

end Cert.SsmPrep

end
-- ==== Proof.SsmPrepValue.lean ====
module

public import proofs.«01_k».proof.Proof.SsmPrepTile
public import proofs.«01_k».proof.Proof.SsmPrepBlocks

/-! # What the discretisation's gradient leaves in its five results -/

@[expose] public section

set_option maxRecDepth 16384

noncomputable section

namespace Cert.SsmPrep

open Cert.Kernel6Ideal Cert.Kernel6Ideal.Gen Idealize.ShloMosaic Idealize.ShloMosaic.TcCoe Idealize.SL.Sem

variable (m : (ℓ : Loc nD τ sig) → Buf (Elt Ideal) ℓ) (ρ : Dev nD → PrngReg) (c : Dev nD) (t : Fin cfg0.N)

/-- One lane's numbers, of the run's arguments: the rate, the logarithmic step, the transition's and the factor's cotangents. -/
abbrev laneR (j : Fin 4) (l : Fin 512) : EReal := m (c.tc.loc main_arg0) (ix3 0 (grp j l) (pos l))
@[inherit_doc laneR] abbrev laneI (j : Fin 4) (l : Fin 512) : EReal := m (c.tc.loc main_arg1) (ix3 0 (grp j l) (pos l))
@[inherit_doc laneR] abbrev laneD (j : Fin 4) (l : Fin 512) : EReal := m (c.tc.loc main_arg2) (ix2 0 (grp j l))
@[inherit_doc laneR] abbrev laneAr (j : Fin 4) (l : Fin 512) : EReal := m (c.tc.loc main_arg7) (ix2 0 (lane j l))
@[inherit_doc laneR] abbrev laneAi (j : Fin 4) (l : Fin 512) : EReal := m (c.tc.loc main_arg8) (ix2 0 (lane j l))
@[inherit_doc laneR] abbrev laneFr (j : Fin 4) (l : Fin 512) : EReal :=
  sumR (fun r => m (c.tc.loc main_arg5) (ix3 j r l)) (fun r => m (c.tc.loc main_arg6) (ix3 j r l)) (diag (m (c.tc.loc main_arg3)) j l) (diag (m (c.tc.loc main_arg4)) j l)
@[inherit_doc laneR] abbrev laneFi (j : Fin 4) (l : Fin 512) : EReal :=
  sumI (fun r => m (c.tc.loc main_arg5) (ix3 j r l)) (fun r => m (c.tc.loc main_arg6) (ix3 j r l)) (diag (m (c.tc.loc main_arg3)) j l) (diag (m (c.tc.loc main_arg4)) j l)

/-- An entry of the cotangents of the scaled matrices, real and imaginary part. -/
abbrev matRe (j : Fin 4) (r : Fin 128) (l : Fin 512) : EReal := m (c.tc.loc main_arg5) (ix3 j r l)
@[inherit_doc matRe] abbrev matIm (j : Fin 4) (r : Fin 128) (l : Fin 512) : EReal := m (c.tc.loc main_arg6) (ix3 j r l)

/-- The run's first result: the gradient of the matrices' real part. -/
theorem final9 : (dats m 0 c).arrAt 9 cfg0.N
    = (fun i => matRe m c (i 0) (i 1) (i 2) * facR (laneR m c (i 0) (i 2)) (laneI m c (i 0) (i 2)) (laneD m c (i 0) (i 2))
        + matIm m c (i 0) (i 1) (i 2) * facI (laneR m c (i 0) (i 2)) (laneI m c (i 0) (i 2)) (laneD m c (i 0) (i 2)) : Vec Ideal S4x128x512 .f32) := by
  refine (dats m 0 c).arrAt_eq_of_covers 9 _ (by decide +kernel) fun t hf y => ?_
  blk_simp
  rw [after0_9]
  obtain ⟨r, l, rfl⟩ : ∃ (r : Fin 128) (l : Fin 512), y = ix3 0 r l := ⟨y 1, y 2, by
    funext a; fin_cases a
    · exact Subsingleton.elim (α := Fin 1) _ _
    · rfl
    · rfl⟩
  have e0 : ((win0_9.blk t).view.emb (ix3 0 r l) 0 : Fin 4) = bk t := Fin.ext (by unfold bk; blk_simp [idx t]; simp)
  have e1 : ((win0_9.blk t).view.emb (ix3 0 r l) 1 : Fin 128) = r := Fin.ext (by blk_simp [idx t])
  have e2 : ((win0_9.blk t).view.emb (ix3 0 r l) 2 : Fin 512) = l := Fin.ext (by blk_simp [idx t])
  rw [e0, e1, e2]
  refine (out9_apply _ _ _ _ _ _ _ _ _ r l).trans ?_
  rw [blk0, blk1, blk2, blk5, blk6]

/-- The run's second result: the gradient of the matrices' imaginary part. -/
theorem final10 : (dats m 0 c).arrAt 10 cfg0.N
    = (fun i => matIm m c (i 0) (i 1) (i 2) * facR (laneR m c (i 0) (i 2)) (laneI m c (i 0) (i 2)) (laneD m c (i 0) (i 2))
        - matRe m c (i 0) (i 1) (i 2) * facI (laneR m c (i 0) (i 2)) (laneI m c (i 0) (i 2)) (laneD m c (i 0) (i 2)) : Vec Ideal S4x128x512 .f32) := by
  refine (dats m 0 c).arrAt_eq_of_covers 10 _ (by decide +kernel) fun t hf y => ?_
  blk_simp
  rw [after0_10]
  obtain ⟨r, l, rfl⟩ : ∃ (r : Fin 128) (l : Fin 512), y = ix3 0 r l := ⟨y 1, y 2, by
    funext a; fin_cases a
    · exact Subsingleton.elim (α := Fin 1) _ _
    · rfl
    · rfl⟩
  have e0 : ((win0_10.blk t).view.emb (ix3 0 r l) 0 : Fin 4) = bk t := Fin.ext (by unfold bk; blk_simp [idx t]; simp)
  have e1 : ((win0_10.blk t).view.emb (ix3 0 r l) 1 : Fin 128) = r := Fin.ext (by blk_simp [idx t])
  have e2 : ((win0_10.blk t).view.emb (ix3 0 r l) 2 : Fin 512) = l := Fin.ext (by blk_simp [idx t])
  rw [e0, e1, e2]
  refine (out10_apply _ _ _ _ _ _ _ _ _ r l).trans ?_
  rw [blk0, blk1, blk2, blk5, blk6]

/-- A state is a lane of its block. -/
theorem lane_eq (s : Fin 2048) : lane (blkOf s) (laneOf s) = s := Fin.ext (by unfold lane blkOf laneOf; show 512 * (s.val / 512) + s.val % 512 = s.val; omega)

theorem blkOf_lane (j : Fin 4) (l : Fin 512) : blkOf (lane j l) = j := Fin.ext (by unfold lane blkOf; show (512 * j.val + l.val) / 512 = j.val; omega)

theorem laneOf_lane (j : Fin 4) (l : Fin 512) : laneOf (lane j l) = l := Fin.ext (by unfold lane laneOf; show (512 * j.val + l.val) % 512 = l.val; omega)

/-- The columns of a block's matrices, as rows of the arguments. -/
theorem cols (l : Fin 512) : colOf (iblk m c 3 t) l = diag (m (c.tc.loc main_arg3)) (bk t) l ∧ colOf (iblk m c 4 t) l = diag (m (c.tc.loc main_arg4)) (bk t) l
    ∧ colOf (iblk m c 5 t) l = (fun r => m (c.tc.loc main_arg5) (ix3 (bk t) r l)) ∧ colOf (iblk m c 6 t) l = (fun r => m (c.tc.loc main_arg6) (ix3 (bk t) r l)) :=
  ⟨funext fun r => blk3 m c t r l, funext fun r => blk4 m c t r l, funext fun r => blk5 m c t r l, funext fun r => blk6 m c t r l⟩

/-- The run's third result: the gradient of the rates' real part. -/
theorem final11 : (dats m 0 c).arrAt 11 cfg0.N
    = (fun i => gradR (laneR m c (blkOf (i 1)) (laneOf (i 1))) (laneI m c (blkOf (i 1)) (laneOf (i 1))) (laneD m c (blkOf (i 1)) (laneOf (i 1)))
        (laneAr m c (blkOf (i 1)) (laneOf (i 1))) (laneAi m c (blkOf (i 1)) (laneOf (i 1))) (laneFr m c (blkOf (i 1)) (laneOf (i 1)))
        (laneFi m c (blkOf (i 1)) (laneOf (i 1))) : Vec Ideal S1x2048 .f32) := by
  refine (dats m 0 c).arrAt_eq_of_covers 11 _ (by decide +kernel) fun t hf y => ?_
  blk_simp
  rw [after0_11]
  obtain ⟨l, rfl⟩ : ∃ (l : Fin 512), y = ix2 0 l := ⟨y 1, by
    funext a; fin_cases a
    · exact Subsingleton.elim (α := Fin 1) _ _
    · rfl⟩
  have e1 : ((win0_11.blk t).view.emb (ix2 0 l) 1 : Fin 2048) = lane (bk t) l := Fin.ext (by unfold lane bk; blk_simp [idx t]; simp; omega)
  rw [e1, blkOf_lane, laneOf_lane]
  refine (out11_apply _ _ _ _ _ _ _ _ _ l).trans ?_
  rw [blk0, blk1, blk2, blk7, blk8, (cols m c t l).1, (cols m c t l).2.1, (cols m c t l).2.2.1, (cols m c t l).2.2.2]

/-- The run's fourth result: the gradient of the rates' imaginary part. -/
theorem final12 : (dats m 0 c).arrAt 12 cfg0.N
    = (fun i => gradI (laneR m c (blkOf (i 1)) (laneOf (i 1))) (laneI m c (blkOf (i 1)) (laneOf (i 1))) (laneD m c (blkOf (i 1)) (laneOf (i 1)))
        (laneAr m c (blkOf (i 1)) (laneOf (i 1))) (laneAi m c (blkOf (i 1)) (laneOf (i 1))) (laneFr m c (blkOf (i 1)) (laneOf (i 1)))
        (laneFi m c (blkOf (i 1)) (laneOf (i 1))) : Vec Ideal S1x2048 .f32) := by
  refine (dats m 0 c).arrAt_eq_of_covers 12 _ (by decide +kernel) fun t hf y => ?_
  blk_simp
  rw [after0_12]
  obtain ⟨l, rfl⟩ : ∃ (l : Fin 512), y = ix2 0 l := ⟨y 1, by
    funext a; fin_cases a
    · exact Subsingleton.elim (α := Fin 1) _ _
    · rfl⟩
  have e1 : ((win0_12.blk t).view.emb (ix2 0 l) 1 : Fin 2048) = lane (bk t) l := Fin.ext (by unfold lane bk; blk_simp [idx t]; simp; omega)
  rw [e1, blkOf_lane, laneOf_lane]
  refine (out12_apply _ _ _ _ _ _ _ _ _ l).trans ?_
  rw [blk0, blk1, blk2, blk7, blk8, (cols m c t l).1, (cols m c t l).2.1, (cols m c t l).2.2.1, (cols m c t l).2.2.2]

/-- The run's fifth result: the gradient of the steps' logarithms. -/
theorem final13 : (dats m 0 c).arrAt 13 cfg0.N
    = (fun i => gradD (laneR m c (blkOf (i 1)) (laneOf (i 1))) (laneI m c (blkOf (i 1)) (laneOf (i 1))) (laneD m c (blkOf (i 1)) (laneOf (i 1)))
        (laneAr m c (blkOf (i 1)) (laneOf (i 1))) (laneAi m c (blkOf (i 1)) (laneOf (i 1))) (laneFr m c (blkOf (i 1)) (laneOf (i 1)))
        (laneFi m c (blkOf (i 1)) (laneOf (i 1))) : Vec Ideal S1x2048 .f32) := by
  refine (dats m 0 c).arrAt_eq_of_covers 13 _ (by decide +kernel) fun t hf y => ?_
  blk_simp
  rw [after0_13]
  obtain ⟨l, rfl⟩ : ∃ (l : Fin 512), y = ix2 0 l := ⟨y 1, by
    funext a; fin_cases a
    · exact Subsingleton.elim (α := Fin 1) _ _
    · rfl⟩
  have e1 : ((win0_13.blk t).view.emb (ix2 0 l) 1 : Fin 2048) = lane (bk t) l := Fin.ext (by unfold lane bk; blk_simp [idx t]; simp; omega)
  rw [e1, blkOf_lane, laneOf_lane]
  refine (out13_apply _ _ _ _ _ _ _ _ _ l).trans ?_
  rw [blk0, blk1, blk2, blk7, blk8, (cols m c t l).1, (cols m c t l).2.1, (cols m c t l).2.2.1, (cols m c t l).2.2.2]

/-- The run, with its five results named and its arguments kept. -/
theorem run_named : θ_run defs (onTc (τ := τ) (main (F := Ideal))) ⟨m, fun _ => 0, ρ⟩ fun r => ∀ c : Dev nD,
      (r.2.mem (c.tc.loc main_v30_0) = (dats m 0 c).arrAt 9 cfg0.N ∧ r.2.mem (c.tc.loc main_v30_1) = (dats m 0 c).arrAt 10 cfg0.N
      ∧ r.2.mem (c.tc.loc main_v30_2) = (dats m 0 c).arrAt 11 cfg0.N ∧ r.2.mem (c.tc.loc main_v30_3) = (dats m 0 c).arrAt 12 cfg0.N
      ∧ r.2.mem (c.tc.loc main_v30_4) = (dats m 0 c).arrAt 13 cfg0.N)
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)
      ∧ r.2.mem (c.tc.loc main_arg6) = m (c.tc.loc main_arg6) ∧ r.2.mem (c.tc.loc main_arg7) = m (c.tc.loc main_arg7)
      ∧ r.2.mem (c.tc.loc main_arg8) = m (c.tc.loc main_arg8) :=
  (θ_run defs _ _).mono (fun _ h c => ⟨⟨(h.1 c).1 9, (h.1 c).1 10, (h.1 c).1 11, (h.1 c).1 12, (h.1 c).1 13⟩, h.2 c⟩)
    (θ_run_and (run_main m ρ) (unchanged m ρ))

end Cert.SsmPrep

end
-- ==== Proof.SsmPrepRef.lean ====
module

public import proofs.«01_k».proof.Proof.SsmPrepSpec
public import proofs.«01_k».proof.Proof.Gen.Reference6Ideal.Read

/-! # The reference's results, entry by entry -/

@[expose] public section

set_option maxRecDepth 16384

noncomputable section

namespace Cert.SsmPrep

open Cert.Reference6Ideal Cert.Reference6Ideal.Gen Idealize.ShloMosaic Idealize.ShloMosaic.TcCoe Idealize.SL.Sem Cert.Reference6Ideal.Read

variable (x0 x1 : (⟨S1x32x64, .f32⟩ : BufTy).Contents (Elt Ideal)) (x2 : (⟨S1x32, .f32⟩ : BufTy).Contents (Elt Ideal))
  (x3 x4 : (⟨S1x32x64x16, .f32⟩ : BufTy).Contents (Elt Ideal)) (x5 x6 : (⟨S4x128x512, .f32⟩ : BufTy).Contents (Elt Ideal))
  (x7 x8 : (⟨S1x2048, .f32⟩ : BufTy).Contents (Elt Ideal)) (j : Fin 4) (l : Fin 512)

/-- The comparison of two small numbers as words. -/
theorem mask : ∀ a b : Fin 8, IntOp.cmpi .eq (BitVec.ofNat 32 a.val) (BitVec.ofNat 32 b.val) = if a.val = b.val then 1#1 else 0#1 := by
  decide +kernel

theorem v14_apply (r : Fin 128) : (val_main_v14 (F := Ideal) x3 (ix3 j r l) : EReal) = diag x3 j l r := by
  have hm := mask ⟨r.val / 16, by omega⟩ ⟨l.val / 64, by omega⟩
  unfold diag pos
  unfold val_main_v14 val_main_v13 val_main_v12 val_main_cst val_main_v11 val_main_v10 val_main_v9 val_main_v8 val_main_v7 val_main_v6
    val_main_v5
  pointwise []
  simp only at hm
  rw [hm]
  have e : j.val * 8 + r.val / 16 = 8 * j.val + r.val / 16 := by omega
  simp only [e]
  by_cases h : r.val / 16 = l.val / 64
  · rw [if_pos h, if_pos h]; rfl
  · rw [if_neg h, if_neg h]; rfl

theorem v24_apply (r : Fin 128) : (val_main_v24 (F := Ideal) x4 (ix3 j r l) : EReal) = diag x4 j l r := by
  have hm := mask ⟨r.val / 16, by omega⟩ ⟨l.val / 64, by omega⟩
  unfold diag pos
  unfold val_main_v24 val_main_v23 val_main_v22 val_main_cst_0 val_main_v21 val_main_v20 val_main_v19 val_main_v18 val_main_v17 val_main_v16
    val_main_v15
  pointwise []
  simp only at hm
  rw [hm]
  have e : j.val * 8 + r.val / 16 = 8 * j.val + r.val / 16 := by omega
  simp only [e]
  by_cases h : r.val / 16 = l.val / 64
  · rw [if_pos h, if_pos h]; rfl
  · rw [if_neg h, if_neg h]; rfl

theorem v44_apply (g : Fin 32) (p : Fin 64) : (val_main_v44 (F := Ideal) x0 x1 x2 (ix2 g p) : EReal)
    = facR (x0 (ix3 0 g p)) (x1 (ix3 0 g p)) (x2 (ix2 0 g)) := by
  unfold facR numR den nr ai mag cs sn
  unfold val_main_v44 val_main_v43 val_main_v42 val_main_v41 val_main_v40 val_main_v39 val_main_v38 val_main_v37 val_main_v36 val_main_v35 val_main_v33 val_main_v32 val_main_v31 val_main_v29 val_main_v28 val_main_v27 val_main_v26 val_main_v25 val_main_v4 val_main_v3 val_main_v2 val_main_v1 val_main_v0 val_main_cst_1
  pointwise []

theorem v52_apply (g : Fin 32) (p : Fin 64) : (val_main_v52 (F := Ideal) x0 x1 x2 (ix2 g p) : EReal)
    = facI (x0 (ix3 0 g p)) (x1 (ix3 0 g p)) (x2 (ix2 0 g)) := by
  unfold facI numI den nr ai mag cs sn
  unfold val_main_v52 val_main_v51 val_main_v50 val_main_v49 val_main_v40 val_main_v39 val_main_v38 val_main_v37 val_main_v36 val_main_v35 val_main_v33 val_main_v32 val_main_v31 val_main_v29 val_main_v28 val_main_v27 val_main_v26 val_main_v25 val_main_v4 val_main_v3 val_main_v2 val_main_v1 val_main_v0 val_main_cst_1
  pointwise []

theorem v111_apply : (val_main_v111 (F := Ideal) x3 x4 x5 x6 (ix2 (grp j l) (pos l)) : EReal)
    = sumR (fun r => x5 (ix3 j r l)) (fun r => x6 (ix3 j r l)) (diag x3 j l) (diag x4 j l) := by
  have e3 : diag x3 j l = fun r => val_main_v14 (F := Ideal) x3 (ix3 j r l) := funext fun r => (v14_apply x3 j l r).symm
  have e4 : diag x4 j l = fun r => val_main_v24 (F := Ideal) x4 (ix3 j r l) := funext fun r => (v24_apply x4 j l r).symm
  rw [e3, e4]
  clear e3 e4
  unfold sumR grp pos
  unfold val_main_v111 val_main_v96 val_main_v95 val_main_v94 val_main_cst_7 val_main_v93 val_main_v81 val_main_v80 val_main_v79
    val_main_cst_5 val_main_v78 val_main_v69
  generalize val_main_v14 (F := Ideal) x3 = A
  generalize val_main_v24 (F := Ideal) x4 = B
  pointwise []
  rw [add_comm, ← Finset.sum_add_distrib]

theorem v99_apply : (val_main_v99 (F := Ideal) x3 x4 x5 x6 (ix2 (grp j l) (pos l)) : EReal)
    = sumI (fun r => x5 (ix3 j r l)) (fun r => x6 (ix3 j r l)) (diag x3 j l) (diag x4 j l) := by
  have e3 : diag x3 j l = fun r => val_main_v14 (F := Ideal) x3 (ix3 j r l) := funext fun r => (v14_apply x3 j l r).symm
  have e4 : diag x4 j l = fun r => val_main_v24 (F := Ideal) x4 (ix3 j r l) := funext fun r => (v24_apply x4 j l r).symm
  rw [e3, e4]
  clear e3 e4
  unfold sumI grp pos
  unfold val_main_v99 val_main_v89 val_main_v88 val_main_v87 val_main_cst_6 val_main_v86 val_main_v82 val_main_v75 val_main_v74
    val_main_cst_4 val_main_v73 val_main_v70
  generalize val_main_v14 (F := Ideal) x3 = A
  generalize val_main_v24 (F := Ideal) x4 = B
  pointwise []
  simp only [EReal.neg_mul, sub_eq_add_neg, Finset.sum_add_distrib]

theorem v98_apply : (val_main_v98 (F := Ideal) x7 (ix2 (grp j l) (pos l)) : EReal) = x7 (ix2 0 (lane j l)) := by
  rw [val_main_v98_apply]
  refine congrArg x7 (funext fun a => ?_)
  fin_cases a
  · exact Subsingleton.elim (α := Fin 1) _ _
  · refine Fin.ext ?_
    show ((8 * j.val + l.val / 64) * 64 + l.val % 64) % 2048 = 512 * j.val + l.val
    omega

theorem v97_apply : (val_main_v97 (F := Ideal) x8 (ix2 (grp j l) (pos l)) : EReal) = x8 (ix2 0 (lane j l)) := by
  rw [val_main_v97_apply]
  refine congrArg x8 (funext fun a => ?_)
  fin_cases a
  · exact Subsingleton.elim (α := Fin 1) _ _
  · refine Fin.ext ?_
    show ((8 * j.val + l.val / 64) * 64 + l.val % 64) % 2048 = 512 * j.val + l.val
    omega

theorem v152_at (g : Fin 32) (p : Fin 64) : (val_main_v152 (F := Ideal) x0 x1 x2 x3 x4 x5 x6 x7 x8 (ix2 g p) : EReal)
    = gradR (x0 (ix3 0 g p)) (x1 (ix3 0 g p)) (x2 (ix2 0 g)) (val_main_v98 (F := Ideal) x7 (ix2 g p)) (val_main_v97 (F := Ideal) x8 (ix2 g p))
      (val_main_v111 (F := Ideal) x3 x4 x5 x6 (ix2 g p)) (val_main_v99 (F := Ideal) x3 x4 x5 x6 (ix2 g p)) := by
  unfold gradR dMag dI dR dDen qI qR inv2 numR numI den nr ai mag cs sn
  unfold val_main_v152 val_main_v151 val_main_v148 val_main_v141 val_main_v140 val_main_v134 val_main_v132 val_main_v131 val_main_v130
    val_main_v129 val_main_v124 val_main_v123 val_main_v122 val_main_v121 val_main_v120 val_main_v119 val_main_v116 val_main_v115
    val_main_v114 val_main_v113 val_main_v112 val_main_v110 val_main_v109 val_main_v108 val_main_v107 val_main_v106 val_main_v104
    val_main_v103 val_main_v102 val_main_v101 val_main_v100 val_main_v55 val_main_v54 val_main_cst_3 val_main_v53 val_main_v51 val_main_v50
    val_main_v49 val_main_v47 val_main_v46 val_main_cst_2 val_main_v45 val_main_v43 val_main_v42 val_main_v41 val_main_v40 val_main_v39
    val_main_v38 val_main_v37 val_main_v36 val_main_cst_1 val_main_v35 val_main_v33 val_main_v32 val_main_v31 val_main_v29 val_main_v28
    val_main_v27 val_main_v26 val_main_v25 val_main_v4 val_main_v3 val_main_v2 val_main_v1 val_main_v0
  generalize val_main_v98 (F := Ideal) x7 = A7
  generalize val_main_v97 (F := Ideal) x8 = A8
  generalize val_main_v111 (F := Ideal) x3 x4 x5 x6 = A
  generalize val_main_v99 (F := Ideal) x3 x4 x5 x6 = B
  pointwise []

theorem v147_at (g : Fin 32) (p : Fin 64) : (val_main_v147 (F := Ideal) x0 x1 x2 x3 x4 x5 x6 x7 x8 (ix2 g p) : EReal)
    = gradI (x0 (ix3 0 g p)) (x1 (ix3 0 g p)) (x2 (ix2 0 g)) (val_main_v98 (F := Ideal) x7 (ix2 g p)) (val_main_v97 (F := Ideal) x8 (ix2 g p))
      (val_main_v111 (F := Ideal) x3 x4 x5 x6 (ix2 g p)) (val_main_v99 (F := Ideal) x3 x4 x5 x6 (ix2 g p)) := by
  unfold gradI dSin dCos dI dR dDen qI qR inv2 numR numI den nr ai mag cs sn
  unfold val_main_v147 val_main_v146 val_main_v143 val_main_v142 val_main_v139 val_main_v138 val_main_v137 val_main_v135 val_main_v133
    val_main_v128 val_main_v127 val_main_v126 val_main_v125 val_main_v124 val_main_v123 val_main_v120 val_main_v119 val_main_v118
    val_main_v117 val_main_v116 val_main_v115 val_main_v114 val_main_v113 val_main_v112 val_main_v110 val_main_v109 val_main_v107
    val_main_v106 val_main_v105 val_main_v104 val_main_v103 val_main_v102 val_main_v101 val_main_v100 val_main_v55 val_main_v54
    val_main_cst_3 val_main_v53 val_main_v51 val_main_v50 val_main_v49 val_main_v47 val_main_v46 val_main_cst_2 val_main_v45 val_main_v43
    val_main_v42 val_main_v41 val_main_v40 val_main_v39 val_main_v38 val_main_v37 val_main_v36 val_main_cst_1 val_main_v35 val_main_v34
    val_main_v33 val_main_v32 val_main_v31 val_main_v30 val_main_v29 val_main_v28 val_main_v27 val_main_v26 val_main_v25 val_main_v4
    val_main_v3 val_main_v2 val_main_v1 val_main_v0
  generalize val_main_v98 (F := Ideal) x7 = A7
  generalize val_main_v97 (F := Ideal) x8 = A8
  generalize val_main_v111 (F := Ideal) x3 x4 x5 x6 = A
  generalize val_main_v99 (F := Ideal) x3 x4 x5 x6 = B
  pointwise []

theorem v153_at (g : Fin 32) (p : Fin 64) : (val_main_v153 (F := Ideal) x0 x1 x2 x3 x4 x5 x6 x7 x8 (ix2 g p) : EReal)
    = gradD (x0 (ix3 0 g p)) (x1 (ix3 0 g p)) (x2 (ix2 0 g)) (val_main_v98 (F := Ideal) x7 (ix2 g p)) (val_main_v97 (F := Ideal) x8 (ix2 g p))
      (val_main_v111 (F := Ideal) x3 x4 x5 x6 (ix2 g p)) (val_main_v99 (F := Ideal) x3 x4 x5 x6 (ix2 g p)) := by
  unfold gradD dMag dSin dCos dI dR qI qR den mag cs sn
  unfold val_main_v153 val_main_v150 val_main_v149 val_main_v148 val_main_v145 val_main_v144 val_main_v143 val_main_v142 val_main_v141
    val_main_v140 val_main_v139 val_main_v136 val_main_v135 val_main_v134 val_main_v133 val_main_v124 val_main_v123 val_main_v120
    val_main_v119 val_main_v116 val_main_v110 val_main_v109 val_main_v107 val_main_v106 val_main_v104 val_main_v103 val_main_v40
    val_main_v39 val_main_v38 val_main_v34 val_main_v33 val_main_v32 val_main_v30 val_main_v29 val_main_v28 val_main_v27 val_main_v26
    val_main_v25 val_main_v4 val_main_v3 val_main_v2 val_main_v1 val_main_v0
  generalize val_main_v98 (F := Ideal) x7 = A7
  generalize val_main_v97 (F := Ideal) x8 = A8
  generalize val_main_v111 (F := Ideal) x3 x4 x5 x6 = A
  generalize val_main_v99 (F := Ideal) x3 x4 x5 x6 = B
  pointwise []

theorem v154_apply : (val_main_v154 (F := Ideal) x0 x1 x2 x3 x4 x5 x6 x7 x8 (ix2 0 (lane j l)) : EReal)
    = gradR (x0 (ix3 0 (grp j l) (pos l))) (x1 (ix3 0 (grp j l) (pos l))) (x2 (ix2 0 (grp j l))) (x7 (ix2 0 (lane j l))) (x8 (ix2 0 (lane j l)))
      (sumR (fun r => x5 (ix3 j r l)) (fun r => x6 (ix3 j r l)) (diag x3 j l) (diag x4 j l))
      (sumI (fun r => x5 (ix3 j r l)) (fun r => x6 (ix3 j r l)) (diag x3 j l) (diag x4 j l)) := by
  rw [val_main_v154_apply, ← v111_apply, ← v99_apply, ← v98_apply x7 j l, ← v97_apply x8 j l, ← v152_at]
  refine congrArg _ (funext fun a => ?_)
  fin_cases a
  · refine Fin.ext ?_
    show (0 * 2048 + (512 * j.val + l.val)) / 64 = 8 * j.val + l.val / 64
    omega
  · refine Fin.ext ?_
    show (0 * 2048 + (512 * j.val + l.val)) % 64 = l.val % 64
    omega

theorem v155_apply : (val_main_v155 (F := Ideal) x0 x1 x2 x3 x4 x5 x6 x7 x8 (ix2 0 (lane j l)) : EReal)
    = gradI (x0 (ix3 0 (grp j l) (pos l))) (x1 (ix3 0 (grp j l) (pos l))) (x2 (ix2 0 (grp j l))) (x7 (ix2 0 (lane j l))) (x8 (ix2 0 (lane j l)))
      (sumR (fun r => x5 (ix3 j r l)) (fun r => x6 (ix3 j r l)) (diag x3 j l) (diag x4 j l))
      (sumI (fun r => x5 (ix3 j r l)) (fun r => x6 (ix3 j r l)) (diag x3 j l) (diag x4 j l)) := by
  rw [val_main_v155_apply, ← v111_apply, ← v99_apply, ← v98_apply x7 j l, ← v97_apply x8 j l, ← v147_at]
  refine congrArg _ (funext fun a => ?_)
  fin_cases a
  · refine Fin.ext ?_
    show (0 * 2048 + (512 * j.val + l.val)) / 64 = 8 * j.val + l.val / 64
    omega
  · refine Fin.ext ?_
    show (0 * 2048 + (512 * j.val + l.val)) % 64 = l.val % 64
    omega

theorem v156_apply : (val_main_v156 (F := Ideal) x0 x1 x2 x3 x4 x5 x6 x7 x8 (ix2 0 (lane j l)) : EReal)
    = gradD (x0 (ix3 0 (grp j l) (pos l))) (x1 (ix3 0 (grp j l) (pos l))) (x2 (ix2 0 (grp j l))) (x7 (ix2 0 (lane j l))) (x8 (ix2 0 (lane j l)))
      (sumR (fun r => x5 (ix3 j r l)) (fun r => x6 (ix3 j r l)) (diag x3 j l) (diag x4 j l))
      (sumI (fun r => x5 (ix3 j r l)) (fun r => x6 (ix3 j r l)) (diag x3 j l) (diag x4 j l)) := by
  rw [val_main_v156_apply, ← v111_apply, ← v99_apply, ← v98_apply x7 j l, ← v97_apply x8 j l, ← v153_at]
  refine congrArg _ (funext fun a => ?_)
  fin_cases a
  · refine Fin.ext ?_
    show (0 * 2048 + (512 * j.val + l.val)) / 64 = 8 * j.val + l.val / 64
    omega
  · refine Fin.ext ?_
    show (0 * 2048 + (512 * j.val + l.val)) % 64 = l.val % 64
    omega

theorem v92_apply (r : Fin 128) : (val_main_v92 (F := Ideal) x0 x1 x2 x5 x6 (ix3 j r l) : EReal)
    = x5 (ix3 j r l) * facR (x0 (ix3 0 (grp j l) (pos l))) (x1 (ix3 0 (grp j l) (pos l))) (x2 (ix2 0 (grp j l))) + x6 (ix3 j r l) * facI (x0 (ix3 0 (grp j l) (pos l))) (x1 (ix3 0 (grp j l) (pos l))) (x2 (ix2 0 (grp j l))) := by
  rw [← v44_apply, ← v52_apply]
  unfold grp pos
  unfold val_main_v92 val_main_v91 val_main_v90 val_main_v81 val_main_v72 val_main_v71 val_main_v70 val_main_v56 val_main_v48
  generalize val_main_v44 (F := Ideal) x0 x1 x2 = A
  generalize val_main_v52 (F := Ideal) x0 x1 x2 = B
  pointwise []
  have e : j.val * 8 + l.val / 64 = 8 * j.val + l.val / 64 := by omega
  simp only [e]
  rw [add_comm, mul_comm (x5 _), mul_comm (x6 _)]

theorem v85_apply (r : Fin 128) : (val_main_v85 (F := Ideal) x0 x1 x2 x5 x6 (ix3 j r l) : EReal)
    = x6 (ix3 j r l) * facR (x0 (ix3 0 (grp j l) (pos l))) (x1 (ix3 0 (grp j l) (pos l))) (x2 (ix2 0 (grp j l))) - x5 (ix3 j r l) * facI (x0 (ix3 0 (grp j l) (pos l))) (x1 (ix3 0 (grp j l) (pos l))) (x2 (ix2 0 (grp j l))) := by
  rw [← v44_apply, ← v52_apply]
  unfold grp pos
  unfold val_main_v85 val_main_v84 val_main_v83 val_main_v82 val_main_v77 val_main_v76 val_main_v69 val_main_v56 val_main_v48
  generalize val_main_v44 (F := Ideal) x0 x1 x2 = A
  generalize val_main_v52 (F := Ideal) x0 x1 x2 = B
  pointwise []
  have e : j.val * 8 + l.val / 64 = 8 * j.val + l.val / 64 := by omega
  simp only [e]
  rw [mul_comm (B _), EReal.neg_mul, mul_comm (A _)]
  exact (sub_eq_add_neg (G := EReal) _ _).symm

end Cert.SsmPrep

end
-- ==== Proof.SsmPrepClaims.lean ====
module

public import proofs.«01_k».proof.Defs
public import proofs.«01_k».proof.Proof.SsmPrepValue
public import proofs.«01_k».proof.Proof.SsmPrepRef
public import proofs.«01_k».proof.Proof.Gen.Reference6Ideal.Run

/-! # The claims about the gradient of the recurrence's discretisation -/

@[expose] public section

set_option maxRecDepth 16384

noncomputable section

namespace Cert.SsmPrep

open Idealize.ShloMosaic Idealize.ShloMosaic.TcCoe Idealize.SL.Sem

/-- The reference's frame: it has no semaphores and keeps its arguments. -/
theorem frame_reference : Cert.quiescent_Reference6Ideal := fun m ρ _ =>
  (θ_run Cert.Reference6Ideal.defs _ _).mono (fun r h => ⟨fun c => (h c).2.2.2.2.2,
      Idealize.ShloMosaic.sem_eq_zero_of_no_sems (by decide) r.2⟩)
    (Cert.Reference6Ideal.Value.run (F := Ideal) m ρ)

/-- An entry of a matrix's gradient, by its coordinates. -/
theorem by_entry {f g : Vec Ideal ⟨3, ![4, 128, 512]⟩ .f32} (h : ∀ j r l, f (ix3 j r l) = g (ix3 j r l)) : f = g :=
  funext fun i => by
    obtain ⟨j, r, l, rfl⟩ : ∃ (j : Fin 4) (r : Fin 128) (l : Fin 512), i = ix3 j r l := ⟨i 0, i 1, i 2, by funext a; fin_cases a <;> rfl⟩
    exact h j r l

/-- A row of states, from its entry at each block's lane. -/
theorem by_lane {f : Vec Ideal ⟨2, ![1, 2048]⟩ .f32} (k : Fin 4 → Fin 512 → EReal) (h : ∀ j l, f (ix2 0 (lane j l)) = k j l) :
    f = fun i => k (blkOf (i 1)) (laneOf (i 1)) :=
  funext fun i => by
    obtain ⟨s, rfl⟩ : ∃ (s : Fin 2048), i = ix2 0 s := ⟨i 1, by
      funext a; fin_cases a
      · exact Subsingleton.elim (α := Fin 1) _ _
      · rfl⟩
    show f (ix2 0 s) = k (blkOf s) (laneOf s)
    rw [← h, lane_eq]

/-- Over the extended reals the call computes the gradient of the discretisation. -/
theorem algebraic : Cert.algebraic_Kernel6Ideal_Reference6Ideal := fun m ρ m' ρ' _ hag => by
  refine ⟨fun c => _, fun c => _, fun c => _, fun c => _, fun c => _, (θ_run _ _ _).mono (fun r h c => ⟨(h c).1.1.trans (final9 m c), (h c).1.2.1.trans (final10 m c),
      (h c).1.2.2.1.trans (final11 m c), (h c).1.2.2.2.1.trans (final12 m c), (h c).1.2.2.2.2.trans (final13 m c), (h c).2⟩)
    (run_named m ρ), (θ_run _ _ _).mono (fun r h c => ⟨(h c).1.trans ?_, (h c).2.1.trans ?_,
      (h c).2.2.1.trans ?_, (h c).2.2.2.1.trans ?_, (h c).2.2.2.2.1.trans ?_, (h c).2.2.2.2.2⟩)
    (Cert.Reference6Ideal.Value.run (F := Ideal) m' ρ')⟩
  all_goals obtain ⟨e0, e1, e2, e3, e4, e5, e6, e7, e8⟩ := hag c
  · rw [Cert.Reference6Ideal.Read.val_main_v92_eq, e0, e1, e2, e5, e6]
    exact by_entry fun j r l => v92_apply _ _ _ _ _ j l r
  · rw [Cert.Reference6Ideal.Read.val_main_v85_eq, e0, e1, e2, e5, e6]
    exact by_entry fun j r l => v85_apply _ _ _ _ _ j l r
  · rw [Cert.Reference6Ideal.Read.val_main_v154_eq, e0, e1, e2, e3, e4, e5, e6, e7, e8]
    exact by_lane (fun j l => gradR (laneR m c j l) (laneI m c j l) (laneD m c j l) (laneAr m c j l) (laneAi m c j l) (laneFr m c j l) (laneFi m c j l))
      fun j l => v154_apply _ _ _ _ _ _ _ _ _ j l
  · rw [Cert.Reference6Ideal.Read.val_main_v155_eq, e0, e1, e2, e3, e4, e5, e6, e7, e8]
    exact by_lane (fun j l => gradI (laneR m c j l) (laneI m c j l) (laneD m c j l) (laneAr m c j l) (laneAi m c j l) (laneFr m c j l) (laneFi m c j l))
      fun j l => v155_apply _ _ _ _ _ _ _ _ _ j l
  · rw [Cert.Reference6Ideal.Read.val_main_v156_eq, e0, e1, e2, e3, e4, e5, e6, e7, e8]
    exact by_lane (fun j l => gradD (laneR m c j l) (laneI m c j l) (laneD m c j l) (laneAr m c j l) (laneAi m c j l) (laneFr m c j l) (laneFi m c j l))
      fun j l => v156_apply _ _ _ _ _ _ _ _ _ j l

end Cert.SsmPrep

end
-- ==== Proof.SsmPrepFwdValue.lean ====
module

public import proofs.«01_k».proof.Proof.SsmPrepClaims
public import proofs.«01_k».proof.Proof.Gen.Kernel7Ideal.Frame

/-! # What the forward discretisation leaves in its four results -/

@[expose] public section

set_option maxRecDepth 16384

noncomputable section

namespace Cert.SsmPrepFwd

open Cert.Kernel7Ideal Cert.Kernel7Ideal.Gen Idealize.ShloMosaic Idealize.ShloMosaic.TcCoe Idealize.SL.Sem
open Cert.SsmPrep (mag cs sn nr ai den numR numI facR facI grp pos lane blkOf laneOf
  diag mask eye_entry flag0 flag1 hz2 hz3 lane_eq blkOf_lane laneOf_lane by_entry by_lane)

section tile

variable (x0 x1 x2 : Vec Ideal S1x512 .f32) (x3 x4 : Vec Ideal S1x128x512 .f32) (l : Fin 512) (r : Fin 128)

theorem fac_apply :
    (k0_pay11 (F := Ideal) x0 x1 x2 (ix2 0 l) : EReal) = facR (x0 (ix2 0 l)) (x1 (ix2 0 l)) (x2 (ix2 0 l))
    ∧ (k0_pay12 (F := Ideal) x0 x1 x2 (ix2 0 l) : EReal) = facI (x0 (ix2 0 l)) (x1 (ix2 0 l)) (x2 (ix2 0 l)) := by
  unfold facR facI numR numI den nr ai mag cs sn
  constructor
  · pointwise [k0_pay11, k0_pay10, k0_pay9, k0_pay8, k0_pay7, k0_pay6, k0_pay5, k0_pay4, k0_pay3]
  · pointwise [k0_pay12, k0_pay10, k0_pay9, k0_pay8, k0_pay7, k0_pay6, k0_pay5, k0_pay4, k0_pay3]

theorem out5_apply : (out0_5 (F := Ideal) x0 x1 x2 x3 x4 (ix2 0 l) : EReal)
    = mag (x0 (ix2 0 l)) (x2 (ix2 0 l)) * cs (x1 (ix2 0 l)) (x2 (ix2 0 l)) := by
  unfold out0_5 r0_0 mag cs
  rw [View.canon_unit_zero hz2]
  simp only [View.ld_unit_zero (S := S1x512) hz2]
  pointwise [k0_pay7, k0_pay6, k0_pay5, k0_pay4, k0_pay3]

theorem out6_apply : (out0_6 (F := Ideal) x0 x1 x2 x3 x4 (ix2 0 l) : EReal)
    = ai (x0 (ix2 0 l)) (x1 (ix2 0 l)) (x2 (ix2 0 l)) := by
  unfold out0_6 r0_0 ai mag sn
  rw [View.canon_unit_zero hz2]
  simp only [View.ld_unit_zero (S := S1x512) hz2]
  pointwise [k0_pay8, k0_pay6, k0_pay5, k0_pay4, k0_pay3]

theorem out7_apply : (out0_7 (F := Ideal) x0 x1 x2 x3 x4 (ix3 0 r l) : EReal)
    = x3 (ix3 0 r l) * facR (x0 (ix2 0 l)) (x1 (ix2 0 l)) (x2 (ix2 0 l)) - x4 (ix3 0 r l) * facI (x0 (ix2 0 l)) (x1 (ix2 0 l)) (x2 (ix2 0 l)) := by
  rw [← (fac_apply x0 x1 x2 l).1, ← (fac_apply x0 x1 x2 l).2]
  unfold out0_7 k0_pay1 k0_pay15 r0_0 r0_1
  rw [View.canon_unit_zero hz3]
  simp only [View.ld_unit_zero (S := S1x512) hz2, View.ld_unit_zero (S := S1x128x512) hz3]
  generalize k0_pay11 (F := Ideal) x0 x1 x2 = A
  generalize k0_pay12 (F := Ideal) x0 x1 x2 = B
  pointwise [k0_pay13, k0_pay14]

theorem out8_apply : (out0_8 (F := Ideal) x0 x1 x2 x3 x4 (ix3 0 r l) : EReal)
    = x4 (ix3 0 r l) * facR (x0 (ix2 0 l)) (x1 (ix2 0 l)) (x2 (ix2 0 l)) + x3 (ix3 0 r l) * facI (x0 (ix2 0 l)) (x1 (ix2 0 l)) (x2 (ix2 0 l)) := by
  rw [← (fac_apply x0 x1 x2 l).1, ← (fac_apply x0 x1 x2 l).2]
  unfold out0_8 k0_pay2 r0_0 r0_1
  rw [View.canon_unit_zero hz3]
  simp only [View.ld_unit_zero (S := S1x512) hz2, View.ld_unit_zero (S := S1x128x512) hz3]
  generalize k0_pay11 (F := Ideal) x0 x1 x2 = A
  generalize k0_pay12 (F := Ideal) x0 x1 x2 = B
  pointwise [k0_pay13, k0_pay14]

end tile

variable (m : (ℓ : Loc nD τ sig) → Buf (Elt Ideal) ℓ) (ρ : Dev nD → PrngReg) (c : Dev nD) (t : Fin cfg0.N)

/-- Each window's block index at each grid point. -/
theorem idx : ∀ t : Fin cfg0.N, win0_0.index t = ![0, t.val] ∧ win0_1.index t = ![0, t.val] ∧ win0_2.index t = ![0, t.val]
    ∧ win0_3.index t = ![t.val, 0, 0] ∧ win0_4.index t = ![t.val, 0, 0] ∧ win0_5.index t = ![0, t.val]
    ∧ win0_6.index t = ![0, t.val] ∧ win0_7.index t = ![t.val, 0, 0] ∧ win0_8.index t = ![t.val, 0, 0] := by decide +kernel

/-- A grid point, as the number of its block. -/
def bk (t : Fin cfg0.N) : Fin 4 := ⟨t.val, t.isLt⟩

theorem blk0 (l : Fin 512) : (iblk m c 0 t : Vec Ideal S1x512 .f32) (ix2 0 l) = m (c.tc.loc main_arg0) (ix3 0 (grp (bk t) l) (pos l)) := by
  unfold grp pos bk; blk_point [iblk, V, idx t]

theorem blk1 (l : Fin 512) : (iblk m c 1 t : Vec Ideal S1x512 .f32) (ix2 0 l) = m (c.tc.loc main_arg1) (ix3 0 (grp (bk t) l) (pos l)) := by
  unfold grp pos bk; blk_point [iblk, V, idx t]

theorem blk2 (l : Fin 512) : (iblk m c 2 t : Vec Ideal S1x512 .f32) (ix2 0 l) = m (c.tc.loc main_arg2) (ix2 0 (grp (bk t) l)) := by
  unfold grp bk; blk_point [iblk, V, idx t]

theorem mat3 (a : Fin 4) (r : Fin 128) (l : Fin 512) : (V m c main_v20 : Vec Ideal S4x128x512 .f32) (ix3 a r l)
    = diag (m (c.tc.loc main_arg3)) a l r := by
  have hm := eye_entry ⟨r.val / 16, by omega⟩ ⟨l.val / 64, by omega⟩
  simp only at hm
  unfold diag pos
  blk_simp [V]
  entry_read
  pointwise []
  have e : a.val * 8 + r.val / 16 = 8 * a.val + r.val / 16 := by omega
  simp only [hm, e]
  by_cases h : r.val / 16 = l.val / 64
  · simp only [if_pos h]
    exact flag1 _
  · simp only [if_neg h]
    exact flag0 _

theorem blk3 (r : Fin 128) (l : Fin 512) : (iblk m c 3 t : Vec Ideal S1x128x512 .f32) (ix3 0 r l) = diag (m (c.tc.loc main_arg3)) (bk t) l r := by
  have e : (win0_3.blk t).view.emb (ix3 0 r l) = (ix3 (bk t) r l : S4x128x512.Idx) := by
    funext a
    fin_cases a
    · exact Fin.ext (by unfold bk; blk_simp [idx t]; simp)
    · exact Fin.ext (by blk_simp [idx t]; rfl)
    · exact Fin.ext (by blk_simp [idx t]; rfl)
  refine Eq.trans ?_ (mat3 m c (bk t) r l)
  exact congrArg (V m c main_v20) e

theorem mat4 (a : Fin 4) (r : Fin 128) (l : Fin 512) : (V m c main_v29 : Vec Ideal S4x128x512 .f32) (ix3 a r l)
    = diag (m (c.tc.loc main_arg4)) a l r := by
  have hm := eye_entry ⟨r.val / 16, by omega⟩ ⟨l.val / 64, by omega⟩
  simp only at hm
  unfold diag pos
  blk_simp [V]
  entry_read
  pointwise []
  have e : a.val * 8 + r.val / 16 = 8 * a.val + r.val / 16 := by omega
  simp only [hm, e]
  by_cases h : r.val / 16 = l.val / 64
  · simp only [if_pos h]
    exact flag1 _
  · simp only [if_neg h]
    exact flag0 _

theorem blk4 (r : Fin 128) (l : Fin 512) : (iblk m c 4 t : Vec Ideal S1x128x512 .f32) (ix3 0 r l) = diag (m (c.tc.loc main_arg4)) (bk t) l r := by
  have e : (win0_4.blk t).view.emb (ix3 0 r l) = (ix3 (bk t) r l : S4x128x512.Idx) := by
    funext a
    fin_cases a
    · exact Fin.ext (by unfold bk; blk_simp [idx t]; simp)
    · exact Fin.ext (by blk_simp [idx t]; rfl)
    · exact Fin.ext (by blk_simp [idx t]; rfl)
  refine Eq.trans ?_ (mat4 m c (bk t) r l)
  exact congrArg (V m c main_v29) e

/-- One lane's numbers, of the run's arguments: the rate and the logarithmic step. -/
abbrev laneR (j : Fin 4) (l : Fin 512) : EReal := m (c.tc.loc main_arg0) (ix3 0 (grp j l) (pos l))
@[inherit_doc laneR] abbrev laneI (j : Fin 4) (l : Fin 512) : EReal := m (c.tc.loc main_arg1) (ix3 0 (grp j l) (pos l))
@[inherit_doc laneR] abbrev laneD (j : Fin 4) (l : Fin 512) : EReal := m (c.tc.loc main_arg2) (ix2 0 (grp j l))

theorem final5 : (dats m 0 c).arrAt 5 cfg0.N
    = (fun i => mag (laneR m c (blkOf (i 1)) (laneOf (i 1))) (laneD m c (blkOf (i 1)) (laneOf (i 1)))
        * cs (laneI m c (blkOf (i 1)) (laneOf (i 1))) (laneD m c (blkOf (i 1)) (laneOf (i 1)))
      : Vec Ideal S1x2048 .f32) := by
  refine (dats m 0 c).arrAt_eq_of_covers 5 _ (by decide +kernel) fun t hf y => ?_
  blk_simp
  rw [after0_5]
  obtain ⟨l, rfl⟩ : ∃ (l : Fin 512), y = ix2 0 l := ⟨y 1, by
    funext a; fin_cases a
    · exact Subsingleton.elim (α := Fin 1) _ _
    · rfl⟩
  have e1 : ((win0_5.blk t).view.emb (ix2 0 l) 1 : Fin 2048) = lane (bk t) l := Fin.ext (by unfold lane bk; blk_simp [idx t]; simp; omega)
  rw [e1, blkOf_lane, laneOf_lane]
  refine (out5_apply _ _ _ _ _ l).trans ?_
  rw [blk0, blk1, blk2]

theorem final6 : (dats m 0 c).arrAt 6 cfg0.N
    = (fun i => ai (laneR m c (blkOf (i 1)) (laneOf (i 1))) (laneI m c (blkOf (i 1)) (laneOf (i 1))) (laneD m c (blkOf (i 1)) (laneOf (i 1)))
      : Vec Ideal S1x2048 .f32) := by
  refine (dats m 0 c).arrAt_eq_of_covers 6 _ (by decide +kernel) fun t hf y => ?_
  blk_simp
  rw [after0_6]
  obtain ⟨l, rfl⟩ : ∃ (l : Fin 512), y = ix2 0 l := ⟨y 1, by
    funext a; fin_cases a
    · exact Subsingleton.elim (α := Fin 1) _ _
    · rfl⟩
  have e1 : ((win0_6.blk t).view.emb (ix2 0 l) 1 : Fin 2048) = lane (bk t) l := Fin.ext (by unfold lane bk; blk_simp [idx t]; simp; omega)
  rw [e1, blkOf_lane, laneOf_lane]
  refine (out6_apply _ _ _ _ _ l).trans ?_
  rw [blk0, blk1, blk2]

theorem final7 : (dats m 0 c).arrAt 7 cfg0.N
    = (fun i => diag (m (c.tc.loc main_arg3)) (i 0) (i 2) (i 1) * facR (laneR m c (i 0) (i 2)) (laneI m c (i 0) (i 2)) (laneD m c (i 0) (i 2))
        - diag (m (c.tc.loc main_arg4)) (i 0) (i 2) (i 1) * facI (laneR m c (i 0) (i 2)) (laneI m c (i 0) (i 2)) (laneD m c (i 0) (i 2))
      : Vec Ideal S4x128x512 .bf16) := by
  refine (dats m 0 c).arrAt_eq_of_covers 7 _ (by decide +kernel) fun t hf y => ?_
  blk_simp
  rw [after0_7]
  obtain ⟨r, l, rfl⟩ : ∃ (r : Fin 128) (l : Fin 512), y = ix3 0 r l := ⟨y 1, y 2, by
    funext a; fin_cases a
    · exact Subsingleton.elim (α := Fin 1) _ _
    · rfl
    · rfl⟩
  have e0 : ((win0_7.blk t).view.emb (ix3 0 r l) 0 : Fin 4) = bk t := Fin.ext (by unfold bk; blk_simp [idx t]; simp)
  have e1 : ((win0_7.blk t).view.emb (ix3 0 r l) 1 : Fin 128) = r := Fin.ext (by blk_simp [idx t])
  have e2 : ((win0_7.blk t).view.emb (ix3 0 r l) 2 : Fin 512) = l := Fin.ext (by blk_simp [idx t])
  rw [e0, e1, e2]
  refine (out7_apply _ _ _ _ _ l r).trans ?_
  rw [blk0, blk1, blk2, blk3, blk4]

theorem final8 : (dats m 0 c).arrAt 8 cfg0.N
    = (fun i => diag (m (c.tc.loc main_arg4)) (i 0) (i 2) (i 1) * facR (laneR m c (i 0) (i 2)) (laneI m c (i 0) (i 2)) (laneD m c (i 0) (i 2))
        + diag (m (c.tc.loc main_arg3)) (i 0) (i 2) (i 1) * facI (laneR m c (i 0) (i 2)) (laneI m c (i 0) (i 2)) (laneD m c (i 0) (i 2))
      : Vec Ideal S4x128x512 .bf16) := by
  refine (dats m 0 c).arrAt_eq_of_covers 8 _ (by decide +kernel) fun t hf y => ?_
  blk_simp
  rw [after0_8]
  obtain ⟨r, l, rfl⟩ : ∃ (r : Fin 128) (l : Fin 512), y = ix3 0 r l := ⟨y 1, y 2, by
    funext a; fin_cases a
    · exact Subsingleton.elim (α := Fin 1) _ _
    · rfl
    · rfl⟩
  have e0 : ((win0_8.blk t).view.emb (ix3 0 r l) 0 : Fin 4) = bk t := Fin.ext (by unfold bk; blk_simp [idx t]; simp)
  have e1 : ((win0_8.blk t).view.emb (ix3 0 r l) 1 : Fin 128) = r := Fin.ext (by blk_simp [idx t])
  have e2 : ((win0_8.blk t).view.emb (ix3 0 r l) 2 : Fin 512) = l := Fin.ext (by blk_simp [idx t])
  rw [e0, e1, e2]
  refine (out8_apply _ _ _ _ _ l r).trans ?_
  rw [blk0, blk1, blk2, blk3, blk4]

/-- The run, with its four results named and its arguments kept. -/
theorem run_named : θ_run defs (onTc (τ := τ) (main (F := Ideal))) ⟨m, fun _ => 0, ρ⟩ fun r => ∀ c : Dev nD,
      (r.2.mem (c.tc.loc main_v30_0) = (dats m 0 c).arrAt 5 cfg0.N ∧ r.2.mem (c.tc.loc main_v30_1) = (dats m 0 c).arrAt 6 cfg0.N
      ∧ r.2.mem (c.tc.loc main_v30_2) = (dats m 0 c).arrAt 7 cfg0.N ∧ r.2.mem (c.tc.loc main_v30_3) = (dats m 0 c).arrAt 8 cfg0.N)
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) :=
  (θ_run defs _ _).mono (fun _ h c => ⟨⟨(h.1 c).1 5, (h.1 c).1 6, (h.1 c).1 7, (h.1 c).1 8⟩, h.2 c⟩)
    (θ_run_and (run_main m ρ) (unchanged m ρ))

end Cert.SsmPrepFwd

end
-- ==== Proof.SsmPrepFwdRef.lean ====
module

public import proofs.«01_k».proof.Proof.SsmPrepClaims
public import proofs.«01_k».proof.Proof.Gen.Reference7Ideal.Read

/-! # The entries of the reference of the forward discretisation -/

@[expose] public section

set_option maxRecDepth 16384

noncomputable section

namespace Cert.SsmPrepFwd

open Cert.Reference7Ideal Cert.Reference7Ideal.Gen Cert.Reference7Ideal.Read Idealize.ShloMosaic Idealize.ShloMosaic.TcCoe Idealize.SL.Sem
open Cert.SsmPrep (mag cs sn nr ai den numR numI facR facI grp pos lane blkOf laneOf
  diag mask eye_entry flag0 flag1 hz2 hz3 lane_eq blkOf_lane laneOf_lane by_entry by_lane)

variable (x0 x1 : (⟨S1x32x64, .f32⟩ : BufTy).Contents (Elt Ideal)) (x2 : (⟨S1x32, .f32⟩ : BufTy).Contents (Elt Ideal))
  (x3 x4 : (⟨S1x32x64x16, .f32⟩ : BufTy).Contents (Elt Ideal)) (j : Fin 4) (l : Fin 512) (r : Fin 128)

theorem v14_apply : (val_main_v14 (F := Ideal) x3 (ix3 j r l) : EReal) = diag x3 j l r := by
  have hm := mask ⟨r.val / 16, by omega⟩ ⟨l.val / 64, by omega⟩
  unfold diag pos
  unfold val_main_v14 val_main_v13 val_main_v12 val_main_cst val_main_v11 val_main_v10 val_main_v9 val_main_v8 val_main_v7 val_main_v6
    val_main_v5
  pointwise []
  simp only at hm
  rw [hm]
  have e : j.val * 8 + r.val / 16 = 8 * j.val + r.val / 16 := by omega
  simp only [e]
  by_cases h : r.val / 16 = l.val / 64
  · rw [if_pos h, if_pos h]; rfl
  · rw [if_neg h, if_neg h]; rfl

theorem v24_apply : (val_main_v24 (F := Ideal) x4 (ix3 j r l) : EReal) = diag x4 j l r := v14_apply x4 j l r

/-- The transition and the scale of the input weights, at one state of one group. -/
theorem states (g : Fin 32) (p : Fin 64) :
    ((val_main_v30 (F := Ideal) x0 x1 x2 (ix2 g p) : EReal) = mag (x0 (ix3 0 g p)) (x2 (ix2 0 g)) * cs (x1 (ix3 0 g p)) (x2 (ix2 0 g))
    ∧ (val_main_v33 (F := Ideal) x0 x1 x2 (ix2 g p) : EReal) = ai (x0 (ix3 0 g p)) (x1 (ix3 0 g p)) (x2 (ix2 0 g)))
    ∧ (val_main_v42 (F := Ideal) x0 x1 x2 (ix2 g p) : EReal) = facR (x0 (ix3 0 g p)) (x1 (ix3 0 g p)) (x2 (ix2 0 g))
    ∧ (val_main_v47 (F := Ideal) x0 x1 x2 (ix2 g p) : EReal) = facI (x0 (ix3 0 g p)) (x1 (ix3 0 g p)) (x2 (ix2 0 g)) := by
  unfold facR facI numR numI den nr ai mag cs sn
  unfold val_main_v47 val_main_v46 val_main_v45 val_main_v44 val_main_v42 val_main_v41 val_main_v40 val_main_v39 val_main_v38 val_main_v37
    val_main_v36 val_main_v35 val_main_v34 val_main_cst_1 val_main_v33 val_main_v32 val_main_v31 val_main_v30 val_main_v29 val_main_v28
    val_main_v27 val_main_v26 val_main_v25 val_main_v4 val_main_v3 val_main_v2 val_main_v1 val_main_v0
  refine ⟨⟨?_, ?_⟩, ?_, ?_⟩ <;> pointwise []

/-- The flat place of a state is its group's and its own. -/
theorem flat (f : (⟨S32x64, .f32⟩ : BufTy).Contents (Elt Ideal)) (i : S32x64.Idx)
    (h0 : (i 0).val = (0 * 2048 + (512 * j.val + l.val)) / 64) (h1 : (i 1).val = (0 * 2048 + (512 * j.val + l.val)) % 64) :
    f i = f (ix2 (grp j l) (pos l)) := by
  refine congrArg f (funext fun a => ?_)
  fin_cases a
  · exact Fin.ext (h0.trans (by show _ = 8 * j.val + l.val / 64; omega))
  · exact Fin.ext (h1.trans (by show _ = l.val % 64; omega))

theorem v49_apply : (val_main_v49 (F := Ideal) x0 x1 x2 (ix2 0 (lane j l)) : EReal)
    = mag (x0 (ix3 0 (grp j l) (pos l))) (x2 (ix2 0 (grp j l))) * cs (x1 (ix3 0 (grp j l) (pos l))) (x2 (ix2 0 (grp j l))) :=
  (val_main_v49_apply _ _ _ _).trans ((flat j l _ _ rfl rfl).trans (states x0 x1 x2 _ _).1.1)

theorem v50_apply : (val_main_v50 (F := Ideal) x0 x1 x2 (ix2 0 (lane j l)) : EReal)
    = ai (x0 (ix3 0 (grp j l) (pos l))) (x1 (ix3 0 (grp j l) (pos l))) (x2 (ix2 0 (grp j l))) :=
  (val_main_v50_apply _ _ _ _).trans ((flat j l _ _ rfl rfl).trans (states x0 x1 x2 _ _).1.2)

theorem matrices : (val_main_v61 (F := Ideal) x0 x1 x2 x3 x4 (ix3 j r l) : EReal)
    = diag x3 j l r * facR (x0 (ix3 0 (grp j l) (pos l))) (x1 (ix3 0 (grp j l) (pos l))) (x2 (ix2 0 (grp j l)))
      - diag x4 j l r * facI (x0 (ix3 0 (grp j l) (pos l))) (x1 (ix3 0 (grp j l) (pos l))) (x2 (ix2 0 (grp j l)))
    ∧ (val_main_v62 (F := Ideal) x0 x1 x2 x3 x4 (ix3 j r l) : EReal)
    = diag x4 j l r * facR (x0 (ix3 0 (grp j l) (pos l))) (x1 (ix3 0 (grp j l) (pos l))) (x2 (ix2 0 (grp j l)))
      + diag x3 j l r * facI (x0 (ix3 0 (grp j l) (pos l))) (x1 (ix3 0 (grp j l) (pos l))) (x2 (ix2 0 (grp j l))) := by
  rw [← (states x0 x1 x2 _ _).2.1, ← (states x0 x1 x2 _ _).2.2, ← v14_apply x3, ← v24_apply x4]
  unfold grp pos
  unfold val_main_v61 val_main_v55 val_main_v54 val_main_v53 val_main_v52 val_main_v51 val_main_v62 val_main_v60 val_main_v59
    val_main_v58 val_main_v57 val_main_v56 val_main_v48 val_main_v43
  generalize val_main_v42 (F := Ideal) x0 x1 x2 = A
  generalize val_main_v47 (F := Ideal) x0 x1 x2 = B
  generalize val_main_v14 (F := Ideal) x3 = C
  generalize val_main_v24 (F := Ideal) x4 = D
  have e : j.val * 8 + l.val / 64 = 8 * j.val + l.val / 64 := by omega
  constructor
  all_goals
    pointwise []
    simp only [e]
    rw [mul_comm (A _), mul_comm (B _)]

end Cert.SsmPrepFwd

end
-- ==== Proof.SsmPrepFwdClaims.lean ====
module

public import proofs.«01_k».proof.Defs
public import proofs.«01_k».proof.Proof.SsmPrepFwdValue
public import proofs.«01_k».proof.Proof.SsmPrepFwdRef
public import proofs.«01_k».proof.Proof.Gen.Reference7Ideal.Run

/-! # The claims about the forward discretisation -/

@[expose] public section

set_option maxRecDepth 16384

noncomputable section

namespace Cert.SsmPrepFwd

open Idealize.ShloMosaic Idealize.ShloMosaic.TcCoe Idealize.SL.Sem
open Cert.SsmPrep (mag cs sn nr ai den numR numI facR facI grp pos lane blkOf laneOf
  diag mask eye_entry flag0 flag1 hz2 hz3 lane_eq blkOf_lane laneOf_lane by_entry by_lane)

/-- The reference's frame: it has no semaphores and keeps its arguments. -/
theorem frame_reference : Cert.quiescent_Reference7Ideal := fun m ρ _ =>
  (θ_run Cert.Reference7Ideal.defs _ _).mono (fun r h => ⟨fun c => (h c).2.2.2.2,
      Idealize.ShloMosaic.sem_eq_zero_of_no_sems (by decide) r.2⟩)
    (Cert.Reference7Ideal.Value.run (F := Ideal) m ρ)

/-- Over the extended reals the call computes the transition and the scaled matrices of the reference's forward lines. -/
theorem algebraic : Cert.algebraic_Kernel7Ideal_Reference7Ideal := fun m ρ m' ρ' _ hag => by
  refine ⟨fun c => _, fun c => _, fun c => _, fun c => _, (θ_run _ _ _).mono (fun r h c => ⟨(h c).1.1.trans (final5 m c), (h c).1.2.1.trans (final6 m c),
      (h c).1.2.2.1.trans (final7 m c), (h c).1.2.2.2.trans (final8 m c), (h c).2⟩)
    (run_named m ρ), (θ_run _ _ _).mono (fun r h c => ⟨(h c).1.trans ?_, (h c).2.1.trans ?_,
      (h c).2.2.1.trans ?_, (h c).2.2.2.1.trans ?_, (h c).2.2.2.2⟩)
    (Cert.Reference7Ideal.Value.run (F := Ideal) m' ρ')⟩
  all_goals obtain ⟨e0, e1, e2, e3, e4⟩ := hag c
  · refine (Cert.Reference7Ideal.Read.val_main_v49_eq _ _ _).trans ?_
    rw [e0, e1, e2]
    exact by_lane (fun j l => mag (laneR m c j l) (laneD m c j l) * cs (laneI m c j l) (laneD m c j l)) fun j l => v49_apply _ _ _ j l
  · refine (Cert.Reference7Ideal.Read.val_main_v50_eq _ _ _).trans ?_
    rw [e0, e1, e2]
    exact by_lane (fun j l => ai (laneR m c j l) (laneI m c j l) (laneD m c j l)) fun j l => v50_apply _ _ _ j l
  · rw [Cert.Reference7Ideal.Read.val_main_v61_eq, e0, e1, e2, e3, e4]
    exact by_entry (f := Cert.Reference7Ideal.Read.val_main_v61 (F := Ideal) _ _ _ _ _) fun j r l => (matrices _ _ _ _ _ j l r).1
  · rw [Cert.Reference7Ideal.Read.val_main_v62_eq, e0, e1, e2, e3, e4]
    exact by_entry (f := Cert.Reference7Ideal.Read.val_main_v62 (F := Ideal) _ _ _ _ _) fun j r l => (matrices _ _ _ _ _ j l r).2

end Cert.SsmPrepFwd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite
public import proofs.«01_k».proof.Proof.Gen.Kernel3
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Loops
public import proofs.«01_k».proof.Proof.Gen.Kernel4Ideal.Launch
public import proofs.«01_k».proof.Proof.Gen.Kernel4Ideal.Points
public import proofs.«01_k».proof.Proof.Gen.Kernel4Ideal.Frame.Runs
public import proofs.«01_k».proof.Proof.Gen.Reference4Ideal.Run
public import proofs.«01_k».proof.Proof.Gen.Reference4Ideal.Read
public import proofs.«01_k».proof.Proof.Gen.Reference4Ideal
public import proofs.«01_k».proof.Proof.Gen.Pre_finite_inputs
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.InProjClaims
public import proofs.«01_k».proof.Proof.AttnClaims
public import proofs.«01_k».proof.Proof.MlpClaims
public import proofs.«01_k».proof.Proof.FwdClaims
public import proofs.«01_k».proof.Proof.MlpFwdClaims
public import proofs.«01_k».proof.Proof.SsmPrepClaims
public import proofs.«01_k».proof.Proof.SsmPrepFwdClaims
public import proofs.«01_k».proof.Proof.Gen.ReferenceIdeal
public import proofs.«01_k».proof.Proof.Gen.Reference3Ideal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_finite.Gen.facts, Cert.Pre_finite_inputs.Gen.facts,
  fun m ρ _ => Cert.Kernel.Gen.frame m ρ, fun m ρ _ => Cert.KernelIdeal.Gen.frame m ρ, Cert.InProj.frame_reference,
  Cert.Attn.frame_kernel, Cert.Attn.frame_ideal, Cert.Attn.frame_ideal_pre, Cert.Attn.frame_reference, Cert.Attn.frame_reference_pre,
  fun m ρ _ => Cert.Kernel3.Gen.frame m ρ, fun m ρ _ => Cert.Kernel3Ideal.Gen.frame m ρ, Cert.Mlp.frame_reference,
  Cert.AttnFwd.frame_kernel, Cert.AttnFwd.frame_ideal, Cert.AttnFwd.frame_ideal_pre, Cert.AttnFwd.frame_reference, Cert.AttnFwd.frame_reference_pre,
  fun m ρ _ => Cert.Kernel5.Gen.frame m ρ, fun m ρ _ => Cert.Kernel5Ideal.Gen.frame m ρ, Cert.MlpFwd.frame_reference,
  fun m ρ _ => Cert.Kernel6.Gen.frame m ρ, fun m ρ _ => Cert.Kernel6Ideal.Gen.frame m ρ, Cert.SsmPrep.frame_reference,
  fun m ρ _ => Cert.Kernel7.Gen.frame m ρ, fun m ρ _ => Cert.Kernel7Ideal.Gen.frame m ρ, Cert.SsmPrepFwd.frame_reference,
  trivial, Cert.InProj.algebraic, Cert.Attn.preserves, Cert.Attn.algebraic, trivial, Cert.Mlp.algebraic, Cert.AttnFwd.preserves, Cert.AttnFwd.algebraic,
  trivial, Cert.MlpFwd.algebraic,
  trivial, Cert.SsmPrep.algebraic,
  trivial, Cert.SsmPrepFwd.algebraic⟩

end Cert.Proof

end
